-- ==== Defs.lean ====
def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhKernelIdeal_finite_ffn [hPre_finite_ffn : Cert.Pre_finite_ffn.Facts] (m : (ℓ : Loc Cert.DhKernelIdeal.nD Cert.DhKernelIdeal.τ Cert.DhKernelIdeal.sig) → Buf (Elt Ideal) ℓ) : Prop :=
  ∀ c : Dev Cert.DhKernelIdeal.nD,
    (Cert.Pre_finite_ffn.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3))).1 = (fun _ => 1#1)
    ∧ (Cert.Pre_finite_ffn.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3))).2.1 = (fun _ => 1#1)
    ∧ (Cert.Pre_finite_ffn.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3))).2.2.1 = (fun _ => 1#1)
    ∧ (Cert.Pre_finite_ffn.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3))).2.2.2 = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_finite_ffn [hPre_finite_ffn : Cert.Pre_finite_ffn.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_finite_ffn.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3))).1 = (fun _ => 1#1)
    ∧ (Cert.Pre_finite_ffn.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3))).2.1 = (fun _ => 1#1)
    ∧ (Cert.Pre_finite_ffn.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3))).2.2.1 = (fun _ => 1#1)
    ∧ (Cert.Pre_finite_ffn.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3))).2.2.2 = (fun _ => 1#1)

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_DwiKernel (m : (ℓ : Loc Cert.DwiKernel.nD Cert.DwiKernel.τ Cert.DwiKernel.sig) → Buf (Elt Bits) ℓ) : Prop :=
  True

def Pre_DwiKernelIdeal (m : (ℓ : Loc Cert.DwiKernelIdeal.nD Cert.DwiKernelIdeal.τ Cert.DwiKernelIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_DhCtxKernel (m : (ℓ : Loc Cert.DhCtxKernel.nD Cert.DhCtxKernel.τ Cert.DhCtxKernel.sig) → Buf (Elt Bits) ℓ) : Prop :=
  True

def Pre_DhCtxKernelIdeal (m : (ℓ : Loc Cert.DhCtxKernelIdeal.nD Cert.DhCtxKernelIdeal.τ Cert.DhCtxKernelIdeal.sig) → Buf (Elt Ideal) ℓ) : Prop :=
  True

def Pre_DhCtxKernelIdeal_finite_ffn_ctx [hPre_finite_ffn_ctx : Cert.Pre_finite_ffn_ctx.Facts] (m : (ℓ : Loc Cert.DhCtxKernelIdeal.nD Cert.DhCtxKernelIdeal.τ Cert.DhCtxKernelIdeal.sig) → Buf (Elt Ideal) ℓ) : Prop :=
  ∀ c : Dev Cert.DhCtxKernelIdeal.nD,
    (Cert.Pre_finite_ffn_ctx.fn (F := Ideal) (m ((c.tc : Thread Cert.DhCtxKernelIdeal.nD Cert.DhCtxKernelIdeal.τ).loc Cert.DhCtxKernelIdeal.main_arg0)) (m ((c.tc : Thread Cert.DhCtxKernelIdeal.nD Cert.DhCtxKernelIdeal.τ).loc Cert.DhCtxKernelIdeal.main_arg1)) (m ((c.tc : Thread Cert.DhCtxKernelIdeal.nD Cert.DhCtxKernelIdeal.τ).loc Cert.DhCtxKernelIdeal.main_arg2)) (m ((c.tc : Thread Cert.DhCtxKernelIdeal.nD Cert.DhCtxKernelIdeal.τ).loc Cert.DhCtxKernelIdeal.main_arg3))).1 = (fun _ => 1#1)
    ∧ (Cert.Pre_finite_ffn_ctx.fn (F := Ideal) (m ((c.tc : Thread Cert.DhCtxKernelIdeal.nD Cert.DhCtxKernelIdeal.τ).loc Cert.DhCtxKernelIdeal.main_arg0)) (m ((c.tc : Thread Cert.DhCtxKernelIdeal.nD Cert.DhCtxKernelIdeal.τ).loc Cert.DhCtxKernelIdeal.main_arg1)) (m ((c.tc : Thread Cert.DhCtxKernelIdeal.nD Cert.DhCtxKernelIdeal.τ).loc Cert.DhCtxKernelIdeal.main_arg2)) (m ((c.tc : Thread Cert.DhCtxKernelIdeal.nD Cert.DhCtxKernelIdeal.τ).loc Cert.DhCtxKernelIdeal.main_arg3))).2.1 = (fun _ => 1#1)
    ∧ (Cert.Pre_finite_ffn_ctx.fn (F := Ideal) (m ((c.tc : Thread Cert.DhCtxKernelIdeal.nD Cert.DhCtxKernelIdeal.τ).loc Cert.DhCtxKernelIdeal.main_arg0)) (m ((c.tc : Thread Cert.DhCtxKernelIdeal.nD Cert.DhCtxKernelIdeal.τ).loc Cert.DhCtxKernelIdeal.main_arg1)) (m ((c.tc : Thread Cert.DhCtxKernelIdeal.nD Cert.DhCtxKernelIdeal.τ).loc Cert.DhCtxKernelIdeal.main_arg2)) (m ((c.tc : Thread Cert.DhCtxKernelIdeal.nD Cert.DhCtxKernelIdeal.τ).loc Cert.DhCtxKernelIdeal.main_arg3))).2.2.1 = (fun _ => 1#1)
    ∧ (Cert.Pre_finite_ffn_ctx.fn (F := Ideal) (m ((c.tc : Thread Cert.DhCtxKernelIdeal.nD Cert.DhCtxKernelIdeal.τ).loc Cert.DhCtxKernelIdeal.main_arg0)) (m ((c.tc : Thread Cert.DhCtxKernelIdeal.nD Cert.DhCtxKernelIdeal.τ).loc Cert.DhCtxKernelIdeal.main_arg1)) (m ((c.tc : Thread Cert.DhCtxKernelIdeal.nD Cert.DhCtxKernelIdeal.τ).loc Cert.DhCtxKernelIdeal.main_arg2)) (m ((c.tc : Thread Cert.DhCtxKernelIdeal.nD Cert.DhCtxKernelIdeal.τ).loc Cert.DhCtxKernelIdeal.main_arg3))).2.2.2 = (fun _ => 1#1)

def Pre_DhCtxReferenceIdeal (m : (ℓ : Loc Cert.DhCtxReferenceIdeal.nD Cert.DhCtxReferenceIdeal.τ Cert.DhCtxReferenceIdeal.sig) → Buf (Elt Ideal) ℓ) : Prop :=
  True

def Pre_DhCtxReferenceIdeal_finite_ffn_ctx [hPre_finite_ffn_ctx : Cert.Pre_finite_ffn_ctx.Facts] (m : (ℓ : Loc Cert.DhCtxReferenceIdeal.nD Cert.DhCtxReferenceIdeal.τ Cert.DhCtxReferenceIdeal.sig) → Buf (Elt Ideal) ℓ) : Prop :=
  ∀ c : Dev Cert.DhCtxReferenceIdeal.nD,
    (Cert.Pre_finite_ffn_ctx.fn (F := Ideal) (m ((c.tc : Thread Cert.DhCtxReferenceIdeal.nD Cert.DhCtxReferenceIdeal.τ).loc Cert.DhCtxReferenceIdeal.main_arg0)) (m ((c.tc : Thread Cert.DhCtxReferenceIdeal.nD Cert.DhCtxReferenceIdeal.τ).loc Cert.DhCtxReferenceIdeal.main_arg1)) (m ((c.tc : Thread Cert.DhCtxReferenceIdeal.nD Cert.DhCtxReferenceIdeal.τ).loc Cert.DhCtxReferenceIdeal.main_arg2)) (m ((c.tc : Thread Cert.DhCtxReferenceIdeal.nD Cert.DhCtxReferenceIdeal.τ).loc Cert.DhCtxReferenceIdeal.main_arg3))).1 = (fun _ => 1#1)
    ∧ (Cert.Pre_finite_ffn_ctx.fn (F := Ideal) (m ((c.tc : Thread Cert.DhCtxReferenceIdeal.nD Cert.DhCtxReferenceIdeal.τ).loc Cert.DhCtxReferenceIdeal.main_arg0)) (m ((c.tc : Thread Cert.DhCtxReferenceIdeal.nD Cert.DhCtxReferenceIdeal.τ).loc Cert.DhCtxReferenceIdeal.main_arg1)) (m ((c.tc : Thread Cert.DhCtxReferenceIdeal.nD Cert.DhCtxReferenceIdeal.τ).loc Cert.DhCtxReferenceIdeal.main_arg2)) (m ((c.tc : Thread Cert.DhCtxReferenceIdeal.nD Cert.DhCtxReferenceIdeal.τ).loc Cert.DhCtxReferenceIdeal.main_arg3))).2.1 = (fun _ => 1#1)
    ∧ (Cert.Pre_finite_ffn_ctx.fn (F := Ideal) (m ((c.tc : Thread Cert.DhCtxReferenceIdeal.nD Cert.DhCtxReferenceIdeal.τ).loc Cert.DhCtxReferenceIdeal.main_arg0)) (m ((c.tc : Thread Cert.DhCtxReferenceIdeal.nD Cert.DhCtxReferenceIdeal.τ).loc Cert.DhCtxReferenceIdeal.main_arg1)) (m ((c.tc : Thread Cert.DhCtxReferenceIdeal.nD Cert.DhCtxReferenceIdeal.τ).loc Cert.DhCtxReferenceIdeal.main_arg2)) (m ((c.tc : Thread Cert.DhCtxReferenceIdeal.nD Cert.DhCtxReferenceIdeal.τ).loc Cert.DhCtxReferenceIdeal.main_arg3))).2.2.1 = (fun _ => 1#1)
    ∧ (Cert.Pre_finite_ffn_ctx.fn (F := Ideal) (m ((c.tc : Thread Cert.DhCtxReferenceIdeal.nD Cert.DhCtxReferenceIdeal.τ).loc Cert.DhCtxReferenceIdeal.main_arg0)) (m ((c.tc : Thread Cert.DhCtxReferenceIdeal.nD Cert.DhCtxReferenceIdeal.τ).loc Cert.DhCtxReferenceIdeal.main_arg1)) (m ((c.tc : Thread Cert.DhCtxReferenceIdeal.nD Cert.DhCtxReferenceIdeal.τ).loc Cert.DhCtxReferenceIdeal.main_arg2)) (m ((c.tc : Thread Cert.DhCtxReferenceIdeal.nD Cert.DhCtxReferenceIdeal.τ).loc Cert.DhCtxReferenceIdeal.main_arg3))).2.2.2 = (fun _ => 1#1)

def Pre_DwoCtxKernel (m : (ℓ : Loc Cert.DwoCtxKernel.nD Cert.DwoCtxKernel.τ Cert.DwoCtxKernel.sig) → Buf (Elt Bits) ℓ) : Prop :=
  True

def Pre_DwoCtxKernelIdeal (m : (ℓ : Loc Cert.DwoCtxKernelIdeal.nD Cert.DwoCtxKernelIdeal.τ Cert.DwoCtxKernelIdeal.sig) → Buf (Elt Ideal) ℓ) : Prop :=
  True

def Pre_DwoCtxReferenceIdeal (m : (ℓ : Loc Cert.DwoCtxReferenceIdeal.nD Cert.DwoCtxReferenceIdeal.τ Cert.DwoCtxReferenceIdeal.sig) → Buf (Elt Ideal) ℓ) : Prop :=
  True

def Pre_DwiCtxKernel (m : (ℓ : Loc Cert.DwiCtxKernel.nD Cert.DwiCtxKernel.τ Cert.DwiCtxKernel.sig) → Buf (Elt Bits) ℓ) : Prop :=
  True

def Pre_DwiCtxKernelIdeal (m : (ℓ : Loc Cert.DwiCtxKernelIdeal.nD Cert.DwiCtxKernelIdeal.τ Cert.DwiCtxKernelIdeal.sig) → Buf (Elt Ideal) ℓ) : Prop :=
  True

def Pre_DwiCtxReferenceIdeal (m : (ℓ : Loc Cert.DwiCtxReferenceIdeal.nD Cert.DwiCtxReferenceIdeal.τ Cert.DwiCtxReferenceIdeal.sig) → Buf (Elt Ideal) ℓ) : Prop :=
  True

def Pre_AdamWiKernel (m : (ℓ : Loc Cert.AdamWiKernel.nD Cert.AdamWiKernel.τ Cert.AdamWiKernel.sig) → Buf (Elt Bits) ℓ) : Prop :=
  True

def Pre_AdamWiKernelIdeal (m : (ℓ : Loc Cert.AdamWiKernelIdeal.nD Cert.AdamWiKernelIdeal.τ Cert.AdamWiKernelIdeal.sig) → Buf (Elt Ideal) ℓ) : Prop :=
  True

def Pre_AdamWiReferenceIdeal (m : (ℓ : Loc Cert.AdamWiReferenceIdeal.nD Cert.AdamWiReferenceIdeal.τ Cert.AdamWiReferenceIdeal.sig) → Buf (Elt Ideal) ℓ) : Prop :=
  True

def Pre_AdamWoKernel (m : (ℓ : Loc Cert.AdamWoKernel.nD Cert.AdamWoKernel.τ Cert.AdamWoKernel.sig) → Buf (Elt Bits) ℓ) : Prop :=
  True

def Pre_AdamWoKernelIdeal (m : (ℓ : Loc Cert.AdamWoKernelIdeal.nD Cert.AdamWoKernelIdeal.τ Cert.AdamWoKernelIdeal.sig) → Buf (Elt Ideal) ℓ) : Prop :=
  True

def Pre_AdamWoReferenceIdeal (m : (ℓ : Loc Cert.AdamWoReferenceIdeal.nD Cert.AdamWoReferenceIdeal.τ Cert.AdamWoReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamPoolKernel (m : (ℓ : Loc Cert.AdamPoolKernel.nD Cert.AdamPoolKernel.τ Cert.AdamPoolKernel.sig) → Buf (Elt Bits) ℓ) : Prop :=
  True

def Pre_AdamPoolKernelIdeal (m : (ℓ : Loc Cert.AdamPoolKernelIdeal.nD Cert.AdamPoolKernelIdeal.τ Cert.AdamPoolKernelIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamModKernel (m : (ℓ : Loc Cert.AdamModKernel.nD Cert.AdamModKernel.τ Cert.AdamModKernel.sig) → Buf (Elt Bits) ℓ) : Prop :=
  True

def Pre_AdamModKernelIdeal (m : (ℓ : Loc Cert.AdamModKernelIdeal.nD Cert.AdamModKernelIdeal.τ Cert.AdamModKernelIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_SumSmallKernel (m : (ℓ : Loc Cert.SumSmallKernel.nD Cert.SumSmallKernel.τ Cert.SumSmallKernel.sig) → Buf (Elt Bits) ℓ) : Prop :=
  True

def Pre_SumSmallKernelIdeal (m : (ℓ : Loc Cert.SumSmallKernelIdeal.nD Cert.SumSmallKernelIdeal.τ Cert.SumSmallKernelIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumCtxKernel (m : (ℓ : Loc Cert.SumCtxKernel.nD Cert.SumCtxKernel.τ Cert.SumCtxKernel.sig) → Buf (Elt Bits) ℓ) : Prop :=
  True

def Pre_SumCtxKernelIdeal (m : (ℓ : Loc Cert.SumCtxKernelIdeal.nD Cert.SumCtxKernelIdeal.τ Cert.SumCtxKernelIdeal.sig) → Buf (Elt Ideal) ℓ) : Prop :=
  True

def Pre_SumCtxReferenceIdeal (m : (ℓ : Loc Cert.SumCtxReferenceIdeal.nD Cert.SumCtxReferenceIdeal.τ Cert.SumCtxReferenceIdeal.sig) → Buf (Elt Ideal) ℓ) : Prop :=
  True

def Pre_AdalnKernel (m : (ℓ : Loc Cert.AdalnKernel.nD Cert.AdalnKernel.τ Cert.AdalnKernel.sig) → Buf (Elt Bits) ℓ) : Prop :=
  True

def Pre_AdalnKernelIdeal (m : (ℓ : Loc Cert.AdalnKernelIdeal.nD Cert.AdalnKernelIdeal.τ Cert.AdalnKernelIdeal.sig) → Buf (Elt Ideal) ℓ) : Prop :=
  True

def Pre_AdalnKernelIdeal_finite_adaln [hPre_finite_adaln : Cert.Pre_finite_adaln.Facts] (m : (ℓ : Loc Cert.AdalnKernelIdeal.nD Cert.AdalnKernelIdeal.τ Cert.AdalnKernelIdeal.sig) → Buf (Elt Ideal) ℓ) : Prop :=
  ∀ c : Dev Cert.AdalnKernelIdeal.nD,
    (Cert.Pre_finite_adaln.fn (F := Ideal) (m ((c.tc : Thread Cert.AdalnKernelIdeal.nD Cert.AdalnKernelIdeal.τ).loc Cert.AdalnKernelIdeal.main_arg0)) (m ((c.tc : Thread Cert.AdalnKernelIdeal.nD Cert.AdalnKernelIdeal.τ).loc Cert.AdalnKernelIdeal.main_arg1)) (m ((c.tc : Thread Cert.AdalnKernelIdeal.nD Cert.AdalnKernelIdeal.τ).loc Cert.AdalnKernelIdeal.main_arg2))).1 = (fun _ => 1#1)
    ∧ (Cert.Pre_finite_adaln.fn (F := Ideal) (m ((c.tc : Thread Cert.AdalnKernelIdeal.nD Cert.AdalnKernelIdeal.τ).loc Cert.AdalnKernelIdeal.main_arg0)) (m ((c.tc : Thread Cert.AdalnKernelIdeal.nD Cert.AdalnKernelIdeal.τ).loc Cert.AdalnKernelIdeal.main_arg1)) (m ((c.tc : Thread Cert.AdalnKernelIdeal.nD Cert.AdalnKernelIdeal.τ).loc Cert.AdalnKernelIdeal.main_arg2))).2 = (fun _ => 1#1)

def Pre_AdalnReferenceIdeal (m : (ℓ : Loc Cert.AdalnReferenceIdeal.nD Cert.AdalnReferenceIdeal.τ Cert.AdalnReferenceIdeal.sig) → Buf (Elt Ideal) ℓ) : Prop :=
  True

def Pre_AdalnReferenceIdeal_finite_adaln [hPre_finite_adaln : Cert.Pre_finite_adaln.Facts] (m : (ℓ : Loc Cert.AdalnReferenceIdeal.nD Cert.AdalnReferenceIdeal.τ Cert.AdalnReferenceIdeal.sig) → Buf (Elt Ideal) ℓ) : Prop :=
  ∀ c : Dev Cert.AdalnReferenceIdeal.nD,
    (Cert.Pre_finite_adaln.fn (F := Ideal) (m ((c.tc : Thread Cert.AdalnReferenceIdeal.nD Cert.AdalnReferenceIdeal.τ).loc Cert.AdalnReferenceIdeal.main_arg0)) (m ((c.tc : Thread Cert.AdalnReferenceIdeal.nD Cert.AdalnReferenceIdeal.τ).loc Cert.AdalnReferenceIdeal.main_arg1)) (m ((c.tc : Thread Cert.AdalnReferenceIdeal.nD Cert.AdalnReferenceIdeal.τ).loc Cert.AdalnReferenceIdeal.main_arg2))).1 = (fun _ => 1#1)
    ∧ (Cert.Pre_finite_adaln.fn (F := Ideal) (m ((c.tc : Thread Cert.AdalnReferenceIdeal.nD Cert.AdalnReferenceIdeal.τ).loc Cert.AdalnReferenceIdeal.main_arg0)) (m ((c.tc : Thread Cert.AdalnReferenceIdeal.nD Cert.AdalnReferenceIdeal.τ).loc Cert.AdalnReferenceIdeal.main_arg1)) (m ((c.tc : Thread Cert.AdalnReferenceIdeal.nD Cert.AdalnReferenceIdeal.τ).loc Cert.AdalnReferenceIdeal.main_arg2))).2 = (fun _ => 1#1)

def Pre_SumWoKernel [hPre_device_number_wo : Cert.Pre_device_number_wo.Facts] (m : (ℓ : Loc Cert.SumWoKernel.nD Cert.SumWoKernel.τ Cert.SumWoKernel.sig) → Buf (Elt Bits) ℓ) : Prop :=
  ∀ c : Dev Cert.SumWoKernel.nD,
    (Cert.Pre_device_number_wo.fn (F := Bits) (m ((c.tc : Thread Cert.SumWoKernel.nD Cert.SumWoKernel.τ).loc Cert.SumWoKernel.main_arg0)) (m ((c.tc : Thread Cert.SumWoKernel.nD Cert.SumWoKernel.τ).loc Cert.SumWoKernel.main_arg1)) (m ((c.tc : Thread Cert.SumWoKernel.nD Cert.SumWoKernel.τ).loc Cert.SumWoKernel.main_arg2))).1 = (fun _ => 1#1)
    ∧ (Cert.Pre_device_number_wo.fn (F := Bits) (m ((c.tc : Thread Cert.SumWoKernel.nD Cert.SumWoKernel.τ).loc Cert.SumWoKernel.main_arg0)) (m ((c.tc : Thread Cert.SumWoKernel.nD Cert.SumWoKernel.τ).loc Cert.SumWoKernel.main_arg1)) (m ((c.tc : Thread Cert.SumWoKernel.nD Cert.SumWoKernel.τ).loc Cert.SumWoKernel.main_arg2))).2 = (fun _ => 1#1)

def Pre_SumWoKernelIdeal [hPre_device_number_wo : Cert.Pre_device_number_wo.Facts] (m : (ℓ : Loc Cert.SumWoKernelIdeal.nD Cert.SumWoKernelIdeal.τ Cert.SumWoKernelIdeal.sig) → Buf (Elt Ideal) ℓ) : Prop :=
  ∀ c : Dev Cert.SumWoKernelIdeal.nD,
    (Cert.Pre_device_number_wo.fn (F := Ideal) (m ((c.tc : Thread Cert.SumWoKernelIdeal.nD Cert.SumWoKernelIdeal.τ).loc Cert.SumWoKernelIdeal.main_arg0)) (m ((c.tc : Thread Cert.SumWoKernelIdeal.nD Cert.SumWoKernelIdeal.τ).loc Cert.SumWoKernelIdeal.main_arg1)) (m ((c.tc : Thread Cert.SumWoKernelIdeal.nD Cert.SumWoKernelIdeal.τ).loc Cert.SumWoKernelIdeal.main_arg2))).1 = (fun _ => 1#1)
    ∧ (Cert.Pre_device_number_wo.fn (F := Ideal) (m ((c.tc : Thread Cert.SumWoKernelIdeal.nD Cert.SumWoKernelIdeal.τ).loc Cert.SumWoKernelIdeal.main_arg0)) (m ((c.tc : Thread Cert.SumWoKernelIdeal.nD Cert.SumWoKernelIdeal.τ).loc Cert.SumWoKernelIdeal.main_arg1)) (m ((c.tc : Thread Cert.SumWoKernelIdeal.nD Cert.SumWoKernelIdeal.τ).loc Cert.SumWoKernelIdeal.main_arg2))).2 = (fun _ => 1#1)

def Pre_SumWoReferenceIdeal (m : (ℓ : Loc Cert.SumWoReferenceIdeal.nD Cert.SumWoReferenceIdeal.τ Cert.SumWoReferenceIdeal.sig) → Buf (Elt Ideal) ℓ) : Prop :=
  True

def Pre_SumWoReferenceIdeal_device_number_wo [hPre_device_number_wo : Cert.Pre_device_number_wo.Facts] (m : (ℓ : Loc Cert.SumWoReferenceIdeal.nD Cert.SumWoReferenceIdeal.τ Cert.SumWoReferenceIdeal.sig) → Buf (Elt Ideal) ℓ) : Prop :=
  ∀ c : Dev Cert.SumWoReferenceIdeal.nD,
    (Cert.Pre_device_number_wo.fn (F := Ideal) (m ((c.tc : Thread Cert.SumWoReferenceIdeal.nD Cert.SumWoReferenceIdeal.τ).loc Cert.SumWoReferenceIdeal.main_arg0)) (m ((c.tc : Thread Cert.SumWoReferenceIdeal.nD Cert.SumWoReferenceIdeal.τ).loc Cert.SumWoReferenceIdeal.main_arg1)) (m ((c.tc : Thread Cert.SumWoReferenceIdeal.nD Cert.SumWoReferenceIdeal.τ).loc Cert.SumWoReferenceIdeal.main_arg2))).1 = (fun _ => 1#1)
    ∧ (Cert.Pre_device_number_wo.fn (F := Ideal) (m ((c.tc : Thread Cert.SumWoReferenceIdeal.nD Cert.SumWoReferenceIdeal.τ).loc Cert.SumWoReferenceIdeal.main_arg0)) (m ((c.tc : Thread Cert.SumWoReferenceIdeal.nD Cert.SumWoReferenceIdeal.τ).loc Cert.SumWoReferenceIdeal.main_arg1)) (m ((c.tc : Thread Cert.SumWoReferenceIdeal.nD Cert.SumWoReferenceIdeal.τ).loc Cert.SumWoReferenceIdeal.main_arg2))).2 = (fun _ => 1#1)

def Pre_SumOutKernel [hPre_device_number_out : Cert.Pre_device_number_out.Facts] (m : (ℓ : Loc Cert.SumOutKernel.nD Cert.SumOutKernel.τ Cert.SumOutKernel.sig) → Buf (Elt Bits) ℓ) : Prop :=
  ∀ c : Dev Cert.SumOutKernel.nD,
    (Cert.Pre_device_number_out.fn (F := Bits) (m ((c.tc : Thread Cert.SumOutKernel.nD Cert.SumOutKernel.τ).loc Cert.SumOutKernel.main_arg0)) (m ((c.tc : Thread Cert.SumOutKernel.nD Cert.SumOutKernel.τ).loc Cert.SumOutKernel.main_arg1)) (m ((c.tc : Thread Cert.SumOutKernel.nD Cert.SumOutKernel.τ).loc Cert.SumOutKernel.main_arg2))).1 = (fun _ => 1#1)
    ∧ (Cert.Pre_device_number_out.fn (F := Bits) (m ((c.tc : Thread Cert.SumOutKernel.nD Cert.SumOutKernel.τ).loc Cert.SumOutKernel.main_arg0)) (m ((c.tc : Thread Cert.SumOutKernel.nD Cert.SumOutKernel.τ).loc Cert.SumOutKernel.main_arg1)) (m ((c.tc : Thread Cert.SumOutKernel.nD Cert.SumOutKernel.τ).loc Cert.SumOutKernel.main_arg2))).2 = (fun _ => 1#1)

def Pre_SumOutKernelIdeal [hPre_device_number_out : Cert.Pre_device_number_out.Facts] (m : (ℓ : Loc Cert.SumOutKernelIdeal.nD Cert.SumOutKernelIdeal.τ Cert.SumOutKernelIdeal.sig) → Buf (Elt Ideal) ℓ) : Prop :=
  ∀ c : Dev Cert.SumOutKernelIdeal.nD,
    (Cert.Pre_device_number_out.fn (F := Ideal) (m ((c.tc : Thread Cert.SumOutKernelIdeal.nD Cert.SumOutKernelIdeal.τ).loc Cert.SumOutKernelIdeal.main_arg0)) (m ((c.tc : Thread Cert.SumOutKernelIdeal.nD Cert.SumOutKernelIdeal.τ).loc Cert.SumOutKernelIdeal.main_arg1)) (m ((c.tc : Thread Cert.SumOutKernelIdeal.nD Cert.SumOutKernelIdeal.τ).loc Cert.SumOutKernelIdeal.main_arg2))).1 = (fun _ => 1#1)
    ∧ (Cert.Pre_device_number_out.fn (F := Ideal) (m ((c.tc : Thread Cert.SumOutKernelIdeal.nD Cert.SumOutKernelIdeal.τ).loc Cert.SumOutKernelIdeal.main_arg0)) (m ((c.tc : Thread Cert.SumOutKernelIdeal.nD Cert.SumOutKernelIdeal.τ).loc Cert.SumOutKernelIdeal.main_arg1)) (m ((c.tc : Thread Cert.SumOutKernelIdeal.nD Cert.SumOutKernelIdeal.τ).loc Cert.SumOutKernelIdeal.main_arg2))).2 = (fun _ => 1#1)

def Pre_SumOutReferenceIdeal (m : (ℓ : Loc Cert.SumOutReferenceIdeal.nD Cert.SumOutReferenceIdeal.τ Cert.SumOutReferenceIdeal.sig) → Buf (Elt Ideal) ℓ) : Prop :=
  True

def Pre_SumOutReferenceIdeal_device_number_out [hPre_device_number_out : Cert.Pre_device_number_out.Facts] (m : (ℓ : Loc Cert.SumOutReferenceIdeal.nD Cert.SumOutReferenceIdeal.τ Cert.SumOutReferenceIdeal.sig) → Buf (Elt Ideal) ℓ) : Prop :=
  ∀ c : Dev Cert.SumOutReferenceIdeal.nD,
    (Cert.Pre_device_number_out.fn (F := Ideal) (m ((c.tc : Thread Cert.SumOutReferenceIdeal.nD Cert.SumOutReferenceIdeal.τ).loc Cert.SumOutReferenceIdeal.main_arg0)) (m ((c.tc : Thread Cert.SumOutReferenceIdeal.nD Cert.SumOutReferenceIdeal.τ).loc Cert.SumOutReferenceIdeal.main_arg1)) (m ((c.tc : Thread Cert.SumOutReferenceIdeal.nD Cert.SumOutReferenceIdeal.τ).loc Cert.SumOutReferenceIdeal.main_arg2))).1 = (fun _ => 1#1)
    ∧ (Cert.Pre_device_number_out.fn (F := Ideal) (m ((c.tc : Thread Cert.SumOutReferenceIdeal.nD Cert.SumOutReferenceIdeal.τ).loc Cert.SumOutReferenceIdeal.main_arg0)) (m ((c.tc : Thread Cert.SumOutReferenceIdeal.nD Cert.SumOutReferenceIdeal.τ).loc Cert.SumOutReferenceIdeal.main_arg1)) (m ((c.tc : Thread Cert.SumOutReferenceIdeal.nD Cert.SumOutReferenceIdeal.τ).loc Cert.SumOutReferenceIdeal.main_arg2))).2 = (fun _ => 1#1)

def Pre_SumWiKernel [hPre_device_number_wi : Cert.Pre_device_number_wi.Facts] (m : (ℓ : Loc Cert.SumWiKernel.nD Cert.SumWiKernel.τ Cert.SumWiKernel.sig) → Buf (Elt Bits) ℓ) : Prop :=
  ∀ c : Dev Cert.SumWiKernel.nD,
    (Cert.Pre_device_number_wi.fn (F := Bits) (m ((c.tc : Thread Cert.SumWiKernel.nD Cert.SumWiKernel.τ).loc Cert.SumWiKernel.main_arg0)) (m ((c.tc : Thread Cert.SumWiKernel.nD Cert.SumWiKernel.τ).loc Cert.SumWiKernel.main_arg1)) (m ((c.tc : Thread Cert.SumWiKernel.nD Cert.SumWiKernel.τ).loc Cert.SumWiKernel.main_arg2))).1 = (fun _ => 1#1)
    ∧ (Cert.Pre_device_number_wi.fn (F := Bits) (m ((c.tc : Thread Cert.SumWiKernel.nD Cert.SumWiKernel.τ).loc Cert.SumWiKernel.main_arg0)) (m ((c.tc : Thread Cert.SumWiKernel.nD Cert.SumWiKernel.τ).loc Cert.SumWiKernel.main_arg1)) (m ((c.tc : Thread Cert.SumWiKernel.nD Cert.SumWiKernel.τ).loc Cert.SumWiKernel.main_arg2))).2 = (fun _ => 1#1)

def Pre_SumWiKernelIdeal [hPre_device_number_wi : Cert.Pre_device_number_wi.Facts] (m : (ℓ : Loc Cert.SumWiKernelIdeal.nD Cert.SumWiKernelIdeal.τ Cert.SumWiKernelIdeal.sig) → Buf (Elt Ideal) ℓ) : Prop :=
  ∀ c : Dev Cert.SumWiKernelIdeal.nD,
    (Cert.Pre_device_number_wi.fn (F := Ideal) (m ((c.tc : Thread Cert.SumWiKernelIdeal.nD Cert.SumWiKernelIdeal.τ).loc Cert.SumWiKernelIdeal.main_arg0)) (m ((c.tc : Thread Cert.SumWiKernelIdeal.nD Cert.SumWiKernelIdeal.τ).loc Cert.SumWiKernelIdeal.main_arg1)) (m ((c.tc : Thread Cert.SumWiKernelIdeal.nD Cert.SumWiKernelIdeal.τ).loc Cert.SumWiKernelIdeal.main_arg2))).1 = (fun _ => 1#1)
    ∧ (Cert.Pre_device_number_wi.fn (F := Ideal) (m ((c.tc : Thread Cert.SumWiKernelIdeal.nD Cert.SumWiKernelIdeal.τ).loc Cert.SumWiKernelIdeal.main_arg0)) (m ((c.tc : Thread Cert.SumWiKernelIdeal.nD Cert.SumWiKernelIdeal.τ).loc Cert.SumWiKernelIdeal.main_arg1)) (m ((c.tc : Thread Cert.SumWiKernelIdeal.nD Cert.SumWiKernelIdeal.τ).loc Cert.SumWiKernelIdeal.main_arg2))).2 = (fun _ => 1#1)

def Pre_SumWiReferenceIdeal (m : (ℓ : Loc Cert.SumWiReferenceIdeal.nD Cert.SumWiReferenceIdeal.τ Cert.SumWiReferenceIdeal.sig) → Buf (Elt Ideal) ℓ) : Prop :=
  True

def Pre_SumWiReferenceIdeal_device_number_wi [hPre_device_number_wi : Cert.Pre_device_number_wi.Facts] (m : (ℓ : Loc Cert.SumWiReferenceIdeal.nD Cert.SumWiReferenceIdeal.τ Cert.SumWiReferenceIdeal.sig) → Buf (Elt Ideal) ℓ) : Prop :=
  ∀ c : Dev Cert.SumWiReferenceIdeal.nD,
    (Cert.Pre_device_number_wi.fn (F := Ideal) (m ((c.tc : Thread Cert.SumWiReferenceIdeal.nD Cert.SumWiReferenceIdeal.τ).loc Cert.SumWiReferenceIdeal.main_arg0)) (m ((c.tc : Thread Cert.SumWiReferenceIdeal.nD Cert.SumWiReferenceIdeal.τ).loc Cert.SumWiReferenceIdeal.main_arg1)) (m ((c.tc : Thread Cert.SumWiReferenceIdeal.nD Cert.SumWiReferenceIdeal.τ).loc Cert.SumWiReferenceIdeal.main_arg2))).1 = (fun _ => 1#1)
    ∧ (Cert.Pre_device_number_wi.fn (F := Ideal) (m ((c.tc : Thread Cert.SumWiReferenceIdeal.nD Cert.SumWiReferenceIdeal.τ).loc Cert.SumWiReferenceIdeal.main_arg0)) (m ((c.tc : Thread Cert.SumWiReferenceIdeal.nD Cert.SumWiReferenceIdeal.τ).loc Cert.SumWiReferenceIdeal.main_arg1)) (m ((c.tc : Thread Cert.SumWiReferenceIdeal.nD Cert.SumWiReferenceIdeal.τ).loc Cert.SumWiReferenceIdeal.main_arg2))).2 = (fun _ => 1#1)

def Pre_SumPoolKernel [hPre_device_number_pool : Cert.Pre_device_number_pool.Facts] (m : (ℓ : Loc Cert.SumPoolKernel.nD Cert.SumPoolKernel.τ Cert.SumPoolKernel.sig) → Buf (Elt Bits) ℓ) : Prop :=
  ∀ c : Dev Cert.SumPoolKernel.nD,
    (Cert.Pre_device_number_pool.fn (F := Bits) (m ((c.tc : Thread Cert.SumPoolKernel.nD Cert.SumPoolKernel.τ).loc Cert.SumPoolKernel.main_arg0)) (m ((c.tc : Thread Cert.SumPoolKernel.nD Cert.SumPoolKernel.τ).loc Cert.SumPoolKernel.main_arg1)) (m ((c.tc : Thread Cert.SumPoolKernel.nD Cert.SumPoolKernel.τ).loc Cert.SumPoolKernel.main_arg2))).1 = (fun _ => 1#1)
    ∧ (Cert.Pre_device_number_pool.fn (F := Bits) (m ((c.tc : Thread Cert.SumPoolKernel.nD Cert.SumPoolKernel.τ).loc Cert.SumPoolKernel.main_arg0)) (m ((c.tc : Thread Cert.SumPoolKernel.nD Cert.SumPoolKernel.τ).loc Cert.SumPoolKernel.main_arg1)) (m ((c.tc : Thread Cert.SumPoolKernel.nD Cert.SumPoolKernel.τ).loc Cert.SumPoolKernel.main_arg2))).2 = (fun _ => 1#1)

def Pre_SumPoolKernelIdeal [hPre_device_number_pool : Cert.Pre_device_number_pool.Facts] (m : (ℓ : Loc Cert.SumPoolKernelIdeal.nD Cert.SumPoolKernelIdeal.τ Cert.SumPoolKernelIdeal.sig) → Buf (Elt Ideal) ℓ) : Prop :=
  ∀ c : Dev Cert.SumPoolKernelIdeal.nD,
    (Cert.Pre_device_number_pool.fn (F := Ideal) (m ((c.tc : Thread Cert.SumPoolKernelIdeal.nD Cert.SumPoolKernelIdeal.τ).loc Cert.SumPoolKernelIdeal.main_arg0)) (m ((c.tc : Thread Cert.SumPoolKernelIdeal.nD Cert.SumPoolKernelIdeal.τ).loc Cert.SumPoolKernelIdeal.main_arg1)) (m ((c.tc : Thread Cert.SumPoolKernelIdeal.nD Cert.SumPoolKernelIdeal.τ).loc Cert.SumPoolKernelIdeal.main_arg2))).1 = (fun _ => 1#1)
    ∧ (Cert.Pre_device_number_pool.fn (F := Ideal) (m ((c.tc : Thread Cert.SumPoolKernelIdeal.nD Cert.SumPoolKernelIdeal.τ).loc Cert.SumPoolKernelIdeal.main_arg0)) (m ((c.tc : Thread Cert.SumPoolKernelIdeal.nD Cert.SumPoolKernelIdeal.τ).loc Cert.SumPoolKernelIdeal.main_arg1)) (m ((c.tc : Thread Cert.SumPoolKernelIdeal.nD Cert.SumPoolKernelIdeal.τ).loc Cert.SumPoolKernelIdeal.main_arg2))).2 = (fun _ => 1#1)

def Pre_SumPoolReferenceIdeal (m : (ℓ : Loc Cert.SumPoolReferenceIdeal.nD Cert.SumPoolReferenceIdeal.τ Cert.SumPoolReferenceIdeal.sig) → Buf (Elt Ideal) ℓ) : Prop :=
  True

def Pre_SumPoolReferenceIdeal_device_number_pool [hPre_device_number_pool : Cert.Pre_device_number_pool.Facts] (m : (ℓ : Loc Cert.SumPoolReferenceIdeal.nD Cert.SumPoolReferenceIdeal.τ Cert.SumPoolReferenceIdeal.sig) → Buf (Elt Ideal) ℓ) : Prop :=
  ∀ c : Dev Cert.SumPoolReferenceIdeal.nD,
    (Cert.Pre_device_number_pool.fn (F := Ideal) (m ((c.tc : Thread Cert.SumPoolReferenceIdeal.nD Cert.SumPoolReferenceIdeal.τ).loc Cert.SumPoolReferenceIdeal.main_arg0)) (m ((c.tc : Thread Cert.SumPoolReferenceIdeal.nD Cert.SumPoolReferenceIdeal.τ).loc Cert.SumPoolReferenceIdeal.main_arg1)) (m ((c.tc : Thread Cert.SumPoolReferenceIdeal.nD Cert.SumPoolReferenceIdeal.τ).loc Cert.SumPoolReferenceIdeal.main_arg2))).1 = (fun _ => 1#1)
    ∧ (Cert.Pre_device_number_pool.fn (F := Ideal) (m ((c.tc : Thread Cert.SumPoolReferenceIdeal.nD Cert.SumPoolReferenceIdeal.τ).loc Cert.SumPoolReferenceIdeal.main_arg0)) (m ((c.tc : Thread Cert.SumPoolReferenceIdeal.nD Cert.SumPoolReferenceIdeal.τ).loc Cert.SumPoolReferenceIdeal.main_arg1)) (m ((c.tc : Thread Cert.SumPoolReferenceIdeal.nD Cert.SumPoolReferenceIdeal.τ).loc Cert.SumPoolReferenceIdeal.main_arg2))).2 = (fun _ => 1#1)

def Pre_SumInKernel [hPre_device_number_in : Cert.Pre_device_number_in.Facts] (m : (ℓ : Loc Cert.SumInKernel.nD Cert.SumInKernel.τ Cert.SumInKernel.sig) → Buf (Elt Bits) ℓ) : Prop :=
  ∀ c : Dev Cert.SumInKernel.nD,
    (Cert.Pre_device_number_in.fn (F := Bits) (m ((c.tc : Thread Cert.SumInKernel.nD Cert.SumInKernel.τ).loc Cert.SumInKernel.main_arg0)) (m ((c.tc : Thread Cert.SumInKernel.nD Cert.SumInKernel.τ).loc Cert.SumInKernel.main_arg1)) (m ((c.tc : Thread Cert.SumInKernel.nD Cert.SumInKernel.τ).loc Cert.SumInKernel.main_arg2))).1 = (fun _ => 1#1)
    ∧ (Cert.Pre_device_number_in.fn (F := Bits) (m ((c.tc : Thread Cert.SumInKernel.nD Cert.SumInKernel.τ).loc Cert.SumInKernel.main_arg0)) (m ((c.tc : Thread Cert.SumInKernel.nD Cert.SumInKernel.τ).loc Cert.SumInKernel.main_arg1)) (m ((c.tc : Thread Cert.SumInKernel.nD Cert.SumInKernel.τ).loc Cert.SumInKernel.main_arg2))).2 = (fun _ => 1#1)

def Pre_SumInKernelIdeal [hPre_device_number_in : Cert.Pre_device_number_in.Facts] (m : (ℓ : Loc Cert.SumInKernelIdeal.nD Cert.SumInKernelIdeal.τ Cert.SumInKernelIdeal.sig) → Buf (Elt Ideal) ℓ) : Prop :=
  ∀ c : Dev Cert.SumInKernelIdeal.nD,
    (Cert.Pre_device_number_in.fn (F := Ideal) (m ((c.tc : Thread Cert.SumInKernelIdeal.nD Cert.SumInKernelIdeal.τ).loc Cert.SumInKernelIdeal.main_arg0)) (m ((c.tc : Thread Cert.SumInKernelIdeal.nD Cert.SumInKernelIdeal.τ).loc Cert.SumInKernelIdeal.main_arg1)) (m ((c.tc : Thread Cert.SumInKernelIdeal.nD Cert.SumInKernelIdeal.τ).loc Cert.SumInKernelIdeal.main_arg2))).1 = (fun _ => 1#1)
    ∧ (Cert.Pre_device_number_in.fn (F := Ideal) (m ((c.tc : Thread Cert.SumInKernelIdeal.nD Cert.SumInKernelIdeal.τ).loc Cert.SumInKernelIdeal.main_arg0)) (m ((c.tc : Thread Cert.SumInKernelIdeal.nD Cert.SumInKernelIdeal.τ).loc Cert.SumInKernelIdeal.main_arg1)) (m ((c.tc : Thread Cert.SumInKernelIdeal.nD Cert.SumInKernelIdeal.τ).loc Cert.SumInKernelIdeal.main_arg2))).2 = (fun _ => 1#1)

def Pre_SumInReferenceIdeal (m : (ℓ : Loc Cert.SumInReferenceIdeal.nD Cert.SumInReferenceIdeal.τ Cert.SumInReferenceIdeal.sig) → Buf (Elt Ideal) ℓ) : Prop :=
  True

def Pre_SumInReferenceIdeal_device_number_in [hPre_device_number_in : Cert.Pre_device_number_in.Facts] (m : (ℓ : Loc Cert.SumInReferenceIdeal.nD Cert.SumInReferenceIdeal.τ Cert.SumInReferenceIdeal.sig) → Buf (Elt Ideal) ℓ) : Prop :=
  ∀ c : Dev Cert.SumInReferenceIdeal.nD,
    (Cert.Pre_device_number_in.fn (F := Ideal) (m ((c.tc : Thread Cert.SumInReferenceIdeal.nD Cert.SumInReferenceIdeal.τ).loc Cert.SumInReferenceIdeal.main_arg0)) (m ((c.tc : Thread Cert.SumInReferenceIdeal.nD Cert.SumInReferenceIdeal.τ).loc Cert.SumInReferenceIdeal.main_arg1)) (m ((c.tc : Thread Cert.SumInReferenceIdeal.nD Cert.SumInReferenceIdeal.τ).loc Cert.SumInReferenceIdeal.main_arg2))).1 = (fun _ => 1#1)
    ∧ (Cert.Pre_device_number_in.fn (F := Ideal) (m ((c.tc : Thread Cert.SumInReferenceIdeal.nD Cert.SumInReferenceIdeal.τ).loc Cert.SumInReferenceIdeal.main_arg0)) (m ((c.tc : Thread Cert.SumInReferenceIdeal.nD Cert.SumInReferenceIdeal.τ).loc Cert.SumInReferenceIdeal.main_arg1)) (m ((c.tc : Thread Cert.SumInReferenceIdeal.nD Cert.SumInReferenceIdeal.τ).loc Cert.SumInReferenceIdeal.main_arg2))).2 = (fun _ => 1#1)

def Pre_AdalnFwdKernel (m : (ℓ : Loc Cert.AdalnFwdKernel.nD Cert.AdalnFwdKernel.τ Cert.AdalnFwdKernel.sig) → Buf (Elt Bits) ℓ) : Prop :=
  True

def Pre_AdalnFwdKernelIdeal (m : (ℓ : Loc Cert.AdalnFwdKernelIdeal.nD Cert.AdalnFwdKernelIdeal.τ Cert.AdalnFwdKernelIdeal.sig) → Buf (Elt Ideal) ℓ) : Prop :=
  True

def Pre_AdalnFwdReferenceIdeal (m : (ℓ : Loc Cert.AdalnFwdReferenceIdeal.nD Cert.AdalnFwdReferenceIdeal.τ Cert.AdalnFwdReferenceIdeal.sig) → Buf (Elt Ideal) ℓ) : Prop :=
  True

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3))
      ∧ r.2.sem = fun _ => 0)

def quiescent_DhKernelIdeal_pre_finite_ffn [hDhKernelIdeal : Cert.DhKernelIdeal.Facts] [hPre_finite_ffn : Cert.Pre_finite_ffn.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal_finite_ffn m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3))
      ∧ r.2.sem = fun _ => 0)

def quiescent_DhReferenceIdeal_pre_finite_ffn [hDhReferenceIdeal : Cert.DhReferenceIdeal.Facts] [hPre_finite_ffn : Cert.Pre_finite_ffn.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_finite_ffn m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1)
      ∧ r.2.mem ((c.tc : Thread Cert.DwoKernel.nD Cert.DwoKernel.τ).loc Cert.DwoKernel.main_arg2) = m ((c.tc : Thread Cert.DwoKernel.nD Cert.DwoKernel.τ).loc Cert.DwoKernel.main_arg2))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
      ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2))
      ∧ r.2.sem = fun _ => 0)

def quiescent_DwiKernel [hDwiKernel : Cert.DwiKernel.Facts] : Prop :=
  ∀ (m : (ℓ : Loc Cert.DwiKernel.nD Cert.DwiKernel.τ Cert.DwiKernel.sig) → Buf (Elt Bits) ℓ) (g : Dev Cert.DwiKernel.nD → PrngReg), Pre_DwiKernel m →
    θ_run (Cert.DwiKernel.defs (F := Bits)) (onTc (τ := Cert.DwiKernel.τ) (Cert.DwiKernel.main (F := Bits))) ⟨m, fun _ => 0, g⟩ (fun r => (∀ c : Dev Cert.DwiKernel.nD,
      r.2.mem ((c.tc : Thread Cert.DwiKernel.nD Cert.DwiKernel.τ).loc Cert.DwiKernel.main_arg0) = m ((c.tc : Thread Cert.DwiKernel.nD Cert.DwiKernel.τ).loc Cert.DwiKernel.main_arg0)
      ∧ r.2.mem ((c.tc : Thread Cert.DwiKernel.nD Cert.DwiKernel.τ).loc Cert.DwiKernel.main_arg1) = m ((c.tc : Thread Cert.DwiKernel.nD Cert.DwiKernel.τ).loc Cert.DwiKernel.main_arg1)
      ∧ r.2.mem ((c.tc : Thread Cert.DwiKernel.nD Cert.DwiKernel.τ).loc Cert.DwiKernel.main_arg2) = m ((c.tc : Thread Cert.DwiKernel.nD Cert.DwiKernel.τ).loc Cert.DwiKernel.main_arg2)
      ∧ r.2.mem ((c.tc : Thread Cert.DwiKernel.nD Cert.DwiKernel.τ).loc Cert.DwiKernel.main_arg3) = m ((c.tc : Thread Cert.DwiKernel.nD Cert.DwiKernel.τ).loc Cert.DwiKernel.main_arg3))
      ∧ r.2.sem = fun _ => 0)

def quiescent_DwiKernelIdeal [hDwiKernelIdeal : Cert.DwiKernelIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg), Pre_DwiKernelIdeal m →
    θ_run (Cert.DwiKernelIdeal.defs (F := Ideal)) (onTc (τ := Cert.DwiKernelIdeal.τ) (Cert.DwiKernelIdeal.main (F := Ideal))) ⟨m, fun _ => 0, g⟩ (fun r => (∀ c : Dev Cert.DwiKernelIdeal.nD,
      r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
      ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
      ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2)
      ∧ r.2.mem ((c.tc : Thread Cert.DwiKernelIdeal.nD Cert.DwiKernelIdeal.τ).loc Cert.DwiKernelIdeal.main_arg3) = m ((c.tc : Thread Cert.DwiKernelIdeal.nD Cert.DwiKernelIdeal.τ).loc Cert.DwiKernelIdeal.main_arg3))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1)
      ∧ r.2.mem ((c.tc : Thread Cert.DwiReferenceIdeal.nD Cert.DwiReferenceIdeal.τ).loc Cert.DwiReferenceIdeal.main_arg2) = m ((c.tc : Thread Cert.DwiReferenceIdeal.nD Cert.DwiReferenceIdeal.τ).loc Cert.DwiReferenceIdeal.main_arg2)
      ∧ r.2.mem ((c.tc : Thread Cert.DwiReferenceIdeal.nD Cert.DwiReferenceIdeal.τ).loc Cert.DwiReferenceIdeal.main_arg3) = m ((c.tc : Thread Cert.DwiReferenceIdeal.nD Cert.DwiReferenceIdeal.τ).loc Cert.DwiReferenceIdeal.main_arg3))
      ∧ r.2.sem = fun _ => 0)

def quiescent_DhCtxKernel [hDhCtxKernel : Cert.DhCtxKernel.Facts] : Prop :=
  ∀ (m : (ℓ : Loc Cert.DhCtxKernel.nD Cert.DhCtxKernel.τ Cert.DhCtxKernel.sig) → Buf (Elt Bits) ℓ) (g : Dev Cert.DhCtxKernel.nD → PrngReg), Pre_DhCtxKernel m →
    θ_run (Cert.DhCtxKernel.defs (F := Bits)) (onTc (τ := Cert.DhCtxKernel.τ) (Cert.DhCtxKernel.main (F := Bits))) ⟨m, fun _ => 0, g⟩ (fun r => (∀ c : Dev Cert.DhCtxKernel.nD,
      r.2.mem ((c.tc : Thread Cert.DhCtxKernel.nD Cert.DhCtxKernel.τ).loc Cert.DhCtxKernel.main_arg0) = m ((c.tc : Thread Cert.DhCtxKernel.nD Cert.DhCtxKernel.τ).loc Cert.DhCtxKernel.main_arg0)
      ∧ r.2.mem ((c.tc : Thread Cert.DhCtxKernel.nD Cert.DhCtxKernel.τ).loc Cert.DhCtxKernel.main_arg1) = m ((c.tc : Thread Cert.DhCtxKernel.nD Cert.DhCtxKernel.τ).loc Cert.DhCtxKernel.main_arg1)
      ∧ r.2.mem ((c.tc : Thread Cert.DhCtxKernel.nD Cert.DhCtxKernel.τ).loc Cert.DhCtxKernel.main_arg2) = m ((c.tc : Thread Cert.DhCtxKernel.nD Cert.DhCtxKernel.τ).loc Cert.DhCtxKernel.main_arg2)
      ∧ r.2.mem ((c.tc : Thread Cert.DhCtxKernel.nD Cert.DhCtxKernel.τ).loc Cert.DhCtxKernel.main_arg3) = m ((c.tc : Thread Cert.DhCtxKernel.nD Cert.DhCtxKernel.τ).loc Cert.DhCtxKernel.main_arg3))
      ∧ r.2.sem = fun _ => 0)

def quiescent_DhCtxKernelIdeal [hDhCtxKernelIdeal : Cert.DhCtxKernelIdeal.Facts] : Prop :=
  ∀ (m : (ℓ : Loc Cert.DhCtxKernelIdeal.nD Cert.DhCtxKernelIdeal.τ Cert.DhCtxKernelIdeal.sig) → Buf (Elt Ideal) ℓ) (g : Dev Cert.DhCtxKernelIdeal.nD → PrngReg), Pre_DhCtxKernelIdeal m →
    θ_run (Cert.DhCtxKernelIdeal.defs (F := Ideal)) (onTc (τ := Cert.DhCtxKernelIdeal.τ) (Cert.DhCtxKernelIdeal.main (F := Ideal))) ⟨m, fun _ => 0, g⟩ (fun r => (∀ c : Dev Cert.DhCtxKernelIdeal.nD,
      r.2.mem ((c.tc : Thread Cert.DhCtxKernelIdeal.nD Cert.DhCtxKernelIdeal.τ).loc Cert.DhCtxKernelIdeal.main_arg0) = m ((c.tc : Thread Cert.DhCtxKernelIdeal.nD Cert.DhCtxKernelIdeal.τ).loc Cert.DhCtxKernelIdeal.main_arg0)
      ∧ r.2.mem ((c.tc : Thread Cert.DhCtxKernelIdeal.nD Cert.DhCtxKernelIdeal.τ).loc Cert.DhCtxKernelIdeal.main_arg1) = m ((c.tc : Thread Cert.DhCtxKernelIdeal.nD Cert.DhCtxKernelIdeal.τ).loc Cert.DhCtxKernelIdeal.main_arg1)
      ∧ r.2.mem ((c.tc : Thread Cert.DhCtxKernelIdeal.nD Cert.DhCtxKernelIdeal.τ).loc Cert.DhCtxKernelIdeal.main_arg2) = m ((c.tc : Thread Cert.DhCtxKernelIdeal.nD Cert.DhCtxKernelIdeal.τ).loc Cert.DhCtxKernelIdeal.main_arg2)
      ∧ r.2.mem ((c.tc : Thread Cert.DhCtxKernelIdeal.nD Cert.DhCtxKernelIdeal.τ).loc Cert.DhCtxKernelIdeal.main_arg3) = m ((c.tc : Thread Cert.DhCtxKernelIdeal.nD Cert.DhCtxKernelIdeal.τ).loc Cert.DhCtxKernelIdeal.main_arg3))
      ∧ r.2.sem = fun _ => 0)

def quiescent_DhCtxKernelIdeal_pre_finite_ffn_ctx [hDhCtxKernelIdeal : Cert.DhCtxKernelIdeal.Facts] [hPre_finite_ffn_ctx : Cert.Pre_finite_ffn_ctx.Facts] : Prop :=
  ∀ (m : (ℓ : Loc Cert.DhCtxKernelIdeal.nD Cert.DhCtxKernelIdeal.τ Cert.DhCtxKernelIdeal.sig) → Buf (Elt Ideal) ℓ) (g : Dev Cert.DhCtxKernelIdeal.nD → PrngReg), Pre_DhCtxKernelIdeal_finite_ffn_ctx m →
    θ_run (Cert.DhCtxKernelIdeal.defs (F := Ideal)) (onTc (τ := Cert.DhCtxKernelIdeal.τ) (Cert.DhCtxKernelIdeal.main (F := Ideal))) ⟨m, fun _ => 0, g⟩ (fun r => (∀ c : Dev Cert.DhCtxKernelIdeal.nD,
      r.2.mem ((c.tc : Thread Cert.DhCtxKernelIdeal.nD Cert.DhCtxKernelIdeal.τ).loc Cert.DhCtxKernelIdeal.main_arg0) = m ((c.tc : Thread Cert.DhCtxKernelIdeal.nD Cert.DhCtxKernelIdeal.τ).loc Cert.DhCtxKernelIdeal.main_arg0)
      ∧ r.2.mem ((c.tc : Thread Cert.DhCtxKernelIdeal.nD Cert.DhCtxKernelIdeal.τ).loc Cert.DhCtxKernelIdeal.main_arg1) = m ((c.tc : Thread Cert.DhCtxKernelIdeal.nD Cert.DhCtxKernelIdeal.τ).loc Cert.DhCtxKernelIdeal.main_arg1)
      ∧ r.2.mem ((c.tc : Thread Cert.DhCtxKernelIdeal.nD Cert.DhCtxKernelIdeal.τ).loc Cert.DhCtxKernelIdeal.main_arg2) = m ((c.tc : Thread Cert.DhCtxKernelIdeal.nD Cert.DhCtxKernelIdeal.τ).loc Cert.DhCtxKernelIdeal.main_arg2)
      ∧ r.2.mem ((c.tc : Thread Cert.DhCtxKernelIdeal.nD Cert.DhCtxKernelIdeal.τ).loc Cert.DhCtxKernelIdeal.main_arg3) = m ((c.tc : Thread Cert.DhCtxKernelIdeal.nD Cert.DhCtxKernelIdeal.τ).loc Cert.DhCtxKernelIdeal.main_arg3))
      ∧ r.2.sem = fun _ => 0)

def quiescent_DhCtxReferenceIdeal [hDhCtxReferenceIdeal : Cert.DhCtxReferenceIdeal.Facts] : Prop :=
  ∀ (m : (ℓ : Loc Cert.DhCtxReferenceIdeal.nD Cert.DhCtxReferenceIdeal.τ Cert.DhCtxReferenceIdeal.sig) → Buf (Elt Ideal) ℓ) (g : Dev Cert.DhCtxReferenceIdeal.nD → PrngReg), Pre_DhCtxReferenceIdeal m →
    θ_run (Cert.DhCtxReferenceIdeal.defs (F := Ideal)) (onTc (τ := Cert.DhCtxReferenceIdeal.τ) (Cert.DhCtxReferenceIdeal.main (F := Ideal))) ⟨m, fun _ => 0, g⟩ (fun r => (∀ c : Dev Cert.DhCtxReferenceIdeal.nD,
      r.2.mem ((c.tc : Thread Cert.DhCtxReferenceIdeal.nD Cert.DhCtxReferenceIdeal.τ).loc Cert.DhCtxReferenceIdeal.main_arg0) = m ((c.tc : Thread Cert.DhCtxReferenceIdeal.nD Cert.DhCtxReferenceIdeal.τ).loc Cert.DhCtxReferenceIdeal.main_arg0)
      ∧ r.2.mem ((c.tc : Thread Cert.DhCtxReferenceIdeal.nD Cert.DhCtxReferenceIdeal.τ).loc Cert.DhCtxReferenceIdeal.main_arg1) = m ((c.tc : Thread Cert.DhCtxReferenceIdeal.nD Cert.DhCtxReferenceIdeal.τ).loc Cert.DhCtxReferenceIdeal.main_arg1)
      ∧ r.2.mem ((c.tc : Thread Cert.DhCtxReferenceIdeal.nD Cert.DhCtxReferenceIdeal.τ).loc Cert.DhCtxReferenceIdeal.main_arg2) = m ((c.tc : Thread Cert.DhCtxReferenceIdeal.nD Cert.DhCtxReferenceIdeal.τ).loc Cert.DhCtxReferenceIdeal.main_arg2)
      ∧ r.2.mem ((c.tc : Thread Cert.DhCtxReferenceIdeal.nD Cert.DhCtxReferenceIdeal.τ).loc Cert.DhCtxReferenceIdeal.main_arg3) = m ((c.tc : Thread Cert.DhCtxReferenceIdeal.nD Cert.DhCtxReferenceIdeal.τ).loc Cert.DhCtxReferenceIdeal.main_arg3))
      ∧ r.2.sem = fun _ => 0)

def quiescent_DhCtxReferenceIdeal_pre_finite_ffn_ctx [hDhCtxReferenceIdeal : Cert.DhCtxReferenceIdeal.Facts] [hPre_finite_ffn_ctx : Cert.Pre_finite_ffn_ctx.Facts] : Prop :=
  ∀ (m : (ℓ : Loc Cert.DhCtxReferenceIdeal.nD Cert.DhCtxReferenceIdeal.τ Cert.DhCtxReferenceIdeal.sig) → Buf (Elt Ideal) ℓ) (g : Dev Cert.DhCtxReferenceIdeal.nD → PrngReg), Pre_DhCtxReferenceIdeal_finite_ffn_ctx m →
    θ_run (Cert.DhCtxReferenceIdeal.defs (F := Ideal)) (onTc (τ := Cert.DhCtxReferenceIdeal.τ) (Cert.DhCtxReferenceIdeal.main (F := Ideal))) ⟨m, fun _ => 0, g⟩ (fun r => (∀ c : Dev Cert.DhCtxReferenceIdeal.nD,
      r.2.mem ((c.tc : Thread Cert.DhCtxReferenceIdeal.nD Cert.DhCtxReferenceIdeal.τ).loc Cert.DhCtxReferenceIdeal.main_arg0) = m ((c.tc : Thread Cert.DhCtxReferenceIdeal.nD Cert.DhCtxReferenceIdeal.τ).loc Cert.DhCtxReferenceIdeal.main_arg0)
      ∧ r.2.mem ((c.tc : Thread Cert.DhCtxReferenceIdeal.nD Cert.DhCtxReferenceIdeal.τ).loc Cert.DhCtxReferenceIdeal.main_arg1) = m ((c.tc : Thread Cert.DhCtxReferenceIdeal.nD Cert.DhCtxReferenceIdeal.τ).loc Cert.DhCtxReferenceIdeal.main_arg1)
      ∧ r.2.mem ((c.tc : Thread Cert.DhCtxReferenceIdeal.nD Cert.DhCtxReferenceIdeal.τ).loc Cert.DhCtxReferenceIdeal.main_arg2) = m ((c.tc : Thread Cert.DhCtxReferenceIdeal.nD Cert.DhCtxReferenceIdeal.τ).loc Cert.DhCtxReferenceIdeal.main_arg2)
      ∧ r.2.mem ((c.tc : Thread Cert.DhCtxReferenceIdeal.nD Cert.DhCtxReferenceIdeal.τ).loc Cert.DhCtxReferenceIdeal.main_arg3) = m ((c.tc : Thread Cert.DhCtxReferenceIdeal.nD Cert.DhCtxReferenceIdeal.τ).loc Cert.DhCtxReferenceIdeal.main_arg3))
      ∧ r.2.sem = fun _ => 0)

def quiescent_DwoCtxKernel [hDwoCtxKernel : Cert.DwoCtxKernel.Facts] : Prop :=
  ∀ (m : (ℓ : Loc Cert.DwoCtxKernel.nD Cert.DwoCtxKernel.τ Cert.DwoCtxKernel.sig) → Buf (Elt Bits) ℓ) (g : Dev Cert.DwoCtxKernel.nD → PrngReg), Pre_DwoCtxKernel m →
    θ_run (Cert.DwoCtxKernel.defs (F := Bits)) (onTc (τ := Cert.DwoCtxKernel.τ) (Cert.DwoCtxKernel.main (F := Bits))) ⟨m, fun _ => 0, g⟩ (fun r => (∀ c : Dev Cert.DwoCtxKernel.nD,
      r.2.mem ((c.tc : Thread Cert.DwoCtxKernel.nD Cert.DwoCtxKernel.τ).loc Cert.DwoCtxKernel.main_arg0) = m ((c.tc : Thread Cert.DwoCtxKernel.nD Cert.DwoCtxKernel.τ).loc Cert.DwoCtxKernel.main_arg0)
      ∧ r.2.mem ((c.tc : Thread Cert.DwoCtxKernel.nD Cert.DwoCtxKernel.τ).loc Cert.DwoCtxKernel.main_arg1) = m ((c.tc : Thread Cert.DwoCtxKernel.nD Cert.DwoCtxKernel.τ).loc Cert.DwoCtxKernel.main_arg1)
      ∧ r.2.mem ((c.tc : Thread Cert.DwoCtxKernel.nD Cert.DwoCtxKernel.τ).loc Cert.DwoCtxKernel.main_arg2) = m ((c.tc : Thread Cert.DwoCtxKernel.nD Cert.DwoCtxKernel.τ).loc Cert.DwoCtxKernel.main_arg2))
      ∧ r.2.sem = fun _ => 0)

def quiescent_DwoCtxKernelIdeal [hDwoCtxKernelIdeal : Cert.DwoCtxKernelIdeal.Facts] : Prop :=
  ∀ (m : (ℓ : Loc Cert.DwoCtxKernelIdeal.nD Cert.DwoCtxKernelIdeal.τ Cert.DwoCtxKernelIdeal.sig) → Buf (Elt Ideal) ℓ) (g : Dev Cert.DwoCtxKernelIdeal.nD → PrngReg), Pre_DwoCtxKernelIdeal m →
    θ_run (Cert.DwoCtxKernelIdeal.defs (F := Ideal)) (onTc (τ := Cert.DwoCtxKernelIdeal.τ) (Cert.DwoCtxKernelIdeal.main (F := Ideal))) ⟨m, fun _ => 0, g⟩ (fun r => (∀ c : Dev Cert.DwoCtxKernelIdeal.nD,
      r.2.mem ((c.tc : Thread Cert.DwoCtxKernelIdeal.nD Cert.DwoCtxKernelIdeal.τ).loc Cert.DwoCtxKernelIdeal.main_arg0) = m ((c.tc : Thread Cert.DwoCtxKernelIdeal.nD Cert.DwoCtxKernelIdeal.τ).loc Cert.DwoCtxKernelIdeal.main_arg0)
      ∧ r.2.mem ((c.tc : Thread Cert.DwoCtxKernelIdeal.nD Cert.DwoCtxKernelIdeal.τ).loc Cert.DwoCtxKernelIdeal.main_arg1) = m ((c.tc : Thread Cert.DwoCtxKernelIdeal.nD Cert.DwoCtxKernelIdeal.τ).loc Cert.DwoCtxKernelIdeal.main_arg1)
      ∧ r.2.mem ((c.tc : Thread Cert.DwoCtxKernelIdeal.nD Cert.DwoCtxKernelIdeal.τ).loc Cert.DwoCtxKernelIdeal.main_arg2) = m ((c.tc : Thread Cert.DwoCtxKernelIdeal.nD Cert.DwoCtxKernelIdeal.τ).loc Cert.DwoCtxKernelIdeal.main_arg2))
      ∧ r.2.sem = fun _ => 0)

def quiescent_DwoCtxReferenceIdeal [hDwoCtxReferenceIdeal : Cert.DwoCtxReferenceIdeal.Facts] : Prop :=
  ∀ (m : (ℓ : Loc Cert.DwoCtxReferenceIdeal.nD Cert.DwoCtxReferenceIdeal.τ Cert.DwoCtxReferenceIdeal.sig) → Buf (Elt Ideal) ℓ) (g : Dev Cert.DwoCtxReferenceIdeal.nD → PrngReg), Pre_DwoCtxReferenceIdeal m →
    θ_run (Cert.DwoCtxReferenceIdeal.defs (F := Ideal)) (onTc (τ := Cert.DwoCtxReferenceIdeal.τ) (Cert.DwoCtxReferenceIdeal.main (F := Ideal))) ⟨m, fun _ => 0, g⟩ (fun r => (∀ c : Dev Cert.DwoCtxReferenceIdeal.nD,
      r.2.mem ((c.tc : Thread Cert.DwoCtxReferenceIdeal.nD Cert.DwoCtxReferenceIdeal.τ).loc Cert.DwoCtxReferenceIdeal.main_arg0) = m ((c.tc : Thread Cert.DwoCtxReferenceIdeal.nD Cert.DwoCtxReferenceIdeal.τ).loc Cert.DwoCtxReferenceIdeal.main_arg0)
      ∧ r.2.mem ((c.tc : Thread Cert.DwoCtxReferenceIdeal.nD Cert.DwoCtxReferenceIdeal.τ).loc Cert.DwoCtxReferenceIdeal.main_arg1) = m ((c.tc : Thread Cert.DwoCtxReferenceIdeal.nD Cert.DwoCtxReferenceIdeal.τ).loc Cert.DwoCtxReferenceIdeal.main_arg1)
      ∧ r.2.mem ((c.tc : Thread Cert.DwoCtxReferenceIdeal.nD Cert.DwoCtxReferenceIdeal.τ).loc Cert.DwoCtxReferenceIdeal.main_arg2) = m ((c.tc : Thread Cert.DwoCtxReferenceIdeal.nD Cert.DwoCtxReferenceIdeal.τ).loc Cert.DwoCtxReferenceIdeal.main_arg2))
      ∧ r.2.sem = fun _ => 0)

def quiescent_DwiCtxKernel [hDwiCtxKernel : Cert.DwiCtxKernel.Facts] : Prop :=
  ∀ (m : (ℓ : Loc Cert.DwiCtxKernel.nD Cert.DwiCtxKernel.τ Cert.DwiCtxKernel.sig) → Buf (Elt Bits) ℓ) (g : Dev Cert.DwiCtxKernel.nD → PrngReg), Pre_DwiCtxKernel m →
    θ_run (Cert.DwiCtxKernel.defs (F := Bits)) (onTc (τ := Cert.DwiCtxKernel.τ) (Cert.DwiCtxKernel.main (F := Bits))) ⟨m, fun _ => 0, g⟩ (fun r => (∀ c : Dev Cert.DwiCtxKernel.nD,
      r.2.mem ((c.tc : Thread Cert.DwiCtxKernel.nD Cert.DwiCtxKernel.τ).loc Cert.DwiCtxKernel.main_arg0) = m ((c.tc : Thread Cert.DwiCtxKernel.nD Cert.DwiCtxKernel.τ).loc Cert.DwiCtxKernel.main_arg0)
      ∧ r.2.mem ((c.tc : Thread Cert.DwiCtxKernel.nD Cert.DwiCtxKernel.τ).loc Cert.DwiCtxKernel.main_arg1) = m ((c.tc : Thread Cert.DwiCtxKernel.nD Cert.DwiCtxKernel.τ).loc Cert.DwiCtxKernel.main_arg1)
      ∧ r.2.mem ((c.tc : Thread Cert.DwiCtxKernel.nD Cert.DwiCtxKernel.τ).loc Cert.DwiCtxKernel.main_arg2) = m ((c.tc : Thread Cert.DwiCtxKernel.nD Cert.DwiCtxKernel.τ).loc Cert.DwiCtxKernel.main_arg2)
      ∧ r.2.mem ((c.tc : Thread Cert.DwiCtxKernel.nD Cert.DwiCtxKernel.τ).loc Cert.DwiCtxKernel.main_arg3) = m ((c.tc : Thread Cert.DwiCtxKernel.nD Cert.DwiCtxKernel.τ).loc Cert.DwiCtxKernel.main_arg3))
      ∧ r.2.sem = fun _ => 0)

def quiescent_DwiCtxKernelIdeal [hDwiCtxKernelIdeal : Cert.DwiCtxKernelIdeal.Facts] : Prop :=
  ∀ (m : (ℓ : Loc Cert.DwiCtxKernelIdeal.nD Cert.DwiCtxKernelIdeal.τ Cert.DwiCtxKernelIdeal.sig) → Buf (Elt Ideal) ℓ) (g : Dev Cert.DwiCtxKernelIdeal.nD → PrngReg), Pre_DwiCtxKernelIdeal m →
    θ_run (Cert.DwiCtxKernelIdeal.defs (F := Ideal)) (onTc (τ := Cert.DwiCtxKernelIdeal.τ) (Cert.DwiCtxKernelIdeal.main (F := Ideal))) ⟨m, fun _ => 0, g⟩ (fun r => (∀ c : Dev Cert.DwiCtxKernelIdeal.nD,
      r.2.mem ((c.tc : Thread Cert.DwiCtxKernelIdeal.nD Cert.DwiCtxKernelIdeal.τ).loc Cert.DwiCtxKernelIdeal.main_arg0) = m ((c.tc : Thread Cert.DwiCtxKernelIdeal.nD Cert.DwiCtxKernelIdeal.τ).loc Cert.DwiCtxKernelIdeal.main_arg0)
      ∧ r.2.mem ((c.tc : Thread Cert.DwiCtxKernelIdeal.nD Cert.DwiCtxKernelIdeal.τ).loc Cert.DwiCtxKernelIdeal.main_arg1) = m ((c.tc : Thread Cert.DwiCtxKernelIdeal.nD Cert.DwiCtxKernelIdeal.τ).loc Cert.DwiCtxKernelIdeal.main_arg1)
      ∧ r.2.mem ((c.tc : Thread Cert.DwiCtxKernelIdeal.nD Cert.DwiCtxKernelIdeal.τ).loc Cert.DwiCtxKernelIdeal.main_arg2) = m ((c.tc : Thread Cert.DwiCtxKernelIdeal.nD Cert.DwiCtxKernelIdeal.τ).loc Cert.DwiCtxKernelIdeal.main_arg2)
      ∧ r.2.mem ((c.tc : Thread Cert.DwiCtxKernelIdeal.nD Cert.DwiCtxKernelIdeal.τ).loc Cert.DwiCtxKernelIdeal.main_arg3) = m ((c.tc : Thread Cert.DwiCtxKernelIdeal.nD Cert.DwiCtxKernelIdeal.τ).loc Cert.DwiCtxKernelIdeal.main_arg3))
      ∧ r.2.sem = fun _ => 0)

def quiescent_DwiCtxReferenceIdeal [hDwiCtxReferenceIdeal : Cert.DwiCtxReferenceIdeal.Facts] : Prop :=
  ∀ (m : (ℓ : Loc Cert.DwiCtxReferenceIdeal.nD Cert.DwiCtxReferenceIdeal.τ Cert.DwiCtxReferenceIdeal.sig) → Buf (Elt Ideal) ℓ) (g : Dev Cert.DwiCtxReferenceIdeal.nD → PrngReg), Pre_DwiCtxReferenceIdeal m →
    θ_run (Cert.DwiCtxReferenceIdeal.defs (F := Ideal)) (onTc (τ := Cert.DwiCtxReferenceIdeal.τ) (Cert.DwiCtxReferenceIdeal.main (F := Ideal))) ⟨m, fun _ => 0, g⟩ (fun r => (∀ c : Dev Cert.DwiCtxReferenceIdeal.nD,
      r.2.mem ((c.tc : Thread Cert.DwiCtxReferenceIdeal.nD Cert.DwiCtxReferenceIdeal.τ).loc Cert.DwiCtxReferenceIdeal.main_arg0) = m ((c.tc : Thread Cert.DwiCtxReferenceIdeal.nD Cert.DwiCtxReferenceIdeal.τ).loc Cert.DwiCtxReferenceIdeal.main_arg0)
      ∧ r.2.mem ((c.tc : Thread Cert.DwiCtxReferenceIdeal.nD Cert.DwiCtxReferenceIdeal.τ).loc Cert.DwiCtxReferenceIdeal.main_arg1) = m ((c.tc : Thread Cert.DwiCtxReferenceIdeal.nD Cert.DwiCtxReferenceIdeal.τ).loc Cert.DwiCtxReferenceIdeal.main_arg1)
      ∧ r.2.mem ((c.tc : Thread Cert.DwiCtxReferenceIdeal.nD Cert.DwiCtxReferenceIdeal.τ).loc Cert.DwiCtxReferenceIdeal.main_arg2) = m ((c.tc : Thread Cert.DwiCtxReferenceIdeal.nD Cert.DwiCtxReferenceIdeal.τ).loc Cert.DwiCtxReferenceIdeal.main_arg2)
      ∧ r.2.mem ((c.tc : Thread Cert.DwiCtxReferenceIdeal.nD Cert.DwiCtxReferenceIdeal.τ).loc Cert.DwiCtxReferenceIdeal.main_arg3) = m ((c.tc : Thread Cert.DwiCtxReferenceIdeal.nD Cert.DwiCtxReferenceIdeal.τ).loc Cert.DwiCtxReferenceIdeal.main_arg3))
      ∧ r.2.sem = fun _ => 0)

def quiescent_AdamWiKernel [hAdamWiKernel : Cert.AdamWiKernel.Facts] : Prop :=
  ∀ (m : (ℓ : Loc Cert.AdamWiKernel.nD Cert.AdamWiKernel.τ Cert.AdamWiKernel.sig) → Buf (Elt Bits) ℓ) (g : Dev Cert.AdamWiKernel.nD → PrngReg), Pre_AdamWiKernel m →
    θ_run (Cert.AdamWiKernel.defs (F := Bits)) (onTc (τ := Cert.AdamWiKernel.τ) (Cert.AdamWiKernel.main (F := Bits))) ⟨m, fun _ => 0, g⟩ (fun r => (∀ c : Dev Cert.AdamWiKernel.nD,
      r.2.mem ((c.tc : Thread Cert.AdamWiKernel.nD Cert.AdamWiKernel.τ).loc Cert.AdamWiKernel.main_arg0) = m ((c.tc : Thread Cert.AdamWiKernel.nD Cert.AdamWiKernel.τ).loc Cert.AdamWiKernel.main_arg0)
      ∧ r.2.mem ((c.tc : Thread Cert.AdamWiKernel.nD Cert.AdamWiKernel.τ).loc Cert.AdamWiKernel.main_arg1) = m ((c.tc : Thread Cert.AdamWiKernel.nD Cert.AdamWiKernel.τ).loc Cert.AdamWiKernel.main_arg1)
      ∧ r.2.mem ((c.tc : Thread Cert.AdamWiKernel.nD Cert.AdamWiKernel.τ).loc Cert.AdamWiKernel.main_arg2) = m ((c.tc : Thread Cert.AdamWiKernel.nD Cert.AdamWiKernel.τ).loc Cert.AdamWiKernel.main_arg2)
      ∧ r.2.mem ((c.tc : Thread Cert.AdamWiKernel.nD Cert.AdamWiKernel.τ).loc Cert.AdamWiKernel.main_arg3) = m ((c.tc : Thread Cert.AdamWiKernel.nD Cert.AdamWiKernel.τ).loc Cert.AdamWiKernel.main_arg3))
      ∧ r.2.sem = fun _ => 0)

def quiescent_AdamWiKernelIdeal [hAdamWiKernelIdeal : Cert.AdamWiKernelIdeal.Facts] : Prop :=
  ∀ (m : (ℓ : Loc Cert.AdamWiKernelIdeal.nD Cert.AdamWiKernelIdeal.τ Cert.AdamWiKernelIdeal.sig) → Buf (Elt Ideal) ℓ) (g : Dev Cert.AdamWiKernelIdeal.nD → PrngReg), Pre_AdamWiKernelIdeal m →
    θ_run (Cert.AdamWiKernelIdeal.defs (F := Ideal)) (onTc (τ := Cert.AdamWiKernelIdeal.τ) (Cert.AdamWiKernelIdeal.main (F := Ideal))) ⟨m, fun _ => 0, g⟩ (fun r => (∀ c : Dev Cert.AdamWiKernelIdeal.nD,
      r.2.mem ((c.tc : Thread Cert.AdamWiKernelIdeal.nD Cert.AdamWiKernelIdeal.τ).loc Cert.AdamWiKernelIdeal.main_arg0) = m ((c.tc : Thread Cert.AdamWiKernelIdeal.nD Cert.AdamWiKernelIdeal.τ).loc Cert.AdamWiKernelIdeal.main_arg0)
      ∧ r.2.mem ((c.tc : Thread Cert.AdamWiKernelIdeal.nD Cert.AdamWiKernelIdeal.τ).loc Cert.AdamWiKernelIdeal.main_arg1) = m ((c.tc : Thread Cert.AdamWiKernelIdeal.nD Cert.AdamWiKernelIdeal.τ).loc Cert.AdamWiKernelIdeal.main_arg1)
      ∧ r.2.mem ((c.tc : Thread Cert.AdamWiKernelIdeal.nD Cert.AdamWiKernelIdeal.τ).loc Cert.AdamWiKernelIdeal.main_arg2) = m ((c.tc : Thread Cert.AdamWiKernelIdeal.nD Cert.AdamWiKernelIdeal.τ).loc Cert.AdamWiKernelIdeal.main_arg2)
      ∧ r.2.mem ((c.tc : Thread Cert.AdamWiKernelIdeal.nD Cert.AdamWiKernelIdeal.τ).loc Cert.AdamWiKernelIdeal.main_arg3) = m ((c.tc : Thread Cert.AdamWiKernelIdeal.nD Cert.AdamWiKernelIdeal.τ).loc Cert.AdamWiKernelIdeal.main_arg3))
      ∧ r.2.sem = fun _ => 0)

def quiescent_AdamWiReferenceIdeal [hAdamWiReferenceIdeal : Cert.AdamWiReferenceIdeal.Facts] : Prop :=
  ∀ (m : (ℓ : Loc Cert.AdamWiReferenceIdeal.nD Cert.AdamWiReferenceIdeal.τ Cert.AdamWiReferenceIdeal.sig) → Buf (Elt Ideal) ℓ) (g : Dev Cert.AdamWiReferenceIdeal.nD → PrngReg), Pre_AdamWiReferenceIdeal m →
    θ_run (Cert.AdamWiReferenceIdeal.defs (F := Ideal)) (onTc (τ := Cert.AdamWiReferenceIdeal.τ) (Cert.AdamWiReferenceIdeal.main (F := Ideal))) ⟨m, fun _ => 0, g⟩ (fun r => (∀ c : Dev Cert.AdamWiReferenceIdeal.nD,
      r.2.mem ((c.tc : Thread Cert.AdamWiReferenceIdeal.nD Cert.AdamWiReferenceIdeal.τ).loc Cert.AdamWiReferenceIdeal.main_arg0) = m ((c.tc : Thread Cert.AdamWiReferenceIdeal.nD Cert.AdamWiReferenceIdeal.τ).loc Cert.AdamWiReferenceIdeal.main_arg0)
      ∧ r.2.mem ((c.tc : Thread Cert.AdamWiReferenceIdeal.nD Cert.AdamWiReferenceIdeal.τ).loc Cert.AdamWiReferenceIdeal.main_arg1) = m ((c.tc : Thread Cert.AdamWiReferenceIdeal.nD Cert.AdamWiReferenceIdeal.τ).loc Cert.AdamWiReferenceIdeal.main_arg1)
      ∧ r.2.mem ((c.tc : Thread Cert.AdamWiReferenceIdeal.nD Cert.AdamWiReferenceIdeal.τ).loc Cert.AdamWiReferenceIdeal.main_arg2) = m ((c.tc : Thread Cert.AdamWiReferenceIdeal.nD Cert.AdamWiReferenceIdeal.τ).loc Cert.AdamWiReferenceIdeal.main_arg2)
      ∧ r.2.mem ((c.tc : Thread Cert.AdamWiReferenceIdeal.nD Cert.AdamWiReferenceIdeal.τ).loc Cert.AdamWiReferenceIdeal.main_arg3) = m ((c.tc : Thread Cert.AdamWiReferenceIdeal.nD Cert.AdamWiReferenceIdeal.τ).loc Cert.AdamWiReferenceIdeal.main_arg3))
      ∧ r.2.sem = fun _ => 0)

def quiescent_AdamWoKernel [hAdamWoKernel : Cert.AdamWoKernel.Facts] : Prop :=
  ∀ (m : (ℓ : Loc Cert.AdamWoKernel.nD Cert.AdamWoKernel.τ Cert.AdamWoKernel.sig) → Buf (Elt Bits) ℓ) (g : Dev Cert.AdamWoKernel.nD → PrngReg), Pre_AdamWoKernel m →
    θ_run (Cert.AdamWoKernel.defs (F := Bits)) (onTc (τ := Cert.AdamWoKernel.τ) (Cert.AdamWoKernel.main (F := Bits))) ⟨m, fun _ => 0, g⟩ (fun r => (∀ c : Dev Cert.AdamWoKernel.nD,
      r.2.mem ((c.tc : Thread Cert.AdamWoKernel.nD Cert.AdamWoKernel.τ).loc Cert.AdamWoKernel.main_arg0) = m ((c.tc : Thread Cert.AdamWoKernel.nD Cert.AdamWoKernel.τ).loc Cert.AdamWoKernel.main_arg0)
      ∧ r.2.mem ((c.tc : Thread Cert.AdamWoKernel.nD Cert.AdamWoKernel.τ).loc Cert.AdamWoKernel.main_arg1) = m ((c.tc : Thread Cert.AdamWoKernel.nD Cert.AdamWoKernel.τ).loc Cert.AdamWoKernel.main_arg1)
      ∧ r.2.mem ((c.tc : Thread Cert.AdamWoKernel.nD Cert.AdamWoKernel.τ).loc Cert.AdamWoKernel.main_arg2) = m ((c.tc : Thread Cert.AdamWoKernel.nD Cert.AdamWoKernel.τ).loc Cert.AdamWoKernel.main_arg2)
      ∧ r.2.mem ((c.tc : Thread Cert.AdamWoKernel.nD Cert.AdamWoKernel.τ).loc Cert.AdamWoKernel.main_arg3) = m ((c.tc : Thread Cert.AdamWoKernel.nD Cert.AdamWoKernel.τ).loc Cert.AdamWoKernel.main_arg3))
      ∧ r.2.sem = fun _ => 0)

def quiescent_AdamWoKernelIdeal [hAdamWoKernelIdeal : Cert.AdamWoKernelIdeal.Facts] : Prop :=
  ∀ (m : (ℓ : Loc Cert.AdamWoKernelIdeal.nD Cert.AdamWoKernelIdeal.τ Cert.AdamWoKernelIdeal.sig) → Buf (Elt Ideal) ℓ) (g : Dev Cert.AdamWoKernelIdeal.nD → PrngReg), Pre_AdamWoKernelIdeal m →
    θ_run (Cert.AdamWoKernelIdeal.defs (F := Ideal)) (onTc (τ := Cert.AdamWoKernelIdeal.τ) (Cert.AdamWoKernelIdeal.main (F := Ideal))) ⟨m, fun _ => 0, g⟩ (fun r => (∀ c : Dev Cert.AdamWoKernelIdeal.nD,
      r.2.mem ((c.tc : Thread Cert.AdamWoKernelIdeal.nD Cert.AdamWoKernelIdeal.τ).loc Cert.AdamWoKernelIdeal.main_arg0) = m ((c.tc : Thread Cert.AdamWoKernelIdeal.nD Cert.AdamWoKernelIdeal.τ).loc Cert.AdamWoKernelIdeal.main_arg0)
      ∧ r.2.mem ((c.tc : Thread Cert.AdamWoKernelIdeal.nD Cert.AdamWoKernelIdeal.τ).loc Cert.AdamWoKernelIdeal.main_arg1) = m ((c.tc : Thread Cert.AdamWoKernelIdeal.nD Cert.AdamWoKernelIdeal.τ).loc Cert.AdamWoKernelIdeal.main_arg1)
      ∧ r.2.mem ((c.tc : Thread Cert.AdamWoKernelIdeal.nD Cert.AdamWoKernelIdeal.τ).loc Cert.AdamWoKernelIdeal.main_arg2) = m ((c.tc : Thread Cert.AdamWoKernelIdeal.nD Cert.AdamWoKernelIdeal.τ).loc Cert.AdamWoKernelIdeal.main_arg2)
      ∧ r.2.mem ((c.tc : Thread Cert.AdamWoKernelIdeal.nD Cert.AdamWoKernelIdeal.τ).loc Cert.AdamWoKernelIdeal.main_arg3) = m ((c.tc : Thread Cert.AdamWoKernelIdeal.nD Cert.AdamWoKernelIdeal.τ).loc Cert.AdamWoKernelIdeal.main_arg3))
      ∧ r.2.sem = fun _ => 0)

def quiescent_AdamWoReferenceIdeal [hAdamWoReferenceIdeal : Cert.AdamWoReferenceIdeal.Facts] : Prop :=
  ∀ (m : (ℓ : Loc Cert.AdamWoReferenceIdeal.nD Cert.AdamWoReferenceIdeal.τ Cert.AdamWoReferenceIdeal.sig) → Buf (Elt Ideal) ℓ) (g : Dev Cert.AdamWoReferenceIdeal.nD → PrngReg), Pre_AdamWoReferenceIdeal m →
    θ_run (Cert.AdamWoReferenceIdeal.defs (F := Ideal)) (onTc (τ := Cert.AdamWoReferenceIdeal.τ) (Cert.AdamWoReferenceIdeal.main (F := Ideal))) ⟨m, fun _ => 0, g⟩ (fun r => (∀ c : Dev Cert.AdamWoReferenceIdeal.nD,
      r.2.mem ((c.tc : Thread Cert.AdamWoReferenceIdeal.nD Cert.AdamWoReferenceIdeal.τ).loc Cert.AdamWoReferenceIdeal.main_arg0) = m ((c.tc : Thread Cert.AdamWoReferenceIdeal.nD Cert.AdamWoReferenceIdeal.τ).loc Cert.AdamWoReferenceIdeal.main_arg0)
      ∧ r.2.mem ((c.tc : Thread Cert.AdamWoReferenceIdeal.nD Cert.AdamWoReferenceIdeal.τ).loc Cert.AdamWoReferenceIdeal.main_arg1) = m ((c.tc : Thread Cert.AdamWoReferenceIdeal.nD Cert.AdamWoReferenceIdeal.τ).loc Cert.AdamWoReferenceIdeal.main_arg1)
      ∧ r.2.mem ((c.tc : Thread Cert.AdamWoReferenceIdeal.nD Cert.AdamWoReferenceIdeal.τ).loc Cert.AdamWoReferenceIdeal.main_arg2) = m ((c.tc : Thread Cert.AdamWoReferenceIdeal.nD Cert.AdamWoReferenceIdeal.τ).loc Cert.AdamWoReferenceIdeal.main_arg2)
      ∧ r.2.mem ((c.tc : Thread Cert.AdamWoReferenceIdeal.nD Cert.AdamWoReferenceIdeal.τ).loc Cert.AdamWoReferenceIdeal.main_arg3) = m ((c.tc : Thread Cert.AdamWoReferenceIdeal.nD Cert.AdamWoReferenceIdeal.τ).loc Cert.AdamWoReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamPoolKernel [hAdamPoolKernel : Cert.AdamPoolKernel.Facts] : Prop :=
  ∀ (m : (ℓ : Loc Cert.AdamPoolKernel.nD Cert.AdamPoolKernel.τ Cert.AdamPoolKernel.sig) → Buf (Elt Bits) ℓ) (g : Dev Cert.AdamPoolKernel.nD → PrngReg), Pre_AdamPoolKernel m →
    θ_run (Cert.AdamPoolKernel.defs (F := Bits)) (onTc (τ := Cert.AdamPoolKernel.τ) (Cert.AdamPoolKernel.main (F := Bits))) ⟨m, fun _ => 0, g⟩ (fun r => (∀ c : Dev Cert.AdamPoolKernel.nD,
      r.2.mem ((c.tc : Thread Cert.AdamPoolKernel.nD Cert.AdamPoolKernel.τ).loc Cert.AdamPoolKernel.main_arg0) = m ((c.tc : Thread Cert.AdamPoolKernel.nD Cert.AdamPoolKernel.τ).loc Cert.AdamPoolKernel.main_arg0)
      ∧ r.2.mem ((c.tc : Thread Cert.AdamPoolKernel.nD Cert.AdamPoolKernel.τ).loc Cert.AdamPoolKernel.main_arg1) = m ((c.tc : Thread Cert.AdamPoolKernel.nD Cert.AdamPoolKernel.τ).loc Cert.AdamPoolKernel.main_arg1)
      ∧ r.2.mem ((c.tc : Thread Cert.AdamPoolKernel.nD Cert.AdamPoolKernel.τ).loc Cert.AdamPoolKernel.main_arg2) = m ((c.tc : Thread Cert.AdamPoolKernel.nD Cert.AdamPoolKernel.τ).loc Cert.AdamPoolKernel.main_arg2)
      ∧ r.2.mem ((c.tc : Thread Cert.AdamPoolKernel.nD Cert.AdamPoolKernel.τ).loc Cert.AdamPoolKernel.main_arg3) = m ((c.tc : Thread Cert.AdamPoolKernel.nD Cert.AdamPoolKernel.τ).loc Cert.AdamPoolKernel.main_arg3))
      ∧ r.2.sem = fun _ => 0)

def quiescent_AdamPoolKernelIdeal [hAdamPoolKernelIdeal : Cert.AdamPoolKernelIdeal.Facts] : Prop :=
  ∀ (m : (ℓ : Loc Cert.AdamPoolKernelIdeal.nD Cert.AdamPoolKernelIdeal.τ Cert.AdamPoolKernelIdeal.sig) → Buf (Elt Ideal) ℓ) (g : Dev Cert.AdamPoolKernelIdeal.nD → PrngReg), Pre_AdamPoolKernelIdeal m →
    θ_run (Cert.AdamPoolKernelIdeal.defs (F := Ideal)) (onTc (τ := Cert.AdamPoolKernelIdeal.τ) (Cert.AdamPoolKernelIdeal.main (F := Ideal))) ⟨m, fun _ => 0, g⟩ (fun r => (∀ c : Dev Cert.AdamPoolKernelIdeal.nD,
      r.2.mem ((c.tc : Thread Cert.AdamPoolKernelIdeal.nD Cert.AdamPoolKernelIdeal.τ).loc Cert.AdamPoolKernelIdeal.main_arg0) = m ((c.tc : Thread Cert.AdamPoolKernelIdeal.nD Cert.AdamPoolKernelIdeal.τ).loc Cert.AdamPoolKernelIdeal.main_arg0)
      ∧ r.2.mem ((c.tc : Thread Cert.AdamPoolKernelIdeal.nD Cert.AdamPoolKernelIdeal.τ).loc Cert.AdamPoolKernelIdeal.main_arg1) = m ((c.tc : Thread Cert.AdamPoolKernelIdeal.nD Cert.AdamPoolKernelIdeal.τ).loc Cert.AdamPoolKernelIdeal.main_arg1)
      ∧ r.2.mem ((c.tc : Thread Cert.AdamPoolKernelIdeal.nD Cert.AdamPoolKernelIdeal.τ).loc Cert.AdamPoolKernelIdeal.main_arg2) = m ((c.tc : Thread Cert.AdamPoolKernelIdeal.nD Cert.AdamPoolKernelIdeal.τ).loc Cert.AdamPoolKernelIdeal.main_arg2)
      ∧ r.2.mem ((c.tc : Thread Cert.AdamPoolKernelIdeal.nD Cert.AdamPoolKernelIdeal.τ).loc Cert.AdamPoolKernelIdeal.main_arg3) = m ((c.tc : Thread Cert.AdamPoolKernelIdeal.nD Cert.AdamPoolKernelIdeal.τ).loc Cert.AdamPoolKernelIdeal.main_arg3))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3))
      ∧ r.2.sem = fun _ => 0)

def quiescent_AdamModKernel [hAdamModKernel : Cert.AdamModKernel.Facts] : Prop :=
  ∀ (m : (ℓ : Loc Cert.AdamModKernel.nD Cert.AdamModKernel.τ Cert.AdamModKernel.sig) → Buf (Elt Bits) ℓ) (g : Dev Cert.AdamModKernel.nD → PrngReg), Pre_AdamModKernel m →
    θ_run (Cert.AdamModKernel.defs (F := Bits)) (onTc (τ := Cert.AdamModKernel.τ) (Cert.AdamModKernel.main (F := Bits))) ⟨m, fun _ => 0, g⟩ (fun r => (∀ c : Dev Cert.AdamModKernel.nD,
      r.2.mem ((c.tc : Thread Cert.AdamModKernel.nD Cert.AdamModKernel.τ).loc Cert.AdamModKernel.main_arg0) = m ((c.tc : Thread Cert.AdamModKernel.nD Cert.AdamModKernel.τ).loc Cert.AdamModKernel.main_arg0)
      ∧ r.2.mem ((c.tc : Thread Cert.AdamModKernel.nD Cert.AdamModKernel.τ).loc Cert.AdamModKernel.main_arg1) = m ((c.tc : Thread Cert.AdamModKernel.nD Cert.AdamModKernel.τ).loc Cert.AdamModKernel.main_arg1)
      ∧ r.2.mem ((c.tc : Thread Cert.AdamModKernel.nD Cert.AdamModKernel.τ).loc Cert.AdamModKernel.main_arg2) = m ((c.tc : Thread Cert.AdamModKernel.nD Cert.AdamModKernel.τ).loc Cert.AdamModKernel.main_arg2)
      ∧ r.2.mem ((c.tc : Thread Cert.AdamModKernel.nD Cert.AdamModKernel.τ).loc Cert.AdamModKernel.main_arg3) = m ((c.tc : Thread Cert.AdamModKernel.nD Cert.AdamModKernel.τ).loc Cert.AdamModKernel.main_arg3))
      ∧ r.2.sem = fun _ => 0)

def quiescent_AdamModKernelIdeal [hAdamModKernelIdeal : Cert.AdamModKernelIdeal.Facts] : Prop :=
  ∀ (m : (ℓ : Loc Cert.AdamModKernelIdeal.nD Cert.AdamModKernelIdeal.τ Cert.AdamModKernelIdeal.sig) → Buf (Elt Ideal) ℓ) (g : Dev Cert.AdamModKernelIdeal.nD → PrngReg), Pre_AdamModKernelIdeal m →
    θ_run (Cert.AdamModKernelIdeal.defs (F := Ideal)) (onTc (τ := Cert.AdamModKernelIdeal.τ) (Cert.AdamModKernelIdeal.main (F := Ideal))) ⟨m, fun _ => 0, g⟩ (fun r => (∀ c : Dev Cert.AdamModKernelIdeal.nD,
      r.2.mem ((c.tc : Thread Cert.AdamModKernelIdeal.nD Cert.AdamModKernelIdeal.τ).loc Cert.AdamModKernelIdeal.main_arg0) = m ((c.tc : Thread Cert.AdamModKernelIdeal.nD Cert.AdamModKernelIdeal.τ).loc Cert.AdamModKernelIdeal.main_arg0)
      ∧ r.2.mem ((c.tc : Thread Cert.AdamModKernelIdeal.nD Cert.AdamModKernelIdeal.τ).loc Cert.AdamModKernelIdeal.main_arg1) = m ((c.tc : Thread Cert.AdamModKernelIdeal.nD Cert.AdamModKernelIdeal.τ).loc Cert.AdamModKernelIdeal.main_arg1)
      ∧ r.2.mem ((c.tc : Thread Cert.AdamModKernelIdeal.nD Cert.AdamModKernelIdeal.τ).loc Cert.AdamModKernelIdeal.main_arg2) = m ((c.tc : Thread Cert.AdamModKernelIdeal.nD Cert.AdamModKernelIdeal.τ).loc Cert.AdamModKernelIdeal.main_arg2)
      ∧ r.2.mem ((c.tc : Thread Cert.AdamModKernelIdeal.nD Cert.AdamModKernelIdeal.τ).loc Cert.AdamModKernelIdeal.main_arg3) = m ((c.tc : Thread Cert.AdamModKernelIdeal.nD Cert.AdamModKernelIdeal.τ).loc Cert.AdamModKernelIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3)
      ∧ r.2.mem ((c.tc : Thread Cert.AdamSmallKernel.nD Cert.AdamSmallKernel.τ).loc Cert.AdamSmallKernel.main_arg4) = m ((c.tc : Thread Cert.AdamSmallKernel.nD Cert.AdamSmallKernel.τ).loc Cert.AdamSmallKernel.main_arg4)
      ∧ r.2.mem ((c.tc : Thread Cert.AdamSmallKernel.nD Cert.AdamSmallKernel.τ).loc Cert.AdamSmallKernel.main_arg5) = m ((c.tc : Thread Cert.AdamSmallKernel.nD Cert.AdamSmallKernel.τ).loc Cert.AdamSmallKernel.main_arg5)
      ∧ r.2.mem ((c.tc : Thread Cert.AdamSmallKernel.nD Cert.AdamSmallKernel.τ).loc Cert.AdamSmallKernel.main_arg6) = m ((c.tc : Thread Cert.AdamSmallKernel.nD Cert.AdamSmallKernel.τ).loc Cert.AdamSmallKernel.main_arg6)
      ∧ r.2.mem ((c.tc : Thread Cert.AdamSmallKernel.nD Cert.AdamSmallKernel.τ).loc Cert.AdamSmallKernel.main_arg7) = m ((c.tc : Thread Cert.AdamSmallKernel.nD Cert.AdamSmallKernel.τ).loc Cert.AdamSmallKernel.main_arg7)
      ∧ r.2.mem ((c.tc : Thread Cert.AdamSmallKernel.nD Cert.AdamSmallKernel.τ).loc Cert.AdamSmallKernel.main_arg8) = m ((c.tc : Thread Cert.AdamSmallKernel.nD Cert.AdamSmallKernel.τ).loc Cert.AdamSmallKernel.main_arg8)
      ∧ r.2.mem ((c.tc : Thread Cert.AdamSmallKernel.nD Cert.AdamSmallKernel.τ).loc Cert.AdamSmallKernel.main_arg9) = m ((c.tc : Thread Cert.AdamSmallKernel.nD Cert.AdamSmallKernel.τ).loc Cert.AdamSmallKernel.main_arg9)
      ∧ r.2.mem ((c.tc : Thread Cert.AdamSmallKernel.nD Cert.AdamSmallKernel.τ).loc Cert.AdamSmallKernel.main_arg10) = m ((c.tc : Thread Cert.AdamSmallKernel.nD Cert.AdamSmallKernel.τ).loc Cert.AdamSmallKernel.main_arg10)
      ∧ r.2.mem ((c.tc : Thread Cert.AdamSmallKernel.nD Cert.AdamSmallKernel.τ).loc Cert.AdamSmallKernel.main_arg11) = m ((c.tc : Thread Cert.AdamSmallKernel.nD Cert.AdamSmallKernel.τ).loc Cert.AdamSmallKernel.main_arg11)
      ∧ r.2.mem ((c.tc : Thread Cert.AdamSmallKernel.nD Cert.AdamSmallKernel.τ).loc Cert.AdamSmallKernel.main_arg12) = m ((c.tc : Thread Cert.AdamSmallKernel.nD Cert.AdamSmallKernel.τ).loc Cert.AdamSmallKernel.main_arg12)
      ∧ r.2.mem ((c.tc : Thread Cert.AdamSmallKernel.nD Cert.AdamSmallKernel.τ).loc Cert.AdamSmallKernel.main_arg13) = m ((c.tc : Thread Cert.AdamSmallKernel.nD Cert.AdamSmallKernel.τ).loc Cert.AdamSmallKernel.main_arg13)
      ∧ r.2.mem ((c.tc : Thread Cert.AdamSmallKernel.nD Cert.AdamSmallKernel.τ).loc Cert.AdamSmallKernel.main_arg14) = m ((c.tc : Thread Cert.AdamSmallKernel.nD Cert.AdamSmallKernel.τ).loc Cert.AdamSmallKernel.main_arg14)
      ∧ r.2.mem ((c.tc : Thread Cert.AdamSmallKernel.nD Cert.AdamSmallKernel.τ).loc Cert.AdamSmallKernel.main_arg15) = m ((c.tc : Thread Cert.AdamSmallKernel.nD Cert.AdamSmallKernel.τ).loc Cert.AdamSmallKernel.main_arg15)
      ∧ r.2.mem ((c.tc : Thread Cert.AdamSmallKernel.nD Cert.AdamSmallKernel.τ).loc Cert.AdamSmallKernel.main_arg16) = m ((c.tc : Thread Cert.AdamSmallKernel.nD Cert.AdamSmallKernel.τ).loc Cert.AdamSmallKernel.main_arg16)
      ∧ r.2.mem ((c.tc : Thread Cert.AdamSmallKernel.nD Cert.AdamSmallKernel.τ).loc Cert.AdamSmallKernel.main_arg17) = m ((c.tc : Thread Cert.AdamSmallKernel.nD Cert.AdamSmallKernel.τ).loc Cert.AdamSmallKernel.main_arg17)
      ∧ r.2.mem ((c.tc : Thread Cert.AdamSmallKernel.nD Cert.AdamSmallKernel.τ).loc Cert.AdamSmallKernel.main_arg18) = m ((c.tc : Thread Cert.AdamSmallKernel.nD Cert.AdamSmallKernel.τ).loc Cert.AdamSmallKernel.main_arg18)
      ∧ r.2.mem ((c.tc : Thread Cert.AdamSmallKernel.nD Cert.AdamSmallKernel.τ).loc Cert.AdamSmallKernel.main_arg19) = m ((c.tc : Thread Cert.AdamSmallKernel.nD Cert.AdamSmallKernel.τ).loc Cert.AdamSmallKernel.main_arg19)
      ∧ r.2.mem ((c.tc : Thread Cert.AdamSmallKernel.nD Cert.AdamSmallKernel.τ).loc Cert.AdamSmallKernel.main_arg20) = m ((c.tc : Thread Cert.AdamSmallKernel.nD Cert.AdamSmallKernel.τ).loc Cert.AdamSmallKernel.main_arg20)
      ∧ r.2.mem ((c.tc : Thread Cert.AdamSmallKernel.nD Cert.AdamSmallKernel.τ).loc Cert.AdamSmallKernel.main_arg21) = m ((c.tc : Thread Cert.AdamSmallKernel.nD Cert.AdamSmallKernel.τ).loc Cert.AdamSmallKernel.main_arg21)
      ∧ r.2.mem ((c.tc : Thread Cert.AdamSmallKernel.nD Cert.AdamSmallKernel.τ).loc Cert.AdamSmallKernel.main_arg22) = m ((c.tc : Thread Cert.AdamSmallKernel.nD Cert.AdamSmallKernel.τ).loc Cert.AdamSmallKernel.main_arg22)
      ∧ r.2.mem ((c.tc : Thread Cert.AdamSmallKernel.nD Cert.AdamSmallKernel.τ).loc Cert.AdamSmallKernel.main_arg23) = m ((c.tc : Thread Cert.AdamSmallKernel.nD Cert.AdamSmallKernel.τ).loc Cert.AdamSmallKernel.main_arg23)
      ∧ r.2.mem ((c.tc : Thread Cert.AdamSmallKernel.nD Cert.AdamSmallKernel.τ).loc Cert.AdamSmallKernel.main_arg24) = m ((c.tc : Thread Cert.AdamSmallKernel.nD Cert.AdamSmallKernel.τ).loc Cert.AdamSmallKernel.main_arg24)
      ∧ r.2.mem ((c.tc : Thread Cert.AdamSmallKernel.nD Cert.AdamSmallKernel.τ).loc Cert.AdamSmallKernel.main_arg25) = m ((c.tc : Thread Cert.AdamSmallKernel.nD Cert.AdamSmallKernel.τ).loc Cert.AdamSmallKernel.main_arg25)
      ∧ r.2.mem ((c.tc : Thread Cert.AdamSmallKernel.nD Cert.AdamSmallKernel.τ).loc Cert.AdamSmallKernel.main_arg26) = m ((c.tc : Thread Cert.AdamSmallKernel.nD Cert.AdamSmallKernel.τ).loc Cert.AdamSmallKernel.main_arg26)
      ∧ r.2.mem ((c.tc : Thread Cert.AdamSmallKernel.nD Cert.AdamSmallKernel.τ).loc Cert.AdamSmallKernel.main_arg27) = m ((c.tc : Thread Cert.AdamSmallKernel.nD Cert.AdamSmallKernel.τ).loc Cert.AdamSmallKernel.main_arg27)
      ∧ r.2.mem ((c.tc : Thread Cert.AdamSmallKernel.nD Cert.AdamSmallKernel.τ).loc Cert.AdamSmallKernel.main_arg28) = m ((c.tc : Thread Cert.AdamSmallKernel.nD Cert.AdamSmallKernel.τ).loc Cert.AdamSmallKernel.main_arg28)
      ∧ r.2.mem ((c.tc : Thread Cert.AdamSmallKernel.nD Cert.AdamSmallKernel.τ).loc Cert.AdamSmallKernel.main_arg29) = m ((c.tc : Thread Cert.AdamSmallKernel.nD Cert.AdamSmallKernel.τ).loc Cert.AdamSmallKernel.main_arg29)
      ∧ r.2.mem ((c.tc : Thread Cert.AdamSmallKernel.nD Cert.AdamSmallKernel.τ).loc Cert.AdamSmallKernel.main_arg30) = m ((c.tc : Thread Cert.AdamSmallKernel.nD Cert.AdamSmallKernel.τ).loc Cert.AdamSmallKernel.main_arg30)
      ∧ r.2.mem ((c.tc : Thread Cert.AdamSmallKernel.nD Cert.AdamSmallKernel.τ).loc Cert.AdamSmallKernel.main_arg31) = m ((c.tc : Thread Cert.AdamSmallKernel.nD Cert.AdamSmallKernel.τ).loc Cert.AdamSmallKernel.main_arg31)
      ∧ r.2.mem ((c.tc : Thread Cert.AdamSmallKernel.nD Cert.AdamSmallKernel.τ).loc Cert.AdamSmallKernel.main_arg32) = m ((c.tc : Thread Cert.AdamSmallKernel.nD Cert.AdamSmallKernel.τ).loc Cert.AdamSmallKernel.main_arg32)
      ∧ r.2.mem ((c.tc : Thread Cert.AdamSmallKernel.nD Cert.AdamSmallKernel.τ).loc Cert.AdamSmallKernel.main_arg33) = m ((c.tc : Thread Cert.AdamSmallKernel.nD Cert.AdamSmallKernel.τ).loc Cert.AdamSmallKernel.main_arg33)
      ∧ r.2.mem ((c.tc : Thread Cert.AdamSmallKernel.nD Cert.AdamSmallKernel.τ).loc Cert.AdamSmallKernel.main_arg34) = m ((c.tc : Thread Cert.AdamSmallKernel.nD Cert.AdamSmallKernel.τ).loc Cert.AdamSmallKernel.main_arg34)
      ∧ r.2.mem ((c.tc : Thread Cert.AdamSmallKernel.nD Cert.AdamSmallKernel.τ).loc Cert.AdamSmallKernel.main_arg35) = m ((c.tc : Thread Cert.AdamSmallKernel.nD Cert.AdamSmallKernel.τ).loc Cert.AdamSmallKernel.main_arg35)
      ∧ r.2.mem ((c.tc : Thread Cert.AdamSmallKernel.nD Cert.AdamSmallKernel.τ).loc Cert.AdamSmallKernel.main_arg36) = m ((c.tc : Thread Cert.AdamSmallKernel.nD Cert.AdamSmallKernel.τ).loc Cert.AdamSmallKernel.main_arg36)
      ∧ r.2.mem ((c.tc : Thread Cert.AdamSmallKernel.nD Cert.AdamSmallKernel.τ).loc Cert.AdamSmallKernel.main_arg37) = m ((c.tc : Thread Cert.AdamSmallKernel.nD Cert.AdamSmallKernel.τ).loc Cert.AdamSmallKernel.main_arg37)
      ∧ r.2.mem ((c.tc : Thread Cert.AdamSmallKernel.nD Cert.AdamSmallKernel.τ).loc Cert.AdamSmallKernel.main_arg38) = m ((c.tc : Thread Cert.AdamSmallKernel.nD Cert.AdamSmallKernel.τ).loc Cert.AdamSmallKernel.main_arg38)
      ∧ r.2.mem ((c.tc : Thread Cert.AdamSmallKernel.nD Cert.AdamSmallKernel.τ).loc Cert.AdamSmallKernel.main_arg39) = m ((c.tc : Thread Cert.AdamSmallKernel.nD Cert.AdamSmallKernel.τ).loc Cert.AdamSmallKernel.main_arg39)
      ∧ r.2.mem ((c.tc : Thread Cert.AdamSmallKernel.nD Cert.AdamSmallKernel.τ).loc Cert.AdamSmallKernel.main_arg40) = m ((c.tc : Thread Cert.AdamSmallKernel.nD Cert.AdamSmallKernel.τ).loc Cert.AdamSmallKernel.main_arg40)
      ∧ r.2.mem ((c.tc : Thread Cert.AdamSmallKernel.nD Cert.AdamSmallKernel.τ).loc Cert.AdamSmallKernel.main_arg41) = m ((c.tc : Thread Cert.AdamSmallKernel.nD Cert.AdamSmallKernel.τ).loc Cert.AdamSmallKernel.main_arg41)
      ∧ r.2.mem ((c.tc : Thread Cert.AdamSmallKernel.nD Cert.AdamSmallKernel.τ).loc Cert.AdamSmallKernel.main_arg42) = m ((c.tc : Thread Cert.AdamSmallKernel.nD Cert.AdamSmallKernel.τ).loc Cert.AdamSmallKernel.main_arg42)
      ∧ r.2.mem ((c.tc : Thread Cert.AdamSmallKernel.nD Cert.AdamSmallKernel.τ).loc Cert.AdamSmallKernel.main_arg43) = m ((c.tc : Thread Cert.AdamSmallKernel.nD Cert.AdamSmallKernel.τ).loc Cert.AdamSmallKernel.main_arg43))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
      ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
      ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
      ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
      ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
      ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
      ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
      ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
      ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
      ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
      ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
      ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
      ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
      ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
      ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
      ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
      ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
      ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
      ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
      ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
      ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
      ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
      ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
      ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
      ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
      ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
      ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
      ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
      ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31)
      ∧ r.2.mem ((c.tc : Thread Cert.AdamSmallKernelIdeal.nD Cert.AdamSmallKernelIdeal.τ).loc Cert.AdamSmallKernelIdeal.main_arg32) = m ((c.tc : Thread Cert.AdamSmallKernelIdeal.nD Cert.AdamSmallKernelIdeal.τ).loc Cert.AdamSmallKernelIdeal.main_arg32)
      ∧ r.2.mem ((c.tc : Thread Cert.AdamSmallKernelIdeal.nD Cert.AdamSmallKernelIdeal.τ).loc Cert.AdamSmallKernelIdeal.main_arg33) = m ((c.tc : Thread Cert.AdamSmallKernelIdeal.nD Cert.AdamSmallKernelIdeal.τ).loc Cert.AdamSmallKernelIdeal.main_arg33)
      ∧ r.2.mem ((c.tc : Thread Cert.AdamSmallKernelIdeal.nD Cert.AdamSmallKernelIdeal.τ).loc Cert.AdamSmallKernelIdeal.main_arg34) = m ((c.tc : Thread Cert.AdamSmallKernelIdeal.nD Cert.AdamSmallKernelIdeal.τ).loc Cert.AdamSmallKernelIdeal.main_arg34)
      ∧ r.2.mem ((c.tc : Thread Cert.AdamSmallKernelIdeal.nD Cert.AdamSmallKernelIdeal.τ).loc Cert.AdamSmallKernelIdeal.main_arg35) = m ((c.tc : Thread Cert.AdamSmallKernelIdeal.nD Cert.AdamSmallKernelIdeal.τ).loc Cert.AdamSmallKernelIdeal.main_arg35)
      ∧ r.2.mem ((c.tc : Thread Cert.AdamSmallKernelIdeal.nD Cert.AdamSmallKernelIdeal.τ).loc Cert.AdamSmallKernelIdeal.main_arg36) = m ((c.tc : Thread Cert.AdamSmallKernelIdeal.nD Cert.AdamSmallKernelIdeal.τ).loc Cert.AdamSmallKernelIdeal.main_arg36)
      ∧ r.2.mem ((c.tc : Thread Cert.AdamSmallKernelIdeal.nD Cert.AdamSmallKernelIdeal.τ).loc Cert.AdamSmallKernelIdeal.main_arg37) = m ((c.tc : Thread Cert.AdamSmallKernelIdeal.nD Cert.AdamSmallKernelIdeal.τ).loc Cert.AdamSmallKernelIdeal.main_arg37)
      ∧ r.2.mem ((c.tc : Thread Cert.AdamSmallKernelIdeal.nD Cert.AdamSmallKernelIdeal.τ).loc Cert.AdamSmallKernelIdeal.main_arg38) = m ((c.tc : Thread Cert.AdamSmallKernelIdeal.nD Cert.AdamSmallKernelIdeal.τ).loc Cert.AdamSmallKernelIdeal.main_arg38)
      ∧ r.2.mem ((c.tc : Thread Cert.AdamSmallKernelIdeal.nD Cert.AdamSmallKernelIdeal.τ).loc Cert.AdamSmallKernelIdeal.main_arg39) = m ((c.tc : Thread Cert.AdamSmallKernelIdeal.nD Cert.AdamSmallKernelIdeal.τ).loc Cert.AdamSmallKernelIdeal.main_arg39)
      ∧ r.2.mem ((c.tc : Thread Cert.AdamSmallKernelIdeal.nD Cert.AdamSmallKernelIdeal.τ).loc Cert.AdamSmallKernelIdeal.main_arg40) = m ((c.tc : Thread Cert.AdamSmallKernelIdeal.nD Cert.AdamSmallKernelIdeal.τ).loc Cert.AdamSmallKernelIdeal.main_arg40)
      ∧ r.2.mem ((c.tc : Thread Cert.AdamSmallKernelIdeal.nD Cert.AdamSmallKernelIdeal.τ).loc Cert.AdamSmallKernelIdeal.main_arg41) = m ((c.tc : Thread Cert.AdamSmallKernelIdeal.nD Cert.AdamSmallKernelIdeal.τ).loc Cert.AdamSmallKernelIdeal.main_arg41)
      ∧ r.2.mem ((c.tc : Thread Cert.AdamSmallKernelIdeal.nD Cert.AdamSmallKernelIdeal.τ).loc Cert.AdamSmallKernelIdeal.main_arg42) = m ((c.tc : Thread Cert.AdamSmallKernelIdeal.nD Cert.AdamSmallKernelIdeal.τ).loc Cert.AdamSmallKernelIdeal.main_arg42)
      ∧ r.2.mem ((c.tc : Thread Cert.AdamSmallKernelIdeal.nD Cert.AdamSmallKernelIdeal.τ).loc Cert.AdamSmallKernelIdeal.main_arg43) = m ((c.tc : Thread Cert.AdamSmallKernelIdeal.nD Cert.AdamSmallKernelIdeal.τ).loc Cert.AdamSmallKernelIdeal.main_arg43))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31)
      ∧ r.2.mem ((c.tc : Thread Cert.AdamSmallReferenceIdeal.nD Cert.AdamSmallReferenceIdeal.τ).loc Cert.AdamSmallReferenceIdeal.main_arg32) = m ((c.tc : Thread Cert.AdamSmallReferenceIdeal.nD Cert.AdamSmallReferenceIdeal.τ).loc Cert.AdamSmallReferenceIdeal.main_arg32)
      ∧ r.2.mem ((c.tc : Thread Cert.AdamSmallReferenceIdeal.nD Cert.AdamSmallReferenceIdeal.τ).loc Cert.AdamSmallReferenceIdeal.main_arg33) = m ((c.tc : Thread Cert.AdamSmallReferenceIdeal.nD Cert.AdamSmallReferenceIdeal.τ).loc Cert.AdamSmallReferenceIdeal.main_arg33)
      ∧ r.2.mem ((c.tc : Thread Cert.AdamSmallReferenceIdeal.nD Cert.AdamSmallReferenceIdeal.τ).loc Cert.AdamSmallReferenceIdeal.main_arg34) = m ((c.tc : Thread Cert.AdamSmallReferenceIdeal.nD Cert.AdamSmallReferenceIdeal.τ).loc Cert.AdamSmallReferenceIdeal.main_arg34)
      ∧ r.2.mem ((c.tc : Thread Cert.AdamSmallReferenceIdeal.nD Cert.AdamSmallReferenceIdeal.τ).loc Cert.AdamSmallReferenceIdeal.main_arg35) = m ((c.tc : Thread Cert.AdamSmallReferenceIdeal.nD Cert.AdamSmallReferenceIdeal.τ).loc Cert.AdamSmallReferenceIdeal.main_arg35)
      ∧ r.2.mem ((c.tc : Thread Cert.AdamSmallReferenceIdeal.nD Cert.AdamSmallReferenceIdeal.τ).loc Cert.AdamSmallReferenceIdeal.main_arg36) = m ((c.tc : Thread Cert.AdamSmallReferenceIdeal.nD Cert.AdamSmallReferenceIdeal.τ).loc Cert.AdamSmallReferenceIdeal.main_arg36)
      ∧ r.2.mem ((c.tc : Thread Cert.AdamSmallReferenceIdeal.nD Cert.AdamSmallReferenceIdeal.τ).loc Cert.AdamSmallReferenceIdeal.main_arg37) = m ((c.tc : Thread Cert.AdamSmallReferenceIdeal.nD Cert.AdamSmallReferenceIdeal.τ).loc Cert.AdamSmallReferenceIdeal.main_arg37)
      ∧ r.2.mem ((c.tc : Thread Cert.AdamSmallReferenceIdeal.nD Cert.AdamSmallReferenceIdeal.τ).loc Cert.AdamSmallReferenceIdeal.main_arg38) = m ((c.tc : Thread Cert.AdamSmallReferenceIdeal.nD Cert.AdamSmallReferenceIdeal.τ).loc Cert.AdamSmallReferenceIdeal.main_arg38)
      ∧ r.2.mem ((c.tc : Thread Cert.AdamSmallReferenceIdeal.nD Cert.AdamSmallReferenceIdeal.τ).loc Cert.AdamSmallReferenceIdeal.main_arg39) = m ((c.tc : Thread Cert.AdamSmallReferenceIdeal.nD Cert.AdamSmallReferenceIdeal.τ).loc Cert.AdamSmallReferenceIdeal.main_arg39)
      ∧ r.2.mem ((c.tc : Thread Cert.AdamSmallReferenceIdeal.nD Cert.AdamSmallReferenceIdeal.τ).loc Cert.AdamSmallReferenceIdeal.main_arg40) = m ((c.tc : Thread Cert.AdamSmallReferenceIdeal.nD Cert.AdamSmallReferenceIdeal.τ).loc Cert.AdamSmallReferenceIdeal.main_arg40)
      ∧ r.2.mem ((c.tc : Thread Cert.AdamSmallReferenceIdeal.nD Cert.AdamSmallReferenceIdeal.τ).loc Cert.AdamSmallReferenceIdeal.main_arg41) = m ((c.tc : Thread Cert.AdamSmallReferenceIdeal.nD Cert.AdamSmallReferenceIdeal.τ).loc Cert.AdamSmallReferenceIdeal.main_arg41)
      ∧ r.2.mem ((c.tc : Thread Cert.AdamSmallReferenceIdeal.nD Cert.AdamSmallReferenceIdeal.τ).loc Cert.AdamSmallReferenceIdeal.main_arg42) = m ((c.tc : Thread Cert.AdamSmallReferenceIdeal.nD Cert.AdamSmallReferenceIdeal.τ).loc Cert.AdamSmallReferenceIdeal.main_arg42)
      ∧ r.2.mem ((c.tc : Thread Cert.AdamSmallReferenceIdeal.nD Cert.AdamSmallReferenceIdeal.τ).loc Cert.AdamSmallReferenceIdeal.main_arg43) = m ((c.tc : Thread Cert.AdamSmallReferenceIdeal.nD Cert.AdamSmallReferenceIdeal.τ).loc Cert.AdamSmallReferenceIdeal.main_arg43))
      ∧ r.2.sem = fun _ => 0)

def quiescent_SumSmallKernel [hSumSmallKernel : Cert.SumSmallKernel.Facts] : Prop :=
  ∀ (m : (ℓ : Loc Cert.SumSmallKernel.nD Cert.SumSmallKernel.τ Cert.SumSmallKernel.sig) → Buf (Elt Bits) ℓ) (g : Dev Cert.SumSmallKernel.nD → PrngReg), Pre_SumSmallKernel m →
    θ_run (Cert.SumSmallKernel.defs (F := Bits)) (onTc (τ := Cert.SumSmallKernel.τ) (Cert.SumSmallKernel.main (F := Bits))) ⟨m, fun _ => 0, g⟩ (fun r => (∀ c : Dev Cert.SumSmallKernel.nD,
      r.2.mem ((c.tc : Thread Cert.SumSmallKernel.nD Cert.SumSmallKernel.τ).loc Cert.SumSmallKernel.main_arg0) = m ((c.tc : Thread Cert.SumSmallKernel.nD Cert.SumSmallKernel.τ).loc Cert.SumSmallKernel.main_arg0)
      ∧ r.2.mem ((c.tc : Thread Cert.SumSmallKernel.nD Cert.SumSmallKernel.τ).loc Cert.SumSmallKernel.main_arg1) = m ((c.tc : Thread Cert.SumSmallKernel.nD Cert.SumSmallKernel.τ).loc Cert.SumSmallKernel.main_arg1)
      ∧ r.2.mem ((c.tc : Thread Cert.SumSmallKernel.nD Cert.SumSmallKernel.τ).loc Cert.SumSmallKernel.main_arg2) = m ((c.tc : Thread Cert.SumSmallKernel.nD Cert.SumSmallKernel.τ).loc Cert.SumSmallKernel.main_arg2)
      ∧ r.2.mem ((c.tc : Thread Cert.SumSmallKernel.nD Cert.SumSmallKernel.τ).loc Cert.SumSmallKernel.main_arg3) = m ((c.tc : Thread Cert.SumSmallKernel.nD Cert.SumSmallKernel.τ).loc Cert.SumSmallKernel.main_arg3)
      ∧ r.2.mem ((c.tc : Thread Cert.SumSmallKernel.nD Cert.SumSmallKernel.τ).loc Cert.SumSmallKernel.main_arg4) = m ((c.tc : Thread Cert.SumSmallKernel.nD Cert.SumSmallKernel.τ).loc Cert.SumSmallKernel.main_arg4)
      ∧ r.2.mem ((c.tc : Thread Cert.SumSmallKernel.nD Cert.SumSmallKernel.τ).loc Cert.SumSmallKernel.main_arg5) = m ((c.tc : Thread Cert.SumSmallKernel.nD Cert.SumSmallKernel.τ).loc Cert.SumSmallKernel.main_arg5)
      ∧ r.2.mem ((c.tc : Thread Cert.SumSmallKernel.nD Cert.SumSmallKernel.τ).loc Cert.SumSmallKernel.main_arg6) = m ((c.tc : Thread Cert.SumSmallKernel.nD Cert.SumSmallKernel.τ).loc Cert.SumSmallKernel.main_arg6)
      ∧ r.2.mem ((c.tc : Thread Cert.SumSmallKernel.nD Cert.SumSmallKernel.τ).loc Cert.SumSmallKernel.main_arg7) = m ((c.tc : Thread Cert.SumSmallKernel.nD Cert.SumSmallKernel.τ).loc Cert.SumSmallKernel.main_arg7)
      ∧ r.2.mem ((c.tc : Thread Cert.SumSmallKernel.nD Cert.SumSmallKernel.τ).loc Cert.SumSmallKernel.main_arg8) = m ((c.tc : Thread Cert.SumSmallKernel.nD Cert.SumSmallKernel.τ).loc Cert.SumSmallKernel.main_arg8)
      ∧ r.2.mem ((c.tc : Thread Cert.SumSmallKernel.nD Cert.SumSmallKernel.τ).loc Cert.SumSmallKernel.main_arg9) = m ((c.tc : Thread Cert.SumSmallKernel.nD Cert.SumSmallKernel.τ).loc Cert.SumSmallKernel.main_arg9)
      ∧ r.2.mem ((c.tc : Thread Cert.SumSmallKernel.nD Cert.SumSmallKernel.τ).loc Cert.SumSmallKernel.main_arg10) = m ((c.tc : Thread Cert.SumSmallKernel.nD Cert.SumSmallKernel.τ).loc Cert.SumSmallKernel.main_arg10)
      ∧ r.2.mem ((c.tc : Thread Cert.SumSmallKernel.nD Cert.SumSmallKernel.τ).loc Cert.SumSmallKernel.main_arg11) = m ((c.tc : Thread Cert.SumSmallKernel.nD Cert.SumSmallKernel.τ).loc Cert.SumSmallKernel.main_arg11))
      ∧ r.2.sem = fun _ => 0)

def quiescent_SumSmallKernelIdeal [hSumSmallKernelIdeal : Cert.SumSmallKernelIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg), Pre_SumSmallKernelIdeal m →
    θ_run (Cert.SumSmallKernelIdeal.defs (F := Ideal)) (onTc (τ := Cert.SumSmallKernelIdeal.τ) (Cert.SumSmallKernelIdeal.main (F := Ideal))) ⟨m, fun _ => 0, g⟩ (fun r => (∀ c : Dev Cert.SumSmallKernelIdeal.nD,
      r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0)
      ∧ r.2.mem ((c.tc : Thread Cert.SumSmallKernelIdeal.nD Cert.SumSmallKernelIdeal.τ).loc Cert.SumSmallKernelIdeal.main_arg1) = m ((c.tc : Thread Cert.SumSmallKernelIdeal.nD Cert.SumSmallKernelIdeal.τ).loc Cert.SumSmallKernelIdeal.main_arg1)
      ∧ r.2.mem ((c.tc : Thread Cert.SumSmallKernelIdeal.nD Cert.SumSmallKernelIdeal.τ).loc Cert.SumSmallKernelIdeal.main_arg2) = m ((c.tc : Thread Cert.SumSmallKernelIdeal.nD Cert.SumSmallKernelIdeal.τ).loc Cert.SumSmallKernelIdeal.main_arg2)
      ∧ r.2.mem ((c.tc : Thread Cert.SumSmallKernelIdeal.nD Cert.SumSmallKernelIdeal.τ).loc Cert.SumSmallKernelIdeal.main_arg3) = m ((c.tc : Thread Cert.SumSmallKernelIdeal.nD Cert.SumSmallKernelIdeal.τ).loc Cert.SumSmallKernelIdeal.main_arg3)
      ∧ r.2.mem ((c.tc : Thread Cert.SumSmallKernelIdeal.nD Cert.SumSmallKernelIdeal.τ).loc Cert.SumSmallKernelIdeal.main_arg4) = m ((c.tc : Thread Cert.SumSmallKernelIdeal.nD Cert.SumSmallKernelIdeal.τ).loc Cert.SumSmallKernelIdeal.main_arg4)
      ∧ r.2.mem ((c.tc : Thread Cert.SumSmallKernelIdeal.nD Cert.SumSmallKernelIdeal.τ).loc Cert.SumSmallKernelIdeal.main_arg5) = m ((c.tc : Thread Cert.SumSmallKernelIdeal.nD Cert.SumSmallKernelIdeal.τ).loc Cert.SumSmallKernelIdeal.main_arg5)
      ∧ r.2.mem ((c.tc : Thread Cert.SumSmallKernelIdeal.nD Cert.SumSmallKernelIdeal.τ).loc Cert.SumSmallKernelIdeal.main_arg6) = m ((c.tc : Thread Cert.SumSmallKernelIdeal.nD Cert.SumSmallKernelIdeal.τ).loc Cert.SumSmallKernelIdeal.main_arg6)
      ∧ r.2.mem ((c.tc : Thread Cert.SumSmallKernelIdeal.nD Cert.SumSmallKernelIdeal.τ).loc Cert.SumSmallKernelIdeal.main_arg7) = m ((c.tc : Thread Cert.SumSmallKernelIdeal.nD Cert.SumSmallKernelIdeal.τ).loc Cert.SumSmallKernelIdeal.main_arg7)
      ∧ r.2.mem ((c.tc : Thread Cert.SumSmallKernelIdeal.nD Cert.SumSmallKernelIdeal.τ).loc Cert.SumSmallKernelIdeal.main_arg8) = m ((c.tc : Thread Cert.SumSmallKernelIdeal.nD Cert.SumSmallKernelIdeal.τ).loc Cert.SumSmallKernelIdeal.main_arg8)
      ∧ r.2.mem ((c.tc : Thread Cert.SumSmallKernelIdeal.nD Cert.SumSmallKernelIdeal.τ).loc Cert.SumSmallKernelIdeal.main_arg9) = m ((c.tc : Thread Cert.SumSmallKernelIdeal.nD Cert.SumSmallKernelIdeal.τ).loc Cert.SumSmallKernelIdeal.main_arg9)
      ∧ r.2.mem ((c.tc : Thread Cert.SumSmallKernelIdeal.nD Cert.SumSmallKernelIdeal.τ).loc Cert.SumSmallKernelIdeal.main_arg10) = m ((c.tc : Thread Cert.SumSmallKernelIdeal.nD Cert.SumSmallKernelIdeal.τ).loc Cert.SumSmallKernelIdeal.main_arg10)
      ∧ r.2.mem ((c.tc : Thread Cert.SumSmallKernelIdeal.nD Cert.SumSmallKernelIdeal.τ).loc Cert.SumSmallKernelIdeal.main_arg11) = m ((c.tc : Thread Cert.SumSmallKernelIdeal.nD Cert.SumSmallKernelIdeal.τ).loc Cert.SumSmallKernelIdeal.main_arg11))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1)
      ∧ r.2.mem ((c.tc : Thread Cert.SumSmallReferenceIdeal.nD Cert.SumSmallReferenceIdeal.τ).loc Cert.SumSmallReferenceIdeal.main_arg2) = m ((c.tc : Thread Cert.SumSmallReferenceIdeal.nD Cert.SumSmallReferenceIdeal.τ).loc Cert.SumSmallReferenceIdeal.main_arg2)
      ∧ r.2.mem ((c.tc : Thread Cert.SumSmallReferenceIdeal.nD Cert.SumSmallReferenceIdeal.τ).loc Cert.SumSmallReferenceIdeal.main_arg3) = m ((c.tc : Thread Cert.SumSmallReferenceIdeal.nD Cert.SumSmallReferenceIdeal.τ).loc Cert.SumSmallReferenceIdeal.main_arg3)
      ∧ r.2.mem ((c.tc : Thread Cert.SumSmallReferenceIdeal.nD Cert.SumSmallReferenceIdeal.τ).loc Cert.SumSmallReferenceIdeal.main_arg4) = m ((c.tc : Thread Cert.SumSmallReferenceIdeal.nD Cert.SumSmallReferenceIdeal.τ).loc Cert.SumSmallReferenceIdeal.main_arg4)
      ∧ r.2.mem ((c.tc : Thread Cert.SumSmallReferenceIdeal.nD Cert.SumSmallReferenceIdeal.τ).loc Cert.SumSmallReferenceIdeal.main_arg5) = m ((c.tc : Thread Cert.SumSmallReferenceIdeal.nD Cert.SumSmallReferenceIdeal.τ).loc Cert.SumSmallReferenceIdeal.main_arg5)
      ∧ r.2.mem ((c.tc : Thread Cert.SumSmallReferenceIdeal.nD Cert.SumSmallReferenceIdeal.τ).loc Cert.SumSmallReferenceIdeal.main_arg6) = m ((c.tc : Thread Cert.SumSmallReferenceIdeal.nD Cert.SumSmallReferenceIdeal.τ).loc Cert.SumSmallReferenceIdeal.main_arg6)
      ∧ r.2.mem ((c.tc : Thread Cert.SumSmallReferenceIdeal.nD Cert.SumSmallReferenceIdeal.τ).loc Cert.SumSmallReferenceIdeal.main_arg7) = m ((c.tc : Thread Cert.SumSmallReferenceIdeal.nD Cert.SumSmallReferenceIdeal.τ).loc Cert.SumSmallReferenceIdeal.main_arg7)
      ∧ r.2.mem ((c.tc : Thread Cert.SumSmallReferenceIdeal.nD Cert.SumSmallReferenceIdeal.τ).loc Cert.SumSmallReferenceIdeal.main_arg8) = m ((c.tc : Thread Cert.SumSmallReferenceIdeal.nD Cert.SumSmallReferenceIdeal.τ).loc Cert.SumSmallReferenceIdeal.main_arg8)
      ∧ r.2.mem ((c.tc : Thread Cert.SumSmallReferenceIdeal.nD Cert.SumSmallReferenceIdeal.τ).loc Cert.SumSmallReferenceIdeal.main_arg9) = m ((c.tc : Thread Cert.SumSmallReferenceIdeal.nD Cert.SumSmallReferenceIdeal.τ).loc Cert.SumSmallReferenceIdeal.main_arg9)
      ∧ r.2.mem ((c.tc : Thread Cert.SumSmallReferenceIdeal.nD Cert.SumSmallReferenceIdeal.τ).loc Cert.SumSmallReferenceIdeal.main_arg10) = m ((c.tc : Thread Cert.SumSmallReferenceIdeal.nD Cert.SumSmallReferenceIdeal.τ).loc Cert.SumSmallReferenceIdeal.main_arg10)
      ∧ r.2.mem ((c.tc : Thread Cert.SumSmallReferenceIdeal.nD Cert.SumSmallReferenceIdeal.τ).loc Cert.SumSmallReferenceIdeal.main_arg11) = m ((c.tc : Thread Cert.SumSmallReferenceIdeal.nD Cert.SumSmallReferenceIdeal.τ).loc Cert.SumSmallReferenceIdeal.main_arg11))
      ∧ r.2.sem = fun _ => 0)

def quiescent_SumCtxKernel [hSumCtxKernel : Cert.SumCtxKernel.Facts] : Prop :=
  ∀ (m : (ℓ : Loc Cert.SumCtxKernel.nD Cert.SumCtxKernel.τ Cert.SumCtxKernel.sig) → Buf (Elt Bits) ℓ) (g : Dev Cert.SumCtxKernel.nD → PrngReg), Pre_SumCtxKernel m →
    θ_run (Cert.SumCtxKernel.defs (F := Bits)) (onTc (τ := Cert.SumCtxKernel.τ) (Cert.SumCtxKernel.main (F := Bits))) ⟨m, fun _ => 0, g⟩ (fun r => (∀ c : Dev Cert.SumCtxKernel.nD,
      r.2.mem ((c.tc : Thread Cert.SumCtxKernel.nD Cert.SumCtxKernel.τ).loc Cert.SumCtxKernel.main_arg0) = m ((c.tc : Thread Cert.SumCtxKernel.nD Cert.SumCtxKernel.τ).loc Cert.SumCtxKernel.main_arg0))
      ∧ r.2.sem = fun _ => 0)

def quiescent_SumCtxKernelIdeal [hSumCtxKernelIdeal : Cert.SumCtxKernelIdeal.Facts] : Prop :=
  ∀ (m : (ℓ : Loc Cert.SumCtxKernelIdeal.nD Cert.SumCtxKernelIdeal.τ Cert.SumCtxKernelIdeal.sig) → Buf (Elt Ideal) ℓ) (g : Dev Cert.SumCtxKernelIdeal.nD → PrngReg), Pre_SumCtxKernelIdeal m →
    θ_run (Cert.SumCtxKernelIdeal.defs (F := Ideal)) (onTc (τ := Cert.SumCtxKernelIdeal.τ) (Cert.SumCtxKernelIdeal.main (F := Ideal))) ⟨m, fun _ => 0, g⟩ (fun r => (∀ c : Dev Cert.SumCtxKernelIdeal.nD,
      r.2.mem ((c.tc : Thread Cert.SumCtxKernelIdeal.nD Cert.SumCtxKernelIdeal.τ).loc Cert.SumCtxKernelIdeal.main_arg0) = m ((c.tc : Thread Cert.SumCtxKernelIdeal.nD Cert.SumCtxKernelIdeal.τ).loc Cert.SumCtxKernelIdeal.main_arg0))
      ∧ r.2.sem = fun _ => 0)

def quiescent_SumCtxReferenceIdeal [hSumCtxReferenceIdeal : Cert.SumCtxReferenceIdeal.Facts] : Prop :=
  ∀ (m : (ℓ : Loc Cert.SumCtxReferenceIdeal.nD Cert.SumCtxReferenceIdeal.τ Cert.SumCtxReferenceIdeal.sig) → Buf (Elt Ideal) ℓ) (g : Dev Cert.SumCtxReferenceIdeal.nD → PrngReg), Pre_SumCtxReferenceIdeal m →
    θ_run (Cert.SumCtxReferenceIdeal.defs (F := Ideal)) (onTc (τ := Cert.SumCtxReferenceIdeal.τ) (Cert.SumCtxReferenceIdeal.main (F := Ideal))) ⟨m, fun _ => 0, g⟩ (fun r => (∀ c : Dev Cert.SumCtxReferenceIdeal.nD,
      r.2.mem ((c.tc : Thread Cert.SumCtxReferenceIdeal.nD Cert.SumCtxReferenceIdeal.τ).loc Cert.SumCtxReferenceIdeal.main_arg0) = m ((c.tc : Thread Cert.SumCtxReferenceIdeal.nD Cert.SumCtxReferenceIdeal.τ).loc Cert.SumCtxReferenceIdeal.main_arg0))
      ∧ r.2.sem = fun _ => 0)

def quiescent_AdalnKernel [hAdalnKernel : Cert.AdalnKernel.Facts] : Prop :=
  ∀ (m : (ℓ : Loc Cert.AdalnKernel.nD Cert.AdalnKernel.τ Cert.AdalnKernel.sig) → Buf (Elt Bits) ℓ) (g : Dev Cert.AdalnKernel.nD → PrngReg), Pre_AdalnKernel m →
    θ_run (Cert.AdalnKernel.defs (F := Bits)) (onTc (τ := Cert.AdalnKernel.τ) (Cert.AdalnKernel.main (F := Bits))) ⟨m, fun _ => 0, g⟩ (fun r => (∀ c : Dev Cert.AdalnKernel.nD,
      r.2.mem ((c.tc : Thread Cert.AdalnKernel.nD Cert.AdalnKernel.τ).loc Cert.AdalnKernel.main_arg0) = m ((c.tc : Thread Cert.AdalnKernel.nD Cert.AdalnKernel.τ).loc Cert.AdalnKernel.main_arg0)
      ∧ r.2.mem ((c.tc : Thread Cert.AdalnKernel.nD Cert.AdalnKernel.τ).loc Cert.AdalnKernel.main_arg1) = m ((c.tc : Thread Cert.AdalnKernel.nD Cert.AdalnKernel.τ).loc Cert.AdalnKernel.main_arg1)
      ∧ r.2.mem ((c.tc : Thread Cert.AdalnKernel.nD Cert.AdalnKernel.τ).loc Cert.AdalnKernel.main_arg2) = m ((c.tc : Thread Cert.AdalnKernel.nD Cert.AdalnKernel.τ).loc Cert.AdalnKernel.main_arg2))
      ∧ r.2.sem = fun _ => 0)

def quiescent_AdalnKernelIdeal [hAdalnKernelIdeal : Cert.AdalnKernelIdeal.Facts] : Prop :=
  ∀ (m : (ℓ : Loc Cert.AdalnKernelIdeal.nD Cert.AdalnKernelIdeal.τ Cert.AdalnKernelIdeal.sig) → Buf (Elt Ideal) ℓ) (g : Dev Cert.AdalnKernelIdeal.nD → PrngReg), Pre_AdalnKernelIdeal m →
    θ_run (Cert.AdalnKernelIdeal.defs (F := Ideal)) (onTc (τ := Cert.AdalnKernelIdeal.τ) (Cert.AdalnKernelIdeal.main (F := Ideal))) ⟨m, fun _ => 0, g⟩ (fun r => (∀ c : Dev Cert.AdalnKernelIdeal.nD,
      r.2.mem ((c.tc : Thread Cert.AdalnKernelIdeal.nD Cert.AdalnKernelIdeal.τ).loc Cert.AdalnKernelIdeal.main_arg0) = m ((c.tc : Thread Cert.AdalnKernelIdeal.nD Cert.AdalnKernelIdeal.τ).loc Cert.AdalnKernelIdeal.main_arg0)
      ∧ r.2.mem ((c.tc : Thread Cert.AdalnKernelIdeal.nD Cert.AdalnKernelIdeal.τ).loc Cert.AdalnKernelIdeal.main_arg1) = m ((c.tc : Thread Cert.AdalnKernelIdeal.nD Cert.AdalnKernelIdeal.τ).loc Cert.AdalnKernelIdeal.main_arg1)
      ∧ r.2.mem ((c.tc : Thread Cert.AdalnKernelIdeal.nD Cert.AdalnKernelIdeal.τ).loc Cert.AdalnKernelIdeal.main_arg2) = m ((c.tc : Thread Cert.AdalnKernelIdeal.nD Cert.AdalnKernelIdeal.τ).loc Cert.AdalnKernelIdeal.main_arg2))
      ∧ r.2.sem = fun _ => 0)

def quiescent_AdalnKernelIdeal_pre_finite_adaln [hAdalnKernelIdeal : Cert.AdalnKernelIdeal.Facts] [hPre_finite_adaln : Cert.Pre_finite_adaln.Facts] : Prop :=
  ∀ (m : (ℓ : Loc Cert.AdalnKernelIdeal.nD Cert.AdalnKernelIdeal.τ Cert.AdalnKernelIdeal.sig) → Buf (Elt Ideal) ℓ) (g : Dev Cert.AdalnKernelIdeal.nD → PrngReg), Pre_AdalnKernelIdeal_finite_adaln m →
    θ_run (Cert.AdalnKernelIdeal.defs (F := Ideal)) (onTc (τ := Cert.AdalnKernelIdeal.τ) (Cert.AdalnKernelIdeal.main (F := Ideal))) ⟨m, fun _ => 0, g⟩ (fun r => (∀ c : Dev Cert.AdalnKernelIdeal.nD,
      r.2.mem ((c.tc : Thread Cert.AdalnKernelIdeal.nD Cert.AdalnKernelIdeal.τ).loc Cert.AdalnKernelIdeal.main_arg0) = m ((c.tc : Thread Cert.AdalnKernelIdeal.nD Cert.AdalnKernelIdeal.τ).loc Cert.AdalnKernelIdeal.main_arg0)
      ∧ r.2.mem ((c.tc : Thread Cert.AdalnKernelIdeal.nD Cert.AdalnKernelIdeal.τ).loc Cert.AdalnKernelIdeal.main_arg1) = m ((c.tc : Thread Cert.AdalnKernelIdeal.nD Cert.AdalnKernelIdeal.τ).loc Cert.AdalnKernelIdeal.main_arg1)
      ∧ r.2.mem ((c.tc : Thread Cert.AdalnKernelIdeal.nD Cert.AdalnKernelIdeal.τ).loc Cert.AdalnKernelIdeal.main_arg2) = m ((c.tc : Thread Cert.AdalnKernelIdeal.nD Cert.AdalnKernelIdeal.τ).loc Cert.AdalnKernelIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_AdalnReferenceIdeal_pre_finite_adaln [hAdalnReferenceIdeal : Cert.AdalnReferenceIdeal.Facts] [hPre_finite_adaln : Cert.Pre_finite_adaln.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal_finite_adaln m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_SumWoKernel [hSumWoKernel : Cert.SumWoKernel.Facts] [hPre_device_number_wo : Cert.Pre_device_number_wo.Facts] : Prop :=
  ∀ (m : (ℓ : Loc Cert.SumWoKernel.nD Cert.SumWoKernel.τ Cert.SumWoKernel.sig) → Buf (Elt Bits) ℓ) (g : Dev Cert.SumWoKernel.nD → PrngReg), Pre_SumWoKernel m →
    θ_run (Cert.SumWoKernel.defs (F := Bits)) (onTc (τ := Cert.SumWoKernel.τ) (Cert.SumWoKernel.main (F := Bits))) ⟨m, fun _ => 0, g⟩ (fun r => (∀ c : Dev Cert.SumWoKernel.nD,
      r.2.mem ((c.tc : Thread Cert.SumWoKernel.nD Cert.SumWoKernel.τ).loc Cert.SumWoKernel.main_arg0) = m ((c.tc : Thread Cert.SumWoKernel.nD Cert.SumWoKernel.τ).loc Cert.SumWoKernel.main_arg0)
      ∧ r.2.mem ((c.tc : Thread Cert.SumWoKernel.nD Cert.SumWoKernel.τ).loc Cert.SumWoKernel.main_arg1) = m ((c.tc : Thread Cert.SumWoKernel.nD Cert.SumWoKernel.τ).loc Cert.SumWoKernel.main_arg1)
      ∧ r.2.mem ((c.tc : Thread Cert.SumWoKernel.nD Cert.SumWoKernel.τ).loc Cert.SumWoKernel.main_arg2) = m ((c.tc : Thread Cert.SumWoKernel.nD Cert.SumWoKernel.τ).loc Cert.SumWoKernel.main_arg2))
      ∧ r.2.sem = fun _ => 0)

def quiescent_SumWoKernelIdeal [hSumWoKernelIdeal : Cert.SumWoKernelIdeal.Facts] [hPre_device_number_wo : Cert.Pre_device_number_wo.Facts] : Prop :=
  ∀ (m : (ℓ : Loc Cert.SumWoKernelIdeal.nD Cert.SumWoKernelIdeal.τ Cert.SumWoKernelIdeal.sig) → Buf (Elt Ideal) ℓ) (g : Dev Cert.SumWoKernelIdeal.nD → PrngReg), Pre_SumWoKernelIdeal m →
    θ_run (Cert.SumWoKernelIdeal.defs (F := Ideal)) (onTc (τ := Cert.SumWoKernelIdeal.τ) (Cert.SumWoKernelIdeal.main (F := Ideal))) ⟨m, fun _ => 0, g⟩ (fun r => (∀ c : Dev Cert.SumWoKernelIdeal.nD,
      r.2.mem ((c.tc : Thread Cert.SumWoKernelIdeal.nD Cert.SumWoKernelIdeal.τ).loc Cert.SumWoKernelIdeal.main_arg0) = m ((c.tc : Thread Cert.SumWoKernelIdeal.nD Cert.SumWoKernelIdeal.τ).loc Cert.SumWoKernelIdeal.main_arg0)
      ∧ r.2.mem ((c.tc : Thread Cert.SumWoKernelIdeal.nD Cert.SumWoKernelIdeal.τ).loc Cert.SumWoKernelIdeal.main_arg1) = m ((c.tc : Thread Cert.SumWoKernelIdeal.nD Cert.SumWoKernelIdeal.τ).loc Cert.SumWoKernelIdeal.main_arg1)
      ∧ r.2.mem ((c.tc : Thread Cert.SumWoKernelIdeal.nD Cert.SumWoKernelIdeal.τ).loc Cert.SumWoKernelIdeal.main_arg2) = m ((c.tc : Thread Cert.SumWoKernelIdeal.nD Cert.SumWoKernelIdeal.τ).loc Cert.SumWoKernelIdeal.main_arg2))
      ∧ r.2.sem = fun _ => 0)

def quiescent_SumWoReferenceIdeal [hSumWoReferenceIdeal : Cert.SumWoReferenceIdeal.Facts] : Prop :=
  ∀ (m : (ℓ : Loc Cert.SumWoReferenceIdeal.nD Cert.SumWoReferenceIdeal.τ Cert.SumWoReferenceIdeal.sig) → Buf (Elt Ideal) ℓ) (g : Dev Cert.SumWoReferenceIdeal.nD → PrngReg), Pre_SumWoReferenceIdeal m →
    θ_run (Cert.SumWoReferenceIdeal.defs (F := Ideal)) (onTc (τ := Cert.SumWoReferenceIdeal.τ) (Cert.SumWoReferenceIdeal.main (F := Ideal))) ⟨m, fun _ => 0, g⟩ (fun r => (∀ c : Dev Cert.SumWoReferenceIdeal.nD,
      r.2.mem ((c.tc : Thread Cert.SumWoReferenceIdeal.nD Cert.SumWoReferenceIdeal.τ).loc Cert.SumWoReferenceIdeal.main_arg0) = m ((c.tc : Thread Cert.SumWoReferenceIdeal.nD Cert.SumWoReferenceIdeal.τ).loc Cert.SumWoReferenceIdeal.main_arg0)
      ∧ r.2.mem ((c.tc : Thread Cert.SumWoReferenceIdeal.nD Cert.SumWoReferenceIdeal.τ).loc Cert.SumWoReferenceIdeal.main_arg1) = m ((c.tc : Thread Cert.SumWoReferenceIdeal.nD Cert.SumWoReferenceIdeal.τ).loc Cert.SumWoReferenceIdeal.main_arg1)
      ∧ r.2.mem ((c.tc : Thread Cert.SumWoReferenceIdeal.nD Cert.SumWoReferenceIdeal.τ).loc Cert.SumWoReferenceIdeal.main_arg2) = m ((c.tc : Thread Cert.SumWoReferenceIdeal.nD Cert.SumWoReferenceIdeal.τ).loc Cert.SumWoReferenceIdeal.main_arg2))
      ∧ r.2.sem = fun _ => 0)

def quiescent_SumWoReferenceIdeal_pre_device_number_wo [hSumWoReferenceIdeal : Cert.SumWoReferenceIdeal.Facts] [hPre_device_number_wo : Cert.Pre_device_number_wo.Facts] : Prop :=
  ∀ (m : (ℓ : Loc Cert.SumWoReferenceIdeal.nD Cert.SumWoReferenceIdeal.τ Cert.SumWoReferenceIdeal.sig) → Buf (Elt Ideal) ℓ) (g : Dev Cert.SumWoReferenceIdeal.nD → PrngReg), Pre_SumWoReferenceIdeal_device_number_wo m →
    θ_run (Cert.SumWoReferenceIdeal.defs (F := Ideal)) (onTc (τ := Cert.SumWoReferenceIdeal.τ) (Cert.SumWoReferenceIdeal.main (F := Ideal))) ⟨m, fun _ => 0, g⟩ (fun r => (∀ c : Dev Cert.SumWoReferenceIdeal.nD,
      r.2.mem ((c.tc : Thread Cert.SumWoReferenceIdeal.nD Cert.SumWoReferenceIdeal.τ).loc Cert.SumWoReferenceIdeal.main_arg0) = m ((c.tc : Thread Cert.SumWoReferenceIdeal.nD Cert.SumWoReferenceIdeal.τ).loc Cert.SumWoReferenceIdeal.main_arg0)
      ∧ r.2.mem ((c.tc : Thread Cert.SumWoReferenceIdeal.nD Cert.SumWoReferenceIdeal.τ).loc Cert.SumWoReferenceIdeal.main_arg1) = m ((c.tc : Thread Cert.SumWoReferenceIdeal.nD Cert.SumWoReferenceIdeal.τ).loc Cert.SumWoReferenceIdeal.main_arg1)
      ∧ r.2.mem ((c.tc : Thread Cert.SumWoReferenceIdeal.nD Cert.SumWoReferenceIdeal.τ).loc Cert.SumWoReferenceIdeal.main_arg2) = m ((c.tc : Thread Cert.SumWoReferenceIdeal.nD Cert.SumWoReferenceIdeal.τ).loc Cert.SumWoReferenceIdeal.main_arg2))
      ∧ r.2.sem = fun _ => 0)

def quiescent_SumOutKernel [hSumOutKernel : Cert.SumOutKernel.Facts] [hPre_device_number_out : Cert.Pre_device_number_out.Facts] : Prop :=
  ∀ (m : (ℓ : Loc Cert.SumOutKernel.nD Cert.SumOutKernel.τ Cert.SumOutKernel.sig) → Buf (Elt Bits) ℓ) (g : Dev Cert.SumOutKernel.nD → PrngReg), Pre_SumOutKernel m →
    θ_run (Cert.SumOutKernel.defs (F := Bits)) (onTc (τ := Cert.SumOutKernel.τ) (Cert.SumOutKernel.main (F := Bits))) ⟨m, fun _ => 0, g⟩ (fun r => (∀ c : Dev Cert.SumOutKernel.nD,
      r.2.mem ((c.tc : Thread Cert.SumOutKernel.nD Cert.SumOutKernel.τ).loc Cert.SumOutKernel.main_arg0) = m ((c.tc : Thread Cert.SumOutKernel.nD Cert.SumOutKernel.τ).loc Cert.SumOutKernel.main_arg0)
      ∧ r.2.mem ((c.tc : Thread Cert.SumOutKernel.nD Cert.SumOutKernel.τ).loc Cert.SumOutKernel.main_arg1) = m ((c.tc : Thread Cert.SumOutKernel.nD Cert.SumOutKernel.τ).loc Cert.SumOutKernel.main_arg1)
      ∧ r.2.mem ((c.tc : Thread Cert.SumOutKernel.nD Cert.SumOutKernel.τ).loc Cert.SumOutKernel.main_arg2) = m ((c.tc : Thread Cert.SumOutKernel.nD Cert.SumOutKernel.τ).loc Cert.SumOutKernel.main_arg2))
      ∧ r.2.sem = fun _ => 0)

def quiescent_SumOutKernelIdeal [hSumOutKernelIdeal : Cert.SumOutKernelIdeal.Facts] [hPre_device_number_out : Cert.Pre_device_number_out.Facts] : Prop :=
  ∀ (m : (ℓ : Loc Cert.SumOutKernelIdeal.nD Cert.SumOutKernelIdeal.τ Cert.SumOutKernelIdeal.sig) → Buf (Elt Ideal) ℓ) (g : Dev Cert.SumOutKernelIdeal.nD → PrngReg), Pre_SumOutKernelIdeal m →
    θ_run (Cert.SumOutKernelIdeal.defs (F := Ideal)) (onTc (τ := Cert.SumOutKernelIdeal.τ) (Cert.SumOutKernelIdeal.main (F := Ideal))) ⟨m, fun _ => 0, g⟩ (fun r => (∀ c : Dev Cert.SumOutKernelIdeal.nD,
      r.2.mem ((c.tc : Thread Cert.SumOutKernelIdeal.nD Cert.SumOutKernelIdeal.τ).loc Cert.SumOutKernelIdeal.main_arg0) = m ((c.tc : Thread Cert.SumOutKernelIdeal.nD Cert.SumOutKernelIdeal.τ).loc Cert.SumOutKernelIdeal.main_arg0)
      ∧ r.2.mem ((c.tc : Thread Cert.SumOutKernelIdeal.nD Cert.SumOutKernelIdeal.τ).loc Cert.SumOutKernelIdeal.main_arg1) = m ((c.tc : Thread Cert.SumOutKernelIdeal.nD Cert.SumOutKernelIdeal.τ).loc Cert.SumOutKernelIdeal.main_arg1)
      ∧ r.2.mem ((c.tc : Thread Cert.SumOutKernelIdeal.nD Cert.SumOutKernelIdeal.τ).loc Cert.SumOutKernelIdeal.main_arg2) = m ((c.tc : Thread Cert.SumOutKernelIdeal.nD Cert.SumOutKernelIdeal.τ).loc Cert.SumOutKernelIdeal.main_arg2))
      ∧ r.2.sem = fun _ => 0)

def quiescent_SumOutReferenceIdeal [hSumOutReferenceIdeal : Cert.SumOutReferenceIdeal.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0)
      ∧ r.2.mem ((c.tc : Thread Cert.SumOutReferenceIdeal.nD Cert.SumOutReferenceIdeal.τ).loc Cert.SumOutReferenceIdeal.main_arg1) = m ((c.tc : Thread Cert.SumOutReferenceIdeal.nD Cert.SumOutReferenceIdeal.τ).loc Cert.SumOutReferenceIdeal.main_arg1)
      ∧ r.2.mem ((c.tc : Thread Cert.SumOutReferenceIdeal.nD Cert.SumOutReferenceIdeal.τ).loc Cert.SumOutReferenceIdeal.main_arg2) = m ((c.tc : Thread Cert.SumOutReferenceIdeal.nD Cert.SumOutReferenceIdeal.τ).loc Cert.SumOutReferenceIdeal.main_arg2))
      ∧ r.2.sem = fun _ => 0)

def quiescent_SumOutReferenceIdeal_pre_device_number_out [hSumOutReferenceIdeal : Cert.SumOutReferenceIdeal.Facts] [hPre_device_number_out : Cert.Pre_device_number_out.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal_device_number_out m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0)
      ∧ r.2.mem ((c.tc : Thread Cert.SumOutReferenceIdeal.nD Cert.SumOutReferenceIdeal.τ).loc Cert.SumOutReferenceIdeal.main_arg1) = m ((c.tc : Thread Cert.SumOutReferenceIdeal.nD Cert.SumOutReferenceIdeal.τ).loc Cert.SumOutReferenceIdeal.main_arg1)
      ∧ r.2.mem ((c.tc : Thread Cert.SumOutReferenceIdeal.nD Cert.SumOutReferenceIdeal.τ).loc Cert.SumOutReferenceIdeal.main_arg2) = m ((c.tc : Thread Cert.SumOutReferenceIdeal.nD Cert.SumOutReferenceIdeal.τ).loc Cert.SumOutReferenceIdeal.main_arg2))
      ∧ r.2.sem = fun _ => 0)

def quiescent_SumWiKernel [hSumWiKernel : Cert.SumWiKernel.Facts] [hPre_device_number_wi : Cert.Pre_device_number_wi.Facts] : Prop :=
  ∀ (m : (ℓ : Loc Cert.SumWiKernel.nD Cert.SumWiKernel.τ Cert.SumWiKernel.sig) → Buf (Elt Bits) ℓ) (g : Dev Cert.SumWiKernel.nD → PrngReg), Pre_SumWiKernel m →
    θ_run (Cert.SumWiKernel.defs (F := Bits)) (onTc (τ := Cert.SumWiKernel.τ) (Cert.SumWiKernel.main (F := Bits))) ⟨m, fun _ => 0, g⟩ (fun r => (∀ c : Dev Cert.SumWiKernel.nD,
      r.2.mem ((c.tc : Thread Cert.SumWiKernel.nD Cert.SumWiKernel.τ).loc Cert.SumWiKernel.main_arg0) = m ((c.tc : Thread Cert.SumWiKernel.nD Cert.SumWiKernel.τ).loc Cert.SumWiKernel.main_arg0)
      ∧ r.2.mem ((c.tc : Thread Cert.SumWiKernel.nD Cert.SumWiKernel.τ).loc Cert.SumWiKernel.main_arg1) = m ((c.tc : Thread Cert.SumWiKernel.nD Cert.SumWiKernel.τ).loc Cert.SumWiKernel.main_arg1)
      ∧ r.2.mem ((c.tc : Thread Cert.SumWiKernel.nD Cert.SumWiKernel.τ).loc Cert.SumWiKernel.main_arg2) = m ((c.tc : Thread Cert.SumWiKernel.nD Cert.SumWiKernel.τ).loc Cert.SumWiKernel.main_arg2))
      ∧ r.2.sem = fun _ => 0)

def quiescent_SumWiKernelIdeal [hSumWiKernelIdeal : Cert.SumWiKernelIdeal.Facts] [hPre_device_number_wi : Cert.Pre_device_number_wi.Facts] : Prop :=
  ∀ (m : (ℓ : Loc Cert.SumWiKernelIdeal.nD Cert.SumWiKernelIdeal.τ Cert.SumWiKernelIdeal.sig) → Buf (Elt Ideal) ℓ) (g : Dev Cert.SumWiKernelIdeal.nD → PrngReg), Pre_SumWiKernelIdeal m →
    θ_run (Cert.SumWiKernelIdeal.defs (F := Ideal)) (onTc (τ := Cert.SumWiKernelIdeal.τ) (Cert.SumWiKernelIdeal.main (F := Ideal))) ⟨m, fun _ => 0, g⟩ (fun r => (∀ c : Dev Cert.SumWiKernelIdeal.nD,
      r.2.mem ((c.tc : Thread Cert.SumWiKernelIdeal.nD Cert.SumWiKernelIdeal.τ).loc Cert.SumWiKernelIdeal.main_arg0) = m ((c.tc : Thread Cert.SumWiKernelIdeal.nD Cert.SumWiKernelIdeal.τ).loc Cert.SumWiKernelIdeal.main_arg0)
      ∧ r.2.mem ((c.tc : Thread Cert.SumWiKernelIdeal.nD Cert.SumWiKernelIdeal.τ).loc Cert.SumWiKernelIdeal.main_arg1) = m ((c.tc : Thread Cert.SumWiKernelIdeal.nD Cert.SumWiKernelIdeal.τ).loc Cert.SumWiKernelIdeal.main_arg1)
      ∧ r.2.mem ((c.tc : Thread Cert.SumWiKernelIdeal.nD Cert.SumWiKernelIdeal.τ).loc Cert.SumWiKernelIdeal.main_arg2) = m ((c.tc : Thread Cert.SumWiKernelIdeal.nD Cert.SumWiKernelIdeal.τ).loc Cert.SumWiKernelIdeal.main_arg2))
      ∧ r.2.sem = fun _ => 0)

def quiescent_SumWiReferenceIdeal [hSumWiReferenceIdeal : Cert.SumWiReferenceIdeal.Facts] : Prop :=
  ∀ (m : (ℓ : Loc Cert.SumWiReferenceIdeal.nD Cert.SumWiReferenceIdeal.τ Cert.SumWiReferenceIdeal.sig) → Buf (Elt Ideal) ℓ) (g : Dev Cert.SumWiReferenceIdeal.nD → PrngReg), Pre_SumWiReferenceIdeal m →
    θ_run (Cert.SumWiReferenceIdeal.defs (F := Ideal)) (onTc (τ := Cert.SumWiReferenceIdeal.τ) (Cert.SumWiReferenceIdeal.main (F := Ideal))) ⟨m, fun _ => 0, g⟩ (fun r => (∀ c : Dev Cert.SumWiReferenceIdeal.nD,
      r.2.mem ((c.tc : Thread Cert.SumWiReferenceIdeal.nD Cert.SumWiReferenceIdeal.τ).loc Cert.SumWiReferenceIdeal.main_arg0) = m ((c.tc : Thread Cert.SumWiReferenceIdeal.nD Cert.SumWiReferenceIdeal.τ).loc Cert.SumWiReferenceIdeal.main_arg0)
      ∧ r.2.mem ((c.tc : Thread Cert.SumWiReferenceIdeal.nD Cert.SumWiReferenceIdeal.τ).loc Cert.SumWiReferenceIdeal.main_arg1) = m ((c.tc : Thread Cert.SumWiReferenceIdeal.nD Cert.SumWiReferenceIdeal.τ).loc Cert.SumWiReferenceIdeal.main_arg1)
      ∧ r.2.mem ((c.tc : Thread Cert.SumWiReferenceIdeal.nD Cert.SumWiReferenceIdeal.τ).loc Cert.SumWiReferenceIdeal.main_arg2) = m ((c.tc : Thread Cert.SumWiReferenceIdeal.nD Cert.SumWiReferenceIdeal.τ).loc Cert.SumWiReferenceIdeal.main_arg2))
      ∧ r.2.sem = fun _ => 0)

def quiescent_SumWiReferenceIdeal_pre_device_number_wi [hSumWiReferenceIdeal : Cert.SumWiReferenceIdeal.Facts] [hPre_device_number_wi : Cert.Pre_device_number_wi.Facts] : Prop :=
  ∀ (m : (ℓ : Loc Cert.SumWiReferenceIdeal.nD Cert.SumWiReferenceIdeal.τ Cert.SumWiReferenceIdeal.sig) → Buf (Elt Ideal) ℓ) (g : Dev Cert.SumWiReferenceIdeal.nD → PrngReg), Pre_SumWiReferenceIdeal_device_number_wi m →
    θ_run (Cert.SumWiReferenceIdeal.defs (F := Ideal)) (onTc (τ := Cert.SumWiReferenceIdeal.τ) (Cert.SumWiReferenceIdeal.main (F := Ideal))) ⟨m, fun _ => 0, g⟩ (fun r => (∀ c : Dev Cert.SumWiReferenceIdeal.nD,
      r.2.mem ((c.tc : Thread Cert.SumWiReferenceIdeal.nD Cert.SumWiReferenceIdeal.τ).loc Cert.SumWiReferenceIdeal.main_arg0) = m ((c.tc : Thread Cert.SumWiReferenceIdeal.nD Cert.SumWiReferenceIdeal.τ).loc Cert.SumWiReferenceIdeal.main_arg0)
      ∧ r.2.mem ((c.tc : Thread Cert.SumWiReferenceIdeal.nD Cert.SumWiReferenceIdeal.τ).loc Cert.SumWiReferenceIdeal.main_arg1) = m ((c.tc : Thread Cert.SumWiReferenceIdeal.nD Cert.SumWiReferenceIdeal.τ).loc Cert.SumWiReferenceIdeal.main_arg1)
      ∧ r.2.mem ((c.tc : Thread Cert.SumWiReferenceIdeal.nD Cert.SumWiReferenceIdeal.τ).loc Cert.SumWiReferenceIdeal.main_arg2) = m ((c.tc : Thread Cert.SumWiReferenceIdeal.nD Cert.SumWiReferenceIdeal.τ).loc Cert.SumWiReferenceIdeal.main_arg2))
      ∧ r.2.sem = fun _ => 0)

def quiescent_SumPoolKernel [hSumPoolKernel : Cert.SumPoolKernel.Facts] [hPre_device_number_pool : Cert.Pre_device_number_pool.Facts] : Prop :=
  ∀ (m : (ℓ : Loc Cert.SumPoolKernel.nD Cert.SumPoolKernel.τ Cert.SumPoolKernel.sig) → Buf (Elt Bits) ℓ) (g : Dev Cert.SumPoolKernel.nD → PrngReg), Pre_SumPoolKernel m →
    θ_run (Cert.SumPoolKernel.defs (F := Bits)) (onTc (τ := Cert.SumPoolKernel.τ) (Cert.SumPoolKernel.main (F := Bits))) ⟨m, fun _ => 0, g⟩ (fun r => (∀ c : Dev Cert.SumPoolKernel.nD,
      r.2.mem ((c.tc : Thread Cert.SumPoolKernel.nD Cert.SumPoolKernel.τ).loc Cert.SumPoolKernel.main_arg0) = m ((c.tc : Thread Cert.SumPoolKernel.nD Cert.SumPoolKernel.τ).loc Cert.SumPoolKernel.main_arg0)
      ∧ r.2.mem ((c.tc : Thread Cert.SumPoolKernel.nD Cert.SumPoolKernel.τ).loc Cert.SumPoolKernel.main_arg1) = m ((c.tc : Thread Cert.SumPoolKernel.nD Cert.SumPoolKernel.τ).loc Cert.SumPoolKernel.main_arg1)
      ∧ r.2.mem ((c.tc : Thread Cert.SumPoolKernel.nD Cert.SumPoolKernel.τ).loc Cert.SumPoolKernel.main_arg2) = m ((c.tc : Thread Cert.SumPoolKernel.nD Cert.SumPoolKernel.τ).loc Cert.SumPoolKernel.main_arg2))
      ∧ r.2.sem = fun _ => 0)

def quiescent_SumPoolKernelIdeal [hSumPoolKernelIdeal : Cert.SumPoolKernelIdeal.Facts] [hPre_device_number_pool : Cert.Pre_device_number_pool.Facts] : Prop :=
  ∀ (m : (ℓ : Loc Cert.SumPoolKernelIdeal.nD Cert.SumPoolKernelIdeal.τ Cert.SumPoolKernelIdeal.sig) → Buf (Elt Ideal) ℓ) (g : Dev Cert.SumPoolKernelIdeal.nD → PrngReg), Pre_SumPoolKernelIdeal m →
    θ_run (Cert.SumPoolKernelIdeal.defs (F := Ideal)) (onTc (τ := Cert.SumPoolKernelIdeal.τ) (Cert.SumPoolKernelIdeal.main (F := Ideal))) ⟨m, fun _ => 0, g⟩ (fun r => (∀ c : Dev Cert.SumPoolKernelIdeal.nD,
      r.2.mem ((c.tc : Thread Cert.SumPoolKernelIdeal.nD Cert.SumPoolKernelIdeal.τ).loc Cert.SumPoolKernelIdeal.main_arg0) = m ((c.tc : Thread Cert.SumPoolKernelIdeal.nD Cert.SumPoolKernelIdeal.τ).loc Cert.SumPoolKernelIdeal.main_arg0)
      ∧ r.2.mem ((c.tc : Thread Cert.SumPoolKernelIdeal.nD Cert.SumPoolKernelIdeal.τ).loc Cert.SumPoolKernelIdeal.main_arg1) = m ((c.tc : Thread Cert.SumPoolKernelIdeal.nD Cert.SumPoolKernelIdeal.τ).loc Cert.SumPoolKernelIdeal.main_arg1)
      ∧ r.2.mem ((c.tc : Thread Cert.SumPoolKernelIdeal.nD Cert.SumPoolKernelIdeal.τ).loc Cert.SumPoolKernelIdeal.main_arg2) = m ((c.tc : Thread Cert.SumPoolKernelIdeal.nD Cert.SumPoolKernelIdeal.τ).loc Cert.SumPoolKernelIdeal.main_arg2))
      ∧ r.2.sem = fun _ => 0)

def quiescent_SumPoolReferenceIdeal [hSumPoolReferenceIdeal : Cert.SumPoolReferenceIdeal.Facts] : Prop :=
  ∀ (m : (ℓ : Loc Cert.SumPoolReferenceIdeal.nD Cert.SumPoolReferenceIdeal.τ Cert.SumPoolReferenceIdeal.sig) → Buf (Elt Ideal) ℓ) (g : Dev Cert.SumPoolReferenceIdeal.nD → PrngReg), Pre_SumPoolReferenceIdeal m →
    θ_run (Cert.SumPoolReferenceIdeal.defs (F := Ideal)) (onTc (τ := Cert.SumPoolReferenceIdeal.τ) (Cert.SumPoolReferenceIdeal.main (F := Ideal))) ⟨m, fun _ => 0, g⟩ (fun r => (∀ c : Dev Cert.SumPoolReferenceIdeal.nD,
      r.2.mem ((c.tc : Thread Cert.SumPoolReferenceIdeal.nD Cert.SumPoolReferenceIdeal.τ).loc Cert.SumPoolReferenceIdeal.main_arg0) = m ((c.tc : Thread Cert.SumPoolReferenceIdeal.nD Cert.SumPoolReferenceIdeal.τ).loc Cert.SumPoolReferenceIdeal.main_arg0)
      ∧ r.2.mem ((c.tc : Thread Cert.SumPoolReferenceIdeal.nD Cert.SumPoolReferenceIdeal.τ).loc Cert.SumPoolReferenceIdeal.main_arg1) = m ((c.tc : Thread Cert.SumPoolReferenceIdeal.nD Cert.SumPoolReferenceIdeal.τ).loc Cert.SumPoolReferenceIdeal.main_arg1)
      ∧ r.2.mem ((c.tc : Thread Cert.SumPoolReferenceIdeal.nD Cert.SumPoolReferenceIdeal.τ).loc Cert.SumPoolReferenceIdeal.main_arg2) = m ((c.tc : Thread Cert.SumPoolReferenceIdeal.nD Cert.SumPoolReferenceIdeal.τ).loc Cert.SumPoolReferenceIdeal.main_arg2))
      ∧ r.2.sem = fun _ => 0)

def quiescent_SumPoolReferenceIdeal_pre_device_number_pool [hSumPoolReferenceIdeal : Cert.SumPoolReferenceIdeal.Facts] [hPre_device_number_pool : Cert.Pre_device_number_pool.Facts] : Prop :=
  ∀ (m : (ℓ : Loc Cert.SumPoolReferenceIdeal.nD Cert.SumPoolReferenceIdeal.τ Cert.SumPoolReferenceIdeal.sig) → Buf (Elt Ideal) ℓ) (g : Dev Cert.SumPoolReferenceIdeal.nD → PrngReg), Pre_SumPoolReferenceIdeal_device_number_pool m →
    θ_run (Cert.SumPoolReferenceIdeal.defs (F := Ideal)) (onTc (τ := Cert.SumPoolReferenceIdeal.τ) (Cert.SumPoolReferenceIdeal.main (F := Ideal))) ⟨m, fun _ => 0, g⟩ (fun r => (∀ c : Dev Cert.SumPoolReferenceIdeal.nD,
      r.2.mem ((c.tc : Thread Cert.SumPoolReferenceIdeal.nD Cert.SumPoolReferenceIdeal.τ).loc Cert.SumPoolReferenceIdeal.main_arg0) = m ((c.tc : Thread Cert.SumPoolReferenceIdeal.nD Cert.SumPoolReferenceIdeal.τ).loc Cert.SumPoolReferenceIdeal.main_arg0)
      ∧ r.2.mem ((c.tc : Thread Cert.SumPoolReferenceIdeal.nD Cert.SumPoolReferenceIdeal.τ).loc Cert.SumPoolReferenceIdeal.main_arg1) = m ((c.tc : Thread Cert.SumPoolReferenceIdeal.nD Cert.SumPoolReferenceIdeal.τ).loc Cert.SumPoolReferenceIdeal.main_arg1)
      ∧ r.2.mem ((c.tc : Thread Cert.SumPoolReferenceIdeal.nD Cert.SumPoolReferenceIdeal.τ).loc Cert.SumPoolReferenceIdeal.main_arg2) = m ((c.tc : Thread Cert.SumPoolReferenceIdeal.nD Cert.SumPoolReferenceIdeal.τ).loc Cert.SumPoolReferenceIdeal.main_arg2))
      ∧ r.2.sem = fun _ => 0)

def quiescent_SumInKernel [hSumInKernel : Cert.SumInKernel.Facts] [hPre_device_number_in : Cert.Pre_device_number_in.Facts] : Prop :=
  ∀ (m : (ℓ : Loc Cert.SumInKernel.nD Cert.SumInKernel.τ Cert.SumInKernel.sig) → Buf (Elt Bits) ℓ) (g : Dev Cert.SumInKernel.nD → PrngReg), Pre_SumInKernel m →
    θ_run (Cert.SumInKernel.defs (F := Bits)) (onTc (τ := Cert.SumInKernel.τ) (Cert.SumInKernel.main (F := Bits))) ⟨m, fun _ => 0, g⟩ (fun r => (∀ c : Dev Cert.SumInKernel.nD,
      r.2.mem ((c.tc : Thread Cert.SumInKernel.nD Cert.SumInKernel.τ).loc Cert.SumInKernel.main_arg0) = m ((c.tc : Thread Cert.SumInKernel.nD Cert.SumInKernel.τ).loc Cert.SumInKernel.main_arg0)
      ∧ r.2.mem ((c.tc : Thread Cert.SumInKernel.nD Cert.SumInKernel.τ).loc Cert.SumInKernel.main_arg1) = m ((c.tc : Thread Cert.SumInKernel.nD Cert.SumInKernel.τ).loc Cert.SumInKernel.main_arg1)
      ∧ r.2.mem ((c.tc : Thread Cert.SumInKernel.nD Cert.SumInKernel.τ).loc Cert.SumInKernel.main_arg2) = m ((c.tc : Thread Cert.SumInKernel.nD Cert.SumInKernel.τ).loc Cert.SumInKernel.main_arg2))
      ∧ r.2.sem = fun _ => 0)

def quiescent_SumInKernelIdeal [hSumInKernelIdeal : Cert.SumInKernelIdeal.Facts] [hPre_device_number_in : Cert.Pre_device_number_in.Facts] : Prop :=
  ∀ (m : (ℓ : Loc Cert.SumInKernelIdeal.nD Cert.SumInKernelIdeal.τ Cert.SumInKernelIdeal.sig) → Buf (Elt Ideal) ℓ) (g : Dev Cert.SumInKernelIdeal.nD → PrngReg), Pre_SumInKernelIdeal m →
    θ_run (Cert.SumInKernelIdeal.defs (F := Ideal)) (onTc (τ := Cert.SumInKernelIdeal.τ) (Cert.SumInKernelIdeal.main (F := Ideal))) ⟨m, fun _ => 0, g⟩ (fun r => (∀ c : Dev Cert.SumInKernelIdeal.nD,
      r.2.mem ((c.tc : Thread Cert.SumInKernelIdeal.nD Cert.SumInKernelIdeal.τ).loc Cert.SumInKernelIdeal.main_arg0) = m ((c.tc : Thread Cert.SumInKernelIdeal.nD Cert.SumInKernelIdeal.τ).loc Cert.SumInKernelIdeal.main_arg0)
      ∧ r.2.mem ((c.tc : Thread Cert.SumInKernelIdeal.nD Cert.SumInKernelIdeal.τ).loc Cert.SumInKernelIdeal.main_arg1) = m ((c.tc : Thread Cert.SumInKernelIdeal.nD Cert.SumInKernelIdeal.τ).loc Cert.SumInKernelIdeal.main_arg1)
      ∧ r.2.mem ((c.tc : Thread Cert.SumInKernelIdeal.nD Cert.SumInKernelIdeal.τ).loc Cert.SumInKernelIdeal.main_arg2) = m ((c.tc : Thread Cert.SumInKernelIdeal.nD Cert.SumInKernelIdeal.τ).loc Cert.SumInKernelIdeal.main_arg2))
      ∧ r.2.sem = fun _ => 0)

def quiescent_SumInReferenceIdeal [hSumInReferenceIdeal : Cert.SumInReferenceIdeal.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0)
      ∧ r.2.mem ((c.tc : Thread Cert.SumInReferenceIdeal.nD Cert.SumInReferenceIdeal.τ).loc Cert.SumInReferenceIdeal.main_arg1) = m ((c.tc : Thread Cert.SumInReferenceIdeal.nD Cert.SumInReferenceIdeal.τ).loc Cert.SumInReferenceIdeal.main_arg1)
      ∧ r.2.mem ((c.tc : Thread Cert.SumInReferenceIdeal.nD Cert.SumInReferenceIdeal.τ).loc Cert.SumInReferenceIdeal.main_arg2) = m ((c.tc : Thread Cert.SumInReferenceIdeal.nD Cert.SumInReferenceIdeal.τ).loc Cert.SumInReferenceIdeal.main_arg2))
      ∧ r.2.sem = fun _ => 0)

def quiescent_SumInReferenceIdeal_pre_device_number_in [hSumInReferenceIdeal : Cert.SumInReferenceIdeal.Facts] [hPre_device_number_in : Cert.Pre_device_number_in.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal_device_number_in m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0)
      ∧ r.2.mem ((c.tc : Thread Cert.SumInReferenceIdeal.nD Cert.SumInReferenceIdeal.τ).loc Cert.SumInReferenceIdeal.main_arg1) = m ((c.tc : Thread Cert.SumInReferenceIdeal.nD Cert.SumInReferenceIdeal.τ).loc Cert.SumInReferenceIdeal.main_arg1)
      ∧ r.2.mem ((c.tc : Thread Cert.SumInReferenceIdeal.nD Cert.SumInReferenceIdeal.τ).loc Cert.SumInReferenceIdeal.main_arg2) = m ((c.tc : Thread Cert.SumInReferenceIdeal.nD Cert.SumInReferenceIdeal.τ).loc Cert.SumInReferenceIdeal.main_arg2))
      ∧ r.2.sem = fun _ => 0)

def quiescent_AdalnFwdKernel [hAdalnFwdKernel : Cert.AdalnFwdKernel.Facts] : Prop :=
  ∀ (m : (ℓ : Loc Cert.AdalnFwdKernel.nD Cert.AdalnFwdKernel.τ Cert.AdalnFwdKernel.sig) → Buf (Elt Bits) ℓ) (g : Dev Cert.AdalnFwdKernel.nD → PrngReg), Pre_AdalnFwdKernel m →
    θ_run (Cert.AdalnFwdKernel.defs (F := Bits)) (onTc (τ := Cert.AdalnFwdKernel.τ) (Cert.AdalnFwdKernel.main (F := Bits))) ⟨m, fun _ => 0, g⟩ (fun r => (∀ c : Dev Cert.AdalnFwdKernel.nD,
      r.2.mem ((c.tc : Thread Cert.AdalnFwdKernel.nD Cert.AdalnFwdKernel.τ).loc Cert.AdalnFwdKernel.main_arg0) = m ((c.tc : Thread Cert.AdalnFwdKernel.nD Cert.AdalnFwdKernel.τ).loc Cert.AdalnFwdKernel.main_arg0)
      ∧ r.2.mem ((c.tc : Thread Cert.AdalnFwdKernel.nD Cert.AdalnFwdKernel.τ).loc Cert.AdalnFwdKernel.main_arg1) = m ((c.tc : Thread Cert.AdalnFwdKernel.nD Cert.AdalnFwdKernel.τ).loc Cert.AdalnFwdKernel.main_arg1)
      ∧ r.2.mem ((c.tc : Thread Cert.AdalnFwdKernel.nD Cert.AdalnFwdKernel.τ).loc Cert.AdalnFwdKernel.main_arg2) = m ((c.tc : Thread Cert.AdalnFwdKernel.nD Cert.AdalnFwdKernel.τ).loc Cert.AdalnFwdKernel.main_arg2))
      ∧ r.2.sem = fun _ => 0)

def quiescent_AdalnFwdKernelIdeal [hAdalnFwdKernelIdeal : Cert.AdalnFwdKernelIdeal.Facts] : Prop :=
  ∀ (m : (ℓ : Loc Cert.AdalnFwdKernelIdeal.nD Cert.AdalnFwdKernelIdeal.τ Cert.AdalnFwdKernelIdeal.sig) → Buf (Elt Ideal) ℓ) (g : Dev Cert.AdalnFwdKernelIdeal.nD → PrngReg), Pre_AdalnFwdKernelIdeal m →
    θ_run (Cert.AdalnFwdKernelIdeal.defs (F := Ideal)) (onTc (τ := Cert.AdalnFwdKernelIdeal.τ) (Cert.AdalnFwdKernelIdeal.main (F := Ideal))) ⟨m, fun _ => 0, g⟩ (fun r => (∀ c : Dev Cert.AdalnFwdKernelIdeal.nD,
      r.2.mem ((c.tc : Thread Cert.AdalnFwdKernelIdeal.nD Cert.AdalnFwdKernelIdeal.τ).loc Cert.AdalnFwdKernelIdeal.main_arg0) = m ((c.tc : Thread Cert.AdalnFwdKernelIdeal.nD Cert.AdalnFwdKernelIdeal.τ).loc Cert.AdalnFwdKernelIdeal.main_arg0)
      ∧ r.2.mem ((c.tc : Thread Cert.AdalnFwdKernelIdeal.nD Cert.AdalnFwdKernelIdeal.τ).loc Cert.AdalnFwdKernelIdeal.main_arg1) = m ((c.tc : Thread Cert.AdalnFwdKernelIdeal.nD Cert.AdalnFwdKernelIdeal.τ).loc Cert.AdalnFwdKernelIdeal.main_arg1)
      ∧ r.2.mem ((c.tc : Thread Cert.AdalnFwdKernelIdeal.nD Cert.AdalnFwdKernelIdeal.τ).loc Cert.AdalnFwdKernelIdeal.main_arg2) = m ((c.tc : Thread Cert.AdalnFwdKernelIdeal.nD Cert.AdalnFwdKernelIdeal.τ).loc Cert.AdalnFwdKernelIdeal.main_arg2))
      ∧ r.2.sem = fun _ => 0)

def quiescent_AdalnFwdReferenceIdeal [hAdalnFwdReferenceIdeal : Cert.AdalnFwdReferenceIdeal.Facts] : Prop :=
  ∀ (m : (ℓ : Loc Cert.AdalnFwdReferenceIdeal.nD Cert.AdalnFwdReferenceIdeal.τ Cert.AdalnFwdReferenceIdeal.sig) → Buf (Elt Ideal) ℓ) (g : Dev Cert.AdalnFwdReferenceIdeal.nD → PrngReg), Pre_AdalnFwdReferenceIdeal m →
    θ_run (Cert.AdalnFwdReferenceIdeal.defs (F := Ideal)) (onTc (τ := Cert.AdalnFwdReferenceIdeal.τ) (Cert.AdalnFwdReferenceIdeal.main (F := Ideal))) ⟨m, fun _ => 0, g⟩ (fun r => (∀ c : Dev Cert.AdalnFwdReferenceIdeal.nD,
      r.2.mem ((c.tc : Thread Cert.AdalnFwdReferenceIdeal.nD Cert.AdalnFwdReferenceIdeal.τ).loc Cert.AdalnFwdReferenceIdeal.main_arg0) = m ((c.tc : Thread Cert.AdalnFwdReferenceIdeal.nD Cert.AdalnFwdReferenceIdeal.τ).loc Cert.AdalnFwdReferenceIdeal.main_arg0)
      ∧ r.2.mem ((c.tc : Thread Cert.AdalnFwdReferenceIdeal.nD Cert.AdalnFwdReferenceIdeal.τ).loc Cert.AdalnFwdReferenceIdeal.main_arg1) = m ((c.tc : Thread Cert.AdalnFwdReferenceIdeal.nD Cert.AdalnFwdReferenceIdeal.τ).loc Cert.AdalnFwdReferenceIdeal.main_arg1)
      ∧ r.2.mem ((c.tc : Thread Cert.AdalnFwdReferenceIdeal.nD Cert.AdalnFwdReferenceIdeal.τ).loc Cert.AdalnFwdReferenceIdeal.main_arg2) = m ((c.tc : Thread Cert.AdalnFwdReferenceIdeal.nD Cert.AdalnFwdReferenceIdeal.τ).loc Cert.AdalnFwdReferenceIdeal.main_arg2))
      ∧ r.2.sem = fun _ => 0)

def preserves_DhKernel_DhKernelIdeal : Prop :=
  True

def algebraic_DhKernelIdeal_DhReferenceIdeal_pre_finite_ffn [hDhKernelIdeal : Cert.DhKernelIdeal.Facts] [hDhReferenceIdeal : Cert.DhReferenceIdeal.Facts] [hPre_finite_ffn : Cert.Pre_finite_ffn.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal_finite_ffn m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)) →
    ∃ (v0 : (c : Dev Cert.DhKernelIdeal.nD) → Buf (Elt Ideal) ((c.tc : Thread Cert.DhKernelIdeal.nD Cert.DhKernelIdeal.τ).loc Cert.DhKernelIdeal.main_v9)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v9) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v11) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)
      ∧ m' ((c.tc : Thread Cert.DwoReferenceIdeal.nD Cert.DwoReferenceIdeal.τ).loc Cert.DwoReferenceIdeal.main_arg2) = m ((c.tc : Thread Cert.DwoKernelIdeal.nD Cert.DwoKernelIdeal.τ).loc Cert.DwoKernelIdeal.main_arg2)) →
    ∃ (v0 : (c : Dev Cert.DwoKernelIdeal.nD) → Buf (Elt Ideal) ((c.tc : Thread Cert.DwoKernelIdeal.nD Cert.DwoKernelIdeal.τ).loc Cert.DwoKernelIdeal.main_v7)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v7) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
          ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v9) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2))

def preserves_DwiKernel_DwiKernelIdeal : Prop :=
  True

def algebraic_DwiKernelIdeal_DwiReferenceIdeal [hDwiKernelIdeal : Cert.DwiKernelIdeal.Facts] [hDwiReferenceIdeal : Cert.DwiReferenceIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiKernelIdeal m →
    (∀ c : Dev Cert.DwiKernelIdeal.nD,
      m' ((c.tc : Thread Cert.DwiReferenceIdeal.nD Cert.DwiReferenceIdeal.τ).loc Cert.DwiReferenceIdeal.main_arg0) = m ((c.tc : Thread Cert.DwiKernelIdeal.nD Cert.DwiKernelIdeal.τ).loc Cert.DwiKernelIdeal.main_arg0)
      ∧ m' ((c.tc : Thread Cert.DwiReferenceIdeal.nD Cert.DwiReferenceIdeal.τ).loc Cert.DwiReferenceIdeal.main_arg1) = m ((c.tc : Thread Cert.DwiKernelIdeal.nD Cert.DwiKernelIdeal.τ).loc Cert.DwiKernelIdeal.main_arg1)
      ∧ m' ((c.tc : Thread Cert.DwiReferenceIdeal.nD Cert.DwiReferenceIdeal.τ).loc Cert.DwiReferenceIdeal.main_arg2) = m ((c.tc : Thread Cert.DwiKernelIdeal.nD Cert.DwiKernelIdeal.τ).loc Cert.DwiKernelIdeal.main_arg2)
      ∧ m' ((c.tc : Thread Cert.DwiReferenceIdeal.nD Cert.DwiReferenceIdeal.τ).loc Cert.DwiReferenceIdeal.main_arg3) = m ((c.tc : Thread Cert.DwiKernelIdeal.nD Cert.DwiKernelIdeal.τ).loc Cert.DwiKernelIdeal.main_arg3)) →
    ∃ (v0 : (c : Dev Cert.DwiKernelIdeal.nD) → Buf (Elt Ideal) ((c.tc : Thread Cert.DwiKernelIdeal.nD Cert.DwiKernelIdeal.τ).loc Cert.DwiKernelIdeal.main_v13)),
      θ_run (Cert.DwiKernelIdeal.defs (F := Ideal)) (onTc (τ := Cert.DwiKernelIdeal.τ) (Cert.DwiKernelIdeal.main (F := Ideal))) ⟨m, fun _ => 0, g⟩ (fun r => ∀ c : Dev Cert.DwiKernelIdeal.nD,
          r.2.mem ((c.tc : Thread Cert.DwiKernelIdeal.nD Cert.DwiKernelIdeal.τ).loc Cert.DwiKernelIdeal.main_v13) = v0 c
          ∧ r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
          ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
          ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2)
          ∧ r.2.mem ((c.tc : Thread Cert.DwiKernelIdeal.nD Cert.DwiKernelIdeal.τ).loc Cert.DwiKernelIdeal.main_arg3) = m ((c.tc : Thread Cert.DwiKernelIdeal.nD Cert.DwiKernelIdeal.τ).loc Cert.DwiKernelIdeal.main_arg3))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v14) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1)
          ∧ r.2.mem ((c.tc : Thread Cert.DwiReferenceIdeal.nD Cert.DwiReferenceIdeal.τ).loc Cert.DwiReferenceIdeal.main_arg2) = m' ((c.tc : Thread Cert.DwiReferenceIdeal.nD Cert.DwiReferenceIdeal.τ).loc Cert.DwiReferenceIdeal.main_arg2)
          ∧ r.2.mem ((c.tc : Thread Cert.DwiReferenceIdeal.nD Cert.DwiReferenceIdeal.τ).loc Cert.DwiReferenceIdeal.main_arg3) = m' ((c.tc : Thread Cert.DwiReferenceIdeal.nD Cert.DwiReferenceIdeal.τ).loc Cert.DwiReferenceIdeal.main_arg3))

def preserves_DhCtxKernel_DhCtxKernelIdeal : Prop :=
  True

def algebraic_DhCtxKernelIdeal_DhCtxReferenceIdeal_pre_finite_ffn_ctx [hDhCtxKernelIdeal : Cert.DhCtxKernelIdeal.Facts] [hDhCtxReferenceIdeal : Cert.DhCtxReferenceIdeal.Facts] [hPre_finite_ffn_ctx : Cert.Pre_finite_ffn_ctx.Facts] : Prop :=
  ∀ (m : (ℓ : Loc Cert.DhCtxKernelIdeal.nD Cert.DhCtxKernelIdeal.τ Cert.DhCtxKernelIdeal.sig) → Buf (Elt Ideal) ℓ) (g : Dev Cert.DhCtxKernelIdeal.nD → PrngReg)
    (m' : (ℓ : Loc Cert.DhCtxReferenceIdeal.nD Cert.DhCtxReferenceIdeal.τ Cert.DhCtxReferenceIdeal.sig) → Buf (Elt Ideal) ℓ) (g' : Dev Cert.DhCtxReferenceIdeal.nD → PrngReg), Pre_DhCtxKernelIdeal_finite_ffn_ctx m →
    (∀ c : Dev Cert.DhCtxKernelIdeal.nD,
      m' ((c.tc : Thread Cert.DhCtxReferenceIdeal.nD Cert.DhCtxReferenceIdeal.τ).loc Cert.DhCtxReferenceIdeal.main_arg0) = m ((c.tc : Thread Cert.DhCtxKernelIdeal.nD Cert.DhCtxKernelIdeal.τ).loc Cert.DhCtxKernelIdeal.main_arg0)
      ∧ m' ((c.tc : Thread Cert.DhCtxReferenceIdeal.nD Cert.DhCtxReferenceIdeal.τ).loc Cert.DhCtxReferenceIdeal.main_arg1) = m ((c.tc : Thread Cert.DhCtxKernelIdeal.nD Cert.DhCtxKernelIdeal.τ).loc Cert.DhCtxKernelIdeal.main_arg1)
      ∧ m' ((c.tc : Thread Cert.DhCtxReferenceIdeal.nD Cert.DhCtxReferenceIdeal.τ).loc Cert.DhCtxReferenceIdeal.main_arg2) = m ((c.tc : Thread Cert.DhCtxKernelIdeal.nD Cert.DhCtxKernelIdeal.τ).loc Cert.DhCtxKernelIdeal.main_arg2)
      ∧ m' ((c.tc : Thread Cert.DhCtxReferenceIdeal.nD Cert.DhCtxReferenceIdeal.τ).loc Cert.DhCtxReferenceIdeal.main_arg3) = m ((c.tc : Thread Cert.DhCtxKernelIdeal.nD Cert.DhCtxKernelIdeal.τ).loc Cert.DhCtxKernelIdeal.main_arg3)) →
    ∃ (v0 : (c : Dev Cert.DhCtxKernelIdeal.nD) → Buf (Elt Ideal) ((c.tc : Thread Cert.DhCtxKernelIdeal.nD Cert.DhCtxKernelIdeal.τ).loc Cert.DhCtxKernelIdeal.main_v9)),
      θ_run (Cert.DhCtxKernelIdeal.defs (F := Ideal)) (onTc (τ := Cert.DhCtxKernelIdeal.τ) (Cert.DhCtxKernelIdeal.main (F := Ideal))) ⟨m, fun _ => 0, g⟩ (fun r => ∀ c : Dev Cert.DhCtxKernelIdeal.nD,
          r.2.mem ((c.tc : Thread Cert.DhCtxKernelIdeal.nD Cert.DhCtxKernelIdeal.τ).loc Cert.DhCtxKernelIdeal.main_v9) = v0 c
          ∧ r.2.mem ((c.tc : Thread Cert.DhCtxKernelIdeal.nD Cert.DhCtxKernelIdeal.τ).loc Cert.DhCtxKernelIdeal.main_arg0) = m ((c.tc : Thread Cert.DhCtxKernelIdeal.nD Cert.DhCtxKernelIdeal.τ).loc Cert.DhCtxKernelIdeal.main_arg0)
          ∧ r.2.mem ((c.tc : Thread Cert.DhCtxKernelIdeal.nD Cert.DhCtxKernelIdeal.τ).loc Cert.DhCtxKernelIdeal.main_arg1) = m ((c.tc : Thread Cert.DhCtxKernelIdeal.nD Cert.DhCtxKernelIdeal.τ).loc Cert.DhCtxKernelIdeal.main_arg1)
          ∧ r.2.mem ((c.tc : Thread Cert.DhCtxKernelIdeal.nD Cert.DhCtxKernelIdeal.τ).loc Cert.DhCtxKernelIdeal.main_arg2) = m ((c.tc : Thread Cert.DhCtxKernelIdeal.nD Cert.DhCtxKernelIdeal.τ).loc Cert.DhCtxKernelIdeal.main_arg2)
          ∧ r.2.mem ((c.tc : Thread Cert.DhCtxKernelIdeal.nD Cert.DhCtxKernelIdeal.τ).loc Cert.DhCtxKernelIdeal.main_arg3) = m ((c.tc : Thread Cert.DhCtxKernelIdeal.nD Cert.DhCtxKernelIdeal.τ).loc Cert.DhCtxKernelIdeal.main_arg3))
      ∧ θ_run (Cert.DhCtxReferenceIdeal.defs (F := Ideal)) (onTc (τ := Cert.DhCtxReferenceIdeal.τ) (Cert.DhCtxReferenceIdeal.main (F := Ideal))) ⟨m', fun _ => 0, g'⟩ (fun r => ∀ c : Dev Cert.DhCtxReferenceIdeal.nD,
          r.2.mem ((c.tc : Thread Cert.DhCtxReferenceIdeal.nD Cert.DhCtxReferenceIdeal.τ).loc Cert.DhCtxReferenceIdeal.main_v11) = v0 c
          ∧ r.2.mem ((c.tc : Thread Cert.DhCtxReferenceIdeal.nD Cert.DhCtxReferenceIdeal.τ).loc Cert.DhCtxReferenceIdeal.main_arg0) = m' ((c.tc : Thread Cert.DhCtxReferenceIdeal.nD Cert.DhCtxReferenceIdeal.τ).loc Cert.DhCtxReferenceIdeal.main_arg0)
          ∧ r.2.mem ((c.tc : Thread Cert.DhCtxReferenceIdeal.nD Cert.DhCtxReferenceIdeal.τ).loc Cert.DhCtxReferenceIdeal.main_arg1) = m' ((c.tc : Thread Cert.DhCtxReferenceIdeal.nD Cert.DhCtxReferenceIdeal.τ).loc Cert.DhCtxReferenceIdeal.main_arg1)
          ∧ r.2.mem ((c.tc : Thread Cert.DhCtxReferenceIdeal.nD Cert.DhCtxReferenceIdeal.τ).loc Cert.DhCtxReferenceIdeal.main_arg2) = m' ((c.tc : Thread Cert.DhCtxReferenceIdeal.nD Cert.DhCtxReferenceIdeal.τ).loc Cert.DhCtxReferenceIdeal.main_arg2)
          ∧ r.2.mem ((c.tc : Thread Cert.DhCtxReferenceIdeal.nD Cert.DhCtxReferenceIdeal.τ).loc Cert.DhCtxReferenceIdeal.main_arg3) = m' ((c.tc : Thread Cert.DhCtxReferenceIdeal.nD Cert.DhCtxReferenceIdeal.τ).loc Cert.DhCtxReferenceIdeal.main_arg3))

def preserves_DwoCtxKernel_DwoCtxKernelIdeal : Prop :=
  True

def algebraic_DwoCtxKernelIdeal_DwoCtxReferenceIdeal [hDwoCtxKernelIdeal : Cert.DwoCtxKernelIdeal.Facts] [hDwoCtxReferenceIdeal : Cert.DwoCtxReferenceIdeal.Facts] : Prop :=
  ∀ (m : (ℓ : Loc Cert.DwoCtxKernelIdeal.nD Cert.DwoCtxKernelIdeal.τ Cert.DwoCtxKernelIdeal.sig) → Buf (Elt Ideal) ℓ) (g : Dev Cert.DwoCtxKernelIdeal.nD → PrngReg)
    (m' : (ℓ : Loc Cert.DwoCtxReferenceIdeal.nD Cert.DwoCtxReferenceIdeal.τ Cert.DwoCtxReferenceIdeal.sig) → Buf (Elt Ideal) ℓ) (g' : Dev Cert.DwoCtxReferenceIdeal.nD → PrngReg), Pre_DwoCtxKernelIdeal m →
    (∀ c : Dev Cert.DwoCtxKernelIdeal.nD,
      m' ((c.tc : Thread Cert.DwoCtxReferenceIdeal.nD Cert.DwoCtxReferenceIdeal.τ).loc Cert.DwoCtxReferenceIdeal.main_arg0) = m ((c.tc : Thread Cert.DwoCtxKernelIdeal.nD Cert.DwoCtxKernelIdeal.τ).loc Cert.DwoCtxKernelIdeal.main_arg0)
      ∧ m' ((c.tc : Thread Cert.DwoCtxReferenceIdeal.nD Cert.DwoCtxReferenceIdeal.τ).loc Cert.DwoCtxReferenceIdeal.main_arg1) = m ((c.tc : Thread Cert.DwoCtxKernelIdeal.nD Cert.DwoCtxKernelIdeal.τ).loc Cert.DwoCtxKernelIdeal.main_arg1)
      ∧ m' ((c.tc : Thread Cert.DwoCtxReferenceIdeal.nD Cert.DwoCtxReferenceIdeal.τ).loc Cert.DwoCtxReferenceIdeal.main_arg2) = m ((c.tc : Thread Cert.DwoCtxKernelIdeal.nD Cert.DwoCtxKernelIdeal.τ).loc Cert.DwoCtxKernelIdeal.main_arg2)) →
    ∃ (v0 : (c : Dev Cert.DwoCtxKernelIdeal.nD) → Buf (Elt Ideal) ((c.tc : Thread Cert.DwoCtxKernelIdeal.nD Cert.DwoCtxKernelIdeal.τ).loc Cert.DwoCtxKernelIdeal.main_v7)),
      θ_run (Cert.DwoCtxKernelIdeal.defs (F := Ideal)) (onTc (τ := Cert.DwoCtxKernelIdeal.τ) (Cert.DwoCtxKernelIdeal.main (F := Ideal))) ⟨m, fun _ => 0, g⟩ (fun r => ∀ c : Dev Cert.DwoCtxKernelIdeal.nD,
          r.2.mem ((c.tc : Thread Cert.DwoCtxKernelIdeal.nD Cert.DwoCtxKernelIdeal.τ).loc Cert.DwoCtxKernelIdeal.main_v7) = v0 c
          ∧ r.2.mem ((c.tc : Thread Cert.DwoCtxKernelIdeal.nD Cert.DwoCtxKernelIdeal.τ).loc Cert.DwoCtxKernelIdeal.main_arg0) = m ((c.tc : Thread Cert.DwoCtxKernelIdeal.nD Cert.DwoCtxKernelIdeal.τ).loc Cert.DwoCtxKernelIdeal.main_arg0)
          ∧ r.2.mem ((c.tc : Thread Cert.DwoCtxKernelIdeal.nD Cert.DwoCtxKernelIdeal.τ).loc Cert.DwoCtxKernelIdeal.main_arg1) = m ((c.tc : Thread Cert.DwoCtxKernelIdeal.nD Cert.DwoCtxKernelIdeal.τ).loc Cert.DwoCtxKernelIdeal.main_arg1)
          ∧ r.2.mem ((c.tc : Thread Cert.DwoCtxKernelIdeal.nD Cert.DwoCtxKernelIdeal.τ).loc Cert.DwoCtxKernelIdeal.main_arg2) = m ((c.tc : Thread Cert.DwoCtxKernelIdeal.nD Cert.DwoCtxKernelIdeal.τ).loc Cert.DwoCtxKernelIdeal.main_arg2))
      ∧ θ_run (Cert.DwoCtxReferenceIdeal.defs (F := Ideal)) (onTc (τ := Cert.DwoCtxReferenceIdeal.τ) (Cert.DwoCtxReferenceIdeal.main (F := Ideal))) ⟨m', fun _ => 0, g'⟩ (fun r => ∀ c : Dev Cert.DwoCtxReferenceIdeal.nD,
          r.2.mem ((c.tc : Thread Cert.DwoCtxReferenceIdeal.nD Cert.DwoCtxReferenceIdeal.τ).loc Cert.DwoCtxReferenceIdeal.main_v9) = v0 c
          ∧ r.2.mem ((c.tc : Thread Cert.DwoCtxReferenceIdeal.nD Cert.DwoCtxReferenceIdeal.τ).loc Cert.DwoCtxReferenceIdeal.main_arg0) = m' ((c.tc : Thread Cert.DwoCtxReferenceIdeal.nD Cert.DwoCtxReferenceIdeal.τ).loc Cert.DwoCtxReferenceIdeal.main_arg0)
          ∧ r.2.mem ((c.tc : Thread Cert.DwoCtxReferenceIdeal.nD Cert.DwoCtxReferenceIdeal.τ).loc Cert.DwoCtxReferenceIdeal.main_arg1) = m' ((c.tc : Thread Cert.DwoCtxReferenceIdeal.nD Cert.DwoCtxReferenceIdeal.τ).loc Cert.DwoCtxReferenceIdeal.main_arg1)
          ∧ r.2.mem ((c.tc : Thread Cert.DwoCtxReferenceIdeal.nD Cert.DwoCtxReferenceIdeal.τ).loc Cert.DwoCtxReferenceIdeal.main_arg2) = m' ((c.tc : Thread Cert.DwoCtxReferenceIdeal.nD Cert.DwoCtxReferenceIdeal.τ).loc Cert.DwoCtxReferenceIdeal.main_arg2))

def preserves_DwiCtxKernel_DwiCtxKernelIdeal : Prop :=
  True

def algebraic_DwiCtxKernelIdeal_DwiCtxReferenceIdeal [hDwiCtxKernelIdeal : Cert.DwiCtxKernelIdeal.Facts] [hDwiCtxReferenceIdeal : Cert.DwiCtxReferenceIdeal.Facts] : Prop :=
  ∀ (m : (ℓ : Loc Cert.DwiCtxKernelIdeal.nD Cert.DwiCtxKernelIdeal.τ Cert.DwiCtxKernelIdeal.sig) → Buf (Elt Ideal) ℓ) (g : Dev Cert.DwiCtxKernelIdeal.nD → PrngReg)
    (m' : (ℓ : Loc Cert.DwiCtxReferenceIdeal.nD Cert.DwiCtxReferenceIdeal.τ Cert.DwiCtxReferenceIdeal.sig) → Buf (Elt Ideal) ℓ) (g' : Dev Cert.DwiCtxReferenceIdeal.nD → PrngReg), Pre_DwiCtxKernelIdeal m →
    (∀ c : Dev Cert.DwiCtxKernelIdeal.nD,
      m' ((c.tc : Thread Cert.DwiCtxReferenceIdeal.nD Cert.DwiCtxReferenceIdeal.τ).loc Cert.DwiCtxReferenceIdeal.main_arg0) = m ((c.tc : Thread Cert.DwiCtxKernelIdeal.nD Cert.DwiCtxKernelIdeal.τ).loc Cert.DwiCtxKernelIdeal.main_arg0)
      ∧ m' ((c.tc : Thread Cert.DwiCtxReferenceIdeal.nD Cert.DwiCtxReferenceIdeal.τ).loc Cert.DwiCtxReferenceIdeal.main_arg1) = m ((c.tc : Thread Cert.DwiCtxKernelIdeal.nD Cert.DwiCtxKernelIdeal.τ).loc Cert.DwiCtxKernelIdeal.main_arg1)
      ∧ m' ((c.tc : Thread Cert.DwiCtxReferenceIdeal.nD Cert.DwiCtxReferenceIdeal.τ).loc Cert.DwiCtxReferenceIdeal.main_arg2) = m ((c.tc : Thread Cert.DwiCtxKernelIdeal.nD Cert.DwiCtxKernelIdeal.τ).loc Cert.DwiCtxKernelIdeal.main_arg2)
      ∧ m' ((c.tc : Thread Cert.DwiCtxReferenceIdeal.nD Cert.DwiCtxReferenceIdeal.τ).loc Cert.DwiCtxReferenceIdeal.main_arg3) = m ((c.tc : Thread Cert.DwiCtxKernelIdeal.nD Cert.DwiCtxKernelIdeal.τ).loc Cert.DwiCtxKernelIdeal.main_arg3)) →
    ∃ (v0 : (c : Dev Cert.DwiCtxKernelIdeal.nD) → Buf (Elt Ideal) ((c.tc : Thread Cert.DwiCtxKernelIdeal.nD Cert.DwiCtxKernelIdeal.τ).loc Cert.DwiCtxKernelIdeal.main_v13)),
      θ_run (Cert.DwiCtxKernelIdeal.defs (F := Ideal)) (onTc (τ := Cert.DwiCtxKernelIdeal.τ) (Cert.DwiCtxKernelIdeal.main (F := Ideal))) ⟨m, fun _ => 0, g⟩ (fun r => ∀ c : Dev Cert.DwiCtxKernelIdeal.nD,
          r.2.mem ((c.tc : Thread Cert.DwiCtxKernelIdeal.nD Cert.DwiCtxKernelIdeal.τ).loc Cert.DwiCtxKernelIdeal.main_v13) = v0 c
          ∧ r.2.mem ((c.tc : Thread Cert.DwiCtxKernelIdeal.nD Cert.DwiCtxKernelIdeal.τ).loc Cert.DwiCtxKernelIdeal.main_arg0) = m ((c.tc : Thread Cert.DwiCtxKernelIdeal.nD Cert.DwiCtxKernelIdeal.τ).loc Cert.DwiCtxKernelIdeal.main_arg0)
          ∧ r.2.mem ((c.tc : Thread Cert.DwiCtxKernelIdeal.nD Cert.DwiCtxKernelIdeal.τ).loc Cert.DwiCtxKernelIdeal.main_arg1) = m ((c.tc : Thread Cert.DwiCtxKernelIdeal.nD Cert.DwiCtxKernelIdeal.τ).loc Cert.DwiCtxKernelIdeal.main_arg1)
          ∧ r.2.mem ((c.tc : Thread Cert.DwiCtxKernelIdeal.nD Cert.DwiCtxKernelIdeal.τ).loc Cert.DwiCtxKernelIdeal.main_arg2) = m ((c.tc : Thread Cert.DwiCtxKernelIdeal.nD Cert.DwiCtxKernelIdeal.τ).loc Cert.DwiCtxKernelIdeal.main_arg2)
          ∧ r.2.mem ((c.tc : Thread Cert.DwiCtxKernelIdeal.nD Cert.DwiCtxKernelIdeal.τ).loc Cert.DwiCtxKernelIdeal.main_arg3) = m ((c.tc : Thread Cert.DwiCtxKernelIdeal.nD Cert.DwiCtxKernelIdeal.τ).loc Cert.DwiCtxKernelIdeal.main_arg3))
      ∧ θ_run (Cert.DwiCtxReferenceIdeal.defs (F := Ideal)) (onTc (τ := Cert.DwiCtxReferenceIdeal.τ) (Cert.DwiCtxReferenceIdeal.main (F := Ideal))) ⟨m', fun _ => 0, g'⟩ (fun r => ∀ c : Dev Cert.DwiCtxReferenceIdeal.nD,
          r.2.mem ((c.tc : Thread Cert.DwiCtxReferenceIdeal.nD Cert.DwiCtxReferenceIdeal.τ).loc Cert.DwiCtxReferenceIdeal.main_v14) = v0 c
          ∧ r.2.mem ((c.tc : Thread Cert.DwiCtxReferenceIdeal.nD Cert.DwiCtxReferenceIdeal.τ).loc Cert.DwiCtxReferenceIdeal.main_arg0) = m' ((c.tc : Thread Cert.DwiCtxReferenceIdeal.nD Cert.DwiCtxReferenceIdeal.τ).loc Cert.DwiCtxReferenceIdeal.main_arg0)
          ∧ r.2.mem ((c.tc : Thread Cert.DwiCtxReferenceIdeal.nD Cert.DwiCtxReferenceIdeal.τ).loc Cert.DwiCtxReferenceIdeal.main_arg1) = m' ((c.tc : Thread Cert.DwiCtxReferenceIdeal.nD Cert.DwiCtxReferenceIdeal.τ).loc Cert.DwiCtxReferenceIdeal.main_arg1)
          ∧ r.2.mem ((c.tc : Thread Cert.DwiCtxReferenceIdeal.nD Cert.DwiCtxReferenceIdeal.τ).loc Cert.DwiCtxReferenceIdeal.main_arg2) = m' ((c.tc : Thread Cert.DwiCtxReferenceIdeal.nD Cert.DwiCtxReferenceIdeal.τ).loc Cert.DwiCtxReferenceIdeal.main_arg2)
          ∧ r.2.mem ((c.tc : Thread Cert.DwiCtxReferenceIdeal.nD Cert.DwiCtxReferenceIdeal.τ).loc Cert.DwiCtxReferenceIdeal.main_arg3) = m' ((c.tc : Thread Cert.DwiCtxReferenceIdeal.nD Cert.DwiCtxReferenceIdeal.τ).loc Cert.DwiCtxReferenceIdeal.main_arg3))

def preserves_AdamWiKernel_AdamWiKernelIdeal : Prop :=
  IdealRules.named_const.Statement Cert.AdamWiKernelIdeal.κ "inv_c1" .f32 0x3FC48605#32 ((8388608 / 5463681 : ℝ) : EReal)
  ∧ IdealRules.named_const.Statement Cert.AdamWiKernelIdeal.κ "inv_c2" .f32 0x42C8E6D3#32 ((268435456 / 2672307 : ℝ) : EReal)

def algebraic_AdamWiKernelIdeal_AdamWiReferenceIdeal [hAdamWiKernelIdeal : Cert.AdamWiKernelIdeal.Facts] [hAdamWiReferenceIdeal : Cert.AdamWiReferenceIdeal.Facts] : Prop :=
  ∀ (m : (ℓ : Loc Cert.AdamWiKernelIdeal.nD Cert.AdamWiKernelIdeal.τ Cert.AdamWiKernelIdeal.sig) → Buf (Elt Ideal) ℓ) (g : Dev Cert.AdamWiKernelIdeal.nD → PrngReg)
    (m' : (ℓ : Loc Cert.AdamWiReferenceIdeal.nD Cert.AdamWiReferenceIdeal.τ Cert.AdamWiReferenceIdeal.sig) → Buf (Elt Ideal) ℓ) (g' : Dev Cert.AdamWiReferenceIdeal.nD → PrngReg), Pre_AdamWiKernelIdeal m →
    (∀ c : Dev Cert.AdamWiKernelIdeal.nD,
      m' ((c.tc : Thread Cert.AdamWiReferenceIdeal.nD Cert.AdamWiReferenceIdeal.τ).loc Cert.AdamWiReferenceIdeal.main_arg0) = m ((c.tc : Thread Cert.AdamWiKernelIdeal.nD Cert.AdamWiKernelIdeal.τ).loc Cert.AdamWiKernelIdeal.main_arg0)
      ∧ m' ((c.tc : Thread Cert.AdamWiReferenceIdeal.nD Cert.AdamWiReferenceIdeal.τ).loc Cert.AdamWiReferenceIdeal.main_arg1) = m ((c.tc : Thread Cert.AdamWiKernelIdeal.nD Cert.AdamWiKernelIdeal.τ).loc Cert.AdamWiKernelIdeal.main_arg1)
      ∧ m' ((c.tc : Thread Cert.AdamWiReferenceIdeal.nD Cert.AdamWiReferenceIdeal.τ).loc Cert.AdamWiReferenceIdeal.main_arg2) = m ((c.tc : Thread Cert.AdamWiKernelIdeal.nD Cert.AdamWiKernelIdeal.τ).loc Cert.AdamWiKernelIdeal.main_arg2)
      ∧ m' ((c.tc : Thread Cert.AdamWiReferenceIdeal.nD Cert.AdamWiReferenceIdeal.τ).loc Cert.AdamWiReferenceIdeal.main_arg3) = m ((c.tc : Thread Cert.AdamWiKernelIdeal.nD Cert.AdamWiKernelIdeal.τ).loc Cert.AdamWiKernelIdeal.main_arg3)) →
    ∃ (v0 : (c : Dev Cert.AdamWiKernelIdeal.nD) → Buf (Elt Ideal) ((c.tc : Thread Cert.AdamWiKernelIdeal.nD Cert.AdamWiKernelIdeal.τ).loc Cert.AdamWiKernelIdeal.main_v4_0)) (v1 : (c : Dev Cert.AdamWiKernelIdeal.nD) → Buf (Elt Ideal) ((c.tc : Thread Cert.AdamWiKernelIdeal.nD Cert.AdamWiKernelIdeal.τ).loc Cert.AdamWiKernelIdeal.main_v4_1)) (v2 : (c : Dev Cert.AdamWiKernelIdeal.nD) → Buf (Elt Ideal) ((c.tc : Thread Cert.AdamWiKernelIdeal.nD Cert.AdamWiKernelIdeal.τ).loc Cert.AdamWiKernelIdeal.main_v4_2)),
      θ_run (Cert.AdamWiKernelIdeal.defs (F := Ideal)) (onTc (τ := Cert.AdamWiKernelIdeal.τ) (Cert.AdamWiKernelIdeal.main (F := Ideal))) ⟨m, fun _ => 0, g⟩ (fun r => ∀ c : Dev Cert.AdamWiKernelIdeal.nD,
          r.2.mem ((c.tc : Thread Cert.AdamWiKernelIdeal.nD Cert.AdamWiKernelIdeal.τ).loc Cert.AdamWiKernelIdeal.main_v4_0) = v0 c
          ∧ r.2.mem ((c.tc : Thread Cert.AdamWiKernelIdeal.nD Cert.AdamWiKernelIdeal.τ).loc Cert.AdamWiKernelIdeal.main_v4_1) = v1 c
          ∧ r.2.mem ((c.tc : Thread Cert.AdamWiKernelIdeal.nD Cert.AdamWiKernelIdeal.τ).loc Cert.AdamWiKernelIdeal.main_v4_2) = v2 c
          ∧ r.2.mem ((c.tc : Thread Cert.AdamWiKernelIdeal.nD Cert.AdamWiKernelIdeal.τ).loc Cert.AdamWiKernelIdeal.main_arg0) = m ((c.tc : Thread Cert.AdamWiKernelIdeal.nD Cert.AdamWiKernelIdeal.τ).loc Cert.AdamWiKernelIdeal.main_arg0)
          ∧ r.2.mem ((c.tc : Thread Cert.AdamWiKernelIdeal.nD Cert.AdamWiKernelIdeal.τ).loc Cert.AdamWiKernelIdeal.main_arg1) = m ((c.tc : Thread Cert.AdamWiKernelIdeal.nD Cert.AdamWiKernelIdeal.τ).loc Cert.AdamWiKernelIdeal.main_arg1)
          ∧ r.2.mem ((c.tc : Thread Cert.AdamWiKernelIdeal.nD Cert.AdamWiKernelIdeal.τ).loc Cert.AdamWiKernelIdeal.main_arg2) = m ((c.tc : Thread Cert.AdamWiKernelIdeal.nD Cert.AdamWiKernelIdeal.τ).loc Cert.AdamWiKernelIdeal.main_arg2)
          ∧ r.2.mem ((c.tc : Thread Cert.AdamWiKernelIdeal.nD Cert.AdamWiKernelIdeal.τ).loc Cert.AdamWiKernelIdeal.main_arg3) = m ((c.tc : Thread Cert.AdamWiKernelIdeal.nD Cert.AdamWiKernelIdeal.τ).loc Cert.AdamWiKernelIdeal.main_arg3))
      ∧ θ_run (Cert.AdamWiReferenceIdeal.defs (F := Ideal)) (onTc (τ := Cert.AdamWiReferenceIdeal.τ) (Cert.AdamWiReferenceIdeal.main (F := Ideal))) ⟨m', fun _ => 0, g'⟩ (fun r => ∀ c : Dev Cert.AdamWiReferenceIdeal.nD,
          r.2.mem ((c.tc : Thread Cert.AdamWiReferenceIdeal.nD Cert.AdamWiReferenceIdeal.τ).loc Cert.AdamWiReferenceIdeal.main_v24) = v0 c
          ∧ r.2.mem ((c.tc : Thread Cert.AdamWiReferenceIdeal.nD Cert.AdamWiReferenceIdeal.τ).loc Cert.AdamWiReferenceIdeal.main_v25) = v1 c
          ∧ r.2.mem ((c.tc : Thread Cert.AdamWiReferenceIdeal.nD Cert.AdamWiReferenceIdeal.τ).loc Cert.AdamWiReferenceIdeal.main_v26) = v2 c
          ∧ r.2.mem ((c.tc : Thread Cert.AdamWiReferenceIdeal.nD Cert.AdamWiReferenceIdeal.τ).loc Cert.AdamWiReferenceIdeal.main_arg0) = m' ((c.tc : Thread Cert.AdamWiReferenceIdeal.nD Cert.AdamWiReferenceIdeal.τ).loc Cert.AdamWiReferenceIdeal.main_arg0)
          ∧ r.2.mem ((c.tc : Thread Cert.AdamWiReferenceIdeal.nD Cert.AdamWiReferenceIdeal.τ).loc Cert.AdamWiReferenceIdeal.main_arg1) = m' ((c.tc : Thread Cert.AdamWiReferenceIdeal.nD Cert.AdamWiReferenceIdeal.τ).loc Cert.AdamWiReferenceIdeal.main_arg1)
          ∧ r.2.mem ((c.tc : Thread Cert.AdamWiReferenceIdeal.nD Cert.AdamWiReferenceIdeal.τ).loc Cert.AdamWiReferenceIdeal.main_arg2) = m' ((c.tc : Thread Cert.AdamWiReferenceIdeal.nD Cert.AdamWiReferenceIdeal.τ).loc Cert.AdamWiReferenceIdeal.main_arg2)
          ∧ r.2.mem ((c.tc : Thread Cert.AdamWiReferenceIdeal.nD Cert.AdamWiReferenceIdeal.τ).loc Cert.AdamWiReferenceIdeal.main_arg3) = m' ((c.tc : Thread Cert.AdamWiReferenceIdeal.nD Cert.AdamWiReferenceIdeal.τ).loc Cert.AdamWiReferenceIdeal.main_arg3))

def preserves_AdamWoKernel_AdamWoKernelIdeal : Prop :=
  IdealRules.named_const.Statement Cert.AdamWoKernelIdeal.κ "inv_c1" .f32 0x3FC48605#32 ((8388608 / 5463681 : ℝ) : EReal)
  ∧ IdealRules.named_const.Statement Cert.AdamWoKernelIdeal.κ "inv_c2" .f32 0x42C8E6D3#32 ((268435456 / 2672307 : ℝ) : EReal)

def algebraic_AdamWoKernelIdeal_AdamWoReferenceIdeal [hAdamWoKernelIdeal : Cert.AdamWoKernelIdeal.Facts] [hAdamWoReferenceIdeal : Cert.AdamWoReferenceIdeal.Facts] : Prop :=
  ∀ (m : (ℓ : Loc Cert.AdamWoKernelIdeal.nD Cert.AdamWoKernelIdeal.τ Cert.AdamWoKernelIdeal.sig) → Buf (Elt Ideal) ℓ) (g : Dev Cert.AdamWoKernelIdeal.nD → PrngReg)
    (m' : (ℓ : Loc Cert.AdamWoReferenceIdeal.nD Cert.AdamWoReferenceIdeal.τ Cert.AdamWoReferenceIdeal.sig) → Buf (Elt Ideal) ℓ) (g' : Dev Cert.AdamWoReferenceIdeal.nD → PrngReg), Pre_AdamWoKernelIdeal m →
    (∀ c : Dev Cert.AdamWoKernelIdeal.nD,
      m' ((c.tc : Thread Cert.AdamWoReferenceIdeal.nD Cert.AdamWoReferenceIdeal.τ).loc Cert.AdamWoReferenceIdeal.main_arg0) = m ((c.tc : Thread Cert.AdamWoKernelIdeal.nD Cert.AdamWoKernelIdeal.τ).loc Cert.AdamWoKernelIdeal.main_arg0)
      ∧ m' ((c.tc : Thread Cert.AdamWoReferenceIdeal.nD Cert.AdamWoReferenceIdeal.τ).loc Cert.AdamWoReferenceIdeal.main_arg1) = m ((c.tc : Thread Cert.AdamWoKernelIdeal.nD Cert.AdamWoKernelIdeal.τ).loc Cert.AdamWoKernelIdeal.main_arg1)
      ∧ m' ((c.tc : Thread Cert.AdamWoReferenceIdeal.nD Cert.AdamWoReferenceIdeal.τ).loc Cert.AdamWoReferenceIdeal.main_arg2) = m ((c.tc : Thread Cert.AdamWoKernelIdeal.nD Cert.AdamWoKernelIdeal.τ).loc Cert.AdamWoKernelIdeal.main_arg2)
      ∧ m' ((c.tc : Thread Cert.AdamWoReferenceIdeal.nD Cert.AdamWoReferenceIdeal.τ).loc Cert.AdamWoReferenceIdeal.main_arg3) = m ((c.tc : Thread Cert.AdamWoKernelIdeal.nD Cert.AdamWoKernelIdeal.τ).loc Cert.AdamWoKernelIdeal.main_arg3)) →
    ∃ (v0 : (c : Dev Cert.AdamWoKernelIdeal.nD) → Buf (Elt Ideal) ((c.tc : Thread Cert.AdamWoKernelIdeal.nD Cert.AdamWoKernelIdeal.τ).loc Cert.AdamWoKernelIdeal.main_v4_0)) (v1 : (c : Dev Cert.AdamWoKernelIdeal.nD) → Buf (Elt Ideal) ((c.tc : Thread Cert.AdamWoKernelIdeal.nD Cert.AdamWoKernelIdeal.τ).loc Cert.AdamWoKernelIdeal.main_v4_1)) (v2 : (c : Dev Cert.AdamWoKernelIdeal.nD) → Buf (Elt Ideal) ((c.tc : Thread Cert.AdamWoKernelIdeal.nD Cert.AdamWoKernelIdeal.τ).loc Cert.AdamWoKernelIdeal.main_v4_2)),
      θ_run (Cert.AdamWoKernelIdeal.defs (F := Ideal)) (onTc (τ := Cert.AdamWoKernelIdeal.τ) (Cert.AdamWoKernelIdeal.main (F := Ideal))) ⟨m, fun _ => 0, g⟩ (fun r => ∀ c : Dev Cert.AdamWoKernelIdeal.nD,
          r.2.mem ((c.tc : Thread Cert.AdamWoKernelIdeal.nD Cert.AdamWoKernelIdeal.τ).loc Cert.AdamWoKernelIdeal.main_v4_0) = v0 c
          ∧ r.2.mem ((c.tc : Thread Cert.AdamWoKernelIdeal.nD Cert.AdamWoKernelIdeal.τ).loc Cert.AdamWoKernelIdeal.main_v4_1) = v1 c
          ∧ r.2.mem ((c.tc : Thread Cert.AdamWoKernelIdeal.nD Cert.AdamWoKernelIdeal.τ).loc Cert.AdamWoKernelIdeal.main_v4_2) = v2 c
          ∧ r.2.mem ((c.tc : Thread Cert.AdamWoKernelIdeal.nD Cert.AdamWoKernelIdeal.τ).loc Cert.AdamWoKernelIdeal.main_arg0) = m ((c.tc : Thread Cert.AdamWoKernelIdeal.nD Cert.AdamWoKernelIdeal.τ).loc Cert.AdamWoKernelIdeal.main_arg0)
          ∧ r.2.mem ((c.tc : Thread Cert.AdamWoKernelIdeal.nD Cert.AdamWoKernelIdeal.τ).loc Cert.AdamWoKernelIdeal.main_arg1) = m ((c.tc : Thread Cert.AdamWoKernelIdeal.nD Cert.AdamWoKernelIdeal.τ).loc Cert.AdamWoKernelIdeal.main_arg1)
          ∧ r.2.mem ((c.tc : Thread Cert.AdamWoKernelIdeal.nD Cert.AdamWoKernelIdeal.τ).loc Cert.AdamWoKernelIdeal.main_arg2) = m ((c.tc : Thread Cert.AdamWoKernelIdeal.nD Cert.AdamWoKernelIdeal.τ).loc Cert.AdamWoKernelIdeal.main_arg2)
          ∧ r.2.mem ((c.tc : Thread Cert.AdamWoKernelIdeal.nD Cert.AdamWoKernelIdeal.τ).loc Cert.AdamWoKernelIdeal.main_arg3) = m ((c.tc : Thread Cert.AdamWoKernelIdeal.nD Cert.AdamWoKernelIdeal.τ).loc Cert.AdamWoKernelIdeal.main_arg3))
      ∧ θ_run (Cert.AdamWoReferenceIdeal.defs (F := Ideal)) (onTc (τ := Cert.AdamWoReferenceIdeal.τ) (Cert.AdamWoReferenceIdeal.main (F := Ideal))) ⟨m', fun _ => 0, g'⟩ (fun r => ∀ c : Dev Cert.AdamWoReferenceIdeal.nD,
          r.2.mem ((c.tc : Thread Cert.AdamWoReferenceIdeal.nD Cert.AdamWoReferenceIdeal.τ).loc Cert.AdamWoReferenceIdeal.main_v24) = v0 c
          ∧ r.2.mem ((c.tc : Thread Cert.AdamWoReferenceIdeal.nD Cert.AdamWoReferenceIdeal.τ).loc Cert.AdamWoReferenceIdeal.main_v25) = v1 c
          ∧ r.2.mem ((c.tc : Thread Cert.AdamWoReferenceIdeal.nD Cert.AdamWoReferenceIdeal.τ).loc Cert.AdamWoReferenceIdeal.main_v26) = v2 c
          ∧ r.2.mem ((c.tc : Thread Cert.AdamWoReferenceIdeal.nD Cert.AdamWoReferenceIdeal.τ).loc Cert.AdamWoReferenceIdeal.main_arg0) = m' ((c.tc : Thread Cert.AdamWoReferenceIdeal.nD Cert.AdamWoReferenceIdeal.τ).loc Cert.AdamWoReferenceIdeal.main_arg0)
          ∧ r.2.mem ((c.tc : Thread Cert.AdamWoReferenceIdeal.nD Cert.AdamWoReferenceIdeal.τ).loc Cert.AdamWoReferenceIdeal.main_arg1) = m' ((c.tc : Thread Cert.AdamWoReferenceIdeal.nD Cert.AdamWoReferenceIdeal.τ).loc Cert.AdamWoReferenceIdeal.main_arg1)
          ∧ r.2.mem ((c.tc : Thread Cert.AdamWoReferenceIdeal.nD Cert.AdamWoReferenceIdeal.τ).loc Cert.AdamWoReferenceIdeal.main_arg2) = m' ((c.tc : Thread Cert.AdamWoReferenceIdeal.nD Cert.AdamWoReferenceIdeal.τ).loc Cert.AdamWoReferenceIdeal.main_arg2)
          ∧ r.2.mem ((c.tc : Thread Cert.AdamWoReferenceIdeal.nD Cert.AdamWoReferenceIdeal.τ).loc Cert.AdamWoReferenceIdeal.main_arg3) = m' ((c.tc : Thread Cert.AdamWoReferenceIdeal.nD Cert.AdamWoReferenceIdeal.τ).loc Cert.AdamWoReferenceIdeal.main_arg3))

def preserves_AdamInKernel_AdamInKernelIdeal : Prop :=
  IdealRules.named_const.Statement Cert.AdamInKernelIdeal.κ "inv_c1" .f32 0x3FC48605#32 ((8388608 / 5463681 : ℝ) : EReal)
  ∧ IdealRules.named_const.Statement Cert.AdamInKernelIdeal.κ "inv_c2" .f32 0x42C8E6D3#32 ((268435456 / 2672307 : ℝ) : EReal)

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v4_0)) (v1 : (c : Dev Cert.AdamInKernelIdeal.nD) → Buf (Elt Ideal) ((c.tc : Thread Cert.AdamInKernelIdeal.nD Cert.AdamInKernelIdeal.τ).loc Cert.AdamInKernelIdeal.main_v4_1)) (v2 : (c : Dev Cert.AdamInKernelIdeal.nD) → Buf (Elt Ideal) ((c.tc : Thread Cert.AdamInKernelIdeal.nD Cert.AdamInKernelIdeal.τ).loc Cert.AdamInKernelIdeal.main_v4_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v4_0) = v0 c
          ∧ r.2.mem ((c.tc : Thread Cert.AdamInKernelIdeal.nD Cert.AdamInKernelIdeal.τ).loc Cert.AdamInKernelIdeal.main_v4_1) = v1 c
          ∧ r.2.mem ((c.tc : Thread Cert.AdamInKernelIdeal.nD Cert.AdamInKernelIdeal.τ).loc Cert.AdamInKernelIdeal.main_v4_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v24) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v26) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOutKernel_AdamOutKernelIdeal : Prop :=
  IdealRules.named_const.Statement Cert.AdamOutKernelIdeal.κ "inv_c1" .f32 0x3FC48605#32 ((8388608 / 5463681 : ℝ) : EReal)
  ∧ IdealRules.named_const.Statement Cert.AdamOutKernelIdeal.κ "inv_c2" .f32 0x42C8E6D3#32 ((268435456 / 2672307 : ℝ) : EReal)

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v4_0)) (v1 : (c : Dev Cert.AdamOutKernelIdeal.nD) → Buf (Elt Ideal) ((c.tc : Thread Cert.AdamOutKernelIdeal.nD Cert.AdamOutKernelIdeal.τ).loc Cert.AdamOutKernelIdeal.main_v4_1)) (v2 : (c : Dev Cert.AdamOutKernelIdeal.nD) → Buf (Elt Ideal) ((c.tc : Thread Cert.AdamOutKernelIdeal.nD Cert.AdamOutKernelIdeal.τ).loc Cert.AdamOutKernelIdeal.main_v4_2)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v4_0) = v0 c
          ∧ r.2.mem ((c.tc : Thread Cert.AdamOutKernelIdeal.nD Cert.AdamOutKernelIdeal.τ).loc Cert.AdamOutKernelIdeal.main_v4_1) = v1 c
          ∧ r.2.mem ((c.tc : Thread Cert.AdamOutKernelIdeal.nD Cert.AdamOutKernelIdeal.τ).loc Cert.AdamOutKernelIdeal.main_v4_2) = v2 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v24) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v26) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamPoolKernel_AdamPoolKernelIdeal : Prop :=
  IdealRules.named_const.Statement Cert.AdamPoolKernelIdeal.κ "inv_c1" .f32 0x3FC48605#32 ((8388608 / 5463681 : ℝ) : EReal)
  ∧ IdealRules.named_const.Statement Cert.AdamPoolKernelIdeal.κ "inv_c2" .f32 0x42C8E6D3#32 ((268435456 / 2672307 : ℝ) : EReal)

def algebraic_AdamPoolKernelIdeal_AdamPoolReferenceIdeal [hAdamPoolKernelIdeal : Cert.AdamPoolKernelIdeal.Facts] [hAdamPoolReferenceIdeal : Cert.AdamPoolReferenceIdeal.Facts] : Prop :=
  ∀ (m : (ℓ : Loc Cert.AdamPoolKernelIdeal.nD Cert.AdamPoolKernelIdeal.τ Cert.AdamPoolKernelIdeal.sig) → Buf (Elt Ideal) ℓ) (g : Dev Cert.AdamPoolKernelIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolKernelIdeal m →
    (∀ c : Dev Cert.AdamPoolKernelIdeal.nD,
      m' ((c.tc : Thread Cert.AdamPoolReferenceIdeal.nD Cert.AdamPoolReferenceIdeal.τ).loc Cert.AdamPoolReferenceIdeal.main_arg0) = m ((c.tc : Thread Cert.AdamPoolKernelIdeal.nD Cert.AdamPoolKernelIdeal.τ).loc Cert.AdamPoolKernelIdeal.main_arg0)
      ∧ m' ((c.tc : Thread Cert.AdamPoolReferenceIdeal.nD Cert.AdamPoolReferenceIdeal.τ).loc Cert.AdamPoolReferenceIdeal.main_arg1) = m ((c.tc : Thread Cert.AdamPoolKernelIdeal.nD Cert.AdamPoolKernelIdeal.τ).loc Cert.AdamPoolKernelIdeal.main_arg1)
      ∧ m' ((c.tc : Thread Cert.AdamPoolReferenceIdeal.nD Cert.AdamPoolReferenceIdeal.τ).loc Cert.AdamPoolReferenceIdeal.main_arg2) = m ((c.tc : Thread Cert.AdamPoolKernelIdeal.nD Cert.AdamPoolKernelIdeal.τ).loc Cert.AdamPoolKernelIdeal.main_arg2)
      ∧ m' ((c.tc : Thread Cert.AdamPoolReferenceIdeal.nD Cert.AdamPoolReferenceIdeal.τ).loc Cert.AdamPoolReferenceIdeal.main_arg3) = m ((c.tc : Thread Cert.AdamPoolKernelIdeal.nD Cert.AdamPoolKernelIdeal.τ).loc Cert.AdamPoolKernelIdeal.main_arg3)) →
    ∃ (v0 : (c : Dev Cert.AdamPoolKernelIdeal.nD) → Buf (Elt Ideal) ((c.tc : Thread Cert.AdamPoolKernelIdeal.nD Cert.AdamPoolKernelIdeal.τ).loc Cert.AdamPoolKernelIdeal.main_v4_0)) (v1 : (c : Dev Cert.AdamPoolKernelIdeal.nD) → Buf (Elt Ideal) ((c.tc : Thread Cert.AdamPoolKernelIdeal.nD Cert.AdamPoolKernelIdeal.τ).loc Cert.AdamPoolKernelIdeal.main_v4_1)) (v2 : (c : Dev Cert.AdamPoolKernelIdeal.nD) → Buf (Elt Ideal) ((c.tc : Thread Cert.AdamPoolKernelIdeal.nD Cert.AdamPoolKernelIdeal.τ).loc Cert.AdamPoolKernelIdeal.main_v4_2)),
      θ_run (Cert.AdamPoolKernelIdeal.defs (F := Ideal)) (onTc (τ := Cert.AdamPoolKernelIdeal.τ) (Cert.AdamPoolKernelIdeal.main (F := Ideal))) ⟨m, fun _ => 0, g⟩ (fun r => ∀ c : Dev Cert.AdamPoolKernelIdeal.nD,
          r.2.mem ((c.tc : Thread Cert.AdamPoolKernelIdeal.nD Cert.AdamPoolKernelIdeal.τ).loc Cert.AdamPoolKernelIdeal.main_v4_0) = v0 c
          ∧ r.2.mem ((c.tc : Thread Cert.AdamPoolKernelIdeal.nD Cert.AdamPoolKernelIdeal.τ).loc Cert.AdamPoolKernelIdeal.main_v4_1) = v1 c
          ∧ r.2.mem ((c.tc : Thread Cert.AdamPoolKernelIdeal.nD Cert.AdamPoolKernelIdeal.τ).loc Cert.AdamPoolKernelIdeal.main_v4_2) = v2 c
          ∧ r.2.mem ((c.tc : Thread Cert.AdamPoolKernelIdeal.nD Cert.AdamPoolKernelIdeal.τ).loc Cert.AdamPoolKernelIdeal.main_arg0) = m ((c.tc : Thread Cert.AdamPoolKernelIdeal.nD Cert.AdamPoolKernelIdeal.τ).loc Cert.AdamPoolKernelIdeal.main_arg0)
          ∧ r.2.mem ((c.tc : Thread Cert.AdamPoolKernelIdeal.nD Cert.AdamPoolKernelIdeal.τ).loc Cert.AdamPoolKernelIdeal.main_arg1) = m ((c.tc : Thread Cert.AdamPoolKernelIdeal.nD Cert.AdamPoolKernelIdeal.τ).loc Cert.AdamPoolKernelIdeal.main_arg1)
          ∧ r.2.mem ((c.tc : Thread Cert.AdamPoolKernelIdeal.nD Cert.AdamPoolKernelIdeal.τ).loc Cert.AdamPoolKernelIdeal.main_arg2) = m ((c.tc : Thread Cert.AdamPoolKernelIdeal.nD Cert.AdamPoolKernelIdeal.τ).loc Cert.AdamPoolKernelIdeal.main_arg2)
          ∧ r.2.mem ((c.tc : Thread Cert.AdamPoolKernelIdeal.nD Cert.AdamPoolKernelIdeal.τ).loc Cert.AdamPoolKernelIdeal.main_arg3) = m ((c.tc : Thread Cert.AdamPoolKernelIdeal.nD Cert.AdamPoolKernelIdeal.τ).loc Cert.AdamPoolKernelIdeal.main_arg3))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v24) = v0 c
          ∧ r.2.mem ((c.tc : Thread Cert.AdamPoolReferenceIdeal.nD Cert.AdamPoolReferenceIdeal.τ).loc Cert.AdamPoolReferenceIdeal.main_v25) = v1 c
          ∧ r.2.mem ((c.tc : Thread Cert.AdamPoolReferenceIdeal.nD Cert.AdamPoolReferenceIdeal.τ).loc Cert.AdamPoolReferenceIdeal.main_v26) = v2 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3))

def preserves_AdamModKernel_AdamModKernelIdeal : Prop :=
  IdealRules.named_const.Statement Cert.AdamModKernelIdeal.κ "inv_c1" .f32 0x3FC48605#32 ((8388608 / 5463681 : ℝ) : EReal)
  ∧ IdealRules.named_const.Statement Cert.AdamModKernelIdeal.κ "inv_c2" .f32 0x42C8E6D3#32 ((268435456 / 2672307 : ℝ) : EReal)

def algebraic_AdamModKernelIdeal_AdamModReferenceIdeal [hAdamModKernelIdeal : Cert.AdamModKernelIdeal.Facts] [hAdamModReferenceIdeal : Cert.AdamModReferenceIdeal.Facts] : Prop :=
  ∀ (m : (ℓ : Loc Cert.AdamModKernelIdeal.nD Cert.AdamModKernelIdeal.τ Cert.AdamModKernelIdeal.sig) → Buf (Elt Ideal) ℓ) (g : Dev Cert.AdamModKernelIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModKernelIdeal m →
    (∀ c : Dev Cert.AdamModKernelIdeal.nD,
      m' ((c.tc : Thread Cert.AdamModReferenceIdeal.nD Cert.AdamModReferenceIdeal.τ).loc Cert.AdamModReferenceIdeal.main_arg0) = m ((c.tc : Thread Cert.AdamModKernelIdeal.nD Cert.AdamModKernelIdeal.τ).loc Cert.AdamModKernelIdeal.main_arg0)
      ∧ m' ((c.tc : Thread Cert.AdamModReferenceIdeal.nD Cert.AdamModReferenceIdeal.τ).loc Cert.AdamModReferenceIdeal.main_arg1) = m ((c.tc : Thread Cert.AdamModKernelIdeal.nD Cert.AdamModKernelIdeal.τ).loc Cert.AdamModKernelIdeal.main_arg1)
      ∧ m' ((c.tc : Thread Cert.AdamModReferenceIdeal.nD Cert.AdamModReferenceIdeal.τ).loc Cert.AdamModReferenceIdeal.main_arg2) = m ((c.tc : Thread Cert.AdamModKernelIdeal.nD Cert.AdamModKernelIdeal.τ).loc Cert.AdamModKernelIdeal.main_arg2)
      ∧ m' ((c.tc : Thread Cert.AdamModReferenceIdeal.nD Cert.AdamModReferenceIdeal.τ).loc Cert.AdamModReferenceIdeal.main_arg3) = m ((c.tc : Thread Cert.AdamModKernelIdeal.nD Cert.AdamModKernelIdeal.τ).loc Cert.AdamModKernelIdeal.main_arg3)) →
    ∃ (v0 : (c : Dev Cert.AdamModKernelIdeal.nD) → Buf (Elt Ideal) ((c.tc : Thread Cert.AdamModKernelIdeal.nD Cert.AdamModKernelIdeal.τ).loc Cert.AdamModKernelIdeal.main_v4_0)) (v1 : (c : Dev Cert.AdamModKernelIdeal.nD) → Buf (Elt Ideal) ((c.tc : Thread Cert.AdamModKernelIdeal.nD Cert.AdamModKernelIdeal.τ).loc Cert.AdamModKernelIdeal.main_v4_1)) (v2 : (c : Dev Cert.AdamModKernelIdeal.nD) → Buf (Elt Ideal) ((c.tc : Thread Cert.AdamModKernelIdeal.nD Cert.AdamModKernelIdeal.τ).loc Cert.AdamModKernelIdeal.main_v4_2)),
      θ_run (Cert.AdamModKernelIdeal.defs (F := Ideal)) (onTc (τ := Cert.AdamModKernelIdeal.τ) (Cert.AdamModKernelIdeal.main (F := Ideal))) ⟨m, fun _ => 0, g⟩ (fun r => ∀ c : Dev Cert.AdamModKernelIdeal.nD,
          r.2.mem ((c.tc : Thread Cert.AdamModKernelIdeal.nD Cert.AdamModKernelIdeal.τ).loc Cert.AdamModKernelIdeal.main_v4_0) = v0 c
          ∧ r.2.mem ((c.tc : Thread Cert.AdamModKernelIdeal.nD Cert.AdamModKernelIdeal.τ).loc Cert.AdamModKernelIdeal.main_v4_1) = v1 c
          ∧ r.2.mem ((c.tc : Thread Cert.AdamModKernelIdeal.nD Cert.AdamModKernelIdeal.τ).loc Cert.AdamModKernelIdeal.main_v4_2) = v2 c
          ∧ r.2.mem ((c.tc : Thread Cert.AdamModKernelIdeal.nD Cert.AdamModKernelIdeal.τ).loc Cert.AdamModKernelIdeal.main_arg0) = m ((c.tc : Thread Cert.AdamModKernelIdeal.nD Cert.AdamModKernelIdeal.τ).loc Cert.AdamModKernelIdeal.main_arg0)
          ∧ r.2.mem ((c.tc : Thread Cert.AdamModKernelIdeal.nD Cert.AdamModKernelIdeal.τ).loc Cert.AdamModKernelIdeal.main_arg1) = m ((c.tc : Thread Cert.AdamModKernelIdeal.nD Cert.AdamModKernelIdeal.τ).loc Cert.AdamModKernelIdeal.main_arg1)
          ∧ r.2.mem ((c.tc : Thread Cert.AdamModKernelIdeal.nD Cert.AdamModKernelIdeal.τ).loc Cert.AdamModKernelIdeal.main_arg2) = m ((c.tc : Thread Cert.AdamModKernelIdeal.nD Cert.AdamModKernelIdeal.τ).loc Cert.AdamModKernelIdeal.main_arg2)
          ∧ r.2.mem ((c.tc : Thread Cert.AdamModKernelIdeal.nD Cert.AdamModKernelIdeal.τ).loc Cert.AdamModKernelIdeal.main_arg3) = m ((c.tc : Thread Cert.AdamModKernelIdeal.nD Cert.AdamModKernelIdeal.τ).loc Cert.AdamModKernelIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_v24) = v0 c
          ∧ r.2.mem ((c.tc : Thread Cert.AdamModReferenceIdeal.nD Cert.AdamModReferenceIdeal.τ).loc Cert.AdamModReferenceIdeal.main_v25) = v1 c
          ∧ r.2.mem ((c.tc : Thread Cert.AdamModReferenceIdeal.nD Cert.AdamModReferenceIdeal.τ).loc Cert.AdamModReferenceIdeal.main_v26) = v2 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_AdamSmallKernel_AdamSmallKernelIdeal : Prop :=
  IdealRules.named_const.Statement Cert.AdamSmallKernelIdeal.κ "inv_c1" .f32 0x3FC48605#32 ((8388608 / 5463681 : ℝ) : EReal)
  ∧ IdealRules.named_const.Statement Cert.AdamSmallKernelIdeal.κ "inv_c2" .f32 0x42C8E6D3#32 ((268435456 / 2672307 : ℝ) : EReal)

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)
      ∧ m' ((c.tc : Thread Cert.AdamSmallReferenceIdeal.nD Cert.AdamSmallReferenceIdeal.τ).loc Cert.AdamSmallReferenceIdeal.main_arg4) = m ((c.tc : Thread Cert.AdamSmallKernelIdeal.nD Cert.AdamSmallKernelIdeal.τ).loc Cert.AdamSmallKernelIdeal.main_arg4)
      ∧ m' ((c.tc : Thread Cert.AdamSmallReferenceIdeal.nD Cert.AdamSmallReferenceIdeal.τ).loc Cert.AdamSmallReferenceIdeal.main_arg5) = m ((c.tc : Thread Cert.AdamSmallKernelIdeal.nD Cert.AdamSmallKernelIdeal.τ).loc Cert.AdamSmallKernelIdeal.main_arg5)
      ∧ m' ((c.tc : Thread Cert.AdamSmallReferenceIdeal.nD Cert.AdamSmallReferenceIdeal.τ).loc Cert.AdamSmallReferenceIdeal.main_arg6) = m ((c.tc : Thread Cert.AdamSmallKernelIdeal.nD Cert.AdamSmallKernelIdeal.τ).loc Cert.AdamSmallKernelIdeal.main_arg6)
      ∧ m' ((c.tc : Thread Cert.AdamSmallReferenceIdeal.nD Cert.AdamSmallReferenceIdeal.τ).loc Cert.AdamSmallReferenceIdeal.main_arg7) = m ((c.tc : Thread Cert.AdamSmallKernelIdeal.nD Cert.AdamSmallKernelIdeal.τ).loc Cert.AdamSmallKernelIdeal.main_arg7)
      ∧ m' ((c.tc : Thread Cert.AdamSmallReferenceIdeal.nD Cert.AdamSmallReferenceIdeal.τ).loc Cert.AdamSmallReferenceIdeal.main_arg8) = m ((c.tc : Thread Cert.AdamSmallKernelIdeal.nD Cert.AdamSmallKernelIdeal.τ).loc Cert.AdamSmallKernelIdeal.main_arg8)
      ∧ m' ((c.tc : Thread Cert.AdamSmallReferenceIdeal.nD Cert.AdamSmallReferenceIdeal.τ).loc Cert.AdamSmallReferenceIdeal.main_arg9) = m ((c.tc : Thread Cert.AdamSmallKernelIdeal.nD Cert.AdamSmallKernelIdeal.τ).loc Cert.AdamSmallKernelIdeal.main_arg9)
      ∧ m' ((c.tc : Thread Cert.AdamSmallReferenceIdeal.nD Cert.AdamSmallReferenceIdeal.τ).loc Cert.AdamSmallReferenceIdeal.main_arg10) = m ((c.tc : Thread Cert.AdamSmallKernelIdeal.nD Cert.AdamSmallKernelIdeal.τ).loc Cert.AdamSmallKernelIdeal.main_arg10)
      ∧ m' ((c.tc : Thread Cert.AdamSmallReferenceIdeal.nD Cert.AdamSmallReferenceIdeal.τ).loc Cert.AdamSmallReferenceIdeal.main_arg11) = m ((c.tc : Thread Cert.AdamSmallKernelIdeal.nD Cert.AdamSmallKernelIdeal.τ).loc Cert.AdamSmallKernelIdeal.main_arg11)
      ∧ m' ((c.tc : Thread Cert.AdamSmallReferenceIdeal.nD Cert.AdamSmallReferenceIdeal.τ).loc Cert.AdamSmallReferenceIdeal.main_arg12) = m ((c.tc : Thread Cert.AdamSmallKernelIdeal.nD Cert.AdamSmallKernelIdeal.τ).loc Cert.AdamSmallKernelIdeal.main_arg12)
      ∧ m' ((c.tc : Thread Cert.AdamSmallReferenceIdeal.nD Cert.AdamSmallReferenceIdeal.τ).loc Cert.AdamSmallReferenceIdeal.main_arg13) = m ((c.tc : Thread Cert.AdamSmallKernelIdeal.nD Cert.AdamSmallKernelIdeal.τ).loc Cert.AdamSmallKernelIdeal.main_arg13)
      ∧ m' ((c.tc : Thread Cert.AdamSmallReferenceIdeal.nD Cert.AdamSmallReferenceIdeal.τ).loc Cert.AdamSmallReferenceIdeal.main_arg14) = m ((c.tc : Thread Cert.AdamSmallKernelIdeal.nD Cert.AdamSmallKernelIdeal.τ).loc Cert.AdamSmallKernelIdeal.main_arg14)
      ∧ m' ((c.tc : Thread Cert.AdamSmallReferenceIdeal.nD Cert.AdamSmallReferenceIdeal.τ).loc Cert.AdamSmallReferenceIdeal.main_arg15) = m ((c.tc : Thread Cert.AdamSmallKernelIdeal.nD Cert.AdamSmallKernelIdeal.τ).loc Cert.AdamSmallKernelIdeal.main_arg15)
      ∧ m' ((c.tc : Thread Cert.AdamSmallReferenceIdeal.nD Cert.AdamSmallReferenceIdeal.τ).loc Cert.AdamSmallReferenceIdeal.main_arg16) = m ((c.tc : Thread Cert.AdamSmallKernelIdeal.nD Cert.AdamSmallKernelIdeal.τ).loc Cert.AdamSmallKernelIdeal.main_arg16)
      ∧ m' ((c.tc : Thread Cert.AdamSmallReferenceIdeal.nD Cert.AdamSmallReferenceIdeal.τ).loc Cert.AdamSmallReferenceIdeal.main_arg17) = m ((c.tc : Thread Cert.AdamSmallKernelIdeal.nD Cert.AdamSmallKernelIdeal.τ).loc Cert.AdamSmallKernelIdeal.main_arg17)
      ∧ m' ((c.tc : Thread Cert.AdamSmallReferenceIdeal.nD Cert.AdamSmallReferenceIdeal.τ).loc Cert.AdamSmallReferenceIdeal.main_arg18) = m ((c.tc : Thread Cert.AdamSmallKernelIdeal.nD Cert.AdamSmallKernelIdeal.τ).loc Cert.AdamSmallKernelIdeal.main_arg18)
      ∧ m' ((c.tc : Thread Cert.AdamSmallReferenceIdeal.nD Cert.AdamSmallReferenceIdeal.τ).loc Cert.AdamSmallReferenceIdeal.main_arg19) = m ((c.tc : Thread Cert.AdamSmallKernelIdeal.nD Cert.AdamSmallKernelIdeal.τ).loc Cert.AdamSmallKernelIdeal.main_arg19)
      ∧ m' ((c.tc : Thread Cert.AdamSmallReferenceIdeal.nD Cert.AdamSmallReferenceIdeal.τ).loc Cert.AdamSmallReferenceIdeal.main_arg20) = m ((c.tc : Thread Cert.AdamSmallKernelIdeal.nD Cert.AdamSmallKernelIdeal.τ).loc Cert.AdamSmallKernelIdeal.main_arg20)
      ∧ m' ((c.tc : Thread Cert.AdamSmallReferenceIdeal.nD Cert.AdamSmallReferenceIdeal.τ).loc Cert.AdamSmallReferenceIdeal.main_arg21) = m ((c.tc : Thread Cert.AdamSmallKernelIdeal.nD Cert.AdamSmallKernelIdeal.τ).loc Cert.AdamSmallKernelIdeal.main_arg21)
      ∧ m' ((c.tc : Thread Cert.AdamSmallReferenceIdeal.nD Cert.AdamSmallReferenceIdeal.τ).loc Cert.AdamSmallReferenceIdeal.main_arg22) = m ((c.tc : Thread Cert.AdamSmallKernelIdeal.nD Cert.AdamSmallKernelIdeal.τ).loc Cert.AdamSmallKernelIdeal.main_arg22)
      ∧ m' ((c.tc : Thread Cert.AdamSmallReferenceIdeal.nD Cert.AdamSmallReferenceIdeal.τ).loc Cert.AdamSmallReferenceIdeal.main_arg23) = m ((c.tc : Thread Cert.AdamSmallKernelIdeal.nD Cert.AdamSmallKernelIdeal.τ).loc Cert.AdamSmallKernelIdeal.main_arg23)
      ∧ m' ((c.tc : Thread Cert.AdamSmallReferenceIdeal.nD Cert.AdamSmallReferenceIdeal.τ).loc Cert.AdamSmallReferenceIdeal.main_arg24) = m ((c.tc : Thread Cert.AdamSmallKernelIdeal.nD Cert.AdamSmallKernelIdeal.τ).loc Cert.AdamSmallKernelIdeal.main_arg24)
      ∧ m' ((c.tc : Thread Cert.AdamSmallReferenceIdeal.nD Cert.AdamSmallReferenceIdeal.τ).loc Cert.AdamSmallReferenceIdeal.main_arg25) = m ((c.tc : Thread Cert.AdamSmallKernelIdeal.nD Cert.AdamSmallKernelIdeal.τ).loc Cert.AdamSmallKernelIdeal.main_arg25)
      ∧ m' ((c.tc : Thread Cert.AdamSmallReferenceIdeal.nD Cert.AdamSmallReferenceIdeal.τ).loc Cert.AdamSmallReferenceIdeal.main_arg26) = m ((c.tc : Thread Cert.AdamSmallKernelIdeal.nD Cert.AdamSmallKernelIdeal.τ).loc Cert.AdamSmallKernelIdeal.main_arg26)
      ∧ m' ((c.tc : Thread Cert.AdamSmallReferenceIdeal.nD Cert.AdamSmallReferenceIdeal.τ).loc Cert.AdamSmallReferenceIdeal.main_arg27) = m ((c.tc : Thread Cert.AdamSmallKernelIdeal.nD Cert.AdamSmallKernelIdeal.τ).loc Cert.AdamSmallKernelIdeal.main_arg27)
      ∧ m' ((c.tc : Thread Cert.AdamSmallReferenceIdeal.nD Cert.AdamSmallReferenceIdeal.τ).loc Cert.AdamSmallReferenceIdeal.main_arg28) = m ((c.tc : Thread Cert.AdamSmallKernelIdeal.nD Cert.AdamSmallKernelIdeal.τ).loc Cert.AdamSmallKernelIdeal.main_arg28)
      ∧ m' ((c.tc : Thread Cert.AdamSmallReferenceIdeal.nD Cert.AdamSmallReferenceIdeal.τ).loc Cert.AdamSmallReferenceIdeal.main_arg29) = m ((c.tc : Thread Cert.AdamSmallKernelIdeal.nD Cert.AdamSmallKernelIdeal.τ).loc Cert.AdamSmallKernelIdeal.main_arg29)
      ∧ m' ((c.tc : Thread Cert.AdamSmallReferenceIdeal.nD Cert.AdamSmallReferenceIdeal.τ).loc Cert.AdamSmallReferenceIdeal.main_arg30) = m ((c.tc : Thread Cert.AdamSmallKernelIdeal.nD Cert.AdamSmallKernelIdeal.τ).loc Cert.AdamSmallKernelIdeal.main_arg30)
      ∧ m' ((c.tc : Thread Cert.AdamSmallReferenceIdeal.nD Cert.AdamSmallReferenceIdeal.τ).loc Cert.AdamSmallReferenceIdeal.main_arg31) = m ((c.tc : Thread Cert.AdamSmallKernelIdeal.nD Cert.AdamSmallKernelIdeal.τ).loc Cert.AdamSmallKernelIdeal.main_arg31)
      ∧ m' ((c.tc : Thread Cert.AdamSmallReferenceIdeal.nD Cert.AdamSmallReferenceIdeal.τ).loc Cert.AdamSmallReferenceIdeal.main_arg32) = m ((c.tc : Thread Cert.AdamSmallKernelIdeal.nD Cert.AdamSmallKernelIdeal.τ).loc Cert.AdamSmallKernelIdeal.main_arg32)
      ∧ m' ((c.tc : Thread Cert.AdamSmallReferenceIdeal.nD Cert.AdamSmallReferenceIdeal.τ).loc Cert.AdamSmallReferenceIdeal.main_arg33) = m ((c.tc : Thread Cert.AdamSmallKernelIdeal.nD Cert.AdamSmallKernelIdeal.τ).loc Cert.AdamSmallKernelIdeal.main_arg33)
      ∧ m' ((c.tc : Thread Cert.AdamSmallReferenceIdeal.nD Cert.AdamSmallReferenceIdeal.τ).loc Cert.AdamSmallReferenceIdeal.main_arg34) = m ((c.tc : Thread Cert.AdamSmallKernelIdeal.nD Cert.AdamSmallKernelIdeal.τ).loc Cert.AdamSmallKernelIdeal.main_arg34)
      ∧ m' ((c.tc : Thread Cert.AdamSmallReferenceIdeal.nD Cert.AdamSmallReferenceIdeal.τ).loc Cert.AdamSmallReferenceIdeal.main_arg35) = m ((c.tc : Thread Cert.AdamSmallKernelIdeal.nD Cert.AdamSmallKernelIdeal.τ).loc Cert.AdamSmallKernelIdeal.main_arg35)
      ∧ m' ((c.tc : Thread Cert.AdamSmallReferenceIdeal.nD Cert.AdamSmallReferenceIdeal.τ).loc Cert.AdamSmallReferenceIdeal.main_arg36) = m ((c.tc : Thread Cert.AdamSmallKernelIdeal.nD Cert.AdamSmallKernelIdeal.τ).loc Cert.AdamSmallKernelIdeal.main_arg36)
      ∧ m' ((c.tc : Thread Cert.AdamSmallReferenceIdeal.nD Cert.AdamSmallReferenceIdeal.τ).loc Cert.AdamSmallReferenceIdeal.main_arg37) = m ((c.tc : Thread Cert.AdamSmallKernelIdeal.nD Cert.AdamSmallKernelIdeal.τ).loc Cert.AdamSmallKernelIdeal.main_arg37)
      ∧ m' ((c.tc : Thread Cert.AdamSmallReferenceIdeal.nD Cert.AdamSmallReferenceIdeal.τ).loc Cert.AdamSmallReferenceIdeal.main_arg38) = m ((c.tc : Thread Cert.AdamSmallKernelIdeal.nD Cert.AdamSmallKernelIdeal.τ).loc Cert.AdamSmallKernelIdeal.main_arg38)
      ∧ m' ((c.tc : Thread Cert.AdamSmallReferenceIdeal.nD Cert.AdamSmallReferenceIdeal.τ).loc Cert.AdamSmallReferenceIdeal.main_arg39) = m ((c.tc : Thread Cert.AdamSmallKernelIdeal.nD Cert.AdamSmallKernelIdeal.τ).loc Cert.AdamSmallKernelIdeal.main_arg39)
      ∧ m' ((c.tc : Thread Cert.AdamSmallReferenceIdeal.nD Cert.AdamSmallReferenceIdeal.τ).loc Cert.AdamSmallReferenceIdeal.main_arg40) = m ((c.tc : Thread Cert.AdamSmallKernelIdeal.nD Cert.AdamSmallKernelIdeal.τ).loc Cert.AdamSmallKernelIdeal.main_arg40)
      ∧ m' ((c.tc : Thread Cert.AdamSmallReferenceIdeal.nD Cert.AdamSmallReferenceIdeal.τ).loc Cert.AdamSmallReferenceIdeal.main_arg41) = m ((c.tc : Thread Cert.AdamSmallKernelIdeal.nD Cert.AdamSmallKernelIdeal.τ).loc Cert.AdamSmallKernelIdeal.main_arg41)
      ∧ m' ((c.tc : Thread Cert.AdamSmallReferenceIdeal.nD Cert.AdamSmallReferenceIdeal.τ).loc Cert.AdamSmallReferenceIdeal.main_arg42) = m ((c.tc : Thread Cert.AdamSmallKernelIdeal.nD Cert.AdamSmallKernelIdeal.τ).loc Cert.AdamSmallKernelIdeal.main_arg42)
      ∧ m' ((c.tc : Thread Cert.AdamSmallReferenceIdeal.nD Cert.AdamSmallReferenceIdeal.τ).loc Cert.AdamSmallReferenceIdeal.main_arg43) = m ((c.tc : Thread Cert.AdamSmallKernelIdeal.nD Cert.AdamSmallKernelIdeal.τ).loc Cert.AdamSmallKernelIdeal.main_arg43)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v78)) (v1 : (c : Dev Cert.AdamSmallKernelIdeal.nD) → Buf (Elt Ideal) ((c.tc : Thread Cert.AdamSmallKernelIdeal.nD Cert.AdamSmallKernelIdeal.τ).loc Cert.AdamSmallKernelIdeal.main_v79)) (v2 : (c : Dev Cert.AdamSmallKernelIdeal.nD) → Buf (Elt Ideal) ((c.tc : Thread Cert.AdamSmallKernelIdeal.nD Cert.AdamSmallKernelIdeal.τ).loc Cert.AdamSmallKernelIdeal.main_v80)) (v3 : (c : Dev Cert.AdamSmallKernelIdeal.nD) → Buf (Elt Ideal) ((c.tc : Thread Cert.AdamSmallKernelIdeal.nD Cert.AdamSmallKernelIdeal.τ).loc Cert.AdamSmallKernelIdeal.main_v81)) (v4 : (c : Dev Cert.AdamSmallKernelIdeal.nD) → Buf (Elt Ideal) ((c.tc : Thread Cert.AdamSmallKernelIdeal.nD Cert.AdamSmallKernelIdeal.τ).loc Cert.AdamSmallKernelIdeal.main_v82)) (v5 : (c : Dev Cert.AdamSmallKernelIdeal.nD) → Buf (Elt Ideal) ((c.tc : Thread Cert.AdamSmallKernelIdeal.nD Cert.AdamSmallKernelIdeal.τ).loc Cert.AdamSmallKernelIdeal.main_v83)) (v6 : (c : Dev Cert.AdamSmallKernelIdeal.nD) → Buf (Elt Ideal) ((c.tc : Thread Cert.AdamSmallKernelIdeal.nD Cert.AdamSmallKernelIdeal.τ).loc Cert.AdamSmallKernelIdeal.main_v84)) (v7 : (c : Dev Cert.AdamSmallKernelIdeal.nD) → Buf (Elt Ideal) ((c.tc : Thread Cert.AdamSmallKernelIdeal.nD Cert.AdamSmallKernelIdeal.τ).loc Cert.AdamSmallKernelIdeal.main_v85)) (v8 : (c : Dev Cert.AdamSmallKernelIdeal.nD) → Buf (Elt Ideal) ((c.tc : Thread Cert.AdamSmallKernelIdeal.nD Cert.AdamSmallKernelIdeal.τ).loc Cert.AdamSmallKernelIdeal.main_v86)) (v9 : (c : Dev Cert.AdamSmallKernelIdeal.nD) → Buf (Elt Ideal) ((c.tc : Thread Cert.AdamSmallKernelIdeal.nD Cert.AdamSmallKernelIdeal.τ).loc Cert.AdamSmallKernelIdeal.main_v87)) (v10 : (c : Dev Cert.AdamSmallKernelIdeal.nD) → Buf (Elt Ideal) ((c.tc : Thread Cert.AdamSmallKernelIdeal.nD Cert.AdamSmallKernelIdeal.τ).loc Cert.AdamSmallKernelIdeal.main_v88)) (v11 : (c : Dev Cert.AdamSmallKernelIdeal.nD) → Buf (Elt Ideal) ((c.tc : Thread Cert.AdamSmallKernelIdeal.nD Cert.AdamSmallKernelIdeal.τ).loc Cert.AdamSmallKernelIdeal.main_v110)) (v12 : (c : Dev Cert.AdamSmallKernelIdeal.nD) → Buf (Elt Ideal) ((c.tc : Thread Cert.AdamSmallKernelIdeal.nD Cert.AdamSmallKernelIdeal.τ).loc Cert.AdamSmallKernelIdeal.main_v111)) (v13 : (c : Dev Cert.AdamSmallKernelIdeal.nD) → Buf (Elt Ideal) ((c.tc : Thread Cert.AdamSmallKernelIdeal.nD Cert.AdamSmallKernelIdeal.τ).loc Cert.AdamSmallKernelIdeal.main_v112)) (v14 : (c : Dev Cert.AdamSmallKernelIdeal.nD) → Buf (Elt Ideal) ((c.tc : Thread Cert.AdamSmallKernelIdeal.nD Cert.AdamSmallKernelIdeal.τ).loc Cert.AdamSmallKernelIdeal.main_v113)) (v15 : (c : Dev Cert.AdamSmallKernelIdeal.nD) → Buf (Elt Ideal) ((c.tc : Thread Cert.AdamSmallKernelIdeal.nD Cert.AdamSmallKernelIdeal.τ).loc Cert.AdamSmallKernelIdeal.main_v114)) (v16 : (c : Dev Cert.AdamSmallKernelIdeal.nD) → Buf (Elt Ideal) ((c.tc : Thread Cert.AdamSmallKernelIdeal.nD Cert.AdamSmallKernelIdeal.τ).loc Cert.AdamSmallKernelIdeal.main_v115)) (v17 : (c : Dev Cert.AdamSmallKernelIdeal.nD) → Buf (Elt Ideal) ((c.tc : Thread Cert.AdamSmallKernelIdeal.nD Cert.AdamSmallKernelIdeal.τ).loc Cert.AdamSmallKernelIdeal.main_v116)) (v18 : (c : Dev Cert.AdamSmallKernelIdeal.nD) → Buf (Elt Ideal) ((c.tc : Thread Cert.AdamSmallKernelIdeal.nD Cert.AdamSmallKernelIdeal.τ).loc Cert.AdamSmallKernelIdeal.main_v117)) (v19 : (c : Dev Cert.AdamSmallKernelIdeal.nD) → Buf (Elt Ideal) ((c.tc : Thread Cert.AdamSmallKernelIdeal.nD Cert.AdamSmallKernelIdeal.τ).loc Cert.AdamSmallKernelIdeal.main_v118)) (v20 : (c : Dev Cert.AdamSmallKernelIdeal.nD) → Buf (Elt Ideal) ((c.tc : Thread Cert.AdamSmallKernelIdeal.nD Cert.AdamSmallKernelIdeal.τ).loc Cert.AdamSmallKernelIdeal.main_v119)) (v21 : (c : Dev Cert.AdamSmallKernelIdeal.nD) → Buf (Elt Ideal) ((c.tc : Thread Cert.AdamSmallKernelIdeal.nD Cert.AdamSmallKernelIdeal.τ).loc Cert.AdamSmallKernelIdeal.main_v120)) (v22 : (c : Dev Cert.AdamSmallKernelIdeal.nD) → Buf (Elt Ideal) ((c.tc : Thread Cert.AdamSmallKernelIdeal.nD Cert.AdamSmallKernelIdeal.τ).loc Cert.AdamSmallKernelIdeal.main_v142)) (v23 : (c : Dev Cert.AdamSmallKernelIdeal.nD) → Buf (Elt Ideal) ((c.tc : Thread Cert.AdamSmallKernelIdeal.nD Cert.AdamSmallKernelIdeal.τ).loc Cert.AdamSmallKernelIdeal.main_v143)) (v24 : (c : Dev Cert.AdamSmallKernelIdeal.nD) → Buf (Elt Ideal) ((c.tc : Thread Cert.AdamSmallKernelIdeal.nD Cert.AdamSmallKernelIdeal.τ).loc Cert.AdamSmallKernelIdeal.main_v144)) (v25 : (c : Dev Cert.AdamSmallKernelIdeal.nD) → Buf (Elt Ideal) ((c.tc : Thread Cert.AdamSmallKernelIdeal.nD Cert.AdamSmallKernelIdeal.τ).loc Cert.AdamSmallKernelIdeal.main_v145)) (v26 : (c : Dev Cert.AdamSmallKernelIdeal.nD) → Buf (Elt Ideal) ((c.tc : Thread Cert.AdamSmallKernelIdeal.nD Cert.AdamSmallKernelIdeal.τ).loc Cert.AdamSmallKernelIdeal.main_v146)) (v27 : (c : Dev Cert.AdamSmallKernelIdeal.nD) → Buf (Elt Ideal) ((c.tc : Thread Cert.AdamSmallKernelIdeal.nD Cert.AdamSmallKernelIdeal.τ).loc Cert.AdamSmallKernelIdeal.main_v147)) (v28 : (c : Dev Cert.AdamSmallKernelIdeal.nD) → Buf (Elt Ideal) ((c.tc : Thread Cert.AdamSmallKernelIdeal.nD Cert.AdamSmallKernelIdeal.τ).loc Cert.AdamSmallKernelIdeal.main_v148)) (v29 : (c : Dev Cert.AdamSmallKernelIdeal.nD) → Buf (Elt Ideal) ((c.tc : Thread Cert.AdamSmallKernelIdeal.nD Cert.AdamSmallKernelIdeal.τ).loc Cert.AdamSmallKernelIdeal.main_v149)) (v30 : (c : Dev Cert.AdamSmallKernelIdeal.nD) → Buf (Elt Ideal) ((c.tc : Thread Cert.AdamSmallKernelIdeal.nD Cert.AdamSmallKernelIdeal.τ).loc Cert.AdamSmallKernelIdeal.main_v150)) (v31 : (c : Dev Cert.AdamSmallKernelIdeal.nD) → Buf (Elt Ideal) ((c.tc : Thread Cert.AdamSmallKernelIdeal.nD Cert.AdamSmallKernelIdeal.τ).loc Cert.AdamSmallKernelIdeal.main_v151)) (v32 : (c : Dev Cert.AdamSmallKernelIdeal.nD) → Buf (Elt Ideal) ((c.tc : Thread Cert.AdamSmallKernelIdeal.nD Cert.AdamSmallKernelIdeal.τ).loc Cert.AdamSmallKernelIdeal.main_v152)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v78) = v0 c
          ∧ r.2.mem ((c.tc : Thread Cert.AdamSmallKernelIdeal.nD Cert.AdamSmallKernelIdeal.τ).loc Cert.AdamSmallKernelIdeal.main_v79) = v1 c
          ∧ r.2.mem ((c.tc : Thread Cert.AdamSmallKernelIdeal.nD Cert.AdamSmallKernelIdeal.τ).loc Cert.AdamSmallKernelIdeal.main_v80) = v2 c
          ∧ r.2.mem ((c.tc : Thread Cert.AdamSmallKernelIdeal.nD Cert.AdamSmallKernelIdeal.τ).loc Cert.AdamSmallKernelIdeal.main_v81) = v3 c
          ∧ r.2.mem ((c.tc : Thread Cert.AdamSmallKernelIdeal.nD Cert.AdamSmallKernelIdeal.τ).loc Cert.AdamSmallKernelIdeal.main_v82) = v4 c
          ∧ r.2.mem ((c.tc : Thread Cert.AdamSmallKernelIdeal.nD Cert.AdamSmallKernelIdeal.τ).loc Cert.AdamSmallKernelIdeal.main_v83) = v5 c
          ∧ r.2.mem ((c.tc : Thread Cert.AdamSmallKernelIdeal.nD Cert.AdamSmallKernelIdeal.τ).loc Cert.AdamSmallKernelIdeal.main_v84) = v6 c
          ∧ r.2.mem ((c.tc : Thread Cert.AdamSmallKernelIdeal.nD Cert.AdamSmallKernelIdeal.τ).loc Cert.AdamSmallKernelIdeal.main_v85) = v7 c
          ∧ r.2.mem ((c.tc : Thread Cert.AdamSmallKernelIdeal.nD Cert.AdamSmallKernelIdeal.τ).loc Cert.AdamSmallKernelIdeal.main_v86) = v8 c
          ∧ r.2.mem ((c.tc : Thread Cert.AdamSmallKernelIdeal.nD Cert.AdamSmallKernelIdeal.τ).loc Cert.AdamSmallKernelIdeal.main_v87) = v9 c
          ∧ r.2.mem ((c.tc : Thread Cert.AdamSmallKernelIdeal.nD Cert.AdamSmallKernelIdeal.τ).loc Cert.AdamSmallKernelIdeal.main_v88) = v10 c
          ∧ r.2.mem ((c.tc : Thread Cert.AdamSmallKernelIdeal.nD Cert.AdamSmallKernelIdeal.τ).loc Cert.AdamSmallKernelIdeal.main_v110) = v11 c
          ∧ r.2.mem ((c.tc : Thread Cert.AdamSmallKernelIdeal.nD Cert.AdamSmallKernelIdeal.τ).loc Cert.AdamSmallKernelIdeal.main_v111) = v12 c
          ∧ r.2.mem ((c.tc : Thread Cert.AdamSmallKernelIdeal.nD Cert.AdamSmallKernelIdeal.τ).loc Cert.AdamSmallKernelIdeal.main_v112) = v13 c
          ∧ r.2.mem ((c.tc : Thread Cert.AdamSmallKernelIdeal.nD Cert.AdamSmallKernelIdeal.τ).loc Cert.AdamSmallKernelIdeal.main_v113) = v14 c
          ∧ r.2.mem ((c.tc : Thread Cert.AdamSmallKernelIdeal.nD Cert.AdamSmallKernelIdeal.τ).loc Cert.AdamSmallKernelIdeal.main_v114) = v15 c
          ∧ r.2.mem ((c.tc : Thread Cert.AdamSmallKernelIdeal.nD Cert.AdamSmallKernelIdeal.τ).loc Cert.AdamSmallKernelIdeal.main_v115) = v16 c
          ∧ r.2.mem ((c.tc : Thread Cert.AdamSmallKernelIdeal.nD Cert.AdamSmallKernelIdeal.τ).loc Cert.AdamSmallKernelIdeal.main_v116) = v17 c
          ∧ r.2.mem ((c.tc : Thread Cert.AdamSmallKernelIdeal.nD Cert.AdamSmallKernelIdeal.τ).loc Cert.AdamSmallKernelIdeal.main_v117) = v18 c
          ∧ r.2.mem ((c.tc : Thread Cert.AdamSmallKernelIdeal.nD Cert.AdamSmallKernelIdeal.τ).loc Cert.AdamSmallKernelIdeal.main_v118) = v19 c
          ∧ r.2.mem ((c.tc : Thread Cert.AdamSmallKernelIdeal.nD Cert.AdamSmallKernelIdeal.τ).loc Cert.AdamSmallKernelIdeal.main_v119) = v20 c
          ∧ r.2.mem ((c.tc : Thread Cert.AdamSmallKernelIdeal.nD Cert.AdamSmallKernelIdeal.τ).loc Cert.AdamSmallKernelIdeal.main_v120) = v21 c
          ∧ r.2.mem ((c.tc : Thread Cert.AdamSmallKernelIdeal.nD Cert.AdamSmallKernelIdeal.τ).loc Cert.AdamSmallKernelIdeal.main_v142) = v22 c
          ∧ r.2.mem ((c.tc : Thread Cert.AdamSmallKernelIdeal.nD Cert.AdamSmallKernelIdeal.τ).loc Cert.AdamSmallKernelIdeal.main_v143) = v23 c
          ∧ r.2.mem ((c.tc : Thread Cert.AdamSmallKernelIdeal.nD Cert.AdamSmallKernelIdeal.τ).loc Cert.AdamSmallKernelIdeal.main_v144) = v24 c
          ∧ r.2.mem ((c.tc : Thread Cert.AdamSmallKernelIdeal.nD Cert.AdamSmallKernelIdeal.τ).loc Cert.AdamSmallKernelIdeal.main_v145) = v25 c
          ∧ r.2.mem ((c.tc : Thread Cert.AdamSmallKernelIdeal.nD Cert.AdamSmallKernelIdeal.τ).loc Cert.AdamSmallKernelIdeal.main_v146) = v26 c
          ∧ r.2.mem ((c.tc : Thread Cert.AdamSmallKernelIdeal.nD Cert.AdamSmallKernelIdeal.τ).loc Cert.AdamSmallKernelIdeal.main_v147) = v27 c
          ∧ r.2.mem ((c.tc : Thread Cert.AdamSmallKernelIdeal.nD Cert.AdamSmallKernelIdeal.τ).loc Cert.AdamSmallKernelIdeal.main_v148) = v28 c
          ∧ r.2.mem ((c.tc : Thread Cert.AdamSmallKernelIdeal.nD Cert.AdamSmallKernelIdeal.τ).loc Cert.AdamSmallKernelIdeal.main_v149) = v29 c
          ∧ r.2.mem ((c.tc : Thread Cert.AdamSmallKernelIdeal.nD Cert.AdamSmallKernelIdeal.τ).loc Cert.AdamSmallKernelIdeal.main_v150) = v30 c
          ∧ r.2.mem ((c.tc : Thread Cert.AdamSmallKernelIdeal.nD Cert.AdamSmallKernelIdeal.τ).loc Cert.AdamSmallKernelIdeal.main_v151) = v31 c
          ∧ r.2.mem ((c.tc : Thread Cert.AdamSmallKernelIdeal.nD Cert.AdamSmallKernelIdeal.τ).loc Cert.AdamSmallKernelIdeal.main_v152) = v32 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
          ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
          ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
          ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
          ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
          ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
          ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
          ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
          ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
          ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
          ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
          ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
          ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
          ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
          ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
          ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
          ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
          ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
          ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
          ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
          ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
          ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
          ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
          ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
          ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
          ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
          ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
          ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
          ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31)
          ∧ r.2.mem ((c.tc : Thread Cert.AdamSmallKernelIdeal.nD Cert.AdamSmallKernelIdeal.τ).loc Cert.AdamSmallKernelIdeal.main_arg32) = m ((c.tc : Thread Cert.AdamSmallKernelIdeal.nD Cert.AdamSmallKernelIdeal.τ).loc Cert.AdamSmallKernelIdeal.main_arg32)
          ∧ r.2.mem ((c.tc : Thread Cert.AdamSmallKernelIdeal.nD Cert.AdamSmallKernelIdeal.τ).loc Cert.AdamSmallKernelIdeal.main_arg33) = m ((c.tc : Thread Cert.AdamSmallKernelIdeal.nD Cert.AdamSmallKernelIdeal.τ).loc Cert.AdamSmallKernelIdeal.main_arg33)
          ∧ r.2.mem ((c.tc : Thread Cert.AdamSmallKernelIdeal.nD Cert.AdamSmallKernelIdeal.τ).loc Cert.AdamSmallKernelIdeal.main_arg34) = m ((c.tc : Thread Cert.AdamSmallKernelIdeal.nD Cert.AdamSmallKernelIdeal.τ).loc Cert.AdamSmallKernelIdeal.main_arg34)
          ∧ r.2.mem ((c.tc : Thread Cert.AdamSmallKernelIdeal.nD Cert.AdamSmallKernelIdeal.τ).loc Cert.AdamSmallKernelIdeal.main_arg35) = m ((c.tc : Thread Cert.AdamSmallKernelIdeal.nD Cert.AdamSmallKernelIdeal.τ).loc Cert.AdamSmallKernelIdeal.main_arg35)
          ∧ r.2.mem ((c.tc : Thread Cert.AdamSmallKernelIdeal.nD Cert.AdamSmallKernelIdeal.τ).loc Cert.AdamSmallKernelIdeal.main_arg36) = m ((c.tc : Thread Cert.AdamSmallKernelIdeal.nD Cert.AdamSmallKernelIdeal.τ).loc Cert.AdamSmallKernelIdeal.main_arg36)
          ∧ r.2.mem ((c.tc : Thread Cert.AdamSmallKernelIdeal.nD Cert.AdamSmallKernelIdeal.τ).loc Cert.AdamSmallKernelIdeal.main_arg37) = m ((c.tc : Thread Cert.AdamSmallKernelIdeal.nD Cert.AdamSmallKernelIdeal.τ).loc Cert.AdamSmallKernelIdeal.main_arg37)
          ∧ r.2.mem ((c.tc : Thread Cert.AdamSmallKernelIdeal.nD Cert.AdamSmallKernelIdeal.τ).loc Cert.AdamSmallKernelIdeal.main_arg38) = m ((c.tc : Thread Cert.AdamSmallKernelIdeal.nD Cert.AdamSmallKernelIdeal.τ).loc Cert.AdamSmallKernelIdeal.main_arg38)
          ∧ r.2.mem ((c.tc : Thread Cert.AdamSmallKernelIdeal.nD Cert.AdamSmallKernelIdeal.τ).loc Cert.AdamSmallKernelIdeal.main_arg39) = m ((c.tc : Thread Cert.AdamSmallKernelIdeal.nD Cert.AdamSmallKernelIdeal.τ).loc Cert.AdamSmallKernelIdeal.main_arg39)
          ∧ r.2.mem ((c.tc : Thread Cert.AdamSmallKernelIdeal.nD Cert.AdamSmallKernelIdeal.τ).loc Cert.AdamSmallKernelIdeal.main_arg40) = m ((c.tc : Thread Cert.AdamSmallKernelIdeal.nD Cert.AdamSmallKernelIdeal.τ).loc Cert.AdamSmallKernelIdeal.main_arg40)
          ∧ r.2.mem ((c.tc : Thread Cert.AdamSmallKernelIdeal.nD Cert.AdamSmallKernelIdeal.τ).loc Cert.AdamSmallKernelIdeal.main_arg41) = m ((c.tc : Thread Cert.AdamSmallKernelIdeal.nD Cert.AdamSmallKernelIdeal.τ).loc Cert.AdamSmallKernelIdeal.main_arg41)
          ∧ r.2.mem ((c.tc : Thread Cert.AdamSmallKernelIdeal.nD Cert.AdamSmallKernelIdeal.τ).loc Cert.AdamSmallKernelIdeal.main_arg42) = m ((c.tc : Thread Cert.AdamSmallKernelIdeal.nD Cert.AdamSmallKernelIdeal.τ).loc Cert.AdamSmallKernelIdeal.main_arg42)
          ∧ r.2.mem ((c.tc : Thread Cert.AdamSmallKernelIdeal.nD Cert.AdamSmallKernelIdeal.τ).loc Cert.AdamSmallKernelIdeal.main_arg43) = m ((c.tc : Thread Cert.AdamSmallKernelIdeal.nD Cert.AdamSmallKernelIdeal.τ).loc Cert.AdamSmallKernelIdeal.main_arg43))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v191) = v7 c
          ∧ r.2.mem ((c.tc : Thread Cert.AdamSmallReferenceIdeal.nD Cert.AdamSmallReferenceIdeal.τ).loc Cert.AdamSmallReferenceIdeal.main_v215) = v8 c
          ∧ r.2.mem ((c.tc : Thread Cert.AdamSmallReferenceIdeal.nD Cert.AdamSmallReferenceIdeal.τ).loc Cert.AdamSmallReferenceIdeal.main_v239) = v9 c
          ∧ r.2.mem ((c.tc : Thread Cert.AdamSmallReferenceIdeal.nD Cert.AdamSmallReferenceIdeal.τ).loc Cert.AdamSmallReferenceIdeal.main_v263) = v10 c
          ∧ r.2.mem ((c.tc : Thread Cert.AdamSmallReferenceIdeal.nD Cert.AdamSmallReferenceIdeal.τ).loc Cert.AdamSmallReferenceIdeal.main_v4) = v11 c
          ∧ r.2.mem ((c.tc : Thread Cert.AdamSmallReferenceIdeal.nD Cert.AdamSmallReferenceIdeal.τ).loc Cert.AdamSmallReferenceIdeal.main_v28) = v12 c
          ∧ r.2.mem ((c.tc : Thread Cert.AdamSmallReferenceIdeal.nD Cert.AdamSmallReferenceIdeal.τ).loc Cert.AdamSmallReferenceIdeal.main_v52) = v13 c
          ∧ r.2.mem ((c.tc : Thread Cert.AdamSmallReferenceIdeal.nD Cert.AdamSmallReferenceIdeal.τ).loc Cert.AdamSmallReferenceIdeal.main_v76) = v14 c
          ∧ r.2.mem ((c.tc : Thread Cert.AdamSmallReferenceIdeal.nD Cert.AdamSmallReferenceIdeal.τ).loc Cert.AdamSmallReferenceIdeal.main_v100) = v15 c
          ∧ r.2.mem ((c.tc : Thread Cert.AdamSmallReferenceIdeal.nD Cert.AdamSmallReferenceIdeal.τ).loc Cert.AdamSmallReferenceIdeal.main_v124) = v16 c
          ∧ r.2.mem ((c.tc : Thread Cert.AdamSmallReferenceIdeal.nD Cert.AdamSmallReferenceIdeal.τ).loc Cert.AdamSmallReferenceIdeal.main_v148) = v17 c
          ∧ r.2.mem ((c.tc : Thread Cert.AdamSmallReferenceIdeal.nD Cert.AdamSmallReferenceIdeal.τ).loc Cert.AdamSmallReferenceIdeal.main_v172) = v18 c
          ∧ r.2.mem ((c.tc : Thread Cert.AdamSmallReferenceIdeal.nD Cert.AdamSmallReferenceIdeal.τ).loc Cert.AdamSmallReferenceIdeal.main_v196) = v19 c
          ∧ r.2.mem ((c.tc : Thread Cert.AdamSmallReferenceIdeal.nD Cert.AdamSmallReferenceIdeal.τ).loc Cert.AdamSmallReferenceIdeal.main_v220) = v20 c
          ∧ r.2.mem ((c.tc : Thread Cert.AdamSmallReferenceIdeal.nD Cert.AdamSmallReferenceIdeal.τ).loc Cert.AdamSmallReferenceIdeal.main_v244) = v21 c
          ∧ r.2.mem ((c.tc : Thread Cert.AdamSmallReferenceIdeal.nD Cert.AdamSmallReferenceIdeal.τ).loc Cert.AdamSmallReferenceIdeal.main_v10) = v22 c
          ∧ r.2.mem ((c.tc : Thread Cert.AdamSmallReferenceIdeal.nD Cert.AdamSmallReferenceIdeal.τ).loc Cert.AdamSmallReferenceIdeal.main_v34) = v23 c
          ∧ r.2.mem ((c.tc : Thread Cert.AdamSmallReferenceIdeal.nD Cert.AdamSmallReferenceIdeal.τ).loc Cert.AdamSmallReferenceIdeal.main_v58) = v24 c
          ∧ r.2.mem ((c.tc : Thread Cert.AdamSmallReferenceIdeal.nD Cert.AdamSmallReferenceIdeal.τ).loc Cert.AdamSmallReferenceIdeal.main_v82) = v25 c
          ∧ r.2.mem ((c.tc : Thread Cert.AdamSmallReferenceIdeal.nD Cert.AdamSmallReferenceIdeal.τ).loc Cert.AdamSmallReferenceIdeal.main_v106) = v26 c
          ∧ r.2.mem ((c.tc : Thread Cert.AdamSmallReferenceIdeal.nD Cert.AdamSmallReferenceIdeal.τ).loc Cert.AdamSmallReferenceIdeal.main_v130) = v27 c
          ∧ r.2.mem ((c.tc : Thread Cert.AdamSmallReferenceIdeal.nD Cert.AdamSmallReferenceIdeal.τ).loc Cert.AdamSmallReferenceIdeal.main_v154) = v28 c
          ∧ r.2.mem ((c.tc : Thread Cert.AdamSmallReferenceIdeal.nD Cert.AdamSmallReferenceIdeal.τ).loc Cert.AdamSmallReferenceIdeal.main_v178) = v29 c
          ∧ r.2.mem ((c.tc : Thread Cert.AdamSmallReferenceIdeal.nD Cert.AdamSmallReferenceIdeal.τ).loc Cert.AdamSmallReferenceIdeal.main_v202) = v30 c
          ∧ r.2.mem ((c.tc : Thread Cert.AdamSmallReferenceIdeal.nD Cert.AdamSmallReferenceIdeal.τ).loc Cert.AdamSmallReferenceIdeal.main_v226) = v31 c
          ∧ r.2.mem ((c.tc : Thread Cert.AdamSmallReferenceIdeal.nD Cert.AdamSmallReferenceIdeal.τ).loc Cert.AdamSmallReferenceIdeal.main_v250) = v32 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31)
          ∧ r.2.mem ((c.tc : Thread Cert.AdamSmallReferenceIdeal.nD Cert.AdamSmallReferenceIdeal.τ).loc Cert.AdamSmallReferenceIdeal.main_arg32) = m' ((c.tc : Thread Cert.AdamSmallReferenceIdeal.nD Cert.AdamSmallReferenceIdeal.τ).loc Cert.AdamSmallReferenceIdeal.main_arg32)
          ∧ r.2.mem ((c.tc : Thread Cert.AdamSmallReferenceIdeal.nD Cert.AdamSmallReferenceIdeal.τ).loc Cert.AdamSmallReferenceIdeal.main_arg33) = m' ((c.tc : Thread Cert.AdamSmallReferenceIdeal.nD Cert.AdamSmallReferenceIdeal.τ).loc Cert.AdamSmallReferenceIdeal.main_arg33)
          ∧ r.2.mem ((c.tc : Thread Cert.AdamSmallReferenceIdeal.nD Cert.AdamSmallReferenceIdeal.τ).loc Cert.AdamSmallReferenceIdeal.main_arg34) = m' ((c.tc : Thread Cert.AdamSmallReferenceIdeal.nD Cert.AdamSmallReferenceIdeal.τ).loc Cert.AdamSmallReferenceIdeal.main_arg34)
          ∧ r.2.mem ((c.tc : Thread Cert.AdamSmallReferenceIdeal.nD Cert.AdamSmallReferenceIdeal.τ).loc Cert.AdamSmallReferenceIdeal.main_arg35) = m' ((c.tc : Thread Cert.AdamSmallReferenceIdeal.nD Cert.AdamSmallReferenceIdeal.τ).loc Cert.AdamSmallReferenceIdeal.main_arg35)
          ∧ r.2.mem ((c.tc : Thread Cert.AdamSmallReferenceIdeal.nD Cert.AdamSmallReferenceIdeal.τ).loc Cert.AdamSmallReferenceIdeal.main_arg36) = m' ((c.tc : Thread Cert.AdamSmallReferenceIdeal.nD Cert.AdamSmallReferenceIdeal.τ).loc Cert.AdamSmallReferenceIdeal.main_arg36)
          ∧ r.2.mem ((c.tc : Thread Cert.AdamSmallReferenceIdeal.nD Cert.AdamSmallReferenceIdeal.τ).loc Cert.AdamSmallReferenceIdeal.main_arg37) = m' ((c.tc : Thread Cert.AdamSmallReferenceIdeal.nD Cert.AdamSmallReferenceIdeal.τ).loc Cert.AdamSmallReferenceIdeal.main_arg37)
          ∧ r.2.mem ((c.tc : Thread Cert.AdamSmallReferenceIdeal.nD Cert.AdamSmallReferenceIdeal.τ).loc Cert.AdamSmallReferenceIdeal.main_arg38) = m' ((c.tc : Thread Cert.AdamSmallReferenceIdeal.nD Cert.AdamSmallReferenceIdeal.τ).loc Cert.AdamSmallReferenceIdeal.main_arg38)
          ∧ r.2.mem ((c.tc : Thread Cert.AdamSmallReferenceIdeal.nD Cert.AdamSmallReferenceIdeal.τ).loc Cert.AdamSmallReferenceIdeal.main_arg39) = m' ((c.tc : Thread Cert.AdamSmallReferenceIdeal.nD Cert.AdamSmallReferenceIdeal.τ).loc Cert.AdamSmallReferenceIdeal.main_arg39)
          ∧ r.2.mem ((c.tc : Thread Cert.AdamSmallReferenceIdeal.nD Cert.AdamSmallReferenceIdeal.τ).loc Cert.AdamSmallReferenceIdeal.main_arg40) = m' ((c.tc : Thread Cert.AdamSmallReferenceIdeal.nD Cert.AdamSmallReferenceIdeal.τ).loc Cert.AdamSmallReferenceIdeal.main_arg40)
          ∧ r.2.mem ((c.tc : Thread Cert.AdamSmallReferenceIdeal.nD Cert.AdamSmallReferenceIdeal.τ).loc Cert.AdamSmallReferenceIdeal.main_arg41) = m' ((c.tc : Thread Cert.AdamSmallReferenceIdeal.nD Cert.AdamSmallReferenceIdeal.τ).loc Cert.AdamSmallReferenceIdeal.main_arg41)
          ∧ r.2.mem ((c.tc : Thread Cert.AdamSmallReferenceIdeal.nD Cert.AdamSmallReferenceIdeal.τ).loc Cert.AdamSmallReferenceIdeal.main_arg42) = m' ((c.tc : Thread Cert.AdamSmallReferenceIdeal.nD Cert.AdamSmallReferenceIdeal.τ).loc Cert.AdamSmallReferenceIdeal.main_arg42)
          ∧ r.2.mem ((c.tc : Thread Cert.AdamSmallReferenceIdeal.nD Cert.AdamSmallReferenceIdeal.τ).loc Cert.AdamSmallReferenceIdeal.main_arg43) = m' ((c.tc : Thread Cert.AdamSmallReferenceIdeal.nD Cert.AdamSmallReferenceIdeal.τ).loc Cert.AdamSmallReferenceIdeal.main_arg43))

def preserves_SumSmallKernel_SumSmallKernelIdeal : Prop :=
  True

def algebraic_SumSmallKernelIdeal_SumSmallReferenceIdeal [hSumSmallKernelIdeal : Cert.SumSmallKernelIdeal.Facts] [hSumSmallReferenceIdeal : Cert.SumSmallReferenceIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallKernelIdeal m →
    (∀ c : Dev Cert.SumSmallKernelIdeal.nD,
      m' ((c.tc : Thread Cert.SumSmallReferenceIdeal.nD Cert.SumSmallReferenceIdeal.τ).loc Cert.SumSmallReferenceIdeal.main_arg0) = m ((c.tc : Thread Cert.SumSmallKernelIdeal.nD Cert.SumSmallKernelIdeal.τ).loc Cert.SumSmallKernelIdeal.main_arg0)
      ∧ m' ((c.tc : Thread Cert.SumSmallReferenceIdeal.nD Cert.SumSmallReferenceIdeal.τ).loc Cert.SumSmallReferenceIdeal.main_arg1) = m ((c.tc : Thread Cert.SumSmallKernelIdeal.nD Cert.SumSmallKernelIdeal.τ).loc Cert.SumSmallKernelIdeal.main_arg1)
      ∧ m' ((c.tc : Thread Cert.SumSmallReferenceIdeal.nD Cert.SumSmallReferenceIdeal.τ).loc Cert.SumSmallReferenceIdeal.main_arg2) = m ((c.tc : Thread Cert.SumSmallKernelIdeal.nD Cert.SumSmallKernelIdeal.τ).loc Cert.SumSmallKernelIdeal.main_arg2)
      ∧ m' ((c.tc : Thread Cert.SumSmallReferenceIdeal.nD Cert.SumSmallReferenceIdeal.τ).loc Cert.SumSmallReferenceIdeal.main_arg3) = m ((c.tc : Thread Cert.SumSmallKernelIdeal.nD Cert.SumSmallKernelIdeal.τ).loc Cert.SumSmallKernelIdeal.main_arg3)
      ∧ m' ((c.tc : Thread Cert.SumSmallReferenceIdeal.nD Cert.SumSmallReferenceIdeal.τ).loc Cert.SumSmallReferenceIdeal.main_arg4) = m ((c.tc : Thread Cert.SumSmallKernelIdeal.nD Cert.SumSmallKernelIdeal.τ).loc Cert.SumSmallKernelIdeal.main_arg4)
      ∧ m' ((c.tc : Thread Cert.SumSmallReferenceIdeal.nD Cert.SumSmallReferenceIdeal.τ).loc Cert.SumSmallReferenceIdeal.main_arg5) = m ((c.tc : Thread Cert.SumSmallKernelIdeal.nD Cert.SumSmallKernelIdeal.τ).loc Cert.SumSmallKernelIdeal.main_arg5)
      ∧ m' ((c.tc : Thread Cert.SumSmallReferenceIdeal.nD Cert.SumSmallReferenceIdeal.τ).loc Cert.SumSmallReferenceIdeal.main_arg6) = m ((c.tc : Thread Cert.SumSmallKernelIdeal.nD Cert.SumSmallKernelIdeal.τ).loc Cert.SumSmallKernelIdeal.main_arg6)
      ∧ m' ((c.tc : Thread Cert.SumSmallReferenceIdeal.nD Cert.SumSmallReferenceIdeal.τ).loc Cert.SumSmallReferenceIdeal.main_arg7) = m ((c.tc : Thread Cert.SumSmallKernelIdeal.nD Cert.SumSmallKernelIdeal.τ).loc Cert.SumSmallKernelIdeal.main_arg7)
      ∧ m' ((c.tc : Thread Cert.SumSmallReferenceIdeal.nD Cert.SumSmallReferenceIdeal.τ).loc Cert.SumSmallReferenceIdeal.main_arg8) = m ((c.tc : Thread Cert.SumSmallKernelIdeal.nD Cert.SumSmallKernelIdeal.τ).loc Cert.SumSmallKernelIdeal.main_arg8)
      ∧ m' ((c.tc : Thread Cert.SumSmallReferenceIdeal.nD Cert.SumSmallReferenceIdeal.τ).loc Cert.SumSmallReferenceIdeal.main_arg9) = m ((c.tc : Thread Cert.SumSmallKernelIdeal.nD Cert.SumSmallKernelIdeal.τ).loc Cert.SumSmallKernelIdeal.main_arg9)
      ∧ m' ((c.tc : Thread Cert.SumSmallReferenceIdeal.nD Cert.SumSmallReferenceIdeal.τ).loc Cert.SumSmallReferenceIdeal.main_arg10) = m ((c.tc : Thread Cert.SumSmallKernelIdeal.nD Cert.SumSmallKernelIdeal.τ).loc Cert.SumSmallKernelIdeal.main_arg10)
      ∧ m' ((c.tc : Thread Cert.SumSmallReferenceIdeal.nD Cert.SumSmallReferenceIdeal.τ).loc Cert.SumSmallReferenceIdeal.main_arg11) = m ((c.tc : Thread Cert.SumSmallKernelIdeal.nD Cert.SumSmallKernelIdeal.τ).loc Cert.SumSmallKernelIdeal.main_arg11)) →
    ∃ (v0 : (c : Dev Cert.SumSmallKernelIdeal.nD) → Buf (Elt Ideal) ((c.tc : Thread Cert.SumSmallKernelIdeal.nD Cert.SumSmallKernelIdeal.τ).loc Cert.SumSmallKernelIdeal.main_v39)) (v1 : (c : Dev Cert.SumSmallKernelIdeal.nD) → Buf (Elt Ideal) ((c.tc : Thread Cert.SumSmallKernelIdeal.nD Cert.SumSmallKernelIdeal.τ).loc Cert.SumSmallKernelIdeal.main_v44)) (v2 : (c : Dev Cert.SumSmallKernelIdeal.nD) → Buf (Elt Ideal) ((c.tc : Thread Cert.SumSmallKernelIdeal.nD Cert.SumSmallKernelIdeal.τ).loc Cert.SumSmallKernelIdeal.main_v29)) (v3 : (c : Dev Cert.SumSmallKernelIdeal.nD) → Buf (Elt Ideal) ((c.tc : Thread Cert.SumSmallKernelIdeal.nD Cert.SumSmallKernelIdeal.τ).loc Cert.SumSmallKernelIdeal.main_v30)) (v4 : (c : Dev Cert.SumSmallKernelIdeal.nD) → Buf (Elt Ideal) ((c.tc : Thread Cert.SumSmallKernelIdeal.nD Cert.SumSmallKernelIdeal.τ).loc Cert.SumSmallKernelIdeal.main_v31)) (v5 : (c : Dev Cert.SumSmallKernelIdeal.nD) → Buf (Elt Ideal) ((c.tc : Thread Cert.SumSmallKernelIdeal.nD Cert.SumSmallKernelIdeal.τ).loc Cert.SumSmallKernelIdeal.main_v32)) (v6 : (c : Dev Cert.SumSmallKernelIdeal.nD) → Buf (Elt Ideal) ((c.tc : Thread Cert.SumSmallKernelIdeal.nD Cert.SumSmallKernelIdeal.τ).loc Cert.SumSmallKernelIdeal.main_v33)) (v7 : (c : Dev Cert.SumSmallKernelIdeal.nD) → Buf (Elt Ideal) ((c.tc : Thread Cert.SumSmallKernelIdeal.nD Cert.SumSmallKernelIdeal.τ).loc Cert.SumSmallKernelIdeal.main_v34)) (v8 : (c : Dev Cert.SumSmallKernelIdeal.nD) → Buf (Elt Ideal) ((c.tc : Thread Cert.SumSmallKernelIdeal.nD Cert.SumSmallKernelIdeal.τ).loc Cert.SumSmallKernelIdeal.main_v35)) (v9 : (c : Dev Cert.SumSmallKernelIdeal.nD) → Buf (Elt Ideal) ((c.tc : Thread Cert.SumSmallKernelIdeal.nD Cert.SumSmallKernelIdeal.τ).loc Cert.SumSmallKernelIdeal.main_v36)) (v10 : (c : Dev Cert.SumSmallKernelIdeal.nD) → Buf (Elt Ideal) ((c.tc : Thread Cert.SumSmallKernelIdeal.nD Cert.SumSmallKernelIdeal.τ).loc Cert.SumSmallKernelIdeal.main_v37)),
      θ_run (Cert.SumSmallKernelIdeal.defs (F := Ideal)) (onTc (τ := Cert.SumSmallKernelIdeal.τ) (Cert.SumSmallKernelIdeal.main (F := Ideal))) ⟨m, fun _ => 0, g⟩ (fun r => ∀ c : Dev Cert.SumSmallKernelIdeal.nD,
          r.2.mem ((c.tc : Thread Cert.SumSmallKernelIdeal.nD Cert.SumSmallKernelIdeal.τ).loc Cert.SumSmallKernelIdeal.main_v39) = v0 c
          ∧ r.2.mem ((c.tc : Thread Cert.SumSmallKernelIdeal.nD Cert.SumSmallKernelIdeal.τ).loc Cert.SumSmallKernelIdeal.main_v44) = v1 c
          ∧ r.2.mem ((c.tc : Thread Cert.SumSmallKernelIdeal.nD Cert.SumSmallKernelIdeal.τ).loc Cert.SumSmallKernelIdeal.main_v29) = v2 c
          ∧ r.2.mem ((c.tc : Thread Cert.SumSmallKernelIdeal.nD Cert.SumSmallKernelIdeal.τ).loc Cert.SumSmallKernelIdeal.main_v30) = v3 c
          ∧ r.2.mem ((c.tc : Thread Cert.SumSmallKernelIdeal.nD Cert.SumSmallKernelIdeal.τ).loc Cert.SumSmallKernelIdeal.main_v31) = v4 c
          ∧ r.2.mem ((c.tc : Thread Cert.SumSmallKernelIdeal.nD Cert.SumSmallKernelIdeal.τ).loc Cert.SumSmallKernelIdeal.main_v32) = v5 c
          ∧ r.2.mem ((c.tc : Thread Cert.SumSmallKernelIdeal.nD Cert.SumSmallKernelIdeal.τ).loc Cert.SumSmallKernelIdeal.main_v33) = v6 c
          ∧ r.2.mem ((c.tc : Thread Cert.SumSmallKernelIdeal.nD Cert.SumSmallKernelIdeal.τ).loc Cert.SumSmallKernelIdeal.main_v34) = v7 c
          ∧ r.2.mem ((c.tc : Thread Cert.SumSmallKernelIdeal.nD Cert.SumSmallKernelIdeal.τ).loc Cert.SumSmallKernelIdeal.main_v35) = v8 c
          ∧ r.2.mem ((c.tc : Thread Cert.SumSmallKernelIdeal.nD Cert.SumSmallKernelIdeal.τ).loc Cert.SumSmallKernelIdeal.main_v36) = v9 c
          ∧ r.2.mem ((c.tc : Thread Cert.SumSmallKernelIdeal.nD Cert.SumSmallKernelIdeal.τ).loc Cert.SumSmallKernelIdeal.main_v37) = v10 c
          ∧ r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0)
          ∧ r.2.mem ((c.tc : Thread Cert.SumSmallKernelIdeal.nD Cert.SumSmallKernelIdeal.τ).loc Cert.SumSmallKernelIdeal.main_arg1) = m ((c.tc : Thread Cert.SumSmallKernelIdeal.nD Cert.SumSmallKernelIdeal.τ).loc Cert.SumSmallKernelIdeal.main_arg1)
          ∧ r.2.mem ((c.tc : Thread Cert.SumSmallKernelIdeal.nD Cert.SumSmallKernelIdeal.τ).loc Cert.SumSmallKernelIdeal.main_arg2) = m ((c.tc : Thread Cert.SumSmallKernelIdeal.nD Cert.SumSmallKernelIdeal.τ).loc Cert.SumSmallKernelIdeal.main_arg2)
          ∧ r.2.mem ((c.tc : Thread Cert.SumSmallKernelIdeal.nD Cert.SumSmallKernelIdeal.τ).loc Cert.SumSmallKernelIdeal.main_arg3) = m ((c.tc : Thread Cert.SumSmallKernelIdeal.nD Cert.SumSmallKernelIdeal.τ).loc Cert.SumSmallKernelIdeal.main_arg3)
          ∧ r.2.mem ((c.tc : Thread Cert.SumSmallKernelIdeal.nD Cert.SumSmallKernelIdeal.τ).loc Cert.SumSmallKernelIdeal.main_arg4) = m ((c.tc : Thread Cert.SumSmallKernelIdeal.nD Cert.SumSmallKernelIdeal.τ).loc Cert.SumSmallKernelIdeal.main_arg4)
          ∧ r.2.mem ((c.tc : Thread Cert.SumSmallKernelIdeal.nD Cert.SumSmallKernelIdeal.τ).loc Cert.SumSmallKernelIdeal.main_arg5) = m ((c.tc : Thread Cert.SumSmallKernelIdeal.nD Cert.SumSmallKernelIdeal.τ).loc Cert.SumSmallKernelIdeal.main_arg5)
          ∧ r.2.mem ((c.tc : Thread Cert.SumSmallKernelIdeal.nD Cert.SumSmallKernelIdeal.τ).loc Cert.SumSmallKernelIdeal.main_arg6) = m ((c.tc : Thread Cert.SumSmallKernelIdeal.nD Cert.SumSmallKernelIdeal.τ).loc Cert.SumSmallKernelIdeal.main_arg6)
          ∧ r.2.mem ((c.tc : Thread Cert.SumSmallKernelIdeal.nD Cert.SumSmallKernelIdeal.τ).loc Cert.SumSmallKernelIdeal.main_arg7) = m ((c.tc : Thread Cert.SumSmallKernelIdeal.nD Cert.SumSmallKernelIdeal.τ).loc Cert.SumSmallKernelIdeal.main_arg7)
          ∧ r.2.mem ((c.tc : Thread Cert.SumSmallKernelIdeal.nD Cert.SumSmallKernelIdeal.τ).loc Cert.SumSmallKernelIdeal.main_arg8) = m ((c.tc : Thread Cert.SumSmallKernelIdeal.nD Cert.SumSmallKernelIdeal.τ).loc Cert.SumSmallKernelIdeal.main_arg8)
          ∧ r.2.mem ((c.tc : Thread Cert.SumSmallKernelIdeal.nD Cert.SumSmallKernelIdeal.τ).loc Cert.SumSmallKernelIdeal.main_arg9) = m ((c.tc : Thread Cert.SumSmallKernelIdeal.nD Cert.SumSmallKernelIdeal.τ).loc Cert.SumSmallKernelIdeal.main_arg9)
          ∧ r.2.mem ((c.tc : Thread Cert.SumSmallKernelIdeal.nD Cert.SumSmallKernelIdeal.τ).loc Cert.SumSmallKernelIdeal.main_arg10) = m ((c.tc : Thread Cert.SumSmallKernelIdeal.nD Cert.SumSmallKernelIdeal.τ).loc Cert.SumSmallKernelIdeal.main_arg10)
          ∧ r.2.mem ((c.tc : Thread Cert.SumSmallKernelIdeal.nD Cert.SumSmallKernelIdeal.τ).loc Cert.SumSmallKernelIdeal.main_arg11) = m ((c.tc : Thread Cert.SumSmallKernelIdeal.nD Cert.SumSmallKernelIdeal.τ).loc Cert.SumSmallKernelIdeal.main_arg11))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v18) = v0 c
          ∧ r.2.mem ((c.tc : Thread Cert.SumSmallReferenceIdeal.nD Cert.SumSmallReferenceIdeal.τ).loc Cert.SumSmallReferenceIdeal.main_v21) = v1 c
          ∧ r.2.mem ((c.tc : Thread Cert.SumSmallReferenceIdeal.nD Cert.SumSmallReferenceIdeal.τ).loc Cert.SumSmallReferenceIdeal.main_v0) = v2 c
          ∧ r.2.mem ((c.tc : Thread Cert.SumSmallReferenceIdeal.nD Cert.SumSmallReferenceIdeal.τ).loc Cert.SumSmallReferenceIdeal.main_v1) = v3 c
          ∧ r.2.mem ((c.tc : Thread Cert.SumSmallReferenceIdeal.nD Cert.SumSmallReferenceIdeal.τ).loc Cert.SumSmallReferenceIdeal.main_v2) = v4 c
          ∧ r.2.mem ((c.tc : Thread Cert.SumSmallReferenceIdeal.nD Cert.SumSmallReferenceIdeal.τ).loc Cert.SumSmallReferenceIdeal.main_v3) = v5 c
          ∧ r.2.mem ((c.tc : Thread Cert.SumSmallReferenceIdeal.nD Cert.SumSmallReferenceIdeal.τ).loc Cert.SumSmallReferenceIdeal.main_v4) = v6 c
          ∧ r.2.mem ((c.tc : Thread Cert.SumSmallReferenceIdeal.nD Cert.SumSmallReferenceIdeal.τ).loc Cert.SumSmallReferenceIdeal.main_v5) = v7 c
          ∧ r.2.mem ((c.tc : Thread Cert.SumSmallReferenceIdeal.nD Cert.SumSmallReferenceIdeal.τ).loc Cert.SumSmallReferenceIdeal.main_v6) = v8 c
          ∧ r.2.mem ((c.tc : Thread Cert.SumSmallReferenceIdeal.nD Cert.SumSmallReferenceIdeal.τ).loc Cert.SumSmallReferenceIdeal.main_v7) = v9 c
          ∧ r.2.mem ((c.tc : Thread Cert.SumSmallReferenceIdeal.nD Cert.SumSmallReferenceIdeal.τ).loc Cert.SumSmallReferenceIdeal.main_v8) = v10 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1)
          ∧ r.2.mem ((c.tc : Thread Cert.SumSmallReferenceIdeal.nD Cert.SumSmallReferenceIdeal.τ).loc Cert.SumSmallReferenceIdeal.main_arg2) = m' ((c.tc : Thread Cert.SumSmallReferenceIdeal.nD Cert.SumSmallReferenceIdeal.τ).loc Cert.SumSmallReferenceIdeal.main_arg2)
          ∧ r.2.mem ((c.tc : Thread Cert.SumSmallReferenceIdeal.nD Cert.SumSmallReferenceIdeal.τ).loc Cert.SumSmallReferenceIdeal.main_arg3) = m' ((c.tc : Thread Cert.SumSmallReferenceIdeal.nD Cert.SumSmallReferenceIdeal.τ).loc Cert.SumSmallReferenceIdeal.main_arg3)
          ∧ r.2.mem ((c.tc : Thread Cert.SumSmallReferenceIdeal.nD Cert.SumSmallReferenceIdeal.τ).loc Cert.SumSmallReferenceIdeal.main_arg4) = m' ((c.tc : Thread Cert.SumSmallReferenceIdeal.nD Cert.SumSmallReferenceIdeal.τ).loc Cert.SumSmallReferenceIdeal.main_arg4)
          ∧ r.2.mem ((c.tc : Thread Cert.SumSmallReferenceIdeal.nD Cert.SumSmallReferenceIdeal.τ).loc Cert.SumSmallReferenceIdeal.main_arg5) = m' ((c.tc : Thread Cert.SumSmallReferenceIdeal.nD Cert.SumSmallReferenceIdeal.τ).loc Cert.SumSmallReferenceIdeal.main_arg5)
          ∧ r.2.mem ((c.tc : Thread Cert.SumSmallReferenceIdeal.nD Cert.SumSmallReferenceIdeal.τ).loc Cert.SumSmallReferenceIdeal.main_arg6) = m' ((c.tc : Thread Cert.SumSmallReferenceIdeal.nD Cert.SumSmallReferenceIdeal.τ).loc Cert.SumSmallReferenceIdeal.main_arg6)
          ∧ r.2.mem ((c.tc : Thread Cert.SumSmallReferenceIdeal.nD Cert.SumSmallReferenceIdeal.τ).loc Cert.SumSmallReferenceIdeal.main_arg7) = m' ((c.tc : Thread Cert.SumSmallReferenceIdeal.nD Cert.SumSmallReferenceIdeal.τ).loc Cert.SumSmallReferenceIdeal.main_arg7)
          ∧ r.2.mem ((c.tc : Thread Cert.SumSmallReferenceIdeal.nD Cert.SumSmallReferenceIdeal.τ).loc Cert.SumSmallReferenceIdeal.main_arg8) = m' ((c.tc : Thread Cert.SumSmallReferenceIdeal.nD Cert.SumSmallReferenceIdeal.τ).loc Cert.SumSmallReferenceIdeal.main_arg8)
          ∧ r.2.mem ((c.tc : Thread Cert.SumSmallReferenceIdeal.nD Cert.SumSmallReferenceIdeal.τ).loc Cert.SumSmallReferenceIdeal.main_arg9) = m' ((c.tc : Thread Cert.SumSmallReferenceIdeal.nD Cert.SumSmallReferenceIdeal.τ).loc Cert.SumSmallReferenceIdeal.main_arg9)
          ∧ r.2.mem ((c.tc : Thread Cert.SumSmallReferenceIdeal.nD Cert.SumSmallReferenceIdeal.τ).loc Cert.SumSmallReferenceIdeal.main_arg10) = m' ((c.tc : Thread Cert.SumSmallReferenceIdeal.nD Cert.SumSmallReferenceIdeal.τ).loc Cert.SumSmallReferenceIdeal.main_arg10)
          ∧ r.2.mem ((c.tc : Thread Cert.SumSmallReferenceIdeal.nD Cert.SumSmallReferenceIdeal.τ).loc Cert.SumSmallReferenceIdeal.main_arg11) = m' ((c.tc : Thread Cert.SumSmallReferenceIdeal.nD Cert.SumSmallReferenceIdeal.τ).loc Cert.SumSmallReferenceIdeal.main_arg11))

def preserves_SumCtxKernel_SumCtxKernelIdeal : Prop :=
  True

def algebraic_SumCtxKernelIdeal_SumCtxReferenceIdeal [hSumCtxKernelIdeal : Cert.SumCtxKernelIdeal.Facts] [hSumCtxReferenceIdeal : Cert.SumCtxReferenceIdeal.Facts] : Prop :=
  ∀ (m : (ℓ : Loc Cert.SumCtxKernelIdeal.nD Cert.SumCtxKernelIdeal.τ Cert.SumCtxKernelIdeal.sig) → Buf (Elt Ideal) ℓ) (g : Dev Cert.SumCtxKernelIdeal.nD → PrngReg)
    (m' : (ℓ : Loc Cert.SumCtxReferenceIdeal.nD Cert.SumCtxReferenceIdeal.τ Cert.SumCtxReferenceIdeal.sig) → Buf (Elt Ideal) ℓ) (g' : Dev Cert.SumCtxReferenceIdeal.nD → PrngReg), Pre_SumCtxKernelIdeal m →
    (∀ c : Dev Cert.SumCtxKernelIdeal.nD,
      m' ((c.tc : Thread Cert.SumCtxReferenceIdeal.nD Cert.SumCtxReferenceIdeal.τ).loc Cert.SumCtxReferenceIdeal.main_arg0) = m ((c.tc : Thread Cert.SumCtxKernelIdeal.nD Cert.SumCtxKernelIdeal.τ).loc Cert.SumCtxKernelIdeal.main_arg0)) →
    ∃ (v0 : (c : Dev Cert.SumCtxKernelIdeal.nD) → Buf (Elt Ideal) ((c.tc : Thread Cert.SumCtxKernelIdeal.nD Cert.SumCtxKernelIdeal.τ).loc Cert.SumCtxKernelIdeal.main_v1)),
      θ_run (Cert.SumCtxKernelIdeal.defs (F := Ideal)) (onTc (τ := Cert.SumCtxKernelIdeal.τ) (Cert.SumCtxKernelIdeal.main (F := Ideal))) ⟨m, fun _ => 0, g⟩ (fun r => ∀ c : Dev Cert.SumCtxKernelIdeal.nD,
          r.2.mem ((c.tc : Thread Cert.SumCtxKernelIdeal.nD Cert.SumCtxKernelIdeal.τ).loc Cert.SumCtxKernelIdeal.main_v1) = v0 c
          ∧ r.2.mem ((c.tc : Thread Cert.SumCtxKernelIdeal.nD Cert.SumCtxKernelIdeal.τ).loc Cert.SumCtxKernelIdeal.main_arg0) = m ((c.tc : Thread Cert.SumCtxKernelIdeal.nD Cert.SumCtxKernelIdeal.τ).loc Cert.SumCtxKernelIdeal.main_arg0))
      ∧ θ_run (Cert.SumCtxReferenceIdeal.defs (F := Ideal)) (onTc (τ := Cert.SumCtxReferenceIdeal.τ) (Cert.SumCtxReferenceIdeal.main (F := Ideal))) ⟨m', fun _ => 0, g'⟩ (fun r => ∀ c : Dev Cert.SumCtxReferenceIdeal.nD,
          r.2.mem ((c.tc : Thread Cert.SumCtxReferenceIdeal.nD Cert.SumCtxReferenceIdeal.τ).loc Cert.SumCtxReferenceIdeal.main_v0) = v0 c
          ∧ r.2.mem ((c.tc : Thread Cert.SumCtxReferenceIdeal.nD Cert.SumCtxReferenceIdeal.τ).loc Cert.SumCtxReferenceIdeal.main_arg0) = m' ((c.tc : Thread Cert.SumCtxReferenceIdeal.nD Cert.SumCtxReferenceIdeal.τ).loc Cert.SumCtxReferenceIdeal.main_arg0))

def preserves_AdalnKernel_AdalnKernelIdeal : Prop :=
  True

def algebraic_AdalnKernelIdeal_AdalnReferenceIdeal_pre_finite_adaln [hAdalnKernelIdeal : Cert.AdalnKernelIdeal.Facts] [hAdalnReferenceIdeal : Cert.AdalnReferenceIdeal.Facts] [hPre_finite_adaln : Cert.Pre_finite_adaln.Facts] : Prop :=
  ∀ (m : (ℓ : Loc Cert.AdalnKernelIdeal.nD Cert.AdalnKernelIdeal.τ Cert.AdalnKernelIdeal.sig) → Buf (Elt Ideal) ℓ) (g : Dev Cert.AdalnKernelIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnKernelIdeal_finite_adaln m →
    (∀ c : Dev Cert.AdalnKernelIdeal.nD,
      m' ((c.tc : Thread Cert.AdalnReferenceIdeal.nD Cert.AdalnReferenceIdeal.τ).loc Cert.AdalnReferenceIdeal.main_arg0) = m ((c.tc : Thread Cert.AdalnKernelIdeal.nD Cert.AdalnKernelIdeal.τ).loc Cert.AdalnKernelIdeal.main_arg0)
      ∧ m' ((c.tc : Thread Cert.AdalnReferenceIdeal.nD Cert.AdalnReferenceIdeal.τ).loc Cert.AdalnReferenceIdeal.main_arg1) = m ((c.tc : Thread Cert.AdalnKernelIdeal.nD Cert.AdalnKernelIdeal.τ).loc Cert.AdalnKernelIdeal.main_arg1)
      ∧ m' ((c.tc : Thread Cert.AdalnReferenceIdeal.nD Cert.AdalnReferenceIdeal.τ).loc Cert.AdalnReferenceIdeal.main_arg2) = m ((c.tc : Thread Cert.AdalnKernelIdeal.nD Cert.AdalnKernelIdeal.τ).loc Cert.AdalnKernelIdeal.main_arg2)) →
    ∃ (v0 : (c : Dev Cert.AdalnKernelIdeal.nD) → Buf (Elt Ideal) ((c.tc : Thread Cert.AdalnKernelIdeal.nD Cert.AdalnKernelIdeal.τ).loc Cert.AdalnKernelIdeal.main_v9_0)) (v1 : (c : Dev Cert.AdalnKernelIdeal.nD) → Buf (Elt Ideal) ((c.tc : Thread Cert.AdalnKernelIdeal.nD Cert.AdalnKernelIdeal.τ).loc Cert.AdalnKernelIdeal.main_v9_1)),
      θ_run (Cert.AdalnKernelIdeal.defs (F := Ideal)) (onTc (τ := Cert.AdalnKernelIdeal.τ) (Cert.AdalnKernelIdeal.main (F := Ideal))) ⟨m, fun _ => 0, g⟩ (fun r => ∀ c : Dev Cert.AdalnKernelIdeal.nD,
          r.2.mem ((c.tc : Thread Cert.AdalnKernelIdeal.nD Cert.AdalnKernelIdeal.τ).loc Cert.AdalnKernelIdeal.main_v9_0) = v0 c
          ∧ r.2.mem ((c.tc : Thread Cert.AdalnKernelIdeal.nD Cert.AdalnKernelIdeal.τ).loc Cert.AdalnKernelIdeal.main_v9_1) = v1 c
          ∧ r.2.mem ((c.tc : Thread Cert.AdalnKernelIdeal.nD Cert.AdalnKernelIdeal.τ).loc Cert.AdalnKernelIdeal.main_arg0) = m ((c.tc : Thread Cert.AdalnKernelIdeal.nD Cert.AdalnKernelIdeal.τ).loc Cert.AdalnKernelIdeal.main_arg0)
          ∧ r.2.mem ((c.tc : Thread Cert.AdalnKernelIdeal.nD Cert.AdalnKernelIdeal.τ).loc Cert.AdalnKernelIdeal.main_arg1) = m ((c.tc : Thread Cert.AdalnKernelIdeal.nD Cert.AdalnKernelIdeal.τ).loc Cert.AdalnKernelIdeal.main_arg1)
          ∧ r.2.mem ((c.tc : Thread Cert.AdalnKernelIdeal.nD Cert.AdalnKernelIdeal.τ).loc Cert.AdalnKernelIdeal.main_arg2) = m ((c.tc : Thread Cert.AdalnKernelIdeal.nD Cert.AdalnKernelIdeal.τ).loc Cert.AdalnKernelIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v22) = v0 c
          ∧ r.2.mem ((c.tc : Thread Cert.AdalnReferenceIdeal.nD Cert.AdalnReferenceIdeal.τ).loc Cert.AdalnReferenceIdeal.main_v25) = v1 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def preserves_SumWoKernel_SumWoKernelIdeal : Prop :=
  True

def algebraic_SumWoKernelIdeal_SumWoReferenceIdeal [hSumWoKernelIdeal : Cert.SumWoKernelIdeal.Facts] [hSumWoReferenceIdeal : Cert.SumWoReferenceIdeal.Facts] [hPre_device_number_wo : Cert.Pre_device_number_wo.Facts] : Prop :=
  ∀ (m : (ℓ : Loc Cert.SumWoKernelIdeal.nD Cert.SumWoKernelIdeal.τ Cert.SumWoKernelIdeal.sig) → Buf (Elt Ideal) ℓ) (g : Dev Cert.SumWoKernelIdeal.nD → PrngReg)
    (m' : (ℓ : Loc Cert.SumWoReferenceIdeal.nD Cert.SumWoReferenceIdeal.τ Cert.SumWoReferenceIdeal.sig) → Buf (Elt Ideal) ℓ) (g' : Dev Cert.SumWoReferenceIdeal.nD → PrngReg), Pre_SumWoKernelIdeal m →
    (∀ c : Dev Cert.SumWoKernelIdeal.nD,
      m' ((c.tc : Thread Cert.SumWoReferenceIdeal.nD Cert.SumWoReferenceIdeal.τ).loc Cert.SumWoReferenceIdeal.main_arg0) = m ((c.tc : Thread Cert.SumWoKernelIdeal.nD Cert.SumWoKernelIdeal.τ).loc Cert.SumWoKernelIdeal.main_arg0)
      ∧ m' ((c.tc : Thread Cert.SumWoReferenceIdeal.nD Cert.SumWoReferenceIdeal.τ).loc Cert.SumWoReferenceIdeal.main_arg1) = m ((c.tc : Thread Cert.SumWoKernelIdeal.nD Cert.SumWoKernelIdeal.τ).loc Cert.SumWoKernelIdeal.main_arg1)
      ∧ m' ((c.tc : Thread Cert.SumWoReferenceIdeal.nD Cert.SumWoReferenceIdeal.τ).loc Cert.SumWoReferenceIdeal.main_arg2) = m ((c.tc : Thread Cert.SumWoKernelIdeal.nD Cert.SumWoKernelIdeal.τ).loc Cert.SumWoKernelIdeal.main_arg2)) →
    ∃ (v0 : (c : Dev Cert.SumWoKernelIdeal.nD) → Buf (Elt Ideal) ((c.tc : Thread Cert.SumWoKernelIdeal.nD Cert.SumWoKernelIdeal.τ).loc Cert.SumWoKernelIdeal.main_v0)),
      θ_run (Cert.SumWoKernelIdeal.defs (F := Ideal)) (onTc (τ := Cert.SumWoKernelIdeal.τ) (Cert.SumWoKernelIdeal.main (F := Ideal))) ⟨m, fun _ => 0, g⟩ (fun r => ∀ c : Dev Cert.SumWoKernelIdeal.nD,
          r.2.mem ((c.tc : Thread Cert.SumWoKernelIdeal.nD Cert.SumWoKernelIdeal.τ).loc Cert.SumWoKernelIdeal.main_v0) = v0 c
          ∧ r.2.mem ((c.tc : Thread Cert.SumWoKernelIdeal.nD Cert.SumWoKernelIdeal.τ).loc Cert.SumWoKernelIdeal.main_arg0) = m ((c.tc : Thread Cert.SumWoKernelIdeal.nD Cert.SumWoKernelIdeal.τ).loc Cert.SumWoKernelIdeal.main_arg0)
          ∧ r.2.mem ((c.tc : Thread Cert.SumWoKernelIdeal.nD Cert.SumWoKernelIdeal.τ).loc Cert.SumWoKernelIdeal.main_arg1) = m ((c.tc : Thread Cert.SumWoKernelIdeal.nD Cert.SumWoKernelIdeal.τ).loc Cert.SumWoKernelIdeal.main_arg1)
          ∧ r.2.mem ((c.tc : Thread Cert.SumWoKernelIdeal.nD Cert.SumWoKernelIdeal.τ).loc Cert.SumWoKernelIdeal.main_arg2) = m ((c.tc : Thread Cert.SumWoKernelIdeal.nD Cert.SumWoKernelIdeal.τ).loc Cert.SumWoKernelIdeal.main_arg2))
      ∧ θ_run (Cert.SumWoReferenceIdeal.defs (F := Ideal)) (onTc (τ := Cert.SumWoReferenceIdeal.τ) (Cert.SumWoReferenceIdeal.main (F := Ideal))) ⟨m', fun _ => 0, g'⟩ (fun r => ∀ c : Dev Cert.SumWoReferenceIdeal.nD,
          r.2.mem ((c.tc : Thread Cert.SumWoReferenceIdeal.nD Cert.SumWoReferenceIdeal.τ).loc Cert.SumWoReferenceIdeal.main_v8) = v0 c
          ∧ r.2.mem ((c.tc : Thread Cert.SumWoReferenceIdeal.nD Cert.SumWoReferenceIdeal.τ).loc Cert.SumWoReferenceIdeal.main_arg0) = m' ((c.tc : Thread Cert.SumWoReferenceIdeal.nD Cert.SumWoReferenceIdeal.τ).loc Cert.SumWoReferenceIdeal.main_arg0)
          ∧ r.2.mem ((c.tc : Thread Cert.SumWoReferenceIdeal.nD Cert.SumWoReferenceIdeal.τ).loc Cert.SumWoReferenceIdeal.main_arg1) = m' ((c.tc : Thread Cert.SumWoReferenceIdeal.nD Cert.SumWoReferenceIdeal.τ).loc Cert.SumWoReferenceIdeal.main_arg1)
          ∧ r.2.mem ((c.tc : Thread Cert.SumWoReferenceIdeal.nD Cert.SumWoReferenceIdeal.τ).loc Cert.SumWoReferenceIdeal.main_arg2) = m' ((c.tc : Thread Cert.SumWoReferenceIdeal.nD Cert.SumWoReferenceIdeal.τ).loc Cert.SumWoReferenceIdeal.main_arg2))

def preserves_SumOutKernel_SumOutKernelIdeal : Prop :=
  True

def algebraic_SumOutKernelIdeal_SumOutReferenceIdeal [hSumOutKernelIdeal : Cert.SumOutKernelIdeal.Facts] [hSumOutReferenceIdeal : Cert.SumOutReferenceIdeal.Facts] [hPre_device_number_out : Cert.Pre_device_number_out.Facts] : Prop :=
  ∀ (m : (ℓ : Loc Cert.SumOutKernelIdeal.nD Cert.SumOutKernelIdeal.τ Cert.SumOutKernelIdeal.sig) → Buf (Elt Ideal) ℓ) (g : Dev Cert.SumOutKernelIdeal.nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg), Pre_SumOutKernelIdeal m →
    (∀ c : Dev Cert.SumOutKernelIdeal.nD,
      m' ((c.tc : Thread Cert.SumOutReferenceIdeal.nD Cert.SumOutReferenceIdeal.τ).loc Cert.SumOutReferenceIdeal.main_arg0) = m ((c.tc : Thread Cert.SumOutKernelIdeal.nD Cert.SumOutKernelIdeal.τ).loc Cert.SumOutKernelIdeal.main_arg0)
      ∧ m' ((c.tc : Thread Cert.SumOutReferenceIdeal.nD Cert.SumOutReferenceIdeal.τ).loc Cert.SumOutReferenceIdeal.main_arg1) = m ((c.tc : Thread Cert.SumOutKernelIdeal.nD Cert.SumOutKernelIdeal.τ).loc Cert.SumOutKernelIdeal.main_arg1)
      ∧ m' ((c.tc : Thread Cert.SumOutReferenceIdeal.nD Cert.SumOutReferenceIdeal.τ).loc Cert.SumOutReferenceIdeal.main_arg2) = m ((c.tc : Thread Cert.SumOutKernelIdeal.nD Cert.SumOutKernelIdeal.τ).loc Cert.SumOutKernelIdeal.main_arg2)) →
    ∃ (v0 : (c : Dev Cert.SumOutKernelIdeal.nD) → Buf (Elt Ideal) ((c.tc : Thread Cert.SumOutKernelIdeal.nD Cert.SumOutKernelIdeal.τ).loc Cert.SumOutKernelIdeal.main_v0)),
      θ_run (Cert.SumOutKernelIdeal.defs (F := Ideal)) (onTc (τ := Cert.SumOutKernelIdeal.τ) (Cert.SumOutKernelIdeal.main (F := Ideal))) ⟨m, fun _ => 0, g⟩ (fun r => ∀ c : Dev Cert.SumOutKernelIdeal.nD,
          r.2.mem ((c.tc : Thread Cert.SumOutKernelIdeal.nD Cert.SumOutKernelIdeal.τ).loc Cert.SumOutKernelIdeal.main_v0) = v0 c
          ∧ r.2.mem ((c.tc : Thread Cert.SumOutKernelIdeal.nD Cert.SumOutKernelIdeal.τ).loc Cert.SumOutKernelIdeal.main_arg0) = m ((c.tc : Thread Cert.SumOutKernelIdeal.nD Cert.SumOutKernelIdeal.τ).loc Cert.SumOutKernelIdeal.main_arg0)
          ∧ r.2.mem ((c.tc : Thread Cert.SumOutKernelIdeal.nD Cert.SumOutKernelIdeal.τ).loc Cert.SumOutKernelIdeal.main_arg1) = m ((c.tc : Thread Cert.SumOutKernelIdeal.nD Cert.SumOutKernelIdeal.τ).loc Cert.SumOutKernelIdeal.main_arg1)
          ∧ r.2.mem ((c.tc : Thread Cert.SumOutKernelIdeal.nD Cert.SumOutKernelIdeal.τ).loc Cert.SumOutKernelIdeal.main_arg2) = m ((c.tc : Thread Cert.SumOutKernelIdeal.nD Cert.SumOutKernelIdeal.τ).loc Cert.SumOutKernelIdeal.main_arg2))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v8) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0)
          ∧ r.2.mem ((c.tc : Thread Cert.SumOutReferenceIdeal.nD Cert.SumOutReferenceIdeal.τ).loc Cert.SumOutReferenceIdeal.main_arg1) = m' ((c.tc : Thread Cert.SumOutReferenceIdeal.nD Cert.SumOutReferenceIdeal.τ).loc Cert.SumOutReferenceIdeal.main_arg1)
          ∧ r.2.mem ((c.tc : Thread Cert.SumOutReferenceIdeal.nD Cert.SumOutReferenceIdeal.τ).loc Cert.SumOutReferenceIdeal.main_arg2) = m' ((c.tc : Thread Cert.SumOutReferenceIdeal.nD Cert.SumOutReferenceIdeal.τ).loc Cert.SumOutReferenceIdeal.main_arg2))

def preserves_SumWiKernel_SumWiKernelIdeal : Prop :=
  True

def algebraic_SumWiKernelIdeal_SumWiReferenceIdeal [hSumWiKernelIdeal : Cert.SumWiKernelIdeal.Facts] [hSumWiReferenceIdeal : Cert.SumWiReferenceIdeal.Facts] [hPre_device_number_wi : Cert.Pre_device_number_wi.Facts] : Prop :=
  ∀ (m : (ℓ : Loc Cert.SumWiKernelIdeal.nD Cert.SumWiKernelIdeal.τ Cert.SumWiKernelIdeal.sig) → Buf (Elt Ideal) ℓ) (g : Dev Cert.SumWiKernelIdeal.nD → PrngReg)
    (m' : (ℓ : Loc Cert.SumWiReferenceIdeal.nD Cert.SumWiReferenceIdeal.τ Cert.SumWiReferenceIdeal.sig) → Buf (Elt Ideal) ℓ) (g' : Dev Cert.SumWiReferenceIdeal.nD → PrngReg), Pre_SumWiKernelIdeal m →
    (∀ c : Dev Cert.SumWiKernelIdeal.nD,
      m' ((c.tc : Thread Cert.SumWiReferenceIdeal.nD Cert.SumWiReferenceIdeal.τ).loc Cert.SumWiReferenceIdeal.main_arg0) = m ((c.tc : Thread Cert.SumWiKernelIdeal.nD Cert.SumWiKernelIdeal.τ).loc Cert.SumWiKernelIdeal.main_arg0)
      ∧ m' ((c.tc : Thread Cert.SumWiReferenceIdeal.nD Cert.SumWiReferenceIdeal.τ).loc Cert.SumWiReferenceIdeal.main_arg1) = m ((c.tc : Thread Cert.SumWiKernelIdeal.nD Cert.SumWiKernelIdeal.τ).loc Cert.SumWiKernelIdeal.main_arg1)
      ∧ m' ((c.tc : Thread Cert.SumWiReferenceIdeal.nD Cert.SumWiReferenceIdeal.τ).loc Cert.SumWiReferenceIdeal.main_arg2) = m ((c.tc : Thread Cert.SumWiKernelIdeal.nD Cert.SumWiKernelIdeal.τ).loc Cert.SumWiKernelIdeal.main_arg2)) →
    ∃ (v0 : (c : Dev Cert.SumWiKernelIdeal.nD) → Buf (Elt Ideal) ((c.tc : Thread Cert.SumWiKernelIdeal.nD Cert.SumWiKernelIdeal.τ).loc Cert.SumWiKernelIdeal.main_v0)),
      θ_run (Cert.SumWiKernelIdeal.defs (F := Ideal)) (onTc (τ := Cert.SumWiKernelIdeal.τ) (Cert.SumWiKernelIdeal.main (F := Ideal))) ⟨m, fun _ => 0, g⟩ (fun r => ∀ c : Dev Cert.SumWiKernelIdeal.nD,
          r.2.mem ((c.tc : Thread Cert.SumWiKernelIdeal.nD Cert.SumWiKernelIdeal.τ).loc Cert.SumWiKernelIdeal.main_v0) = v0 c
          ∧ r.2.mem ((c.tc : Thread Cert.SumWiKernelIdeal.nD Cert.SumWiKernelIdeal.τ).loc Cert.SumWiKernelIdeal.main_arg0) = m ((c.tc : Thread Cert.SumWiKernelIdeal.nD Cert.SumWiKernelIdeal.τ).loc Cert.SumWiKernelIdeal.main_arg0)
          ∧ r.2.mem ((c.tc : Thread Cert.SumWiKernelIdeal.nD Cert.SumWiKernelIdeal.τ).loc Cert.SumWiKernelIdeal.main_arg1) = m ((c.tc : Thread Cert.SumWiKernelIdeal.nD Cert.SumWiKernelIdeal.τ).loc Cert.SumWiKernelIdeal.main_arg1)
          ∧ r.2.mem ((c.tc : Thread Cert.SumWiKernelIdeal.nD Cert.SumWiKernelIdeal.τ).loc Cert.SumWiKernelIdeal.main_arg2) = m ((c.tc : Thread Cert.SumWiKernelIdeal.nD Cert.SumWiKernelIdeal.τ).loc Cert.SumWiKernelIdeal.main_arg2))
      ∧ θ_run (Cert.SumWiReferenceIdeal.defs (F := Ideal)) (onTc (τ := Cert.SumWiReferenceIdeal.τ) (Cert.SumWiReferenceIdeal.main (F := Ideal))) ⟨m', fun _ => 0, g'⟩ (fun r => ∀ c : Dev Cert.SumWiReferenceIdeal.nD,
          r.2.mem ((c.tc : Thread Cert.SumWiReferenceIdeal.nD Cert.SumWiReferenceIdeal.τ).loc Cert.SumWiReferenceIdeal.main_v8) = v0 c
          ∧ r.2.mem ((c.tc : Thread Cert.SumWiReferenceIdeal.nD Cert.SumWiReferenceIdeal.τ).loc Cert.SumWiReferenceIdeal.main_arg0) = m' ((c.tc : Thread Cert.SumWiReferenceIdeal.nD Cert.SumWiReferenceIdeal.τ).loc Cert.SumWiReferenceIdeal.main_arg0)
          ∧ r.2.mem ((c.tc : Thread Cert.SumWiReferenceIdeal.nD Cert.SumWiReferenceIdeal.τ).loc Cert.SumWiReferenceIdeal.main_arg1) = m' ((c.tc : Thread Cert.SumWiReferenceIdeal.nD Cert.SumWiReferenceIdeal.τ).loc Cert.SumWiReferenceIdeal.main_arg1)
          ∧ r.2.mem ((c.tc : Thread Cert.SumWiReferenceIdeal.nD Cert.SumWiReferenceIdeal.τ).loc Cert.SumWiReferenceIdeal.main_arg2) = m' ((c.tc : Thread Cert.SumWiReferenceIdeal.nD Cert.SumWiReferenceIdeal.τ).loc Cert.SumWiReferenceIdeal.main_arg2))

def preserves_SumPoolKernel_SumPoolKernelIdeal : Prop :=
  True

def algebraic_SumPoolKernelIdeal_SumPoolReferenceIdeal [hSumPoolKernelIdeal : Cert.SumPoolKernelIdeal.Facts] [hSumPoolReferenceIdeal : Cert.SumPoolReferenceIdeal.Facts] [hPre_device_number_pool : Cert.Pre_device_number_pool.Facts] : Prop :=
  ∀ (m : (ℓ : Loc Cert.SumPoolKernelIdeal.nD Cert.SumPoolKernelIdeal.τ Cert.SumPoolKernelIdeal.sig) → Buf (Elt Ideal) ℓ) (g : Dev Cert.SumPoolKernelIdeal.nD → PrngReg)
    (m' : (ℓ : Loc Cert.SumPoolReferenceIdeal.nD Cert.SumPoolReferenceIdeal.τ Cert.SumPoolReferenceIdeal.sig) → Buf (Elt Ideal) ℓ) (g' : Dev Cert.SumPoolReferenceIdeal.nD → PrngReg), Pre_SumPoolKernelIdeal m →
    (∀ c : Dev Cert.SumPoolKernelIdeal.nD,
      m' ((c.tc : Thread Cert.SumPoolReferenceIdeal.nD Cert.SumPoolReferenceIdeal.τ).loc Cert.SumPoolReferenceIdeal.main_arg0) = m ((c.tc : Thread Cert.SumPoolKernelIdeal.nD Cert.SumPoolKernelIdeal.τ).loc Cert.SumPoolKernelIdeal.main_arg0)
      ∧ m' ((c.tc : Thread Cert.SumPoolReferenceIdeal.nD Cert.SumPoolReferenceIdeal.τ).loc Cert.SumPoolReferenceIdeal.main_arg1) = m ((c.tc : Thread Cert.SumPoolKernelIdeal.nD Cert.SumPoolKernelIdeal.τ).loc Cert.SumPoolKernelIdeal.main_arg1)
      ∧ m' ((c.tc : Thread Cert.SumPoolReferenceIdeal.nD Cert.SumPoolReferenceIdeal.τ).loc Cert.SumPoolReferenceIdeal.main_arg2) = m ((c.tc : Thread Cert.SumPoolKernelIdeal.nD Cert.SumPoolKernelIdeal.τ).loc Cert.SumPoolKernelIdeal.main_arg2)) →
    ∃ (v0 : (c : Dev Cert.SumPoolKernelIdeal.nD) → Buf (Elt Ideal) ((c.tc : Thread Cert.SumPoolKernelIdeal.nD Cert.SumPoolKernelIdeal.τ).loc Cert.SumPoolKernelIdeal.main_v0)),
      θ_run (Cert.SumPoolKernelIdeal.defs (F := Ideal)) (onTc (τ := Cert.SumPoolKernelIdeal.τ) (Cert.SumPoolKernelIdeal.main (F := Ideal))) ⟨m, fun _ => 0, g⟩ (fun r => ∀ c : Dev Cert.SumPoolKernelIdeal.nD,
          r.2.mem ((c.tc : Thread Cert.SumPoolKernelIdeal.nD Cert.SumPoolKernelIdeal.τ).loc Cert.SumPoolKernelIdeal.main_v0) = v0 c
          ∧ r.2.mem ((c.tc : Thread Cert.SumPoolKernelIdeal.nD Cert.SumPoolKernelIdeal.τ).loc Cert.SumPoolKernelIdeal.main_arg0) = m ((c.tc : Thread Cert.SumPoolKernelIdeal.nD Cert.SumPoolKernelIdeal.τ).loc Cert.SumPoolKernelIdeal.main_arg0)
          ∧ r.2.mem ((c.tc : Thread Cert.SumPoolKernelIdeal.nD Cert.SumPoolKernelIdeal.τ).loc Cert.SumPoolKernelIdeal.main_arg1) = m ((c.tc : Thread Cert.SumPoolKernelIdeal.nD Cert.SumPoolKernelIdeal.τ).loc Cert.SumPoolKernelIdeal.main_arg1)
          ∧ r.2.mem ((c.tc : Thread Cert.SumPoolKernelIdeal.nD Cert.SumPoolKernelIdeal.τ).loc Cert.SumPoolKernelIdeal.main_arg2) = m ((c.tc : Thread Cert.SumPoolKernelIdeal.nD Cert.SumPoolKernelIdeal.τ).loc Cert.SumPoolKernelIdeal.main_arg2))
      ∧ θ_run (Cert.SumPoolReferenceIdeal.defs (F := Ideal)) (onTc (τ := Cert.SumPoolReferenceIdeal.τ) (Cert.SumPoolReferenceIdeal.main (F := Ideal))) ⟨m', fun _ => 0, g'⟩ (fun r => ∀ c : Dev Cert.SumPoolReferenceIdeal.nD,
          r.2.mem ((c.tc : Thread Cert.SumPoolReferenceIdeal.nD Cert.SumPoolReferenceIdeal.τ).loc Cert.SumPoolReferenceIdeal.main_v8) = v0 c
          ∧ r.2.mem ((c.tc : Thread Cert.SumPoolReferenceIdeal.nD Cert.SumPoolReferenceIdeal.τ).loc Cert.SumPoolReferenceIdeal.main_arg0) = m' ((c.tc : Thread Cert.SumPoolReferenceIdeal.nD Cert.SumPoolReferenceIdeal.τ).loc Cert.SumPoolReferenceIdeal.main_arg0)
          ∧ r.2.mem ((c.tc : Thread Cert.SumPoolReferenceIdeal.nD Cert.SumPoolReferenceIdeal.τ).loc Cert.SumPoolReferenceIdeal.main_arg1) = m' ((c.tc : Thread Cert.SumPoolReferenceIdeal.nD Cert.SumPoolReferenceIdeal.τ).loc Cert.SumPoolReferenceIdeal.main_arg1)
          ∧ r.2.mem ((c.tc : Thread Cert.SumPoolReferenceIdeal.nD Cert.SumPoolReferenceIdeal.τ).loc Cert.SumPoolReferenceIdeal.main_arg2) = m' ((c.tc : Thread Cert.SumPoolReferenceIdeal.nD Cert.SumPoolReferenceIdeal.τ).loc Cert.SumPoolReferenceIdeal.main_arg2))

def preserves_SumInKernel_SumInKernelIdeal : Prop :=
  True

def algebraic_SumInKernelIdeal_SumInReferenceIdeal [hSumInKernelIdeal : Cert.SumInKernelIdeal.Facts] [hSumInReferenceIdeal : Cert.SumInReferenceIdeal.Facts] [hPre_device_number_in : Cert.Pre_device_number_in.Facts] : Prop :=
  ∀ (m : (ℓ : Loc Cert.SumInKernelIdeal.nD Cert.SumInKernelIdeal.τ Cert.SumInKernelIdeal.sig) → Buf (Elt Ideal) ℓ) (g : Dev Cert.SumInKernelIdeal.nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg), Pre_SumInKernelIdeal m →
    (∀ c : Dev Cert.SumInKernelIdeal.nD,
      m' ((c.tc : Thread Cert.SumInReferenceIdeal.nD Cert.SumInReferenceIdeal.τ).loc Cert.SumInReferenceIdeal.main_arg0) = m ((c.tc : Thread Cert.SumInKernelIdeal.nD Cert.SumInKernelIdeal.τ).loc Cert.SumInKernelIdeal.main_arg0)
      ∧ m' ((c.tc : Thread Cert.SumInReferenceIdeal.nD Cert.SumInReferenceIdeal.τ).loc Cert.SumInReferenceIdeal.main_arg1) = m ((c.tc : Thread Cert.SumInKernelIdeal.nD Cert.SumInKernelIdeal.τ).loc Cert.SumInKernelIdeal.main_arg1)
      ∧ m' ((c.tc : Thread Cert.SumInReferenceIdeal.nD Cert.SumInReferenceIdeal.τ).loc Cert.SumInReferenceIdeal.main_arg2) = m ((c.tc : Thread Cert.SumInKernelIdeal.nD Cert.SumInKernelIdeal.τ).loc Cert.SumInKernelIdeal.main_arg2)) →
    ∃ (v0 : (c : Dev Cert.SumInKernelIdeal.nD) → Buf (Elt Ideal) ((c.tc : Thread Cert.SumInKernelIdeal.nD Cert.SumInKernelIdeal.τ).loc Cert.SumInKernelIdeal.main_v0)),
      θ_run (Cert.SumInKernelIdeal.defs (F := Ideal)) (onTc (τ := Cert.SumInKernelIdeal.τ) (Cert.SumInKernelIdeal.main (F := Ideal))) ⟨m, fun _ => 0, g⟩ (fun r => ∀ c : Dev Cert.SumInKernelIdeal.nD,
          r.2.mem ((c.tc : Thread Cert.SumInKernelIdeal.nD Cert.SumInKernelIdeal.τ).loc Cert.SumInKernelIdeal.main_v0) = v0 c
          ∧ r.2.mem ((c.tc : Thread Cert.SumInKernelIdeal.nD Cert.SumInKernelIdeal.τ).loc Cert.SumInKernelIdeal.main_arg0) = m ((c.tc : Thread Cert.SumInKernelIdeal.nD Cert.SumInKernelIdeal.τ).loc Cert.SumInKernelIdeal.main_arg0)
          ∧ r.2.mem ((c.tc : Thread Cert.SumInKernelIdeal.nD Cert.SumInKernelIdeal.τ).loc Cert.SumInKernelIdeal.main_arg1) = m ((c.tc : Thread Cert.SumInKernelIdeal.nD Cert.SumInKernelIdeal.τ).loc Cert.SumInKernelIdeal.main_arg1)
          ∧ r.2.mem ((c.tc : Thread Cert.SumInKernelIdeal.nD Cert.SumInKernelIdeal.τ).loc Cert.SumInKernelIdeal.main_arg2) = m ((c.tc : Thread Cert.SumInKernelIdeal.nD Cert.SumInKernelIdeal.τ).loc Cert.SumInKernelIdeal.main_arg2))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v8) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0)
          ∧ r.2.mem ((c.tc : Thread Cert.SumInReferenceIdeal.nD Cert.SumInReferenceIdeal.τ).loc Cert.SumInReferenceIdeal.main_arg1) = m' ((c.tc : Thread Cert.SumInReferenceIdeal.nD Cert.SumInReferenceIdeal.τ).loc Cert.SumInReferenceIdeal.main_arg1)
          ∧ r.2.mem ((c.tc : Thread Cert.SumInReferenceIdeal.nD Cert.SumInReferenceIdeal.τ).loc Cert.SumInReferenceIdeal.main_arg2) = m' ((c.tc : Thread Cert.SumInReferenceIdeal.nD Cert.SumInReferenceIdeal.τ).loc Cert.SumInReferenceIdeal.main_arg2))

def preserves_AdalnFwdKernel_AdalnFwdKernelIdeal : Prop :=
  True

def algebraic_AdalnFwdKernelIdeal_AdalnFwdReferenceIdeal [hAdalnFwdKernelIdeal : Cert.AdalnFwdKernelIdeal.Facts] [hAdalnFwdReferenceIdeal : Cert.AdalnFwdReferenceIdeal.Facts] : Prop :=
  ∀ (m : (ℓ : Loc Cert.AdalnFwdKernelIdeal.nD Cert.AdalnFwdKernelIdeal.τ Cert.AdalnFwdKernelIdeal.sig) → Buf (Elt Ideal) ℓ) (g : Dev Cert.AdalnFwdKernelIdeal.nD → PrngReg)
    (m' : (ℓ : Loc Cert.AdalnFwdReferenceIdeal.nD Cert.AdalnFwdReferenceIdeal.τ Cert.AdalnFwdReferenceIdeal.sig) → Buf (Elt Ideal) ℓ) (g' : Dev Cert.AdalnFwdReferenceIdeal.nD → PrngReg), Pre_AdalnFwdKernelIdeal m →
    (∀ c : Dev Cert.AdalnFwdKernelIdeal.nD,
      m' ((c.tc : Thread Cert.AdalnFwdReferenceIdeal.nD Cert.AdalnFwdReferenceIdeal.τ).loc Cert.AdalnFwdReferenceIdeal.main_arg0) = m ((c.tc : Thread Cert.AdalnFwdKernelIdeal.nD Cert.AdalnFwdKernelIdeal.τ).loc Cert.AdalnFwdKernelIdeal.main_arg0)
      ∧ m' ((c.tc : Thread Cert.AdalnFwdReferenceIdeal.nD Cert.AdalnFwdReferenceIdeal.τ).loc Cert.AdalnFwdReferenceIdeal.main_arg1) = m ((c.tc : Thread Cert.AdalnFwdKernelIdeal.nD Cert.AdalnFwdKernelIdeal.τ).loc Cert.AdalnFwdKernelIdeal.main_arg1)
      ∧ m' ((c.tc : Thread Cert.AdalnFwdReferenceIdeal.nD Cert.AdalnFwdReferenceIdeal.τ).loc Cert.AdalnFwdReferenceIdeal.main_arg2) = m ((c.tc : Thread Cert.AdalnFwdKernelIdeal.nD Cert.AdalnFwdKernelIdeal.τ).loc Cert.AdalnFwdKernelIdeal.main_arg2)) →
    ∃ (v0 : (c : Dev Cert.AdalnFwdKernelIdeal.nD) → Buf (Elt Ideal) ((c.tc : Thread Cert.AdalnFwdKernelIdeal.nD Cert.AdalnFwdKernelIdeal.τ).loc Cert.AdalnFwdKernelIdeal.main_v1)),
      θ_run (Cert.AdalnFwdKernelIdeal.defs (F := Ideal)) (onTc (τ := Cert.AdalnFwdKernelIdeal.τ) (Cert.AdalnFwdKernelIdeal.main (F := Ideal))) ⟨m, fun _ => 0, g⟩ (fun r => ∀ c : Dev Cert.AdalnFwdKernelIdeal.nD,
          r.2.mem ((c.tc : Thread Cert.AdalnFwdKernelIdeal.nD Cert.AdalnFwdKernelIdeal.τ).loc Cert.AdalnFwdKernelIdeal.main_v1) = v0 c
          ∧ r.2.mem ((c.tc : Thread Cert.AdalnFwdKernelIdeal.nD Cert.AdalnFwdKernelIdeal.τ).loc Cert.AdalnFwdKernelIdeal.main_arg0) = m ((c.tc : Thread Cert.AdalnFwdKernelIdeal.nD Cert.AdalnFwdKernelIdeal.τ).loc Cert.AdalnFwdKernelIdeal.main_arg0)
          ∧ r.2.mem ((c.tc : Thread Cert.AdalnFwdKernelIdeal.nD Cert.AdalnFwdKernelIdeal.τ).loc Cert.AdalnFwdKernelIdeal.main_arg1) = m ((c.tc : Thread Cert.AdalnFwdKernelIdeal.nD Cert.AdalnFwdKernelIdeal.τ).loc Cert.AdalnFwdKernelIdeal.main_arg1)
          ∧ r.2.mem ((c.tc : Thread Cert.AdalnFwdKernelIdeal.nD Cert.AdalnFwdKernelIdeal.τ).loc Cert.AdalnFwdKernelIdeal.main_arg2) = m ((c.tc : Thread Cert.AdalnFwdKernelIdeal.nD Cert.AdalnFwdKernelIdeal.τ).loc Cert.AdalnFwdKernelIdeal.main_arg2))
      ∧ θ_run (Cert.AdalnFwdReferenceIdeal.defs (F := Ideal)) (onTc (τ := Cert.AdalnFwdReferenceIdeal.τ) (Cert.AdalnFwdReferenceIdeal.main (F := Ideal))) ⟨m', fun _ => 0, g'⟩ (fun r => ∀ c : Dev Cert.AdalnFwdReferenceIdeal.nD,
          r.2.mem ((c.tc : Thread Cert.AdalnFwdReferenceIdeal.nD Cert.AdalnFwdReferenceIdeal.τ).loc Cert.AdalnFwdReferenceIdeal.main_v20) = v0 c
          ∧ r.2.mem ((c.tc : Thread Cert.AdalnFwdReferenceIdeal.nD Cert.AdalnFwdReferenceIdeal.τ).loc Cert.AdalnFwdReferenceIdeal.main_arg0) = m' ((c.tc : Thread Cert.AdalnFwdReferenceIdeal.nD Cert.AdalnFwdReferenceIdeal.τ).loc Cert.AdalnFwdReferenceIdeal.main_arg0)
          ∧ r.2.mem ((c.tc : Thread Cert.AdalnFwdReferenceIdeal.nD Cert.AdalnFwdReferenceIdeal.τ).loc Cert.AdalnFwdReferenceIdeal.main_arg1) = m' ((c.tc : Thread Cert.AdalnFwdReferenceIdeal.nD Cert.AdalnFwdReferenceIdeal.τ).loc Cert.AdalnFwdReferenceIdeal.main_arg1)
          ∧ r.2.mem ((c.tc : Thread Cert.AdalnFwdReferenceIdeal.nD Cert.AdalnFwdReferenceIdeal.τ).loc Cert.AdalnFwdReferenceIdeal.main_arg2) = m' ((c.tc : Thread Cert.AdalnFwdReferenceIdeal.nD Cert.AdalnFwdReferenceIdeal.τ).loc Cert.AdalnFwdReferenceIdeal.main_arg2))

def Claim : Prop :=
  ∃ (hDhKernel : Cert.DhKernel.Facts) (hDhKernelIdeal : Cert.DhKernelIdeal.Facts) (hDhReferenceIdeal : Cert.DhReferenceIdeal.Facts) (hDwoKernel : Cert.DwoKernel.Facts) (hDwoKernelIdeal : Cert.DwoKernelIdeal.Facts) (hDwoReferenceIdeal : Cert.DwoReferenceIdeal.Facts) (hDwiKernel : Cert.DwiKernel.Facts) (hDwiKernelIdeal : Cert.DwiKernelIdeal.Facts) (hDwiReferenceIdeal : Cert.DwiReferenceIdeal.Facts) (hDhCtxKernel : Cert.DhCtxKernel.Facts) (hDhCtxKernelIdeal : Cert.DhCtxKernelIdeal.Facts) (hDhCtxReferenceIdeal : Cert.DhCtxReferenceIdeal.Facts) (hDwoCtxKernel : Cert.DwoCtxKernel.Facts) (hDwoCtxKernelIdeal : Cert.DwoCtxKernelIdeal.Facts) (hDwoCtxReferenceIdeal : Cert.DwoCtxReferenceIdeal.Facts) (hDwiCtxKernel : Cert.DwiCtxKernel.Facts) (hDwiCtxKernelIdeal : Cert.DwiCtxKernelIdeal.Facts) (hDwiCtxReferenceIdeal : Cert.DwiCtxReferenceIdeal.Facts) (hAdamWiKernel : Cert.AdamWiKernel.Facts) (hAdamWiKernelIdeal : Cert.AdamWiKernelIdeal.Facts) (hAdamWiReferenceIdeal : Cert.AdamWiReferenceIdeal.Facts) (hAdamWoKernel : Cert.AdamWoKernel.Facts) (hAdamWoKernelIdeal : Cert.AdamWoKernelIdeal.Facts) (hAdamWoReferenceIdeal : Cert.AdamWoReferenceIdeal.Facts) (hAdamInKernel : Cert.AdamInKernel.Facts) (hAdamInKernelIdeal : Cert.AdamInKernelIdeal.Facts) (hAdamInReferenceIdeal : Cert.AdamInReferenceIdeal.Facts) (hAdamOutKernel : Cert.AdamOutKernel.Facts) (hAdamOutKernelIdeal : Cert.AdamOutKernelIdeal.Facts) (hAdamOutReferenceIdeal : Cert.AdamOutReferenceIdeal.Facts) (hAdamPoolKernel : Cert.AdamPoolKernel.Facts) (hAdamPoolKernelIdeal : Cert.AdamPoolKernelIdeal.Facts) (hAdamPoolReferenceIdeal : Cert.AdamPoolReferenceIdeal.Facts) (hAdamModKernel : Cert.AdamModKernel.Facts) (hAdamModKernelIdeal : Cert.AdamModKernelIdeal.Facts) (hAdamModReferenceIdeal : Cert.AdamModReferenceIdeal.Facts) (hAdamSmallKernel : Cert.AdamSmallKernel.Facts) (hAdamSmallKernelIdeal : Cert.AdamSmallKernelIdeal.Facts) (hAdamSmallReferenceIdeal : Cert.AdamSmallReferenceIdeal.Facts) (hSumSmallKernel : Cert.SumSmallKernel.Facts) (hSumSmallKernelIdeal : Cert.SumSmallKernelIdeal.Facts) (hSumSmallReferenceIdeal : Cert.SumSmallReferenceIdeal.Facts) (hSumCtxKernel : Cert.SumCtxKernel.Facts) (hSumCtxKernelIdeal : Cert.SumCtxKernelIdeal.Facts) (hSumCtxReferenceIdeal : Cert.SumCtxReferenceIdeal.Facts) (hAdalnKernel : Cert.AdalnKernel.Facts) (hAdalnKernelIdeal : Cert.AdalnKernelIdeal.Facts) (hAdalnReferenceIdeal : Cert.AdalnReferenceIdeal.Facts) (hSumWoKernel : Cert.SumWoKernel.Facts) (hSumWoKernelIdeal : Cert.SumWoKernelIdeal.Facts) (hSumWoReferenceIdeal : Cert.SumWoReferenceIdeal.Facts) (hSumOutKernel : Cert.SumOutKernel.Facts) (hSumOutKernelIdeal : Cert.SumOutKernelIdeal.Facts) (hSumOutReferenceIdeal : Cert.SumOutReferenceIdeal.Facts) (hSumWiKernel : Cert.SumWiKernel.Facts) (hSumWiKernelIdeal : Cert.SumWiKernelIdeal.Facts) (hSumWiReferenceIdeal : Cert.SumWiReferenceIdeal.Facts) (hSumPoolKernel : Cert.SumPoolKernel.Facts) (hSumPoolKernelIdeal : Cert.SumPoolKernelIdeal.Facts) (hSumPoolReferenceIdeal : Cert.SumPoolReferenceIdeal.Facts) (hSumInKernel : Cert.SumInKernel.Facts) (hSumInKernelIdeal : Cert.SumInKernelIdeal.Facts) (hSumInReferenceIdeal : Cert.SumInReferenceIdeal.Facts) (hAdalnFwdKernel : Cert.AdalnFwdKernel.Facts) (hAdalnFwdKernelIdeal : Cert.AdalnFwdKernelIdeal.Facts) (hAdalnFwdReferenceIdeal : Cert.AdalnFwdReferenceIdeal.Facts) (hPre_finite_ffn : Cert.Pre_finite_ffn.Facts) (hPre_finite_ffn_ctx : Cert.Pre_finite_ffn_ctx.Facts) (hPre_finite_adaln : Cert.Pre_finite_adaln.Facts) (hPre_device_number_wo : Cert.Pre_device_number_wo.Facts) (hPre_device_number_out : Cert.Pre_device_number_out.Facts) (hPre_device_number_wi : Cert.Pre_device_number_wi.Facts) (hPre_device_number_pool : Cert.Pre_device_number_pool.Facts) (hPre_device_number_in : Cert.Pre_device_number_in.Facts),
    quiescent_DhKernel (hDhKernel := hDhKernel)
    ∧ quiescent_DhKernelIdeal (hDhKernelIdeal := hDhKernelIdeal)
    ∧ quiescent_DhKernelIdeal_pre_finite_ffn (hDhKernelIdeal := hDhKernelIdeal) (hPre_finite_ffn := hPre_finite_ffn)
    ∧ quiescent_DhReferenceIdeal (hDhReferenceIdeal := hDhReferenceIdeal)
    ∧ quiescent_DhReferenceIdeal_pre_finite_ffn (hDhReferenceIdeal := hDhReferenceIdeal) (hPre_finite_ffn := hPre_finite_ffn)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_DwiKernel (hDwiKernel := hDwiKernel)
    ∧ quiescent_DwiKernelIdeal (hDwiKernelIdeal := hDwiKernelIdeal)
    ∧ quiescent_DwiReferenceIdeal (hDwiReferenceIdeal := hDwiReferenceIdeal)
    ∧ quiescent_DhCtxKernel (hDhCtxKernel := hDhCtxKernel)
    ∧ quiescent_DhCtxKernelIdeal (hDhCtxKernelIdeal := hDhCtxKernelIdeal)
    ∧ quiescent_DhCtxKernelIdeal_pre_finite_ffn_ctx (hDhCtxKernelIdeal := hDhCtxKernelIdeal) (hPre_finite_ffn_ctx := hPre_finite_ffn_ctx)
    ∧ quiescent_DhCtxReferenceIdeal (hDhCtxReferenceIdeal := hDhCtxReferenceIdeal)
    ∧ quiescent_DhCtxReferenceIdeal_pre_finite_ffn_ctx (hDhCtxReferenceIdeal := hDhCtxReferenceIdeal) (hPre_finite_ffn_ctx := hPre_finite_ffn_ctx)
    ∧ quiescent_DwoCtxKernel (hDwoCtxKernel := hDwoCtxKernel)
    ∧ quiescent_DwoCtxKernelIdeal (hDwoCtxKernelIdeal := hDwoCtxKernelIdeal)
    ∧ quiescent_DwoCtxReferenceIdeal (hDwoCtxReferenceIdeal := hDwoCtxReferenceIdeal)
    ∧ quiescent_DwiCtxKernel (hDwiCtxKernel := hDwiCtxKernel)
    ∧ quiescent_DwiCtxKernelIdeal (hDwiCtxKernelIdeal := hDwiCtxKernelIdeal)
    ∧ quiescent_DwiCtxReferenceIdeal (hDwiCtxReferenceIdeal := hDwiCtxReferenceIdeal)
    ∧ quiescent_AdamWiKernel (hAdamWiKernel := hAdamWiKernel)
    ∧ quiescent_AdamWiKernelIdeal (hAdamWiKernelIdeal := hAdamWiKernelIdeal)
    ∧ quiescent_AdamWiReferenceIdeal (hAdamWiReferenceIdeal := hAdamWiReferenceIdeal)
    ∧ quiescent_AdamWoKernel (hAdamWoKernel := hAdamWoKernel)
    ∧ quiescent_AdamWoKernelIdeal (hAdamWoKernelIdeal := hAdamWoKernelIdeal)
    ∧ quiescent_AdamWoReferenceIdeal (hAdamWoReferenceIdeal := hAdamWoReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamPoolKernel (hAdamPoolKernel := hAdamPoolKernel)
    ∧ quiescent_AdamPoolKernelIdeal (hAdamPoolKernelIdeal := hAdamPoolKernelIdeal)
    ∧ quiescent_AdamPoolReferenceIdeal (hAdamPoolReferenceIdeal := hAdamPoolReferenceIdeal)
    ∧ quiescent_AdamModKernel (hAdamModKernel := hAdamModKernel)
    ∧ quiescent_AdamModKernelIdeal (hAdamModKernelIdeal := hAdamModKernelIdeal)
    ∧ quiescent_AdamModReferenceIdeal (hAdamModReferenceIdeal := hAdamModReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_SumSmallKernel (hSumSmallKernel := hSumSmallKernel)
    ∧ quiescent_SumSmallKernelIdeal (hSumSmallKernelIdeal := hSumSmallKernelIdeal)
    ∧ quiescent_SumSmallReferenceIdeal (hSumSmallReferenceIdeal := hSumSmallReferenceIdeal)
    ∧ quiescent_SumCtxKernel (hSumCtxKernel := hSumCtxKernel)
    ∧ quiescent_SumCtxKernelIdeal (hSumCtxKernelIdeal := hSumCtxKernelIdeal)
    ∧ quiescent_SumCtxReferenceIdeal (hSumCtxReferenceIdeal := hSumCtxReferenceIdeal)
    ∧ quiescent_AdalnKernel (hAdalnKernel := hAdalnKernel)
    ∧ quiescent_AdalnKernelIdeal (hAdalnKernelIdeal := hAdalnKernelIdeal)
    ∧ quiescent_AdalnKernelIdeal_pre_finite_adaln (hAdalnKernelIdeal := hAdalnKernelIdeal) (hPre_finite_adaln := hPre_finite_adaln)
    ∧ quiescent_AdalnReferenceIdeal (hAdalnReferenceIdeal := hAdalnReferenceIdeal)
    ∧ quiescent_AdalnReferenceIdeal_pre_finite_adaln (hAdalnReferenceIdeal := hAdalnReferenceIdeal) (hPre_finite_adaln := hPre_finite_adaln)
    ∧ quiescent_SumWoKernel (hSumWoKernel := hSumWoKernel) (hPre_device_number_wo := hPre_device_number_wo)
    ∧ quiescent_SumWoKernelIdeal (hSumWoKernelIdeal := hSumWoKernelIdeal) (hPre_device_number_wo := hPre_device_number_wo)
    ∧ quiescent_SumWoReferenceIdeal (hSumWoReferenceIdeal := hSumWoReferenceIdeal)
    ∧ quiescent_SumWoReferenceIdeal_pre_device_number_wo (hSumWoReferenceIdeal := hSumWoReferenceIdeal) (hPre_device_number_wo := hPre_device_number_wo)
    ∧ quiescent_SumOutKernel (hSumOutKernel := hSumOutKernel) (hPre_device_number_out := hPre_device_number_out)
    ∧ quiescent_SumOutKernelIdeal (hSumOutKernelIdeal := hSumOutKernelIdeal) (hPre_device_number_out := hPre_device_number_out)
    ∧ quiescent_SumOutReferenceIdeal (hSumOutReferenceIdeal := hSumOutReferenceIdeal)
    ∧ quiescent_SumOutReferenceIdeal_pre_device_number_out (hSumOutReferenceIdeal := hSumOutReferenceIdeal) (hPre_device_number_out := hPre_device_number_out)
    ∧ quiescent_SumWiKernel (hSumWiKernel := hSumWiKernel) (hPre_device_number_wi := hPre_device_number_wi)
    ∧ quiescent_SumWiKernelIdeal (hSumWiKernelIdeal := hSumWiKernelIdeal) (hPre_device_number_wi := hPre_device_number_wi)
    ∧ quiescent_SumWiReferenceIdeal (hSumWiReferenceIdeal := hSumWiReferenceIdeal)
    ∧ quiescent_SumWiReferenceIdeal_pre_device_number_wi (hSumWiReferenceIdeal := hSumWiReferenceIdeal) (hPre_device_number_wi := hPre_device_number_wi)
    ∧ quiescent_SumPoolKernel (hSumPoolKernel := hSumPoolKernel) (hPre_device_number_pool := hPre_device_number_pool)
    ∧ quiescent_SumPoolKernelIdeal (hSumPoolKernelIdeal := hSumPoolKernelIdeal) (hPre_device_number_pool := hPre_device_number_pool)
    ∧ quiescent_SumPoolReferenceIdeal (hSumPoolReferenceIdeal := hSumPoolReferenceIdeal)
    ∧ quiescent_SumPoolReferenceIdeal_pre_device_number_pool (hSumPoolReferenceIdeal := hSumPoolReferenceIdeal) (hPre_device_number_pool := hPre_device_number_pool)
    ∧ quiescent_SumInKernel (hSumInKernel := hSumInKernel) (hPre_device_number_in := hPre_device_number_in)
    ∧ quiescent_SumInKernelIdeal (hSumInKernelIdeal := hSumInKernelIdeal) (hPre_device_number_in := hPre_device_number_in)
    ∧ quiescent_SumInReferenceIdeal (hSumInReferenceIdeal := hSumInReferenceIdeal)
    ∧ quiescent_SumInReferenceIdeal_pre_device_number_in (hSumInReferenceIdeal := hSumInReferenceIdeal) (hPre_device_number_in := hPre_device_number_in)
    ∧ quiescent_AdalnFwdKernel (hAdalnFwdKernel := hAdalnFwdKernel)
    ∧ quiescent_AdalnFwdKernelIdeal (hAdalnFwdKernelIdeal := hAdalnFwdKernelIdeal)
    ∧ quiescent_AdalnFwdReferenceIdeal (hAdalnFwdReferenceIdeal := hAdalnFwdReferenceIdeal)
    ∧ preserves_DhKernel_DhKernelIdeal
    ∧ algebraic_DhKernelIdeal_DhReferenceIdeal_pre_finite_ffn (hDhKernelIdeal := hDhKernelIdeal) (hDhReferenceIdeal := hDhReferenceIdeal) (hPre_finite_ffn := hPre_finite_ffn)
    ∧ preserves_DwoKernel_DwoKernelIdeal
    ∧ algebraic_DwoKernelIdeal_DwoReferenceIdeal (hDwoKernelIdeal := hDwoKernelIdeal) (hDwoReferenceIdeal := hDwoReferenceIdeal)
    ∧ preserves_DwiKernel_DwiKernelIdeal
    ∧ algebraic_DwiKernelIdeal_DwiReferenceIdeal (hDwiKernelIdeal := hDwiKernelIdeal) (hDwiReferenceIdeal := hDwiReferenceIdeal)
    ∧ preserves_DhCtxKernel_DhCtxKernelIdeal
    ∧ algebraic_DhCtxKernelIdeal_DhCtxReferenceIdeal_pre_finite_ffn_ctx (hDhCtxKernelIdeal := hDhCtxKernelIdeal) (hDhCtxReferenceIdeal := hDhCtxReferenceIdeal) (hPre_finite_ffn_ctx := hPre_finite_ffn_ctx)
    ∧ preserves_DwoCtxKernel_DwoCtxKernelIdeal
    ∧ algebraic_DwoCtxKernelIdeal_DwoCtxReferenceIdeal (hDwoCtxKernelIdeal := hDwoCtxKernelIdeal) (hDwoCtxReferenceIdeal := hDwoCtxReferenceIdeal)
    ∧ preserves_DwiCtxKernel_DwiCtxKernelIdeal
    ∧ algebraic_DwiCtxKernelIdeal_DwiCtxReferenceIdeal (hDwiCtxKernelIdeal := hDwiCtxKernelIdeal) (hDwiCtxReferenceIdeal := hDwiCtxReferenceIdeal)
    ∧ preserves_AdamWiKernel_AdamWiKernelIdeal
    ∧ algebraic_AdamWiKernelIdeal_AdamWiReferenceIdeal (hAdamWiKernelIdeal := hAdamWiKernelIdeal) (hAdamWiReferenceIdeal := hAdamWiReferenceIdeal)
    ∧ preserves_AdamWoKernel_AdamWoKernelIdeal
    ∧ algebraic_AdamWoKernelIdeal_AdamWoReferenceIdeal (hAdamWoKernelIdeal := hAdamWoKernelIdeal) (hAdamWoReferenceIdeal := hAdamWoReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamPoolKernel_AdamPoolKernelIdeal
    ∧ algebraic_AdamPoolKernelIdeal_AdamPoolReferenceIdeal (hAdamPoolKernelIdeal := hAdamPoolKernelIdeal) (hAdamPoolReferenceIdeal := hAdamPoolReferenceIdeal)
    ∧ preserves_AdamModKernel_AdamModKernelIdeal
    ∧ algebraic_AdamModKernelIdeal_AdamModReferenceIdeal (hAdamModKernelIdeal := hAdamModKernelIdeal) (hAdamModReferenceIdeal := hAdamModReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_SumSmallKernel_SumSmallKernelIdeal
    ∧ algebraic_SumSmallKernelIdeal_SumSmallReferenceIdeal (hSumSmallKernelIdeal := hSumSmallKernelIdeal) (hSumSmallReferenceIdeal := hSumSmallReferenceIdeal)
    ∧ preserves_SumCtxKernel_SumCtxKernelIdeal
    ∧ algebraic_SumCtxKernelIdeal_SumCtxReferenceIdeal (hSumCtxKernelIdeal := hSumCtxKernelIdeal) (hSumCtxReferenceIdeal := hSumCtxReferenceIdeal)
    ∧ preserves_AdalnKernel_AdalnKernelIdeal
    ∧ algebraic_AdalnKernelIdeal_AdalnReferenceIdeal_pre_finite_adaln (hAdalnKernelIdeal := hAdalnKernelIdeal) (hAdalnReferenceIdeal := hAdalnReferenceIdeal) (hPre_finite_adaln := hPre_finite_adaln)
    ∧ preserves_SumWoKernel_SumWoKernelIdeal
    ∧ algebraic_SumWoKernelIdeal_SumWoReferenceIdeal (hSumWoKernelIdeal := hSumWoKernelIdeal) (hSumWoReferenceIdeal := hSumWoReferenceIdeal) (hPre_device_number_wo := hPre_device_number_wo)
    ∧ preserves_SumOutKernel_SumOutKernelIdeal
    ∧ algebraic_SumOutKernelIdeal_SumOutReferenceIdeal (hSumOutKernelIdeal := hSumOutKernelIdeal) (hSumOutReferenceIdeal := hSumOutReferenceIdeal) (hPre_device_number_out := hPre_device_number_out)
    ∧ preserves_SumWiKernel_SumWiKernelIdeal
    ∧ algebraic_SumWiKernelIdeal_SumWiReferenceIdeal (hSumWiKernelIdeal := hSumWiKernelIdeal) (hSumWiReferenceIdeal := hSumWiReferenceIdeal) (hPre_device_number_wi := hPre_device_number_wi)
    ∧ preserves_SumPoolKernel_SumPoolKernelIdeal
    ∧ algebraic_SumPoolKernelIdeal_SumPoolReferenceIdeal (hSumPoolKernelIdeal := hSumPoolKernelIdeal) (hSumPoolReferenceIdeal := hSumPoolReferenceIdeal) (hPre_device_number_pool := hPre_device_number_pool)
    ∧ preserves_SumInKernel_SumInKernelIdeal
    ∧ algebraic_SumInKernelIdeal_SumInReferenceIdeal (hSumInKernelIdeal := hSumInKernelIdeal) (hSumInReferenceIdeal := hSumInReferenceIdeal) (hPre_device_number_in := hPre_device_number_in)
    ∧ preserves_AdalnFwdKernel_AdalnFwdKernelIdeal
    ∧ algebraic_AdalnFwdKernelIdeal_AdalnFwdReferenceIdeal (hAdalnFwdKernelIdeal := hAdalnFwdKernelIdeal) (hAdalnFwdReferenceIdeal := hAdalnFwdReferenceIdeal)
-- ==== Pre_device_number_in.lean ====
abbrev S8x1x304x1024 : Shape := ⟨4, ![8, 1, 304, 1024]⟩
abbrev S1x2432x1024 : Shape := ⟨3, ![1, 2432, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1x304x1024 .bf16) (main_arg1 : FVec F S1x2432x1024 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_number_out.lean ====
abbrev S8x1x128x1024 : Shape := ⟨4, ![8, 1, 128, 1024]⟩
abbrev S1x1024x1024 : Shape := ⟨3, ![1, 1024, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1x128x1024 .bf16) (main_arg1 : FVec F S1x1024x1024 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_number_pool.lean ====
abbrev S8x4x32x256 : Shape := ⟨4, ![8, 4, 32, 256]⟩
abbrev S4x256x256 : Shape := ⟨3, ![4, 256, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x4x32x256 .bf16) (main_arg1 : FVec F S4x256x256 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_number_wi.lean ====
abbrev S8x1x704x1024 : Shape := ⟨4, ![8, 1, 704, 1024]⟩
abbrev S1x5632x1024 : Shape := ⟨3, ![1, 5632, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1x704x1024 .bf16) (main_arg1 : FVec F S1x5632x1024 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_number_wo.lean ====
abbrev S8x1x352x1024 : Shape := ⟨4, ![8, 1, 352, 1024]⟩
abbrev S1x2816x1024 : Shape := ⟨3, ![1, 2816, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1x352x1024 .bf16) (main_arg1 : FVec F S1x2816x1024 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_finite_adaln.lean ====
abbrev S16x1024 : Shape := ⟨2, ![16, 1024]⟩
abbrev S2x16x1152 : Shape := ⟨3, ![2, 16, 1152]⟩
abbrev S2x1024x1152 : Shape := ⟨3, ![2, 1024, 1152]⟩
abbrev S_ : Shape := ⟨0, ![]⟩

class Facts : Prop where
  bcast_S_S2x16x1152 : S_.BroadcastsInDim S2x16x1152 (![] : Fin 0 → Fin S2x16x1152.rank)
  bcast_S_S2x1024x1152 : S_.BroadcastsInDim S2x1024x1152 (![] : Fin 0 → Fin S2x1024x1152.rank)

variable [Facts]

def fn {F : FTy → Type} [FloatOps F] (main_arg0 : FVec F S16x1024 .f32) (main_arg1 : FVec F S2x16x1152 .f32) (main_arg2 : FVec F S2x1024x1152 .f32) : IVec S2x16x1152 1 × IVec S2x1024x1152 1 :=
  let main_v0 : FVec F S2x16x1152 .f32 := Host.absf main_arg1
  let main_cst : FVec F S_ .f32 := constant S_ .f32 0x7F800000#32
  let main_v1 : FVec F S2x16x1152 .f32 := broadcastInDim S2x16x1152 ![] bcast_S_S2x16x1152 main_cst
  let main_v2 : IVec S2x16x1152 1 := cmpf .olt main_v0 main_v1
  let main_v3 : FVec F S2x1024x1152 .f32 := Host.absf main_arg2
  let main_cst_0 : FVec F S_ .f32 := constant S_ .f32 0x7F800000#32
  let main_v4 : FVec F S2x1024x1152 .f32 := broadcastInDim S2x1024x1152 ![] bcast_S_S2x1024x1152 main_cst_0
  let main_v5 : IVec S2x1024x1152 1 := cmpf .olt main_v3 main_v4
  (main_v2, main_v5)
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S2816x1024 .f32) (main_arg3 : FVec F S4096x1024 .f32) : IVec S4096x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_ffn_ctx.lean ====
abbrev S4352x1024 : Shape := ⟨2, ![4352, 1024]⟩
abbrev S1024x5632 : Shape := ⟨2, ![1024, 5632]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4352x1024 .f32) (main_arg1 : FVec F S1024x5632 .f32) (main_arg2 : FVec F S2816x1024 .f32) (main_arg3 : FVec F S4352x1024 .f32) : IVec S4352x1024 1 × IVec S1024x5632 1 × IVec S2816x1024 1 × IVec S4352x1024 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4352x1024 .f32 := Host.absf main_arg3
  let main_cst_2 : FVec F S_ .f32 := constant S_ .f32 0x7F800000#32
  let main_v10 : FVec F S4352x1024 .f32 := broadcastInDim S4352x1024 ![] bcast_S_S4352x1024 main_cst_2
  let main_v11 : IVec S4352x1024 1 := cmpf .olt main_v9 main_v10
  (main_v2, main_v5, main_v8, main_v11)
-- ==== DhKernel.lean ====
abbrev S4096x1024 : Shape := ⟨2, ![4096, 1024]⟩
abbrev S1024x5632 : Shape := ⟨2, ![1024, 5632]⟩
abbrev S2816x1024 : Shape := ⟨2, ![2816, 1024]⟩
abbrev S1x1024x5632 : Shape := ⟨3, ![1, 1024, 5632]⟩
abbrev S1x5632x1024 : Shape := ⟨3, ![1, 5632, 1024]⟩
abbrev S1x2816x1024 : Shape := ⟨3, ![1, 2816, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S1x1024x5632, .f32⟩
  | .hbm, ⟨6, _⟩ => ⟨S1x5632x1024, .f32⟩
  | .hbm, ⟨7, _⟩ => ⟨S1x5632x1024, .bf16⟩
  | .hbm, ⟨8, _⟩ => ⟨S1x2816x1024, .f32⟩
  | .hbm, ⟨9, _⟩ => ⟨S1x2816x1024, .bf16⟩
  | .hbm, ⟨10, _⟩ => ⟨S4096x1024, .bf16⟩
  | .hbm, ⟨11, _⟩ => ⟨S4096x5632, .bf16⟩
  | .hbm, ⟨12, _⟩ => ⟨S4096x2816, .bf16⟩
  | .hbm, ⟨13, _⟩ => ⟨S4096x5632, .bf16⟩
  | .hbm, ⟨14, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S1x2816x1024, .bf16⟩
  | .local _ .vmem, ⟨10, _⟩ => ⟨S512x5632, .bf16⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S1024x5632, .bf16⟩
  | .local _ .vmem, ⟨15, _⟩ => ⟨S1024x5632, .bf16⟩
  | .local _ .vmem, ⟨16, _⟩ => ⟨S1x5632x512, .bf16⟩
  | .local _ .vmem, ⟨17, _⟩ => ⟨S1x5632x512, .bf16⟩
  | .local _ .vmem, ⟨18, _⟩ => ⟨S1024x512, .f32⟩
  | .local _ .vmem, ⟨19, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== DhKernelIdeal.lean ====
abbrev S4096x1024 : Shape := ⟨2, ![4096, 1024]⟩
abbrev S1024x5632 : Shape := ⟨2, ![1024, 5632]⟩
abbrev S2816x1024 : Shape := ⟨2, ![2816, 1024]⟩
abbrev S1x1024x5632 : Shape := ⟨3, ![1, 1024, 5632]⟩
abbrev S1x5632x1024 : Shape := ⟨3, ![1, 5632, 1024]⟩
abbrev S1x2816x1024 : Shape := ⟨3, ![1, 2816, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S1x1024x5632, .f32⟩
  | .hbm, ⟨6, _⟩ => ⟨S1x5632x1024, .f32⟩
  | .hbm, ⟨7, _⟩ => ⟨S1x5632x1024, .bf16⟩
  | .hbm, ⟨8, _⟩ => ⟨S1x2816x1024, .f32⟩
  | .hbm, ⟨9, _⟩ => ⟨S1x2816x1024, .bf16⟩
  | .hbm, ⟨10, _⟩ => ⟨S4096x1024, .bf16⟩
  | .hbm, ⟨11, _⟩ => ⟨S4096x5632, .bf16⟩
  | .hbm, ⟨12, _⟩ => ⟨S4096x2816, .bf16⟩
  | .hbm, ⟨13, _⟩ => ⟨S4096x5632, .bf16⟩
  | .hbm, ⟨14, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S1x2816x1024, .bf16⟩
  | .local _ .vmem, ⟨10, _⟩ => ⟨S512x5632, .bf16⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | .local _ .vmem, ⟨14, _⟩ => ⟨S1024x5632, .bf16⟩
  | .local _ .vmem, ⟨15, _⟩ => ⟨S1024x5632, .bf16⟩
  | .local _ .vmem, ⟨16, _⟩ => ⟨S1x5632x512, .bf16⟩
  | .local _ .vmem, ⟨17, _⟩ => ⟨S1x5632x512, .bf16⟩
  | .local _ .vmem, ⟨18, _⟩ => ⟨S1024x512, .f32⟩
  | .local _ .vmem, ⟨19, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== DhReferenceIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DwoKernel.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S4096x1024, .bf16⟩
  | .hbm, ⟨18, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoKernelIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S4096x1024, .bf16⟩
  | .hbm, ⟨18, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoReferenceIdeal.lean ====
abbrev S4096x1024 : Shape := ⟨2, ![4096, 1024]⟩
abbrev S1024x5632 : Shape := ⟨2, ![1024, 5632]⟩
abbrev S_ : Shape := ⟨0, ![]⟩
abbrev S2816x1024 : Shape := ⟨2, ![2816, 1024]⟩
abbrev S4096x5632 : Shape := ⟨2, ![4096, 5632]⟩
abbrev S4096x2816 : Shape := ⟨2, ![4096, 2816]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .f32⟩
  | .hbm, ⟨3, _⟩ => ⟨S_, .f32⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== DwiKernel.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | .hbm, ⟨31, _⟩ => ⟨S4096x1024, .bf16⟩
  | .hbm, ⟨32, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiKernelIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | .hbm, ⟨31, _⟩ => ⟨S4096x1024, .bf16⟩
  | .hbm, ⟨32, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiReferenceIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S5632x1024 : Shape := ⟨2, ![5632, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S5632x1024, .f32⟩
  | .hbm, ⟨31, _⟩ => ⟨S1024x5632, .f32⟩
  | .hbm, ⟨32, _⟩ => ⟨S5632x1024, .f32⟩
  | .hbm, ⟨33, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== DhCtxKernel.lean ====
abbrev S4352x1024 : Shape := ⟨2, ![4352, 1024]⟩
abbrev S1024x5632 : Shape := ⟨2, ![1024, 5632]⟩
abbrev S2816x1024 : Shape := ⟨2, ![2816, 1024]⟩
abbrev S1x1024x5632 : Shape := ⟨3, ![1, 1024, 5632]⟩
abbrev S1x5632x1024 : Shape := ⟨3, ![1, 5632, 1024]⟩
abbrev S1x2816x1024 : Shape := ⟨3, ![1, 2816, 1024]⟩
abbrev S4352x5632 : Shape := ⟨2, ![4352, 5632]⟩
abbrev S4352x2816 : Shape := ⟨2, ![4352, 2816]⟩
abbrev S544x1024 : Shape := ⟨2, ![544, 1024]⟩
abbrev S544x5632 : Shape := ⟨2, ![544, 5632]⟩
abbrev S544x2816 : Shape := ⟨2, ![544, 2816]⟩
abbrev S1088x5632 : Shape := ⟨2, ![1088, 5632]⟩
abbrev S1x5632x512 : Shape := ⟨3, ![1, 5632, 512]⟩
abbrev S1088x512 : Shape := ⟨2, ![1088, 512]⟩
abbrev S5632x512 : Shape := ⟨2, ![5632, 512]⟩

abbrev nBuf : Space → Nat
  | .hbm => 15
  | .vmem => 20
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S2816x1024, .f32⟩
  | .hbm, ⟨3, _⟩ => ⟨S4352x1024, .f32⟩
  | .hbm, ⟨4, _⟩ => ⟨S4352x1024, .bf16⟩
  | .hbm, ⟨5, _⟩ => ⟨S1x1024x5632, .f32⟩
  | .hbm, ⟨6, _⟩ => ⟨S1x5632x1024, .f32⟩
  | .hbm, ⟨7, _⟩ => ⟨S1x5632x1024, .bf16⟩
  | .hbm, ⟨8, _⟩ => ⟨S1x2816x1024, .f32⟩
  | .hbm, ⟨9, _⟩ => ⟨S1x2816x1024, .bf16⟩
  | .hbm, ⟨10, _⟩ => ⟨S4352x1024, .bf16⟩
  | .hbm, ⟨11, _⟩ => ⟨S4352x5632, .bf16⟩
  | .hbm, ⟨12, _⟩ => ⟨S4352x2816, .bf16⟩
  | .hbm, ⟨13, _⟩ => ⟨S4352x5632, .bf16⟩
  | .hbm, ⟨14, _⟩ => ⟨S4352x1024, .f32⟩
  | .local _ .vmem, ⟨0, _⟩ => ⟨S544x1024, .bf16⟩
  | .local _ .vmem, ⟨1, _⟩ => ⟨S544x1024, .bf16⟩
  | .local _ .vmem, ⟨2, _⟩ => ⟨S1x5632x1024, .bf16⟩
  | .local _ .vmem, ⟨3, _⟩ => ⟨S544x5632, .bf16⟩
  | .local _ .vmem, ⟨4, _⟩ => ⟨S544x5632, .bf16⟩
  | .local _ .vmem, ⟨5, _⟩ => ⟨S544x2816, .bf16⟩
  | .local _ .vmem, ⟨6, _⟩ => ⟨S544x2816, .bf16⟩
  | .local _ .vmem, ⟨7, _⟩ => ⟨S544x1024, .bf16⟩
  | .local _ .vmem, ⟨8, _⟩ => ⟨S544x1024, .bf16⟩
  | .local _ .vmem, ⟨9, _⟩ => ⟨S1x2816x1024, .bf16⟩
  | .local _ .vmem, ⟨10, _⟩ => ⟨S544x5632, .bf16⟩
  | .local _ .vmem, ⟨11, _⟩ => ⟨S544x5632, .bf16⟩
  | .local _ .vmem, ⟨12, _⟩ => ⟨S544x5632, .bf16⟩
  | .local _ .vmem, ⟨13, _⟩ => ⟨S544x5632, .bf16⟩
  | .local _ .vmem, ⟨14, _⟩ => ⟨S1088x5632, .bf16⟩
  | .local _ .vmem, ⟨15, _⟩ => ⟨S1088x5632, .bf16⟩
  | .local _ .vmem, ⟨16, _⟩ => ⟨S1x5632x512, .bf16⟩
  | .local _ .vmem, ⟨17, _⟩ => ⟨S1x5632x512, .bf16⟩
  | .local _ .vmem, ⟨18, _⟩ => ⟨S1088x512, .f32⟩
  | .local _ .vmem, ⟨19, _⟩ => ⟨S1088x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S544x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S544x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1088x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1088x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== DhCtxReferenceIdeal.lean ====
abbrev S4352x1024 : Shape := ⟨2, ![4352, 1024]⟩
abbrev S1024x5632 : Shape := ⟨2, ![1024, 5632]⟩
abbrev S2816x1024 : Shape := ⟨2, ![2816, 1024]⟩
abbrev S4352x5632 : Shape := ⟨2, ![4352, 5632]⟩
abbrev S4352x2816 : Shape := ⟨2, ![4352, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S2816x1024, .f32⟩
  | .hbm, ⟨3, _⟩ => ⟨S4352x1024, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S_, .f32⟩
  | .hbm, ⟨10, _⟩ => ⟨S4352x2816, .f32⟩
  | .hbm, ⟨11, _⟩ => ⟨S4352x2816, .f32⟩
  | .hbm, ⟨12, _⟩ => ⟨S_, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x1024, .f32⟩
  | .hbm, ⟨22, _⟩ => ⟨S4352x2816, .f32⟩
  | .hbm, ⟨23, _⟩ => ⟨S4352x2816, .f32⟩
  | .hbm, ⟨24, _⟩ => ⟨S4352x2816, .f32⟩
  | .hbm, ⟨25, _⟩ => ⟨S4352x2816, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x5632, .f32⟩
  | .hbm, ⟨30, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DwoCtxKernel.lean ====
abbrev S4352x1024 : Shape := ⟨2, ![4352, 1024]⟩
abbrev S1024x5632 : Shape := ⟨2, ![1024, 5632]⟩
abbrev S4352x5632 : Shape := ⟨2, ![4352, 5632]⟩
abbrev S4352x2816 : Shape := ⟨2, ![4352, 2816]⟩
abbrev S_ : Shape := ⟨0, ![]⟩
abbrev S2816x1024 : Shape := ⟨2, ![2816, 1024]⟩
abbrev S1088x1408 : Shape := ⟨2, ![1088, 1408]⟩
abbrev S1088x1024 : Shape := ⟨2, ![1088, 1024]⟩
abbrev S1408x1024 : Shape := ⟨2, ![1408, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x1024, .f32⟩
  | .hbm, ⟨3, _⟩ => ⟨S4352x5632, .f32⟩
  | .hbm, ⟨4, _⟩ => ⟨S4352x2816, .f32⟩
  | .hbm, ⟨5, _⟩ => ⟨S4352x2816, .f32⟩
  | .hbm, ⟨6, _⟩ => ⟨S4352x2816, .f32⟩
  | .hbm, ⟨7, _⟩ => ⟨S4352x2816, .f32⟩
  | .hbm, ⟨8, _⟩ => ⟨S_, .f32⟩
  | .hbm, ⟨9, _⟩ => ⟨S4352x2816, .f32⟩
  | .hbm, ⟨10, _⟩ => ⟨S4352x2816, .f32⟩
  | .hbm, ⟨11, _⟩ => ⟨S_, .f32⟩
  | .hbm, ⟨12, _⟩ => ⟨S4352x2816, .f32⟩
  | .hbm, ⟨13, _⟩ => ⟨S4352x2816, .f32⟩
  | .hbm, ⟨14, _⟩ => ⟨S4352x2816, .f32⟩
  | .hbm, ⟨15, _⟩ => ⟨S4352x2816, .f32⟩
  | .hbm, ⟨16, _⟩ => ⟨S4352x2816, .bf16⟩
  | .hbm, ⟨17, _⟩ => ⟨S4352x1024, .bf16⟩
  | .hbm, ⟨18, _⟩ => ⟨S2816x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1088x1024, .bf16⟩
  | .local _ .vmem, ⟨3, _⟩ => ⟨S1088x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoCtxReferenceIdeal.lean ====
abbrev S4352x1024 : Shape := ⟨2, ![4352, 1024]⟩
abbrev S1024x5632 : Shape := ⟨2, ![1024, 5632]⟩
abbrev S_ : Shape := ⟨0, ![]⟩
abbrev S2816x1024 : Shape := ⟨2, ![2816, 1024]⟩
abbrev S4352x5632 : Shape := ⟨2, ![4352, 5632]⟩
abbrev S4352x2816 : Shape := ⟨2, ![4352, 2816]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x1024, .f32⟩
  | .hbm, ⟨3, _⟩ => ⟨S_, .f32⟩
  | .hbm, ⟨4, _⟩ => ⟨S2816x1024, .f32⟩
  | .hbm, ⟨5, _⟩ => ⟨S4352x5632, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S4352x2816, .f32⟩
  | .hbm, ⟨17, _⟩ => ⟨S4352x2816, .f32⟩
  | .hbm, ⟨18, _⟩ => ⟨S4352x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== DwiCtxKernel.lean ====
abbrev S4352x1024 : Shape := ⟨2, ![4352, 1024]⟩
abbrev S1024x5632 : Shape := ⟨2, ![1024, 5632]⟩
abbrev S2816x1024 : Shape := ⟨2, ![2816, 1024]⟩
abbrev S4352x5632 : Shape := ⟨2, ![4352, 5632]⟩
abbrev S4352x2816 : Shape := ⟨2, ![4352, 2816]⟩
abbrev S_ : Shape := ⟨0, ![]⟩
abbrev S5632x1024 : Shape := ⟨2, ![5632, 1024]⟩
abbrev S1088x1408 : Shape := ⟨2, ![1088, 1408]⟩
abbrev S1088x1024 : Shape := ⟨2, ![1088, 1024]⟩
abbrev S1408x1024 : Shape := ⟨2, ![1408, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S2816x1024, .f32⟩
  | .hbm, ⟨3, _⟩ => ⟨S4352x1024, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S_, .f32⟩
  | .hbm, ⟨10, _⟩ => ⟨S4352x2816, .f32⟩
  | .hbm, ⟨11, _⟩ => ⟨S4352x2816, .f32⟩
  | .hbm, ⟨12, _⟩ => ⟨S_, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x1024, .f32⟩
  | .hbm, ⟨22, _⟩ => ⟨S4352x2816, .f32⟩
  | .hbm, ⟨23, _⟩ => ⟨S4352x2816, .f32⟩
  | .hbm, ⟨24, _⟩ => ⟨S4352x2816, .f32⟩
  | .hbm, ⟨25, _⟩ => ⟨S4352x2816, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x5632, .f32⟩
  | .hbm, ⟨30, _⟩ => ⟨S4352x5632, .bf16⟩
  | .hbm, ⟨31, _⟩ => ⟨S4352x1024, .bf16⟩
  | .hbm, ⟨32, _⟩ => ⟨S5632x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1088x1024, .bf16⟩
  | .local _ .vmem, ⟨3, _⟩ => ⟨S1088x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiCtxReferenceIdeal.lean ====
abbrev S4352x1024 : Shape := ⟨2, ![4352, 1024]⟩
abbrev S1024x5632 : Shape := ⟨2, ![1024, 5632]⟩
abbrev S2816x1024 : Shape := ⟨2, ![2816, 1024]⟩
abbrev S4352x5632 : Shape := ⟨2, ![4352, 5632]⟩
abbrev S4352x2816 : Shape := ⟨2, ![4352, 2816]⟩
abbrev S_ : Shape := ⟨0, ![]⟩
abbrev S5632x1024 : Shape := ⟨2, ![5632, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S2816x1024, .f32⟩
  | .hbm, ⟨3, _⟩ => ⟨S4352x1024, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S_, .f32⟩
  | .hbm, ⟨10, _⟩ => ⟨S4352x2816, .f32⟩
  | .hbm, ⟨11, _⟩ => ⟨S4352x2816, .f32⟩
  | .hbm, ⟨12, _⟩ => ⟨S_, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x1024, .f32⟩
  | .hbm, ⟨22, _⟩ => ⟨S4352x2816, .f32⟩
  | .hbm, ⟨23, _⟩ => ⟨S4352x2816, .f32⟩
  | .hbm, ⟨24, _⟩ => ⟨S4352x2816, .f32⟩
  | .hbm, ⟨25, _⟩ => ⟨S4352x2816, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x5632, .f32⟩
  | .hbm, ⟨30, _⟩ => ⟨S5632x1024, .f32⟩
  | .hbm, ⟨31, _⟩ => ⟨S1024x5632, .f32⟩
  | .hbm, ⟨32, _⟩ => ⟨S5632x1024, .f32⟩
  | .hbm, ⟨33, _⟩ => ⟨S5632x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== AdamWiKernel.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWiKernelIdeal.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWiReferenceIdeal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWoKernel.lean ====
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoKernelIdeal.lean ====
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoReferenceIdeal.lean ====
abbrev S2x352x1024 : Shape := ⟨3, ![2, 352, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamInKernel.lean ====
abbrev S1x1024x292 : Shape := ⟨3, ![1, 1024, 292]⟩
abbrev S1024x292 : Shape := ⟨2, ![1024, 292]⟩
abbrev S512x292 : Shape := ⟨2, ![512, 292]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x292, .f32⟩
  | .hbm, ⟨1, _⟩ => ⟨S1x1024x292, .f32⟩
  | .hbm, ⟨2, _⟩ => ⟨S1x1024x292, .f32⟩
  | .hbm, ⟨3, _⟩ => ⟨S1x1024x292, .f32⟩
  | .hbm, ⟨4, _⟩ => ⟨S1024x292, .f32⟩
  | .hbm, ⟨5, _⟩ => ⟨S1024x292, .f32⟩
  | .hbm, ⟨6, _⟩ => ⟨S1024x292, .f32⟩
  | .hbm, ⟨7, _⟩ => ⟨S1024x292, .f32⟩
  | .hbm, ⟨8, _⟩ => ⟨S1024x292, .f32⟩
  | .hbm, ⟨9, _⟩ => ⟨S1024x292, .f32⟩
  | .hbm, ⟨10, _⟩ => ⟨S1024x292, .f32⟩
  | .local _ .vmem, ⟨0, _⟩ => ⟨S512x292, .f32⟩
  | .local _ .vmem, ⟨1, _⟩ => ⟨S512x292, .f32⟩
  | .local _ .vmem, ⟨2, _⟩ => ⟨S512x292, .f32⟩
  | .local _ .vmem, ⟨3, _⟩ => ⟨S512x292, .f32⟩
  | .local _ .vmem, ⟨4, _⟩ => ⟨S512x292, .f32⟩
  | .local _ .vmem, ⟨5, _⟩ => ⟨S512x292, .f32⟩
  | .local _ .vmem, ⟨6, _⟩ => ⟨S512x292, .f32⟩
  | .local _ .vmem, ⟨7, _⟩ => ⟨S512x292, .f32⟩
  | .local _ .vmem, ⟨8, _⟩ => ⟨S512x292, .f32⟩
  | .local _ .vmem, ⟨9, _⟩ => ⟨S512x292, .f32⟩
  | .local _ .vmem, ⟨10, _⟩ => ⟨S512x292, .f32⟩
  | .local _ .vmem, ⟨11, _⟩ => ⟨S512x292, .f32⟩
  | .local _ .vmem, ⟨12, _⟩ => ⟨S512x292, .f32⟩
  | .local _ .vmem, ⟨13, _⟩ => ⟨S512x292, .f32⟩
  | _, _ => ⟨S1x1024x292, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x292 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x292 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x292 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x292 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x292 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x292 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x292 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInKernelIdeal.lean ====
abbrev S1x1024x292 : Shape := ⟨3, ![1, 1024, 292]⟩
abbrev S1024x292 : Shape := ⟨2, ![1024, 292]⟩
abbrev S512x292 : Shape := ⟨2, ![512, 292]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x292, .f32⟩
  | .hbm, ⟨1, _⟩ => ⟨S1x1024x292, .f32⟩
  | .hbm, ⟨2, _⟩ => ⟨S1x1024x292, .f32⟩
  | .hbm, ⟨3, _⟩ => ⟨S1x1024x292, .f32⟩
  | .hbm, ⟨4, _⟩ => ⟨S1024x292, .f32⟩
  | .hbm, ⟨5, _⟩ => ⟨S1024x292, .f32⟩
  | .hbm, ⟨6, _⟩ => ⟨S1024x292, .f32⟩
  | .hbm, ⟨7, _⟩ => ⟨S1024x292, .f32⟩
  | .hbm, ⟨8, _⟩ => ⟨S1024x292, .f32⟩
  | .hbm, ⟨9, _⟩ => ⟨S1024x292, .f32⟩
  | .hbm, ⟨10, _⟩ => ⟨S1024x292, .f32⟩
  | .local _ .vmem, ⟨0, _⟩ => ⟨S512x292, .f32⟩
  | .local _ .vmem, ⟨1, _⟩ => ⟨S512x292, .f32⟩
  | .local _ .vmem, ⟨2, _⟩ => ⟨S512x292, .f32⟩
  | .local _ .vmem, ⟨3, _⟩ => ⟨S512x292, .f32⟩
  | .local _ .vmem, ⟨4, _⟩ => ⟨S512x292, .f32⟩
  | .local _ .vmem, ⟨5, _⟩ => ⟨S512x292, .f32⟩
  | .local _ .vmem, ⟨6, _⟩ => ⟨S512x292, .f32⟩
  | .local _ .vmem, ⟨7, _⟩ => ⟨S512x292, .f32⟩
  | .local _ .vmem, ⟨8, _⟩ => ⟨S512x292, .f32⟩
  | .local _ .vmem, ⟨9, _⟩ => ⟨S512x292, .f32⟩
  | .local _ .vmem, ⟨10, _⟩ => ⟨S512x292, .f32⟩
  | .local _ .vmem, ⟨11, _⟩ => ⟨S512x292, .f32⟩
  | .local _ .vmem, ⟨12, _⟩ => ⟨S512x292, .f32⟩
  | .local _ .vmem, ⟨13, _⟩ => ⟨S512x292, .f32⟩
  | _, _ => ⟨S1x1024x292, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x292 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x292 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x292 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x292 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x292 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x292 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x292 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1x1024x292 : Shape := ⟨3, ![1, 1024, 292]⟩
abbrev S_ : Shape := ⟨0, ![]⟩
abbrev S1024x292 : Shape := ⟨2, ![1024, 292]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x292, .f32⟩
  | .hbm, ⟨1, _⟩ => ⟨S1x1024x292, .f32⟩
  | .hbm, ⟨2, _⟩ => ⟨S1x1024x292, .f32⟩
  | .hbm, ⟨3, _⟩ => ⟨S1x1024x292, .f32⟩
  | .hbm, ⟨4, _⟩ => ⟨S_, .f32⟩
  | .hbm, ⟨5, _⟩ => ⟨S1x1024x292, .f32⟩
  | .hbm, ⟨6, _⟩ => ⟨S1x1024x292, .f32⟩
  | .hbm, ⟨7, _⟩ => ⟨S_, .f32⟩
  | .hbm, ⟨8, _⟩ => ⟨S1x1024x292, .f32⟩
  | .hbm, ⟨9, _⟩ => ⟨S1x1024x292, .f32⟩
  | .hbm, ⟨10, _⟩ => ⟨S1x1024x292, .f32⟩
  | .hbm, ⟨11, _⟩ => ⟨S_, .f32⟩
  | .hbm, ⟨12, _⟩ => ⟨S1x1024x292, .f32⟩
  | .hbm, ⟨13, _⟩ => ⟨S1x1024x292, .f32⟩
  | .hbm, ⟨14, _⟩ => ⟨S1x1024x292, .f32⟩
  | .hbm, ⟨15, _⟩ => ⟨S_, .f32⟩
  | .hbm, ⟨16, _⟩ => ⟨S1x1024x292, .f32⟩
  | .hbm, ⟨17, _⟩ => ⟨S1x1024x292, .f32⟩
  | .hbm, ⟨18, _⟩ => ⟨S1x1024x292, .f32⟩
  | .hbm, ⟨19, _⟩ => ⟨S_, .f32⟩
  | .hbm, ⟨20, _⟩ => ⟨S1x1024x292, .f32⟩
  | .hbm, ⟨21, _⟩ => ⟨S1x1024x292, .f32⟩
  | .hbm, ⟨22, _⟩ => ⟨S_, .f32⟩
  | .hbm, ⟨23, _⟩ => ⟨S1x1024x292, .f32⟩
  | .hbm, ⟨24, _⟩ => ⟨S1x1024x292, .f32⟩
  | .hbm, ⟨25, _⟩ => ⟨S1x1024x292, .f32⟩
  | .hbm, ⟨26, _⟩ => ⟨S_, .f32⟩
  | .hbm, ⟨27, _⟩ => ⟨S1x1024x292, .f32⟩
  | .hbm, ⟨28, _⟩ => ⟨S1x1024x292, .f32⟩
  | .hbm, ⟨29, _⟩ => ⟨S1x1024x292, .f32⟩
  | .hbm, ⟨30, _⟩ => ⟨S_, .f32⟩
  | .hbm, ⟨31, _⟩ => ⟨S1x1024x292, .f32⟩
  | .hbm, ⟨32, _⟩ => ⟨S1x1024x292, .f32⟩
  | .hbm, ⟨33, _⟩ => ⟨S1x1024x292, .f32⟩
  | .hbm, ⟨34, _⟩ => ⟨S_, .f32⟩
  | .hbm, ⟨35, _⟩ => ⟨S1x1024x292, .f32⟩
  | .hbm, ⟨36, _⟩ => ⟨S1x1024x292, .f32⟩
  | .hbm, ⟨37, _⟩ => ⟨S1024x292, .f32⟩
  | .hbm, ⟨38, _⟩ => ⟨S1024x292, .f32⟩
  | .hbm, ⟨39, _⟩ => ⟨S1024x292, .f32⟩
  | _, _ => ⟨S1x1024x292, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOutKernel.lean ====
abbrev S1x128x1024 : Shape := ⟨3, ![1, 128, 1024]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutKernelIdeal.lean ====
abbrev S1x128x1024 : Shape := ⟨3, ![1, 128, 1024]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S128x1024, .f32⟩
  | .hbm, ⟨38, _⟩ => ⟨S128x1024, .f32⟩
  | .hbm, ⟨39, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolKernel.lean ====
abbrev S1x4x32x256 : Shape := ⟨4, ![1, 4, 32, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S1x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolKernelIdeal.lean ====
abbrev S1x4x32x256 : Shape := ⟨4, ![1, 4, 32, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S1x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolReferenceIdeal.lean ====
abbrev S1x4x32x256 : Shape := ⟨4, ![1, 4, 32, 256]⟩
abbrev S_ : Shape := ⟨0, ![]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S_, .f32⟩
  | .hbm, ⟨5, _⟩ => ⟨S1x4x32x256, .f32⟩
  | .hbm, ⟨6, _⟩ => ⟨S1x4x32x256, .f32⟩
  | .hbm, ⟨7, _⟩ => ⟨S_, .f32⟩
  | .hbm, ⟨8, _⟩ => ⟨S1x4x32x256, .f32⟩
  | .hbm, ⟨9, _⟩ => ⟨S1x4x32x256, .f32⟩
  | .hbm, ⟨10, _⟩ => ⟨S1x4x32x256, .f32⟩
  | .hbm, ⟨11, _⟩ => ⟨S_, .f32⟩
  | .hbm, ⟨12, _⟩ => ⟨S1x4x32x256, .f32⟩
  | .hbm, ⟨13, _⟩ => ⟨S1x4x32x256, .f32⟩
  | .hbm, ⟨14, _⟩ => ⟨S1x4x32x256, .f32⟩
  | .hbm, ⟨15, _⟩ => ⟨S_, .f32⟩
  | .hbm, ⟨16, _⟩ => ⟨S1x4x32x256, .f32⟩
  | .hbm, ⟨17, _⟩ => ⟨S1x4x32x256, .f32⟩
  | .hbm, ⟨18, _⟩ => ⟨S1x4x32x256, .f32⟩
  | .hbm, ⟨19, _⟩ => ⟨S_, .f32⟩
  | .hbm, ⟨20, _⟩ => ⟨S1x4x32x256, .f32⟩
  | .hbm, ⟨21, _⟩ => ⟨S1x4x32x256, .f32⟩
  | .hbm, ⟨22, _⟩ => ⟨S_, .f32⟩
  | .hbm, ⟨23, _⟩ => ⟨S1x4x32x256, .f32⟩
  | .hbm, ⟨24, _⟩ => ⟨S1x4x32x256, .f32⟩
  | .hbm, ⟨25, _⟩ => ⟨S1x4x32x256, .f32⟩
  | .hbm, ⟨26, _⟩ => ⟨S_, .f32⟩
  | .hbm, ⟨27, _⟩ => ⟨S1x4x32x256, .f32⟩
  | .hbm, ⟨28, _⟩ => ⟨S1x4x32x256, .f32⟩
  | .hbm, ⟨29, _⟩ => ⟨S1x4x32x256, .f32⟩
  | .hbm, ⟨30, _⟩ => ⟨S_, .f32⟩
  | .hbm, ⟨31, _⟩ => ⟨S1x4x32x256, .f32⟩
  | .hbm, ⟨32, _⟩ => ⟨S1x4x32x256, .f32⟩
  | .hbm, ⟨33, _⟩ => ⟨S1x4x32x256, .f32⟩
  | .hbm, ⟨34, _⟩ => ⟨S_, .f32⟩
  | .hbm, ⟨35, _⟩ => ⟨S1x4x32x256, .f32⟩
  | .hbm, ⟨36, _⟩ => ⟨S1x4x32x256, .f32⟩
  | .hbm, ⟨37, _⟩ => ⟨S128x256, .f32⟩
  | .hbm, ⟨38, _⟩ => ⟨S128x256, .f32⟩
  | .hbm, ⟨39, _⟩ => ⟨S128x256, .f32⟩
  | _, _ => ⟨S1x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamModKernel.lean ====
abbrev S2x1024x1152 : Shape := ⟨3, ![2, 1024, 1152]⟩
abbrev S2048x1152 : Shape := ⟨2, ![2048, 1152]⟩
abbrev S512x1152 : Shape := ⟨2, ![512, 1152]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .hbm, ⟨9, _⟩ => ⟨S2048x1152, .f32⟩
  | .hbm, ⟨10, _⟩ => ⟨S2048x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModKernelIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamModReferenceIdeal.lean ====
abbrev S2x1024x1152 : Shape := ⟨3, ![2, 1024, 1152]⟩
abbrev S_ : Shape := ⟨0, ![]⟩
abbrev S2048x1152 : Shape := ⟨2, ![2048, 1152]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S_, .f32⟩
  | .hbm, ⟨5, _⟩ => ⟨S2x1024x1152, .f32⟩
  | .hbm, ⟨6, _⟩ => ⟨S2x1024x1152, .f32⟩
  | .hbm, ⟨7, _⟩ => ⟨S_, .f32⟩
  | .hbm, ⟨8, _⟩ => ⟨S2x1024x1152, .f32⟩
  | .hbm, ⟨9, _⟩ => ⟨S2x1024x1152, .f32⟩
  | .hbm, ⟨10, _⟩ => ⟨S2x1024x1152, .f32⟩
  | .hbm, ⟨11, _⟩ => ⟨S_, .f32⟩
  | .hbm, ⟨12, _⟩ => ⟨S2x1024x1152, .f32⟩
  | .hbm, ⟨13, _⟩ => ⟨S2x1024x1152, .f32⟩
  | .hbm, ⟨14, _⟩ => ⟨S2x1024x1152, .f32⟩
  | .hbm, ⟨15, _⟩ => ⟨S_, .f32⟩
  | .hbm, ⟨16, _⟩ => ⟨S2x1024x1152, .f32⟩
  | .hbm, ⟨17, _⟩ => ⟨S2x1024x1152, .f32⟩
  | .hbm, ⟨18, _⟩ => ⟨S2x1024x1152, .f32⟩
  | .hbm, ⟨19, _⟩ => ⟨S_, .f32⟩
  | .hbm, ⟨20, _⟩ => ⟨S2x1024x1152, .f32⟩
  | .hbm, ⟨21, _⟩ => ⟨S2x1024x1152, .f32⟩
  | .hbm, ⟨22, _⟩ => ⟨S_, .f32⟩
  | .hbm, ⟨23, _⟩ => ⟨S2x1024x1152, .f32⟩
  | .hbm, ⟨24, _⟩ => ⟨S2x1024x1152, .f32⟩
  | .hbm, ⟨25, _⟩ => ⟨S2x1024x1152, .f32⟩
  | .hbm, ⟨26, _⟩ => ⟨S_, .f32⟩
  | .hbm, ⟨27, _⟩ => ⟨S2x1024x1152, .f32⟩
  | .hbm, ⟨28, _⟩ => ⟨S2x1024x1152, .f32⟩
  | .hbm, ⟨29, _⟩ => ⟨S2x1024x1152, .f32⟩
  | .hbm, ⟨30, _⟩ => ⟨S_, .f32⟩
  | .hbm, ⟨31, _⟩ => ⟨S2x1024x1152, .f32⟩
  | .hbm, ⟨32, _⟩ => ⟨S2x1024x1152, .f32⟩
  | .hbm, ⟨33, _⟩ => ⟨S2x1024x1152, .f32⟩
  | .hbm, ⟨34, _⟩ => ⟨S_, .f32⟩
  | .hbm, ⟨35, _⟩ => ⟨S2x1024x1152, .f32⟩
  | .hbm, ⟨36, _⟩ => ⟨S2x1024x1152, .f32⟩
  | .hbm, ⟨37, _⟩ => ⟨S2048x1152, .f32⟩
  | .hbm, ⟨38, _⟩ => ⟨S2048x1152, .f32⟩
  | .hbm, ⟨39, _⟩ => ⟨S2048x1152, .f32⟩
  | _, _ => ⟨S2x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmallKernel.lean ====
abbrev S1024 : Shape := ⟨1, ![1024]⟩
abbrev S2x9216 : Shape := ⟨2, ![2, 9216]⟩
abbrev S2x3x128 : Shape := ⟨3, ![2, 3, 128]⟩
abbrev S1x16x32 : Shape := ⟨3, ![1, 16, 32]⟩
abbrev S1x256 : Shape := ⟨2, ![1, 256]⟩
abbrev S1x8 : Shape := ⟨2, ![1, 8]⟩
abbrev S1x128 : Shape := ⟨2, ![1, 128]⟩
abbrev S18432 : Shape := ⟨1, ![18432]⟩
abbrev S768 : Shape := ⟨1, ![768]⟩
abbrev S512 : Shape := ⟨1, ![512]⟩
abbrev S256 : Shape := ⟨1, ![256]⟩
abbrev S8 : Shape := ⟨1, ![8]⟩
abbrev S128 : Shape := ⟨1, ![128]⟩
abbrev S23048 : Shape := ⟨1, ![23048]⟩
abbrev S_ : Shape := ⟨0, ![]⟩
abbrev S23168 : Shape := ⟨1, ![23168]⟩
abbrev S1x23168 : Shape := ⟨2, ![1, 23168]⟩
abbrev S181x128 : Shape := ⟨2, ![181, 128]⟩
abbrev S512x128 : Shape := ⟨2, ![512, 128]⟩
abbrev S1x65536 : Shape := ⟨2, ![1, 65536]⟩
abbrev S1x1024 : Shape := ⟨2, ![1, 1024]⟩
abbrev S1x18432 : Shape := ⟨2, ![1, 18432]⟩
abbrev S1x2x9216 : Shape := ⟨3, ![1, 2, 9216]⟩
abbrev S1x768 : Shape := ⟨2, ![1, 768]⟩
abbrev S1x2x3x128 : Shape := ⟨4, ![1, 2, 3, 128]⟩
abbrev S1x512 : Shape := ⟨2, ![1, 512]⟩
abbrev S1x1x16x32 : Shape := ⟨4, ![1, 1, 16, 32]⟩
abbrev S1x1x256 : Shape := ⟨3, ![1, 1, 256]⟩
abbrev S1x1x8 : Shape := ⟨3, ![1, 1, 8]⟩
abbrev S1x1x128 : Shape := ⟨3, ![1, 1, 128]⟩

abbrev nBuf : Space → Nat
  | .hbm => 215
  | .vmem => 7
  | .smem => 0
  | _ => 0

abbrev hbmTy0_0 (i : Nat) : BufTy := match i % 128 with
  | 0 => ⟨S1024, .f32⟩
  | 1 => ⟨S2x9216, .f32⟩
  | 2 => ⟨S2x3x128, .f32⟩
  | 3 => ⟨S1x16x32, .f32⟩
  | 4 => ⟨S1x256, .f32⟩
  | 5 => ⟨S1x16x32, .f32⟩
  | 6 => ⟨S1x256, .f32⟩
  | 7 => ⟨S1x8, .f32⟩
  | 8 => ⟨S1x128, .f32⟩
  | 9 => ⟨S1x128, .f32⟩
  | 10 => ⟨S1024, .f32⟩
  | 11 => ⟨S1024, .f32⟩
  | 12 => ⟨S2x9216, .f32⟩
  | 13 => ⟨S2x3x128, .f32⟩
  | 14 => ⟨S1x16x32, .f32⟩
  | 15 => ⟨S1x256, .f32⟩
  | 16 => ⟨S1x16x32, .f32⟩
  | 17 => ⟨S1x256, .f32⟩
  | 18 => ⟨S1x8, .f32⟩
  | 19 => ⟨S1x128, .f32⟩
  | 20 => ⟨S1x128, .f32⟩
  | 21 => ⟨S1024, .f32⟩
  | 22 => ⟨S1024, .f32⟩
  | 23 => ⟨S2x9216, .f32⟩
  | 24 => ⟨S2x3x128, .f32⟩
  | 25 => ⟨S1x16x32, .f32⟩
  | 26 => ⟨S1x256, .f32⟩
  | 27 => ⟨S1x16x32, .f32⟩
  | 28 => ⟨S1x256, .f32⟩
  | 29 => ⟨S1x8, .f32⟩
  | 30 => ⟨S1x128, .f32⟩
  | 31 => ⟨S1x128, .f32⟩
  | 32 => ⟨S1024, .f32⟩
  | 33 => ⟨S1024, .f32⟩
  | 34 => ⟨S2x9216, .f32⟩
  | 35 => ⟨S2x3x128, .f32⟩
  | 36 => ⟨S1x16x32, .f32⟩
  | 37 => ⟨S1x256, .f32⟩
  | 38 => ⟨S1x16x32, .f32⟩
  | 39 => ⟨S1x256, .f32⟩
  | 40 => ⟨S1x8, .f32⟩
  | 41 => ⟨S1x128, .f32⟩
  | 42 => ⟨S1x128, .f32⟩
  | 43 => ⟨S1024, .f32⟩
  | 44 => ⟨S18432, .f32⟩
  | 45 => ⟨S768, .f32⟩
  | 46 => ⟨S512, .f32⟩
  | 47 => ⟨S256, .f32⟩
  | 48 => ⟨S512, .f32⟩
  | 49 => ⟨S256, .f32⟩
  | 50 => ⟨S8, .f32⟩
  | 51 => ⟨S128, .f32⟩
  | 52 => ⟨S128, .f32⟩
  | 53 => ⟨S23048, .f32⟩
  | 54 => ⟨S_, .i32⟩
  | 55 => ⟨S_, .f32⟩
  | 56 => ⟨S23168, .f32⟩
  | 57 => ⟨S1x23168, .f32⟩
  | 58 => ⟨S181x128, .f32⟩
  | 59 => ⟨S18432, .f32⟩
  | 60 => ⟨S768, .f32⟩
  | 61 => ⟨S512, .f32⟩
  | 62 => ⟨S256, .f32⟩
  | 63 => ⟨S512, .f32⟩
  | 64 => ⟨S256, .f32⟩
  | 65 => ⟨S8, .f32⟩
  | 66 => ⟨S128, .f32⟩
  | 67 => ⟨S128, .f32⟩
  | 68 => ⟨S23048, .f32⟩
  | 69 => ⟨S_, .i32⟩
  | 70 => ⟨S_, .f32⟩
  | 71 => ⟨S23168, .f32⟩
  | 72 => ⟨S1x23168, .f32⟩
  | 73 => ⟨S181x128, .f32⟩
  | 74 => ⟨S18432, .f32⟩
  | 75 => ⟨S768, .f32⟩
  | 76 => ⟨S512, .f32⟩
  | 77 => ⟨S256, .f32⟩
  | 78 => ⟨S512, .f32⟩
  | 79 => ⟨S256, .f32⟩
  | 80 => ⟨S8, .f32⟩
  | 81 => ⟨S128, .f32⟩
  | 82 => ⟨S128, .f32⟩
  | 83 => ⟨S23048, .f32⟩
  | 84 => ⟨S_, .i32⟩
  | 85 => ⟨S_, .f32⟩
  | 86 => ⟨S23168, .f32⟩
  | 87 => ⟨S1x23168, .f32⟩
  | 88 => ⟨S181x128, .f32⟩
  | 89 => ⟨S18432, .f32⟩
  | 90 => ⟨S768, .f32⟩
  | 91 => ⟨S512, .f32⟩
  | 92 => ⟨S256, .f32⟩
  | 93 => ⟨S512, .f32⟩
  | 94 => ⟨S256, .f32⟩
  | 95 => ⟨S8, .f32⟩
  | 96 => ⟨S128, .f32⟩
  | 97 => ⟨S128, .f32⟩
  | 98 => ⟨S23048, .f32⟩
  | 99 => ⟨S_, .i32⟩
  | 100 => ⟨S_, .f32⟩
  | 101 => ⟨S23168, .f32⟩
  | 102 => ⟨S1x23168, .f32⟩
  | 103 => ⟨S181x128, .f32⟩
  | 104 => ⟨S_, .i32⟩
  | 105 => ⟨S_, .f32⟩
  | 106 => ⟨S512x128, .f32⟩
  | 107 => ⟨S_, .i32⟩
  | 108 => ⟨S_, .f32⟩
  | 109 => ⟨S512x128, .f32⟩
  | 110 => ⟨S_, .i32⟩
  | 111 => ⟨S_, .f32⟩
  | 112 => ⟨S512x128, .f32⟩
  | 113 => ⟨S_, .i32⟩
  | 114 => ⟨S_, .f32⟩
  | 115 => ⟨S512x128, .f32⟩
  | 116 => ⟨S512x128, .f32⟩
  | 117 => ⟨S512x128, .f32⟩
  | 118 => ⟨S512x128, .f32⟩
  | 119 => ⟨S1x65536, .f32⟩
  | 120 => ⟨S1x1024, .f32⟩
  | 121 => ⟨S1x18432, .f32⟩
  | 122 => ⟨S1x2x9216, .f32⟩
  | 123 => ⟨S1x768, .f32⟩
  | 124 => ⟨S1x2x3x128, .f32⟩
  | 125 => ⟨S1x512, .f32⟩
  | 126 => ⟨S1x1x16x32, .f32⟩
  | 127 => ⟨S1x256, .f32⟩
  | _ => ⟨S1024, .f32⟩

abbrev hbmTy0_1 (i : Nat) : BufTy := match i % 128 with
  | 0 => ⟨S1x1x256, .f32⟩
  | 1 => ⟨S1x512, .f32⟩
  | 2 => ⟨S1x1x16x32, .f32⟩
  | 3 => ⟨S1x256, .f32⟩
  | 4 => ⟨S1x1x256, .f32⟩
  | 5 => ⟨S1x8, .f32⟩
  | 6 => ⟨S1x1x8, .f32⟩
  | 7 => ⟨S1x128, .f32⟩
  | 8 => ⟨S1x1x128, .f32⟩
  | 9 => ⟨S1x128, .f32⟩
  | 10 => ⟨S1x1x128, .f32⟩
  | 11 => ⟨S1x1024, .f32⟩
  | 12 => ⟨S1024, .f32⟩
  | 13 => ⟨S2x9216, .f32⟩
  | 14 => ⟨S2x3x128, .f32⟩
  | 15 => ⟨S1x16x32, .f32⟩
  | 16 => ⟨S1x256, .f32⟩
  | 17 => ⟨S1x16x32, .f32⟩
  | 18 => ⟨S1x256, .f32⟩
  | 19 => ⟨S1x8, .f32⟩
  | 20 => ⟨S1x128, .f32⟩
  | 21 => ⟨S1x128, .f32⟩
  | 22 => ⟨S1024, .f32⟩
  | 23 => ⟨S1x65536, .f32⟩
  | 24 => ⟨S1x1024, .f32⟩
  | 25 => ⟨S1x18432, .f32⟩
  | 26 => ⟨S1x2x9216, .f32⟩
  | 27 => ⟨S1x768, .f32⟩
  | 28 => ⟨S1x2x3x128, .f32⟩
  | 29 => ⟨S1x512, .f32⟩
  | 30 => ⟨S1x1x16x32, .f32⟩
  | 31 => ⟨S1x256, .f32⟩
  | 32 => ⟨S1x1x256, .f32⟩
  | 33 => ⟨S1x512, .f32⟩
  | 34 => ⟨S1x1x16x32, .f32⟩
  | 35 => ⟨S1x256, .f32⟩
  | 36 => ⟨S1x1x256, .f32⟩
  | 37 => ⟨S1x8, .f32⟩
  | 38 => ⟨S1x1x8, .f32⟩
  | 39 => ⟨S1x128, .f32⟩
  | 40 => ⟨S1x1x128, .f32⟩
  | 41 => ⟨S1x128, .f32⟩
  | 42 => ⟨S1x1x128, .f32⟩
  | 43 => ⟨S1x1024, .f32⟩
  | 44 => ⟨S1024, .f32⟩
  | 45 => ⟨S2x9216, .f32⟩
  | 46 => ⟨S2x3x128, .f32⟩
  | 47 => ⟨S1x16x32, .f32⟩
  | 48 => ⟨S1x256, .f32⟩
  | 49 => ⟨S1x16x32, .f32⟩
  | 50 => ⟨S1x256, .f32⟩
  | 51 => ⟨S1x8, .f32⟩
  | 52 => ⟨S1x128, .f32⟩
  | 53 => ⟨S1x128, .f32⟩
  | 54 => ⟨S1024, .f32⟩
  | 55 => ⟨S1x65536, .f32⟩
  | 56 => ⟨S1x1024, .f32⟩
  | 57 => ⟨S1x18432, .f32⟩
  | 58 => ⟨S1x2x9216, .f32⟩
  | 59 => ⟨S1x768, .f32⟩
  | 60 => ⟨S1x2x3x128, .f32⟩
  | 61 => ⟨S1x512, .f32⟩
  | 62 => ⟨S1x1x16x32, .f32⟩
  | 63 => ⟨S1x256, .f32⟩
  | 64 => ⟨S1x1x256, .f32⟩
  | 65 => ⟨S1x512, .f32⟩
  | 66 => ⟨S1x1x16x32, .f32⟩
  | 67 => ⟨S1x256, .f32⟩
  | 68 => ⟨S1x1x256, .f32⟩
  | 69 => ⟨S1x8, .f32⟩
  | 70 => ⟨S1x1x8, .f32⟩
  | 71 => ⟨S1x128, .f32⟩
  | 72 => ⟨S1x1x128, .f32⟩
  | 73 => ⟨S1x128, .f32⟩
  | 74 => ⟨S1x1x128, .f32⟩
  | 75 => ⟨S1x1024, .f32⟩
  | 76 => ⟨S1024, .f32⟩
  | 77 => ⟨S2x9216, .f32⟩
  | 78 => ⟨S2x3x128, .f32⟩
  | 79 => ⟨S1x16x32, .f32⟩
  | 80 => ⟨S1x256, .f32⟩
  | 81 => ⟨S1x16x32, .f32⟩
  | 82 => ⟨S1x256, .f32⟩
  | 83 => ⟨S1x8, .f32⟩
  | 84 => ⟨S1x128, .f32⟩
  | 85 => ⟨S1x128, .f32⟩
  | 86 => ⟨S1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_c : Ref sig .tc := ⟨.hbm, 54, rfl⟩
abbrev main_call0_v0 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_0 : Ref sig .tc := ⟨.hbm, 69, rfl⟩
abbrev main_call1_v0 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_1 : Ref sig .tc := ⟨.hbm, 84, rfl⟩
abbrev main_call2_v0 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_c_2 : Ref sig .tc := ⟨.hbm, 99, rfl⟩
abbrev main_call3_v0 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_3 : Ref sig .tc := ⟨.hbm, 104, rfl⟩
abbrev main_call4_v0 : Ref sig .tc := ⟨.hbm, 105, rfl⟩
abbrev main_v52 : Ref sig .tc := ⟨.hbm, 106, rfl⟩
abbrev main_c_4 : Ref sig .tc := ⟨.hbm, 107, rfl⟩
abbrev main_call5_v0 : Ref sig .tc := ⟨.hbm, 108, rfl⟩
abbrev main_v53 : Ref sig .tc := ⟨.hbm, 109, rfl⟩
abbrev main_c_5 : Ref sig .tc := ⟨.hbm, 110, rfl⟩
abbrev main_call6_v0 : Ref sig .tc := ⟨.hbm, 111, rfl⟩
abbrev main_v54 : Ref sig .tc := ⟨.hbm, 112, rfl⟩
abbrev main_c_6 : Ref sig .tc := ⟨.hbm, 113, rfl⟩
abbrev main_call7_v0 : Ref sig .tc := ⟨.hbm, 114, rfl⟩
abbrev main_v55 : Ref sig .tc := ⟨.hbm, 115, rfl⟩
abbrev main_v56_0 : Ref sig .tc := ⟨.hbm, 116, rfl⟩
abbrev main_v56_1 : Ref sig .tc := ⟨.hbm, 117, rfl⟩
abbrev main_v56_2 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallKernelIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamSmallReferenceIdeal.lean ====
abbrev S1024 : Shape := ⟨1, ![1024]⟩
abbrev S2x9216 : Shape := ⟨2, ![2, 9216]⟩
abbrev S2x3x128 : Shape := ⟨3, ![2, 3, 128]⟩
abbrev S1x16x32 : Shape := ⟨3, ![1, 16, 32]⟩
abbrev S1x256 : Shape := ⟨2, ![1, 256]⟩
abbrev S1x8 : Shape := ⟨2, ![1, 8]⟩
abbrev S1x128 : Shape := ⟨2, ![1, 128]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1024, .f32⟩
  | 1 => ⟨S2x9216, .f32⟩
  | 2 => ⟨S2x3x128, .f32⟩
  | 3 => ⟨S1x16x32, .f32⟩
  | 4 => ⟨S1x256, .f32⟩
  | 5 => ⟨S1x16x32, .f32⟩
  | 6 => ⟨S1x256, .f32⟩
  | 7 => ⟨S1x8, .f32⟩
  | 8 => ⟨S1x128, .f32⟩
  | 9 => ⟨S1x128, .f32⟩
  | 10 => ⟨S1024, .f32⟩
  | 11 => ⟨S1024, .f32⟩
  | 12 => ⟨S2x9216, .f32⟩
  | 13 => ⟨S2x3x128, .f32⟩
  | 14 => ⟨S1x16x32, .f32⟩
  | 15 => ⟨S1x256, .f32⟩
  | 16 => ⟨S1x16x32, .f32⟩
  | 17 => ⟨S1x256, .f32⟩
  | 18 => ⟨S1x8, .f32⟩
  | 19 => ⟨S1x128, .f32⟩
  | 20 => ⟨S1x128, .f32⟩
  | 21 => ⟨S1024, .f32⟩
  | 22 => ⟨S1024, .f32⟩
  | 23 => ⟨S2x9216, .f32⟩
  | 24 => ⟨S2x3x128, .f32⟩
  | 25 => ⟨S1x16x32, .f32⟩
  | 26 => ⟨S1x256, .f32⟩
  | 27 => ⟨S1x16x32, .f32⟩
  | 28 => ⟨S1x256, .f32⟩
  | 29 => ⟨S1x8, .f32⟩
  | 30 => ⟨S1x128, .f32⟩
  | 31 => ⟨S1x128, .f32⟩
  | 32 => ⟨S1024, .f32⟩
  | 33 => ⟨S1024, .f32⟩
  | 34 => ⟨S2x9216, .f32⟩
  | 35 => ⟨S2x3x128, .f32⟩
  | 36 => ⟨S1x16x32, .f32⟩
  | 37 => ⟨S1x256, .f32⟩
  | 38 => ⟨S1x16x32, .f32⟩
  | 39 => ⟨S1x256, .f32⟩
  | 40 => ⟨S1x8, .f32⟩
  | 41 => ⟨S1x128, .f32⟩
  | 42 => ⟨S1x128, .f32⟩
  | 43 => ⟨S1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S_, .f32⟩
  | 78 => ⟨S2x9216, .f32⟩
  | 79 => ⟨S2x9216, .f32⟩
  | 80 => ⟨S_, .f32⟩
  | 81 => ⟨S2x9216, .f32⟩
  | 82 => ⟨S2x9216, .f32⟩
  | 83 => ⟨S2x9216, .f32⟩
  | 84 => ⟨S_, .f32⟩
  | 85 => ⟨S2x9216, .f32⟩
  | 86 => ⟨S2x9216, .f32⟩
  | 87 => ⟨S2x9216, .f32⟩
  | 88 => ⟨S_, .f32⟩
  | 89 => ⟨S2x9216, .f32⟩
  | 90 => ⟨S2x9216, .f32⟩
  | 91 => ⟨S2x9216, .f32⟩
  | 92 => ⟨S_, .f32⟩
  | 93 => ⟨S2x9216, .f32⟩
  | 94 => ⟨S2x9216, .f32⟩
  | 95 => ⟨S_, .f32⟩
  | 96 => ⟨S2x9216, .f32⟩
  | 97 => ⟨S2x9216, .f32⟩
  | 98 => ⟨S2x9216, .f32⟩
  | 99 => ⟨S_, .f32⟩
  | 100 => ⟨S2x9216, .f32⟩
  | 101 => ⟨S2x9216, .f32⟩
  | 102 => ⟨S2x9216, .f32⟩
  | 103 => ⟨S_, .f32⟩
  | 104 => ⟨S2x9216, .f32⟩
  | 105 => ⟨S2x9216, .f32⟩
  | 106 => ⟨S2x9216, .f32⟩
  | 107 => ⟨S_, .f32⟩
  | 108 => ⟨S2x9216, .f32⟩
  | 109 => ⟨S2x9216, .f32⟩
  | 110 => ⟨S_, .f32⟩
  | 111 => ⟨S2x3x128, .f32⟩
  | 112 => ⟨S2x3x128, .f32⟩
  | 113 => ⟨S_, .f32⟩
  | 114 => ⟨S2x3x128, .f32⟩
  | 115 => ⟨S2x3x128, .f32⟩
  | 116 => ⟨S2x3x128, .f32⟩
  | 117 => ⟨S_, .f32⟩
  | 118 => ⟨S2x3x128, .f32⟩
  | 119 => ⟨S2x3x128, .f32⟩
  | 120 => ⟨S2x3x128, .f32⟩
  | 121 => ⟨S_, .f32⟩
  | 122 => ⟨S2x3x128, .f32⟩
  | 123 => ⟨S2x3x128, .f32⟩
  | 124 => ⟨S2x3x128, .f32⟩
  | 125 => ⟨S_, .f32⟩
  | 126 => ⟨S2x3x128, .f32⟩
  | 127 => ⟨S2x3x128, .f32⟩
  | _ => ⟨S1024, .f32⟩

abbrev hbmTy0_1 (i : Nat) : BufTy := match i % 128 with
  | 0 => ⟨S_, .f32⟩
  | 1 => ⟨S2x3x128, .f32⟩
  | 2 => ⟨S2x3x128, .f32⟩
  | 3 => ⟨S2x3x128, .f32⟩
  | 4 => ⟨S_, .f32⟩
  | 5 => ⟨S2x3x128, .f32⟩
  | 6 => ⟨S2x3x128, .f32⟩
  | 7 => ⟨S2x3x128, .f32⟩
  | 8 => ⟨S_, .f32⟩
  | 9 => ⟨S2x3x128, .f32⟩
  | 10 => ⟨S2x3x128, .f32⟩
  | 11 => ⟨S2x3x128, .f32⟩
  | 12 => ⟨S_, .f32⟩
  | 13 => ⟨S2x3x128, .f32⟩
  | 14 => ⟨S2x3x128, .f32⟩
  | 15 => ⟨S_, .f32⟩
  | 16 => ⟨S1x16x32, .f32⟩
  | 17 => ⟨S1x16x32, .f32⟩
  | 18 => ⟨S_, .f32⟩
  | 19 => ⟨S1x16x32, .f32⟩
  | 20 => ⟨S1x16x32, .f32⟩
  | 21 => ⟨S1x16x32, .f32⟩
  | 22 => ⟨S_, .f32⟩
  | 23 => ⟨S1x16x32, .f32⟩
  | 24 => ⟨S1x16x32, .f32⟩
  | 25 => ⟨S1x16x32, .f32⟩
  | 26 => ⟨S_, .f32⟩
  | 27 => ⟨S1x16x32, .f32⟩
  | 28 => ⟨S1x16x32, .f32⟩
  | 29 => ⟨S1x16x32, .f32⟩
  | 30 => ⟨S_, .f32⟩
  | 31 => ⟨S1x16x32, .f32⟩
  | 32 => ⟨S1x16x32, .f32⟩
  | 33 => ⟨S_, .f32⟩
  | 34 => ⟨S1x16x32, .f32⟩
  | 35 => ⟨S1x16x32, .f32⟩
  | 36 => ⟨S1x16x32, .f32⟩
  | 37 => ⟨S_, .f32⟩
  | 38 => ⟨S1x16x32, .f32⟩
  | 39 => ⟨S1x16x32, .f32⟩
  | 40 => ⟨S1x16x32, .f32⟩
  | 41 => ⟨S_, .f32⟩
  | 42 => ⟨S1x16x32, .f32⟩
  | 43 => ⟨S1x16x32, .f32⟩
  | 44 => ⟨S1x16x32, .f32⟩
  | 45 => ⟨S_, .f32⟩
  | 46 => ⟨S1x16x32, .f32⟩
  | 47 => ⟨S1x16x32, .f32⟩
  | 48 => ⟨S_, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S_, .f32⟩
  | 82 => ⟨S1x16x32, .f32⟩
  | 83 => ⟨S1x16x32, .f32⟩
  | 84 => ⟨S_, .f32⟩
  | 85 => ⟨S1x16x32, .f32⟩
  | 86 => ⟨S1x16x32, .f32⟩
  | 87 => ⟨S1x16x32, .f32⟩
  | 88 => ⟨S_, .f32⟩
  | 89 => ⟨S1x16x32, .f32⟩
  | 90 => ⟨S1x16x32, .f32⟩
  | 91 => ⟨S1x16x32, .f32⟩
  | 92 => ⟨S_, .f32⟩
  | 93 => ⟨S1x16x32, .f32⟩
  | 94 => ⟨S1x16x32, .f32⟩
  | 95 => ⟨S1x16x32, .f32⟩
  | 96 => ⟨S_, .f32⟩
  | 97 => ⟨S1x16x32, .f32⟩
  | 98 => ⟨S1x16x32, .f32⟩
  | 99 => ⟨S_, .f32⟩
  | 100 => ⟨S1x16x32, .f32⟩
  | 101 => ⟨S1x16x32, .f32⟩
  | 102 => ⟨S1x16x32, .f32⟩
  | 103 => ⟨S_, .f32⟩
  | 104 => ⟨S1x16x32, .f32⟩
  | 105 => ⟨S1x16x32, .f32⟩
  | 106 => ⟨S1x16x32, .f32⟩
  | 107 => ⟨S_, .f32⟩
  | 108 => ⟨S1x16x32, .f32⟩
  | 109 => ⟨S1x16x32, .f32⟩
  | 110 => ⟨S1x16x32, .f32⟩
  | 111 => ⟨S_, .f32⟩
  | 112 => ⟨S1x16x32, .f32⟩
  | 113 => ⟨S1x16x32, .f32⟩
  | 114 => ⟨S_, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S1024, .f32⟩

abbrev hbmTy0_2 (i : Nat) : BufTy := match i % 128 with
  | 0 => ⟨S1x256, .f32⟩
  | 1 => ⟨S_, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S_, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S_, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S1x8, .f32⟩
  | 26 => ⟨S_, .f32⟩
  | 27 => ⟨S1x8, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S1x8, .f32⟩
  | 41 => ⟨S_, .f32⟩
  | 42 => ⟨S1x8, .f32⟩
  | 43 => ⟨S1x8, .f32⟩
  | 44 => ⟨S1x8, .f32⟩
  | 45 => ⟨S_, .f32⟩
  | 46 => ⟨S1x8, .f32⟩
  | 47 => ⟨S1x8, .f32⟩
  | 48 => ⟨S1x8, .f32⟩
  | 49 => ⟨S_, .f32⟩
  | 50 => ⟨S1x8, .f32⟩
  | 51 => ⟨S1x8, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S1024, .f32⟩

abbrev hbmTy0_3 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== SumSmallKernel.lean ====
abbrev S8x2x9216 : Shape := ⟨3, ![8, 2, 9216]⟩
abbrev S8x9216 : Shape := ⟨2, ![8, 9216]⟩
abbrev S8x2x3x1024 : Shape := ⟨4, ![8, 2, 3, 1024]⟩
abbrev S8x1024 : Shape := ⟨2, ![8, 1024]⟩
abbrev S8x256 : Shape := ⟨2, ![8, 256]⟩
abbrev S8x8 : Shape := ⟨2, ![8, 8]⟩
abbrev S8x128 : Shape := ⟨2, ![8, 128]⟩
abbrev S8x16x256 : Shape := ⟨3, ![8, 16, 256]⟩
abbrev S8x1x1024 : Shape := ⟨3, ![8, 1, 1024]⟩
abbrev S8x18432 : Shape := ⟨2, ![8, 18432]⟩
abbrev S8x6144 : Shape := ⟨2, ![8, 6144]⟩
abbrev S8x4096 : Shape := ⟨2, ![8, 4096]⟩
abbrev S8x45704 : Shape := ⟨2, ![8, 45704]⟩
abbrev S_ : Shape := ⟨0, ![]⟩
abbrev S8x45824 : Shape := ⟨2, ![8, 45824]⟩
abbrev S8x1x45824 : Shape := ⟨3, ![8, 1, 45824]⟩
abbrev S1x45824 : Shape := ⟨2, ![1, 45824]⟩
abbrev S1x18432 : Shape := ⟨2, ![1, 18432]⟩
abbrev S1x2x9216 : Shape := ⟨3, ![1, 2, 9216]⟩
abbrev S1x9216 : Shape := ⟨2, ![1, 9216]⟩
abbrev S1x6144 : Shape := ⟨2, ![1, 6144]⟩
abbrev S1x2x3x1024 : Shape := ⟨4, ![1, 2, 3, 1024]⟩
abbrev S1x1024 : Shape := ⟨2, ![1, 1024]⟩
abbrev S1x256 : Shape := ⟨2, ![1, 256]⟩
abbrev S1x8 : Shape := ⟨2, ![1, 8]⟩
abbrev S1x128 : Shape := ⟨2, ![1, 128]⟩
abbrev S1x4096 : Shape := ⟨2, ![1, 4096]⟩
abbrev S1x16x256 : Shape := ⟨3, ![1, 16, 256]⟩
abbrev S1x1x1024 : Shape := ⟨3, ![1, 1, 1024]⟩
abbrev S2x9216 : Shape := ⟨2, ![2, 9216]⟩
abbrev S9216 : Shape := ⟨1, ![9216]⟩
abbrev S2x3x1024 : Shape := ⟨3, ![2, 3, 1024]⟩
abbrev S1024 : Shape := ⟨1, ![1024]⟩
abbrev S256 : Shape := ⟨1, ![256]⟩
abbrev S8 : Shape := ⟨1, ![8]⟩
abbrev S128 : Shape := ⟨1, ![128]⟩
abbrev S16x256 : Shape := ⟨2, ![16, 256]⟩

abbrev nBuf : Space → Nat
  | .hbm => 61
  | .vmem => 2
  | .smem => 0
  | _ => 0

abbrev bufTy : (tb : Table) → Fin (tcTables nBuf tb) → BufTy
  | .hbm, ⟨0, _⟩ => ⟨S8x2x9216, .f32⟩
  | .hbm, ⟨1, _⟩ => ⟨S8x9216, .f32⟩
  | .hbm, ⟨2, _⟩ => ⟨S8x2x3x1024, .f32⟩
  | .hbm, ⟨3, _⟩ => ⟨S8x1024, .f32⟩
  | .hbm, ⟨4, _⟩ => ⟨S8x1024, .f32⟩
  | .hbm, ⟨5, _⟩ => ⟨S8x256, .f32⟩
  | .hbm, ⟨6, _⟩ => ⟨S8x256, .f32⟩
  | .hbm, ⟨7, _⟩ => ⟨S8x8, .f32⟩
  | .hbm, ⟨8, _⟩ => ⟨S8x128, .f32⟩
  | .hbm, ⟨9, _⟩ => ⟨S8x16x256, .f32⟩
  | .hbm, ⟨10, _⟩ => ⟨S8x16x256, .f32⟩
  | .hbm, ⟨11, _⟩ => ⟨S8x1x1024, .f32⟩
  | .hbm, ⟨12, _⟩ => ⟨S8x18432, .f32⟩
  | .hbm, ⟨13, _⟩ => ⟨S8x6144, .f32⟩
  | .hbm, ⟨14, _⟩ => ⟨S8x4096, .f32⟩
  | .hbm, ⟨15, _⟩ => ⟨S8x4096, .f32⟩
  | .hbm, ⟨16, _⟩ => ⟨S8x1024, .f32⟩
  | .hbm, ⟨17, _⟩ => ⟨S8x45704, .f32⟩
  | .hbm, ⟨18, _⟩ => ⟨S_, .i32⟩
  | .hbm, ⟨19, _⟩ => ⟨S_, .f32⟩
  | .hbm, ⟨20, _⟩ => ⟨S8x45824, .f32⟩
  | .hbm, ⟨21, _⟩ => ⟨S8x1x45824, .f32⟩
  | .hbm, ⟨22, _⟩ => ⟨S8x45824, .f32⟩
  | .hbm, ⟨23, _⟩ => ⟨S1x45824, .f32⟩
  | .hbm, ⟨24, _⟩ => ⟨S1x18432, .f32⟩
  | .hbm, ⟨25, _⟩ => ⟨S1x2x9216, .f32⟩
  | .hbm, ⟨26, _⟩ => ⟨S1x9216, .f32⟩
  | .hbm, ⟨27, _⟩ => ⟨S1x6144, .f32⟩
  | .hbm, ⟨28, _⟩ => ⟨S1x2x3x1024, .f32⟩
  | .hbm, ⟨29, _⟩ => ⟨S1x1024, .f32⟩
  | .hbm, ⟨30, _⟩ => ⟨S1x1024, .f32⟩
  | .hbm, ⟨31, _⟩ => ⟨S1x256, .f32⟩
  | .hbm, ⟨32, _⟩ => ⟨S1x256, .f32⟩
  | .hbm, ⟨33, _⟩ => ⟨S1x8, .f32⟩
  | .hbm, ⟨34, _⟩ => ⟨S1x128, .f32⟩
  | .hbm, ⟨35, _⟩ => ⟨S1x4096, .f32⟩
  | .hbm, ⟨36, _⟩ => ⟨S1x16x256, .f32⟩
  | .hbm, ⟨37, _⟩ => ⟨S1x4096, .f32⟩
  | .hbm, ⟨38, _⟩ => ⟨S1x16x256, .f32⟩
  | .hbm, ⟨39, _⟩ => ⟨S1x1024, .f32⟩
  | .hbm, ⟨40, _⟩ => ⟨S1x1x1024, .f32⟩
  | .hbm, ⟨41, _⟩ => ⟨S2x9216, .f32⟩
  | .hbm, ⟨42, _⟩ => ⟨S9216, .f32⟩
  | .hbm, ⟨43, _⟩ => ⟨S2x3x1024, .f32⟩
  | .hbm, ⟨44, _⟩ => ⟨S1024, .f32⟩
  | .hbm, ⟨45, _⟩ => ⟨S1024, .f32⟩
  | .hbm, ⟨46, _⟩ => ⟨S256, .f32⟩
  | .hbm, ⟨47, _⟩ => ⟨S256, .f32⟩
  | .hbm, ⟨48, _⟩ => ⟨S8, .f32⟩
  | .hbm, ⟨49, _⟩ => ⟨S128, .f32⟩
  | .hbm, ⟨50, _⟩ => ⟨S16x256, .f32⟩
  | .hbm, ⟨51, _⟩ => ⟨S16x256, .f32⟩
  | .hbm, ⟨52, _⟩ => ⟨S1x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S9216, .f32⟩
  | .hbm, ⟨57, _⟩ => ⟨S1x9216, .f32⟩
  | .hbm, ⟨58, _⟩ => ⟨S1x9216, .f32⟩
  | .hbm, ⟨59, _⟩ => ⟨S2x9216, .f32⟩
  | .hbm, ⟨60, _⟩ => ⟨S2x9216, .f32⟩
  | .local _ .vmem, ⟨0, _⟩ => ⟨S8x45824, .f32⟩
  | .local _ .vmem, ⟨1, _⟩ => ⟨S1x45824, .f32⟩
  | _, _ => ⟨S8x2x9216, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_cst_0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x45824 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x45824 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x2x9216 : Shape := ⟨3, ![8, 2, 9216]⟩
abbrev S8x9216 : Shape := ⟨2, ![8, 9216]⟩
abbrev S8x2x3x1024 : Shape := ⟨4, ![8, 2, 3, 1024]⟩
abbrev S8x1024 : Shape := ⟨2, ![8, 1024]⟩
abbrev S8x256 : Shape := ⟨2, ![8, 256]⟩
abbrev S8x8 : Shape := ⟨2, ![8, 8]⟩
abbrev S8x128 : Shape := ⟨2, ![8, 128]⟩
abbrev S8x16x256 : Shape := ⟨3, ![8, 16, 256]⟩
abbrev S8x1x1024 : Shape := ⟨3, ![8, 1, 1024]⟩
abbrev S_ : Shape := ⟨0, ![]⟩
abbrev S2x3x1024 : Shape := ⟨3, ![2, 3, 1024]⟩
abbrev S1024 : Shape := ⟨1, ![1024]⟩
abbrev S256 : Shape := ⟨1, ![256]⟩
abbrev S8 : Shape := ⟨1, ![8]⟩
abbrev S128 : Shape := ⟨1, ![128]⟩
abbrev S16x256 : Shape := ⟨2, ![16, 256]⟩
abbrev S1x1024 : Shape := ⟨2, ![1, 1024]⟩
abbrev S8x1x9216 : Shape := ⟨3, ![8, 1, 9216]⟩
abbrev S9216 : Shape := ⟨1, ![9216]⟩
abbrev S1x9216 : Shape := ⟨2, ![1, 9216]⟩
abbrev S2x9216 : Shape := ⟨2, ![2, 9216]⟩

abbrev nBuf : Space → Nat
  | .hbm => 48
  | .vmem => 0
  | .smem => 0
  | _ => 0

abbrev bufTy : (tb : Table) → Fin (tcTables nBuf tb) → BufTy
  | .hbm, ⟨0, _⟩ => ⟨S8x2x9216, .f32⟩
  | .hbm, ⟨1, _⟩ => ⟨S8x9216, .f32⟩
  | .hbm, ⟨2, _⟩ => ⟨S8x2x3x1024, .f32⟩
  | .hbm, ⟨3, _⟩ => ⟨S8x1024, .f32⟩
  | .hbm, ⟨4, _⟩ => ⟨S8x1024, .f32⟩
  | .hbm, ⟨5, _⟩ => ⟨S8x256, .f32⟩
  | .hbm, ⟨6, _⟩ => ⟨S8x256, .f32⟩
  | .hbm, ⟨7, _⟩ => ⟨S8x8, .f32⟩
  | .hbm, ⟨8, _⟩ => ⟨S8x128, .f32⟩
  | .hbm, ⟨9, _⟩ => ⟨S8x16x256, .f32⟩
  | .hbm, ⟨10, _⟩ => ⟨S8x16x256, .f32⟩
  | .hbm, ⟨11, _⟩ => ⟨S8x1x1024, .f32⟩
  | .hbm, ⟨12, _⟩ => ⟨S_, .f32⟩
  | .hbm, ⟨13, _⟩ => ⟨S2x3x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S_, .f32⟩
  | .hbm, ⟨31, _⟩ => ⟨S1x1024, .f32⟩
  | .hbm, ⟨32, _⟩ => ⟨S8x1x9216, .f32⟩
  | .hbm, ⟨33, _⟩ => ⟨S8x9216, .f32⟩
  | .hbm, ⟨34, _⟩ => ⟨S_, .f32⟩
  | .hbm, ⟨35, _⟩ => ⟨S9216, .f32⟩
  | .hbm, ⟨36, _⟩ => ⟨S_, .f32⟩
  | .hbm, ⟨37, _⟩ => ⟨S9216, .f32⟩
  | .hbm, ⟨38, _⟩ => ⟨S9216, .f32⟩
  | .hbm, ⟨39, _⟩ => ⟨S8x1x9216, .f32⟩
  | .hbm, ⟨40, _⟩ => ⟨S8x9216, .f32⟩
  | .hbm, ⟨41, _⟩ => ⟨S_, .f32⟩
  | .hbm, ⟨42, _⟩ => ⟨S9216, .f32⟩
  | .hbm, ⟨43, _⟩ => ⟨S_, .f32⟩
  | .hbm, ⟨44, _⟩ => ⟨S_, .f32⟩
  | .hbm, ⟨45, _⟩ => ⟨S1x9216, .f32⟩
  | .hbm, ⟨46, _⟩ => ⟨S1x9216, .f32⟩
  | .hbm, ⟨47, _⟩ => ⟨S2x9216, .f32⟩
  | _, _ => ⟨S8x2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_cst_8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_9 : Ref sig .tc := ⟨.hbm, 34, rfl⟩
abbrev main_v12 : Ref sig .tc := ⟨.hbm, 35, rfl⟩
abbrev main_cst_10 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_11 : Ref sig .tc := ⟨.hbm, 41, rfl⟩
abbrev main_v17 : Ref sig .tc := ⟨.hbm, 42, rfl⟩
abbrev main_cst_12 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩

abbrev nD : Nat := 1
abbrev τ : Topo := Topo.v7x

variable {F : FTy → Type} [FloatOps F]
-- ==== SumCtxKernel.lean ====
abbrev S8x1024 : Shape := ⟨2, ![8, 1024]⟩
abbrev S1x1024 : Shape := ⟨2, ![1, 1024]⟩
abbrev S1024 : Shape := ⟨1, ![1024]⟩

abbrev nBuf : Space → Nat
  | .hbm => 3
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1024, .f32⟩
  | .local _ .vmem, ⟨0, _⟩ => ⟨S8x1024, .f32⟩
  | .local _ .vmem, ⟨1, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumCtxReferenceIdeal.lean ====
abbrev S8x1024 : Shape := ⟨2, ![8, 1024]⟩
abbrev S_ : Shape := ⟨0, ![]⟩
abbrev S1024 : Shape := ⟨1, ![1024]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S_, .f32⟩
  | .hbm, ⟨2, _⟩ => ⟨S1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdalnKernel.lean ====
abbrev S16x1024 : Shape := ⟨2, ![16, 1024]⟩
abbrev S2x16x1152 : Shape := ⟨3, ![2, 16, 1152]⟩
abbrev S2x1024x1152 : Shape := ⟨3, ![2, 1024, 1152]⟩
abbrev S_ : Shape := ⟨0, ![]⟩
abbrev S1024x16 : Shape := ⟨2, ![1024, 16]⟩
abbrev S2x16x1024 : Shape := ⟨3, ![2, 16, 1024]⟩
abbrev S1x16x1152 : Shape := ⟨3, ![1, 16, 1152]⟩
abbrev S1x1024x1152 : Shape := ⟨3, ![1, 1024, 1152]⟩
abbrev S1x16x1024 : Shape := ⟨3, ![1, 16, 1024]⟩
abbrev S16x1152 : Shape := ⟨2, ![16, 1152]⟩
abbrev S1024x1152 : Shape := ⟨2, ![1024, 1152]⟩

abbrev nBuf : Space → Nat
  | .hbm => 16
  | .vmem => 10
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x1024x1152, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x16, .f32⟩
  | .hbm, ⟨13, _⟩ => ⟨S1024x16, .bf16⟩
  | .hbm, ⟨14, _⟩ => ⟨S2x1024x1152, .f32⟩
  | .hbm, ⟨15, _⟩ => ⟨S2x16x1024, .f32⟩
  | .local _ .vmem, ⟨0, _⟩ => ⟨S16x1024, .f32⟩
  | .local _ .vmem, ⟨1, _⟩ => ⟨S1024x16, .bf16⟩
  | .local _ .vmem, ⟨2, _⟩ => ⟨S1x16x1152, .f32⟩
  | .local _ .vmem, ⟨3, _⟩ => ⟨S1x16x1152, .f32⟩
  | .local _ .vmem, ⟨4, _⟩ => ⟨S1x1024x1152, .f32⟩
  | .local _ .vmem, ⟨5, _⟩ => ⟨S1x1024x1152, .f32⟩
  | .local _ .vmem, ⟨6, _⟩ => ⟨S1x1024x1152, .f32⟩
  | .local _ .vmem, ⟨7, _⟩ => ⟨S1x1024x1152, .f32⟩
  | .local _ .vmem, ⟨8, _⟩ => ⟨S1x16x1024, .f32⟩
  | .local _ .vmem, ⟨9, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AdalnReferenceIdeal.lean ====
abbrev S16x1024 : Shape := ⟨2, ![16, 1024]⟩
abbrev S2x16x1152 : Shape := ⟨3, ![2, 16, 1152]⟩
abbrev S2x1024x1152 : Shape := ⟨3, ![2, 1024, 1152]⟩
abbrev S1x1024x1152 : Shape := ⟨3, ![1, 1024, 1152]⟩
abbrev S1024x1152 : Shape := ⟨2, ![1024, 1152]⟩
abbrev S_ : Shape := ⟨0, ![]⟩
abbrev S16x1152 : Shape := ⟨2, ![16, 1152]⟩
abbrev S1x16x1152 : Shape := ⟨3, ![1, 16, 1152]⟩
abbrev S1152x1024 : Shape := ⟨2, ![1152, 1024]⟩
abbrev S1x16x1024 : Shape := ⟨3, ![1, 16, 1024]⟩
abbrev S2x16x1024 : Shape := ⟨3, ![2, 16, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x1024x1152, .f32⟩
  | .hbm, ⟨3, _⟩ => ⟨S1x1024x1152, .f32⟩
  | .hbm, ⟨4, _⟩ => ⟨S1024x1152, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1152, .f32⟩
  | .hbm, ⟨19, _⟩ => ⟨S1x16x1152, .f32⟩
  | .hbm, ⟨20, _⟩ => ⟨S16x1152, .f32⟩
  | .hbm, ⟨21, _⟩ => ⟨S1152x1024, .f32⟩
  | .hbm, ⟨22, _⟩ => ⟨S1024x1152, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S1x1024x1152, .f32⟩
  | .hbm, ⟨29, _⟩ => ⟨S1024x1152, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S16x1024, .f32⟩
  | .hbm, ⟨42, _⟩ => ⟨S16x1024, .f32⟩
  | .hbm, ⟨43, _⟩ => ⟨S16x1152, .f32⟩
  | .hbm, ⟨44, _⟩ => ⟨S1x16x1152, .f32⟩
  | .hbm, ⟨45, _⟩ => ⟨S16x1152, .f32⟩
  | .hbm, ⟨46, _⟩ => ⟨S1152x1024, .f32⟩
  | .hbm, ⟨47, _⟩ => ⟨S1024x1152, .f32⟩
  | .hbm, ⟨48, _⟩ => ⟨S16x1024, .f32⟩
  | .hbm, ⟨49, _⟩ => ⟨S16x1024, .f32⟩
  | .hbm, ⟨50, _⟩ => ⟨S16x1024, .f32⟩
  | .hbm, ⟨51, _⟩ => ⟨S16x1024, .f32⟩
  | .hbm, ⟨52, _⟩ => ⟨S16x1024, .f32⟩
  | .hbm, ⟨53, _⟩ => ⟨S1x1024x1152, .f32⟩
  | .hbm, ⟨54, _⟩ => ⟨S1x1024x1152, .f32⟩
  | .hbm, ⟨55, _⟩ => ⟨S2x1024x1152, .f32⟩
  | .hbm, ⟨56, _⟩ => ⟨S1x16x1024, .f32⟩
  | .hbm, ⟨57, _⟩ => ⟨S1x16x1024, .f32⟩
  | .hbm, ⟨58, _⟩ => ⟨S2x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_v12_2 : Ref sig .tc := ⟨.hbm, 37, rfl⟩
abbrev main_call2_cst_1 : Ref sig .tc := ⟨.hbm, 38, rfl⟩
abbrev main_call2_v6 : Ref sig .tc := ⟨.hbm, 39, rfl⟩
abbrev main_call2_v7 : Ref sig .tc := ⟨.hbm, 40, rfl⟩
abbrev main_v12_1 : Ref sig .tc := ⟨.hbm, 41, rfl⟩
abbrev main_v12_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== SumWoKernel.lean ====
abbrev S8x1x352x1024 : Shape := ⟨4, ![8, 1, 352, 1024]⟩
abbrev S1x2816x1024 : Shape := ⟨3, ![1, 2816, 1024]⟩
abbrev S1 : Shape := ⟨1, ![1]⟩
abbrev S1x352x1024 : Shape := ⟨3, ![1, 352, 1024]⟩
abbrev S352x1024 : Shape := ⟨2, ![352, 1024]⟩
abbrev S1x1x352x1024 : Shape := ⟨4, ![1, 1, 352, 1024]⟩

abbrev nBuf : Space → Nat
  | .hbm => 3
  | .vmem => 3
  | .smem => 1
  | _ => 0

abbrev bufTy : (tb : Table) → Fin (tcTables nBuf tb) → BufTy
  | .hbm, ⟨0, _⟩ => ⟨S8x1x352x1024, .bf16⟩
  | .hbm, ⟨1, _⟩ => ⟨S1x2816x1024, .bf16⟩
  | .hbm, ⟨2, _⟩ => ⟨S1x352x1024, .f32⟩
  | .local _ .vmem, ⟨0, _⟩ => ⟨S8x1x352x1024, .bf16⟩
  | .local _ .vmem, ⟨1, _⟩ => ⟨S1x352x1024, .bf16⟩
  | .local _ .vmem, ⟨2, _⟩ => ⟨S1x352x1024, .f32⟩
  | .local _ .smem, ⟨0, _⟩ => ⟨S1, .i32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SumWoKernelIdeal.lean ====
abbrev S8x1x352x1024 : Shape := ⟨4, ![8, 1, 352, 1024]⟩
abbrev S1x2816x1024 : Shape := ⟨3, ![1, 2816, 1024]⟩
abbrev S1 : Shape := ⟨1, ![1]⟩
abbrev S1x352x1024 : Shape := ⟨3, ![1, 352, 1024]⟩
abbrev S352x1024 : Shape := ⟨2, ![352, 1024]⟩
abbrev S1x1x352x1024 : Shape := ⟨4, ![1, 1, 352, 1024]⟩

abbrev nBuf : Space → Nat
  | .hbm => 3
  | .vmem => 3
  | .smem => 1
  | _ => 0

abbrev bufTy : (tb : Table) → Fin (tcTables nBuf tb) → BufTy
  | .hbm, ⟨0, _⟩ => ⟨S8x1x352x1024, .bf16⟩
  | .hbm, ⟨1, _⟩ => ⟨S1x2816x1024, .bf16⟩
  | .hbm, ⟨2, _⟩ => ⟨S1x352x1024, .f32⟩
  | .local _ .vmem, ⟨0, _⟩ => ⟨S8x1x352x1024, .bf16⟩
  | .local _ .vmem, ⟨1, _⟩ => ⟨S1x352x1024, .bf16⟩
  | .local _ .vmem, ⟨2, _⟩ => ⟨S1x352x1024, .f32⟩
  | .local _ .smem, ⟨0, _⟩ => ⟨S1, .i32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SumWoReferenceIdeal.lean ====
abbrev S8x1x352x1024 : Shape := ⟨4, ![8, 1, 352, 1024]⟩
abbrev S1x2816x1024 : Shape := ⟨3, ![1, 2816, 1024]⟩
abbrev S1 : Shape := ⟨1, ![1]⟩
abbrev S8 : Shape := ⟨1, ![8]⟩
abbrev S8x1x1x1 : Shape := ⟨4, ![8, 1, 1, 1]⟩
abbrev S1x8x352x1024 : Shape := ⟨4, ![1, 8, 352, 1024]⟩
abbrev S_ : Shape := ⟨0, ![]⟩
abbrev S1x352x1024 : Shape := ⟨3, ![1, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x1x352x1024, .bf16⟩
  | .hbm, ⟨1, _⟩ => ⟨S1x2816x1024, .bf16⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1x1, .i1⟩
  | .hbm, ⟨7, _⟩ => ⟨S1x8x352x1024, .bf16⟩
  | .hbm, ⟨8, _⟩ => ⟨S8x1x352x1024, .bf16⟩
  | .hbm, ⟨9, _⟩ => ⟨S8x1x352x1024, .i1⟩
  | .hbm, ⟨10, _⟩ => ⟨S8x1x352x1024, .bf16⟩
  | .hbm, ⟨11, _⟩ => ⟨S8x1x352x1024, .f32⟩
  | .hbm, ⟨12, _⟩ => ⟨S_, .f32⟩
  | .hbm, ⟨13, _⟩ => ⟨S1x352x1024, .f32⟩
  | _, _ => ⟨S8x1x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SumOutKernel.lean ====
abbrev S8x1x128x1024 : Shape := ⟨4, ![8, 1, 128, 1024]⟩
abbrev S1x1024x1024 : Shape := ⟨3, ![1, 1024, 1024]⟩
abbrev S1 : Shape := ⟨1, ![1]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 3
  | .vmem => 3
  | .smem => 1
  | _ => 0

abbrev bufTy : (tb : Table) → Fin (tcTables nBuf tb) → BufTy
  | .hbm, ⟨0, _⟩ => ⟨S8x1x128x1024, .bf16⟩
  | .hbm, ⟨1, _⟩ => ⟨S1x1024x1024, .bf16⟩
  | .hbm, ⟨2, _⟩ => ⟨S1x128x1024, .f32⟩
  | .local _ .vmem, ⟨0, _⟩ => ⟨S8x1x128x1024, .bf16⟩
  | .local _ .vmem, ⟨1, _⟩ => ⟨S1x128x1024, .bf16⟩
  | .local _ .vmem, ⟨2, _⟩ => ⟨S1x128x1024, .f32⟩
  | .local _ .smem, ⟨0, _⟩ => ⟨S1, .i32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SumOutKernelIdeal.lean ====
abbrev S8x1x128x1024 : Shape := ⟨4, ![8, 1, 128, 1024]⟩
abbrev S1x1024x1024 : Shape := ⟨3, ![1, 1024, 1024]⟩
abbrev S1 : Shape := ⟨1, ![1]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 3
  | .vmem => 3
  | .smem => 1
  | _ => 0

abbrev bufTy : (tb : Table) → Fin (tcTables nBuf tb) → BufTy
  | .hbm, ⟨0, _⟩ => ⟨S8x1x128x1024, .bf16⟩
  | .hbm, ⟨1, _⟩ => ⟨S1x1024x1024, .bf16⟩
  | .hbm, ⟨2, _⟩ => ⟨S1x128x1024, .f32⟩
  | .local _ .vmem, ⟨0, _⟩ => ⟨S8x1x128x1024, .bf16⟩
  | .local _ .vmem, ⟨1, _⟩ => ⟨S1x128x1024, .bf16⟩
  | .local _ .vmem, ⟨2, _⟩ => ⟨S1x128x1024, .f32⟩
  | .local _ .smem, ⟨0, _⟩ => ⟨S1, .i32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== SumOutReferenceIdeal.lean ====
abbrev S8x1x128x1024 : Shape := ⟨4, ![8, 1, 128, 1024]⟩
abbrev S1x1024x1024 : Shape := ⟨3, ![1, 1024, 1024]⟩
abbrev S1 : Shape := ⟨1, ![1]⟩
abbrev S8 : Shape := ⟨1, ![8]⟩
abbrev S8x1x1x1 : Shape := ⟨4, ![8, 1, 1, 1]⟩
abbrev S1x8x128x1024 : Shape := ⟨4, ![1, 8, 128, 1024]⟩
abbrev S_ : Shape := ⟨0, ![]⟩
abbrev S1x128x1024 : Shape := ⟨3, ![1, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x1x128x1024, .bf16⟩
  | .hbm, ⟨1, _⟩ => ⟨S1x1024x1024, .bf16⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1x1, .i1⟩
  | .hbm, ⟨7, _⟩ => ⟨S1x8x128x1024, .bf16⟩
  | .hbm, ⟨8, _⟩ => ⟨S8x1x128x1024, .bf16⟩
  | .hbm, ⟨9, _⟩ => ⟨S8x1x128x1024, .i1⟩
  | .hbm, ⟨10, _⟩ => ⟨S8x1x128x1024, .bf16⟩
  | .hbm, ⟨11, _⟩ => ⟨S8x1x128x1024, .f32⟩
  | .hbm, ⟨12, _⟩ => ⟨S_, .f32⟩
  | .hbm, ⟨13, _⟩ => ⟨S1x128x1024, .f32⟩
  | _, _ => ⟨S8x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SumWiKernel.lean ====
abbrev S8x1x704x1024 : Shape := ⟨4, ![8, 1, 704, 1024]⟩
abbrev S1x5632x1024 : Shape := ⟨3, ![1, 5632, 1024]⟩
abbrev S1 : Shape := ⟨1, ![1]⟩
abbrev S1x704x1024 : Shape := ⟨3, ![1, 704, 1024]⟩
abbrev S8x1x352x1024 : Shape := ⟨4, ![8, 1, 352, 1024]⟩
abbrev S1x352x1024 : Shape := ⟨3, ![1, 352, 1024]⟩
abbrev S352x1024 : Shape := ⟨2, ![352, 1024]⟩
abbrev S1x1x352x1024 : Shape := ⟨4, ![1, 1, 352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x1x704x1024, .bf16⟩
  | .hbm, ⟨1, _⟩ => ⟨S1x5632x1024, .bf16⟩
  | .hbm, ⟨2, _⟩ => ⟨S1x704x1024, .f32⟩
  | .local _ .vmem, ⟨0, _⟩ => ⟨S8x1x352x1024, .bf16⟩
  | .local _ .vmem, ⟨1, _⟩ => ⟨S8x1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .f32⟩
  | .local _ .vmem, ⟨5, _⟩ => ⟨S1x352x1024, .f32⟩
  | .local _ .smem, ⟨0, _⟩ => ⟨S1, .i32⟩
  | _, _ => ⟨S8x1x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumWiKernelIdeal.lean ====
abbrev S8x1x704x1024 : Shape := ⟨4, ![8, 1, 704, 1024]⟩
abbrev S1x5632x1024 : Shape := ⟨3, ![1, 5632, 1024]⟩
abbrev S1 : Shape := ⟨1, ![1]⟩
abbrev S1x704x1024 : Shape := ⟨3, ![1, 704, 1024]⟩
abbrev S8x1x352x1024 : Shape := ⟨4, ![8, 1, 352, 1024]⟩
abbrev S1x352x1024 : Shape := ⟨3, ![1, 352, 1024]⟩
abbrev S352x1024 : Shape := ⟨2, ![352, 1024]⟩
abbrev S1x1x352x1024 : Shape := ⟨4, ![1, 1, 352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x1x704x1024, .bf16⟩
  | .hbm, ⟨1, _⟩ => ⟨S1x5632x1024, .bf16⟩
  | .hbm, ⟨2, _⟩ => ⟨S1x704x1024, .f32⟩
  | .local _ .vmem, ⟨0, _⟩ => ⟨S8x1x352x1024, .bf16⟩
  | .local _ .vmem, ⟨1, _⟩ => ⟨S8x1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .f32⟩
  | .local _ .vmem, ⟨5, _⟩ => ⟨S1x352x1024, .f32⟩
  | .local _ .smem, ⟨0, _⟩ => ⟨S1, .i32⟩
  | _, _ => ⟨S8x1x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumWiReferenceIdeal.lean ====
abbrev S8x1x704x1024 : Shape := ⟨4, ![8, 1, 704, 1024]⟩
abbrev S1x5632x1024 : Shape := ⟨3, ![1, 5632, 1024]⟩
abbrev S1 : Shape := ⟨1, ![1]⟩
abbrev S8 : Shape := ⟨1, ![8]⟩
abbrev S8x1x1x1 : Shape := ⟨4, ![8, 1, 1, 1]⟩
abbrev S1x8x704x1024 : Shape := ⟨4, ![1, 8, 704, 1024]⟩
abbrev S_ : Shape := ⟨0, ![]⟩
abbrev S1x704x1024 : Shape := ⟨3, ![1, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x1x704x1024, .bf16⟩
  | .hbm, ⟨1, _⟩ => ⟨S1x5632x1024, .bf16⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1x1, .i1⟩
  | .hbm, ⟨7, _⟩ => ⟨S1x8x704x1024, .bf16⟩
  | .hbm, ⟨8, _⟩ => ⟨S8x1x704x1024, .bf16⟩
  | .hbm, ⟨9, _⟩ => ⟨S8x1x704x1024, .i1⟩
  | .hbm, ⟨10, _⟩ => ⟨S8x1x704x1024, .bf16⟩
  | .hbm, ⟨11, _⟩ => ⟨S8x1x704x1024, .f32⟩
  | .hbm, ⟨12, _⟩ => ⟨S_, .f32⟩
  | .hbm, ⟨13, _⟩ => ⟨S1x704x1024, .f32⟩
  | _, _ => ⟨S8x1x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SumPoolKernel.lean ====
abbrev S8x4x32x256 : Shape := ⟨4, ![8, 4, 32, 256]⟩
abbrev S4x256x256 : Shape := ⟨3, ![4, 256, 256]⟩
abbrev S1 : Shape := ⟨1, ![1]⟩
abbrev S4x32x256 : Shape := ⟨3, ![4, 32, 256]⟩
abbrev S8x1x32x256 : Shape := ⟨4, ![8, 1, 32, 256]⟩
abbrev S1x32x256 : Shape := ⟨3, ![1, 32, 256]⟩
abbrev S32x256 : Shape := ⟨2, ![32, 256]⟩
abbrev S1x1x32x256 : Shape := ⟨4, ![1, 1, 32, 256]⟩

abbrev nBuf : Space → Nat
  | .hbm => 3
  | .vmem => 6
  | .smem => 1
  | _ => 0

abbrev bufTy : (tb : Table) → Fin (tcTables nBuf tb) → BufTy
  | .hbm, ⟨0, _⟩ => ⟨S8x4x32x256, .bf16⟩
  | .hbm, ⟨1, _⟩ => ⟨S4x256x256, .bf16⟩
  | .hbm, ⟨2, _⟩ => ⟨S4x32x256, .f32⟩
  | .local _ .vmem, ⟨0, _⟩ => ⟨S8x1x32x256, .bf16⟩
  | .local _ .vmem, ⟨1, _⟩ => ⟨S8x1x32x256, .bf16⟩
  | .local _ .vmem, ⟨2, _⟩ => ⟨S1x32x256, .bf16⟩
  | .local _ .vmem, ⟨3, _⟩ => ⟨S1x32x256, .bf16⟩
  | .local _ .vmem, ⟨4, _⟩ => ⟨S1x32x256, .f32⟩
  | .local _ .vmem, ⟨5, _⟩ => ⟨S1x32x256, .f32⟩
  | .local _ .smem, ⟨0, _⟩ => ⟨S1, .i32⟩
  | _, _ => ⟨S8x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumPoolKernelIdeal.lean ====
abbrev S8x4x32x256 : Shape := ⟨4, ![8, 4, 32, 256]⟩
abbrev S4x256x256 : Shape := ⟨3, ![4, 256, 256]⟩
abbrev S1 : Shape := ⟨1, ![1]⟩
abbrev S4x32x256 : Shape := ⟨3, ![4, 32, 256]⟩
abbrev S8x1x32x256 : Shape := ⟨4, ![8, 1, 32, 256]⟩
abbrev S1x32x256 : Shape := ⟨3, ![1, 32, 256]⟩
abbrev S32x256 : Shape := ⟨2, ![32, 256]⟩
abbrev S1x1x32x256 : Shape := ⟨4, ![1, 1, 32, 256]⟩

abbrev nBuf : Space → Nat
  | .hbm => 3
  | .vmem => 6
  | .smem => 1
  | _ => 0

abbrev bufTy : (tb : Table) → Fin (tcTables nBuf tb) → BufTy
  | .hbm, ⟨0, _⟩ => ⟨S8x4x32x256, .bf16⟩
  | .hbm, ⟨1, _⟩ => ⟨S4x256x256, .bf16⟩
  | .hbm, ⟨2, _⟩ => ⟨S4x32x256, .f32⟩
  | .local _ .vmem, ⟨0, _⟩ => ⟨S8x1x32x256, .bf16⟩
  | .local _ .vmem, ⟨1, _⟩ => ⟨S8x1x32x256, .bf16⟩
  | .local _ .vmem, ⟨2, _⟩ => ⟨S1x32x256, .bf16⟩
  | .local _ .vmem, ⟨3, _⟩ => ⟨S1x32x256, .bf16⟩
  | .local _ .vmem, ⟨4, _⟩ => ⟨S1x32x256, .f32⟩
  | .local _ .vmem, ⟨5, _⟩ => ⟨S1x32x256, .f32⟩
  | .local _ .smem, ⟨0, _⟩ => ⟨S1, .i32⟩
  | _, _ => ⟨S8x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumPoolReferenceIdeal.lean ====
abbrev S8x4x32x256 : Shape := ⟨4, ![8, 4, 32, 256]⟩
abbrev S4x256x256 : Shape := ⟨3, ![4, 256, 256]⟩
abbrev S1 : Shape := ⟨1, ![1]⟩
abbrev S8 : Shape := ⟨1, ![8]⟩
abbrev S8x1x1x1 : Shape := ⟨4, ![8, 1, 1, 1]⟩
abbrev S4x8x32x256 : Shape := ⟨4, ![4, 8, 32, 256]⟩
abbrev S_ : Shape := ⟨0, ![]⟩
abbrev S4x32x256 : Shape := ⟨3, ![4, 32, 256]⟩

abbrev nBuf : Space → Nat
  | .hbm => 14
  | .vmem => 0
  | .smem => 0
  | _ => 0

abbrev bufTy : (tb : Table) → Fin (tcTables nBuf tb) → BufTy
  | .hbm, ⟨0, _⟩ => ⟨S8x4x32x256, .bf16⟩
  | .hbm, ⟨1, _⟩ => ⟨S4x256x256, .bf16⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1x1, .i1⟩
  | .hbm, ⟨7, _⟩ => ⟨S4x8x32x256, .bf16⟩
  | .hbm, ⟨8, _⟩ => ⟨S8x4x32x256, .bf16⟩
  | .hbm, ⟨9, _⟩ => ⟨S8x4x32x256, .i1⟩
  | .hbm, ⟨10, _⟩ => ⟨S8x4x32x256, .bf16⟩
  | .hbm, ⟨11, _⟩ => ⟨S8x4x32x256, .f32⟩
  | .hbm, ⟨12, _⟩ => ⟨S_, .f32⟩
  | .hbm, ⟨13, _⟩ => ⟨S4x32x256, .f32⟩
  | _, _ => ⟨S8x4x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SumInKernel.lean ====
abbrev S8x1x304x1024 : Shape := ⟨4, ![8, 1, 304, 1024]⟩
abbrev S1x2432x1024 : Shape := ⟨3, ![1, 2432, 1024]⟩
abbrev S1 : Shape := ⟨1, ![1]⟩
abbrev S1x304x1024 : Shape := ⟨3, ![1, 304, 1024]⟩
abbrev S8x1x16x1024 : Shape := ⟨4, ![8, 1, 16, 1024]⟩
abbrev S1x16x1024 : Shape := ⟨3, ![1, 16, 1024]⟩
abbrev S16x1024 : Shape := ⟨2, ![16, 1024]⟩
abbrev S1x1x16x1024 : Shape := ⟨4, ![1, 1, 16, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x1x304x1024, .bf16⟩
  | .hbm, ⟨1, _⟩ => ⟨S1x2432x1024, .bf16⟩
  | .hbm, ⟨2, _⟩ => ⟨S1x304x1024, .f32⟩
  | .local _ .vmem, ⟨0, _⟩ => ⟨S8x1x16x1024, .bf16⟩
  | .local _ .vmem, ⟨1, _⟩ => ⟨S8x1x16x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .f32⟩
  | .local _ .vmem, ⟨5, _⟩ => ⟨S1x16x1024, .f32⟩
  | .local _ .smem, ⟨0, _⟩ => ⟨S1, .i32⟩
  | _, _ => ⟨S8x1x304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 19], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c19_i32 : BitVec 32 := 19#32
  let v1 : BitVec 32 := Scalar.muli v0 c19_i32
  let v2 : BitVec 32 := Scalar.addi v1 arg1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumInReferenceIdeal.lean ====
abbrev S8x1x304x1024 : Shape := ⟨4, ![8, 1, 304, 1024]⟩
abbrev S1x2432x1024 : Shape := ⟨3, ![1, 2432, 1024]⟩
abbrev S1 : Shape := ⟨1, ![1]⟩
abbrev S8 : Shape := ⟨1, ![8]⟩
abbrev S8x1x1x1 : Shape := ⟨4, ![8, 1, 1, 1]⟩
abbrev S1x8x304x1024 : Shape := ⟨4, ![1, 8, 304, 1024]⟩
abbrev S_ : Shape := ⟨0, ![]⟩
abbrev S1x304x1024 : Shape := ⟨3, ![1, 304, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x1x304x1024, .bf16⟩
  | .hbm, ⟨1, _⟩ => ⟨S1x2432x1024, .bf16⟩
  | .hbm, ⟨2, _⟩ => ⟨S1, .i32⟩
  | .hbm, ⟨3, _⟩ => ⟨S8, .i32⟩
  | .hbm, ⟨4, _⟩ => ⟨S8, .i32⟩
  | .hbm, ⟨5, _⟩ => ⟨S8, .i1⟩
  | .hbm, ⟨6, _⟩ => ⟨S8x1x1x1, .i1⟩
  | .hbm, ⟨7, _⟩ => ⟨S1x8x304x1024, .bf16⟩
  | .hbm, ⟨8, _⟩ => ⟨S8x1x304x1024, .bf16⟩
  | .hbm, ⟨9, _⟩ => ⟨S8x1x304x1024, .i1⟩
  | .hbm, ⟨10, _⟩ => ⟨S8x1x304x1024, .bf16⟩
  | .hbm, ⟨11, _⟩ => ⟨S8x1x304x1024, .f32⟩
  | .hbm, ⟨12, _⟩ => ⟨S_, .f32⟩
  | .hbm, ⟨13, _⟩ => ⟨S1x304x1024, .f32⟩
  | _, _ => ⟨S8x1x304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== AdalnFwdKernel.lean ====
abbrev S16x1024 : Shape := ⟨2, ![16, 1024]⟩
abbrev S2x1024x1152 : Shape := ⟨3, ![2, 1024, 1152]⟩
abbrev S2x1152 : Shape := ⟨2, ![2, 1152]⟩
abbrev S2x1x1152 : Shape := ⟨3, ![2, 1, 1152]⟩
abbrev S2x16x1152 : Shape := ⟨3, ![2, 16, 1152]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x1152, .f32⟩
  | .hbm, ⟨2, _⟩ => ⟨S2x1152, .f32⟩
  | .hbm, ⟨3, _⟩ => ⟨S2x1x1152, .f32⟩
  | .hbm, ⟨4, _⟩ => ⟨S2x16x1152, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnFwdReferenceIdeal.lean ====
abbrev S16x1024 : Shape := ⟨2, ![16, 1024]⟩
abbrev S2x1024x1152 : Shape := ⟨3, ![2, 1024, 1152]⟩
abbrev S2x1152 : Shape := ⟨2, ![2, 1152]⟩
abbrev S1x1024x1152 : Shape := ⟨3, ![1, 1024, 1152]⟩
abbrev S1024x1152 : Shape := ⟨2, ![1024, 1152]⟩
abbrev S_ : Shape := ⟨0, ![]⟩
abbrev S16x1152 : Shape := ⟨2, ![16, 1152]⟩
abbrev S1x1152 : Shape := ⟨2, ![1, 1152]⟩
abbrev S1152 : Shape := ⟨1, ![1152]⟩
abbrev S1x16x1152 : Shape := ⟨3, ![1, 16, 1152]⟩
abbrev S2x16x1152 : Shape := ⟨3, ![2, 16, 1152]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x1152, .f32⟩
  | .hbm, ⟨2, _⟩ => ⟨S2x1152, .f32⟩
  | .hbm, ⟨3, _⟩ => ⟨S1x1024x1152, .f32⟩
  | .hbm, ⟨4, _⟩ => ⟨S1024x1152, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1152, .f32⟩
  | .hbm, ⟨15, _⟩ => ⟨S1x1152, .f32⟩
  | .hbm, ⟨16, _⟩ => ⟨S1152, .f32⟩
  | .hbm, ⟨17, _⟩ => ⟨S1x1152, .f32⟩
  | .hbm, ⟨18, _⟩ => ⟨S16x1152, .f32⟩
  | .hbm, ⟨19, _⟩ => ⟨S16x1152, .f32⟩
  | .hbm, ⟨20, _⟩ => ⟨S1x1024x1152, .f32⟩
  | .hbm, ⟨21, _⟩ => ⟨S1024x1152, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1152, .f32⟩
  | .hbm, ⟨32, _⟩ => ⟨S1x1152, .f32⟩
  | .hbm, ⟨33, _⟩ => ⟨S1152, .f32⟩
  | .hbm, ⟨34, _⟩ => ⟨S1x1152, .f32⟩
  | .hbm, ⟨35, _⟩ => ⟨S16x1152, .f32⟩
  | .hbm, ⟨36, _⟩ => ⟨S16x1152, .f32⟩
  | .hbm, ⟨37, _⟩ => ⟨S1x16x1152, .f32⟩
  | .hbm, ⟨38, _⟩ => ⟨S1x16x1152, .f32⟩
  | .hbm, ⟨39, _⟩ => ⟨S2x16x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.SwigluMath.lean ====
/-
  The derivative of gate · σ(gate) · up, in two arrangements, over the extended reals.

  The kernel multiplies the activation's gradient `d` by `u · (σ(a) · (1 + a · (1 − σ(a))))`; differentiating the forward
  line gives `d · u · σ(a) + (a · (d · u)) · (σ(a) · (1 − σ(a)))`. They agree where `d`, `a`, `u` are real numbers, not at
  every infinite one: there the product does not distribute.
-/
module

public import Idealize.ShloMosaic.Lib.Pointwise

@[expose] public section

noncomputable section

namespace Cert.SwigluMath

open Idealize.ShloMosaic

/-- Being a real number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.zero : Real' 0 := ⟨0, rfl⟩

theorem Real'.sum {ι : Type} (s : Finset ι) (f : ι → EReal) (h : ∀ i, Real' (f i)) : Real' (∑ i ∈ s, f i) :=
  Finset.sum_induction f Real' (fun _ _ => Real'.add) Real'.zero fun i _ => h i

/-- A value whose absolute value is below infinity is a real number. -/
theorem Real'.of_abs_lt {x : EReal} (h : max x (-x) < ⊤) : Real' x := by
  induction x with
  | bot => simp at h
  | top => simp at h
  | coe r => exact ⟨r, rfl⟩

/-- The factor of the gate's gradient: up · σ(gate) · (1 + gate · (1 − σ(gate))). -/
def facG (a u : EReal) : EReal := u * (Ideal.logistic a * (1 + a * (1 - Ideal.logistic a)))
/-- The factor of the up column's gradient: gate · σ(gate). -/
def facU (a : EReal) : EReal := a * Ideal.logistic a

/-- The gate's gradient as differentiating the forward line gives it. -/
def gradG (d a u : EReal) : EReal :=
  d * u * Ideal.logistic a + a * (d * u) * (Ideal.logistic a * (1 - Ideal.logistic a))

theorem gradG_eq {d a u : EReal} (hd : Real' d) (ha : Real' a) (hu : Real' u) : d * facG a u = gradG d a u := by
  obtain ⟨d, rfl⟩ := hd
  obtain ⟨a, rfl⟩ := ha
  obtain ⟨u, rfl⟩ := hu
  unfold facG gradG
  rw [Ideal.logistic_coe, ← EReal.coe_one]
  simp only [← EReal.coe_add, ← EReal.coe_mul, ← EReal.coe_sub]
  congr 1
  ring

/-- For the factor one, the gate may be infinite: σ(⊤) · (1 − σ(⊤)) and σ(⊥) are zero. -/
theorem gradG_one {d : EReal} (hd : Real' d) (a : EReal) : d * facG a 1 = gradG d a 1 := by
  have h1 : (1 : EReal) - 1 = 0 := by rw [← EReal.coe_one, ← EReal.coe_sub, sub_self, EReal.coe_zero]
  induction a with
  | bot => simp [facG, gradG]
  | top => simp [facG, gradG, h1]
  | coe r => exact gradG_eq hd ⟨r, rfl⟩ ⟨1, EReal.coe_one.symm⟩

/-- An array all of whose elements are below infinity in absolute value holds real numbers. -/
theorem real_of_test {s : Shape} (hb : (⟨0, ![]⟩ : Shape).BroadcastsInDim s (![] : Fin 0 → Fin s.rank)) (x : FVec Ideal s .f32)
    (h : cmpf .olt (Host.absf x) (broadcastInDim s ![] hb (constant (⟨0, ![]⟩ : Shape) .f32 0x7F800000#32 : FVec Ideal (⟨0, ![]⟩ : Shape) .f32)) = fun _ => 1#1) (i : s.Idx) :
    Real' (x i) := by
  have hi := congrFun h i
  have h1 : Ideal.cmp .olt (max (x i) (-(x i))) (Ideal.ofBits .f32 0x7F800000#32) = 1 := hi
  rw [Ideal.cmp_olt_eq_one, show Ideal.ofBits .f32 0x7F800000#32 = (⊤ : EReal) from by simp [Ideal.ofBits, Ideal.ieee]] at h1
  exact Real'.of_abs_lt h1

end Cert.SwigluMath

end
-- ==== Proof.DhBlocks.lean ====
/-
  The gradient of the feed-forward block's input: what one grid point of each of its three calls computes.

  The first call forms the gate and up columns of its 512 tokens and leaves, side by side, the two factors by which a
  gradient of the activation is multiplied; the second multiplies them by the activation's gradient; the third is a plain
  product. Each is read here at an element of its block, as sums of products.
-/
module

public import proofs.«01_k».proof.Proof.Gen.DhKernelIdeal.Frame
public import proofs.«01_k».proof.Proof.SwigluMath
public import Idealize.ShloMosaic.Lib.Pointwise
public import Idealize.ShloMosaic.Lib.Tactic

@[expose] public section

noncomputable section

open Idealize.ShloMosaic Idealize.ShloMosaic.TcCoe Idealize.SL.Sem

namespace Cert.DhKernelIdeal.Blocks

open Cert.DhKernelIdeal Cert.DhKernelIdeal.Gen Cert.SwigluMath

/-- Column `j` of the gate half, of the up half. -/
abbrev lo (j : Fin 2816) : Fin 5632 := ⟨j.val, by omega⟩
abbrev hi (j : Fin 2816) : Fin 5632 := ⟨2816 + j.val, by omega⟩

/-- The hidden layer before the gate: rows of `x` against the stacked, transposed weights' one layer. -/
def hid {n d : ℕ} (x : (⟨2, ![n, 1024]⟩ : Shape).Idx → EReal) (w : (⟨3, ![1, d, 1024]⟩ : Shape).Idx → EReal) (r : Fin n) (j : Fin d) : EReal :=
  ∑ k : Fin 1024, x (ix2 r k) * w (ix3 0 j k)

/-! ## The payloads at an element -/

theorem pay2_apply (x : Vec Ideal S512x1024 .bf16) (w : Vec Ideal S1x2816x1024 .bf16) (r : Fin 512) (j : Fin 2816) :
    k0_pay2 (F := Ideal) x w (ix2 r j) = hid x w r j := by
  unfold hid
  pointwise [k0_pay2, k0_pay1]

theorem pay3_apply (x : Vec Ideal S512x1024 .bf16) (w : Vec Ideal S1x2816x1024 .bf16) (r : Fin 512) (j : Fin 2816) :
    k0_pay3 (F := Ideal) x w (ix2 r j) = hid x w r j := by
  unfold hid
  pointwise [k0_pay3, k0_pay1]

theorem pay6_apply (x : Vec Ideal S512x1024 .bf16) (w w' : Vec Ideal S1x2816x1024 .bf16) (r : Fin 512) (j : Fin 2816) :
    k0_pay6 (F := Ideal) x w w' (ix2 r j) = facG (hid x w r j) (hid x w' r j) := by
  unfold facG
  rw [← pay2_apply x w, ← pay3_apply x w']
  unfold k0_pay6 k0_pay4
  generalize k0_pay2 (F := Ideal) x w = p
  generalize k0_pay3 (F := Ideal) x w' = q
  pointwise

theorem pay7_apply (x : Vec Ideal S512x1024 .bf16) (w : Vec Ideal S1x2816x1024 .bf16) (r : Fin 512) (j : Fin 2816) :
    k0_pay7 (F := Ideal) x w (ix2 r j) = facU (hid x w r j) := by
  unfold facU
  rw [← pay2_apply]
  unfold k0_pay7 k0_pay5 k0_pay4
  generalize k0_pay2 (F := Ideal) x w = p
  pointwise

theorem pay12_apply (x : Vec Ideal S512x1024 .bf16) (w : Vec Ideal S1x2816x1024 .bf16) (f : Vec Ideal S512x2816 .bf16) (r : Fin 512) (j : Fin 2816) :
    k1_pay2 (F := Ideal) x w f (ix2 r j) = hid x w r j * f (ix2 r j) := by
  unfold hid
  pointwise [k1_pay2, k1_pay1]

theorem pay13_apply (x : Vec Ideal S512x1024 .bf16) (w : Vec Ideal S1x2816x1024 .bf16) (f : Vec Ideal S512x2816 .bf16) (r : Fin 512) (j : Fin 2816) :
    k1_pay3 (F := Ideal) x w f (ix2 r j) = hid x w r j * f (ix2 r j) := by
  unfold hid
  pointwise [k1_pay3, k1_pay1]

theorem pay21_apply (x : Vec Ideal S1024x5632 .bf16) (w : Vec Ideal S1x5632x512 .bf16) (r : Fin 1024) (b : Fin 512) :
    k2_pay1 (F := Ideal) x w (ix2 r b) = ∑ j : Fin 5632, x (ix2 r j) * w (ix3 0 j b) := by
  pointwise [k2_pay1]

/-! ## The loads -/

theorem off2 : (![0, 0] : Fin 2 → Nat) = fun _ => 0 := funext fun a => by fin_cases a <;> rfl
theorem off3 : (![0, 0, 0] : Fin 3 → Nat) = fun _ => 0 := funext fun a => by fin_cases a <;> rfl

theorem ld_x (x : Vec Ideal S512x1024 .bf16) : View.ld x r0_0 = x :=
  View.ld_unit_zero (S := S512x1024) off2 _ x

theorem hid_lo (x : Vec Ideal S512x1024 .bf16) (w : Vec Ideal S1x5632x1024 .bf16) (r : Fin 512) (j : Fin 2816) :
    hid x (View.ld w r0_1 : Vec Ideal S1x2816x1024 .bf16) r j = hid x w r (lo j) :=
  Finset.sum_congr rfl fun k _ => congrArg (x (ix2 r k) * ·) (congrArg w (funext fun d => Fin.ext (by
    match d with
    | ⟨0, _⟩ => rfl
    | ⟨1, _⟩ => show 0 + 1 * j.val = j.val; omega
    | ⟨2, _⟩ => show 0 + 1 * k.val = k.val; omega)))

theorem hid_hi (x : Vec Ideal S512x1024 .bf16) (w : Vec Ideal S1x5632x1024 .bf16) (r : Fin 512) (j : Fin 2816) :
    hid x (View.ld w r0_2 : Vec Ideal S1x2816x1024 .bf16) r j = hid x w r (hi j) :=
  Finset.sum_congr rfl fun k _ => congrArg (x (ix2 r k) * ·) (congrArg w (funext fun d => Fin.ext (by
    match d with
    | ⟨0, _⟩ => rfl
    | ⟨1, _⟩ => show 2816 + 1 * j.val = 2816 + j.val; omega
    | ⟨2, _⟩ => show 0 + 1 * k.val = k.val; omega)))

/-! ## What each body leaves -/

/-- A column of the gate half lies in the first of two side-by-side pieces, … -/
theorem canon_lo (L R : Vec Ideal S512x2816 .bf16) (r : Fin 512) (j : Fin 2816) :
    (View.canon [⟨r0_4, R⟩, ⟨r0_3, L⟩] : Vec Ideal S512x5632 .bf16) (ix2 r (lo j)) = L (ix2 r j) := by
  rw [View.canon_cons_of_not_mem _ _ (by
    rw [Rect.mem_set_unit]
    intro h
    have h1 := (h 1).1
    have : (2816 : ℕ) ≤ j.val := h1
    omega)]
  rw [show ix2 r (lo j) = r0_3.emb (ix2 r j : S512x2816.Idx) from funext fun d => Fin.ext (by
    match d with
    | ⟨0, _⟩ => show r.val = 0 + 1 * r.val; omega
    | ⟨1, _⟩ => show j.val = 0 + 1 * j.val; omega)]
  exact View.canon_cons_emb r0_3 L [] (ix2 r j : S512x2816.Idx)

/-- … one of the up half in the second. -/
theorem canon_hi (L R : Vec Ideal S512x2816 .bf16) (r : Fin 512) (j : Fin 2816) :
    (View.canon [⟨r0_4, R⟩, ⟨r0_3, L⟩] : Vec Ideal S512x5632 .bf16) (ix2 r (hi j)) = R (ix2 r j) := by
  rw [show ix2 r (hi j) = r0_4.emb (ix2 r j : S512x2816.Idx) from funext fun d => Fin.ext (by
    match d with
    | ⟨0, _⟩ => show r.val = 0 + 1 * r.val; omega
    | ⟨1, _⟩ => show 2816 + j.val = 2816 + 1 * j.val; omega)]
  exact View.canon_cons_emb r0_4 R [⟨r0_3, L⟩] (ix2 r j : S512x2816.Idx)

theorem fac_lo (x : Vec Ideal S512x1024 .bf16) (w : Vec Ideal S1x5632x1024 .bf16) (r : Fin 512) (j : Fin 2816) :
    out0_2 (F := Ideal) x w (ix2 r (lo j)) = facG (hid x w r (lo j)) (hid x w r (hi j)) := by
  unfold out0_2
  rw [canon_lo, pay6_apply, ld_x, hid_lo, hid_hi]

theorem fac_hi (x : Vec Ideal S512x1024 .bf16) (w : Vec Ideal S1x5632x1024 .bf16) (r : Fin 512) (j : Fin 2816) :
    out0_2 (F := Ideal) x w (ix2 r (hi j)) = facU (hid x w r (lo j)) := by
  unfold out0_2
  rw [canon_hi, pay7_apply, ld_x, hid_lo]

theorem ld_x' (x : Vec Ideal S512x1024 .bf16) : View.ld x r1_0 = x :=
  View.ld_unit_zero (S := S512x1024) off2 _ x

theorem ld_wo (w : Vec Ideal S1x2816x1024 .bf16) : View.ld w r1_1 = w :=
  View.ld_unit_zero (S := S1x2816x1024) off3 _ w

theorem ld_fac_lo (f : Vec Ideal S512x5632 .bf16) (r : Fin 512) (j : Fin 2816) :
    (View.ld f r1_2 : Vec Ideal S512x2816 .bf16) (ix2 r j) = f (ix2 r (lo j)) :=
  congrArg f (funext fun d => Fin.ext (by
    match d with
    | ⟨0, _⟩ => show 0 + 1 * r.val = r.val; omega
    | ⟨1, _⟩ => show 0 + 1 * j.val = j.val; omega))

theorem ld_fac_hi (f : Vec Ideal S512x5632 .bf16) (r : Fin 512) (j : Fin 2816) :
    (View.ld f r1_3 : Vec Ideal S512x2816 .bf16) (ix2 r j) = f (ix2 r (hi j)) :=
  congrArg f (funext fun d => Fin.ext (by
    match d with
    | ⟨0, _⟩ => show 0 + 1 * r.val = r.val; omega
    | ⟨1, _⟩ => show 2816 + 1 * j.val = 2816 + j.val; omega))

theorem dau_lo (x : Vec Ideal S512x1024 .bf16) (w : Vec Ideal S1x2816x1024 .bf16) (f : Vec Ideal S512x5632 .bf16) (r : Fin 512) (j : Fin 2816) :
    out1_3 (F := Ideal) x w f (ix2 r (lo j)) = hid x w r j * f (ix2 r (lo j)) := by
  unfold out1_3
  rw [ld_x' x, ld_wo]
  refine (canon_lo _ _ r j).trans ?_
  rw [pay12_apply, ld_fac_lo]

theorem dau_hi (x : Vec Ideal S512x1024 .bf16) (w : Vec Ideal S1x2816x1024 .bf16) (f : Vec Ideal S512x5632 .bf16) (r : Fin 512) (j : Fin 2816) :
    out1_3 (F := Ideal) x w f (ix2 r (hi j)) = hid x w r j * f (ix2 r (hi j)) := by
  unfold out1_3
  rw [ld_x' x, ld_wo]
  refine (canon_hi _ _ r j).trans ?_
  rw [pay13_apply, ld_fac_hi]

theorem dh_apply (x : Vec Ideal S1024x5632 .bf16) (w : Vec Ideal S1x5632x512 .bf16) (r : Fin 1024) (b : Fin 512) :
    out2_2 (F := Ideal) x w (ix2 r b) = ∑ j : Fin 5632, x (ix2 r j) * w (ix3 0 j b) := by
  unfold out2_2
  rw [View.canon_unit_zero (S := S1024x512) off2, pay21_apply]
  rw [View.ld_unit_zero (S := S1024x5632) off2,
    View.ld_unit_zero (S := S1x5632x512) off3]

end Cert.DhKernelIdeal.Blocks

end
-- ==== Proof.DhArrays.lean ====
/-
  The gradient of the feed-forward block's input: what its three calls leave in their arrays.

  Each call's blocks tile its result, so an element of a result is an element of the block of one grid point, and that
  block's inputs are rows of the arrays the call was given. The arrays are then followed from call to call, and from the
  arguments into the first.
-/
module

public import proofs.«01_k».proof.Proof.DhBlocks
public import Idealize.ShloMosaic.Lib.Pipeline.ValueKit.Geometry

@[expose] public section

noncomputable section

open Idealize.ShloMosaic Idealize.ShloMosaic.TcCoe Idealize.SL.Sem

namespace Cert.DhKernelIdeal.Arrays

open Cert.DhKernelIdeal Cert.DhKernelIdeal.Gen Cert.DhKernelIdeal.Blocks Cert.SwigluMath

/-! ## The three results as functions of the arrays a call is given -/

/-- The two factors, side by side. -/
def fac (x : Vec Ideal S4096x1024 .bf16) (w : Vec Ideal S1x5632x1024 .bf16) : Vec Ideal S4096x5632 .bf16 := fun i =>
  if h : (i 1).val < 2816 then facG (hid x w (i 0) (lo ⟨(i 1).val, h⟩)) (hid x w (i 0) (hi ⟨(i 1).val, h⟩))
  else facU (hid x w (i 0) (lo ⟨(i 1).val - 2816, by have : (i 1).val < 5632 := (i 1).isLt; omega⟩))

theorem fac_at_lo (x : Vec Ideal S4096x1024 .bf16) (w : Vec Ideal S1x5632x1024 .bf16) (r : Fin 4096) (j : Fin 2816) :
    fac x w (ix2 r (lo j)) = facG (hid x w r (lo j)) (hid x w r (hi j)) := dif_pos j.isLt

theorem fac_at_hi (x : Vec Ideal S4096x1024 .bf16) (w : Vec Ideal S1x5632x1024 .bf16) (r : Fin 4096) (j : Fin 2816) :
    fac x w (ix2 r (hi j)) = facU (hid x w r (lo j)) :=
  (dif_neg (show ¬(2816 + j.val < 2816) by omega)).trans
    (congrArg (fun q : Fin 2816 => facU (hid x w r (lo q))) (Fin.ext (show 2816 + j.val - 2816 = j.val by omega)))

/-- The column within its half. -/
abbrev half (j : Fin 5632) : Fin 2816 := ⟨j.val % 2816, Nat.mod_lt _ (by decide)⟩

theorem half_lo (j : Fin 2816) : half (lo j) = j := Fin.ext (Nat.mod_eq_of_lt j.isLt)
theorem half_hi (j : Fin 2816) : half (hi j) = j := Fin.ext (by show (2816 + j.val) % 2816 = j.val; omega)

/-- A column is one of the gate half or one of the up half. -/
theorem lo_or_hi (j : Fin 5632) : (∃ q, j = lo q) ∨ (∃ q, j = hi q) := by
  by_cases h : j.val < 2816
  · exact .inl ⟨⟨j.val, h⟩, rfl⟩
  · exact .inr ⟨⟨j.val - 2816, by omega⟩, Fin.ext (by show j.val = 2816 + (j.val - 2816); omega)⟩

/-- The hidden gradient: the activation's gradient times the two factors. -/
def dau (y : Vec Ideal S4096x1024 .bf16) (w : Vec Ideal S1x2816x1024 .bf16) (f : Vec Ideal S4096x5632 .bf16) : Vec Ideal S4096x5632 .bf16 :=
  fun i => hid y w (i 0) (half (i 1)) * f i

theorem dau_at (y : Vec Ideal S4096x1024 .bf16) (w : Vec Ideal S1x2816x1024 .bf16) (f : Vec Ideal S4096x5632 .bf16) (r : Fin 4096) (j : Fin 5632) :
    dau y w f (ix2 r j) = hid y w r (half j) * f (ix2 r j) := rfl

/-- The input's gradient: the hidden gradient times the weights. -/
def dh (g : Vec Ideal S4096x5632 .bf16) (w : Vec Ideal S1x5632x1024 .bf16) : Vec Ideal S4096x1024 .f32 :=
  fun i => ∑ j : Fin 5632, g (ix2 (i 0) j) * w (ix3 0 j (i 1))

theorem dh_at (g : Vec Ideal S4096x5632 .bf16) (w : Vec Ideal S1x5632x1024 .bf16) (r : Fin 4096) (b : Fin 1024) :
    dh g w (ix2 r b) = ∑ j : Fin 5632, g (ix2 r j) * w (ix3 0 j b) := rfl

/-! ## The blocks -/

theorem ix00 : ∀ t : Fin cfg0.N, win0_0.index t (0 : Fin 2) = t.val ∧ win0_0.index t (1 : Fin 2) = 0 :=
  (by decide +kernel : ∀ t : Fin grid0.N, _)
theorem ix01 : ∀ t : Fin cfg0.N, win0_1.index t (0 : Fin 3) = 0 ∧ win0_1.index t (1 : Fin 3) = 0 ∧ win0_1.index t (2 : Fin 3) = 0 :=
  (by decide +kernel : ∀ t : Fin grid0.N, _)
theorem ix02 : ∀ t : Fin cfg0.N, win0_2.index t (0 : Fin 2) = t.val ∧ win0_2.index t (1 : Fin 2) = 0 :=
  (by decide +kernel : ∀ t : Fin grid0.N, _)
theorem ix10 : ∀ t : Fin cfg1.N, win1_0.index t (0 : Fin 2) = t.val ∧ win1_0.index t (1 : Fin 2) = 0 :=
  (by decide +kernel : ∀ t : Fin grid1.N, _)
theorem ix11 : ∀ t : Fin cfg1.N, win1_1.index t (0 : Fin 3) = 0 ∧ win1_1.index t (1 : Fin 3) = 0 ∧ win1_1.index t (2 : Fin 3) = 0 :=
  (by decide +kernel : ∀ t : Fin grid1.N, _)
theorem ix12 : ∀ t : Fin cfg1.N, win1_2.index t (0 : Fin 2) = t.val ∧ win1_2.index t (1 : Fin 2) = 0 :=
  (by decide +kernel : ∀ t : Fin grid1.N, _)
theorem ix13 : ∀ t : Fin cfg1.N, win1_3.index t (0 : Fin 2) = t.val ∧ win1_3.index t (1 : Fin 2) = 0 :=
  (by decide +kernel : ∀ t : Fin grid1.N, _)
theorem ix20 : ∀ t : Fin cfg2.N, win2_0.index t (0 : Fin 2) = t.val % 4 ∧ win2_0.index t (1 : Fin 2) = 0 :=
  (by decide +kernel : ∀ t : Fin grid2.N, _)
theorem ix21 : ∀ t : Fin cfg2.N, win2_1.index t (0 : Fin 3) = 0 ∧ win2_1.index t (1 : Fin 3) = 0 ∧ win2_1.index t (2 : Fin 3) = t.val / 4 :=
  (by decide +kernel : ∀ t : Fin grid2.N, _)
theorem ix22 : ∀ t : Fin cfg2.N, win2_2.index t (0 : Fin 2) = t.val % 4 ∧ win2_2.index t (1 : Fin 2) = t.val / 4 :=
  (by decide +kernel : ∀ t : Fin grid2.N, _)

section Regions

variable (V : (c : Dev nD) → (b : Ref sig .tc) → Buf (Elt Ideal) ((c : Thread nD τ).loc b))

/-- The arrays a call finds. -/
abbrev arrX (c : Dev nD) : Vec Ideal S4096x1024 .bf16 := V c main_v0
abbrev arrWi (c : Dev nD) : Vec Ideal S1x5632x1024 .bf16 := V c main_v3
abbrev arrWo (c : Dev nD) : Vec Ideal S1x2816x1024 .bf16 := V c main_v5
abbrev arrY (c : Dev nD) : Vec Ideal S4096x1024 .bf16 := V c main_v6
abbrev arrF (c : Dev nD) : Vec Ideal S4096x5632 .bf16 := V c main_v7_0
abbrev arrG (c : Dev nD) : Vec Ideal S4096x5632 .bf16 := V c main_v8

abbrev b00 (c : Dev nD) (t : Fin cfg0.N) : Vec Ideal S512x1024 .bf16 := iblk0 V c 0 t
abbrev b01 (c : Dev nD) (t : Fin cfg0.N) : Vec Ideal S1x5632x1024 .bf16 := iblk0 V c 1 t
abbrev b10 (c : Dev nD) (t : Fin cfg1.N) : Vec Ideal S512x1024 .bf16 := iblk1 V c 0 t
abbrev b11 (c : Dev nD) (t : Fin cfg1.N) : Vec Ideal S1x2816x1024 .bf16 := iblk1 V c 1 t
abbrev b12 (c : Dev nD) (t : Fin cfg1.N) : Vec Ideal S512x5632 .bf16 := iblk1 V c 2 t
abbrev b20 (c : Dev nD) (t : Fin cfg2.N) : Vec Ideal S1024x5632 .bf16 := iblk2 V c 0 t
abbrev b21 (c : Dev nD) (t : Fin cfg2.N) : Vec Ideal S1x5632x512 .bf16 := iblk2 V c 1 t

theorem b00_apply (c : Dev nD) (t : Fin cfg0.N) (a : Fin 512) (k : Fin 1024) (r : Fin 4096) (hr : r.val = 512 * t.val + a.val) :
    b00 V c t (ix2 a k) = arrX V c (ix2 r k) := by
  unfold b00 iblk0
  rw [View.read_apply]
  show arrX V c _ = arrX V c _
  generalize arrX V c = f
  congr 1
  obtain ⟨e0, e1⟩ := ix00 t
  funext d
  apply Fin.ext
  match d with
  | ⟨0, _⟩ => show win0_0.index t (0 : Fin 2) * 512 + 1 * a.val = r.val; rw [e0]; omega
  | ⟨1, _⟩ => show win0_0.index t (1 : Fin 2) * 1024 + 1 * k.val = k.val; rw [e1]; omega

theorem b01_apply (c : Dev nD) (t : Fin cfg0.N) (z : Fin 1) (j : Fin 5632) (k : Fin 1024) :
    b01 V c t (ix3 z j k) = arrWi V c (ix3 z j k) := by
  unfold b01 iblk0
  rw [View.read_apply]
  show arrWi V c _ = arrWi V c _
  generalize arrWi V c = f
  congr 1
  obtain ⟨e0, e1, e2⟩ := ix01 t
  funext d
  apply Fin.ext
  match d with
  | ⟨0, _⟩ => show win0_1.index t (0 : Fin 3) * 1 + 1 * z.val = z.val; rw [e0]; omega
  | ⟨1, _⟩ => show win0_1.index t (1 : Fin 3) * 5632 + 1 * j.val = j.val; rw [e1]; omega
  | ⟨2, _⟩ => show win0_1.index t (2 : Fin 3) * 1024 + 1 * k.val = k.val; rw [e2]; omega

theorem b10_apply (c : Dev nD) (t : Fin cfg1.N) (a : Fin 512) (k : Fin 1024) (r : Fin 4096) (hr : r.val = 512 * t.val + a.val) :
    b10 V c t (ix2 a k) = arrY V c (ix2 r k) := by
  unfold b10 iblk1
  rw [View.read_apply]
  show arrY V c _ = arrY V c _
  generalize arrY V c = f
  congr 1
  obtain ⟨e0, e1⟩ := ix10 t
  funext d
  apply Fin.ext
  match d with
  | ⟨0, _⟩ => show win1_0.index t (0 : Fin 2) * 512 + 1 * a.val = r.val; rw [e0]; omega
  | ⟨1, _⟩ => show win1_0.index t (1 : Fin 2) * 1024 + 1 * k.val = k.val; rw [e1]; omega

theorem b11_apply (c : Dev nD) (t : Fin cfg1.N) (z : Fin 1) (j : Fin 2816) (k : Fin 1024) :
    b11 V c t (ix3 z j k) = arrWo V c (ix3 z j k) := by
  unfold b11 iblk1
  rw [View.read_apply]
  show arrWo V c _ = arrWo V c _
  generalize arrWo V c = f
  congr 1
  obtain ⟨e0, e1, e2⟩ := ix11 t
  funext d
  apply Fin.ext
  match d with
  | ⟨0, _⟩ => show win1_1.index t (0 : Fin 3) * 1 + 1 * z.val = z.val; rw [e0]; omega
  | ⟨1, _⟩ => show win1_1.index t (1 : Fin 3) * 2816 + 1 * j.val = j.val; rw [e1]; omega
  | ⟨2, _⟩ => show win1_1.index t (2 : Fin 3) * 1024 + 1 * k.val = k.val; rw [e2]; omega

theorem b12_apply (c : Dev nD) (t : Fin cfg1.N) (a : Fin 512) (j : Fin 5632) (r : Fin 4096) (hr : r.val = 512 * t.val + a.val) :
    b12 V c t (ix2 a j) = arrF V c (ix2 r j) := by
  unfold b12 iblk1
  rw [View.read_apply]
  show arrF V c _ = arrF V c _
  generalize arrF V c = f
  congr 1
  obtain ⟨e0, e1⟩ := ix12 t
  funext d
  apply Fin.ext
  match d with
  | ⟨0, _⟩ => show win1_2.index t (0 : Fin 2) * 512 + 1 * a.val = r.val; rw [e0]; omega
  | ⟨1, _⟩ => show win1_2.index t (1 : Fin 2) * 5632 + 1 * j.val = j.val; rw [e1]; omega

theorem b20_apply (c : Dev nD) (t : Fin cfg2.N) (a : Fin 1024) (j : Fin 5632) (r : Fin 4096) (hr : r.val = 1024 * (t.val % 4) + a.val) :
    b20 V c t (ix2 a j) = arrG V c (ix2 r j) := by
  unfold b20 iblk2
  rw [View.read_apply]
  show arrG V c _ = arrG V c _
  generalize arrG V c = f
  congr 1
  obtain ⟨e0, e1⟩ := ix20 t
  funext d
  apply Fin.ext
  match d with
  | ⟨0, _⟩ => show win2_0.index t (0 : Fin 2) * 1024 + 1 * a.val = r.val; rw [e0]; omega
  | ⟨1, _⟩ => show win2_0.index t (1 : Fin 2) * 5632 + 1 * j.val = j.val; rw [e1]; omega

theorem b21_apply (c : Dev nD) (t : Fin cfg2.N) (z : Fin 1) (j : Fin 5632) (b : Fin 512) (s : Fin 1024) (hs : s.val = 512 * (t.val / 4) + b.val) :
    b21 V c t (ix3 z j b) = arrWi V c (ix3 z j s) := by
  unfold b21 iblk2
  rw [View.read_apply]
  show arrWi V c _ = arrWi V c _
  generalize arrWi V c = f
  congr 1
  obtain ⟨e0, e1, e2⟩ := ix21 t
  funext d
  apply Fin.ext
  match d with
  | ⟨0, _⟩ => show win2_1.index t (0 : Fin 3) * 1 + 1 * z.val = z.val; rw [e0]; omega
  | ⟨1, _⟩ => show win2_1.index t (1 : Fin 3) * 5632 + 1 * j.val = j.val; rw [e1]; omega
  | ⟨2, _⟩ => show win2_1.index t (2 : Fin 3) * 512 + 1 * b.val = s.val; rw [e2]; omega

theorem hid0 (c : Dev nD) (t : Fin cfg0.N) (a : Fin 512) (j : Fin 5632) (r : Fin 4096) (hr : r.val = 512 * t.val + a.val) :
    hid (b00 V c t) (b01 V c t) a j = hid (arrX V c) (arrWi V c) r j :=
  Finset.sum_congr rfl fun k _ => by rw [b00_apply V c t a k r hr, b01_apply V c t 0 j k]

theorem hid1 (c : Dev nD) (t : Fin cfg1.N) (a : Fin 512) (j : Fin 2816) (r : Fin 4096) (hr : r.val = 512 * t.val + a.val) :
    hid (b10 V c t) (b11 V c t) a j = hid (arrY V c) (arrWo V c) r j :=
  Finset.sum_congr rfl fun k _ => by rw [b10_apply V c t a k r hr, b11_apply V c t 0 j k]

/-! ## The results -/

/-- What the first call leaves in its first result. -/
theorem final0 (c : Dev nD) : (dat0 V c).arrAt 2 cfg0.N = fac (arrX V c) (arrWi V c) := by
  refine (dat0 V c).arrAt_eq_of_covers 2 _ (by decide +kernel) fun t _ y => ?_
  refine (?_ : (dat0 V c).after 2 t ((cfg0.win 2).xinj (grid0.coords t) y) = fac (arrX V c) (arrWi V c) (((cfg0.win 2).blk t).view.emb y))
  rw [after0_2]
  obtain ⟨e0, e1⟩ := ix02 t
  have hN : cfg0.N = 8 := N_0
  have ht : t.val < 8 := hN ▸ t.isLt
  have h0 : (y 0).val < 512 := (y 0).isLt
  have h1 : (y 1).val < 5632 := (y 1).isLt
  have hx : (cfg0.win 2).xinj (grid0.coords t) y = ix2 (⟨(y 0).val, h0⟩ : Fin 512) (⟨(y 1).val, h1⟩ : Fin 5632) := by
    funext d; apply Fin.ext
    match d with
    | ⟨0, _⟩ => rfl
    | ⟨1, _⟩ => rfl
  obtain ⟨r, hr⟩ : ∃ r : Fin 4096, r.val = 512 * t.val + (y 0).val := ⟨⟨512 * t.val + (y 0).val, by omega⟩, rfl⟩
  have he : ((cfg0.win 2).blk t).view.emb y = ix2 r (⟨(y 1).val, h1⟩ : Fin 5632) := by
    funext d; apply Fin.ext
    match d with
    | ⟨0, _⟩ => show win0_2.index t (0 : Fin 2) * 512 + 1 * (y 0).val = r.val; rw [e0]; omega
    | ⟨1, _⟩ => show win0_2.index t (1 : Fin 2) * 5632 + 1 * (y 1).val = (y 1).val; rw [e1]; omega
  rw [hx, he]
  show out0_2 (b00 V c t) (b01 V c t) _ = _
  generalize (⟨(y 1).val, h1⟩ : Fin 5632) = j
  rcases lo_or_hi j with ⟨q, rfl⟩ | ⟨q, rfl⟩
  · rw [fac_lo, fac_at_lo, hid0 V c t (⟨(y 0).val, h0⟩ : Fin 512) _ r hr, hid0 V c t (⟨(y 0).val, h0⟩ : Fin 512) _ r hr]
  · rw [fac_hi, fac_at_hi, hid0 V c t (⟨(y 0).val, h0⟩ : Fin 512) _ r hr]

/-- What the second call leaves. -/
theorem final1 (c : Dev nD) : (dat1 V c).arrAt 3 cfg1.N = dau (arrY V c) (arrWo V c) (arrF V c) := by
  refine (dat1 V c).arrAt_eq_of_covers 3 _ (by decide +kernel) fun t _ y => ?_
  refine (?_ : (dat1 V c).after 3 t ((cfg1.win 3).xinj (grid1.coords t) y) = dau (arrY V c) (arrWo V c) (arrF V c) (((cfg1.win 3).blk t).view.emb y))
  rw [after1_3]
  obtain ⟨e0, e1⟩ := ix13 t
  have hN : cfg1.N = 8 := N_1
  have ht : t.val < 8 := hN ▸ t.isLt
  have h0 : (y 0).val < 512 := (y 0).isLt
  have h1 : (y 1).val < 5632 := (y 1).isLt
  have hx : (cfg1.win 3).xinj (grid1.coords t) y = ix2 (⟨(y 0).val, h0⟩ : Fin 512) (⟨(y 1).val, h1⟩ : Fin 5632) := by
    funext d; apply Fin.ext
    match d with
    | ⟨0, _⟩ => rfl
    | ⟨1, _⟩ => rfl
  obtain ⟨r, hr⟩ : ∃ r : Fin 4096, r.val = 512 * t.val + (y 0).val := ⟨⟨512 * t.val + (y 0).val, by omega⟩, rfl⟩
  have he : ((cfg1.win 3).blk t).view.emb y = ix2 r (⟨(y 1).val, h1⟩ : Fin 5632) := by
    funext d; apply Fin.ext
    match d with
    | ⟨0, _⟩ => show win1_3.index t (0 : Fin 2) * 512 + 1 * (y 0).val = r.val; rw [e0]; omega
    | ⟨1, _⟩ => show win1_3.index t (1 : Fin 2) * 5632 + 1 * (y 1).val = (y 1).val; rw [e1]; omega
  rw [hx, he]
  show out1_3 (b10 V c t) (b11 V c t) (b12 V c t) _ = _
  generalize (⟨(y 1).val, h1⟩ : Fin 5632) = j
  rw [dau_at]
  rcases lo_or_hi j with ⟨q, rfl⟩ | ⟨q, rfl⟩
  · rw [dau_lo, half_lo, hid1 V c t (⟨(y 0).val, h0⟩ : Fin 512) _ r hr, b12_apply V c t (⟨(y 0).val, h0⟩ : Fin 512) _ r hr]
  · rw [dau_hi, half_hi, hid1 V c t (⟨(y 0).val, h0⟩ : Fin 512) _ r hr, b12_apply V c t (⟨(y 0).val, h0⟩ : Fin 512) _ r hr]

/-- What the third call leaves. -/
theorem final2 (c : Dev nD) : (dat2 V c).arrAt 2 cfg2.N = dh (arrG V c) (arrWi V c) := by
  refine (dat2 V c).arrAt_eq_of_covers 2 _ (by decide +kernel) fun t _ y => ?_
  refine (?_ : (dat2 V c).after 2 t ((cfg2.win 2).xinj (grid2.coords t) y) = dh (arrG V c) (arrWi V c) (((cfg2.win 2).blk t).view.emb y))
  rw [after2_2]
  obtain ⟨e0, e1⟩ := ix22 t
  have hN : cfg2.N = 8 := N_2
  have ht : t.val < 8 := hN ▸ t.isLt
  have h0 : (y 0).val < 1024 := (y 0).isLt
  have h1 : (y 1).val < 512 := (y 1).isLt
  have hx : (cfg2.win 2).xinj (grid2.coords t) y = ix2 (⟨(y 0).val, h0⟩ : Fin 1024) (⟨(y 1).val, h1⟩ : Fin 512) := by
    funext d; apply Fin.ext
    match d with
    | ⟨0, _⟩ => rfl
    | ⟨1, _⟩ => rfl
  obtain ⟨r, hr⟩ : ∃ r : Fin 4096, r.val = 1024 * (t.val % 4) + (y 0).val := ⟨⟨1024 * (t.val % 4) + (y 0).val, by omega⟩, rfl⟩
  obtain ⟨s, hs⟩ : ∃ s : Fin 1024, s.val = 512 * (t.val / 4) + (y 1).val := ⟨⟨512 * (t.val / 4) + (y 1).val, by omega⟩, rfl⟩
  have he : ((cfg2.win 2).blk t).view.emb y = ix2 r s := by
    funext d; apply Fin.ext
    match d with
    | ⟨0, _⟩ => show win2_2.index t (0 : Fin 2) * 1024 + 1 * (y 0).val = r.val; rw [e0]; omega
    | ⟨1, _⟩ => show win2_2.index t (1 : Fin 2) * 512 + 1 * (y 1).val = s.val; rw [e1]; omega
  rw [hx, he]
  show out2_2 (b20 V c t) (b21 V c t) _ = _
  rw [dh_apply, dh_at]
  refine Finset.sum_congr rfl fun j _ => ?_
  rw [b20_apply V c t (⟨(y 0).val, h0⟩ : Fin 1024) _ r hr, b21_apply V c t 0 j (⟨(y 1).val, h1⟩ : Fin 512) s hs]

end Regions

end Cert.DhKernelIdeal.Arrays

end
-- ==== Proof.DhValue.lean ====
/-
  The gradient of the feed-forward block's input: the kernel's run with its result, the reference at an element, and that
  the two agree on finite arguments.
-/
module

public import proofs.«01_k».proof.Defs
public import proofs.«01_k».proof.Proof.DhArrays
public import proofs.«01_k».proof.Proof.Gen.DhReferenceIdeal.Read

@[expose] public section

noncomputable section

open Idealize.ShloMosaic Idealize.ShloMosaic.TcCoe Idealize.SL.Sem

namespace Cert.DhKernelIdeal.Result

open Cert.DhKernelIdeal Cert.DhKernelIdeal.Gen Cert.DhKernelIdeal.Blocks Cert.DhKernelIdeal.Arrays Cert.SwigluMath

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs; its result array ends at what the last call's write-backs leave, its arguments as they were. -/
theorem run : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

variable (m : (ℓ : Loc nD τ sig) → Buf (Elt Ideal) ℓ) (ρ : Dev nD → PrngReg)

/-! ## From call to call -/

/-- The arguments at the shapes they have. -/
abbrev argH (c : Dev nD) : Vec Ideal S4096x1024 .f32 := m ((c : Thread nD τ).loc main_arg0)
abbrev argWi (c : Dev nD) : Vec Ideal S1024x5632 .f32 := m ((c : Thread nD τ).loc main_arg1)
abbrev argWo (c : Dev nD) : Vec Ideal S2816x1024 .f32 := m ((c : Thread nD τ).loc main_arg2)
abbrev argDy (c : Dev nD) : Vec Ideal S4096x1024 .f32 := m ((c : Thread nD τ).loc main_arg3)

/-- The input and the weights as the first call finds them. -/
theorem ent_x (c : Dev nD) (r : Fin 4096) (k : Fin 1024) : arrX (V1 m ρ) c (ix2 r k) = argH m c (ix2 r k) := by
  have e : arrX (V1 m ρ) c = truncf (F := Ideal) .bf16 (argH m c) Gen.bitsLt_bf16_f32 := by
    show StableHlo.after hostOps0 (W0 m ρ c) (Proc.devRef .tc main_v0) = _
    simp only [hostOps0, StableHlo.TRef.binary, StableHlo.TRef.nullary, StableHlo.TRef.unary, StableHlo.TRef.toBuf, StableHlo.TRef.ofBuf, cast_eq]
    after_results
  rw [e]; rfl

theorem ent_wi (c : Dev nD) (j : Fin 5632) (k : Fin 1024) : arrWi (V1 m ρ) c (ix3 0 j k) = argWi m c (ix2 k j) := by
  have e : arrWi (V1 m ρ) c = truncf (F := Ideal) .bf16 (transpose S1x5632x1024 [0, 2, 1]
      (broadcastInDim S1x1024x5632 ![1, 2] Gen.bcast_S1024x5632_S1x1024x5632_1_2 (argWi m c) : Vec Ideal S1x1024x5632 .f32) Gen.transposes_S1x1024x5632_S1x5632x1024_0_2_1) Gen.bitsLt_bf16_f32 := by
    show StableHlo.after hostOps0 (W0 m ρ c) (Proc.devRef .tc main_v3) = _
    simp only [hostOps0, StableHlo.TRef.binary, StableHlo.TRef.nullary, StableHlo.TRef.unary, StableHlo.TRef.toBuf, StableHlo.TRef.ofBuf, cast_eq]
    after_results
  rw [e]
  generalize argWi m c = f
  pointwise

theorem ent_wo (c : Dev nD) (j : Fin 2816) (k : Fin 1024) : arrWo (V1 m ρ) c (ix3 0 j k) = argWo m c (ix2 j k) := by
  have e : arrWo (V1 m ρ) c = truncf (F := Ideal) .bf16
      (broadcastInDim S1x2816x1024 ![1, 2] Gen.bcast_S2816x1024_S1x2816x1024_1_2 (argWo m c) : Vec Ideal S1x2816x1024 .f32) Gen.bitsLt_bf16_f32 := by
    show StableHlo.after hostOps0 (W0 m ρ c) (Proc.devRef .tc main_v5) = _
    simp only [hostOps0, StableHlo.TRef.binary, StableHlo.TRef.nullary, StableHlo.TRef.unary, StableHlo.TRef.toBuf, StableHlo.TRef.ofBuf, cast_eq]
    after_results
  rw [e]
  generalize argWo m c = f
  pointwise

theorem ent_dy (c : Dev nD) (r : Fin 4096) (k : Fin 1024) : arrY (V1 m ρ) c (ix2 r k) = argDy m c (ix2 r k) := by
  have e : arrY (V1 m ρ) c = truncf (F := Ideal) .bf16 (argDy m c) Gen.bitsLt_bf16_f32 := by
    show StableHlo.after hostOps0 (W0 m ρ c) (Proc.devRef .tc main_v6) = _
    simp only [hostOps0, StableHlo.TRef.binary, StableHlo.TRef.nullary, StableHlo.TRef.unary, StableHlo.TRef.toBuf, StableHlo.TRef.ofBuf, cast_eq]
    after_results
  rw [e]; rfl

/-- The result, through the three calls. -/
theorem res_eq (c : Dev nD) : W4 m ρ c (Proc.devRef .tc main_v9)
    = dh (dau (arrY (V1 m ρ) c) (arrWo (V1 m ρ) c) (fac (arrX (V1 m ρ) c) (arrWi (V1 m ρ) c))) (arrWi (V1 m ρ) c) := by
  have e2 : arrF (V2 m ρ) c = fac (arrX (V1 m ρ) c) (arrWi (V1 m ρ) c) := (W2_arr m ρ c 2).trans (final0 (V1 m ρ) c)
  have y2 : arrY (V2 m ρ) c = arrY (V1 m ρ) c := W2_of m ρ c main_v6 (by decide)
  have o2 : arrWo (V2 m ρ) c = arrWo (V1 m ρ) c := W2_of m ρ c main_v5 (by decide)
  have i2 : arrWi (V2 m ρ) c = arrWi (V1 m ρ) c := W2_of m ρ c main_v3 (by decide)
  have e3 : arrG (V3 m ρ) c = dau (arrY (V2 m ρ) c) (arrWo (V2 m ρ) c) (arrF (V2 m ρ) c) := (W3_arr m ρ c 3).trans (final1 (V2 m ρ) c)
  have i3 : arrWi (V3 m ρ) c = arrWi (V2 m ρ) c := W3_of m ρ c main_v3 (by decide)
  refine (W4_arr m ρ c 2).trans ((final2 (V3 m ρ) c).trans ?_)
  rw [e3, i3, i2, e2, y2, o2]

end Cert.DhKernelIdeal.Result

/-! ## The reference at an element -/

namespace Cert.DhReferenceIdeal.Grad

open Cert.DhReferenceIdeal Cert.DhReferenceIdeal.Gen Cert.SwigluMath

variable (h : Vec Ideal S4096x1024 .f32) (wi : Vec Ideal S1024x5632 .f32) (wo : Vec Ideal S2816x1024 .f32) (dy : Vec Ideal S4096x1024 .f32)

/-- Column `j` of the gate half, of the up half. -/
abbrev lo (j : Fin 2816) : Fin 5632 := ⟨j.val, by omega⟩
abbrev hi (j : Fin 2816) : Fin 5632 := ⟨2816 + j.val, by omega⟩

/-- The hidden layer before the gate, and the activation's gradient. -/
def pre (r : Fin 4096) (j : Fin 5632) : EReal := ∑ k : Fin 1024, h (ix2 r k) * wi (ix2 k j)
def dact (r : Fin 4096) (j : Fin 2816) : EReal := ∑ k : Fin 1024, dy (ix2 r k) * wo (ix2 j k)

theorem gate_apply (r : Fin 4096) (j : Fin 2816) :
    (Read.val_main_v1 (F := Ideal) h wi : Vec Ideal S4096x2816 .f32) (ix2 r j) = pre h wi r (lo j) := by
  unfold pre Read.val_main_v1 Read.val_main_v0
  pointwise

theorem up_apply (r : Fin 4096) (j : Fin 2816) :
    (Read.val_main_v2 (F := Ideal) h wi : Vec Ideal S4096x2816 .f32) (ix2 r j) = pre h wi r (hi j) := by
  unfold pre Read.val_main_v2 Read.val_main_v0
  pointwise

theorem dact_apply (r : Fin 4096) (j : Fin 2816) :
    (Read.val_main_v6 (F := Ideal) wo dy : Vec Ideal S4096x2816 .f32) (ix2 r j) = dact wo dy r j := by
  unfold dact Read.val_main_v6
  pointwise

theorem sig_apply (r : Fin 4096) (j : Fin 2816) :
    (Read.val_main_v3_2 (F := Ideal) h wi : Vec Ideal S4096x2816 .f32) (ix2 r j) = Ideal.logistic (pre h wi r (lo j)) := by
  rw [← gate_apply]
  unfold Ideal.logistic Read.val_main_v3_2 Read.val_main_call0_v3 Read.val_main_call0_v4 Read.val_main_call0_v2 Read.val_main_call0_cst
    Read.val_main_call0_cst_0 Read.val_main_call0_v1 Read.val_main_call0_v0
  generalize (Read.val_main_v1 (F := Ideal) h wi : Vec Ideal S4096x2816 .f32) = a
  pointwise

theorem dup_apply (r : Fin 4096) (j : Fin 2816) :
    (Read.val_main_v7 (F := Ideal) h wi wo dy : Vec Ideal S4096x2816 .f32) (ix2 r j) = dact wo dy r j * facU (pre h wi r (lo j)) := by
  unfold facU
  rw [← sig_apply, ← gate_apply, ← dact_apply]
  unfold Read.val_main_v7 Read.val_main_v3_0
  generalize (Read.val_main_v1 (F := Ideal) h wi : Vec Ideal S4096x2816 .f32) = a
  generalize (Read.val_main_v3_2 (F := Ideal) h wi : Vec Ideal S4096x2816 .f32) = s
  generalize (Read.val_main_v6 (F := Ideal) wo dy : Vec Ideal S4096x2816 .f32) = d
  rw [mul_comm (d _)]
  pointwise

theorem dgate_apply (r : Fin 4096) (j : Fin 2816) :
    (Read.val_main_v9 (F := Ideal) h wi wo dy : Vec Ideal S4096x2816 .f32) (ix2 r j)
      = gradG (dact wo dy r j) (pre h wi r (lo j)) (pre h wi r (hi j)) := by
  unfold gradG
  rw [← sig_apply, ← gate_apply, ← dact_apply, ← up_apply]
  unfold Read.val_main_v9 Read.val_main_call1_v2 Read.val_main_call1_v1 Read.val_main_call1_v0 Read.val_main_v8 Read.val_main_v3_1
    Read.val_main_call0_v7 Read.val_main_call0_v6 Read.val_main_call0_cst_1
  generalize (Read.val_main_v1 (F := Ideal) h wi : Vec Ideal S4096x2816 .f32) = a
  generalize (Read.val_main_v2 (F := Ideal) h wi : Vec Ideal S4096x2816 .f32) = u
  generalize (Read.val_main_v3_2 (F := Ideal) h wi : Vec Ideal S4096x2816 .f32) = s
  generalize (Read.val_main_v6 (F := Ideal) wo dy : Vec Ideal S4096x2816 .f32) = d
  pointwise

theorem dau_lo (r : Fin 4096) (j : Fin 2816) :
    (Read.val_main_v10 (F := Ideal) h wi wo dy : Vec Ideal S4096x5632 .f32) (ix2 r (lo j))
      = gradG (dact wo dy r j) (pre h wi r (lo j)) (pre h wi r (hi j)) := by
  rw [← dgate_apply]
  unfold Read.val_main_v10
  generalize (Read.val_main_v9 (F := Ideal) h wi wo dy : Vec Ideal S4096x2816 .f32) = a
  generalize (Read.val_main_v7 (F := Ideal) h wi wo dy : Vec Ideal S4096x2816 .f32) = b
  pointwise

theorem dau_hi (r : Fin 4096) (j : Fin 2816) :
    (Read.val_main_v10 (F := Ideal) h wi wo dy : Vec Ideal S4096x5632 .f32) (ix2 r (hi j))
      = dact wo dy r j * facU (pre h wi r (lo j)) := by
  rw [← dup_apply]
  unfold Read.val_main_v10
  generalize (Read.val_main_v9 (F := Ideal) h wi wo dy : Vec Ideal S4096x2816 .f32) = a
  generalize (Read.val_main_v7 (F := Ideal) h wi wo dy : Vec Ideal S4096x2816 .f32) = b
  pointwise

theorem ref_apply (r : Fin 4096) (b : Fin 1024) :
    (Read.val_main_v11 (F := Ideal) h wi wo dy : Vec Ideal S4096x1024 .f32) (ix2 r b)
      = ∑ j : Fin 5632, (Read.val_main_v10 (F := Ideal) h wi wo dy : Vec Ideal S4096x5632 .f32) (ix2 r j) * wi (ix2 b j) := by
  unfold Read.val_main_v11
  generalize (Read.val_main_v10 (F := Ideal) h wi wo dy : Vec Ideal S4096x5632 .f32) = a
  pointwise

end Cert.DhReferenceIdeal.Grad

/-! ## The claim -/

namespace Cert.DhKernelIdeal.Result

open Cert.DhKernelIdeal Cert.DhKernelIdeal.Gen Cert.DhKernelIdeal.Blocks Cert.DhKernelIdeal.Arrays Cert.SwigluMath

variable (m : (ℓ : Loc nD τ sig) → Buf (Elt Ideal) ℓ) (ρ : Dev nD → PrngReg)

/-- The precondition's functions take their shape relations from here. -/
theorem preFacts : Cert.Pre_finite_ffn.Facts where
  bcast_S_S4096x1024 := by decide
  bcast_S_S1024x5632 := by decide
  bcast_S_S2816x1024 := by decide

theorem hid_x (c : Dev nD) (r : Fin 4096) (j : Fin 5632) :
    hid (arrX (V1 m ρ) c) (arrWi (V1 m ρ) c) r j = Cert.DhReferenceIdeal.Grad.pre (argH m c) (argWi m c) r j :=
  Finset.sum_congr rfl fun k _ => by rw [ent_x, ent_wi]

theorem hid_y (c : Dev nD) (r : Fin 4096) (j : Fin 2816) :
    hid (arrY (V1 m ρ) c) (arrWo (V1 m ρ) c) r j = Cert.DhReferenceIdeal.Grad.dact (argWo m c) (argDy m c) r j :=
  Finset.sum_congr rfl fun k _ => by rw [ent_dy, ent_wo]

/-- The kernel's hidden gradient is the reference's, on real numbers. -/
theorem dau_eq (c : Dev nD) (hh : ∀ i, Real' (argH m c i)) (hwi : ∀ i, Real' (argWi m c i)) (hwo : ∀ i, Real' (argWo m c i))
    (hdy : ∀ i, Real' (argDy m c i)) (r : Fin 4096) (j : Fin 5632) :
    dau (arrY (V1 m ρ) c) (arrWo (V1 m ρ) c) (fac (arrX (V1 m ρ) c) (arrWi (V1 m ρ) c)) (ix2 r j)
      = (Cert.DhReferenceIdeal.Read.val_main_v10 (F := Ideal) (argH m c) (argWi m c) (argWo m c) (argDy m c) : Vec Ideal S4096x5632 .f32) (ix2 r j) := by
  have hp : ∀ q, Real' (Cert.DhReferenceIdeal.Grad.pre (argH m c) (argWi m c) r q) := fun q =>
    Real'.sum _ _ fun k => (hh _).mul (hwi _)
  have hd : ∀ q, Real' (Cert.DhReferenceIdeal.Grad.dact (argWo m c) (argDy m c) r q) := fun q =>
    Real'.sum _ _ fun k => (hdy _).mul (hwo _)
  rw [dau_at]
  rcases lo_or_hi j with ⟨q, rfl⟩ | ⟨q, rfl⟩
  · rw [half_lo, fac_at_lo, hid_x, hid_x, hid_y]
    exact (gradG_eq (hd q) (hp _) (hp _)).trans (Cert.DhReferenceIdeal.Grad.dau_lo _ _ _ _ r q).symm
  · rw [half_hi, fac_at_hi, hid_x, hid_y]
    exact (Cert.DhReferenceIdeal.Grad.dau_hi _ _ _ _ r q).symm

/-- The kernel's result is the reference's, on real numbers. -/
theorem res_ref (c : Dev nD) (hh : ∀ i, Real' (argH m c i)) (hwi : ∀ i, Real' (argWi m c i)) (hwo : ∀ i, Real' (argWo m c i))
    (hdy : ∀ i, Real' (argDy m c i)) :
    W4 m ρ c (Proc.devRef .tc main_v9)
      = (Cert.DhReferenceIdeal.Read.val_main_v11 (F := Ideal) (argH m c) (argWi m c) (argWo m c) (argDy m c) : Vec Ideal S4096x1024 .f32) := by
  rw [res_eq]
  funext i
  idx_vars i
  refine (dh_at _ _ i0 i1).trans (Eq.trans ?_ (Cert.DhReferenceIdeal.Grad.ref_apply _ _ _ _ i0 i1).symm)
  exact Finset.sum_congr rfl fun j _ => by rw [dau_eq m ρ c hh hwi hwo hdy, ent_wi]

theorem algebraic : Cert.algebraic_DhKernelIdeal_DhReferenceIdeal_pre_finite_ffn (hPre_finite_ffn := preFacts) := by
  intro m g m' g' hpre hargs
  refine ⟨fun c => W4 m g c (Proc.devRef .tc main_v9), run m g, ?_⟩
  refine (θ_run _ _ _).mono (fun r h c => ?_) (Cert.DhReferenceIdeal.Value.run m' g')
  obtain ⟨h0, hr⟩ := h c
  refine ⟨h0.trans ?_, hr⟩
  obtain ⟨e0, e1, e2, e3⟩ := hargs c
  obtain ⟨p0, p1, p2, p3⟩ := hpre c
  rw [Cert.DhReferenceIdeal.Read.val_main_v11_eq, e0, e1, e2, e3]
  exact (res_ref m g c (real_of_test _ _ p0) (real_of_test _ _ p1) (real_of_test _ _ p2) (real_of_test _ _ p3)).symm

end Cert.DhKernelIdeal.Result

end
-- ==== Proof.DwoValue.lean ====
/-
  The gradient of the feed-forward block's output weights: what the accumulating product leaves in its result.

  The kernel walks the 4096 tokens in four blocks of 1024, and for each of the two blocks of 1408 weight rows keeps a
  running sum in scratch: the first token block starts it at zero, every token block adds its product, the last one
  stores the sum. Here each step is read as a sum over its 1024 tokens, the four steps are put together, and the result
  is the sum over all 4096 tokens of (activation × output gradient).
-/
module

public import proofs.«01_k».proof.Defs
public import proofs.«01_k».proof.Proof.Gen.DwoKernelIdeal.Value
public import proofs.«01_k».proof.Proof.Gen.DwoReferenceIdeal.Read
public import Idealize.ShloMosaic.Lib.Pointwise
public import Idealize.ShloMosaic.Lib.Tactic

@[expose] public section

noncomputable section

open Idealize.ShloMosaic Idealize.ShloMosaic.TcCoe Idealize.SL.Sem

namespace Cert.DwoKernelIdeal.Acc

open Cert.DwoKernelIdeal Cert.DwoKernelIdeal.Gen

theorem off0 : (![0, 0] : Fin 2 → Nat) = fun _ => 0 := funext fun a => by fin_cases a <;> rfl

/-! ## What one grid point computes -/

section
variable {F : FTy → Type} [FloatOps F]

/-- The first token block of a row block: the scratch is zeroed, then the block's product is added. -/
theorem sout_A (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x : Vec F S1024x1408 .bf16) (y : Vec F S1024x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) off0, View.readCov_unit_zero (S := S1408x1024) _ off0]
  simp only [View.readAt_eq_ld, h3.read_unread, h4.read_unread, h6.read_unread, View.ld_unit_zero (S := S1024x1408) off0,
    View.ld_unit_zero (S := S1024x1024) off0, View.ld_unit_zero (S := S1408x1024) off0]

/-- A later token block that is not the last: the block's product is added to what the scratch held. -/
theorem sout_B (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x : Vec F S1024x1408 .bf16) (y : Vec F S1024x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero off0]
  simp only [View.readAt_eq_ld, h3.read_unread, h4.read_unread, h6.read_unread, View.ld_unit_zero (S := S1024x1408) off0,
    View.ld_unit_zero (S := S1024x1024) off0, View.ld_unit_zero (S := S1408x1024) off0]

/-- The last token block: the scratch is updated the same way, … -/
theorem sout_C (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1024x1408 .bf16) (y : Vec F S1024x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero off0]
  simp only [View.readAt_eq_ld, h3.read_unread, h4.read_unread, h6.read_unread, View.ld_unit_zero (S := S1024x1408) off0,
    View.ld_unit_zero (S := S1024x1024) off0, View.ld_unit_zero (S := S1408x1024) off0]

/-- … and the output block is the scratch's new contents, narrowed. -/
theorem out_C (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1024x1408 .bf16) (y : Vec F S1024x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero off0, View.readCov_unit_zero (S := S1408x1024) _ off0]
  simp only [View.readAt_eq_ld, h3.read_unread, h4.read_unread, h6.read_unread, View.ld_unit_zero (S := S1024x1408) off0,
    View.ld_unit_zero (S := S1024x1024) off0, View.ld_unit_zero (S := S1408x1024) off0]
end

/-- One token block's product, added, at an element. -/
theorem pay2_apply (s : Vec Ideal S1408x1024 .f32) (x : Vec Ideal S1024x1408 .bf16) (y : Vec Ideal S1024x1024 .bf16)
    (a : Fin 1408) (b : Fin 1024) :
    k0_pay2 (F := Ideal) s x y (ix2 a b) = s (ix2 a b) + ∑ k : Fin 1024, x (ix2 k a) * y (ix2 k b) := by
  pointwise [k0_pay2]

theorem pay1_apply (a : Fin 1408) (b : Fin 1024) : k0_pay1 (F := Ideal) (ix2 a b) = 0 := by
  pointwise [k0_pay1]

theorem pay3_apply (s : Vec Ideal S1408x1024 .f32) (a : Fin 1408) (b : Fin 1024) :
    k0_pay3 (F := Ideal) s (ix2 a b) = s (ix2 a b) := by
  pointwise [k0_pay3]

/-! ## The blocks the windows bring -/

variable (m : (ℓ : Loc nD τ sig) → Buf (Elt Ideal) ℓ) (ρ : Dev nD → PrngReg)

/-- The activation as the region finds it, and the output gradient. -/
abbrev act (c : Dev nD) : Vec Ideal S4096x2816 .bf16 := V m c main_v5
abbrev dy (c : Dev nD) : Vec Ideal S4096x1024 .bf16 := V m c main_v6
/-- Their blocks at point `t`. -/
abbrev blk0 (c : Dev nD) (t : Fin cfg0.N) : Vec Ideal S1024x1408 .bf16 := iblk m c 0 t
abbrev blk1 (c : Dev nD) (t : Fin cfg0.N) : Vec Ideal S1024x1024 .bf16 := iblk m c 1 t
/-- What the run leaves in the result array. -/
abbrev res (c : Dev nD) : Vec Ideal S2816x1024 .bf16 := Value.G2 m c

/-- The two index maps over the grid: the activation's block is (token block, row block), the gradient's (token block, 0). -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

/-- The activation's block at point `t`: tokens `1024·(t mod 4) + k`, columns `1408·(t / 4) + a` of the whole array. -/
theorem iblk0_apply (c : Dev nD) (t : Fin cfg0.N) (k : Fin 1024) (a : Fin 1408) (r : Fin 4096) (s : Fin 2816)
    (hr : r.val = 1024 * (t.val % 4) + k.val) (hs : s.val = 1408 * (t.val / 4) + a.val) :
    blk0 m c t (ix2 k a) = act m c (ix2 r s) := by
  unfold blk0 iblk
  rw [View.read_apply]
  show act m c _ = act m c _
  generalize act m c = f
  congr 1
  obtain ⟨e0, e1⟩ := idx0 t
  funext d
  apply Fin.ext
  match d with
  | ⟨0, _⟩ => show win0_0.index t (0 : Fin 2) * 1024 + 1 * k.val = r.val; rw [e0]; omega
  | ⟨1, _⟩ => show win0_0.index t (1 : Fin 2) * 1408 + 1 * a.val = s.val; rw [e1]; omega

/-- The output gradient's block at point `t`: tokens `1024·(t mod 4) + k`, every column. -/
theorem iblk1_apply (c : Dev nD) (t : Fin cfg0.N) (k : Fin 1024) (b : Fin 1024) (r : Fin 4096)
    (hr : r.val = 1024 * (t.val % 4) + k.val) :
    blk1 m c t (ix2 k b) = dy m c (ix2 r b) := by
  unfold blk1 iblk
  rw [View.read_apply]
  show dy m c _ = dy m c _
  generalize dy m c = f
  congr 1
  obtain ⟨e0, e1⟩ := idx1 t
  funext d
  apply Fin.ext
  match d with
  | ⟨0, _⟩ => show win0_1.index t (0 : Fin 2) * 1024 + 1 * k.val = r.val; rw [e0]; omega
  | ⟨1, _⟩ => show win0_1.index t (1 : Fin 2) * 1024 + 1 * b.val = b.val; rw [e1]; omega

/-! ## The running sum -/

/-- Token `1024·q + k`. -/
abbrev tok (q : Fin 4) (k : Fin 1024) : Fin 4096 := ⟨1024 * q.val + k.val, by omega⟩

/-- What token block `q` adds to the result's element `(s, b)`. -/
def part (act : Vec Ideal S4096x2816 .bf16) (dy : Vec Ideal S4096x1024 .bf16) (s : Fin 2816) (b : Fin 1024) (q : Fin 4) : EReal :=
  ∑ k : Fin 1024, act (ix2 (tok q k) s) * dy (ix2 (tok q k) b)

theorem block_sum (c : Dev nD) (t : Fin cfg0.N) (q : Fin 4) (hq : t.val % 4 = q.val) (a : Fin 1408) (b : Fin 1024) (s : Fin 2816)
    (hs : s.val = 1408 * (t.val / 4) + a.val) :
    (∑ k : Fin 1024, blk0 m c t (ix2 k a) * blk1 m c t (ix2 k b))
      = part (act m c) (dy m c) s b q :=
  Finset.sum_congr rfl fun k _ => by
    rw [iblk0_apply m c t k a (tok q k) s (by show _ = _; rw [hq]) hs, iblk1_apply m c t k b (tok q k) (by show _ = _; rw [hq])]

/-- After the first token block: its part. -/
theorem acc_first (c : Dev nD) (n : ℕ) (hn : n < cfg0.N) (h : n % 4 = 0) (a : Fin 1408) (b : Fin 1024) (s : Fin 2816)
    (hs : s.val = 1408 * (n / 4) + a.val) :
    (outsAt0 m c n hn).2 (ix2 a b) = part (act m c) (dy m c) s b 0 := by
  rw [outsAt0_A m c ⟨n, hn⟩ h (by show ¬n % 4 = 3; omega)]
  dsimp only
  rw [sout_A, pay2_apply, pay1_apply, zero_add]
  exact block_sum m c ⟨n, hn⟩ 0 h a b s hs

/-- After a later token block: its part more. -/
theorem acc_next (c : Dev nD) (n : ℕ) (hn : n + 1 < cfg0.N) (q : Fin 4) (hq : (n + 1) % 4 = q.val) (h : q.val ≠ 0)
    (a : Fin 1408) (b : Fin 1024) (s : Fin 2816) (hs : s.val = 1408 * ((n + 1) / 4) + a.val) :
    (outsAt0 m c (n + 1) hn).2 (ix2 a b)
      = (outsAt0 m c n (Nat.lt_of_succ_lt hn)).2 (ix2 a b) + part (act m c) (dy m c) s b q := by
  by_cases h3 : (n + 1) % 4 = 3
  · rw [outsAt0_C m c ⟨n + 1, hn⟩ (by show ¬(n + 1) % 4 = 0; omega) h3]
    dsimp only
    rw [sout_C, pay2_apply, block_sum m c ⟨n + 1, hn⟩ q hq a b s hs]
    rfl
  · rw [outsAt0_B m c ⟨n + 1, hn⟩ (by show ¬(n + 1) % 4 = 0; omega) h3]
    dsimp only
    rw [sout_B, pay2_apply, block_sum m c ⟨n + 1, hn⟩ q hq a b s hs]
    rfl

/-- At the last token block the output block is the scratch. -/
theorem out_last (c : Dev nD) (n : ℕ) (hn : n < cfg0.N) (h : n % 4 = 3) (a : Fin 1408) (b : Fin 1024) :
    (outsAt0 m c n hn).1 (ix2 a b) = (outsAt0 m c n hn).2 (ix2 a b) := by
  rw [outsAt0_C m c ⟨n, hn⟩ (by show ¬n % 4 = 0; omega) h]
  dsimp only
  rw [out_C, sout_C, pay3_apply]

/-- After the four token blocks of row block `p`: the four parts. -/
theorem acc_four (c : Dev nD) (p : ℕ) (hp : p < 2) (hn : 4 * p + 3 < cfg0.N) (a : Fin 1408) (b : Fin 1024) (s : Fin 2816)
    (hs : s.val = 1408 * p + a.val) :
    (outsAt0 m c (4 * p + 3) hn).1 (ix2 a b) = ∑ q : Fin 4, part (act m c) (dy m c) s b q := by
  rw [out_last m c _ hn (by omega), acc_next m c (4 * p + 2) hn 3 (by show _ = 3; omega) (by decide) a b s (by omega),
    acc_next m c (4 * p + 1) _ 2 (by show _ = 2; omega) (by decide) a b s (by omega),
    acc_next m c (4 * p) _ 1 (by show _ = 1; omega) (by decide) a b s (by omega),
    acc_first m c (4 * p) _ (by omega) a b s (by omega), Fin.sum_univ_four]

/-- The four blocks of 1024 tokens are the 4096 tokens. -/
theorem sum_tok (f : Fin 4096 → EReal) : ∑ q : Fin 4, ∑ k : Fin 1024, f (tok q k) = ∑ r : Fin 4096, f r := by
  rw [← Fintype.sum_prod_type' (fun (q : Fin 4) (k : Fin 1024) => f (tok q k))]
  refine Fintype.sum_equiv (finProdFinEquiv (m := 4) (n := 1024)) _ _ fun x => congrArg f (Fin.ext ?_)
  show 1024 * x.1.val + x.2.val = x.2.val + 1024 * x.1.val
  omega

/-- The result array, at an element: the sum over all tokens. -/
theorem final_apply (c : Dev nD) (s : Fin 2816) (b : Fin 1024) :
    res m c (ix2 s b)
      = ∑ r : Fin 4096, act m c (ix2 r s) * dy m c (ix2 r b) := by
  have hN : cfg0.N = 8 := N_0
  have hp : Value.pt2Of (ix2 s b) = 4 * (s.val / 1408) + 3 := by
    show 4 * (1 * (s.val / 1408 - 0) + 1 * (b.val / 1024 - 0)) + 3 = _
    have := b.isLt; omega
  have hb : 4 * (s.val / 1408) + 3 < cfg0.N := by rw [hN]; have := s.isLt; omega
  have hl : Value.loc2Of (ix2 s b) = ix2 (⟨s.val % 1408, Nat.mod_lt _ (by decide)⟩ : Fin 1408) b := by
    funext d
    apply Fin.ext
    match d with
    | ⟨0, _⟩ => rfl
    | ⟨1, _⟩ => show b.val % 1024 = b.val; have := b.isLt; omega
  show Value.G2 m c (ix2 s b) = _
  unfold Value.G2
  rw [dif_pos (by rw [hp]; exact hb), Value.fold0_congr m c _ _ (4 * (s.val / 1408) + 3) (by omega) hp,
    ← Value.outsAt0_sweep m c _ hb, hl,
    acc_four m c (s.val / 1408) (by have := s.isLt; omega) hb ⟨s.val % 1408, Nat.mod_lt _ (by decide)⟩ b s (by show _ = 1408 * (s.val / 1408) + s.val % 1408; omega)]
  exact sum_tok fun r => act m c (ix2 r s) * dy m c (ix2 r b)

/-! ## What the host prepares -/

/-- The activation the region finds is the reference's, narrowed. -/
theorem V_act (c : Dev nD) : act m c
    = truncf (F := Ideal) .bf16 (Cert.DwoReferenceIdeal.Read.val_main_v5 (F := Ideal) (m ((c : Thread nD τ).loc main_arg0)) (m ((c : Thread nD τ).loc main_arg1)) : Vec Ideal S4096x2816 .f32) Gen.bitsLt_bf16_f32 := by
  show V m c main_v5 = _
  unfold V Cert.DwoReferenceIdeal.Read.val_main_v5 Cert.DwoReferenceIdeal.Read.val_main_v4 Cert.DwoReferenceIdeal.Read.val_main_v3 Cert.DwoReferenceIdeal.Read.val_main_v2 Cert.DwoReferenceIdeal.Read.val_main_v1 Cert.DwoReferenceIdeal.Read.val_main_call0_v5 Cert.DwoReferenceIdeal.Read.val_main_call0_v4 Cert.DwoReferenceIdeal.Read.val_main_call0_v3 Cert.DwoReferenceIdeal.Read.val_main_call0_v2 Cert.DwoReferenceIdeal.Read.val_main_call0_v1 Cert.DwoReferenceIdeal.Read.val_main_call0_v0 Cert.DwoReferenceIdeal.Read.val_main_call0_cst Cert.DwoReferenceIdeal.Read.val_main_call0_cst_0
  simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
  after_results
  rfl

/-- The output gradient the region finds is the argument, narrowed. -/
theorem V_dy (c : Dev nD) : dy m c
    = truncf (F := Ideal) .bf16 (m ((c : Thread nD τ).loc main_arg2) : Vec Ideal S4096x1024 .f32) Gen.bitsLt_bf16_f32 := by
  show V m c main_v6 = _
  unfold V
  simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
  after_results

end Cert.DwoKernelIdeal.Acc

/-! ## The claim -/

namespace Cert.DwoReferenceIdeal.Sum

open Cert.DwoReferenceIdeal Cert.DwoReferenceIdeal.Gen

/-- The reference's result, at an element: the same sum, its factors in the other order. -/
theorem ref_apply (x0 : Vec Ideal S4096x1024 .f32) (x1 : Vec Ideal S1024x5632 .f32) (x2 : Vec Ideal S4096x1024 .f32)
    (s : Fin 2816) (b : Fin 1024) :
    (Read.val_main_v9 (F := Ideal) x0 x1 x2 : Vec Ideal S2816x1024 .bf16) (ix2 s b)
      = ∑ r : Fin 4096, x2 (ix2 r b) * (Read.val_main_v5 (F := Ideal) x0 x1 : Vec Ideal S4096x2816 .f32) (ix2 r s) := by
  unfold Read.val_main_v9 Read.val_main_v8 Read.val_main_v7
  generalize (Read.val_main_v5 (F := Ideal) x0 x1 : Vec Ideal S4096x2816 .f32) = f
  pointwise

end Cert.DwoReferenceIdeal.Sum

namespace Cert.DwoKernelIdeal.Acc

open Cert.DwoKernelIdeal Cert.DwoKernelIdeal.Gen

/-- The kernel's result is the reference's. -/
theorem res_eq (m : (ℓ : Loc nD τ sig) → Buf (Elt Ideal) ℓ) (c : Dev nD) : res m c
    = (Cert.DwoReferenceIdeal.Read.val_main_v9 (F := Ideal) (m ((c : Thread nD τ).loc main_arg0)) (m ((c : Thread nD τ).loc main_arg1))
        (m ((c : Thread nD τ).loc main_arg2)) : Vec Ideal S2816x1024 .bf16) := by
  funext j
  idx_vars j
  rw [final_apply, V_act, V_dy]
  refine Eq.trans ?_ (Cert.DwoReferenceIdeal.Sum.ref_apply _ _ _ j0 j1).symm
  refine Finset.sum_congr rfl fun r _ => ?_
  rw [mul_comm]
  rfl

theorem algebraic : Cert.algebraic_DwoKernelIdeal_DwoReferenceIdeal := by
  intro m g m' g' _ hargs
  refine ⟨fun c => Value.G2 m c, Value.run m g, ?_⟩
  refine (θ_run _ _ _).mono (fun r h c => ?_) (Cert.DwoReferenceIdeal.Value.run m' g')
  obtain ⟨h0, hr⟩ := h c
  refine ⟨h0.trans ?_, hr⟩
  obtain ⟨e0, e1, e2⟩ := hargs c
  rw [Cert.DwoReferenceIdeal.Read.val_main_v9_eq, e0, e1, e2]
  exact (res_eq m c).symm

end Cert.DwoKernelIdeal.Acc

end
-- ==== Proof.DwiValue.lean ====
/-
  The gradient of the feed-forward block's input weights: what the accumulating product leaves in its result.

  As for the output weights, with the gradient of the hidden layer (gate and up columns side by side) in the
  activation's place and the block's input in the output gradient's: four blocks of 1408 weight rows, and for each a
  running sum over four blocks of 1024 tokens. The host prepares the hidden gradient by the reference's own operations,
  so the two programs are compared at that array.
-/
module

public import proofs.«01_k».proof.Defs
public import proofs.«01_k».proof.Proof.Gen.DwiKernelIdeal.Value
public import proofs.«01_k».proof.Proof.Gen.DwiReferenceIdeal.Read
public import Idealize.ShloMosaic.Lib.Pointwise
public import Idealize.ShloMosaic.Lib.Tactic

@[expose] public section

noncomputable section

open Idealize.ShloMosaic Idealize.ShloMosaic.TcCoe Idealize.SL.Sem

namespace Cert.DwiKernelIdeal.Acc

open Cert.DwiKernelIdeal Cert.DwiKernelIdeal.Gen

theorem off0 : (![0, 0] : Fin 2 → Nat) = fun _ => 0 := funext fun a => by fin_cases a <;> rfl

/-! ## What one grid point computes -/

section
variable {F : FTy → Type} [FloatOps F]

/-- The first token block of a row block: the scratch is zeroed, then the block's product is added. -/
theorem sout_A (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x : Vec F S1024x1408 .bf16) (y : Vec F S1024x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) off0, View.readCov_unit_zero (S := S1408x1024) _ off0]
  simp only [View.readAt_eq_ld, h3.read_unread, h4.read_unread, h6.read_unread, View.ld_unit_zero (S := S1024x1408) off0,
    View.ld_unit_zero (S := S1024x1024) off0, View.ld_unit_zero (S := S1408x1024) off0]

/-- A later token block that is not the last: the block's product is added to what the scratch held. -/
theorem sout_B (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x : Vec F S1024x1408 .bf16) (y : Vec F S1024x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero off0]
  simp only [View.readAt_eq_ld, h3.read_unread, h4.read_unread, h6.read_unread, View.ld_unit_zero (S := S1024x1408) off0,
    View.ld_unit_zero (S := S1024x1024) off0, View.ld_unit_zero (S := S1408x1024) off0]

/-- The last token block: the scratch is updated the same way, … -/
theorem sout_C (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1024x1408 .bf16) (y : Vec F S1024x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero off0]
  simp only [View.readAt_eq_ld, h3.read_unread, h4.read_unread, h6.read_unread, View.ld_unit_zero (S := S1024x1408) off0,
    View.ld_unit_zero (S := S1024x1024) off0, View.ld_unit_zero (S := S1408x1024) off0]

/-- … and the output block is the scratch's new contents, narrowed. -/
theorem out_C (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1024x1408 .bf16) (y : Vec F S1024x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero off0, View.readCov_unit_zero (S := S1408x1024) _ off0]
  simp only [View.readAt_eq_ld, h3.read_unread, h4.read_unread, h6.read_unread, View.ld_unit_zero (S := S1024x1408) off0,
    View.ld_unit_zero (S := S1024x1024) off0, View.ld_unit_zero (S := S1408x1024) off0]
end

/-- One token block's product, added, at an element. -/
theorem pay2_apply (s : Vec Ideal S1408x1024 .f32) (x : Vec Ideal S1024x1408 .bf16) (y : Vec Ideal S1024x1024 .bf16)
    (a : Fin 1408) (b : Fin 1024) :
    k0_pay2 (F := Ideal) s x y (ix2 a b) = s (ix2 a b) + ∑ k : Fin 1024, x (ix2 k a) * y (ix2 k b) := by
  pointwise [k0_pay2]

theorem pay1_apply (a : Fin 1408) (b : Fin 1024) : k0_pay1 (F := Ideal) (ix2 a b) = 0 := by
  pointwise [k0_pay1]

theorem pay3_apply (s : Vec Ideal S1408x1024 .f32) (a : Fin 1408) (b : Fin 1024) :
    k0_pay3 (F := Ideal) s (ix2 a b) = s (ix2 a b) := by
  pointwise [k0_pay3]

/-! ## The blocks the windows bring -/

variable (m : (ℓ : Loc nD τ sig) → Buf (Elt Ideal) ℓ) (ρ : Dev nD → PrngReg)

/-- The hidden gradient as the region finds it, and the block's input. -/
abbrev dau (c : Dev nD) : Vec Ideal S4096x5632 .bf16 := V m c main_v11
abbrev hh (c : Dev nD) : Vec Ideal S4096x1024 .bf16 := V m c main_v12
/-- Their blocks at point `t`. -/
abbrev blk0 (c : Dev nD) (t : Fin cfg0.N) : Vec Ideal S1024x1408 .bf16 := iblk m c 0 t
abbrev blk1 (c : Dev nD) (t : Fin cfg0.N) : Vec Ideal S1024x1024 .bf16 := iblk m c 1 t
/-- What the run leaves in the result array. -/
abbrev res (c : Dev nD) : Vec Ideal S5632x1024 .bf16 := Value.G2 m c

/-- The two index maps over the grid: the hidden gradient's block is (token block, row block), the input's (token block, 0). -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

/-- The hidden gradient's block at point `t`: tokens `1024·(t mod 4) + k`, columns `1408·(t / 4) + a` of the whole array. -/
theorem iblk0_apply (c : Dev nD) (t : Fin cfg0.N) (k : Fin 1024) (a : Fin 1408) (r : Fin 4096) (s : Fin 5632)
    (hr : r.val = 1024 * (t.val % 4) + k.val) (hs : s.val = 1408 * (t.val / 4) + a.val) :
    blk0 m c t (ix2 k a) = dau m c (ix2 r s) := by
  unfold blk0 iblk
  rw [View.read_apply]
  show dau m c _ = dau m c _
  generalize dau m c = f
  congr 1
  obtain ⟨e0, e1⟩ := idx0 t
  funext d
  apply Fin.ext
  match d with
  | ⟨0, _⟩ => show win0_0.index t (0 : Fin 2) * 1024 + 1 * k.val = r.val; rw [e0]; omega
  | ⟨1, _⟩ => show win0_0.index t (1 : Fin 2) * 1408 + 1 * a.val = s.val; rw [e1]; omega

/-- The input's block at point `t`: tokens `1024·(t mod 4) + k`, every column. -/
theorem iblk1_apply (c : Dev nD) (t : Fin cfg0.N) (k : Fin 1024) (b : Fin 1024) (r : Fin 4096)
    (hr : r.val = 1024 * (t.val % 4) + k.val) :
    blk1 m c t (ix2 k b) = hh m c (ix2 r b) := by
  unfold blk1 iblk
  rw [View.read_apply]
  show hh m c _ = hh m c _
  generalize hh m c = f
  congr 1
  obtain ⟨e0, e1⟩ := idx1 t
  funext d
  apply Fin.ext
  match d with
  | ⟨0, _⟩ => show win0_1.index t (0 : Fin 2) * 1024 + 1 * k.val = r.val; rw [e0]; omega
  | ⟨1, _⟩ => show win0_1.index t (1 : Fin 2) * 1024 + 1 * b.val = b.val; rw [e1]; omega

/-! ## The running sum -/

/-- Token `1024·q + k`. -/
abbrev tok (q : Fin 4) (k : Fin 1024) : Fin 4096 := ⟨1024 * q.val + k.val, by omega⟩

/-- What token block `q` adds to the result's element `(s, b)`. -/
def part (dau : Vec Ideal S4096x5632 .bf16) (hh : Vec Ideal S4096x1024 .bf16) (s : Fin 5632) (b : Fin 1024) (q : Fin 4) : EReal :=
  ∑ k : Fin 1024, dau (ix2 (tok q k) s) * hh (ix2 (tok q k) b)

theorem block_sum (c : Dev nD) (t : Fin cfg0.N) (q : Fin 4) (hq : t.val % 4 = q.val) (a : Fin 1408) (b : Fin 1024) (s : Fin 5632)
    (hs : s.val = 1408 * (t.val / 4) + a.val) :
    (∑ k : Fin 1024, blk0 m c t (ix2 k a) * blk1 m c t (ix2 k b))
      = part (dau m c) (hh m c) s b q :=
  Finset.sum_congr rfl fun k _ => by
    rw [iblk0_apply m c t k a (tok q k) s (by show _ = _; rw [hq]) hs, iblk1_apply m c t k b (tok q k) (by show _ = _; rw [hq])]

/-- After the first token block: its part. -/
theorem acc_first (c : Dev nD) (n : ℕ) (hn : n < cfg0.N) (h : n % 4 = 0) (a : Fin 1408) (b : Fin 1024) (s : Fin 5632)
    (hs : s.val = 1408 * (n / 4) + a.val) :
    (outsAt0 m c n hn).2 (ix2 a b) = part (dau m c) (hh m c) s b 0 := by
  rw [outsAt0_A m c ⟨n, hn⟩ h (by show ¬n % 4 = 3; omega)]
  dsimp only
  rw [sout_A, pay2_apply, pay1_apply, zero_add]
  exact block_sum m c ⟨n, hn⟩ 0 h a b s hs

/-- After a later token block: its part more. -/
theorem acc_next (c : Dev nD) (n : ℕ) (hn : n + 1 < cfg0.N) (q : Fin 4) (hq : (n + 1) % 4 = q.val) (h : q.val ≠ 0)
    (a : Fin 1408) (b : Fin 1024) (s : Fin 5632) (hs : s.val = 1408 * ((n + 1) / 4) + a.val) :
    (outsAt0 m c (n + 1) hn).2 (ix2 a b)
      = (outsAt0 m c n (Nat.lt_of_succ_lt hn)).2 (ix2 a b) + part (dau m c) (hh m c) s b q := by
  by_cases h3 : (n + 1) % 4 = 3
  · rw [outsAt0_C m c ⟨n + 1, hn⟩ (by show ¬(n + 1) % 4 = 0; omega) h3]
    dsimp only
    rw [sout_C, pay2_apply, block_sum m c ⟨n + 1, hn⟩ q hq a b s hs]
    rfl
  · rw [outsAt0_B m c ⟨n + 1, hn⟩ (by show ¬(n + 1) % 4 = 0; omega) h3]
    dsimp only
    rw [sout_B, pay2_apply, block_sum m c ⟨n + 1, hn⟩ q hq a b s hs]
    rfl

/-- At the last token block the output block is the scratch. -/
theorem out_last (c : Dev nD) (n : ℕ) (hn : n < cfg0.N) (h : n % 4 = 3) (a : Fin 1408) (b : Fin 1024) :
    (outsAt0 m c n hn).1 (ix2 a b) = (outsAt0 m c n hn).2 (ix2 a b) := by
  rw [outsAt0_C m c ⟨n, hn⟩ (by show ¬n % 4 = 0; omega) h]
  dsimp only
  rw [out_C, sout_C, pay3_apply]

/-- After the four token blocks of row block `p`: the four parts. -/
theorem acc_four (c : Dev nD) (p : ℕ) (hp : p < 4) (hn : 4 * p + 3 < cfg0.N) (a : Fin 1408) (b : Fin 1024) (s : Fin 5632)
    (hs : s.val = 1408 * p + a.val) :
    (outsAt0 m c (4 * p + 3) hn).1 (ix2 a b) = ∑ q : Fin 4, part (dau m c) (hh m c) s b q := by
  rw [out_last m c _ hn (by omega), acc_next m c (4 * p + 2) hn 3 (by show _ = 3; omega) (by decide) a b s (by omega),
    acc_next m c (4 * p + 1) _ 2 (by show _ = 2; omega) (by decide) a b s (by omega),
    acc_next m c (4 * p) _ 1 (by show _ = 1; omega) (by decide) a b s (by omega),
    acc_first m c (4 * p) _ (by omega) a b s (by omega), Fin.sum_univ_four]

/-- The four blocks of 1024 tokens are the 4096 tokens. -/
theorem sum_tok (f : Fin 4096 → EReal) : ∑ q : Fin 4, ∑ k : Fin 1024, f (tok q k) = ∑ r : Fin 4096, f r := by
  rw [← Fintype.sum_prod_type' (fun (q : Fin 4) (k : Fin 1024) => f (tok q k))]
  refine Fintype.sum_equiv (finProdFinEquiv (m := 4) (n := 1024)) _ _ fun x => congrArg f (Fin.ext ?_)
  show 1024 * x.1.val + x.2.val = x.2.val + 1024 * x.1.val
  omega

/-- The result array, at an element: the sum over all tokens. -/
theorem final_apply (c : Dev nD) (s : Fin 5632) (b : Fin 1024) :
    res m c (ix2 s b)
      = ∑ r : Fin 4096, dau m c (ix2 r s) * hh m c (ix2 r b) := by
  have hN : cfg0.N = 16 := N_0
  have hp : Value.pt2Of (ix2 s b) = 4 * (s.val / 1408) + 3 := by
    show 4 * (1 * (s.val / 1408 - 0) + 1 * (b.val / 1024 - 0)) + 3 = _
    have := b.isLt; omega
  have hb : 4 * (s.val / 1408) + 3 < cfg0.N := by rw [hN]; have := s.isLt; omega
  have hl : Value.loc2Of (ix2 s b) = ix2 (⟨s.val % 1408, Nat.mod_lt _ (by decide)⟩ : Fin 1408) b := by
    funext d
    apply Fin.ext
    match d with
    | ⟨0, _⟩ => rfl
    | ⟨1, _⟩ => show b.val % 1024 = b.val; have := b.isLt; omega
  show Value.G2 m c (ix2 s b) = _
  unfold Value.G2
  rw [dif_pos (by rw [hp]; exact hb), Value.fold0_congr m c _ _ (4 * (s.val / 1408) + 3) (by omega) hp,
    ← Value.outsAt0_sweep m c _ hb, hl,
    acc_four m c (s.val / 1408) (by have := s.isLt; omega) hb ⟨s.val % 1408, Nat.mod_lt _ (by decide)⟩ b s (by show _ = 1408 * (s.val / 1408) + s.val % 1408; omega)]
  exact sum_tok fun r => dau m c (ix2 r s) * hh m c (ix2 r b)

/-! ## What the host prepares -/

/-- The hidden gradient the region finds is the reference's, narrowed. -/
theorem V_dau (c : Dev nD) : dau m c
    = truncf (F := Ideal) .bf16 (Cert.DwiReferenceIdeal.Read.val_main_v10 (F := Ideal) (m ((c : Thread nD τ).loc main_arg0)) (m ((c : Thread nD τ).loc main_arg1))
        (m ((c : Thread nD τ).loc main_arg2)) (m ((c : Thread nD τ).loc main_arg3)) : Vec Ideal S4096x5632 .f32) Gen.bitsLt_bf16_f32 := by
  show V m c main_v11 = _
  unfold V Cert.DwiReferenceIdeal.Read.val_main_v10
    Cert.DwiReferenceIdeal.Read.val_main_v9
    Cert.DwiReferenceIdeal.Read.val_main_call1_v2
    Cert.DwiReferenceIdeal.Read.val_main_call1_v1
    Cert.DwiReferenceIdeal.Read.val_main_call1_v0
    Cert.DwiReferenceIdeal.Read.val_main_v8
    Cert.DwiReferenceIdeal.Read.val_main_v7
    Cert.DwiReferenceIdeal.Read.val_main_v6
    Cert.DwiReferenceIdeal.Read.val_main_v3_0
    Cert.DwiReferenceIdeal.Read.val_main_v3_1
    Cert.DwiReferenceIdeal.Read.val_main_call0_v7
    Cert.DwiReferenceIdeal.Read.val_main_call0_v6
    Cert.DwiReferenceIdeal.Read.val_main_call0_cst_1
    Cert.DwiReferenceIdeal.Read.val_main_v3_2
    Cert.DwiReferenceIdeal.Read.val_main_call0_v4
    Cert.DwiReferenceIdeal.Read.val_main_call0_cst_0
    Cert.DwiReferenceIdeal.Read.val_main_call0_v3
    Cert.DwiReferenceIdeal.Read.val_main_call0_v2
    Cert.DwiReferenceIdeal.Read.val_main_call0_cst
    Cert.DwiReferenceIdeal.Read.val_main_call0_v1
    Cert.DwiReferenceIdeal.Read.val_main_call0_v0
    Cert.DwiReferenceIdeal.Read.val_main_v2
    Cert.DwiReferenceIdeal.Read.val_main_v1
    Cert.DwiReferenceIdeal.Read.val_main_v0
  simp only [hostOps0, hostOps0_1, hostOps0_2, hostOps0_3, hostOps0_4, List.flatten_cons, List.flatten_nil, List.append_nil, List.cons_append, List.nil_append,
      StableHlo.TRef.binary, StableHlo.TRef.nullary, StableHlo.TRef.unary, StableHlo.TRef.toBuf, StableHlo.TRef.ofBuf, cast_eq]
  after_results
  rfl

/-- The input the region finds is the argument, narrowed. -/
theorem V_hh (c : Dev nD) : hh m c
    = truncf (F := Ideal) .bf16 (m ((c : Thread nD τ).loc main_arg0) : Vec Ideal S4096x1024 .f32) Gen.bitsLt_bf16_f32 := by
  show V m c main_v12 = _
  unfold V
  simp only [hostOps0, hostOps0_1, hostOps0_2, hostOps0_3, hostOps0_4, List.flatten_cons, List.flatten_nil, List.append_nil, List.cons_append, List.nil_append,
      StableHlo.TRef.binary, StableHlo.TRef.nullary, StableHlo.TRef.unary, StableHlo.TRef.toBuf, StableHlo.TRef.ofBuf, cast_eq]
  after_results

end Cert.DwiKernelIdeal.Acc

/-! ## The claim -/

namespace Cert.DwiReferenceIdeal.Sum

open Cert.DwiReferenceIdeal Cert.DwiReferenceIdeal.Gen

/-- The reference's result, at an element: the same sum. -/
theorem ref_apply (x0 : Vec Ideal S4096x1024 .f32) (x1 : Vec Ideal S1024x5632 .f32) (x2 : Vec Ideal S2816x1024 .f32)
    (x3 : Vec Ideal S4096x1024 .f32) (s : Fin 5632) (b : Fin 1024) :
    (Read.val_main_v14 (F := Ideal) x0 x1 x2 x3 : Vec Ideal S5632x1024 .bf16) (ix2 s b)
      = ∑ r : Fin 4096, (Read.val_main_v10 (F := Ideal) x0 x1 x2 x3 : Vec Ideal S4096x5632 .f32) (ix2 r s) * x0 (ix2 r b) := by
  unfold Read.val_main_v14 Read.val_main_v13 Read.val_main_v12 Read.val_main_v11
  generalize (Read.val_main_v10 (F := Ideal) x0 x1 x2 x3 : Vec Ideal S4096x5632 .f32) = f
  pointwise

end Cert.DwiReferenceIdeal.Sum

namespace Cert.DwiKernelIdeal.Acc

open Cert.DwiKernelIdeal Cert.DwiKernelIdeal.Gen

/-- The kernel's result is the reference's. -/
theorem res_eq (m : (ℓ : Loc nD τ sig) → Buf (Elt Ideal) ℓ) (c : Dev nD) : res m c
    = (Cert.DwiReferenceIdeal.Read.val_main_v14 (F := Ideal) (m ((c : Thread nD τ).loc main_arg0)) (m ((c : Thread nD τ).loc main_arg1))
        (m ((c : Thread nD τ).loc main_arg2)) (m ((c : Thread nD τ).loc main_arg3)) : Vec Ideal S5632x1024 .bf16) := by
  funext j
  idx_vars j
  rw [final_apply, V_dau, V_hh]
  refine Eq.trans ?_ (Cert.DwiReferenceIdeal.Sum.ref_apply _ _ _ _ j0 j1).symm
  refine Finset.sum_congr rfl fun r _ => ?_
  rfl

theorem algebraic : Cert.algebraic_DwiKernelIdeal_DwiReferenceIdeal := by
  intro m g m' g' _ hargs
  refine ⟨fun c => Value.G2 m c, Value.run m g, ?_⟩
  refine (θ_run _ _ _).mono (fun r h c => ?_) (Cert.DwiReferenceIdeal.Value.run m' g')
  obtain ⟨h0, hr⟩ := h c
  refine ⟨h0.trans ?_, hr⟩
  obtain ⟨e0, e1, e2, e3⟩ := hargs c
  rw [Cert.DwiReferenceIdeal.Read.val_main_v14_eq, e0, e1, e2, e3]
  exact (res_eq m c).symm

end Cert.DwiKernelIdeal.Acc

end
-- ==== Proof.DhCtxBlocks.lean ====
/-
  The gradient of the feed-forward block's input: what one grid point of each of its three calls computes.

  The first call forms the gate and up columns of its 544 tokens and leaves, side by side, the two factors by which a
  gradient of the activation is multiplied; the second multiplies them by the activation's gradient; the third is a plain
  product. Each is read here at an element of its block, as sums of products.
-/
module

public import proofs.«01_k».proof.Proof.Gen.DhCtxKernelIdeal.Frame
public import proofs.«01_k».proof.Proof.SwigluMath
public import Idealize.ShloMosaic.Lib.Pointwise
public import Idealize.ShloMosaic.Lib.Tactic

@[expose] public section

noncomputable section

open Idealize.ShloMosaic Idealize.ShloMosaic.TcCoe Idealize.SL.Sem

namespace Cert.DhCtxKernelIdeal.Blocks

open Cert.DhCtxKernelIdeal Cert.DhCtxKernelIdeal.Gen Cert.SwigluMath

/-- Column `j` of the gate half, of the up half. -/
abbrev lo (j : Fin 2816) : Fin 5632 := ⟨j.val, by omega⟩
abbrev hi (j : Fin 2816) : Fin 5632 := ⟨2816 + j.val, by omega⟩

/-- The hidden layer before the gate: rows of `x` against the stacked, transposed weights' one layer. -/
def hid {n d : ℕ} (x : (⟨2, ![n, 1024]⟩ : Shape).Idx → EReal) (w : (⟨3, ![1, d, 1024]⟩ : Shape).Idx → EReal) (r : Fin n) (j : Fin d) : EReal :=
  ∑ k : Fin 1024, x (ix2 r k) * w (ix3 0 j k)

/-! ## The payloads at an element -/

theorem pay2_apply (x : Vec Ideal S544x1024 .bf16) (w : Vec Ideal S1x2816x1024 .bf16) (r : Fin 544) (j : Fin 2816) :
    k0_pay2 (F := Ideal) x w (ix2 r j) = hid x w r j := by
  unfold hid
  pointwise [k0_pay2, k0_pay1]

theorem pay3_apply (x : Vec Ideal S544x1024 .bf16) (w : Vec Ideal S1x2816x1024 .bf16) (r : Fin 544) (j : Fin 2816) :
    k0_pay3 (F := Ideal) x w (ix2 r j) = hid x w r j := by
  unfold hid
  pointwise [k0_pay3, k0_pay1]

theorem pay6_apply (x : Vec Ideal S544x1024 .bf16) (w w' : Vec Ideal S1x2816x1024 .bf16) (r : Fin 544) (j : Fin 2816) :
    k0_pay6 (F := Ideal) x w w' (ix2 r j) = facG (hid x w r j) (hid x w' r j) := by
  unfold facG
  rw [← pay2_apply x w, ← pay3_apply x w']
  unfold k0_pay6 k0_pay4
  generalize k0_pay2 (F := Ideal) x w = p
  generalize k0_pay3 (F := Ideal) x w' = q
  pointwise

theorem pay7_apply (x : Vec Ideal S544x1024 .bf16) (w : Vec Ideal S1x2816x1024 .bf16) (r : Fin 544) (j : Fin 2816) :
    k0_pay7 (F := Ideal) x w (ix2 r j) = facU (hid x w r j) := by
  unfold facU
  rw [← pay2_apply]
  unfold k0_pay7 k0_pay5 k0_pay4
  generalize k0_pay2 (F := Ideal) x w = p
  pointwise

theorem pay12_apply (x : Vec Ideal S544x1024 .bf16) (w : Vec Ideal S1x2816x1024 .bf16) (f : Vec Ideal S544x2816 .bf16) (r : Fin 544) (j : Fin 2816) :
    k1_pay2 (F := Ideal) x w f (ix2 r j) = hid x w r j * f (ix2 r j) := by
  unfold hid
  pointwise [k1_pay2, k1_pay1]

theorem pay13_apply (x : Vec Ideal S544x1024 .bf16) (w : Vec Ideal S1x2816x1024 .bf16) (f : Vec Ideal S544x2816 .bf16) (r : Fin 544) (j : Fin 2816) :
    k1_pay3 (F := Ideal) x w f (ix2 r j) = hid x w r j * f (ix2 r j) := by
  unfold hid
  pointwise [k1_pay3, k1_pay1]

theorem pay21_apply (x : Vec Ideal S1088x5632 .bf16) (w : Vec Ideal S1x5632x512 .bf16) (r : Fin 1088) (b : Fin 512) :
    k2_pay1 (F := Ideal) x w (ix2 r b) = ∑ j : Fin 5632, x (ix2 r j) * w (ix3 0 j b) := by
  pointwise [k2_pay1]

/-! ## The loads -/

theorem off2 : (![0, 0] : Fin 2 → Nat) = fun _ => 0 := funext fun a => by fin_cases a <;> rfl
theorem off3 : (![0, 0, 0] : Fin 3 → Nat) = fun _ => 0 := funext fun a => by fin_cases a <;> rfl

theorem ld_x (x : Vec Ideal S544x1024 .bf16) : View.ld x r0_0 = x :=
  View.ld_unit_zero (S := S544x1024) off2 _ x

theorem hid_lo (x : Vec Ideal S544x1024 .bf16) (w : Vec Ideal S1x5632x1024 .bf16) (r : Fin 544) (j : Fin 2816) :
    hid x (View.ld w r0_1 : Vec Ideal S1x2816x1024 .bf16) r j = hid x w r (lo j) :=
  Finset.sum_congr rfl fun k _ => congrArg (x (ix2 r k) * ·) (congrArg w (funext fun d => Fin.ext (by
    match d with
    | ⟨0, _⟩ => rfl
    | ⟨1, _⟩ => show 0 + 1 * j.val = j.val; omega
    | ⟨2, _⟩ => show 0 + 1 * k.val = k.val; omega)))

theorem hid_hi (x : Vec Ideal S544x1024 .bf16) (w : Vec Ideal S1x5632x1024 .bf16) (r : Fin 544) (j : Fin 2816) :
    hid x (View.ld w r0_2 : Vec Ideal S1x2816x1024 .bf16) r j = hid x w r (hi j) :=
  Finset.sum_congr rfl fun k _ => congrArg (x (ix2 r k) * ·) (congrArg w (funext fun d => Fin.ext (by
    match d with
    | ⟨0, _⟩ => rfl
    | ⟨1, _⟩ => show 2816 + 1 * j.val = 2816 + j.val; omega
    | ⟨2, _⟩ => show 0 + 1 * k.val = k.val; omega)))

/-! ## What each body leaves -/

/-- A column of the gate half lies in the first of two side-by-side pieces, … -/
theorem canon_lo (L R : Vec Ideal S544x2816 .bf16) (r : Fin 544) (j : Fin 2816) :
    (View.canon [⟨r0_4, R⟩, ⟨r0_3, L⟩] : Vec Ideal S544x5632 .bf16) (ix2 r (lo j)) = L (ix2 r j) := by
  rw [View.canon_cons_of_not_mem _ _ (by
    rw [Rect.mem_set_unit]
    intro h
    have h1 := (h 1).1
    have : (2816 : ℕ) ≤ j.val := h1
    omega)]
  rw [show ix2 r (lo j) = r0_3.emb (ix2 r j : S544x2816.Idx) from funext fun d => Fin.ext (by
    match d with
    | ⟨0, _⟩ => show r.val = 0 + 1 * r.val; omega
    | ⟨1, _⟩ => show j.val = 0 + 1 * j.val; omega)]
  exact View.canon_cons_emb r0_3 L [] (ix2 r j : S544x2816.Idx)

/-- … one of the up half in the second. -/
theorem canon_hi (L R : Vec Ideal S544x2816 .bf16) (r : Fin 544) (j : Fin 2816) :
    (View.canon [⟨r0_4, R⟩, ⟨r0_3, L⟩] : Vec Ideal S544x5632 .bf16) (ix2 r (hi j)) = R (ix2 r j) := by
  rw [show ix2 r (hi j) = r0_4.emb (ix2 r j : S544x2816.Idx) from funext fun d => Fin.ext (by
    match d with
    | ⟨0, _⟩ => show r.val = 0 + 1 * r.val; omega
    | ⟨1, _⟩ => show 2816 + j.val = 2816 + 1 * j.val; omega)]
  exact View.canon_cons_emb r0_4 R [⟨r0_3, L⟩] (ix2 r j : S544x2816.Idx)

theorem fac_lo (x : Vec Ideal S544x1024 .bf16) (w : Vec Ideal S1x5632x1024 .bf16) (r : Fin 544) (j : Fin 2816) :
    out0_2 (F := Ideal) x w (ix2 r (lo j)) = facG (hid x w r (lo j)) (hid x w r (hi j)) := by
  unfold out0_2
  rw [canon_lo, pay6_apply, ld_x, hid_lo, hid_hi]

theorem fac_hi (x : Vec Ideal S544x1024 .bf16) (w : Vec Ideal S1x5632x1024 .bf16) (r : Fin 544) (j : Fin 2816) :
    out0_2 (F := Ideal) x w (ix2 r (hi j)) = facU (hid x w r (lo j)) := by
  unfold out0_2
  rw [canon_hi, pay7_apply, ld_x, hid_lo]

theorem ld_x' (x : Vec Ideal S544x1024 .bf16) : View.ld x r1_0 = x :=
  View.ld_unit_zero (S := S544x1024) off2 _ x

theorem ld_wo (w : Vec Ideal S1x2816x1024 .bf16) : View.ld w r1_1 = w :=
  View.ld_unit_zero (S := S1x2816x1024) off3 _ w

theorem ld_fac_lo (f : Vec Ideal S544x5632 .bf16) (r : Fin 544) (j : Fin 2816) :
    (View.ld f r1_2 : Vec Ideal S544x2816 .bf16) (ix2 r j) = f (ix2 r (lo j)) :=
  congrArg f (funext fun d => Fin.ext (by
    match d with
    | ⟨0, _⟩ => show 0 + 1 * r.val = r.val; omega
    | ⟨1, _⟩ => show 0 + 1 * j.val = j.val; omega))

theorem ld_fac_hi (f : Vec Ideal S544x5632 .bf16) (r : Fin 544) (j : Fin 2816) :
    (View.ld f r1_3 : Vec Ideal S544x2816 .bf16) (ix2 r j) = f (ix2 r (hi j)) :=
  congrArg f (funext fun d => Fin.ext (by
    match d with
    | ⟨0, _⟩ => show 0 + 1 * r.val = r.val; omega
    | ⟨1, _⟩ => show 2816 + 1 * j.val = 2816 + j.val; omega))

theorem dau_lo (x : Vec Ideal S544x1024 .bf16) (w : Vec Ideal S1x2816x1024 .bf16) (f : Vec Ideal S544x5632 .bf16) (r : Fin 544) (j : Fin 2816) :
    out1_3 (F := Ideal) x w f (ix2 r (lo j)) = hid x w r j * f (ix2 r (lo j)) := by
  unfold out1_3
  rw [ld_x' x, ld_wo]
  refine (canon_lo _ _ r j).trans ?_
  rw [pay12_apply, ld_fac_lo]

theorem dau_hi (x : Vec Ideal S544x1024 .bf16) (w : Vec Ideal S1x2816x1024 .bf16) (f : Vec Ideal S544x5632 .bf16) (r : Fin 544) (j : Fin 2816) :
    out1_3 (F := Ideal) x w f (ix2 r (hi j)) = hid x w r j * f (ix2 r (hi j)) := by
  unfold out1_3
  rw [ld_x' x, ld_wo]
  refine (canon_hi _ _ r j).trans ?_
  rw [pay13_apply, ld_fac_hi]

theorem dh_apply (x : Vec Ideal S1088x5632 .bf16) (w : Vec Ideal S1x5632x512 .bf16) (r : Fin 1088) (b : Fin 512) :
    out2_2 (F := Ideal) x w (ix2 r b) = ∑ j : Fin 5632, x (ix2 r j) * w (ix3 0 j b) := by
  unfold out2_2
  rw [View.canon_unit_zero (S := S1088x512) off2, pay21_apply]
  rw [View.ld_unit_zero (S := S1088x5632) off2,
    View.ld_unit_zero (S := S1x5632x512) off3]

end Cert.DhCtxKernelIdeal.Blocks

end
-- ==== Proof.DhCtxArrays.lean ====
/-
  The gradient of the feed-forward block's input: what its three calls leave in their arrays.

  Each call's blocks tile its result, so an element of a result is an element of the block of one grid point, and that
  block's inputs are rows of the arrays the call was given. The arrays are then followed from call to call, and from the
  arguments into the first.
-/
module

public import proofs.«01_k».proof.Proof.DhCtxBlocks
public import Idealize.ShloMosaic.Lib.Pipeline.ValueKit.Geometry

@[expose] public section

noncomputable section

open Idealize.ShloMosaic Idealize.ShloMosaic.TcCoe Idealize.SL.Sem

namespace Cert.DhCtxKernelIdeal.Arrays

open Cert.DhCtxKernelIdeal Cert.DhCtxKernelIdeal.Gen Cert.DhCtxKernelIdeal.Blocks Cert.SwigluMath

/-! ## The three results as functions of the arrays a call is given -/

/-- The two factors, side by side. -/
def fac (x : Vec Ideal S4352x1024 .bf16) (w : Vec Ideal S1x5632x1024 .bf16) : Vec Ideal S4352x5632 .bf16 := fun i =>
  if h : (i 1).val < 2816 then facG (hid x w (i 0) (lo ⟨(i 1).val, h⟩)) (hid x w (i 0) (hi ⟨(i 1).val, h⟩))
  else facU (hid x w (i 0) (lo ⟨(i 1).val - 2816, by have : (i 1).val < 5632 := (i 1).isLt; omega⟩))

theorem fac_at_lo (x : Vec Ideal S4352x1024 .bf16) (w : Vec Ideal S1x5632x1024 .bf16) (r : Fin 4352) (j : Fin 2816) :
    fac x w (ix2 r (lo j)) = facG (hid x w r (lo j)) (hid x w r (hi j)) := dif_pos j.isLt

theorem fac_at_hi (x : Vec Ideal S4352x1024 .bf16) (w : Vec Ideal S1x5632x1024 .bf16) (r : Fin 4352) (j : Fin 2816) :
    fac x w (ix2 r (hi j)) = facU (hid x w r (lo j)) :=
  (dif_neg (show ¬(2816 + j.val < 2816) by omega)).trans
    (congrArg (fun q : Fin 2816 => facU (hid x w r (lo q))) (Fin.ext (show 2816 + j.val - 2816 = j.val by omega)))

/-- The column within its half. -/
abbrev half (j : Fin 5632) : Fin 2816 := ⟨j.val % 2816, Nat.mod_lt _ (by decide)⟩

theorem half_lo (j : Fin 2816) : half (lo j) = j := Fin.ext (Nat.mod_eq_of_lt j.isLt)
theorem half_hi (j : Fin 2816) : half (hi j) = j := Fin.ext (by show (2816 + j.val) % 2816 = j.val; omega)

/-- A column is one of the gate half or one of the up half. -/
theorem lo_or_hi (j : Fin 5632) : (∃ q, j = lo q) ∨ (∃ q, j = hi q) := by
  by_cases h : j.val < 2816
  · exact .inl ⟨⟨j.val, h⟩, rfl⟩
  · exact .inr ⟨⟨j.val - 2816, by omega⟩, Fin.ext (by show j.val = 2816 + (j.val - 2816); omega)⟩

/-- The hidden gradient: the activation's gradient times the two factors. -/
def dau (y : Vec Ideal S4352x1024 .bf16) (w : Vec Ideal S1x2816x1024 .bf16) (f : Vec Ideal S4352x5632 .bf16) : Vec Ideal S4352x5632 .bf16 :=
  fun i => hid y w (i 0) (half (i 1)) * f i

theorem dau_at (y : Vec Ideal S4352x1024 .bf16) (w : Vec Ideal S1x2816x1024 .bf16) (f : Vec Ideal S4352x5632 .bf16) (r : Fin 4352) (j : Fin 5632) :
    dau y w f (ix2 r j) = hid y w r (half j) * f (ix2 r j) := rfl

/-- The input's gradient: the hidden gradient times the weights. -/
def dh (g : Vec Ideal S4352x5632 .bf16) (w : Vec Ideal S1x5632x1024 .bf16) : Vec Ideal S4352x1024 .f32 :=
  fun i => ∑ j : Fin 5632, g (ix2 (i 0) j) * w (ix3 0 j (i 1))

theorem dh_at (g : Vec Ideal S4352x5632 .bf16) (w : Vec Ideal S1x5632x1024 .bf16) (r : Fin 4352) (b : Fin 1024) :
    dh g w (ix2 r b) = ∑ j : Fin 5632, g (ix2 r j) * w (ix3 0 j b) := rfl

/-! ## The blocks -/

theorem ix00 : ∀ t : Fin cfg0.N, win0_0.index t (0 : Fin 2) = t.val ∧ win0_0.index t (1 : Fin 2) = 0 :=
  (by decide +kernel : ∀ t : Fin grid0.N, _)
theorem ix01 : ∀ t : Fin cfg0.N, win0_1.index t (0 : Fin 3) = 0 ∧ win0_1.index t (1 : Fin 3) = 0 ∧ win0_1.index t (2 : Fin 3) = 0 :=
  (by decide +kernel : ∀ t : Fin grid0.N, _)
theorem ix02 : ∀ t : Fin cfg0.N, win0_2.index t (0 : Fin 2) = t.val ∧ win0_2.index t (1 : Fin 2) = 0 :=
  (by decide +kernel : ∀ t : Fin grid0.N, _)
theorem ix10 : ∀ t : Fin cfg1.N, win1_0.index t (0 : Fin 2) = t.val ∧ win1_0.index t (1 : Fin 2) = 0 :=
  (by decide +kernel : ∀ t : Fin grid1.N, _)
theorem ix11 : ∀ t : Fin cfg1.N, win1_1.index t (0 : Fin 3) = 0 ∧ win1_1.index t (1 : Fin 3) = 0 ∧ win1_1.index t (2 : Fin 3) = 0 :=
  (by decide +kernel : ∀ t : Fin grid1.N, _)
theorem ix12 : ∀ t : Fin cfg1.N, win1_2.index t (0 : Fin 2) = t.val ∧ win1_2.index t (1 : Fin 2) = 0 :=
  (by decide +kernel : ∀ t : Fin grid1.N, _)
theorem ix13 : ∀ t : Fin cfg1.N, win1_3.index t (0 : Fin 2) = t.val ∧ win1_3.index t (1 : Fin 2) = 0 :=
  (by decide +kernel : ∀ t : Fin grid1.N, _)
theorem ix20 : ∀ t : Fin cfg2.N, win2_0.index t (0 : Fin 2) = t.val % 4 ∧ win2_0.index t (1 : Fin 2) = 0 :=
  (by decide +kernel : ∀ t : Fin grid2.N, _)
theorem ix21 : ∀ t : Fin cfg2.N, win2_1.index t (0 : Fin 3) = 0 ∧ win2_1.index t (1 : Fin 3) = 0 ∧ win2_1.index t (2 : Fin 3) = t.val / 4 :=
  (by decide +kernel : ∀ t : Fin grid2.N, _)
theorem ix22 : ∀ t : Fin cfg2.N, win2_2.index t (0 : Fin 2) = t.val % 4 ∧ win2_2.index t (1 : Fin 2) = t.val / 4 :=
  (by decide +kernel : ∀ t : Fin grid2.N, _)

section Regions

variable (V : (c : Dev nD) → (b : Ref sig .tc) → Buf (Elt Ideal) ((c : Thread nD τ).loc b))

/-- The arrays a call finds. -/
abbrev arrX (c : Dev nD) : Vec Ideal S4352x1024 .bf16 := V c main_v0
abbrev arrWi (c : Dev nD) : Vec Ideal S1x5632x1024 .bf16 := V c main_v3
abbrev arrWo (c : Dev nD) : Vec Ideal S1x2816x1024 .bf16 := V c main_v5
abbrev arrY (c : Dev nD) : Vec Ideal S4352x1024 .bf16 := V c main_v6
abbrev arrF (c : Dev nD) : Vec Ideal S4352x5632 .bf16 := V c main_v7_0
abbrev arrG (c : Dev nD) : Vec Ideal S4352x5632 .bf16 := V c main_v8

abbrev b00 (c : Dev nD) (t : Fin cfg0.N) : Vec Ideal S544x1024 .bf16 := iblk0 V c 0 t
abbrev b01 (c : Dev nD) (t : Fin cfg0.N) : Vec Ideal S1x5632x1024 .bf16 := iblk0 V c 1 t
abbrev b10 (c : Dev nD) (t : Fin cfg1.N) : Vec Ideal S544x1024 .bf16 := iblk1 V c 0 t
abbrev b11 (c : Dev nD) (t : Fin cfg1.N) : Vec Ideal S1x2816x1024 .bf16 := iblk1 V c 1 t
abbrev b12 (c : Dev nD) (t : Fin cfg1.N) : Vec Ideal S544x5632 .bf16 := iblk1 V c 2 t
abbrev b20 (c : Dev nD) (t : Fin cfg2.N) : Vec Ideal S1088x5632 .bf16 := iblk2 V c 0 t
abbrev b21 (c : Dev nD) (t : Fin cfg2.N) : Vec Ideal S1x5632x512 .bf16 := iblk2 V c 1 t

theorem b00_apply (c : Dev nD) (t : Fin cfg0.N) (a : Fin 544) (k : Fin 1024) (r : Fin 4352) (hr : r.val = 544 * t.val + a.val) :
    b00 V c t (ix2 a k) = arrX V c (ix2 r k) := by
  unfold b00 iblk0
  rw [View.read_apply]
  show arrX V c _ = arrX V c _
  generalize arrX V c = f
  congr 1
  obtain ⟨e0, e1⟩ := ix00 t
  funext d
  apply Fin.ext
  match d with
  | ⟨0, _⟩ => show win0_0.index t (0 : Fin 2) * 544 + 1 * a.val = r.val; rw [e0]; omega
  | ⟨1, _⟩ => show win0_0.index t (1 : Fin 2) * 1024 + 1 * k.val = k.val; rw [e1]; omega

theorem b01_apply (c : Dev nD) (t : Fin cfg0.N) (z : Fin 1) (j : Fin 5632) (k : Fin 1024) :
    b01 V c t (ix3 z j k) = arrWi V c (ix3 z j k) := by
  unfold b01 iblk0
  rw [View.read_apply]
  show arrWi V c _ = arrWi V c _
  generalize arrWi V c = f
  congr 1
  obtain ⟨e0, e1, e2⟩ := ix01 t
  funext d
  apply Fin.ext
  match d with
  | ⟨0, _⟩ => show win0_1.index t (0 : Fin 3) * 1 + 1 * z.val = z.val; rw [e0]; omega
  | ⟨1, _⟩ => show win0_1.index t (1 : Fin 3) * 5632 + 1 * j.val = j.val; rw [e1]; omega
  | ⟨2, _⟩ => show win0_1.index t (2 : Fin 3) * 1024 + 1 * k.val = k.val; rw [e2]; omega

theorem b10_apply (c : Dev nD) (t : Fin cfg1.N) (a : Fin 544) (k : Fin 1024) (r : Fin 4352) (hr : r.val = 544 * t.val + a.val) :
    b10 V c t (ix2 a k) = arrY V c (ix2 r k) := by
  unfold b10 iblk1
  rw [View.read_apply]
  show arrY V c _ = arrY V c _
  generalize arrY V c = f
  congr 1
  obtain ⟨e0, e1⟩ := ix10 t
  funext d
  apply Fin.ext
  match d with
  | ⟨0, _⟩ => show win1_0.index t (0 : Fin 2) * 544 + 1 * a.val = r.val; rw [e0]; omega
  | ⟨1, _⟩ => show win1_0.index t (1 : Fin 2) * 1024 + 1 * k.val = k.val; rw [e1]; omega

theorem b11_apply (c : Dev nD) (t : Fin cfg1.N) (z : Fin 1) (j : Fin 2816) (k : Fin 1024) :
    b11 V c t (ix3 z j k) = arrWo V c (ix3 z j k) := by
  unfold b11 iblk1
  rw [View.read_apply]
  show arrWo V c _ = arrWo V c _
  generalize arrWo V c = f
  congr 1
  obtain ⟨e0, e1, e2⟩ := ix11 t
  funext d
  apply Fin.ext
  match d with
  | ⟨0, _⟩ => show win1_1.index t (0 : Fin 3) * 1 + 1 * z.val = z.val; rw [e0]; omega
  | ⟨1, _⟩ => show win1_1.index t (1 : Fin 3) * 2816 + 1 * j.val = j.val; rw [e1]; omega
  | ⟨2, _⟩ => show win1_1.index t (2 : Fin 3) * 1024 + 1 * k.val = k.val; rw [e2]; omega

theorem b12_apply (c : Dev nD) (t : Fin cfg1.N) (a : Fin 544) (j : Fin 5632) (r : Fin 4352) (hr : r.val = 544 * t.val + a.val) :
    b12 V c t (ix2 a j) = arrF V c (ix2 r j) := by
  unfold b12 iblk1
  rw [View.read_apply]
  show arrF V c _ = arrF V c _
  generalize arrF V c = f
  congr 1
  obtain ⟨e0, e1⟩ := ix12 t
  funext d
  apply Fin.ext
  match d with
  | ⟨0, _⟩ => show win1_2.index t (0 : Fin 2) * 544 + 1 * a.val = r.val; rw [e0]; omega
  | ⟨1, _⟩ => show win1_2.index t (1 : Fin 2) * 5632 + 1 * j.val = j.val; rw [e1]; omega

theorem b20_apply (c : Dev nD) (t : Fin cfg2.N) (a : Fin 1088) (j : Fin 5632) (r : Fin 4352) (hr : r.val = 1088 * (t.val % 4) + a.val) :
    b20 V c t (ix2 a j) = arrG V c (ix2 r j) := by
  unfold b20 iblk2
  rw [View.read_apply]
  show arrG V c _ = arrG V c _
  generalize arrG V c = f
  congr 1
  obtain ⟨e0, e1⟩ := ix20 t
  funext d
  apply Fin.ext
  match d with
  | ⟨0, _⟩ => show win2_0.index t (0 : Fin 2) * 1088 + 1 * a.val = r.val; rw [e0]; omega
  | ⟨1, _⟩ => show win2_0.index t (1 : Fin 2) * 5632 + 1 * j.val = j.val; rw [e1]; omega

theorem b21_apply (c : Dev nD) (t : Fin cfg2.N) (z : Fin 1) (j : Fin 5632) (b : Fin 512) (s : Fin 1024) (hs : s.val = 512 * (t.val / 4) + b.val) :
    b21 V c t (ix3 z j b) = arrWi V c (ix3 z j s) := by
  unfold b21 iblk2
  rw [View.read_apply]
  show arrWi V c _ = arrWi V c _
  generalize arrWi V c = f
  congr 1
  obtain ⟨e0, e1, e2⟩ := ix21 t
  funext d
  apply Fin.ext
  match d with
  | ⟨0, _⟩ => show win2_1.index t (0 : Fin 3) * 1 + 1 * z.val = z.val; rw [e0]; omega
  | ⟨1, _⟩ => show win2_1.index t (1 : Fin 3) * 5632 + 1 * j.val = j.val; rw [e1]; omega
  | ⟨2, _⟩ => show win2_1.index t (2 : Fin 3) * 512 + 1 * b.val = s.val; rw [e2]; omega

theorem hid0 (c : Dev nD) (t : Fin cfg0.N) (a : Fin 544) (j : Fin 5632) (r : Fin 4352) (hr : r.val = 544 * t.val + a.val) :
    hid (b00 V c t) (b01 V c t) a j = hid (arrX V c) (arrWi V c) r j :=
  Finset.sum_congr rfl fun k _ => by rw [b00_apply V c t a k r hr, b01_apply V c t 0 j k]

theorem hid1 (c : Dev nD) (t : Fin cfg1.N) (a : Fin 544) (j : Fin 2816) (r : Fin 4352) (hr : r.val = 544 * t.val + a.val) :
    hid (b10 V c t) (b11 V c t) a j = hid (arrY V c) (arrWo V c) r j :=
  Finset.sum_congr rfl fun k _ => by rw [b10_apply V c t a k r hr, b11_apply V c t 0 j k]

/-! ## The results -/

/-- What the first call leaves in its first result. -/
theorem final0 (c : Dev nD) : (dat0 V c).arrAt 2 cfg0.N = fac (arrX V c) (arrWi V c) := by
  refine (dat0 V c).arrAt_eq_of_covers 2 _ (by decide +kernel) fun t _ y => ?_
  refine (?_ : (dat0 V c).after 2 t ((cfg0.win 2).xinj (grid0.coords t) y) = fac (arrX V c) (arrWi V c) (((cfg0.win 2).blk t).view.emb y))
  rw [after0_2]
  obtain ⟨e0, e1⟩ := ix02 t
  have hN : cfg0.N = 8 := N_0
  have ht : t.val < 8 := hN ▸ t.isLt
  have h0 : (y 0).val < 544 := (y 0).isLt
  have h1 : (y 1).val < 5632 := (y 1).isLt
  have hx : (cfg0.win 2).xinj (grid0.coords t) y = ix2 (⟨(y 0).val, h0⟩ : Fin 544) (⟨(y 1).val, h1⟩ : Fin 5632) := by
    funext d; apply Fin.ext
    match d with
    | ⟨0, _⟩ => rfl
    | ⟨1, _⟩ => rfl
  obtain ⟨r, hr⟩ : ∃ r : Fin 4352, r.val = 544 * t.val + (y 0).val := ⟨⟨544 * t.val + (y 0).val, by omega⟩, rfl⟩
  have he : ((cfg0.win 2).blk t).view.emb y = ix2 r (⟨(y 1).val, h1⟩ : Fin 5632) := by
    funext d; apply Fin.ext
    match d with
    | ⟨0, _⟩ => show win0_2.index t (0 : Fin 2) * 544 + 1 * (y 0).val = r.val; rw [e0]; omega
    | ⟨1, _⟩ => show win0_2.index t (1 : Fin 2) * 5632 + 1 * (y 1).val = (y 1).val; rw [e1]; omega
  rw [hx, he]
  show out0_2 (b00 V c t) (b01 V c t) _ = _
  generalize (⟨(y 1).val, h1⟩ : Fin 5632) = j
  rcases lo_or_hi j with ⟨q, rfl⟩ | ⟨q, rfl⟩
  · rw [fac_lo, fac_at_lo, hid0 V c t (⟨(y 0).val, h0⟩ : Fin 544) _ r hr, hid0 V c t (⟨(y 0).val, h0⟩ : Fin 544) _ r hr]
  · rw [fac_hi, fac_at_hi, hid0 V c t (⟨(y 0).val, h0⟩ : Fin 544) _ r hr]

/-- What the second call leaves. -/
theorem final1 (c : Dev nD) : (dat1 V c).arrAt 3 cfg1.N = dau (arrY V c) (arrWo V c) (arrF V c) := by
  refine (dat1 V c).arrAt_eq_of_covers 3 _ (by decide +kernel) fun t _ y => ?_
  refine (?_ : (dat1 V c).after 3 t ((cfg1.win 3).xinj (grid1.coords t) y) = dau (arrY V c) (arrWo V c) (arrF V c) (((cfg1.win 3).blk t).view.emb y))
  rw [after1_3]
  obtain ⟨e0, e1⟩ := ix13 t
  have hN : cfg1.N = 8 := N_1
  have ht : t.val < 8 := hN ▸ t.isLt
  have h0 : (y 0).val < 544 := (y 0).isLt
  have h1 : (y 1).val < 5632 := (y 1).isLt
  have hx : (cfg1.win 3).xinj (grid1.coords t) y = ix2 (⟨(y 0).val, h0⟩ : Fin 544) (⟨(y 1).val, h1⟩ : Fin 5632) := by
    funext d; apply Fin.ext
    match d with
    | ⟨0, _⟩ => rfl
    | ⟨1, _⟩ => rfl
  obtain ⟨r, hr⟩ : ∃ r : Fin 4352, r.val = 544 * t.val + (y 0).val := ⟨⟨544 * t.val + (y 0).val, by omega⟩, rfl⟩
  have he : ((cfg1.win 3).blk t).view.emb y = ix2 r (⟨(y 1).val, h1⟩ : Fin 5632) := by
    funext d; apply Fin.ext
    match d with
    | ⟨0, _⟩ => show win1_3.index t (0 : Fin 2) * 544 + 1 * (y 0).val = r.val; rw [e0]; omega
    | ⟨1, _⟩ => show win1_3.index t (1 : Fin 2) * 5632 + 1 * (y 1).val = (y 1).val; rw [e1]; omega
  rw [hx, he]
  show out1_3 (b10 V c t) (b11 V c t) (b12 V c t) _ = _
  generalize (⟨(y 1).val, h1⟩ : Fin 5632) = j
  rw [dau_at]
  rcases lo_or_hi j with ⟨q, rfl⟩ | ⟨q, rfl⟩
  · rw [dau_lo, half_lo, hid1 V c t (⟨(y 0).val, h0⟩ : Fin 544) _ r hr, b12_apply V c t (⟨(y 0).val, h0⟩ : Fin 544) _ r hr]
  · rw [dau_hi, half_hi, hid1 V c t (⟨(y 0).val, h0⟩ : Fin 544) _ r hr, b12_apply V c t (⟨(y 0).val, h0⟩ : Fin 544) _ r hr]

/-- What the third call leaves. -/
theorem final2 (c : Dev nD) : (dat2 V c).arrAt 2 cfg2.N = dh (arrG V c) (arrWi V c) := by
  refine (dat2 V c).arrAt_eq_of_covers 2 _ (by decide +kernel) fun t _ y => ?_
  refine (?_ : (dat2 V c).after 2 t ((cfg2.win 2).xinj (grid2.coords t) y) = dh (arrG V c) (arrWi V c) (((cfg2.win 2).blk t).view.emb y))
  rw [after2_2]
  obtain ⟨e0, e1⟩ := ix22 t
  have hN : cfg2.N = 8 := N_2
  have ht : t.val < 8 := hN ▸ t.isLt
  have h0 : (y 0).val < 1088 := (y 0).isLt
  have h1 : (y 1).val < 512 := (y 1).isLt
  have hx : (cfg2.win 2).xinj (grid2.coords t) y = ix2 (⟨(y 0).val, h0⟩ : Fin 1088) (⟨(y 1).val, h1⟩ : Fin 512) := by
    funext d; apply Fin.ext
    match d with
    | ⟨0, _⟩ => rfl
    | ⟨1, _⟩ => rfl
  obtain ⟨r, hr⟩ : ∃ r : Fin 4352, r.val = 1088 * (t.val % 4) + (y 0).val := ⟨⟨1088 * (t.val % 4) + (y 0).val, by omega⟩, rfl⟩
  obtain ⟨s, hs⟩ : ∃ s : Fin 1024, s.val = 512 * (t.val / 4) + (y 1).val := ⟨⟨512 * (t.val / 4) + (y 1).val, by omega⟩, rfl⟩
  have he : ((cfg2.win 2).blk t).view.emb y = ix2 r s := by
    funext d; apply Fin.ext
    match d with
    | ⟨0, _⟩ => show win2_2.index t (0 : Fin 2) * 1088 + 1 * (y 0).val = r.val; rw [e0]; omega
    | ⟨1, _⟩ => show win2_2.index t (1 : Fin 2) * 512 + 1 * (y 1).val = s.val; rw [e1]; omega
  rw [hx, he]
  show out2_2 (b20 V c t) (b21 V c t) _ = _
  rw [dh_apply, dh_at]
  refine Finset.sum_congr rfl fun j _ => ?_
  rw [b20_apply V c t (⟨(y 0).val, h0⟩ : Fin 1088) _ r hr, b21_apply V c t 0 j (⟨(y 1).val, h1⟩ : Fin 512) s hs]

end Regions

end Cert.DhCtxKernelIdeal.Arrays

end
-- ==== Proof.DhCtxValue.lean ====
/-
  The gradient of the feed-forward block's input: the kernel's run with its result, the reference at an element, and that
  the two agree on finite arguments.
-/
module

public import proofs.«01_k».proof.Defs
public import proofs.«01_k».proof.Proof.DhCtxArrays
public import proofs.«01_k».proof.Proof.Gen.DhCtxReferenceIdeal.Read

@[expose] public section

noncomputable section

open Idealize.ShloMosaic Idealize.ShloMosaic.TcCoe Idealize.SL.Sem

namespace Cert.DhCtxKernelIdeal.Result

open Cert.DhCtxKernelIdeal Cert.DhCtxKernelIdeal.Gen Cert.DhCtxKernelIdeal.Blocks Cert.DhCtxKernelIdeal.Arrays Cert.SwigluMath

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs; its result array ends at what the last call's write-backs leave, its arguments as they were. -/
theorem run : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

variable (m : (ℓ : Loc nD τ sig) → Buf (Elt Ideal) ℓ) (ρ : Dev nD → PrngReg)

/-! ## From call to call -/

/-- The arguments at the shapes they have. -/
abbrev argH (c : Dev nD) : Vec Ideal S4352x1024 .f32 := m ((c : Thread nD τ).loc main_arg0)
abbrev argWi (c : Dev nD) : Vec Ideal S1024x5632 .f32 := m ((c : Thread nD τ).loc main_arg1)
abbrev argWo (c : Dev nD) : Vec Ideal S2816x1024 .f32 := m ((c : Thread nD τ).loc main_arg2)
abbrev argDy (c : Dev nD) : Vec Ideal S4352x1024 .f32 := m ((c : Thread nD τ).loc main_arg3)

/-- The input and the weights as the first call finds them. -/
theorem ent_x (c : Dev nD) (r : Fin 4352) (k : Fin 1024) : arrX (V1 m ρ) c (ix2 r k) = argH m c (ix2 r k) := by
  have e : arrX (V1 m ρ) c = truncf (F := Ideal) .bf16 (argH m c) Gen.bitsLt_bf16_f32 := by
    show StableHlo.after hostOps0 (W0 m ρ c) (Proc.devRef .tc main_v0) = _
    simp only [hostOps0, StableHlo.TRef.binary, StableHlo.TRef.nullary, StableHlo.TRef.unary, StableHlo.TRef.toBuf, StableHlo.TRef.ofBuf, cast_eq]
    after_results
  rw [e]; rfl

theorem ent_wi (c : Dev nD) (j : Fin 5632) (k : Fin 1024) : arrWi (V1 m ρ) c (ix3 0 j k) = argWi m c (ix2 k j) := by
  have e : arrWi (V1 m ρ) c = truncf (F := Ideal) .bf16 (transpose S1x5632x1024 [0, 2, 1]
      (broadcastInDim S1x1024x5632 ![1, 2] Gen.bcast_S1024x5632_S1x1024x5632_1_2 (argWi m c) : Vec Ideal S1x1024x5632 .f32) Gen.transposes_S1x1024x5632_S1x5632x1024_0_2_1) Gen.bitsLt_bf16_f32 := by
    show StableHlo.after hostOps0 (W0 m ρ c) (Proc.devRef .tc main_v3) = _
    simp only [hostOps0, StableHlo.TRef.binary, StableHlo.TRef.nullary, StableHlo.TRef.unary, StableHlo.TRef.toBuf, StableHlo.TRef.ofBuf, cast_eq]
    after_results
  rw [e]
  generalize argWi m c = f
  pointwise

theorem ent_wo (c : Dev nD) (j : Fin 2816) (k : Fin 1024) : arrWo (V1 m ρ) c (ix3 0 j k) = argWo m c (ix2 j k) := by
  have e : arrWo (V1 m ρ) c = truncf (F := Ideal) .bf16
      (broadcastInDim S1x2816x1024 ![1, 2] Gen.bcast_S2816x1024_S1x2816x1024_1_2 (argWo m c) : Vec Ideal S1x2816x1024 .f32) Gen.bitsLt_bf16_f32 := by
    show StableHlo.after hostOps0 (W0 m ρ c) (Proc.devRef .tc main_v5) = _
    simp only [hostOps0, StableHlo.TRef.binary, StableHlo.TRef.nullary, StableHlo.TRef.unary, StableHlo.TRef.toBuf, StableHlo.TRef.ofBuf, cast_eq]
    after_results
  rw [e]
  generalize argWo m c = f
  pointwise

theorem ent_dy (c : Dev nD) (r : Fin 4352) (k : Fin 1024) : arrY (V1 m ρ) c (ix2 r k) = argDy m c (ix2 r k) := by
  have e : arrY (V1 m ρ) c = truncf (F := Ideal) .bf16 (argDy m c) Gen.bitsLt_bf16_f32 := by
    show StableHlo.after hostOps0 (W0 m ρ c) (Proc.devRef .tc main_v6) = _
    simp only [hostOps0, StableHlo.TRef.binary, StableHlo.TRef.nullary, StableHlo.TRef.unary, StableHlo.TRef.toBuf, StableHlo.TRef.ofBuf, cast_eq]
    after_results
  rw [e]; rfl

/-- The result, through the three calls. -/
theorem res_eq (c : Dev nD) : W4 m ρ c (Proc.devRef .tc main_v9)
    = dh (dau (arrY (V1 m ρ) c) (arrWo (V1 m ρ) c) (fac (arrX (V1 m ρ) c) (arrWi (V1 m ρ) c))) (arrWi (V1 m ρ) c) := by
  have e2 : arrF (V2 m ρ) c = fac (arrX (V1 m ρ) c) (arrWi (V1 m ρ) c) := (W2_arr m ρ c 2).trans (final0 (V1 m ρ) c)
  have y2 : arrY (V2 m ρ) c = arrY (V1 m ρ) c := W2_of m ρ c main_v6 (by decide)
  have o2 : arrWo (V2 m ρ) c = arrWo (V1 m ρ) c := W2_of m ρ c main_v5 (by decide)
  have i2 : arrWi (V2 m ρ) c = arrWi (V1 m ρ) c := W2_of m ρ c main_v3 (by decide)
  have e3 : arrG (V3 m ρ) c = dau (arrY (V2 m ρ) c) (arrWo (V2 m ρ) c) (arrF (V2 m ρ) c) := (W3_arr m ρ c 3).trans (final1 (V2 m ρ) c)
  have i3 : arrWi (V3 m ρ) c = arrWi (V2 m ρ) c := W3_of m ρ c main_v3 (by decide)
  refine (W4_arr m ρ c 2).trans ((final2 (V3 m ρ) c).trans ?_)
  rw [e3, i3, i2, e2, y2, o2]

end Cert.DhCtxKernelIdeal.Result

/-! ## The reference at an element -/

namespace Cert.DhCtxReferenceIdeal.Grad

open Cert.DhCtxReferenceIdeal Cert.DhCtxReferenceIdeal.Gen Cert.SwigluMath

variable (h : Vec Ideal S4352x1024 .f32) (wi : Vec Ideal S1024x5632 .f32) (wo : Vec Ideal S2816x1024 .f32) (dy : Vec Ideal S4352x1024 .f32)

/-- Column `j` of the gate half, of the up half. -/
abbrev lo (j : Fin 2816) : Fin 5632 := ⟨j.val, by omega⟩
abbrev hi (j : Fin 2816) : Fin 5632 := ⟨2816 + j.val, by omega⟩

/-- The hidden layer before the gate, and the activation's gradient. -/
def pre (r : Fin 4352) (j : Fin 5632) : EReal := ∑ k : Fin 1024, h (ix2 r k) * wi (ix2 k j)
def dact (r : Fin 4352) (j : Fin 2816) : EReal := ∑ k : Fin 1024, dy (ix2 r k) * wo (ix2 j k)

theorem gate_apply (r : Fin 4352) (j : Fin 2816) :
    (Read.val_main_v1 (F := Ideal) h wi : Vec Ideal S4352x2816 .f32) (ix2 r j) = pre h wi r (lo j) := by
  unfold pre Read.val_main_v1 Read.val_main_v0
  pointwise

theorem up_apply (r : Fin 4352) (j : Fin 2816) :
    (Read.val_main_v2 (F := Ideal) h wi : Vec Ideal S4352x2816 .f32) (ix2 r j) = pre h wi r (hi j) := by
  unfold pre Read.val_main_v2 Read.val_main_v0
  pointwise

theorem dact_apply (r : Fin 4352) (j : Fin 2816) :
    (Read.val_main_v6 (F := Ideal) wo dy : Vec Ideal S4352x2816 .f32) (ix2 r j) = dact wo dy r j := by
  unfold dact Read.val_main_v6
  pointwise

theorem sig_apply (r : Fin 4352) (j : Fin 2816) :
    (Read.val_main_v3_2 (F := Ideal) h wi : Vec Ideal S4352x2816 .f32) (ix2 r j) = Ideal.logistic (pre h wi r (lo j)) := by
  rw [← gate_apply]
  unfold Ideal.logistic Read.val_main_v3_2 Read.val_main_call0_v3 Read.val_main_call0_v4 Read.val_main_call0_v2 Read.val_main_call0_cst
    Read.val_main_call0_cst_0 Read.val_main_call0_v1 Read.val_main_call0_v0
  generalize (Read.val_main_v1 (F := Ideal) h wi : Vec Ideal S4352x2816 .f32) = a
  pointwise

theorem dup_apply (r : Fin 4352) (j : Fin 2816) :
    (Read.val_main_v7 (F := Ideal) h wi wo dy : Vec Ideal S4352x2816 .f32) (ix2 r j) = dact wo dy r j * facU (pre h wi r (lo j)) := by
  unfold facU
  rw [← sig_apply, ← gate_apply, ← dact_apply]
  unfold Read.val_main_v7 Read.val_main_v3_0
  generalize (Read.val_main_v1 (F := Ideal) h wi : Vec Ideal S4352x2816 .f32) = a
  generalize (Read.val_main_v3_2 (F := Ideal) h wi : Vec Ideal S4352x2816 .f32) = s
  generalize (Read.val_main_v6 (F := Ideal) wo dy : Vec Ideal S4352x2816 .f32) = d
  rw [mul_comm (d _)]
  pointwise

theorem dgate_apply (r : Fin 4352) (j : Fin 2816) :
    (Read.val_main_v9 (F := Ideal) h wi wo dy : Vec Ideal S4352x2816 .f32) (ix2 r j)
      = gradG (dact wo dy r j) (pre h wi r (lo j)) (pre h wi r (hi j)) := by
  unfold gradG
  rw [← sig_apply, ← gate_apply, ← dact_apply, ← up_apply]
  unfold Read.val_main_v9 Read.val_main_call1_v2 Read.val_main_call1_v1 Read.val_main_call1_v0 Read.val_main_v8 Read.val_main_v3_1
    Read.val_main_call0_v7 Read.val_main_call0_v6 Read.val_main_call0_cst_1
  generalize (Read.val_main_v1 (F := Ideal) h wi : Vec Ideal S4352x2816 .f32) = a
  generalize (Read.val_main_v2 (F := Ideal) h wi : Vec Ideal S4352x2816 .f32) = u
  generalize (Read.val_main_v3_2 (F := Ideal) h wi : Vec Ideal S4352x2816 .f32) = s
  generalize (Read.val_main_v6 (F := Ideal) wo dy : Vec Ideal S4352x2816 .f32) = d
  pointwise

theorem dau_lo (r : Fin 4352) (j : Fin 2816) :
    (Read.val_main_v10 (F := Ideal) h wi wo dy : Vec Ideal S4352x5632 .f32) (ix2 r (lo j))
      = gradG (dact wo dy r j) (pre h wi r (lo j)) (pre h wi r (hi j)) := by
  rw [← dgate_apply]
  unfold Read.val_main_v10
  generalize (Read.val_main_v9 (F := Ideal) h wi wo dy : Vec Ideal S4352x2816 .f32) = a
  generalize (Read.val_main_v7 (F := Ideal) h wi wo dy : Vec Ideal S4352x2816 .f32) = b
  pointwise

theorem dau_hi (r : Fin 4352) (j : Fin 2816) :
    (Read.val_main_v10 (F := Ideal) h wi wo dy : Vec Ideal S4352x5632 .f32) (ix2 r (hi j))
      = dact wo dy r j * facU (pre h wi r (lo j)) := by
  rw [← dup_apply]
  unfold Read.val_main_v10
  generalize (Read.val_main_v9 (F := Ideal) h wi wo dy : Vec Ideal S4352x2816 .f32) = a
  generalize (Read.val_main_v7 (F := Ideal) h wi wo dy : Vec Ideal S4352x2816 .f32) = b
  pointwise

theorem ref_apply (r : Fin 4352) (b : Fin 1024) :
    (Read.val_main_v11 (F := Ideal) h wi wo dy : Vec Ideal S4352x1024 .f32) (ix2 r b)
      = ∑ j : Fin 5632, (Read.val_main_v10 (F := Ideal) h wi wo dy : Vec Ideal S4352x5632 .f32) (ix2 r j) * wi (ix2 b j) := by
  unfold Read.val_main_v11
  generalize (Read.val_main_v10 (F := Ideal) h wi wo dy : Vec Ideal S4352x5632 .f32) = a
  pointwise

end Cert.DhCtxReferenceIdeal.Grad

/-! ## The claim -/

namespace Cert.DhCtxKernelIdeal.Result

open Cert.DhCtxKernelIdeal Cert.DhCtxKernelIdeal.Gen Cert.DhCtxKernelIdeal.Blocks Cert.DhCtxKernelIdeal.Arrays Cert.SwigluMath

variable (m : (ℓ : Loc nD τ sig) → Buf (Elt Ideal) ℓ) (ρ : Dev nD → PrngReg)

/-- The precondition's functions take their shape relations from here. -/
theorem preFacts : Cert.Pre_finite_ffn_ctx.Facts where
  bcast_S_S4352x1024 := by decide
  bcast_S_S1024x5632 := by decide
  bcast_S_S2816x1024 := by decide

theorem hid_x (c : Dev nD) (r : Fin 4352) (j : Fin 5632) :
    hid (arrX (V1 m ρ) c) (arrWi (V1 m ρ) c) r j = Cert.DhCtxReferenceIdeal.Grad.pre (argH m c) (argWi m c) r j :=
  Finset.sum_congr rfl fun k _ => by rw [ent_x, ent_wi]

theorem hid_y (c : Dev nD) (r : Fin 4352) (j : Fin 2816) :
    hid (arrY (V1 m ρ) c) (arrWo (V1 m ρ) c) r j = Cert.DhCtxReferenceIdeal.Grad.dact (argWo m c) (argDy m c) r j :=
  Finset.sum_congr rfl fun k _ => by rw [ent_dy, ent_wo]

/-- The kernel's hidden gradient is the reference's, on real numbers. -/
theorem dau_eq (c : Dev nD) (hh : ∀ i, Real' (argH m c i)) (hwi : ∀ i, Real' (argWi m c i)) (hwo : ∀ i, Real' (argWo m c i))
    (hdy : ∀ i, Real' (argDy m c i)) (r : Fin 4352) (j : Fin 5632) :
    dau (arrY (V1 m ρ) c) (arrWo (V1 m ρ) c) (fac (arrX (V1 m ρ) c) (arrWi (V1 m ρ) c)) (ix2 r j)
      = (Cert.DhCtxReferenceIdeal.Read.val_main_v10 (F := Ideal) (argH m c) (argWi m c) (argWo m c) (argDy m c) : Vec Ideal S4352x5632 .f32) (ix2 r j) := by
  have hp : ∀ q, Real' (Cert.DhCtxReferenceIdeal.Grad.pre (argH m c) (argWi m c) r q) := fun q =>
    Real'.sum _ _ fun k => (hh _).mul (hwi _)
  have hd : ∀ q, Real' (Cert.DhCtxReferenceIdeal.Grad.dact (argWo m c) (argDy m c) r q) := fun q =>
    Real'.sum _ _ fun k => (hdy _).mul (hwo _)
  rw [dau_at]
  rcases lo_or_hi j with ⟨q, rfl⟩ | ⟨q, rfl⟩
  · rw [half_lo, fac_at_lo, hid_x, hid_x, hid_y]
    exact (gradG_eq (hd q) (hp _) (hp _)).trans (Cert.DhCtxReferenceIdeal.Grad.dau_lo _ _ _ _ r q).symm
  · rw [half_hi, fac_at_hi, hid_x, hid_y]
    exact (Cert.DhCtxReferenceIdeal.Grad.dau_hi _ _ _ _ r q).symm

/-- The kernel's result is the reference's, on real numbers. -/
theorem res_ref (c : Dev nD) (hh : ∀ i, Real' (argH m c i)) (hwi : ∀ i, Real' (argWi m c i)) (hwo : ∀ i, Real' (argWo m c i))
    (hdy : ∀ i, Real' (argDy m c i)) :
    W4 m ρ c (Proc.devRef .tc main_v9)
      = (Cert.DhCtxReferenceIdeal.Read.val_main_v11 (F := Ideal) (argH m c) (argWi m c) (argWo m c) (argDy m c) : Vec Ideal S4352x1024 .f32) := by
  rw [res_eq]
  funext i
  idx_vars i
  refine (dh_at _ _ i0 i1).trans (Eq.trans ?_ (Cert.DhCtxReferenceIdeal.Grad.ref_apply _ _ _ _ i0 i1).symm)
  exact Finset.sum_congr rfl fun j _ => by rw [dau_eq m ρ c hh hwi hwo hdy, ent_wi]

theorem algebraic : Cert.algebraic_DhCtxKernelIdeal_DhCtxReferenceIdeal_pre_finite_ffn_ctx (hPre_finite_ffn_ctx := preFacts) := by
  intro m g m' g' hpre hargs
  refine ⟨fun c => W4 m g c (Proc.devRef .tc main_v9), run m g, ?_⟩
  refine (θ_run _ _ _).mono (fun r h c => ?_) (Cert.DhCtxReferenceIdeal.Value.run m' g')
  obtain ⟨h0, hr⟩ := h c
  refine ⟨h0.trans ?_, hr⟩
  obtain ⟨e0, e1, e2, e3⟩ := hargs c
  obtain ⟨p0, p1, p2, p3⟩ := hpre c
  rw [Cert.DhCtxReferenceIdeal.Read.val_main_v11_eq, e0, e1, e2, e3]
  exact (res_ref m g c (real_of_test _ _ p0) (real_of_test _ _ p1) (real_of_test _ _ p2) (real_of_test _ _ p3)).symm

end Cert.DhCtxKernelIdeal.Result

end
-- ==== Proof.DwoCtxValue.lean ====
/-
  The gradient of the feed-forward block's output weights: what the accumulating product leaves in its result.

  The kernel walks the 4352 tokens in four blocks of 1088, and for each of the two blocks of 1408 weight rows keeps a
  running sum in scratch: the first token block starts it at zero, every token block adds its product, the last one
  stores the sum. Here each step is read as a sum over its 1088 tokens, the four steps are put together, and the result
  is the sum over all 4352 tokens of (activation × output gradient).
-/
module

public import proofs.«01_k».proof.Defs
public import proofs.«01_k».proof.Proof.Gen.DwoCtxKernelIdeal.Value
public import proofs.«01_k».proof.Proof.Gen.DwoCtxReferenceIdeal.Read
public import Idealize.ShloMosaic.Lib.Pointwise
public import Idealize.ShloMosaic.Lib.Tactic

@[expose] public section

noncomputable section

open Idealize.ShloMosaic Idealize.ShloMosaic.TcCoe Idealize.SL.Sem

namespace Cert.DwoCtxKernelIdeal.Acc

open Cert.DwoCtxKernelIdeal Cert.DwoCtxKernelIdeal.Gen

theorem off0 : (![0, 0] : Fin 2 → Nat) = fun _ => 0 := funext fun a => by fin_cases a <;> rfl

/-! ## What one grid point computes -/

section
variable {F : FTy → Type} [FloatOps F]

/-- The first token block of a row block: the scratch is zeroed, then the block's product is added. -/
theorem sout_A (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x : Vec F S1088x1408 .bf16) (y : Vec F S1088x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) off0, View.readCov_unit_zero (S := S1408x1024) _ off0]
  simp only [View.readAt_eq_ld, h3.read_unread, h4.read_unread, h6.read_unread, View.ld_unit_zero (S := S1088x1408) off0,
    View.ld_unit_zero (S := S1088x1024) off0, View.ld_unit_zero (S := S1408x1024) off0]

/-- A later token block that is not the last: the block's product is added to what the scratch held. -/
theorem sout_B (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x : Vec F S1088x1408 .bf16) (y : Vec F S1088x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero off0]
  simp only [View.readAt_eq_ld, h3.read_unread, h4.read_unread, h6.read_unread, View.ld_unit_zero (S := S1088x1408) off0,
    View.ld_unit_zero (S := S1088x1024) off0, View.ld_unit_zero (S := S1408x1024) off0]

/-- The last token block: the scratch is updated the same way, … -/
theorem sout_C (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1088x1408 .bf16) (y : Vec F S1088x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero off0]
  simp only [View.readAt_eq_ld, h3.read_unread, h4.read_unread, h6.read_unread, View.ld_unit_zero (S := S1088x1408) off0,
    View.ld_unit_zero (S := S1088x1024) off0, View.ld_unit_zero (S := S1408x1024) off0]

/-- … and the output block is the scratch's new contents, narrowed. -/
theorem out_C (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1088x1408 .bf16) (y : Vec F S1088x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero off0, View.readCov_unit_zero (S := S1408x1024) _ off0]
  simp only [View.readAt_eq_ld, h3.read_unread, h4.read_unread, h6.read_unread, View.ld_unit_zero (S := S1088x1408) off0,
    View.ld_unit_zero (S := S1088x1024) off0, View.ld_unit_zero (S := S1408x1024) off0]
end

/-- One token block's product, added, at an element. -/
theorem pay2_apply (s : Vec Ideal S1408x1024 .f32) (x : Vec Ideal S1088x1408 .bf16) (y : Vec Ideal S1088x1024 .bf16)
    (a : Fin 1408) (b : Fin 1024) :
    k0_pay2 (F := Ideal) s x y (ix2 a b) = s (ix2 a b) + ∑ k : Fin 1088, x (ix2 k a) * y (ix2 k b) := by
  pointwise [k0_pay2]

theorem pay1_apply (a : Fin 1408) (b : Fin 1024) : k0_pay1 (F := Ideal) (ix2 a b) = 0 := by
  pointwise [k0_pay1]

theorem pay3_apply (s : Vec Ideal S1408x1024 .f32) (a : Fin 1408) (b : Fin 1024) :
    k0_pay3 (F := Ideal) s (ix2 a b) = s (ix2 a b) := by
  pointwise [k0_pay3]

/-! ## The blocks the windows bring -/

variable (m : (ℓ : Loc nD τ sig) → Buf (Elt Ideal) ℓ) (ρ : Dev nD → PrngReg)

/-- The activation as the region finds it, and the output gradient. -/
abbrev act (c : Dev nD) : Vec Ideal S4352x2816 .bf16 := V m c main_v5
abbrev dy (c : Dev nD) : Vec Ideal S4352x1024 .bf16 := V m c main_v6
/-- Their blocks at point `t`. -/
abbrev blk0 (c : Dev nD) (t : Fin cfg0.N) : Vec Ideal S1088x1408 .bf16 := iblk m c 0 t
abbrev blk1 (c : Dev nD) (t : Fin cfg0.N) : Vec Ideal S1088x1024 .bf16 := iblk m c 1 t
/-- What the run leaves in the result array. -/
abbrev res (c : Dev nD) : Vec Ideal S2816x1024 .bf16 := Value.G2 m c

/-- The two index maps over the grid: the activation's block is (token block, row block), the gradient's (token block, 0). -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

/-- The activation's block at point `t`: tokens `1088·(t mod 4) + k`, columns `1408·(t / 4) + a` of the whole array. -/
theorem iblk0_apply (c : Dev nD) (t : Fin cfg0.N) (k : Fin 1088) (a : Fin 1408) (r : Fin 4352) (s : Fin 2816)
    (hr : r.val = 1088 * (t.val % 4) + k.val) (hs : s.val = 1408 * (t.val / 4) + a.val) :
    blk0 m c t (ix2 k a) = act m c (ix2 r s) := by
  unfold blk0 iblk
  rw [View.read_apply]
  show act m c _ = act m c _
  generalize act m c = f
  congr 1
  obtain ⟨e0, e1⟩ := idx0 t
  funext d
  apply Fin.ext
  match d with
  | ⟨0, _⟩ => show win0_0.index t (0 : Fin 2) * 1088 + 1 * k.val = r.val; rw [e0]; omega
  | ⟨1, _⟩ => show win0_0.index t (1 : Fin 2) * 1408 + 1 * a.val = s.val; rw [e1]; omega

/-- The output gradient's block at point `t`: tokens `1088·(t mod 4) + k`, every column. -/
theorem iblk1_apply (c : Dev nD) (t : Fin cfg0.N) (k : Fin 1088) (b : Fin 1024) (r : Fin 4352)
    (hr : r.val = 1088 * (t.val % 4) + k.val) :
    blk1 m c t (ix2 k b) = dy m c (ix2 r b) := by
  unfold blk1 iblk
  rw [View.read_apply]
  show dy m c _ = dy m c _
  generalize dy m c = f
  congr 1
  obtain ⟨e0, e1⟩ := idx1 t
  funext d
  apply Fin.ext
  match d with
  | ⟨0, _⟩ => show win0_1.index t (0 : Fin 2) * 1088 + 1 * k.val = r.val; rw [e0]; omega
  | ⟨1, _⟩ => show win0_1.index t (1 : Fin 2) * 1024 + 1 * b.val = b.val; rw [e1]; omega

/-! ## The running sum -/

/-- Token `1088·q + k`. -/
abbrev tok (q : Fin 4) (k : Fin 1088) : Fin 4352 := ⟨1088 * q.val + k.val, by omega⟩

/-- What token block `q` adds to the result's element `(s, b)`. -/
def part (act : Vec Ideal S4352x2816 .bf16) (dy : Vec Ideal S4352x1024 .bf16) (s : Fin 2816) (b : Fin 1024) (q : Fin 4) : EReal :=
  ∑ k : Fin 1088, act (ix2 (tok q k) s) * dy (ix2 (tok q k) b)

theorem block_sum (c : Dev nD) (t : Fin cfg0.N) (q : Fin 4) (hq : t.val % 4 = q.val) (a : Fin 1408) (b : Fin 1024) (s : Fin 2816)
    (hs : s.val = 1408 * (t.val / 4) + a.val) :
    (∑ k : Fin 1088, blk0 m c t (ix2 k a) * blk1 m c t (ix2 k b))
      = part (act m c) (dy m c) s b q :=
  Finset.sum_congr rfl fun k _ => by
    rw [iblk0_apply m c t k a (tok q k) s (by show _ = _; rw [hq]) hs, iblk1_apply m c t k b (tok q k) (by show _ = _; rw [hq])]

/-- After the first token block: its part. -/
theorem acc_first (c : Dev nD) (n : ℕ) (hn : n < cfg0.N) (h : n % 4 = 0) (a : Fin 1408) (b : Fin 1024) (s : Fin 2816)
    (hs : s.val = 1408 * (n / 4) + a.val) :
    (outsAt0 m c n hn).2 (ix2 a b) = part (act m c) (dy m c) s b 0 := by
  rw [outsAt0_A m c ⟨n, hn⟩ h (by show ¬n % 4 = 3; omega)]
  dsimp only
  rw [sout_A, pay2_apply, pay1_apply, zero_add]
  exact block_sum m c ⟨n, hn⟩ 0 h a b s hs

/-- After a later token block: its part more. -/
theorem acc_next (c : Dev nD) (n : ℕ) (hn : n + 1 < cfg0.N) (q : Fin 4) (hq : (n + 1) % 4 = q.val) (h : q.val ≠ 0)
    (a : Fin 1408) (b : Fin 1024) (s : Fin 2816) (hs : s.val = 1408 * ((n + 1) / 4) + a.val) :
    (outsAt0 m c (n + 1) hn).2 (ix2 a b)
      = (outsAt0 m c n (Nat.lt_of_succ_lt hn)).2 (ix2 a b) + part (act m c) (dy m c) s b q := by
  by_cases h3 : (n + 1) % 4 = 3
  · rw [outsAt0_C m c ⟨n + 1, hn⟩ (by show ¬(n + 1) % 4 = 0; omega) h3]
    dsimp only
    rw [sout_C, pay2_apply, block_sum m c ⟨n + 1, hn⟩ q hq a b s hs]
    rfl
  · rw [outsAt0_B m c ⟨n + 1, hn⟩ (by show ¬(n + 1) % 4 = 0; omega) h3]
    dsimp only
    rw [sout_B, pay2_apply, block_sum m c ⟨n + 1, hn⟩ q hq a b s hs]
    rfl

/-- At the last token block the output block is the scratch. -/
theorem out_last (c : Dev nD) (n : ℕ) (hn : n < cfg0.N) (h : n % 4 = 3) (a : Fin 1408) (b : Fin 1024) :
    (outsAt0 m c n hn).1 (ix2 a b) = (outsAt0 m c n hn).2 (ix2 a b) := by
  rw [outsAt0_C m c ⟨n, hn⟩ (by show ¬n % 4 = 0; omega) h]
  dsimp only
  rw [out_C, sout_C, pay3_apply]

/-- After the four token blocks of row block `p`: the four parts. -/
theorem acc_four (c : Dev nD) (p : ℕ) (hp : p < 2) (hn : 4 * p + 3 < cfg0.N) (a : Fin 1408) (b : Fin 1024) (s : Fin 2816)
    (hs : s.val = 1408 * p + a.val) :
    (outsAt0 m c (4 * p + 3) hn).1 (ix2 a b) = ∑ q : Fin 4, part (act m c) (dy m c) s b q := by
  rw [out_last m c _ hn (by omega), acc_next m c (4 * p + 2) hn 3 (by show _ = 3; omega) (by decide) a b s (by omega),
    acc_next m c (4 * p + 1) _ 2 (by show _ = 2; omega) (by decide) a b s (by omega),
    acc_next m c (4 * p) _ 1 (by show _ = 1; omega) (by decide) a b s (by omega),
    acc_first m c (4 * p) _ (by omega) a b s (by omega), Fin.sum_univ_four]

/-- The four blocks of 1088 tokens are the 4352 tokens. -/
theorem sum_tok (f : Fin 4352 → EReal) : ∑ q : Fin 4, ∑ k : Fin 1088, f (tok q k) = ∑ r : Fin 4352, f r := by
  rw [← Fintype.sum_prod_type' (fun (q : Fin 4) (k : Fin 1088) => f (tok q k))]
  refine Fintype.sum_equiv (finProdFinEquiv (m := 4) (n := 1088)) _ _ fun x => congrArg f (Fin.ext ?_)
  show 1088 * x.1.val + x.2.val = x.2.val + 1088 * x.1.val
  omega

/-- The result array, at an element: the sum over all tokens. -/
theorem final_apply (c : Dev nD) (s : Fin 2816) (b : Fin 1024) :
    res m c (ix2 s b)
      = ∑ r : Fin 4352, act m c (ix2 r s) * dy m c (ix2 r b) := by
  have hN : cfg0.N = 8 := N_0
  have hp : Value.pt2Of (ix2 s b) = 4 * (s.val / 1408) + 3 := by
    show 4 * (1 * (s.val / 1408 - 0) + 1 * (b.val / 1024 - 0)) + 3 = _
    have := b.isLt; omega
  have hb : 4 * (s.val / 1408) + 3 < cfg0.N := by rw [hN]; have := s.isLt; omega
  have hl : Value.loc2Of (ix2 s b) = ix2 (⟨s.val % 1408, Nat.mod_lt _ (by decide)⟩ : Fin 1408) b := by
    funext d
    apply Fin.ext
    match d with
    | ⟨0, _⟩ => rfl
    | ⟨1, _⟩ => show b.val % 1024 = b.val; have := b.isLt; omega
  show Value.G2 m c (ix2 s b) = _
  unfold Value.G2
  rw [dif_pos (by rw [hp]; exact hb), Value.fold0_congr m c _ _ (4 * (s.val / 1408) + 3) (by omega) hp,
    ← Value.outsAt0_sweep m c _ hb, hl,
    acc_four m c (s.val / 1408) (by have := s.isLt; omega) hb ⟨s.val % 1408, Nat.mod_lt _ (by decide)⟩ b s (by show _ = 1408 * (s.val / 1408) + s.val % 1408; omega)]
  exact sum_tok fun r => act m c (ix2 r s) * dy m c (ix2 r b)

/-! ## What the host prepares -/

/-- The activation the region finds is the reference's, narrowed. -/
theorem V_act (c : Dev nD) : act m c
    = truncf (F := Ideal) .bf16 (Cert.DwoCtxReferenceIdeal.Read.val_main_v5 (F := Ideal) (m ((c : Thread nD τ).loc main_arg0)) (m ((c : Thread nD τ).loc main_arg1)) : Vec Ideal S4352x2816 .f32) Gen.bitsLt_bf16_f32 := by
  show V m c main_v5 = _
  unfold V Cert.DwoCtxReferenceIdeal.Read.val_main_v5 Cert.DwoCtxReferenceIdeal.Read.val_main_v4 Cert.DwoCtxReferenceIdeal.Read.val_main_v3 Cert.DwoCtxReferenceIdeal.Read.val_main_v2 Cert.DwoCtxReferenceIdeal.Read.val_main_v1 Cert.DwoCtxReferenceIdeal.Read.val_main_call0_v5 Cert.DwoCtxReferenceIdeal.Read.val_main_call0_v4 Cert.DwoCtxReferenceIdeal.Read.val_main_call0_v3 Cert.DwoCtxReferenceIdeal.Read.val_main_call0_v2 Cert.DwoCtxReferenceIdeal.Read.val_main_call0_v1 Cert.DwoCtxReferenceIdeal.Read.val_main_call0_v0 Cert.DwoCtxReferenceIdeal.Read.val_main_call0_cst Cert.DwoCtxReferenceIdeal.Read.val_main_call0_cst_0
  simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
  after_results
  rfl

/-- The output gradient the region finds is the argument, narrowed. -/
theorem V_dy (c : Dev nD) : dy m c
    = truncf (F := Ideal) .bf16 (m ((c : Thread nD τ).loc main_arg2) : Vec Ideal S4352x1024 .f32) Gen.bitsLt_bf16_f32 := by
  show V m c main_v6 = _
  unfold V
  simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
  after_results

end Cert.DwoCtxKernelIdeal.Acc

/-! ## The claim -/

namespace Cert.DwoCtxReferenceIdeal.Sum

open Cert.DwoCtxReferenceIdeal Cert.DwoCtxReferenceIdeal.Gen

/-- The reference's result, at an element: the same sum, its factors in the other order. -/
theorem ref_apply (x0 : Vec Ideal S4352x1024 .f32) (x1 : Vec Ideal S1024x5632 .f32) (x2 : Vec Ideal S4352x1024 .f32)
    (s : Fin 2816) (b : Fin 1024) :
    (Read.val_main_v9 (F := Ideal) x0 x1 x2 : Vec Ideal S2816x1024 .bf16) (ix2 s b)
      = ∑ r : Fin 4352, x2 (ix2 r b) * (Read.val_main_v5 (F := Ideal) x0 x1 : Vec Ideal S4352x2816 .f32) (ix2 r s) := by
  unfold Read.val_main_v9 Read.val_main_v8 Read.val_main_v7
  generalize (Read.val_main_v5 (F := Ideal) x0 x1 : Vec Ideal S4352x2816 .f32) = f
  pointwise

end Cert.DwoCtxReferenceIdeal.Sum

namespace Cert.DwoCtxKernelIdeal.Acc

open Cert.DwoCtxKernelIdeal Cert.DwoCtxKernelIdeal.Gen

/-- The kernel's result is the reference's. -/
theorem res_eq (m : (ℓ : Loc nD τ sig) → Buf (Elt Ideal) ℓ) (c : Dev nD) : res m c
    = (Cert.DwoCtxReferenceIdeal.Read.val_main_v9 (F := Ideal) (m ((c : Thread nD τ).loc main_arg0)) (m ((c : Thread nD τ).loc main_arg1))
        (m ((c : Thread nD τ).loc main_arg2)) : Vec Ideal S2816x1024 .bf16) := by
  funext j
  idx_vars j
  rw [final_apply, V_act, V_dy]
  refine Eq.trans ?_ (Cert.DwoCtxReferenceIdeal.Sum.ref_apply _ _ _ j0 j1).symm
  refine Finset.sum_congr rfl fun r _ => ?_
  rw [mul_comm]
  rfl

theorem algebraic : Cert.algebraic_DwoCtxKernelIdeal_DwoCtxReferenceIdeal := by
  intro m g m' g' _ hargs
  refine ⟨fun c => Value.G2 m c, Value.run m g, ?_⟩
  refine (θ_run _ _ _).mono (fun r h c => ?_) (Cert.DwoCtxReferenceIdeal.Value.run m' g')
  obtain ⟨h0, hr⟩ := h c
  refine ⟨h0.trans ?_, hr⟩
  obtain ⟨e0, e1, e2⟩ := hargs c
  rw [Cert.DwoCtxReferenceIdeal.Read.val_main_v9_eq, e0, e1, e2]
  exact (res_eq m c).symm

end Cert.DwoCtxKernelIdeal.Acc

end
-- ==== Proof.DwiCtxValue.lean ====
/-
  The gradient of the feed-forward block's input weights: what the accumulating product leaves in its result.

  As for the output weights, with the gradient of the hidden layer (gate and up columns side by side) in the
  activation's place and the block's input in the output gradient's: four blocks of 1408 weight rows, and for each a
  running sum over four blocks of 1088 tokens. The host prepares the hidden gradient by the reference's own operations,
  so the two programs are compared at that array.
-/
module

public import proofs.«01_k».proof.Defs
public import proofs.«01_k».proof.Proof.Gen.DwiCtxKernelIdeal.Value
public import proofs.«01_k».proof.Proof.Gen.DwiCtxReferenceIdeal.Read
public import Idealize.ShloMosaic.Lib.Pointwise
public import Idealize.ShloMosaic.Lib.Tactic

@[expose] public section

noncomputable section

open Idealize.ShloMosaic Idealize.ShloMosaic.TcCoe Idealize.SL.Sem

namespace Cert.DwiCtxKernelIdeal.Acc

open Cert.DwiCtxKernelIdeal Cert.DwiCtxKernelIdeal.Gen

theorem off0 : (![0, 0] : Fin 2 → Nat) = fun _ => 0 := funext fun a => by fin_cases a <;> rfl

/-! ## What one grid point computes -/

section
variable {F : FTy → Type} [FloatOps F]

/-- The first token block of a row block: the scratch is zeroed, then the block's product is added. -/
theorem sout_A (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x : Vec F S1088x1408 .bf16) (y : Vec F S1088x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) off0, View.readCov_unit_zero (S := S1408x1024) _ off0]
  simp only [View.readAt_eq_ld, h3.read_unread, h4.read_unread, h6.read_unread, View.ld_unit_zero (S := S1088x1408) off0,
    View.ld_unit_zero (S := S1088x1024) off0, View.ld_unit_zero (S := S1408x1024) off0]

/-- A later token block that is not the last: the block's product is added to what the scratch held. -/
theorem sout_B (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x : Vec F S1088x1408 .bf16) (y : Vec F S1088x1024 .bf16) (s : Vec F S1408x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero off0]
  simp only [View.readAt_eq_ld, h3.read_unread, h4.read_unread, h6.read_unread, View.ld_unit_zero (S := S1088x1408) off0,
    View.ld_unit_zero (S := S1088x1024) off0, View.ld_unit_zero (S := S1408x1024) off0]

/-- The last token block: the scratch is updated the same way, … -/
theorem sout_C (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1088x1408 .bf16) (y : Vec F S1088x1024 .bf16) (s : Vec F S1408x1024 .f32) :
    sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero off0]
  simp only [View.readAt_eq_ld, h3.read_unread, h4.read_unread, h6.read_unread, View.ld_unit_zero (S := S1088x1408) off0,
    View.ld_unit_zero (S := S1088x1024) off0, View.ld_unit_zero (S := S1408x1024) off0]

/-- … and the output block is the scratch's new contents, narrowed. -/
theorem out_C (c : Dev nD) (i : grid0.Coords) (a3 : Memref sig .tc .vmem S1088x1408 .bf16) (h3 : a3.IsWhole)
    (a4 : Memref sig .tc .vmem S1088x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec F S1088x1408 .bf16) (y : Vec F S1088x1024 .bf16) (s : Vec F S1408x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero off0, View.readCov_unit_zero (S := S1408x1024) _ off0]
  simp only [View.readAt_eq_ld, h3.read_unread, h4.read_unread, h6.read_unread, View.ld_unit_zero (S := S1088x1408) off0,
    View.ld_unit_zero (S := S1088x1024) off0, View.ld_unit_zero (S := S1408x1024) off0]
end

/-- One token block's product, added, at an element. -/
theorem pay2_apply (s : Vec Ideal S1408x1024 .f32) (x : Vec Ideal S1088x1408 .bf16) (y : Vec Ideal S1088x1024 .bf16)
    (a : Fin 1408) (b : Fin 1024) :
    k0_pay2 (F := Ideal) s x y (ix2 a b) = s (ix2 a b) + ∑ k : Fin 1088, x (ix2 k a) * y (ix2 k b) := by
  pointwise [k0_pay2]

theorem pay1_apply (a : Fin 1408) (b : Fin 1024) : k0_pay1 (F := Ideal) (ix2 a b) = 0 := by
  pointwise [k0_pay1]

theorem pay3_apply (s : Vec Ideal S1408x1024 .f32) (a : Fin 1408) (b : Fin 1024) :
    k0_pay3 (F := Ideal) s (ix2 a b) = s (ix2 a b) := by
  pointwise [k0_pay3]

/-! ## The blocks the windows bring -/

variable (m : (ℓ : Loc nD τ sig) → Buf (Elt Ideal) ℓ) (ρ : Dev nD → PrngReg)

/-- The hidden gradient as the region finds it, and the block's input. -/
abbrev dau (c : Dev nD) : Vec Ideal S4352x5632 .bf16 := V m c main_v11
abbrev hh (c : Dev nD) : Vec Ideal S4352x1024 .bf16 := V m c main_v12
/-- Their blocks at point `t`. -/
abbrev blk0 (c : Dev nD) (t : Fin cfg0.N) : Vec Ideal S1088x1408 .bf16 := iblk m c 0 t
abbrev blk1 (c : Dev nD) (t : Fin cfg0.N) : Vec Ideal S1088x1024 .bf16 := iblk m c 1 t
/-- What the run leaves in the result array. -/
abbrev res (c : Dev nD) : Vec Ideal S5632x1024 .bf16 := Value.G2 m c

/-- The two index maps over the grid: the hidden gradient's block is (token block, row block), the input's (token block, 0). -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

/-- The hidden gradient's block at point `t`: tokens `1088·(t mod 4) + k`, columns `1408·(t / 4) + a` of the whole array. -/
theorem iblk0_apply (c : Dev nD) (t : Fin cfg0.N) (k : Fin 1088) (a : Fin 1408) (r : Fin 4352) (s : Fin 5632)
    (hr : r.val = 1088 * (t.val % 4) + k.val) (hs : s.val = 1408 * (t.val / 4) + a.val) :
    blk0 m c t (ix2 k a) = dau m c (ix2 r s) := by
  unfold blk0 iblk
  rw [View.read_apply]
  show dau m c _ = dau m c _
  generalize dau m c = f
  congr 1
  obtain ⟨e0, e1⟩ := idx0 t
  funext d
  apply Fin.ext
  match d with
  | ⟨0, _⟩ => show win0_0.index t (0 : Fin 2) * 1088 + 1 * k.val = r.val; rw [e0]; omega
  | ⟨1, _⟩ => show win0_0.index t (1 : Fin 2) * 1408 + 1 * a.val = s.val; rw [e1]; omega

/-- The input's block at point `t`: tokens `1088·(t mod 4) + k`, every column. -/
theorem iblk1_apply (c : Dev nD) (t : Fin cfg0.N) (k : Fin 1088) (b : Fin 1024) (r : Fin 4352)
    (hr : r.val = 1088 * (t.val % 4) + k.val) :
    blk1 m c t (ix2 k b) = hh m c (ix2 r b) := by
  unfold blk1 iblk
  rw [View.read_apply]
  show hh m c _ = hh m c _
  generalize hh m c = f
  congr 1
  obtain ⟨e0, e1⟩ := idx1 t
  funext d
  apply Fin.ext
  match d with
  | ⟨0, _⟩ => show win0_1.index t (0 : Fin 2) * 1088 + 1 * k.val = r.val; rw [e0]; omega
  | ⟨1, _⟩ => show win0_1.index t (1 : Fin 2) * 1024 + 1 * b.val = b.val; rw [e1]; omega

/-! ## The running sum -/

/-- Token `1088·q + k`. -/
abbrev tok (q : Fin 4) (k : Fin 1088) : Fin 4352 := ⟨1088 * q.val + k.val, by omega⟩

/-- What token block `q` adds to the result's element `(s, b)`. -/
def part (dau : Vec Ideal S4352x5632 .bf16) (hh : Vec Ideal S4352x1024 .bf16) (s : Fin 5632) (b : Fin 1024) (q : Fin 4) : EReal :=
  ∑ k : Fin 1088, dau (ix2 (tok q k) s) * hh (ix2 (tok q k) b)

theorem block_sum (c : Dev nD) (t : Fin cfg0.N) (q : Fin 4) (hq : t.val % 4 = q.val) (a : Fin 1408) (b : Fin 1024) (s : Fin 5632)
    (hs : s.val = 1408 * (t.val / 4) + a.val) :
    (∑ k : Fin 1088, blk0 m c t (ix2 k a) * blk1 m c t (ix2 k b))
      = part (dau m c) (hh m c) s b q :=
  Finset.sum_congr rfl fun k _ => by
    rw [iblk0_apply m c t k a (tok q k) s (by show _ = _; rw [hq]) hs, iblk1_apply m c t k b (tok q k) (by show _ = _; rw [hq])]

/-- After the first token block: its part. -/
theorem acc_first (c : Dev nD) (n : ℕ) (hn : n < cfg0.N) (h : n % 4 = 0) (a : Fin 1408) (b : Fin 1024) (s : Fin 5632)
    (hs : s.val = 1408 * (n / 4) + a.val) :
    (outsAt0 m c n hn).2 (ix2 a b) = part (dau m c) (hh m c) s b 0 := by
  rw [outsAt0_A m c ⟨n, hn⟩ h (by show ¬n % 4 = 3; omega)]
  dsimp only
  rw [sout_A, pay2_apply, pay1_apply, zero_add]
  exact block_sum m c ⟨n, hn⟩ 0 h a b s hs

/-- After a later token block: its part more. -/
theorem acc_next (c : Dev nD) (n : ℕ) (hn : n + 1 < cfg0.N) (q : Fin 4) (hq : (n + 1) % 4 = q.val) (h : q.val ≠ 0)
    (a : Fin 1408) (b : Fin 1024) (s : Fin 5632) (hs : s.val = 1408 * ((n + 1) / 4) + a.val) :
    (outsAt0 m c (n + 1) hn).2 (ix2 a b)
      = (outsAt0 m c n (Nat.lt_of_succ_lt hn)).2 (ix2 a b) + part (dau m c) (hh m c) s b q := by
  by_cases h3 : (n + 1) % 4 = 3
  · rw [outsAt0_C m c ⟨n + 1, hn⟩ (by show ¬(n + 1) % 4 = 0; omega) h3]
    dsimp only
    rw [sout_C, pay2_apply, block_sum m c ⟨n + 1, hn⟩ q hq a b s hs]
    rfl
  · rw [outsAt0_B m c ⟨n + 1, hn⟩ (by show ¬(n + 1) % 4 = 0; omega) h3]
    dsimp only
    rw [sout_B, pay2_apply, block_sum m c ⟨n + 1, hn⟩ q hq a b s hs]
    rfl

/-- At the last token block the output block is the scratch. -/
theorem out_last (c : Dev nD) (n : ℕ) (hn : n < cfg0.N) (h : n % 4 = 3) (a : Fin 1408) (b : Fin 1024) :
    (outsAt0 m c n hn).1 (ix2 a b) = (outsAt0 m c n hn).2 (ix2 a b) := by
  rw [outsAt0_C m c ⟨n, hn⟩ (by show ¬n % 4 = 0; omega) h]
  dsimp only
  rw [out_C, sout_C, pay3_apply]

/-- After the four token blocks of row block `p`: the four parts. -/
theorem acc_four (c : Dev nD) (p : ℕ) (hp : p < 4) (hn : 4 * p + 3 < cfg0.N) (a : Fin 1408) (b : Fin 1024) (s : Fin 5632)
    (hs : s.val = 1408 * p + a.val) :
    (outsAt0 m c (4 * p + 3) hn).1 (ix2 a b) = ∑ q : Fin 4, part (dau m c) (hh m c) s b q := by
  rw [out_last m c _ hn (by omega), acc_next m c (4 * p + 2) hn 3 (by show _ = 3; omega) (by decide) a b s (by omega),
    acc_next m c (4 * p + 1) _ 2 (by show _ = 2; omega) (by decide) a b s (by omega),
    acc_next m c (4 * p) _ 1 (by show _ = 1; omega) (by decide) a b s (by omega),
    acc_first m c (4 * p) _ (by omega) a b s (by omega), Fin.sum_univ_four]

/-- The four blocks of 1088 tokens are the 4352 tokens. -/
theorem sum_tok (f : Fin 4352 → EReal) : ∑ q : Fin 4, ∑ k : Fin 1088, f (tok q k) = ∑ r : Fin 4352, f r := by
  rw [← Fintype.sum_prod_type' (fun (q : Fin 4) (k : Fin 1088) => f (tok q k))]
  refine Fintype.sum_equiv (finProdFinEquiv (m := 4) (n := 1088)) _ _ fun x => congrArg f (Fin.ext ?_)
  show 1088 * x.1.val + x.2.val = x.2.val + 1088 * x.1.val
  omega

/-- The result array, at an element: the sum over all tokens. -/
theorem final_apply (c : Dev nD) (s : Fin 5632) (b : Fin 1024) :
    res m c (ix2 s b)
      = ∑ r : Fin 4352, dau m c (ix2 r s) * hh m c (ix2 r b) := by
  have hN : cfg0.N = 16 := N_0
  have hp : Value.pt2Of (ix2 s b) = 4 * (s.val / 1408) + 3 := by
    show 4 * (1 * (s.val / 1408 - 0) + 1 * (b.val / 1024 - 0)) + 3 = _
    have := b.isLt; omega
  have hb : 4 * (s.val / 1408) + 3 < cfg0.N := by rw [hN]; have := s.isLt; omega
  have hl : Value.loc2Of (ix2 s b) = ix2 (⟨s.val % 1408, Nat.mod_lt _ (by decide)⟩ : Fin 1408) b := by
    funext d
    apply Fin.ext
    match d with
    | ⟨0, _⟩ => rfl
    | ⟨1, _⟩ => show b.val % 1024 = b.val; have := b.isLt; omega
  show Value.G2 m c (ix2 s b) = _
  unfold Value.G2
  rw [dif_pos (by rw [hp]; exact hb), Value.fold0_congr m c _ _ (4 * (s.val / 1408) + 3) (by omega) hp,
    ← Value.outsAt0_sweep m c _ hb, hl,
    acc_four m c (s.val / 1408) (by have := s.isLt; omega) hb ⟨s.val % 1408, Nat.mod_lt _ (by decide)⟩ b s (by show _ = 1408 * (s.val / 1408) + s.val % 1408; omega)]
  exact sum_tok fun r => dau m c (ix2 r s) * hh m c (ix2 r b)

/-! ## What the host prepares -/

/-- The hidden gradient the region finds is the reference's, narrowed. -/
theorem V_dau (c : Dev nD) : dau m c
    = truncf (F := Ideal) .bf16 (Cert.DwiCtxReferenceIdeal.Read.val_main_v10 (F := Ideal) (m ((c : Thread nD τ).loc main_arg0)) (m ((c : Thread nD τ).loc main_arg1))
        (m ((c : Thread nD τ).loc main_arg2)) (m ((c : Thread nD τ).loc main_arg3)) : Vec Ideal S4352x5632 .f32) Gen.bitsLt_bf16_f32 := by
  show V m c main_v11 = _
  unfold V Cert.DwiCtxReferenceIdeal.Read.val_main_v10
    Cert.DwiCtxReferenceIdeal.Read.val_main_v9
    Cert.DwiCtxReferenceIdeal.Read.val_main_call1_v2
    Cert.DwiCtxReferenceIdeal.Read.val_main_call1_v1
    Cert.DwiCtxReferenceIdeal.Read.val_main_call1_v0
    Cert.DwiCtxReferenceIdeal.Read.val_main_v8
    Cert.DwiCtxReferenceIdeal.Read.val_main_v7
    Cert.DwiCtxReferenceIdeal.Read.val_main_v6
    Cert.DwiCtxReferenceIdeal.Read.val_main_v3_0
    Cert.DwiCtxReferenceIdeal.Read.val_main_v3_1
    Cert.DwiCtxReferenceIdeal.Read.val_main_call0_v7
    Cert.DwiCtxReferenceIdeal.Read.val_main_call0_v6
    Cert.DwiCtxReferenceIdeal.Read.val_main_call0_cst_1
    Cert.DwiCtxReferenceIdeal.Read.val_main_v3_2
    Cert.DwiCtxReferenceIdeal.Read.val_main_call0_v4
    Cert.DwiCtxReferenceIdeal.Read.val_main_call0_cst_0
    Cert.DwiCtxReferenceIdeal.Read.val_main_call0_v3
    Cert.DwiCtxReferenceIdeal.Read.val_main_call0_v2
    Cert.DwiCtxReferenceIdeal.Read.val_main_call0_cst
    Cert.DwiCtxReferenceIdeal.Read.val_main_call0_v1
    Cert.DwiCtxReferenceIdeal.Read.val_main_call0_v0
    Cert.DwiCtxReferenceIdeal.Read.val_main_v2
    Cert.DwiCtxReferenceIdeal.Read.val_main_v1
    Cert.DwiCtxReferenceIdeal.Read.val_main_v0
  simp only [hostOps0, hostOps0_1, hostOps0_2, hostOps0_3, hostOps0_4, List.flatten_cons, List.flatten_nil, List.append_nil, List.cons_append, List.nil_append,
      StableHlo.TRef.binary, StableHlo.TRef.nullary, StableHlo.TRef.unary, StableHlo.TRef.toBuf, StableHlo.TRef.ofBuf, cast_eq]
  after_results
  rfl

/-- The input the region finds is the argument, narrowed. -/
theorem V_hh (c : Dev nD) : hh m c
    = truncf (F := Ideal) .bf16 (m ((c : Thread nD τ).loc main_arg0) : Vec Ideal S4352x1024 .f32) Gen.bitsLt_bf16_f32 := by
  show V m c main_v12 = _
  unfold V
  simp only [hostOps0, hostOps0_1, hostOps0_2, hostOps0_3, hostOps0_4, List.flatten_cons, List.flatten_nil, List.append_nil, List.cons_append, List.nil_append,
      StableHlo.TRef.binary, StableHlo.TRef.nullary, StableHlo.TRef.unary, StableHlo.TRef.toBuf, StableHlo.TRef.ofBuf, cast_eq]
  after_results

end Cert.DwiCtxKernelIdeal.Acc

/-! ## The claim -/

namespace Cert.DwiCtxReferenceIdeal.Sum

open Cert.DwiCtxReferenceIdeal Cert.DwiCtxReferenceIdeal.Gen

/-- The reference's result, at an element: the same sum. -/
theorem ref_apply (x0 : Vec Ideal S4352x1024 .f32) (x1 : Vec Ideal S1024x5632 .f32) (x2 : Vec Ideal S2816x1024 .f32)
    (x3 : Vec Ideal S4352x1024 .f32) (s : Fin 5632) (b : Fin 1024) :
    (Read.val_main_v14 (F := Ideal) x0 x1 x2 x3 : Vec Ideal S5632x1024 .bf16) (ix2 s b)
      = ∑ r : Fin 4352, (Read.val_main_v10 (F := Ideal) x0 x1 x2 x3 : Vec Ideal S4352x5632 .f32) (ix2 r s) * x0 (ix2 r b) := by
  unfold Read.val_main_v14 Read.val_main_v13 Read.val_main_v12 Read.val_main_v11
  generalize (Read.val_main_v10 (F := Ideal) x0 x1 x2 x3 : Vec Ideal S4352x5632 .f32) = f
  pointwise

end Cert.DwiCtxReferenceIdeal.Sum

namespace Cert.DwiCtxKernelIdeal.Acc

open Cert.DwiCtxKernelIdeal Cert.DwiCtxKernelIdeal.Gen

/-- The kernel's result is the reference's. -/
theorem res_eq (m : (ℓ : Loc nD τ sig) → Buf (Elt Ideal) ℓ) (c : Dev nD) : res m c
    = (Cert.DwiCtxReferenceIdeal.Read.val_main_v14 (F := Ideal) (m ((c : Thread nD τ).loc main_arg0)) (m ((c : Thread nD τ).loc main_arg1))
        (m ((c : Thread nD τ).loc main_arg2)) (m ((c : Thread nD τ).loc main_arg3)) : Vec Ideal S5632x1024 .bf16) := by
  funext j
  idx_vars j
  rw [final_apply, V_dau, V_hh]
  refine Eq.trans ?_ (Cert.DwiCtxReferenceIdeal.Sum.ref_apply _ _ _ _ j0 j1).symm
  refine Finset.sum_congr rfl fun r _ => ?_
  rfl

theorem algebraic : Cert.algebraic_DwiCtxKernelIdeal_DwiCtxReferenceIdeal := by
  intro m g m' g' _ hargs
  refine ⟨fun c => Value.G2 m c, Value.run m g, ?_⟩
  refine (θ_run _ _ _).mono (fun r h c => ?_) (Cert.DwiCtxReferenceIdeal.Value.run m' g')
  obtain ⟨h0, hr⟩ := h c
  refine ⟨h0.trans ?_, hr⟩
  obtain ⟨e0, e1, e2, e3⟩ := hargs c
  rw [Cert.DwiCtxReferenceIdeal.Read.val_main_v14_eq, e0, e1, e2, e3]
  exact (res_eq m c).symm

end Cert.DwiCtxKernelIdeal.Acc

end
-- ==== Proof.AdamMath.lean ====
/-
  One element of the optimiser's step, on the extended reals.

  The step moves each element of a weight by its own gradient and its own two running moments:
  the new first moment is `0.9·m + 0.1·g`, the new second moment `0.999·v + 0.001·g²` (each decimal being the
  single-precision number the programs spell), and the update is minus the learning rate times
  (corrected first moment / (√(corrected second moment) + ε) + decay·weight).

  The two programs differ in one place. The reference corrects a moment by dividing it by `1 − βⁿ`; the kernel multiplies
  by that number's reciprocal, a constant folded beforehand. Read as the exact reciprocal the constant makes the two the same
  function on every extended real, the infinities included.
-/
module

public import Idealize.ShloMosaic.PureOps
public import Idealize.ShloMosaic.PureOps.Ideal

@[expose] public section

noncomputable section

namespace Cert.AdamMath

open Idealize.ShloMosaic

/-- The new first moment of an element, from the old one and the gradient. -/
def moment1 (m g : Ideal .f32) : Ideal .f32 :=
  FloatOps.addf (FloatOps.mulf (Scalar.ofBits .f32 0x3F666666#32) m) (FloatOps.mulf (Scalar.ofBits .f32 0x3DCCCCCD#32) g)

/-- The new second moment of an element. -/
def moment2 (v g : Ideal .f32) : Ideal .f32 :=
  FloatOps.addf (FloatOps.mulf (Scalar.ofBits .f32 0x3F7FBE77#32) v)
    (FloatOps.mulf (Scalar.ofBits .f32 0x3A83126F#32) (FloatOps.mulf g g))

/-- The update of an element, from its weight and its two corrected moments. -/
def update (w a b : Ideal .f32) : Ideal .f32 :=
  FloatOps.mulf (Scalar.ofBits .f32 0xBA83126F#32)
    (FloatOps.addf (FloatOps.divf a (FloatOps.addf (FloatOps.sqrt b) (Scalar.ofBits .f32 0x322BCC77#32)))
      (FloatOps.mulf (Scalar.ofBits .f32 0x3C23D70A#32) w))

/-- The update with the moments corrected by a product, as the kernel does it. -/
def updateMul (c₁ c₂ w g m v : Ideal .f32) : Ideal .f32 :=
  update w (FloatOps.mulf (moment1 m g) c₁) (FloatOps.mulf (moment2 v g) c₂)

/-- The update with the moments corrected by a quotient, as the reference does it. -/
def updateDiv (w g m v : Ideal .f32) : Ideal .f32 :=
  update w (FloatOps.hostDivf (moment1 m g) (Scalar.ofBits .f32 0x3F26BD02#32))
    (FloatOps.hostDivf (moment2 v g) (Scalar.ofBits .f32 0x3C231ACC#32))

/-- The number the first moment is divided by, `1 − 0.9¹⁰` in single precision, is this rational. -/
theorem bits_c1 : Ideal.ofBits .f32 0x3F26BD02#32 = ((5463681 / 8388608 : ℝ) : EReal) := by
  simp [Ideal.ofBits, Ideal.ieee, -EReal.coe_mul]; norm_num

/-- The number the second moment is divided by, `1 − 0.999¹⁰` in single precision. -/
theorem bits_c2 : Ideal.ofBits .f32 0x3C231ACC#32 = ((2672307 / 268435456 : ℝ) : EReal) := by
  simp [Ideal.ofBits, Ideal.ieee, -EReal.coe_mul]; norm_num

/-- With the exact reciprocals the kernel's update is the reference's. -/
theorem updateMul_eq (w g m v : Ideal .f32) :
    updateMul ((8388608 / 5463681 : ℝ) : EReal) ((268435456 / 2672307 : ℝ) : EReal) w g m v = updateDiv w g m v := by
  unfold updateMul updateDiv
  generalize moment1 m g = a
  generalize moment2 v g = b
  have h1 : (FloatOps.mulf a ((8388608 / 5463681 : ℝ) : EReal) : Ideal .f32)
      = FloatOps.hostDivf a (Scalar.ofBits .f32 0x3F26BD02#32) := by
    show a * ((8388608 / 5463681 : ℝ) : EReal) = Ideal.div a (Ideal.ofBits .f32 0x3F26BD02#32)
    rw [bits_c1, Ideal.div_coe (by norm_num : (5463681 / 8388608 : ℝ) ≠ 0)]
    norm_num
  have h2 : (FloatOps.mulf b ((268435456 / 2672307 : ℝ) : EReal) : Ideal .f32)
      = FloatOps.hostDivf b (Scalar.ofBits .f32 0x3C231ACC#32) := by
    show b * ((268435456 / 2672307 : ℝ) : EReal) = Ideal.div b (Ideal.ofBits .f32 0x3C231ACC#32)
    rw [bits_c2, Ideal.div_coe (by norm_num : (2672307 / 268435456 : ℝ) ≠ 0)]
    norm_num
  rw [h1, h2]

end Cert.AdamMath

end
-- ==== Proof.AdamWiValue.lean ====
/-
  The optimiser's step for the feed-forward block's input weights, on one device's shard: what the kernel leaves in its
  three results.

  The weights, their gradient and the two moments are laid out as a matrix and taken in blocks of 512 rows. Every
  element's result depends on that element alone, so each result array is one function of the four operands, index by
  index, and the layout is the reference's own.
-/
module

public import proofs.«01_k».proof.Defs
public import proofs.«01_k».proof.Proof.AdamMath
public import proofs.«01_k».proof.Proof.Gen.AdamWiKernelIdeal.Value
public import proofs.«01_k».proof.Proof.Gen.AdamWiReferenceIdeal.Read
public import Idealize.ShloMosaic.Lib.Tactic

@[expose] public section

noncomputable section

open Idealize.ShloMosaic Idealize.ShloMosaic.TcCoe Idealize.SL.Sem

namespace Cert.AdamWiKernelIdeal.Step

open Cert.AdamWiKernelIdeal Cert.AdamWiKernelIdeal.Gen Cert.AdamMath

theorem off0 : (![0, 0] : Fin 2 → Nat) = fun _ => 0 := funext fun a => by fin_cases a <;> rfl

/-! ## The two folded reciprocals -/

theorem preserves : Cert.preserves_AdamWiKernel_AdamWiKernelIdeal :=
  ⟨IdealRules.named_const.statement Cert.AdamWiKernelIdeal.κ "inv_c1" .f32 0x3FC48605#32 ((8388608 / 5463681 : ℝ) : EReal) rfl,
    IdealRules.named_const.statement Cert.AdamWiKernelIdeal.κ "inv_c2" .f32 0x42C8E6D3#32 ((268435456 / 2672307 : ℝ) : EReal) rfl⟩

theorem inv_c1 : Named.named (F := Ideal) Cert.AdamWiKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamWiKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S512x704.Idx) : Value.ix4_0 y = y :=
  funext fun a => match a with
    | ⟨0, _⟩ => rfl
    | ⟨1, _⟩ => rfl

theorem out4_apply (w g m v : Vec Ideal S512x704 .f32) (y : S512x704.Idx) :
    out0_4 (F := Ideal) w g m v y = updateDiv (w y) (g y) (m y) (v y) := by
  unfold out0_4
  rw [Value.canon4_eq]
  simp only [View.ld_unit_zero (S := S512x704) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S512x704 .f32) (y : S512x704.Idx) :
    out0_5 (F := Ideal) w g m v y = moment1 (m y) (g y) := by
  unfold out0_5
  rw [Value.canon5_eq]
  simp only [View.ld_unit_zero (S := S512x704) off0]
  unfold Value.E5
  rw [show Value.ix5_0 y = y from own y, show Value.ix5_1 y = y from own y]
  rfl

theorem out6_apply (w g m v : Vec Ideal S512x704 .f32) (y : S512x704.Idx) :
    out0_6 (F := Ideal) w g m v y = moment2 (v y) (g y) := by
  unfold out0_6
  rw [Value.canon6_eq]
  simp only [View.ld_unit_zero (S := S512x704) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S2048x704 .f32 := V m c main_v0
abbrev gg (c : Dev nD) : Vec Ideal S2048x704 .f32 := V m c main_v1
abbrev mm (c : Dev nD) : Vec Ideal S2048x704 .f32 := V m c main_v2
abbrev vv (c : Dev nD) : Vec Ideal S2048x704 .f32 := V m c main_v3

/-- The three results, index by index. -/
def res4 (c : Dev nD) : Vec Ideal S2048x704 .f32 := fun i => updateDiv (ww m c i) (gg m c i) (mm m c i) (vv m c i)
def res5 (c : Dev nD) : Vec Ideal S2048x704 .f32 := fun i => moment1 (mm m c i) (gg m c i)
def res6 (c : Dev nD) : Vec Ideal S2048x704 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 4, ∃ t : Fin cfg0.N, (cfg0.win 4).flush t = true ∧ win0_4.index t = ![q.val, 0] :=
  (by decide +kernel : ∀ q : Fin 4, ∃ t : Fin grid0.N, win0_4.flush t = true ∧ win0_4.index t = ![q.val, 0])
theorem onto5 : ∀ q : Fin 4, ∃ t : Fin cfg0.N, (cfg0.win 5).flush t = true ∧ win0_5.index t = ![q.val, 0] :=
  (by decide +kernel : ∀ q : Fin 4, ∃ t : Fin grid0.N, win0_5.flush t = true ∧ win0_5.index t = ![q.val, 0])
theorem onto6 : ∀ q : Fin 4, ∃ t : Fin cfg0.N, (cfg0.win 6).flush t = true ∧ win0_6.index t = ![q.val, 0] :=
  (by decide +kernel : ∀ q : Fin 4, ∃ t : Fin grid0.N, win0_6.flush t = true ∧ win0_6.index t = ![q.val, 0])

/-- An index lies in the block its row falls in. -/
theorem rows (i : S2048x704.Idx) (n : Fin 2 → ℕ) (h : n = ![(i 0).val / 512, 0]) :
    ∀ a : Fin 2, n a * S512x704.size a ≤ (i a).val ∧ (i a).val < n a * S512x704.size a + S512x704.size a := by
  subst h
  have h0 : (i 0).val < 2048 := (i 0).isLt
  have h1 : (i 1).val < 704 := (i 1).isLt
  intro a
  match a with
  | ⟨0, _⟩ => show (i 0).val / 512 * 512 ≤ (i 0).val ∧ (i 0).val < (i 0).val / 512 * 512 + 512; omega
  | ⟨1, _⟩ => show 0 * 704 ≤ (i 1).val ∧ (i 1).val < 0 * 704 + 704; omega

theorem band (i : S2048x704.Idx) : (i 0).val / 512 < 4 := by
  have h0 : (i 0).val < 2048 := (i 0).isLt
  omega

theorem covered4 (i : S2048x704.Idx) : ∃ t : Fin cfg0.N, (cfg0.win 4).flush t = true ∧ i ∈ ((cfg0.win 4).blk t).view.set := by
  obtain ⟨t, hf, ht⟩ := onto4 ⟨(i 0).val / 512, band i⟩
  refine ⟨t, hf, ?_⟩
  show i ∈ ((View.whole main_v4_0).slice (win0_4.rect t)).set
  rw [View.set_slice_whole, Rect.mem_set_unit]
  exact rows i _ ht

theorem covered5 (i : S2048x704.Idx) : ∃ t : Fin cfg0.N, (cfg0.win 5).flush t = true ∧ i ∈ ((cfg0.win 5).blk t).view.set := by
  obtain ⟨t, hf, ht⟩ := onto5 ⟨(i 0).val / 512, band i⟩
  refine ⟨t, hf, ?_⟩
  show i ∈ ((View.whole main_v4_1).slice (win0_5.rect t)).set
  rw [View.set_slice_whole, Rect.mem_set_unit]
  exact rows i _ ht

theorem covered6 (i : S2048x704.Idx) : ∃ t : Fin cfg0.N, (cfg0.win 6).flush t = true ∧ i ∈ ((cfg0.win 6).blk t).view.set := by
  obtain ⟨t, hf, ht⟩ := onto6 ⟨(i 0).val / 512, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S2048x704 (m ((c : Thread nD τ).loc main_arg0) : Vec Ideal S2x1024x704 .f32) shapeCasts_S2x1024x704_S2048x704 := by
  show V m c main_v0 = _
  unfold V
  simp only [hostOps0, StableHlo.TRef.unary, StableHlo.TRef.toBuf, StableHlo.TRef.ofBuf, cast_eq]
  after_results
  rfl

theorem V_g (c : Dev nD) : gg m c = shapeCast S2048x704 (m ((c : Thread nD τ).loc main_arg1) : Vec Ideal S2x1024x704 .f32) shapeCasts_S2x1024x704_S2048x704 := by
  show V m c main_v1 = _
  unfold V
  simp only [hostOps0, StableHlo.TRef.unary, StableHlo.TRef.toBuf, StableHlo.TRef.ofBuf, cast_eq]
  after_results
  rfl

theorem V_m (c : Dev nD) : mm m c = shapeCast S2048x704 (m ((c : Thread nD τ).loc main_arg2) : Vec Ideal S2x1024x704 .f32) shapeCasts_S2x1024x704_S2048x704 := by
  show V m c main_v2 = _
  unfold V
  simp only [hostOps0, StableHlo.TRef.unary, StableHlo.TRef.toBuf, StableHlo.TRef.ofBuf, cast_eq]
  after_results
  rfl

theorem V_v (c : Dev nD) : vv m c = shapeCast S2048x704 (m ((c : Thread nD τ).loc main_arg3) : Vec Ideal S2x1024x704 .f32) shapeCasts_S2x1024x704_S2048x704 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamWiReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S2048x704 .f32) := by
  funext i
  unfold res4
  rw [V_w, V_g, V_m, V_v]
  rfl

theorem res5_eq (c : Dev nD) : res5 m c
    = (Cert.AdamWiReferenceIdeal.Read.val_main_v25 (F := Ideal) (m ((c : Thread nD τ).loc main_arg1))
        (m ((c : Thread nD τ).loc main_arg2)) : Vec Ideal S2048x704 .f32) := by
  funext i
  unfold res5
  rw [V_g, V_m]
  rfl

theorem res6_eq (c : Dev nD) : res6 m c
    = (Cert.AdamWiReferenceIdeal.Read.val_main_v26 (F := Ideal) (m ((c : Thread nD τ).loc main_arg1))
        (m ((c : Thread nD τ).loc main_arg3)) : Vec Ideal S2048x704 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamWiKernelIdeal_AdamWiReferenceIdeal := by
  intro m g m' g' _ hargs
  refine ⟨fun c => res4 m c, fun c => res5 m c, fun c => res6 m c, run m g, ?_⟩
  refine (θ_run _ _ _).mono (fun r h c => ?_) (Cert.AdamWiReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamWiReferenceIdeal.Read.val_main_v24_eq, e0, e1, e2, e3]
    exact (res4_eq m c).symm
  · rw [Cert.AdamWiReferenceIdeal.Read.val_main_v25_eq, e1, e2]
    exact (res5_eq m c).symm
  · rw [Cert.AdamWiReferenceIdeal.Read.val_main_v26_eq, e1, e3]
    exact (res6_eq m c).symm

end Cert.AdamWiKernelIdeal.Step

end
-- ==== Proof.AdamWoValue.lean ====
/-
  The optimiser's step for the feed-forward block's output weights, on one device's shard: what the kernel leaves in its
  three results.

  The weights, their gradient and the two moments are laid out as a matrix and taken in blocks of 352 rows. Every
  element's result depends on that element alone, so each result array is one function of the four operands, index by
  index, and the layout is the reference's own.
-/
module

public import proofs.«01_k».proof.Defs
public import proofs.«01_k».proof.Proof.AdamMath
public import proofs.«01_k».proof.Proof.Gen.AdamWoKernelIdeal.Value
public import proofs.«01_k».proof.Proof.Gen.AdamWoReferenceIdeal.Read
public import Idealize.ShloMosaic.Lib.Tactic

@[expose] public section

noncomputable section

open Idealize.ShloMosaic Idealize.ShloMosaic.TcCoe Idealize.SL.Sem

namespace Cert.AdamWoKernelIdeal.Step

open Cert.AdamWoKernelIdeal Cert.AdamWoKernelIdeal.Gen Cert.AdamMath

theorem off0 : (![0, 0] : Fin 2 → Nat) = fun _ => 0 := funext fun a => by fin_cases a <;> rfl

/-! ## The two folded reciprocals -/

theorem preserves : Cert.preserves_AdamWoKernel_AdamWoKernelIdeal :=
  ⟨IdealRules.named_const.statement Cert.AdamWoKernelIdeal.κ "inv_c1" .f32 0x3FC48605#32 ((8388608 / 5463681 : ℝ) : EReal) rfl,
    IdealRules.named_const.statement Cert.AdamWoKernelIdeal.κ "inv_c2" .f32 0x42C8E6D3#32 ((268435456 / 2672307 : ℝ) : EReal) rfl⟩

theorem inv_c1 : Named.named (F := Ideal) Cert.AdamWoKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamWoKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S352x1024.Idx) : Value.ix4_0 y = y :=
  funext fun a => match a with
    | ⟨0, _⟩ => rfl
    | ⟨1, _⟩ => rfl

theorem out4_apply (w g m v : Vec Ideal S352x1024 .f32) (y : S352x1024.Idx) :
    out0_4 (F := Ideal) w g m v y = updateDiv (w y) (g y) (m y) (v y) := by
  unfold out0_4
  rw [Value.canon4_eq]
  simp only [View.ld_unit_zero (S := S352x1024) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S352x1024 .f32) (y : S352x1024.Idx) :
    out0_5 (F := Ideal) w g m v y = moment1 (m y) (g y) := by
  unfold out0_5
  rw [Value.canon5_eq]
  simp only [View.ld_unit_zero (S := S352x1024) off0]
  unfold Value.E5
  rw [show Value.ix5_0 y = y from own y, show Value.ix5_1 y = y from own y]
  rfl

theorem out6_apply (w g m v : Vec Ideal S352x1024 .f32) (y : S352x1024.Idx) :
    out0_6 (F := Ideal) w g m v y = moment2 (v y) (g y) := by
  unfold out0_6
  rw [Value.canon6_eq]
  simp only [View.ld_unit_zero (S := S352x1024) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S704x1024 .f32 := V m c main_v0
abbrev gg (c : Dev nD) : Vec Ideal S704x1024 .f32 := V m c main_v1
abbrev mm (c : Dev nD) : Vec Ideal S704x1024 .f32 := V m c main_v2
abbrev vv (c : Dev nD) : Vec Ideal S704x1024 .f32 := V m c main_v3

/-- The three results, index by index. -/
def res4 (c : Dev nD) : Vec Ideal S704x1024 .f32 := fun i => updateDiv (ww m c i) (gg m c i) (mm m c i) (vv m c i)
def res5 (c : Dev nD) : Vec Ideal S704x1024 .f32 := fun i => moment1 (mm m c i) (gg m c i)
def res6 (c : Dev nD) : Vec Ideal S704x1024 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 2, ∃ t : Fin cfg0.N, (cfg0.win 4).flush t = true ∧ win0_4.index t = ![q.val, 0] :=
  (by decide +kernel : ∀ q : Fin 2, ∃ t : Fin grid0.N, win0_4.flush t = true ∧ win0_4.index t = ![q.val, 0])
theorem onto5 : ∀ q : Fin 2, ∃ t : Fin cfg0.N, (cfg0.win 5).flush t = true ∧ win0_5.index t = ![q.val, 0] :=
  (by decide +kernel : ∀ q : Fin 2, ∃ t : Fin grid0.N, win0_5.flush t = true ∧ win0_5.index t = ![q.val, 0])
theorem onto6 : ∀ q : Fin 2, ∃ t : Fin cfg0.N, (cfg0.win 6).flush t = true ∧ win0_6.index t = ![q.val, 0] :=
  (by decide +kernel : ∀ q : Fin 2, ∃ t : Fin grid0.N, win0_6.flush t = true ∧ win0_6.index t = ![q.val, 0])

/-- An index lies in the block its row falls in. -/
theorem rows (i : S704x1024.Idx) (n : Fin 2 → ℕ) (h : n = ![(i 0).val / 352, 0]) :
    ∀ a : Fin 2, n a * S352x1024.size a ≤ (i a).val ∧ (i a).val < n a * S352x1024.size a + S352x1024.size a := by
  subst h
  have h0 : (i 0).val < 704 := (i 0).isLt
  have h1 : (i 1).val < 1024 := (i 1).isLt
  intro a
  match a with
  | ⟨0, _⟩ => show (i 0).val / 352 * 352 ≤ (i 0).val ∧ (i 0).val < (i 0).val / 352 * 352 + 352; omega
  | ⟨1, _⟩ => show 0 * 1024 ≤ (i 1).val ∧ (i 1).val < 0 * 1024 + 1024; omega

theorem band (i : S704x1024.Idx) : (i 0).val / 352 < 2 := by
  have h0 : (i 0).val < 704 := (i 0).isLt
  omega

theorem covered4 (i : S704x1024.Idx) : ∃ t : Fin cfg0.N, (cfg0.win 4).flush t = true ∧ i ∈ ((cfg0.win 4).blk t).view.set := by
  obtain ⟨t, hf, ht⟩ := onto4 ⟨(i 0).val / 352, band i⟩
  refine ⟨t, hf, ?_⟩
  show i ∈ ((View.whole main_v4_0).slice (win0_4.rect t)).set
  rw [View.set_slice_whole, Rect.mem_set_unit]
  exact rows i _ ht

theorem covered5 (i : S704x1024.Idx) : ∃ t : Fin cfg0.N, (cfg0.win 5).flush t = true ∧ i ∈ ((cfg0.win 5).blk t).view.set := by
  obtain ⟨t, hf, ht⟩ := onto5 ⟨(i 0).val / 352, band i⟩
  refine ⟨t, hf, ?_⟩
  show i ∈ ((View.whole main_v4_1).slice (win0_5.rect t)).set
  rw [View.set_slice_whole, Rect.mem_set_unit]
  exact rows i _ ht

theorem covered6 (i : S704x1024.Idx) : ∃ t : Fin cfg0.N, (cfg0.win 6).flush t = true ∧ i ∈ ((cfg0.win 6).blk t).view.set := by
  obtain ⟨t, hf, ht⟩ := onto6 ⟨(i 0).val / 352, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S704x1024 (m ((c : Thread nD τ).loc main_arg0) : Vec Ideal S2x352x1024 .f32) shapeCasts_S2x352x1024_S704x1024 := by
  show V m c main_v0 = _
  unfold V
  simp only [hostOps0, StableHlo.TRef.unary, StableHlo.TRef.toBuf, StableHlo.TRef.ofBuf, cast_eq]
  after_results
  rfl

theorem V_g (c : Dev nD) : gg m c = shapeCast S704x1024 (m ((c : Thread nD τ).loc main_arg1) : Vec Ideal S2x352x1024 .f32) shapeCasts_S2x352x1024_S704x1024 := by
  show V m c main_v1 = _
  unfold V
  simp only [hostOps0, StableHlo.TRef.unary, StableHlo.TRef.toBuf, StableHlo.TRef.ofBuf, cast_eq]
  after_results
  rfl

theorem V_m (c : Dev nD) : mm m c = shapeCast S704x1024 (m ((c : Thread nD τ).loc main_arg2) : Vec Ideal S2x352x1024 .f32) shapeCasts_S2x352x1024_S704x1024 := by
  show V m c main_v2 = _
  unfold V
  simp only [hostOps0, StableHlo.TRef.unary, StableHlo.TRef.toBuf, StableHlo.TRef.ofBuf, cast_eq]
  after_results
  rfl

theorem V_v (c : Dev nD) : vv m c = shapeCast S704x1024 (m ((c : Thread nD τ).loc main_arg3) : Vec Ideal S2x352x1024 .f32) shapeCasts_S2x352x1024_S704x1024 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamWoReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S704x1024 .f32) := by
  funext i
  unfold res4
  rw [V_w, V_g, V_m, V_v]
  rfl

theorem res5_eq (c : Dev nD) : res5 m c
    = (Cert.AdamWoReferenceIdeal.Read.val_main_v25 (F := Ideal) (m ((c : Thread nD τ).loc main_arg1))
        (m ((c : Thread nD τ).loc main_arg2)) : Vec Ideal S704x1024 .f32) := by
  funext i
  unfold res5
  rw [V_g, V_m]
  rfl

theorem res6_eq (c : Dev nD) : res6 m c
    = (Cert.AdamWoReferenceIdeal.Read.val_main_v26 (F := Ideal) (m ((c : Thread nD τ).loc main_arg1))
        (m ((c : Thread nD τ).loc main_arg3)) : Vec Ideal S704x1024 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamWoKernelIdeal_AdamWoReferenceIdeal := by
  intro m g m' g' _ hargs
  refine ⟨fun c => res4 m c, fun c => res5 m c, fun c => res6 m c, run m g, ?_⟩
  refine (θ_run _ _ _).mono (fun r h c => ?_) (Cert.AdamWoReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamWoReferenceIdeal.Read.val_main_v24_eq, e0, e1, e2, e3]
    exact (res4_eq m c).symm
  · rw [Cert.AdamWoReferenceIdeal.Read.val_main_v25_eq, e1, e2]
    exact (res5_eq m c).symm
  · rw [Cert.AdamWoReferenceIdeal.Read.val_main_v26_eq, e1, e3]
    exact (res6_eq m c).symm

end Cert.AdamWoKernelIdeal.Step

end
-- ==== Proof.AdamInValue.lean ====
/-
  The optimiser's step for the attention block's input projection, on one device's shard: what the kernel leaves in its
  three results.

  The weights, their gradient and the two moments are laid out as a matrix and taken in blocks of 512 rows. Every
  element's result depends on that element alone, so each result array is one function of the four operands, index by
  index, and the layout is the reference's own.
-/
module

public import proofs.«01_k».proof.Defs
public import proofs.«01_k».proof.Proof.AdamMath
public import proofs.«01_k».proof.Proof.Gen.AdamInKernelIdeal.Value
public import proofs.«01_k».proof.Proof.Gen.AdamInReferenceIdeal.Read
public import Idealize.ShloMosaic.Lib.Tactic

@[expose] public section

noncomputable section

open Idealize.ShloMosaic Idealize.ShloMosaic.TcCoe Idealize.SL.Sem

namespace Cert.AdamInKernelIdeal.Step

open Cert.AdamInKernelIdeal Cert.AdamInKernelIdeal.Gen Cert.AdamMath

theorem off0 : (![0, 0] : Fin 2 → Nat) = fun _ => 0 := funext fun a => by fin_cases a <;> rfl

/-! ## The two folded reciprocals -/

theorem preserves : Cert.preserves_AdamInKernel_AdamInKernelIdeal :=
  ⟨IdealRules.named_const.statement Cert.AdamInKernelIdeal.κ "inv_c1" .f32 0x3FC48605#32 ((8388608 / 5463681 : ℝ) : EReal) rfl,
    IdealRules.named_const.statement Cert.AdamInKernelIdeal.κ "inv_c2" .f32 0x42C8E6D3#32 ((268435456 / 2672307 : ℝ) : EReal) rfl⟩

theorem inv_c1 : Named.named (F := Ideal) Cert.AdamInKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamInKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S512x292.Idx) : Value.ix4_0 y = y :=
  funext fun a => match a with
    | ⟨0, _⟩ => rfl
    | ⟨1, _⟩ => rfl

theorem out4_apply (w g m v : Vec Ideal S512x292 .f32) (y : S512x292.Idx) :
    out0_4 (F := Ideal) w g m v y = updateDiv (w y) (g y) (m y) (v y) := by
  unfold out0_4
  rw [Value.canon4_eq]
  simp only [View.ld_unit_zero (S := S512x292) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S512x292 .f32) (y : S512x292.Idx) :
    out0_5 (F := Ideal) w g m v y = moment1 (m y) (g y) := by
  unfold out0_5
  rw [Value.canon5_eq]
  simp only [View.ld_unit_zero (S := S512x292) off0]
  unfold Value.E5
  rw [show Value.ix5_0 y = y from own y, show Value.ix5_1 y = y from own y]
  rfl

theorem out6_apply (w g m v : Vec Ideal S512x292 .f32) (y : S512x292.Idx) :
    out0_6 (F := Ideal) w g m v y = moment2 (v y) (g y) := by
  unfold out0_6
  rw [Value.canon6_eq]
  simp only [View.ld_unit_zero (S := S512x292) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S1024x292 .f32 := V m c main_v0
abbrev gg (c : Dev nD) : Vec Ideal S1024x292 .f32 := V m c main_v1
abbrev mm (c : Dev nD) : Vec Ideal S1024x292 .f32 := V m c main_v2
abbrev vv (c : Dev nD) : Vec Ideal S1024x292 .f32 := V m c main_v3

/-- The three results, index by index. -/
def res4 (c : Dev nD) : Vec Ideal S1024x292 .f32 := fun i => updateDiv (ww m c i) (gg m c i) (mm m c i) (vv m c i)
def res5 (c : Dev nD) : Vec Ideal S1024x292 .f32 := fun i => moment1 (mm m c i) (gg m c i)
def res6 (c : Dev nD) : Vec Ideal S1024x292 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 2, ∃ t : Fin cfg0.N, (cfg0.win 4).flush t = true ∧ win0_4.index t = ![q.val, 0] :=
  (by decide +kernel : ∀ q : Fin 2, ∃ t : Fin grid0.N, win0_4.flush t = true ∧ win0_4.index t = ![q.val, 0])
theorem onto5 : ∀ q : Fin 2, ∃ t : Fin cfg0.N, (cfg0.win 5).flush t = true ∧ win0_5.index t = ![q.val, 0] :=
  (by decide +kernel : ∀ q : Fin 2, ∃ t : Fin grid0.N, win0_5.flush t = true ∧ win0_5.index t = ![q.val, 0])
theorem onto6 : ∀ q : Fin 2, ∃ t : Fin cfg0.N, (cfg0.win 6).flush t = true ∧ win0_6.index t = ![q.val, 0] :=
  (by decide +kernel : ∀ q : Fin 2, ∃ t : Fin grid0.N, win0_6.flush t = true ∧ win0_6.index t = ![q.val, 0])

/-- An index lies in the block its row falls in. -/
theorem rows (i : S1024x292.Idx) (n : Fin 2 → ℕ) (h : n = ![(i 0).val / 512, 0]) :
    ∀ a : Fin 2, n a * S512x292.size a ≤ (i a).val ∧ (i a).val < n a * S512x292.size a + S512x292.size a := by
  subst h
  have h0 : (i 0).val < 1024 := (i 0).isLt
  have h1 : (i 1).val < 292 := (i 1).isLt
  intro a
  match a with
  | ⟨0, _⟩ => show (i 0).val / 512 * 512 ≤ (i 0).val ∧ (i 0).val < (i 0).val / 512 * 512 + 512; omega
  | ⟨1, _⟩ => show 0 * 292 ≤ (i 1).val ∧ (i 1).val < 0 * 292 + 292; omega

theorem band (i : S1024x292.Idx) : (i 0).val / 512 < 2 := by
  have h0 : (i 0).val < 1024 := (i 0).isLt
  omega

theorem covered4 (i : S1024x292.Idx) : ∃ t : Fin cfg0.N, (cfg0.win 4).flush t = true ∧ i ∈ ((cfg0.win 4).blk t).view.set := by
  obtain ⟨t, hf, ht⟩ := onto4 ⟨(i 0).val / 512, band i⟩
  refine ⟨t, hf, ?_⟩
  show i ∈ ((View.whole main_v4_0).slice (win0_4.rect t)).set
  rw [View.set_slice_whole, Rect.mem_set_unit]
  exact rows i _ ht

theorem covered5 (i : S1024x292.Idx) : ∃ t : Fin cfg0.N, (cfg0.win 5).flush t = true ∧ i ∈ ((cfg0.win 5).blk t).view.set := by
  obtain ⟨t, hf, ht⟩ := onto5 ⟨(i 0).val / 512, band i⟩
  refine ⟨t, hf, ?_⟩
  show i ∈ ((View.whole main_v4_1).slice (win0_5.rect t)).set
  rw [View.set_slice_whole, Rect.mem_set_unit]
  exact rows i _ ht

theorem covered6 (i : S1024x292.Idx) : ∃ t : Fin cfg0.N, (cfg0.win 6).flush t = true ∧ i ∈ ((cfg0.win 6).blk t).view.set := by
  obtain ⟨t, hf, ht⟩ := onto6 ⟨(i 0).val / 512, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S1024x292 (m ((c : Thread nD τ).loc main_arg0) : Vec Ideal S1x1024x292 .f32) shapeCasts_S1x1024x292_S1024x292 := by
  show V m c main_v0 = _
  unfold V
  simp only [hostOps0, StableHlo.TRef.unary, StableHlo.TRef.toBuf, StableHlo.TRef.ofBuf, cast_eq]
  after_results
  rfl

theorem V_g (c : Dev nD) : gg m c = shapeCast S1024x292 (m ((c : Thread nD τ).loc main_arg1) : Vec Ideal S1x1024x292 .f32) shapeCasts_S1x1024x292_S1024x292 := by
  show V m c main_v1 = _
  unfold V
  simp only [hostOps0, StableHlo.TRef.unary, StableHlo.TRef.toBuf, StableHlo.TRef.ofBuf, cast_eq]
  after_results
  rfl

theorem V_m (c : Dev nD) : mm m c = shapeCast S1024x292 (m ((c : Thread nD τ).loc main_arg2) : Vec Ideal S1x1024x292 .f32) shapeCasts_S1x1024x292_S1024x292 := by
  show V m c main_v2 = _
  unfold V
  simp only [hostOps0, StableHlo.TRef.unary, StableHlo.TRef.toBuf, StableHlo.TRef.ofBuf, cast_eq]
  after_results
  rfl

theorem V_v (c : Dev nD) : vv m c = shapeCast S1024x292 (m ((c : Thread nD τ).loc main_arg3) : Vec Ideal S1x1024x292 .f32) shapeCasts_S1x1024x292_S1024x292 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamInReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S1024x292 .f32) := by
  funext i
  unfold res4
  rw [V_w, V_g, V_m, V_v]
  rfl

theorem res5_eq (c : Dev nD) : res5 m c
    = (Cert.AdamInReferenceIdeal.Read.val_main_v25 (F := Ideal) (m ((c : Thread nD τ).loc main_arg1))
        (m ((c : Thread nD τ).loc main_arg2)) : Vec Ideal S1024x292 .f32) := by
  funext i
  unfold res5
  rw [V_g, V_m]
  rfl

theorem res6_eq (c : Dev nD) : res6 m c
    = (Cert.AdamInReferenceIdeal.Read.val_main_v26 (F := Ideal) (m ((c : Thread nD τ).loc main_arg1))
        (m ((c : Thread nD τ).loc main_arg3)) : Vec Ideal S1024x292 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamInKernelIdeal_AdamInReferenceIdeal := by
  intro m g m' g' _ hargs
  refine ⟨fun c => res4 m c, fun c => res5 m c, fun c => res6 m c, run m g, ?_⟩
  refine (θ_run _ _ _).mono (fun r h c => ?_) (Cert.AdamInReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamInReferenceIdeal.Read.val_main_v24_eq, e0, e1, e2, e3]
    exact (res4_eq m c).symm
  · rw [Cert.AdamInReferenceIdeal.Read.val_main_v25_eq, e1, e2]
    exact (res5_eq m c).symm
  · rw [Cert.AdamInReferenceIdeal.Read.val_main_v26_eq, e1, e3]
    exact (res6_eq m c).symm

end Cert.AdamInKernelIdeal.Step

end
-- ==== Proof.AdamOutValue.lean ====
/-
  The optimiser's step for the attention block's output projection, on one device's shard: what the kernel leaves in its
  three results.

  The weights, their gradient and the two moments are laid out as a matrix and taken in one block of 128 rows. Every
  element's result depends on that element alone, so each result array is one function of the four operands, index by
  index, and the layout is the reference's own.
-/
module

public import proofs.«01_k».proof.Defs
public import proofs.«01_k».proof.Proof.AdamMath
public import proofs.«01_k».proof.Proof.Gen.AdamOutKernelIdeal.Value
public import proofs.«01_k».proof.Proof.Gen.AdamOutReferenceIdeal.Read
public import Idealize.ShloMosaic.Lib.Tactic

@[expose] public section

noncomputable section

open Idealize.ShloMosaic Idealize.ShloMosaic.TcCoe Idealize.SL.Sem

namespace Cert.AdamOutKernelIdeal.Step

open Cert.AdamOutKernelIdeal Cert.AdamOutKernelIdeal.Gen Cert.AdamMath

theorem off0 : (![0, 0] : Fin 2 → Nat) = fun _ => 0 := funext fun a => by fin_cases a <;> rfl

/-! ## The two folded reciprocals -/

theorem preserves : Cert.preserves_AdamOutKernel_AdamOutKernelIdeal :=
  ⟨IdealRules.named_const.statement Cert.AdamOutKernelIdeal.κ "inv_c1" .f32 0x3FC48605#32 ((8388608 / 5463681 : ℝ) : EReal) rfl,
    IdealRules.named_const.statement Cert.AdamOutKernelIdeal.κ "inv_c2" .f32 0x42C8E6D3#32 ((268435456 / 2672307 : ℝ) : EReal) rfl⟩

theorem inv_c1 : Named.named (F := Ideal) Cert.AdamOutKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamOutKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S128x1024.Idx) : Value.ix4_0 y = y :=
  funext fun a => match a with
    | ⟨0, _⟩ => rfl
    | ⟨1, _⟩ => rfl

theorem out4_apply (w g m v : Vec Ideal S128x1024 .f32) (y : S128x1024.Idx) :
    out0_4 (F := Ideal) w g m v y = updateDiv (w y) (g y) (m y) (v y) := by
  unfold out0_4
  rw [Value.canon4_eq]
  simp only [View.ld_unit_zero (S := S128x1024) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S128x1024 .f32) (y : S128x1024.Idx) :
    out0_5 (F := Ideal) w g m v y = moment1 (m y) (g y) := by
  unfold out0_5
  rw [Value.canon5_eq]
  simp only [View.ld_unit_zero (S := S128x1024) off0]
  unfold Value.E5
  rw [show Value.ix5_0 y = y from own y, show Value.ix5_1 y = y from own y]
  rfl

theorem out6_apply (w g m v : Vec Ideal S128x1024 .f32) (y : S128x1024.Idx) :
    out0_6 (F := Ideal) w g m v y = moment2 (v y) (g y) := by
  unfold out0_6
  rw [Value.canon6_eq]
  simp only [View.ld_unit_zero (S := S128x1024) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S128x1024 .f32 := V m c main_v0
abbrev gg (c : Dev nD) : Vec Ideal S128x1024 .f32 := V m c main_v1
abbrev mm (c : Dev nD) : Vec Ideal S128x1024 .f32 := V m c main_v2
abbrev vv (c : Dev nD) : Vec Ideal S128x1024 .f32 := V m c main_v3

/-- The three results, index by index. -/
def res4 (c : Dev nD) : Vec Ideal S128x1024 .f32 := fun i => updateDiv (ww m c i) (gg m c i) (mm m c i) (vv m c i)
def res5 (c : Dev nD) : Vec Ideal S128x1024 .f32 := fun i => moment1 (mm m c i) (gg m c i)
def res6 (c : Dev nD) : Vec Ideal S128x1024 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 1, ∃ t : Fin cfg0.N, (cfg0.win 4).flush t = true ∧ win0_4.index t = ![q.val, 0] :=
  (by decide +kernel : ∀ q : Fin 1, ∃ t : Fin grid0.N, win0_4.flush t = true ∧ win0_4.index t = ![q.val, 0])
theorem onto5 : ∀ q : Fin 1, ∃ t : Fin cfg0.N, (cfg0.win 5).flush t = true ∧ win0_5.index t = ![q.val, 0] :=
  (by decide +kernel : ∀ q : Fin 1, ∃ t : Fin grid0.N, win0_5.flush t = true ∧ win0_5.index t = ![q.val, 0])
theorem onto6 : ∀ q : Fin 1, ∃ t : Fin cfg0.N, (cfg0.win 6).flush t = true ∧ win0_6.index t = ![q.val, 0] :=
  (by decide +kernel : ∀ q : Fin 1, ∃ t : Fin grid0.N, win0_6.flush t = true ∧ win0_6.index t = ![q.val, 0])

/-- An index lies in the block its row falls in. -/
theorem rows (i : S128x1024.Idx) (n : Fin 2 → ℕ) (h : n = ![(i 0).val / 128, 0]) :
    ∀ a : Fin 2, n a * S128x1024.size a ≤ (i a).val ∧ (i a).val < n a * S128x1024.size a + S128x1024.size a := by
  subst h
  have h0 : (i 0).val < 128 := (i 0).isLt
  have h1 : (i 1).val < 1024 := (i 1).isLt
  intro a
  match a with
  | ⟨0, _⟩ => show (i 0).val / 128 * 128 ≤ (i 0).val ∧ (i 0).val < (i 0).val / 128 * 128 + 128; omega
  | ⟨1, _⟩ => show 0 * 1024 ≤ (i 1).val ∧ (i 1).val < 0 * 1024 + 1024; omega

theorem band (i : S128x1024.Idx) : (i 0).val / 128 < 1 := by
  have h0 : (i 0).val < 128 := (i 0).isLt
  omega

theorem covered4 (i : S128x1024.Idx) : ∃ t : Fin cfg0.N, (cfg0.win 4).flush t = true ∧ i ∈ ((cfg0.win 4).blk t).view.set := by
  obtain ⟨t, hf, ht⟩ := onto4 ⟨(i 0).val / 128, band i⟩
  refine ⟨t, hf, ?_⟩
  show i ∈ ((View.whole main_v4_0).slice (win0_4.rect t)).set
  rw [View.set_slice_whole, Rect.mem_set_unit]
  exact rows i _ ht

theorem covered5 (i : S128x1024.Idx) : ∃ t : Fin cfg0.N, (cfg0.win 5).flush t = true ∧ i ∈ ((cfg0.win 5).blk t).view.set := by
  obtain ⟨t, hf, ht⟩ := onto5 ⟨(i 0).val / 128, band i⟩
  refine ⟨t, hf, ?_⟩
  show i ∈ ((View.whole main_v4_1).slice (win0_5.rect t)).set
  rw [View.set_slice_whole, Rect.mem_set_unit]
  exact rows i _ ht

theorem covered6 (i : S128x1024.Idx) : ∃ t : Fin cfg0.N, (cfg0.win 6).flush t = true ∧ i ∈ ((cfg0.win 6).blk t).view.set := by
  obtain ⟨t, hf, ht⟩ := onto6 ⟨(i 0).val / 128, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S128x1024 (m ((c : Thread nD τ).loc main_arg0) : Vec Ideal S1x128x1024 .f32) shapeCasts_S1x128x1024_S128x1024 := by
  show V m c main_v0 = _
  unfold V
  simp only [hostOps0, StableHlo.TRef.unary, StableHlo.TRef.toBuf, StableHlo.TRef.ofBuf, cast_eq]
  after_results
  rfl

theorem V_g (c : Dev nD) : gg m c = shapeCast S128x1024 (m ((c : Thread nD τ).loc main_arg1) : Vec Ideal S1x128x1024 .f32) shapeCasts_S1x128x1024_S128x1024 := by
  show V m c main_v1 = _
  unfold V
  simp only [hostOps0, StableHlo.TRef.unary, StableHlo.TRef.toBuf, StableHlo.TRef.ofBuf, cast_eq]
  after_results
  rfl

theorem V_m (c : Dev nD) : mm m c = shapeCast S128x1024 (m ((c : Thread nD τ).loc main_arg2) : Vec Ideal S1x128x1024 .f32) shapeCasts_S1x128x1024_S128x1024 := by
  show V m c main_v2 = _
  unfold V
  simp only [hostOps0, StableHlo.TRef.unary, StableHlo.TRef.toBuf, StableHlo.TRef.ofBuf, cast_eq]
  after_results
  rfl

theorem V_v (c : Dev nD) : vv m c = shapeCast S128x1024 (m ((c : Thread nD τ).loc main_arg3) : Vec Ideal S1x128x1024 .f32) shapeCasts_S1x128x1024_S128x1024 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamOutReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S128x1024 .f32) := by
  funext i
  unfold res4
  rw [V_w, V_g, V_m, V_v]
  rfl

theorem res5_eq (c : Dev nD) : res5 m c
    = (Cert.AdamOutReferenceIdeal.Read.val_main_v25 (F := Ideal) (m ((c : Thread nD τ).loc main_arg1))
        (m ((c : Thread nD τ).loc main_arg2)) : Vec Ideal S128x1024 .f32) := by
  funext i
  unfold res5
  rw [V_g, V_m]
  rfl

theorem res6_eq (c : Dev nD) : res6 m c
    = (Cert.AdamOutReferenceIdeal.Read.val_main_v26 (F := Ideal) (m ((c : Thread nD τ).loc main_arg1))
        (m ((c : Thread nD τ).loc main_arg3)) : Vec Ideal S128x1024 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamOutKernelIdeal_AdamOutReferenceIdeal := by
  intro m g m' g' _ hargs
  refine ⟨fun c => res4 m c, fun c => res5 m c, fun c => res6 m c, run m g, ?_⟩
  refine (θ_run _ _ _).mono (fun r h c => ?_) (Cert.AdamOutReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamOutReferenceIdeal.Read.val_main_v24_eq, e0, e1, e2, e3]
    exact (res4_eq m c).symm
  · rw [Cert.AdamOutReferenceIdeal.Read.val_main_v25_eq, e1, e2]
    exact (res5_eq m c).symm
  · rw [Cert.AdamOutReferenceIdeal.Read.val_main_v26_eq, e1, e3]
    exact (res6_eq m c).symm

end Cert.AdamOutKernelIdeal.Step

end
-- ==== Proof.AdamPoolValue.lean ====
/-
  The optimiser's step for the pooling block's weights, on one device's shard: what the kernel leaves in its
  three results.

  The weights, their gradient and the two moments are laid out as a matrix and taken in one block of 128 rows. Every
  element's result depends on that element alone, so each result array is one function of the four operands, index by
  index, and the layout is the reference's own.
-/
module

public import proofs.«01_k».proof.Defs
public import proofs.«01_k».proof.Proof.AdamMath
public import proofs.«01_k».proof.Proof.Gen.AdamPoolKernelIdeal.Value
public import proofs.«01_k».proof.Proof.Gen.AdamPoolReferenceIdeal.Read
public import Idealize.ShloMosaic.Lib.Tactic

@[expose] public section

noncomputable section

open Idealize.ShloMosaic Idealize.ShloMosaic.TcCoe Idealize.SL.Sem

namespace Cert.AdamPoolKernelIdeal.Step

open Cert.AdamPoolKernelIdeal Cert.AdamPoolKernelIdeal.Gen Cert.AdamMath

theorem off0 : (![0, 0] : Fin 2 → Nat) = fun _ => 0 := funext fun a => by fin_cases a <;> rfl

/-! ## The two folded reciprocals -/

theorem preserves : Cert.preserves_AdamPoolKernel_AdamPoolKernelIdeal :=
  ⟨IdealRules.named_const.statement Cert.AdamPoolKernelIdeal.κ "inv_c1" .f32 0x3FC48605#32 ((8388608 / 5463681 : ℝ) : EReal) rfl,
    IdealRules.named_const.statement Cert.AdamPoolKernelIdeal.κ "inv_c2" .f32 0x42C8E6D3#32 ((268435456 / 2672307 : ℝ) : EReal) rfl⟩

theorem inv_c1 : Named.named (F := Ideal) Cert.AdamPoolKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamPoolKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S128x256.Idx) : Value.ix4_0 y = y :=
  funext fun a => match a with
    | ⟨0, _⟩ => rfl
    | ⟨1, _⟩ => rfl

theorem out4_apply (w g m v : Vec Ideal S128x256 .f32) (y : S128x256.Idx) :
    out0_4 (F := Ideal) w g m v y = updateDiv (w y) (g y) (m y) (v y) := by
  unfold out0_4
  rw [Value.canon4_eq]
  simp only [View.ld_unit_zero (S := S128x256) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S128x256 .f32) (y : S128x256.Idx) :
    out0_5 (F := Ideal) w g m v y = moment1 (m y) (g y) := by
  unfold out0_5
  rw [Value.canon5_eq]
  simp only [View.ld_unit_zero (S := S128x256) off0]
  unfold Value.E5
  rw [show Value.ix5_0 y = y from own y, show Value.ix5_1 y = y from own y]
  rfl

theorem out6_apply (w g m v : Vec Ideal S128x256 .f32) (y : S128x256.Idx) :
    out0_6 (F := Ideal) w g m v y = moment2 (v y) (g y) := by
  unfold out0_6
  rw [Value.canon6_eq]
  simp only [View.ld_unit_zero (S := S128x256) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S128x256 .f32 := V m c main_v0
abbrev gg (c : Dev nD) : Vec Ideal S128x256 .f32 := V m c main_v1
abbrev mm (c : Dev nD) : Vec Ideal S128x256 .f32 := V m c main_v2
abbrev vv (c : Dev nD) : Vec Ideal S128x256 .f32 := V m c main_v3

/-- The three results, index by index. -/
def res4 (c : Dev nD) : Vec Ideal S128x256 .f32 := fun i => updateDiv (ww m c i) (gg m c i) (mm m c i) (vv m c i)
def res5 (c : Dev nD) : Vec Ideal S128x256 .f32 := fun i => moment1 (mm m c i) (gg m c i)
def res6 (c : Dev nD) : Vec Ideal S128x256 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 1, ∃ t : Fin cfg0.N, (cfg0.win 4).flush t = true ∧ win0_4.index t = ![q.val, 0] :=
  (by decide +kernel : ∀ q : Fin 1, ∃ t : Fin grid0.N, win0_4.flush t = true ∧ win0_4.index t = ![q.val, 0])
theorem onto5 : ∀ q : Fin 1, ∃ t : Fin cfg0.N, (cfg0.win 5).flush t = true ∧ win0_5.index t = ![q.val, 0] :=
  (by decide +kernel : ∀ q : Fin 1, ∃ t : Fin grid0.N, win0_5.flush t = true ∧ win0_5.index t = ![q.val, 0])
theorem onto6 : ∀ q : Fin 1, ∃ t : Fin cfg0.N, (cfg0.win 6).flush t = true ∧ win0_6.index t = ![q.val, 0] :=
  (by decide +kernel : ∀ q : Fin 1, ∃ t : Fin grid0.N, win0_6.flush t = true ∧ win0_6.index t = ![q.val, 0])

/-- An index lies in the block its row falls in. -/
theorem rows (i : S128x256.Idx) (n : Fin 2 → ℕ) (h : n = ![(i 0).val / 128, 0]) :
    ∀ a : Fin 2, n a * S128x256.size a ≤ (i a).val ∧ (i a).val < n a * S128x256.size a + S128x256.size a := by
  subst h
  have h0 : (i 0).val < 128 := (i 0).isLt
  have h1 : (i 1).val < 256 := (i 1).isLt
  intro a
  match a with
  | ⟨0, _⟩ => show (i 0).val / 128 * 128 ≤ (i 0).val ∧ (i 0).val < (i 0).val / 128 * 128 + 128; omega
  | ⟨1, _⟩ => show 0 * 256 ≤ (i 1).val ∧ (i 1).val < 0 * 256 + 256; omega

theorem band (i : S128x256.Idx) : (i 0).val / 128 < 1 := by
  have h0 : (i 0).val < 128 := (i 0).isLt
  omega

theorem covered4 (i : S128x256.Idx) : ∃ t : Fin cfg0.N, (cfg0.win 4).flush t = true ∧ i ∈ ((cfg0.win 4).blk t).view.set := by
  obtain ⟨t, hf, ht⟩ := onto4 ⟨(i 0).val / 128, band i⟩
  refine ⟨t, hf, ?_⟩
  show i ∈ ((View.whole main_v4_0).slice (win0_4.rect t)).set
  rw [View.set_slice_whole, Rect.mem_set_unit]
  exact rows i _ ht

theorem covered5 (i : S128x256.Idx) : ∃ t : Fin cfg0.N, (cfg0.win 5).flush t = true ∧ i ∈ ((cfg0.win 5).blk t).view.set := by
  obtain ⟨t, hf, ht⟩ := onto5 ⟨(i 0).val / 128, band i⟩
  refine ⟨t, hf, ?_⟩
  show i ∈ ((View.whole main_v4_1).slice (win0_5.rect t)).set
  rw [View.set_slice_whole, Rect.mem_set_unit]
  exact rows i _ ht

theorem covered6 (i : S128x256.Idx) : ∃ t : Fin cfg0.N, (cfg0.win 6).flush t = true ∧ i ∈ ((cfg0.win 6).blk t).view.set := by
  obtain ⟨t, hf, ht⟩ := onto6 ⟨(i 0).val / 128, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S128x256 (m ((c : Thread nD τ).loc main_arg0) : Vec Ideal S1x4x32x256 .f32) shapeCasts_S1x4x32x256_S128x256 := by
  show V m c main_v0 = _
  unfold V
  simp only [hostOps0, StableHlo.TRef.unary, StableHlo.TRef.toBuf, StableHlo.TRef.ofBuf, cast_eq]
  after_results
  rfl

theorem V_g (c : Dev nD) : gg m c = shapeCast S128x256 (m ((c : Thread nD τ).loc main_arg1) : Vec Ideal S1x4x32x256 .f32) shapeCasts_S1x4x32x256_S128x256 := by
  show V m c main_v1 = _
  unfold V
  simp only [hostOps0, StableHlo.TRef.unary, StableHlo.TRef.toBuf, StableHlo.TRef.ofBuf, cast_eq]
  after_results
  rfl

theorem V_m (c : Dev nD) : mm m c = shapeCast S128x256 (m ((c : Thread nD τ).loc main_arg2) : Vec Ideal S1x4x32x256 .f32) shapeCasts_S1x4x32x256_S128x256 := by
  show V m c main_v2 = _
  unfold V
  simp only [hostOps0, StableHlo.TRef.unary, StableHlo.TRef.toBuf, StableHlo.TRef.ofBuf, cast_eq]
  after_results
  rfl

theorem V_v (c : Dev nD) : vv m c = shapeCast S128x256 (m ((c : Thread nD τ).loc main_arg3) : Vec Ideal S1x4x32x256 .f32) shapeCasts_S1x4x32x256_S128x256 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamPoolReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S128x256 .f32) := by
  funext i
  unfold res4
  rw [V_w, V_g, V_m, V_v]
  rfl

theorem res5_eq (c : Dev nD) : res5 m c
    = (Cert.AdamPoolReferenceIdeal.Read.val_main_v25 (F := Ideal) (m ((c : Thread nD τ).loc main_arg1))
        (m ((c : Thread nD τ).loc main_arg2)) : Vec Ideal S128x256 .f32) := by
  funext i
  unfold res5
  rw [V_g, V_m]
  rfl

theorem res6_eq (c : Dev nD) : res6 m c
    = (Cert.AdamPoolReferenceIdeal.Read.val_main_v26 (F := Ideal) (m ((c : Thread nD τ).loc main_arg1))
        (m ((c : Thread nD τ).loc main_arg3)) : Vec Ideal S128x256 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamPoolKernelIdeal_AdamPoolReferenceIdeal := by
  intro m g m' g' _ hargs
  refine ⟨fun c => res4 m c, fun c => res5 m c, fun c => res6 m c, run m g, ?_⟩
  refine (θ_run _ _ _).mono (fun r h c => ?_) (Cert.AdamPoolReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamPoolReferenceIdeal.Read.val_main_v24_eq, e0, e1, e2, e3]
    exact (res4_eq m c).symm
  · rw [Cert.AdamPoolReferenceIdeal.Read.val_main_v25_eq, e1, e2]
    exact (res5_eq m c).symm
  · rw [Cert.AdamPoolReferenceIdeal.Read.val_main_v26_eq, e1, e3]
    exact (res6_eq m c).symm

end Cert.AdamPoolKernelIdeal.Step

end
-- ==== Proof.AdamModValue.lean ====
/-
  The optimiser's step for the modulation's weights, on one device's shard: what the kernel leaves in its
  three results.

  The weights, their gradient and the two moments are laid out as a matrix and taken in blocks of 512 rows. Every
  element's result depends on that element alone, so each result array is one function of the four operands, index by
  index, and the layout is the reference's own.
-/
module

public import proofs.«01_k».proof.Defs
public import proofs.«01_k».proof.Proof.AdamMath
public import proofs.«01_k».proof.Proof.Gen.AdamModKernelIdeal.Value
public import proofs.«01_k».proof.Proof.Gen.AdamModReferenceIdeal.Read
public import Idealize.ShloMosaic.Lib.Tactic

@[expose] public section

noncomputable section

open Idealize.ShloMosaic Idealize.ShloMosaic.TcCoe Idealize.SL.Sem

namespace Cert.AdamModKernelIdeal.Step

open Cert.AdamModKernelIdeal Cert.AdamModKernelIdeal.Gen Cert.AdamMath

theorem off0 : (![0, 0] : Fin 2 → Nat) = fun _ => 0 := funext fun a => by fin_cases a <;> rfl

/-! ## The two folded reciprocals -/

theorem preserves : Cert.preserves_AdamModKernel_AdamModKernelIdeal :=
  ⟨IdealRules.named_const.statement Cert.AdamModKernelIdeal.κ "inv_c1" .f32 0x3FC48605#32 ((8388608 / 5463681 : ℝ) : EReal) rfl,
    IdealRules.named_const.statement Cert.AdamModKernelIdeal.κ "inv_c2" .f32 0x42C8E6D3#32 ((268435456 / 2672307 : ℝ) : EReal) rfl⟩

theorem inv_c1 : Named.named (F := Ideal) Cert.AdamModKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamModKernelIdeal.κ "inv_c2" (φ := .f32) 0x42C8E6D3#32
    = ((268435456 / 2672307 : ℝ) : EReal) :=
  IdealRules.named_const.ideal_named_scalar _ _ _ _ rfl

/-! ## What one grid point computes -/

/-- Each operand is read at the result's own index. -/
theorem own (y : S512x1152.Idx) : Value.ix4_0 y = y :=
  funext fun a => match a with
    | ⟨0, _⟩ => rfl
    | ⟨1, _⟩ => rfl

theorem out4_apply (w g m v : Vec Ideal S512x1152 .f32) (y : S512x1152.Idx) :
    out0_4 (F := Ideal) w g m v y = updateDiv (w y) (g y) (m y) (v y) := by
  unfold out0_4
  rw [Value.canon4_eq]
  simp only [View.ld_unit_zero (S := S512x1152) off0]
  unfold Value.E4
  rw [show Value.ix4_0 y = y from own y, show Value.ix4_1 y = y from own y, show Value.ix4_2 y = y from own y, show Value.ix4_3 y = y from own y, show Value.ix4_4 y = y from own y, show Value.ix4_5 y = y from own y,
    inv_c1, inv_c2, ← updateMul_eq]
  rfl

theorem out5_apply (w g m v : Vec Ideal S512x1152 .f32) (y : S512x1152.Idx) :
    out0_5 (F := Ideal) w g m v y = moment1 (m y) (g y) := by
  unfold out0_5
  rw [Value.canon5_eq]
  simp only [View.ld_unit_zero (S := S512x1152) off0]
  unfold Value.E5
  rw [show Value.ix5_0 y = y from own y, show Value.ix5_1 y = y from own y]
  rfl

theorem out6_apply (w g m v : Vec Ideal S512x1152 .f32) (y : S512x1152.Idx) :
    out0_6 (F := Ideal) w g m v y = moment2 (v y) (g y) := by
  unfold out0_6
  rw [Value.canon6_eq]
  simp only [View.ld_unit_zero (S := S512x1152) off0]
  unfold Value.E6
  rw [show Value.ix6_0 y = y from own y, show Value.ix6_1 y = y from own y, show Value.ix6_2 y = y from own y]
  rfl

/-! ## The result arrays -/

variable (m : (ℓ : Loc nD τ sig) → Buf (Elt Ideal) ℓ) (ρ : Dev nD → PrngReg)

/-- The weights, the gradient and the moments as the region finds them. -/
abbrev ww (c : Dev nD) : Vec Ideal S2048x1152 .f32 := V m c main_v0
abbrev gg (c : Dev nD) : Vec Ideal S2048x1152 .f32 := V m c main_v1
abbrev mm (c : Dev nD) : Vec Ideal S2048x1152 .f32 := V m c main_v2
abbrev vv (c : Dev nD) : Vec Ideal S2048x1152 .f32 := V m c main_v3

/-- The three results, index by index. -/
def res4 (c : Dev nD) : Vec Ideal S2048x1152 .f32 := fun i => updateDiv (ww m c i) (gg m c i) (mm m c i) (vv m c i)
def res5 (c : Dev nD) : Vec Ideal S2048x1152 .f32 := fun i => moment1 (mm m c i) (gg m c i)
def res6 (c : Dev nD) : Vec Ideal S2048x1152 .f32 := fun i => moment2 (vv m c i) (gg m c i)

/-- What a grid point writes back is its block of those. -/
theorem flushed4_eq (c : Dev nD) (t : Fin cfg0.N) :
    (dats m 0 c).flushed 4 t = ((cfg0.win 4).blk t).view.read (Elt Ideal) (res4 m c) := by
  rw [Value.flushed4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  rw [Value.flushed5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  rw [Value.flushed6]
  funext y
  show out0_6 (F := Ideal) (iblk m c 0 t) (iblk m c 1 t) (iblk m c 2 t) (iblk m c 3 t) y = _
  rw [out6_apply]
  rfl

/-- Every block of rows is some grid point's, for each of the three results. -/
theorem onto4 : ∀ q : Fin 4, ∃ t : Fin cfg0.N, (cfg0.win 4).flush t = true ∧ win0_4.index t = ![q.val, 0] :=
  (by decide +kernel : ∀ q : Fin 4, ∃ t : Fin grid0.N, win0_4.flush t = true ∧ win0_4.index t = ![q.val, 0])
theorem onto5 : ∀ q : Fin 4, ∃ t : Fin cfg0.N, (cfg0.win 5).flush t = true ∧ win0_5.index t = ![q.val, 0] :=
  (by decide +kernel : ∀ q : Fin 4, ∃ t : Fin grid0.N, win0_5.flush t = true ∧ win0_5.index t = ![q.val, 0])
theorem onto6 : ∀ q : Fin 4, ∃ t : Fin cfg0.N, (cfg0.win 6).flush t = true ∧ win0_6.index t = ![q.val, 0] :=
  (by decide +kernel : ∀ q : Fin 4, ∃ t : Fin grid0.N, win0_6.flush t = true ∧ win0_6.index t = ![q.val, 0])

/-- An index lies in the block its row falls in. -/
theorem rows (i : S2048x1152.Idx) (n : Fin 2 → ℕ) (h : n = ![(i 0).val / 512, 0]) :
    ∀ a : Fin 2, n a * S512x1152.size a ≤ (i a).val ∧ (i a).val < n a * S512x1152.size a + S512x1152.size a := by
  subst h
  have h0 : (i 0).val < 2048 := (i 0).isLt
  have h1 : (i 1).val < 1152 := (i 1).isLt
  intro a
  match a with
  | ⟨0, _⟩ => show (i 0).val / 512 * 512 ≤ (i 0).val ∧ (i 0).val < (i 0).val / 512 * 512 + 512; omega
  | ⟨1, _⟩ => show 0 * 1152 ≤ (i 1).val ∧ (i 1).val < 0 * 1152 + 1152; omega

theorem band (i : S2048x1152.Idx) : (i 0).val / 512 < 4 := by
  have h0 : (i 0).val < 2048 := (i 0).isLt
  omega

theorem covered4 (i : S2048x1152.Idx) : ∃ t : Fin cfg0.N, (cfg0.win 4).flush t = true ∧ i ∈ ((cfg0.win 4).blk t).view.set := by
  obtain ⟨t, hf, ht⟩ := onto4 ⟨(i 0).val / 512, band i⟩
  refine ⟨t, hf, ?_⟩
  show i ∈ ((View.whole main_v4_0).slice (win0_4.rect t)).set
  rw [View.set_slice_whole, Rect.mem_set_unit]
  exact rows i _ ht

theorem covered5 (i : S2048x1152.Idx) : ∃ t : Fin cfg0.N, (cfg0.win 5).flush t = true ∧ i ∈ ((cfg0.win 5).blk t).view.set := by
  obtain ⟨t, hf, ht⟩ := onto5 ⟨(i 0).val / 512, band i⟩
  refine ⟨t, hf, ?_⟩
  show i ∈ ((View.whole main_v4_1).slice (win0_5.rect t)).set
  rw [View.set_slice_whole, Rect.mem_set_unit]
  exact rows i _ ht

theorem covered6 (i : S2048x1152.Idx) : ∃ t : Fin cfg0.N, (cfg0.win 6).flush t = true ∧ i ∈ ((cfg0.win 6).blk t).view.set := by
  obtain ⟨t, hf, ht⟩ := onto6 ⟨(i 0).val / 512, band i⟩
  refine ⟨t, hf, ?_⟩
  show i ∈ ((View.whole main_v4_2).slice (win0_6.rect t)).set
  rw [View.set_slice_whole, Rect.mem_set_unit]
  exact rows i _ ht

/-- So the arrays after the run are those functions. -/
theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## What the host prepares: the arguments, laid out as matrices -/

theorem V_w (c : Dev nD) : ww m c = shapeCast S2048x1152 (m ((c : Thread nD τ).loc main_arg0) : Vec Ideal S2x1024x1152 .f32) shapeCasts_S2x1024x1152_S2048x1152 := by
  show V m c main_v0 = _
  unfold V
  simp only [hostOps0, StableHlo.TRef.unary, StableHlo.TRef.toBuf, StableHlo.TRef.ofBuf, cast_eq]
  after_results
  rfl

theorem V_g (c : Dev nD) : gg m c = shapeCast S2048x1152 (m ((c : Thread nD τ).loc main_arg1) : Vec Ideal S2x1024x1152 .f32) shapeCasts_S2x1024x1152_S2048x1152 := by
  show V m c main_v1 = _
  unfold V
  simp only [hostOps0, StableHlo.TRef.unary, StableHlo.TRef.toBuf, StableHlo.TRef.ofBuf, cast_eq]
  after_results
  rfl

theorem V_m (c : Dev nD) : mm m c = shapeCast S2048x1152 (m ((c : Thread nD τ).loc main_arg2) : Vec Ideal S2x1024x1152 .f32) shapeCasts_S2x1024x1152_S2048x1152 := by
  show V m c main_v2 = _
  unfold V
  simp only [hostOps0, StableHlo.TRef.unary, StableHlo.TRef.toBuf, StableHlo.TRef.ofBuf, cast_eq]
  after_results
  rfl

theorem V_v (c : Dev nD) : vv m c = shapeCast S2048x1152 (m ((c : Thread nD τ).loc main_arg3) : Vec Ideal S2x1024x1152 .f32) shapeCasts_S2x1024x1152_S2048x1152 := by
  show V m c main_v3 = _
  unfold V
  simp only [hostOps0, StableHlo.TRef.unary, StableHlo.TRef.toBuf, StableHlo.TRef.ofBuf, cast_eq]
  after_results
  rfl

/-! ## The claim -/

/-- The kernel's three results are the reference's. -/
theorem res4_eq (c : Dev nD) : res4 m c
    = (Cert.AdamModReferenceIdeal.Read.val_main_v24 (F := Ideal) (m ((c : Thread nD τ).loc main_arg0)) (m ((c : Thread nD τ).loc main_arg1))
        (m ((c : Thread nD τ).loc main_arg2)) (m ((c : Thread nD τ).loc main_arg3)) : Vec Ideal S2048x1152 .f32) := by
  funext i
  unfold res4
  rw [V_w, V_g, V_m, V_v]
  rfl

theorem res5_eq (c : Dev nD) : res5 m c
    = (Cert.AdamModReferenceIdeal.Read.val_main_v25 (F := Ideal) (m ((c : Thread nD τ).loc main_arg1))
        (m ((c : Thread nD τ).loc main_arg2)) : Vec Ideal S2048x1152 .f32) := by
  funext i
  unfold res5
  rw [V_g, V_m]
  rfl

theorem res6_eq (c : Dev nD) : res6 m c
    = (Cert.AdamModReferenceIdeal.Read.val_main_v26 (F := Ideal) (m ((c : Thread nD τ).loc main_arg1))
        (m ((c : Thread nD τ).loc main_arg3)) : Vec Ideal S2048x1152 .f32) := by
  funext i
  unfold res6
  rw [V_g, V_v]
  rfl

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

theorem algebraic : Cert.algebraic_AdamModKernelIdeal_AdamModReferenceIdeal := by
  intro m g m' g' _ hargs
  refine ⟨fun c => res4 m c, fun c => res5 m c, fun c => res6 m c, run m g, ?_⟩
  refine (θ_run _ _ _).mono (fun r h c => ?_) (Cert.AdamModReferenceIdeal.Value.run m' g')
  obtain ⟨h0, h1, h2, hr⟩ := h c
  obtain ⟨e0, e1, e2, e3⟩ := hargs c
  refine ⟨h0.trans ?_, h1.trans ?_, h2.trans ?_, hr⟩
  · rw [Cert.AdamModReferenceIdeal.Read.val_main_v24_eq, e0, e1, e2, e3]
    exact (res4_eq m c).symm
  · rw [Cert.AdamModReferenceIdeal.Read.val_main_v25_eq, e1, e2]
    exact (res5_eq m c).symm
  · rw [Cert.AdamModReferenceIdeal.Read.val_main_v26_eq, e1, e3]
    exact (res6_eq m c).symm

end Cert.AdamModKernelIdeal.Step

end
-- ==== Proof.AdamSmallLayout.lean ====
/-
  Eleven small arrays laid end to end in one matrix of 128 columns, and read back.

  The optimiser's step for the small weights flattens its eleven arrays, joins them into one line of 23048 numbers,
  pads the line to whole rows of 128 and the rows to 512, runs one kernel over the matrix, and cuts the eleven arrays out of
  what the kernel left. Here: the element that lies at place `f` of the line lies in row `f / 128`, column `f % 128` of the
  matrix, and element `i` of array `k` lies at place `off k` plus the number of `i` in row-major order.
-/
module

public import Idealize.ShloMosaic.PureOps
public import Idealize.ShloMosaic.PureOps.Ideal
public import Idealize.ShloMosaic.Lib.Pipeline.Value
public import Idealize.ShloMosaic.Lib.KernelVsHost
public import Idealize.ShloMosaic.Lib.Pointwise.Index
public import Idealize.ShloMosaic.Lib.Pointwise.Reshape

@[expose] public section

noncomputable section

namespace Cert.AdamSmallLayout

open Idealize.ShloMosaic

/-! ## The eleven shapes, and where each begins -/

/-- The shape of each array. -/
abbrev shp : Fin 11 → Shape
  | 0 => ⟨1, ![1024]⟩
  | 1 => ⟨2, ![2, 9216]⟩
  | 2 => ⟨3, ![2, 3, 128]⟩
  | 3 => ⟨3, ![1, 16, 32]⟩
  | 4 => ⟨2, ![1, 256]⟩
  | 5 => ⟨3, ![1, 16, 32]⟩
  | 6 => ⟨2, ![1, 256]⟩
  | 7 => ⟨2, ![1, 8]⟩
  | 8 => ⟨2, ![1, 128]⟩
  | 9 => ⟨2, ![1, 128]⟩
  | 10 => ⟨1, ![1024]⟩

/-- How many numbers it holds. -/
abbrev len : Fin 11 → ℕ
  | 0 => 1024 | 1 => 18432 | 2 => 768 | 3 => 512 | 4 => 256 | 5 => 512 | 6 => 256 | 7 => 8 | 8 => 128 | 9 => 128 | 10 => 1024

/-- How many lie before it. -/
abbrev off : Fin 11 → ℕ
  | 0 => 0 | 1 => 1024 | 2 => 19456 | 3 => 20224 | 4 => 20736 | 5 => 20992 | 6 => 21504 | 7 => 21760 | 8 => 21768 | 9 => 21896
  | 10 => 22024

/-- A line of `n` numbers. -/
abbrev flat (n : ℕ) : Shape := ⟨1, ![n]⟩

/-- The matrix. -/
abbrev sheet : Shape := ⟨2, ![512, 128]⟩

theorem flat_numel (n : ℕ) : (flat n).numel = n := by simp [Shape.numel]

theorem casts (k : Fin 11) : (shp k).ShapeCasts (flat (len k)) := by
  revert k; decide

theorem ends_by (k : Fin 11) : off k + len k ≤ 23048 := by
  revert k; decide

/-- The number of an index among its array's is below the array's length. -/
theorem number_lt (k : Fin 11) (i : (shp k).Idx) : ((shp k).rowMajor i).val < len k :=
  lt_of_lt_of_eq ((shp k).rowMajor i).isLt ((casts k).symm.trans (flat_numel _))

theorem place_lt (k : Fin 11) (i : (shp k).Idx) : off k + ((shp k).rowMajor i).val < 23048 :=
  lt_of_lt_of_le (Nat.add_lt_add_left (number_lt k i) _) (ends_by k)

/-! ## The line -/

/-- Array `k` as a line. -/
def piece (xs : (k : Fin 11) → Vec Ideal (shp k) .f32) (k : Fin 11) : (s : Shape) × Vec Ideal s .f32 :=
  ⟨flat (len k), shapeCast (flat (len k)) (xs k) (casts k)⟩

/-- The eleven, in order. -/
abbrev pieces (xs : (k : Fin 11) → Vec Ideal (shp k) .f32) : List ((s : Shape) × Vec Ideal s .f32) :=
  [piece xs 0, piece xs 1, piece xs 2, piece xs 3, piece xs 4, piece xs 5, piece xs 6, piece xs 7, piece xs 8, piece xs 9,
    piece xs 10]

theorem joins (xs : (k : Fin 11) → Vec Ideal (shp k) .f32) :
    Shape.Concatenates ((pieces xs).map (·.1)) (flat 23048) 0 := by
  show Shape.Concatenates [flat 1024, flat 18432, flat 768, flat 512, flat 256, flat 512, flat 256, flat 8, flat 128, flat 128,
    flat 1024] (flat 23048) 0
  decide

/-- The lengths before array `k` add up to its offset. -/
theorem before (k : Fin 11) : ((([flat 1024, flat 18432, flat 768, flat 512, flat 256, flat 512, flat 256, flat 8, flat 128, flat 128,
    flat 1024] : List Shape).take k.val).map
      fun s => if h : s.rank = (flat 23048).rank then s.size ((0 : Fin 1).cast h.symm) else 0).sum = off k := by
  revert k; decide

/-- The line of all their numbers. -/
def line (xs : (k : Fin 11) → Vec Ideal (shp k) .f32) : Vec Ideal (flat 23048) .f32 :=
  concatenate (flat 23048) 0 (pieces xs) (joins xs)

/-- Element `i` of array `k` lies at its place in the line. -/
theorem line_at (xs : (k : Fin 11) → Vec Ideal (shp k) .f32) (k : Fin 11) (i : (shp k).Idx) :
    line xs (ix1 ⟨off k + ((shp k).rowMajor i).val, place_lt k i⟩) = xs k i := by
  have hk : k.val < (pieces xs).length := k.isLt
  have hget : (pieces xs)[k.val] = ⟨flat (len k), shapeCast (flat (len k)) (xs k) (casts k)⟩ := by
    fin_cases k <;> rfl
  have hpre : ((((pieces xs).take k.val).map (·.1)).map fun s => if h : s.rank = (flat 23048).rank then s.size ((0 : Fin 1).cast h.symm) else 0).sum = off k := by
    rw [List.map_take]
    exact before k
  refine (concatenate_apply_piece (t := flat 23048) (0 : Fin 1) (pieces xs) (joins xs) _ k.val hk _ _ hget rfl (off k) hpre
    (ix1 ⟨((shp k).rowMajor i).val, number_lt k i⟩) (fun b hb => absurd (Fin.ext (by have : b.val < 1 := b.isLt; show b.val = 0; omega)) hb) rfl).trans ?_
  exact shapeCast_apply _ _ _ _ (by rw [Shape.rowMajor_val_one]; rfl)

/-! ## The matrix -/

/-- Where place `f` of the line lies in the matrix. -/
def at_ (f : ℕ) (hf : f < 23048) : sheet.Idx := ix2 ⟨f / 128, by omega⟩ ⟨f % 128, Nat.mod_lt _ (by norm_num)⟩

/-- The line, padded to whole rows, cut into rows, padded to 512 of them. -/
def laid (y : Vec Ideal (flat 23048) .f32) (h₁ : (flat 23048).Pads ![0] ![120] ![0] (flat 23168))
    (h₂ : (flat 23168).BroadcastsInDim ⟨2, ![1, 23168]⟩ ![1]) (h₃ : Shape.ShapeCasts ⟨2, ![1, 23168]⟩ ⟨2, ![181, 128]⟩)
    (h₄ : Shape.Pads ⟨2, ![181, 128]⟩ ![0, 0] ![331, 0] ![0, 0] sheet) (z : Vec Ideal ⟨0, ![]⟩ .f32) (hz : 0 < Shape.numel ⟨0, ![]⟩) :
    Vec Ideal sheet .f32 :=
  pad sheet ![0, 0] ![331, 0] ![0, 0]
    (shapeCast ⟨2, ![181, 128]⟩ (broadcastInDim ⟨2, ![1, 23168]⟩ ![1] h₂ (pad (flat 23168) ![0] ![120] ![0] y z h₁ hz)) h₃) z h₄ hz

theorem laid_at (y : Vec Ideal (flat 23048) .f32) (h₁ : (flat 23048).Pads ![0] ![120] ![0] (flat 23168))
    (h₂ : (flat 23168).BroadcastsInDim ⟨2, ![1, 23168]⟩ ![1]) (h₃ : Shape.ShapeCasts ⟨2, ![1, 23168]⟩ ⟨2, ![181, 128]⟩)
    (h₄ : Shape.Pads ⟨2, ![181, 128]⟩ ![0, 0] ![331, 0] ![0, 0] sheet) (z : Vec Ideal ⟨0, ![]⟩ .f32) (hz : 0 < Shape.numel ⟨0, ![]⟩)
    (f : ℕ) (hf : f < 23048) : laid y h₁ h₂ h₃ h₄ z hz (at_ f hf) = y (ix1 ⟨f, hf⟩) := by
  unfold laid at_
  rw [pad_apply_of_inside _ _ _ _ _ h₄ hz _
    (ix2 (⟨f / 128, by omega⟩ : Fin 181) (⟨f % 128, Nat.mod_lt _ (by norm_num)⟩ : Fin 128))
    (fun a => by match a with
      | ⟨0, _⟩ => show f / 128 = 0 + f / 128 * (0 + 1); omega
      | ⟨1, _⟩ => show f % 128 = 0 + f % 128 * (0 + 1); omega)]
  rw [shapeCast_apply _ h₃ _ (ix2 (0 : Fin 1) (⟨f, by omega⟩ : Fin 23168))
    (by rw [Shape.rowMajor_val_two, Shape.rowMajor_val_two]
        show 0 * 23168 + f = f / 128 * 128 + f % 128; omega)]
  rw [broadcastInDim_apply _ h₂ _ _ (ix1 (⟨f, by omega⟩ : Fin 23168))
    (fun a => by match a with
      | ⟨0, _⟩ => show f = if (23168 : ℕ) = 1 then 0 else f; rw [if_neg (by norm_num)])]
  exact pad_apply_of_inside _ _ _ _ _ h₁ hz _ _
    (fun a => by match a with
      | ⟨0, _⟩ => show f = 0 + f * (0 + 1); omega)

/-! ## Cutting an array out -/

/-- An array cut out of the matrix at `o`, read at an index, is the matrix at that place. -/
theorem cut_at {n o : ℕ} {s : Shape} (A : Vec Ideal sheet .f32) (h₁ : sheet.ShapeCasts ⟨2, ![1, 65536]⟩)
    (h₂ : Shape.Slices ⟨2, ![1, 65536]⟩ ![0, o] ⟨2, ![1, n]⟩) (h₃ : Shape.ShapeCasts ⟨2, ![1, n]⟩ s) (i : s.Idx)
    (hn : (s.rowMajor i).val < n) (hf : o + (s.rowMajor i).val < 23048) :
    shapeCast s (extractStridedSlice ⟨2, ![1, n]⟩ ![0, o] (shapeCast ⟨2, ![1, 65536]⟩ A h₁) h₂) h₃ i
      = A (at_ (o + (s.rowMajor i).val) hf) := by
  rw [shapeCast_apply _ h₃ i (ix2 (0 : Fin 1) (⟨(s.rowMajor i).val, hn⟩ : Fin n))
    (by rw [Shape.rowMajor_val_two]; show 0 * n + (s.rowMajor i).val = _; omega)]
  rw [extractStridedSlice_apply _ _ h₂ _ (ix2 (0 : Fin 1) (⟨o + (s.rowMajor i).val, by omega⟩ : Fin 65536))
    (fun a => by match a with
      | ⟨0, _⟩ => rfl
      | ⟨1, _⟩ => rfl)]
  exact shapeCast_apply _ h₁ _ _
    (by rw [Shape.rowMajor_val_two, Shape.rowMajor_val_two]
        show (o + (s.rowMajor i).val) / 128 * 128 + (o + (s.rowMajor i).val) % 128 = 0 * 65536 + (o + (s.rowMajor i).val); omega)

/-- Array `k` cut out of the matrix. -/
def cut (A : Vec Ideal sheet .f32) (k : Fin 11) : Vec Ideal (shp k) .f32 :=
  fun i => A (at_ (off k + ((shp k).rowMajor i).val) (place_lt k i))

/-- Cut out and brought to its shape. -/
theorem cut_once (A : Vec Ideal sheet .f32) (k : Fin 11) (h₁ : sheet.ShapeCasts ⟨2, ![1, 65536]⟩)
    (h₂ : Shape.Slices ⟨2, ![1, 65536]⟩ ![0, off k] ⟨2, ![1, len k]⟩) (h₃ : Shape.ShapeCasts ⟨2, ![1, len k]⟩ (shp k)) :
    shapeCast (shp k) (extractStridedSlice ⟨2, ![1, len k]⟩ ![0, off k] (shapeCast ⟨2, ![1, 65536]⟩ A h₁) h₂) h₃ = cut A k :=
  funext fun i => cut_at A h₁ h₂ h₃ i (number_lt k i) (place_lt k i)

/-- Cut out and brought to its shape by way of another. -/
theorem cut_twice (A : Vec Ideal sheet .f32) (k : Fin 11) {u : Shape} (h₁ : sheet.ShapeCasts ⟨2, ![1, 65536]⟩)
    (h₂ : Shape.Slices ⟨2, ![1, 65536]⟩ ![0, off k] ⟨2, ![1, len k]⟩) (h₃ : Shape.ShapeCasts ⟨2, ![1, len k]⟩ u)
    (h₄ : u.ShapeCasts (shp k)) :
    shapeCast (shp k) (shapeCast u (extractStridedSlice ⟨2, ![1, len k]⟩ ![0, off k] (shapeCast ⟨2, ![1, 65536]⟩ A h₁) h₂) h₃) h₄
      = cut A k := by
  rw [shapeCast_comp]
  exact cut_once A k h₁ h₂ _

end Cert.AdamSmallLayout

end
-- ==== Proof.AdamSmallRegion.lean ====
/-
  The optimiser's step for the eleven small weights: what the kernel's region leaves, and what the host lines round it do.

  Before the region the eleven weights are laid out as one matrix, and so are their gradients and their two moments; after
  it the three matrices that the kernel leaves are cut back into the eleven shapes. The kernel itself works element by
  element, on the whole matrix at once.
-/
module

public import proofs.«01_k».proof.Proof.AdamMath
public import proofs.«01_k».proof.Proof.AdamSmallLayout
public import proofs.«01_k».proof.Proof.Gen.AdamSmallKernelIdeal.Frame
public import Idealize.ShloMosaic.Lib.Pipeline.ValueKit.Geometry
public import Idealize.ShloMosaic.Lib.Tactic

@[expose] public section

noncomputable section

open Idealize.ShloMosaic Idealize.ShloMosaic.TcCoe Idealize.SL.Sem

namespace Cert.AdamSmallKernelIdeal.Step

open Cert.AdamSmallKernelIdeal Cert.AdamSmallKernelIdeal.Gen Cert.AdamMath Cert.AdamSmallLayout

theorem off0 : (![0, 0] : Fin 2 → Nat) = fun _ => 0 := funext fun a => by fin_cases a <;> rfl

/-! ## The two folded reciprocals -/

theorem inv_c1 : Named.named (F := Ideal) Cert.AdamSmallKernelIdeal.κ "inv_c1" (φ := .f32) 0x3FC48605#32
    = ((8388608 / 5463681 : ℝ) : EReal) :=
  IdealRules.named_const.ideal_named_scalar _ _ _ _ rfl

theorem inv_c2 : Named.named (F := Ideal) Cert.AdamSmallKernelIdeal.κ "inv_c2" (φ := .f32) 0x42C8E6D3#32
    = ((268435456 / 2672307 : ℝ) : EReal) :=
  IdealRules.named_const.ideal_named_scalar _ _ _ _ rfl

/-! ## What the kernel computes, element by element -/

theorem first_apply (g m : Vec Ideal S512x128 .f32) (y : S512x128.Idx) :
    k0_pay2 (F := Ideal) g m y = moment1 (m y) (g y) := by
  unfold k0_pay2 k0_pay1
  simp only [shapeCast_id]
  rfl

theorem second_apply (g v : Vec Ideal S512x128 .f32) (y : S512x128.Idx) :
    k0_pay3 (F := Ideal) g v y = moment2 (v y) (g y) := by
  unfold k0_pay3 k0_pay1
  simp only [shapeCast_id]
  rfl

theorem step_apply (w g m v : Vec Ideal S512x128 .f32) (y : S512x128.Idx) :
    k0_pay4 (F := Ideal) g m v w y = updateDiv (w y) (g y) (m y) (v y) := by
  rw [← updateMul_eq, ← inv_c1, ← inv_c2]
  unfold updateMul
  rw [← first_apply, ← second_apply]
  unfold k0_pay4
  simp only [shapeCast_id]
  rfl

theorem out4_apply (w g m v : Vec Ideal S512x128 .f32) (y : S512x128.Idx) :
    out0_4 (F := Ideal) w g m v y = updateDiv (w y) (g y) (m y) (v y) := by
  unfold out0_4
  rw [View.canon_unit_zero (S := S512x128) off0]
  simp only [View.ld_unit_zero (S := S512x128) off0]
  exact step_apply w g m v y

theorem out5_apply (w g m v : Vec Ideal S512x128 .f32) (y : S512x128.Idx) :
    out0_5 (F := Ideal) w g m v y = moment1 (m y) (g y) := by
  unfold out0_5
  rw [View.canon_unit_zero (S := S512x128) off0]
  simp only [View.ld_unit_zero (S := S512x128) off0]
  exact first_apply g m y

theorem out6_apply (w g m v : Vec Ideal S512x128 .f32) (y : S512x128.Idx) :
    out0_6 (F := Ideal) w g m v y = moment2 (v y) (g y) := by
  unfold out0_6
  rw [View.canon_unit_zero (S := S512x128) off0]
  simp only [View.ld_unit_zero (S := S512x128) off0]
  exact second_apply g v y

/-! ## The three matrices it leaves -/

variable (m : (ℓ : Loc nD τ sig) → Buf (Elt Ideal) ℓ) (ρ : Dev nD → PrngReg)

/-- The weights, the gradients and the moments as the region finds them. -/
abbrev ww (c : Dev nD) : Vec Ideal S512x128 .f32 := V m c main_v52
abbrev gg (c : Dev nD) : Vec Ideal S512x128 .f32 := V m c main_v53
abbrev mm (c : Dev nD) : Vec Ideal S512x128 .f32 := V m c main_v54
abbrev vv (c : Dev nD) : Vec Ideal S512x128 .f32 := V m c main_v55

/-- The three matrices after it, index by index. -/
def res4 (c : Dev nD) : Vec Ideal S512x128 .f32 := fun i => updateDiv (ww m c i) (gg m c i) (mm m c i) (vv m c i)
def res5 (c : Dev nD) : Vec Ideal S512x128 .f32 := fun i => moment1 (mm m c i) (gg m c i)
def res6 (c : Dev nD) : Vec Ideal S512x128 .f32 := fun i => moment2 (vv m c i) (gg m c i)

theorem flushed4_eq (c : Dev nD) (t : Fin cfg0.N) :
    (dats m 0 c).flushed 4 t = ((cfg0.win 4).blk t).view.read (Elt Ideal) (res4 m c) := by
  show (cfg0.win 4).cut (grid0.coords t) ((dats m 0 c).after 4 t) = _
  rw [after0_4]
  funext y
  show out0_4 (F := Ideal) (iblk m c 0 t) (iblk m c 1 t) (iblk m c 2 t) (iblk m c 3 t) y = _
  rw [out4_apply]
  rfl

theorem flushed5_eq (c : Dev nD) (t : Fin cfg0.N) :
    (dats m 0 c).flushed 5 t = ((cfg0.win 5).blk t).view.read (Elt Ideal) (res5 m c) := by
  show (cfg0.win 5).cut (grid0.coords t) ((dats m 0 c).after 5 t) = _
  rw [after0_5]
  funext y
  show out0_5 (F := Ideal) (iblk m c 0 t) (iblk m c 1 t) (iblk m c 2 t) (iblk m c 3 t) y = _
  rw [out5_apply]
  rfl

theorem flushed6_eq (c : Dev nD) (t : Fin cfg0.N) :
    (dats m 0 c).flushed 6 t = ((cfg0.win 6).blk t).view.read (Elt Ideal) (res6 m c) := by
  show (cfg0.win 6).cut (grid0.coords t) ((dats m 0 c).after 6 t) = _
  rw [after0_6]
  funext y
  show out0_6 (F := Ideal) (iblk m c 0 t) (iblk m c 1 t) (iblk m c 2 t) (iblk m c 3 t) y = _
  rw [out6_apply]
  rfl

/-- The one grid point's block is the whole matrix, for each of the three. -/
theorem onto4 : ∃ t : Fin cfg0.N, (cfg0.win 4).flush t = true ∧ win0_4.index t = ![0, 0] :=
  (by decide +kernel : ∃ t : Fin grid0.N, win0_4.flush t = true ∧ win0_4.index t = ![0, 0])
theorem onto5 : ∃ t : Fin cfg0.N, (cfg0.win 5).flush t = true ∧ win0_5.index t = ![0, 0] :=
  (by decide +kernel : ∃ t : Fin grid0.N, win0_5.flush t = true ∧ win0_5.index t = ![0, 0])
theorem onto6 : ∃ t : Fin cfg0.N, (cfg0.win 6).flush t = true ∧ win0_6.index t = ![0, 0] :=
  (by decide +kernel : ∃ t : Fin grid0.N, win0_6.flush t = true ∧ win0_6.index t = ![0, 0])

theorem within (i : S512x128.Idx) (n : Fin 2 → ℕ) (h : n = ![0, 0]) :
    ∀ a : Fin 2, n a * S512x128.size a ≤ (i a).val ∧ (i a).val < n a * S512x128.size a + S512x128.size a := by
  subst h
  have h0 : (i 0).val < 512 := (i 0).isLt
  have h1 : (i 1).val < 128 := (i 1).isLt
  intro a
  match a with
  | ⟨0, _⟩ => show 0 * 512 ≤ (i 0).val ∧ (i 0).val < 0 * 512 + 512; omega
  | ⟨1, _⟩ => show 0 * 128 ≤ (i 1).val ∧ (i 1).val < 0 * 128 + 128; omega

theorem covered4 (i : S512x128.Idx) : ∃ t : Fin cfg0.N, (cfg0.win 4).flush t = true ∧ i ∈ ((cfg0.win 4).blk t).view.set := by
  obtain ⟨t, hf, ht⟩ := onto4
  refine ⟨t, hf, ?_⟩
  show i ∈ ((View.whole main_v56_0).slice (win0_4.rect t)).set
  rw [View.set_slice_whole, Rect.mem_set_unit]
  exact within i _ ht

theorem covered5 (i : S512x128.Idx) : ∃ t : Fin cfg0.N, (cfg0.win 5).flush t = true ∧ i ∈ ((cfg0.win 5).blk t).view.set := by
  obtain ⟨t, hf, ht⟩ := onto5
  refine ⟨t, hf, ?_⟩
  show i ∈ ((View.whole main_v56_1).slice (win0_5.rect t)).set
  rw [View.set_slice_whole, Rect.mem_set_unit]
  exact within i _ ht

theorem covered6 (i : S512x128.Idx) : ∃ t : Fin cfg0.N, (cfg0.win 6).flush t = true ∧ i ∈ ((cfg0.win 6).blk t).view.set := by
  obtain ⟨t, hf, ht⟩ := onto6
  refine ⟨t, hf, ?_⟩
  show i ∈ ((View.whole main_v56_2).slice (win0_6.rect t)).set
  rw [View.set_slice_whole, Rect.mem_set_unit]
  exact within i _ ht

theorem final4 (c : Dev nD) : (dats m 0 c).arrAt 4 cfg0.N = res4 m c :=
  (dats m 0 c).arrAt_eq_of_cover 4 _ (fun t _ => flushed4_eq m c t) covered4
theorem final5 (c : Dev nD) : (dats m 0 c).arrAt 5 cfg0.N = res5 m c :=
  (dats m 0 c).arrAt_eq_of_cover 5 _ (fun t _ => flushed5_eq m c t) covered5
theorem final6 (c : Dev nD) : (dats m 0 c).arrAt 6 cfg0.N = res6 m c :=
  (dats m 0 c).arrAt_eq_of_cover 6 _ (fun t _ => flushed6_eq m c t) covered6

/-! ## The host lines before it -/

/-- The four groups of eleven arguments. -/
def ws (c : Dev nD) : (k : Fin 11) → Vec Ideal (shp k) .f32
  | 0 => m ((c : Thread nD τ).loc main_arg0) | 1 => m ((c : Thread nD τ).loc main_arg1)
  | 2 => m ((c : Thread nD τ).loc main_arg2) | 3 => m ((c : Thread nD τ).loc main_arg3)
  | 4 => m ((c : Thread nD τ).loc main_arg4) | 5 => m ((c : Thread nD τ).loc main_arg5)
  | 6 => m ((c : Thread nD τ).loc main_arg6) | 7 => m ((c : Thread nD τ).loc main_arg7)
  | 8 => m ((c : Thread nD τ).loc main_arg8) | 9 => m ((c : Thread nD τ).loc main_arg9)
  | 10 => m ((c : Thread nD τ).loc main_arg10)

def gs (c : Dev nD) : (k : Fin 11) → Vec Ideal (shp k) .f32
  | 0 => m ((c : Thread nD τ).loc main_arg11) | 1 => m ((c : Thread nD τ).loc main_arg12)
  | 2 => m ((c : Thread nD τ).loc main_arg13) | 3 => m ((c : Thread nD τ).loc main_arg14)
  | 4 => m ((c : Thread nD τ).loc main_arg15) | 5 => m ((c : Thread nD τ).loc main_arg16)
  | 6 => m ((c : Thread nD τ).loc main_arg17) | 7 => m ((c : Thread nD τ).loc main_arg18)
  | 8 => m ((c : Thread nD τ).loc main_arg19) | 9 => m ((c : Thread nD τ).loc main_arg20)
  | 10 => m ((c : Thread nD τ).loc main_arg21)

def ms (c : Dev nD) : (k : Fin 11) → Vec Ideal (shp k) .f32
  | 0 => m ((c : Thread nD τ).loc main_arg22) | 1 => m ((c : Thread nD τ).loc main_arg23)
  | 2 => m ((c : Thread nD τ).loc main_arg24) | 3 => m ((c : Thread nD τ).loc main_arg25)
  | 4 => m ((c : Thread nD τ).loc main_arg26) | 5 => m ((c : Thread nD τ).loc main_arg27)
  | 6 => m ((c : Thread nD τ).loc main_arg28) | 7 => m ((c : Thread nD τ).loc main_arg29)
  | 8 => m ((c : Thread nD τ).loc main_arg30) | 9 => m ((c : Thread nD τ).loc main_arg31)
  | 10 => m ((c : Thread nD τ).loc main_arg32)

def vs (c : Dev nD) : (k : Fin 11) → Vec Ideal (shp k) .f32
  | 0 => m ((c : Thread nD τ).loc main_arg33) | 1 => m ((c : Thread nD τ).loc main_arg34)
  | 2 => m ((c : Thread nD τ).loc main_arg35) | 3 => m ((c : Thread nD τ).loc main_arg36)
  | 4 => m ((c : Thread nD τ).loc main_arg37) | 5 => m ((c : Thread nD τ).loc main_arg38)
  | 6 => m ((c : Thread nD τ).loc main_arg39) | 7 => m ((c : Thread nD τ).loc main_arg40)
  | 8 => m ((c : Thread nD τ).loc main_arg41) | 9 => m ((c : Thread nD τ).loc main_arg42)
  | 10 => m ((c : Thread nD τ).loc main_arg43)

/-- Eleven arrays as the host lays them out. -/
def packed (xs : (k : Fin 11) → Vec Ideal (shp k) .f32) : Vec Ideal S512x128 .f32 :=
  laid (line xs) pads_S23048_S23168_01200 bcast_S23168_S1x23168_1 shapeCasts_S1x23168_S181x128 pads_S181x128_S512x128_03310_000
    (sitofp .f32 (constantI S_ 32 0#32) : FVec Ideal S_ .f32) h_S_

/-- The joined line, from the eleven arrays one by one. -/
theorem line_eq (xs : (k : Fin 11) → Vec Ideal (shp k) .f32) :
    line xs = concatenate S23048 0 [⟨S1024, xs 0⟩, ⟨S18432, shapeCast S18432 (xs 1) shapeCasts_S2x9216_S18432⟩,
      ⟨S768, shapeCast S768 (xs 2) shapeCasts_S2x3x128_S768⟩, ⟨S512, shapeCast S512 (xs 3) shapeCasts_S1x16x32_S512⟩,
      ⟨S256, shapeCast S256 (xs 4) shapeCasts_S1x256_S256⟩, ⟨S512, shapeCast S512 (xs 5) shapeCasts_S1x16x32_S512⟩,
      ⟨S256, shapeCast S256 (xs 6) shapeCasts_S1x256_S256⟩, ⟨S8, shapeCast S8 (xs 7) shapeCasts_S1x8_S8⟩,
      ⟨S128, shapeCast S128 (xs 8) shapeCasts_S1x128_S128⟩, ⟨S128, shapeCast S128 (xs 9) shapeCasts_S1x128_S128⟩, ⟨S1024, xs 10⟩]
      concatenates_S1024_S18432_S768_S512_S256_S512_S256_S8_S128_S128_S1024_S23048_d0 := by
  have h0 : piece xs 0 = ⟨S1024, xs 0⟩ := congrArg (Sigma.mk S1024) (shapeCast_id (s := S1024) (xs 0) (casts 0))
  have h10 : piece xs 10 = ⟨S1024, xs 10⟩ := congrArg (Sigma.mk S1024) (shapeCast_id (s := S1024) (xs 10) (casts 10))
  unfold line
  congr 1
  show [piece xs 0, _, _, _, _, _, _, _, _, _, piece xs 10] = _
  rw [h0, h10]
  rfl

end Cert.AdamSmallKernelIdeal.Step

end
-- ==== Proof.AdamSmallHost.lean ====
/-
  The optimiser's step for the eleven small weights: the host lines round the kernel.

  The lines before it lay the eleven arrays of each group out in one matrix; the lines after it cut the kernel's three
  matrices back into the eleven shapes. So each of the thirty-three results is, index by index, the step of one element of
  its own weight.
-/
module

public import proofs.«01_k».proof.Proof.AdamSmallRegion
public import Idealize.ShloMosaic.Lib.StableHlo.RunRead
public import Idealize.ShloMosaic.Lib.Tactic

@[expose] public section

noncomputable section

open Idealize.ShloMosaic Idealize.ShloMosaic.TcCoe Idealize.SL.Sem

namespace Cert.AdamSmallKernelIdeal.Step

open Cert.AdamSmallKernelIdeal Cert.AdamSmallKernelIdeal.Gen Cert.AdamMath Cert.AdamSmallLayout

variable (m : (ℓ : Loc nD τ sig) → Buf (Elt Ideal) ℓ) (ρ : Dev nD → PrngReg)

/-! ## Before the kernel: the matrices are the arrays, laid out -/

set_option maxHeartbeats 4000000 in
theorem V_w (c : Dev nD) : ww m c = packed (ws m c) := by
  unfold packed
  rw [line_eq]
  show V m c main_v52 = _
  unfold V V0
  simp only [List.flatten_cons, List.flatten_nil, List.append_nil, List.cons_append, List.nil_append, hostOps0, hostOps0_1,
    hostOps0_2, hostOps0_3, hostOps0_4, hostOps0_5, hostOps0_6, hostOps0_7, hostOps0_8, hostOps0_9, hostOps0_10, hostOps0_11,
    hostOps0_12, hostOps0_13, hostOps0_14, hostOps0_15, StableHlo.TRef.unary, StableHlo.TRef.binary, StableHlo.TRef.toBuf,
    StableHlo.TRef.ofBuf, cast_eq]
  after_reads_simp
  rfl

set_option maxHeartbeats 4000000 in
theorem V_g (c : Dev nD) : gg m c = packed (gs m c) := by
  unfold packed
  rw [line_eq]
  show V m c main_v53 = _
  unfold V V0
  simp only [List.flatten_cons, List.flatten_nil, List.append_nil, List.cons_append, List.nil_append, hostOps0, hostOps0_1,
    hostOps0_2, hostOps0_3, hostOps0_4, hostOps0_5, hostOps0_6, hostOps0_7, hostOps0_8, hostOps0_9, hostOps0_10, hostOps0_11,
    hostOps0_12, hostOps0_13, hostOps0_14, hostOps0_15, StableHlo.TRef.unary, StableHlo.TRef.binary, StableHlo.TRef.toBuf,
    StableHlo.TRef.ofBuf, cast_eq]
  after_reads_simp
  rfl

set_option maxHeartbeats 4000000 in
theorem V_m (c : Dev nD) : mm m c = packed (ms m c) := by
  unfold packed
  rw [line_eq]
  show V m c main_v54 = _
  unfold V V0
  simp only [List.flatten_cons, List.flatten_nil, List.append_nil, List.cons_append, List.nil_append, hostOps0, hostOps0_1,
    hostOps0_2, hostOps0_3, hostOps0_4, hostOps0_5, hostOps0_6, hostOps0_7, hostOps0_8, hostOps0_9, hostOps0_10, hostOps0_11,
    hostOps0_12, hostOps0_13, hostOps0_14, hostOps0_15, StableHlo.TRef.unary, StableHlo.TRef.binary, StableHlo.TRef.toBuf,
    StableHlo.TRef.ofBuf, cast_eq]
  after_reads_simp
  rfl

set_option maxHeartbeats 4000000 in
theorem V_v (c : Dev nD) : vv m c = packed (vs m c) := by
  unfold packed
  rw [line_eq]
  show V m c main_v55 = _
  unfold V V0
  simp only [List.flatten_cons, List.flatten_nil, List.append_nil, List.cons_append, List.nil_append, hostOps0, hostOps0_1,
    hostOps0_2, hostOps0_3, hostOps0_4, hostOps0_5, hostOps0_6, hostOps0_7, hostOps0_8, hostOps0_9, hostOps0_10, hostOps0_11,
    hostOps0_12, hostOps0_13, hostOps0_14, hostOps0_15, StableHlo.TRef.unary, StableHlo.TRef.binary, StableHlo.TRef.toBuf,
    StableHlo.TRef.ofBuf, cast_eq]
  after_reads_simp
  rfl

/-! ## After it: each result is a stretch of one matrix -/

set_option maxHeartbeats 8000000 in
theorem cuts4 (U : Valuation τ sig (Elt Ideal)) :
    StableHlo.after hostOps1 U (Proc.devRef .tc main_v78) = cut (U (Proc.devRef .tc main_v56_0) : Vec Ideal S512x128 .f32) 0
      ∧ StableHlo.after hostOps1 U (Proc.devRef .tc main_v79) = cut (U (Proc.devRef .tc main_v56_0) : Vec Ideal S512x128 .f32) 1
      ∧ StableHlo.after hostOps1 U (Proc.devRef .tc main_v80) = cut (U (Proc.devRef .tc main_v56_0) : Vec Ideal S512x128 .f32) 2
      ∧ StableHlo.after hostOps1 U (Proc.devRef .tc main_v81) = cut (U (Proc.devRef .tc main_v56_0) : Vec Ideal S512x128 .f32) 3
      ∧ StableHlo.after hostOps1 U (Proc.devRef .tc main_v82) = cut (U (Proc.devRef .tc main_v56_0) : Vec Ideal S512x128 .f32) 4
      ∧ StableHlo.after hostOps1 U (Proc.devRef .tc main_v83) = cut (U (Proc.devRef .tc main_v56_0) : Vec Ideal S512x128 .f32) 5
      ∧ StableHlo.after hostOps1 U (Proc.devRef .tc main_v84) = cut (U (Proc.devRef .tc main_v56_0) : Vec Ideal S512x128 .f32) 6
      ∧ StableHlo.after hostOps1 U (Proc.devRef .tc main_v85) = cut (U (Proc.devRef .tc main_v56_0) : Vec Ideal S512x128 .f32) 7
      ∧ StableHlo.after hostOps1 U (Proc.devRef .tc main_v86) = cut (U (Proc.devRef .tc main_v56_0) : Vec Ideal S512x128 .f32) 8
      ∧ StableHlo.after hostOps1 U (Proc.devRef .tc main_v87) = cut (U (Proc.devRef .tc main_v56_0) : Vec Ideal S512x128 .f32) 9
      ∧ StableHlo.after hostOps1 U (Proc.devRef .tc main_v88) = cut (U (Proc.devRef .tc main_v56_0) : Vec Ideal S512x128 .f32) 10 := by
  simp only [hostOps1]
  refine ⟨?_, ?_, ?_, ?_, ?_, ?_, ?_, ?_, ?_, ?_, ?_⟩ <;> after_reads_simp
  · exact cut_once _ 0 _ _ _
  · exact cut_twice _ 1 _ _ _ _
  · exact cut_twice _ 2 _ _ _ _
  · exact cut_twice _ 3 _ _ _ _
  · exact cut_twice _ 4 _ _ _ _
  · exact cut_twice _ 5 _ _ _ _
  · exact cut_twice _ 6 _ _ _ _
  · exact cut_twice _ 7 _ _ _ _
  · exact cut_twice _ 8 _ _ _ _
  · exact cut_twice _ 9 _ _ _ _
  · exact cut_once _ 10 _ _ _

set_option maxHeartbeats 8000000 in
theorem cuts5 (U : Valuation τ sig (Elt Ideal)) :
    StableHlo.after hostOps1 U (Proc.devRef .tc main_v110) = cut (U (Proc.devRef .tc main_v56_1) : Vec Ideal S512x128 .f32) 0
      ∧ StableHlo.after hostOps1 U (Proc.devRef .tc main_v111) = cut (U (Proc.devRef .tc main_v56_1) : Vec Ideal S512x128 .f32) 1
      ∧ StableHlo.after hostOps1 U (Proc.devRef .tc main_v112) = cut (U (Proc.devRef .tc main_v56_1) : Vec Ideal S512x128 .f32) 2
      ∧ StableHlo.after hostOps1 U (Proc.devRef .tc main_v113) = cut (U (Proc.devRef .tc main_v56_1) : Vec Ideal S512x128 .f32) 3
      ∧ StableHlo.after hostOps1 U (Proc.devRef .tc main_v114) = cut (U (Proc.devRef .tc main_v56_1) : Vec Ideal S512x128 .f32) 4
      ∧ StableHlo.after hostOps1 U (Proc.devRef .tc main_v115) = cut (U (Proc.devRef .tc main_v56_1) : Vec Ideal S512x128 .f32) 5
      ∧ StableHlo.after hostOps1 U (Proc.devRef .tc main_v116) = cut (U (Proc.devRef .tc main_v56_1) : Vec Ideal S512x128 .f32) 6
      ∧ StableHlo.after hostOps1 U (Proc.devRef .tc main_v117) = cut (U (Proc.devRef .tc main_v56_1) : Vec Ideal S512x128 .f32) 7
      ∧ StableHlo.after hostOps1 U (Proc.devRef .tc main_v118) = cut (U (Proc.devRef .tc main_v56_1) : Vec Ideal S512x128 .f32) 8
      ∧ StableHlo.after hostOps1 U (Proc.devRef .tc main_v119) = cut (U (Proc.devRef .tc main_v56_1) : Vec Ideal S512x128 .f32) 9
      ∧ StableHlo.after hostOps1 U (Proc.devRef .tc main_v120) = cut (U (Proc.devRef .tc main_v56_1) : Vec Ideal S512x128 .f32) 10 := by
  simp only [hostOps1]
  refine ⟨?_, ?_, ?_, ?_, ?_, ?_, ?_, ?_, ?_, ?_, ?_⟩ <;> after_reads_simp
  · exact cut_once _ 0 _ _ _
  · exact cut_twice _ 1 _ _ _ _
  · exact cut_twice _ 2 _ _ _ _
  · exact cut_twice _ 3 _ _ _ _
  · exact cut_twice _ 4 _ _ _ _
  · exact cut_twice _ 5 _ _ _ _
  · exact cut_twice _ 6 _ _ _ _
  · exact cut_twice _ 7 _ _ _ _
  · exact cut_twice _ 8 _ _ _ _
  · exact cut_twice _ 9 _ _ _ _
  · exact cut_once _ 10 _ _ _

set_option maxHeartbeats 8000000 in
theorem cuts6 (U : Valuation τ sig (Elt Ideal)) :
    StableHlo.after hostOps1 U (Proc.devRef .tc main_v142) = cut (U (Proc.devRef .tc main_v56_2) : Vec Ideal S512x128 .f32) 0
      ∧ StableHlo.after hostOps1 U (Proc.devRef .tc main_v143) = cut (U (Proc.devRef .tc main_v56_2) : Vec Ideal S512x128 .f32) 1
      ∧ StableHlo.after hostOps1 U (Proc.devRef .tc main_v144) = cut (U (Proc.devRef .tc main_v56_2) : Vec Ideal S512x128 .f32) 2
      ∧ StableHlo.after hostOps1 U (Proc.devRef .tc main_v145) = cut (U (Proc.devRef .tc main_v56_2) : Vec Ideal S512x128 .f32) 3
      ∧ StableHlo.after hostOps1 U (Proc.devRef .tc main_v146) = cut (U (Proc.devRef .tc main_v56_2) : Vec Ideal S512x128 .f32) 4
      ∧ StableHlo.after hostOps1 U (Proc.devRef .tc main_v147) = cut (U (Proc.devRef .tc main_v56_2) : Vec Ideal S512x128 .f32) 5
      ∧ StableHlo.after hostOps1 U (Proc.devRef .tc main_v148) = cut (U (Proc.devRef .tc main_v56_2) : Vec Ideal S512x128 .f32) 6
      ∧ StableHlo.after hostOps1 U (Proc.devRef .tc main_v149) = cut (U (Proc.devRef .tc main_v56_2) : Vec Ideal S512x128 .f32) 7
      ∧ StableHlo.after hostOps1 U (Proc.devRef .tc main_v150) = cut (U (Proc.devRef .tc main_v56_2) : Vec Ideal S512x128 .f32) 8
      ∧ StableHlo.after hostOps1 U (Proc.devRef .tc main_v151) = cut (U (Proc.devRef .tc main_v56_2) : Vec Ideal S512x128 .f32) 9
      ∧ StableHlo.after hostOps1 U (Proc.devRef .tc main_v152) = cut (U (Proc.devRef .tc main_v56_2) : Vec Ideal S512x128 .f32) 10 := by
  simp only [hostOps1]
  refine ⟨?_, ?_, ?_, ?_, ?_, ?_, ?_, ?_, ?_, ?_, ?_⟩ <;> after_reads_simp
  · exact cut_once _ 0 _ _ _
  · exact cut_twice _ 1 _ _ _ _
  · exact cut_twice _ 2 _ _ _ _
  · exact cut_twice _ 3 _ _ _ _
  · exact cut_twice _ 4 _ _ _ _
  · exact cut_twice _ 5 _ _ _ _
  · exact cut_twice _ 6 _ _ _ _
  · exact cut_twice _ 7 _ _ _ _
  · exact cut_twice _ 8 _ _ _ _
  · exact cut_twice _ 9 _ _ _ _
  · exact cut_once _ 10 _ _ _

/-! ## So each result is the step of its own weight -/

/-- The element of the matrix that array `k`'s index `i` was laid at. -/
theorem packed_at (xs : (k : Fin 11) → Vec Ideal (shp k) .f32) (k : Fin 11) (i : (shp k).Idx) :
    packed xs (at_ (off k + ((shp k).rowMajor i).val) (place_lt k i)) = xs k i :=
  (laid_at _ _ _ _ _ _ _ _ _).trans (line_at xs k i)

/-- The update and the two new moments of weight `k`. -/
def new4 (c : Dev nD) (k : Fin 11) : Vec Ideal (shp k) .f32 := fun i => updateDiv (ws m c k i) (gs m c k i) (ms m c k i) (vs m c k i)
def new5 (c : Dev nD) (k : Fin 11) : Vec Ideal (shp k) .f32 := fun i => moment1 (ms m c k i) (gs m c k i)
def new6 (c : Dev nD) (k : Fin 11) : Vec Ideal (shp k) .f32 := fun i => moment2 (vs m c k i) (gs m c k i)

theorem cut_res4 (c : Dev nD) (k : Fin 11) : cut (res4 m c) k = new4 m c k := by
  funext i
  unfold cut res4 new4
  rw [V_w, V_g, V_m, V_v, packed_at, packed_at, packed_at, packed_at]

theorem cut_res5 (c : Dev nD) (k : Fin 11) : cut (res5 m c) k = new5 m c k := by
  funext i
  unfold cut res5 new5
  rw [V_g, V_m, packed_at, packed_at]

theorem cut_res6 (c : Dev nD) (k : Fin 11) : cut (res6 m c) k = new6 m c k := by
  funext i
  unfold cut res6 new6
  rw [V_g, V_v, packed_at, packed_at]

/-- What the last lines leave in a buffer, from what the kernel left in the three matrices. -/
def left (c : Dev nD) : Valuation τ sig (Elt Ideal) :=
  Pipeline.withArrays (cfgs 0).spec c (V0 m c) fun w => (dats m 0 c).arrAt w (cfgs 0).N

theorem left_eq (c : Dev nD) (b : Ref sig .tc) :
    Pipeline.afterTail₀ cfgs (dats m) 0 (V0 m) [hostOps1] c b = StableHlo.after hostOps1 (left m c) (Proc.devRef .tc b) := by
  unfold Pipeline.afterTail₀ left
  rw [List.flatten_cons, List.flatten_nil, List.append_nil]

theorem left4 (c : Dev nD) : left m c (Proc.devRef .tc main_v56_0) = res4 m c :=
  (Pipeline.withArrays_arr spec0 launch0.win.arr_inj c _ _ 4).trans (final4 m c)
theorem left5 (c : Dev nD) : left m c (Proc.devRef .tc main_v56_1) = res5 m c :=
  (Pipeline.withArrays_arr spec0 launch0.win.arr_inj c _ _ 5).trans (final5 m c)
theorem left6 (c : Dev nD) : left m c (Proc.devRef .tc main_v56_2) = res6 m c :=
  (Pipeline.withArrays_arr spec0 launch0.win.arr_inj c _ _ 6).trans (final6 m c)

theorem stretch4 (c : Dev nD) (k : Fin 11) :
    cut (left m c (Proc.devRef .tc main_v56_0) : Vec Ideal S512x128 .f32) k = new4 m c k :=
  (congrArg (fun A => cut A k) (left4 m c)).trans (cut_res4 m c k)
theorem stretch5 (c : Dev nD) (k : Fin 11) :
    cut (left m c (Proc.devRef .tc main_v56_1) : Vec Ideal S512x128 .f32) k = new5 m c k :=
  (congrArg (fun A => cut A k) (left5 m c)).trans (cut_res5 m c k)
theorem stretch6 (c : Dev nD) (k : Fin 11) :
    cut (left m c (Proc.devRef .tc main_v56_2) : Vec Ideal S512x128 .f32) k = new6 m c k :=
  (congrArg (fun A => cut A k) (left6 m c)).trans (cut_res6 m c k)

theorem results4 (c : Dev nD) :
    Pipeline.afterTail₀ cfgs (dats m) 0 (V0 m) [hostOps1] c main_v78 = new4 m c 0
      ∧ Pipeline.afterTail₀ cfgs (dats m) 0 (V0 m) [hostOps1] c main_v79 = new4 m c 1
      ∧ Pipeline.afterTail₀ cfgs (dats m) 0 (V0 m) [hostOps1] c main_v80 = new4 m c 2
      ∧ Pipeline.afterTail₀ cfgs (dats m) 0 (V0 m) [hostOps1] c main_v81 = new4 m c 3
      ∧ Pipeline.afterTail₀ cfgs (dats m) 0 (V0 m) [hostOps1] c main_v82 = new4 m c 4
      ∧ Pipeline.afterTail₀ cfgs (dats m) 0 (V0 m) [hostOps1] c main_v83 = new4 m c 5
      ∧ Pipeline.afterTail₀ cfgs (dats m) 0 (V0 m) [hostOps1] c main_v84 = new4 m c 6
      ∧ Pipeline.afterTail₀ cfgs (dats m) 0 (V0 m) [hostOps1] c main_v85 = new4 m c 7
      ∧ Pipeline.afterTail₀ cfgs (dats m) 0 (V0 m) [hostOps1] c main_v86 = new4 m c 8
      ∧ Pipeline.afterTail₀ cfgs (dats m) 0 (V0 m) [hostOps1] c main_v87 = new4 m c 9
      ∧ Pipeline.afterTail₀ cfgs (dats m) 0 (V0 m) [hostOps1] c main_v88 = new4 m c 10 := by
  obtain ⟨h0, h1, h2, h3, h4, h5, h6, h7, h8, h9, h10⟩ := cuts4 (left m c)
  exact ⟨(left_eq m c _).trans (h0.trans (stretch4 m c 0)),
    (left_eq m c _).trans (h1.trans (stretch4 m c 1)),
    (left_eq m c _).trans (h2.trans (stretch4 m c 2)),
    (left_eq m c _).trans (h3.trans (stretch4 m c 3)),
    (left_eq m c _).trans (h4.trans (stretch4 m c 4)),
    (left_eq m c _).trans (h5.trans (stretch4 m c 5)),
    (left_eq m c _).trans (h6.trans (stretch4 m c 6)),
    (left_eq m c _).trans (h7.trans (stretch4 m c 7)),
    (left_eq m c _).trans (h8.trans (stretch4 m c 8)),
    (left_eq m c _).trans (h9.trans (stretch4 m c 9)),
    (left_eq m c _).trans (h10.trans (stretch4 m c 10))⟩

theorem results5 (c : Dev nD) :
    Pipeline.afterTail₀ cfgs (dats m) 0 (V0 m) [hostOps1] c main_v110 = new5 m c 0
      ∧ Pipeline.afterTail₀ cfgs (dats m) 0 (V0 m) [hostOps1] c main_v111 = new5 m c 1
      ∧ Pipeline.afterTail₀ cfgs (dats m) 0 (V0 m) [hostOps1] c main_v112 = new5 m c 2
      ∧ Pipeline.afterTail₀ cfgs (dats m) 0 (V0 m) [hostOps1] c main_v113 = new5 m c 3
      ∧ Pipeline.afterTail₀ cfgs (dats m) 0 (V0 m) [hostOps1] c main_v114 = new5 m c 4
      ∧ Pipeline.afterTail₀ cfgs (dats m) 0 (V0 m) [hostOps1] c main_v115 = new5 m c 5
      ∧ Pipeline.afterTail₀ cfgs (dats m) 0 (V0 m) [hostOps1] c main_v116 = new5 m c 6
      ∧ Pipeline.afterTail₀ cfgs (dats m) 0 (V0 m) [hostOps1] c main_v117 = new5 m c 7
      ∧ Pipeline.afterTail₀ cfgs (dats m) 0 (V0 m) [hostOps1] c main_v118 = new5 m c 8
      ∧ Pipeline.afterTail₀ cfgs (dats m) 0 (V0 m) [hostOps1] c main_v119 = new5 m c 9
      ∧ Pipeline.afterTail₀ cfgs (dats m) 0 (V0 m) [hostOps1] c main_v120 = new5 m c 10 := by
  obtain ⟨h0, h1, h2, h3, h4, h5, h6, h7, h8, h9, h10⟩ := cuts5 (left m c)
  exact ⟨(left_eq m c _).trans (h0.trans (stretch5 m c 0)),
    (left_eq m c _).trans (h1.trans (stretch5 m c 1)),
    (left_eq m c _).trans (h2.trans (stretch5 m c 2)),
    (left_eq m c _).trans (h3.trans (stretch5 m c 3)),
    (left_eq m c _).trans (h4.trans (stretch5 m c 4)),
    (left_eq m c _).trans (h5.trans (stretch5 m c 5)),
    (left_eq m c _).trans (h6.trans (stretch5 m c 6)),
    (left_eq m c _).trans (h7.trans (stretch5 m c 7)),
    (left_eq m c _).trans (h8.trans (stretch5 m c 8)),
    (left_eq m c _).trans (h9.trans (stretch5 m c 9)),
    (left_eq m c _).trans (h10.trans (stretch5 m c 10))⟩

theorem results6 (c : Dev nD) :
    Pipeline.afterTail₀ cfgs (dats m) 0 (V0 m) [hostOps1] c main_v142 = new6 m c 0
      ∧ Pipeline.afterTail₀ cfgs (dats m) 0 (V0 m) [hostOps1] c main_v143 = new6 m c 1
      ∧ Pipeline.afterTail₀ cfgs (dats m) 0 (V0 m) [hostOps1] c main_v144 = new6 m c 2
      ∧ Pipeline.afterTail₀ cfgs (dats m) 0 (V0 m) [hostOps1] c main_v145 = new6 m c 3
      ∧ Pipeline.afterTail₀ cfgs (dats m) 0 (V0 m) [hostOps1] c main_v146 = new6 m c 4
      ∧ Pipeline.afterTail₀ cfgs (dats m) 0 (V0 m) [hostOps1] c main_v147 = new6 m c 5
      ∧ Pipeline.afterTail₀ cfgs (dats m) 0 (V0 m) [hostOps1] c main_v148 = new6 m c 6
      ∧ Pipeline.afterTail₀ cfgs (dats m) 0 (V0 m) [hostOps1] c main_v149 = new6 m c 7
      ∧ Pipeline.afterTail₀ cfgs (dats m) 0 (V0 m) [hostOps1] c main_v150 = new6 m c 8
      ∧ Pipeline.afterTail₀ cfgs (dats m) 0 (V0 m) [hostOps1] c main_v151 = new6 m c 9
      ∧ Pipeline.afterTail₀ cfgs (dats m) 0 (V0 m) [hostOps1] c main_v152 = new6 m c 10 := by
  obtain ⟨h0, h1, h2, h3, h4, h5, h6, h7, h8, h9, h10⟩ := cuts6 (left m c)
  exact ⟨(left_eq m c _).trans (h0.trans (stretch6 m c 0)),
    (left_eq m c _).trans (h1.trans (stretch6 m c 1)),
    (left_eq m c _).trans (h2.trans (stretch6 m c 2)),
    (left_eq m c _).trans (h3.trans (stretch6 m c 3)),
    (left_eq m c _).trans (h4.trans (stretch6 m c 4)),
    (left_eq m c _).trans (h5.trans (stretch6 m c 5)),
    (left_eq m c _).trans (h6.trans (stretch6 m c 6)),
    (left_eq m c _).trans (h7.trans (stretch6 m c 7)),
    (left_eq m c _).trans (h8.trans (stretch6 m c 8)),
    (left_eq m c _).trans (h9.trans (stretch6 m c 9)),
    (left_eq m c _).trans (h10.trans (stretch6 m c 10))⟩

end Cert.AdamSmallKernelIdeal.Step

end
-- ==== Proof.AdamSmallValue.lean ====
/-
  The optimiser's step for the eleven small weights: the kernel's thirty-three results are the reference's.

  The reference steps each weight by itself, in its own shape; the kernel steps them all at once in one matrix. Both come to
  the same function of the same four numbers at every index.
-/
module

public import proofs.«01_k».proof.Defs
public import proofs.«01_k».proof.Proof.AdamSmallHost
public import proofs.«01_k».proof.Proof.Gen.AdamSmallReferenceIdeal.Run
public import Idealize.ShloMosaic.Lib.Claim

@[expose] public section

noncomputable section

open Idealize.ShloMosaic Idealize.ShloMosaic.TcCoe Idealize.SL.Sem

namespace Cert.AdamSmallKernelIdeal.Step

open Cert.AdamSmallKernelIdeal Cert.AdamSmallKernelIdeal.Gen Cert.AdamMath Cert.AdamSmallLayout

theorem preserves : Cert.preserves_AdamSmallKernel_AdamSmallKernelIdeal :=
  ⟨IdealRules.named_const.statement Cert.AdamSmallKernelIdeal.κ "inv_c1" .f32 0x3FC48605#32 ((8388608 / 5463681 : ℝ) : EReal) rfl,
    IdealRules.named_const.statement Cert.AdamSmallKernelIdeal.κ "inv_c2" .f32 0x42C8E6D3#32 ((268435456 / 2672307 : ℝ) : EReal) rfl⟩

/-! ## The step on a whole array, in the reference's words -/

/-- The reference's first moment, second moment and update of an array of any shape, each from equal arrays. -/
theorem first_of {s : Shape} {m' g' m g : Vec Ideal s .f32} (em : m' = m) (eg : g' = g) :
    (fun i => moment1 (m' i) (g' i)) = fun i => moment1 (m i) (g i) := by subst em eg; rfl

theorem second_of {s : Shape} {v' g' v g : Vec Ideal s .f32} (ev : v' = v) (eg : g' = g) :
    (fun i => moment2 (v' i) (g' i)) = fun i => moment2 (v i) (g i) := by subst ev eg; rfl

theorem update_of {s : Shape} {w' g' m' v' w g m v : Vec Ideal s .f32} (ew : w' = w) (eg : g' = g) (em : m' = m) (ev : v' = v) :
    (fun i => updateDiv (w' i) (g' i) (m' i) (v' i)) = fun i => updateDiv (w i) (g i) (m i) (v i) := by subst ew eg em ev; rfl

/-! ## The claim -/

set_option maxHeartbeats 4000000 in
theorem algebraic : Cert.algebraic_AdamSmallKernelIdeal_AdamSmallReferenceIdeal := by
  intro m g m' g' _ hargs
  refine ⟨fun c => new4 m c 0, fun c => new4 m c 1, fun c => new4 m c 2, fun c => new4 m c 3, fun c => new4 m c 4, fun c => new4 m c 5, fun c => new4 m c 6, fun c => new4 m c 7, fun c => new4 m c 8, fun c => new4 m c 9, fun c => new4 m c 10,
    fun c => new5 m c 0, fun c => new5 m c 1, fun c => new5 m c 2, fun c => new5 m c 3, fun c => new5 m c 4, fun c => new5 m c 5, fun c => new5 m c 6, fun c => new5 m c 7, fun c => new5 m c 8, fun c => new5 m c 9, fun c => new5 m c 10,
    fun c => new6 m c 0, fun c => new6 m c 1, fun c => new6 m c 2, fun c => new6 m c 3, fun c => new6 m c 4, fun c => new6 m c 5, fun c => new6 m c 6, fun c => new6 m c 7, fun c => new6 m c 8, fun c => new6 m c 9, fun c => new6 m c 10, ?_, ?_⟩
  · refine (θ_run _ _ _).mono (fun r h c => ?_) (θ_run_and (run_main m g) (unchanged m g))
    obtain ⟨a0, a1, a2, a3, a4, a5, a6, a7, a8, a9, a10⟩ := results4 m c
    obtain ⟨b0, b1, b2, b3, b4, b5, b6, b7, b8, b9, b10⟩ := results5 m c
    obtain ⟨c0, c1, c2, c3, c4, c5, c6, c7, c8, c9, c10⟩ := results6 m c
    exact ⟨((h.1 c).2 main_v78 (Pipeline.mem_restRefs_of main_v78 (by decide) (by decide))).trans a0,
      ((h.1 c).2 main_v79 (Pipeline.mem_restRefs_of main_v79 (by decide) (by decide))).trans a1,
      ((h.1 c).2 main_v80 (Pipeline.mem_restRefs_of main_v80 (by decide) (by decide))).trans a2,
      ((h.1 c).2 main_v81 (Pipeline.mem_restRefs_of main_v81 (by decide) (by decide))).trans a3,
      ((h.1 c).2 main_v82 (Pipeline.mem_restRefs_of main_v82 (by decide) (by decide))).trans a4,
      ((h.1 c).2 main_v83 (Pipeline.mem_restRefs_of main_v83 (by decide) (by decide))).trans a5,
      ((h.1 c).2 main_v84 (Pipeline.mem_restRefs_of main_v84 (by decide) (by decide))).trans a6,
      ((h.1 c).2 main_v85 (Pipeline.mem_restRefs_of main_v85 (by decide) (by decide))).trans a7,
      ((h.1 c).2 main_v86 (Pipeline.mem_restRefs_of main_v86 (by decide) (by decide))).trans a8,
      ((h.1 c).2 main_v87 (Pipeline.mem_restRefs_of main_v87 (by decide) (by decide))).trans a9,
      ((h.1 c).2 main_v88 (Pipeline.mem_restRefs_of main_v88 (by decide) (by decide))).trans a10,
      ((h.1 c).2 main_v110 (Pipeline.mem_restRefs_of main_v110 (by decide) (by decide))).trans b0,
      ((h.1 c).2 main_v111 (Pipeline.mem_restRefs_of main_v111 (by decide) (by decide))).trans b1,
      ((h.1 c).2 main_v112 (Pipeline.mem_restRefs_of main_v112 (by decide) (by decide))).trans b2,
      ((h.1 c).2 main_v113 (Pipeline.mem_restRefs_of main_v113 (by decide) (by decide))).trans b3,
      ((h.1 c).2 main_v114 (Pipeline.mem_restRefs_of main_v114 (by decide) (by decide))).trans b4,
      ((h.1 c).2 main_v115 (Pipeline.mem_restRefs_of main_v115 (by decide) (by decide))).trans b5,
      ((h.1 c).2 main_v116 (Pipeline.mem_restRefs_of main_v116 (by decide) (by decide))).trans b6,
      ((h.1 c).2 main_v117 (Pipeline.mem_restRefs_of main_v117 (by decide) (by decide))).trans b7,
      ((h.1 c).2 main_v118 (Pipeline.mem_restRefs_of main_v118 (by decide) (by decide))).trans b8,
      ((h.1 c).2 main_v119 (Pipeline.mem_restRefs_of main_v119 (by decide) (by decide))).trans b9,
      ((h.1 c).2 main_v120 (Pipeline.mem_restRefs_of main_v120 (by decide) (by decide))).trans b10,
      ((h.1 c).2 main_v142 (Pipeline.mem_restRefs_of main_v142 (by decide) (by decide))).trans c0,
      ((h.1 c).2 main_v143 (Pipeline.mem_restRefs_of main_v143 (by decide) (by decide))).trans c1,
      ((h.1 c).2 main_v144 (Pipeline.mem_restRefs_of main_v144 (by decide) (by decide))).trans c2,
      ((h.1 c).2 main_v145 (Pipeline.mem_restRefs_of main_v145 (by decide) (by decide))).trans c3,
      ((h.1 c).2 main_v146 (Pipeline.mem_restRefs_of main_v146 (by decide) (by decide))).trans c4,
      ((h.1 c).2 main_v147 (Pipeline.mem_restRefs_of main_v147 (by decide) (by decide))).trans c5,
      ((h.1 c).2 main_v148 (Pipeline.mem_restRefs_of main_v148 (by decide) (by decide))).trans c6,
      ((h.1 c).2 main_v149 (Pipeline.mem_restRefs_of main_v149 (by decide) (by decide))).trans c7,
      ((h.1 c).2 main_v150 (Pipeline.mem_restRefs_of main_v150 (by decide) (by decide))).trans c8,
      ((h.1 c).2 main_v151 (Pipeline.mem_restRefs_of main_v151 (by decide) (by decide))).trans c9,
      ((h.1 c).2 main_v152 (Pipeline.mem_restRefs_of main_v152 (by decide) (by decide))).trans c10, h.2 c⟩
  · refine (θ_run _ _ _).mono (fun r h c => ?_) (Cert.AdamSmallReferenceIdeal.Value.run m' g')
    obtain ⟨h0, h1, h2, h3, h4, h5, h6, h7, h8, h9, h10, h11, h12, h13, h14, h15, h16, h17, h18, h19, h20, h21, h22, h23, h24, h25, h26, h27, h28, h29, h30, h31, h32, hr⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hargs c
    exact ⟨h0.trans (update_of e0 e11 e22 e33), h1.trans (update_of e1 e12 e23 e34), h2.trans (update_of e2 e13 e24 e35),
      h3.trans (update_of e3 e14 e25 e36), h4.trans (update_of e4 e15 e26 e37), h5.trans (update_of e5 e16 e27 e38),
      h6.trans (update_of e6 e17 e28 e39), h7.trans (update_of e7 e18 e29 e40), h8.trans (update_of e8 e19 e30 e41),
      h9.trans (update_of e9 e20 e31 e42), h10.trans (update_of e10 e21 e32 e43), h11.trans (first_of e22 e11),
      h12.trans (first_of e23 e12), h13.trans (first_of e24 e13), h14.trans (first_of e25 e14),
      h15.trans (first_of e26 e15), h16.trans (first_of e27 e16), h17.trans (first_of e28 e17),
      h18.trans (first_of e29 e18), h19.trans (first_of e30 e19), h20.trans (first_of e31 e20),
      h21.trans (first_of e32 e21), h22.trans (second_of e33 e11), h23.trans (second_of e34 e12),
      h24.trans (second_of e35 e13), h25.trans (second_of e36 e14), h26.trans (second_of e37 e15),
      h27.trans (second_of e38 e16), h28.trans (second_of e39 e17), h29.trans (second_of e40 e18),
      h30.trans (second_of e41 e19), h31.trans (second_of e42 e20), h32.trans (second_of e43 e21), hr⟩

end Cert.AdamSmallKernelIdeal.Step

end
-- ==== Proof.SumRows.lean ====
/-
  Eight rows of a table loaded one by one and added.
-/
module

public import Idealize.ShloMosaic.PureOps
public import Idealize.ShloMosaic.PureOps.Ideal
public import Idealize.ShloMosaic.Lib.Pipeline.Value
public import Idealize.ShloMosaic.Lib.Pipeline.ValueKit.Geometry
public import Idealize.ShloMosaic.Lib.Pipeline.ValueKit.Tiles
public import Idealize.ShloMosaic.Lib.KernelVsHost
public import Idealize.ShloMosaic.Lib.Pointwise.Index

@[expose] public section

noncomputable section

namespace Cert.SumRows

open Idealize.ShloMosaic

/-- `a` rows of `n` numbers. -/
abbrev grid (a n : ℕ) : Shape := ⟨2, ![a, n]⟩

variable {n : ℕ}

/-- The eight rows added. -/
def tot (A : Vec Ideal (grid 8 n) .f32) : Vec Ideal (grid 1 n) .f32 :=
  fun y => ∑ s : Fin 8, A (ix2 s (y 1))

/-- Where row `s` lies. -/
abbrev Lies (n s : ℕ) : Prop := ∀ a, (![s, 0] : Fin 2 → Nat) a + (grid 1 n).size a ≤ (grid 8 n).size a

/-- Row `s`, loaded. -/
abbrev row (x : Vec Ideal (grid 8 n) .f32) (s : ℕ) (h : Lies n s) : Vec Ideal (grid 1 n) .f32 :=
  View.ld x (Rect.unit (s := grid 8 n) ![s, 0] (grid 1 n).size h)

/-- A load of row `s`, read at an index. -/
theorem row_apply (x : Vec Ideal (grid 8 n) .f32) (s : Fin 8) (h : Lies n s.val) (y : (grid 1 n).Idx) :
    row x s.val h y = x (ix2 s (y 1)) :=
  View.ld_unit_apply_of x _ _ h y (ix2 s (y 1)) fun a => by
    match a with
    | ⟨0, _⟩ => have h0 : (y 0).val < 1 := (y 0).isLt; show s.val = s.val + (y 0).val; omega
    | ⟨1, _⟩ => show (y 1).val = 0 + (y 1).val; omega

/-- The eight loads added one after the other are the eight rows added. -/
theorem rows_added (x : Vec Ideal (grid 8 n) .f32) (h0 : Lies n 0) (h1 : Lies n 1) (h2 : Lies n 2) (h3 : Lies n 3) (h4 : Lies n 4)
    (h5 : Lies n 5) (h6 : Lies n 6) (h7 : Lies n 7) (y : (grid 1 n).Idx) :
    (row x 0 h0 y + row x 1 h1 y + row x 2 h2 y + row x 3 h3 y + row x 4 h4 y + row x 5 h5 y + row x 6 h6 y + row x 7 h7 y : EReal)
      = tot x y := by
  unfold tot
  rw [Fin.sum_univ_eight]
  exact congrArg₂ (· + ·) (congrArg₂ (· + ·) (congrArg₂ (· + ·) (congrArg₂ (· + ·) (congrArg₂ (· + ·) (congrArg₂ (· + ·)
    (congrArg₂ (· + ·) (row_apply x 0 h0 y) (row_apply x 1 h1 y)) (row_apply x 2 h2 y)) (row_apply x 3 h3 y)) (row_apply x 4 h4 y))
    (row_apply x 5 h5 y)) (row_apply x 6 h6 y)) (row_apply x 7 h7 y)

end Cert.SumRows

end
-- ==== Proof.SumSmallLayout.lean ====
/-
  Eight devices' parts of twelve small arrays laid out in eight rows, added, and read back.

  Each device's twelve parts are joined end to end in one row of 45704 numbers, padded to 45824; the eight rows are added to
  one, and the twelve sums are cut out of it. Here: element `i` of array `k` lies in every row at place `off k` plus the
  number of `i` in row-major order, so what is cut out of the added row is, index by index, the sum of the eight parts.
-/
module

public import proofs.«01_k».proof.Proof.SumRows
public import Idealize.ShloMosaic.PureOps
public import Idealize.ShloMosaic.PureOps.Ideal
public import Idealize.ShloMosaic.Lib.Pipeline.Value
public import Idealize.ShloMosaic.Lib.KernelVsHost
public import Idealize.ShloMosaic.Lib.Pointwise.Index
public import Idealize.ShloMosaic.Lib.Pointwise.Reshape

@[expose] public section

noncomputable section

namespace Cert.SumSmallLayout

open Idealize.ShloMosaic Cert.SumRows

/-! ## The twelve shapes, and where each begins -/

/-- The shape of each array. -/
abbrev shp : Fin 12 → Shape
  | 0 => ⟨2, ![2, 9216]⟩
  | 1 => ⟨1, ![9216]⟩
  | 2 => ⟨3, ![2, 3, 1024]⟩
  | 3 => ⟨1, ![1024]⟩
  | 4 => ⟨1, ![1024]⟩
  | 5 => ⟨1, ![256]⟩
  | 6 => ⟨1, ![256]⟩
  | 7 => ⟨1, ![8]⟩
  | 8 => ⟨1, ![128]⟩
  | 9 => ⟨2, ![16, 256]⟩
  | 10 => ⟨2, ![16, 256]⟩
  | 11 => ⟨2, ![1, 1024]⟩

/-- The shape of its eight parts together. -/
abbrev sh8 : Fin 12 → Shape
  | 0 => ⟨3, ![8, 2, 9216]⟩
  | 1 => ⟨2, ![8, 9216]⟩
  | 2 => ⟨4, ![8, 2, 3, 1024]⟩
  | 3 => ⟨2, ![8, 1024]⟩
  | 4 => ⟨2, ![8, 1024]⟩
  | 5 => ⟨2, ![8, 256]⟩
  | 6 => ⟨2, ![8, 256]⟩
  | 7 => ⟨2, ![8, 8]⟩
  | 8 => ⟨2, ![8, 128]⟩
  | 9 => ⟨3, ![8, 16, 256]⟩
  | 10 => ⟨3, ![8, 16, 256]⟩
  | 11 => ⟨3, ![8, 1, 1024]⟩

/-- How many numbers one part holds. -/
abbrev len : Fin 12 → ℕ
  | 0 => 18432 | 1 => 9216 | 2 => 6144 | 3 => 1024 | 4 => 1024 | 5 => 256 | 6 => 256 | 7 => 8 | 8 => 128 | 9 => 4096 | 10 => 4096
  | 11 => 1024

/-- How many lie before it in a row. -/
abbrev off : Fin 12 → ℕ
  | 0 => 0 | 1 => 18432 | 2 => 27648 | 3 => 33792 | 4 => 34816 | 5 => 35840 | 6 => 36096 | 7 => 36352 | 8 => 36360 | 9 => 36488
  | 10 => 40584 | 11 => 44680

theorem grid_numel (a n : ℕ) : (grid a n).numel = a * n := by simp [Shape.numel]

theorem casts (k : Fin 12) : (sh8 k).ShapeCasts (grid 8 (len k)) := by
  revert k; decide

theorem casts_one (k : Fin 12) : (grid 1 (len k)).ShapeCasts (shp k) := by
  revert k; decide

theorem ends_by (k : Fin 12) : off k + len k ≤ 45704 := by
  revert k; decide

/-- The number of an index among its array's is below the array's length. -/
theorem number_lt (k : Fin 12) (i : (shp k).Idx) : ((shp k).rowMajor i).val < len k :=
  lt_of_lt_of_eq ((shp k).rowMajor i).isLt ((casts_one k).trans ((grid_numel _ _).trans (Nat.one_mul _)))

theorem place_lt (k : Fin 12) (i : (shp k).Idx) : off k + ((shp k).rowMajor i).val < 45704 :=
  lt_of_lt_of_le (Nat.add_lt_add_left (number_lt k i) _) (ends_by k)

/-! ## The rows -/

/-- The eight parts of array `k`, one to a row. -/
def piece (xs : (k : Fin 12) → Vec Ideal (sh8 k) .f32) (k : Fin 12) : (s : Shape) × Vec Ideal s .f32 :=
  ⟨grid 8 (len k), shapeCast (grid 8 (len k)) (xs k) (casts k)⟩

/-- The twelve, in order. -/
abbrev pieces (xs : (k : Fin 12) → Vec Ideal (sh8 k) .f32) : List ((s : Shape) × Vec Ideal s .f32) :=
  [piece xs 0, piece xs 1, piece xs 2, piece xs 3, piece xs 4, piece xs 5, piece xs 6, piece xs 7, piece xs 8, piece xs 9,
    piece xs 10, piece xs 11]

theorem joins (xs : (k : Fin 12) → Vec Ideal (sh8 k) .f32) :
    Shape.Concatenates ((pieces xs).map (·.1)) (grid 8 45704) 1 := by
  show Shape.Concatenates [grid 8 18432, grid 8 9216, grid 8 6144, grid 8 1024, grid 8 1024, grid 8 256, grid 8 256, grid 8 8,
    grid 8 128, grid 8 4096, grid 8 4096, grid 8 1024] (grid 8 45704) 1
  decide

/-- The lengths before array `k` add up to its offset. -/
theorem before (k : Fin 12) : ((([grid 8 18432, grid 8 9216, grid 8 6144, grid 8 1024, grid 8 1024, grid 8 256, grid 8 256, grid 8 8,
    grid 8 128, grid 8 4096, grid 8 4096, grid 8 1024] : List Shape).take k.val).map
      fun s => if h : s.rank = (grid 8 45704).rank then s.size ((1 : Fin 2).cast h.symm) else 0).sum = off k := by
  revert k; decide

/-- The eight rows of all their numbers. -/
def rows (xs : (k : Fin 12) → Vec Ideal (sh8 k) .f32) : Vec Ideal (grid 8 45704) .f32 :=
  concatenate (grid 8 45704) 1 (pieces xs) (joins xs)

/-- Element `i` of device `s`'s part of array `k` lies in row `s` at its place; `j` is that element's index among the eight parts. -/
theorem rows_at (xs : (k : Fin 12) → Vec Ideal (sh8 k) .f32) (k : Fin 12) (i : (shp k).Idx) (s : Fin 8) (j : (sh8 k).Idx)
    (hj : ((sh8 k).rowMajor j).val = s.val * len k + ((shp k).rowMajor i).val) :
    rows xs (ix2 s ⟨off k + ((shp k).rowMajor i).val, place_lt k i⟩) = xs k j := by
  have hk : k.val < (pieces xs).length := k.isLt
  have hget : (pieces xs)[k.val] = ⟨grid 8 (len k), shapeCast (grid 8 (len k)) (xs k) (casts k)⟩ := by
    fin_cases k <;> rfl
  have hpre : ((((pieces xs).take k.val).map (·.1)).map fun s => if h : s.rank = (grid 8 45704).rank then s.size ((1 : Fin 2).cast h.symm) else 0).sum = off k := by
    rw [List.map_take]
    exact before k
  refine (concatenate_apply_piece (t := grid 8 45704) (1 : Fin 2) (pieces xs) (joins xs) _ k.val hk _ _ hget rfl (off k) hpre
    (ix2 s ⟨((shp k).rowMajor i).val, number_lt k i⟩) (fun b hb => ?_) rfl).trans ?_
  · match b, hb with
    | ⟨0, _⟩, _ => rfl
    | ⟨1, _⟩, hb => exact absurd rfl hb
  · exact shapeCast_apply _ _ _ _ (by rw [Shape.rowMajor_val_two]; exact hj)

/-- The rows, padded. -/
def laid (y : Vec Ideal (grid 8 45704) .f32) (h₁ : (grid 8 45704).Pads ![0, 0] ![0, 120] ![0, 0] (grid 8 45824))
    (h₂ : (grid 8 45824).BroadcastsInDim ⟨3, ![8, 1, 45824]⟩ ![0, 2]) (h₃ : Shape.ShapeCasts ⟨3, ![8, 1, 45824]⟩ (grid 8 45824))
    (z : Vec Ideal ⟨0, ![]⟩ .f32) (hz : 0 < Shape.numel ⟨0, ![]⟩) : Vec Ideal (grid 8 45824) .f32 :=
  shapeCast (grid 8 45824) (broadcastInDim ⟨3, ![8, 1, 45824]⟩ ![0, 2] h₂ (pad (grid 8 45824) ![0, 0] ![0, 120] ![0, 0] y z h₁ hz)) h₃

theorem laid_at (y : Vec Ideal (grid 8 45704) .f32) (h₁ : (grid 8 45704).Pads ![0, 0] ![0, 120] ![0, 0] (grid 8 45824))
    (h₂ : (grid 8 45824).BroadcastsInDim ⟨3, ![8, 1, 45824]⟩ ![0, 2]) (h₃ : Shape.ShapeCasts ⟨3, ![8, 1, 45824]⟩ (grid 8 45824))
    (z : Vec Ideal ⟨0, ![]⟩ .f32) (hz : 0 < Shape.numel ⟨0, ![]⟩) (s : Fin 8) (f : ℕ) (hf : f < 45704) :
    laid y h₁ h₂ h₃ z hz (ix2 s ⟨f, by omega⟩) = y (ix2 s ⟨f, hf⟩) := by
  unfold laid
  rw [shapeCast_apply _ h₃ _ (ix3 s (0 : Fin 1) (⟨f, by omega⟩ : Fin 45824))
    (by rw [Shape.rowMajor_val_two, Shape.rowMajor_val_three]
        show (s.val * 1 + 0) * 45824 + f = s.val * 45824 + f; omega)]
  rw [broadcastInDim_apply _ h₂ _ _ (ix2 s (⟨f, by omega⟩ : Fin 45824))
    (fun a => by match a with
      | ⟨0, _⟩ => show s.val = if (8 : ℕ) = 1 then 0 else s.val; rw [if_neg (by norm_num)]
      | ⟨1, _⟩ => show f = if (45824 : ℕ) = 1 then 0 else f; rw [if_neg (by norm_num)])]
  exact pad_apply_of_inside _ _ _ _ _ h₁ hz _ _
    (fun a => by match a with
      | ⟨0, _⟩ => show s.val = 0 + s.val * (0 + 1); omega
      | ⟨1, _⟩ => show f = 0 + f * (0 + 1); omega)

/-! ## An array cut out of their sum -/

/-- Array `k` cut out of a row. -/
def cut (A : Vec Ideal (grid 1 45824) .f32) (k : Fin 12) : Vec Ideal (shp k) .f32 :=
  fun i => A (ix2 (0 : Fin 1) ⟨off k + ((shp k).rowMajor i).val, lt_trans (place_lt k i) (by norm_num)⟩)

/-- Cut out and brought to its shape. -/
theorem cut_once (A : Vec Ideal (grid 1 45824) .f32) (k : Fin 12)
    (h₂ : Shape.Slices (grid 1 45824) ![0, off k] (grid 1 (len k))) (h₃ : Shape.ShapeCasts (grid 1 (len k)) (shp k)) :
    shapeCast (shp k) (extractStridedSlice (grid 1 (len k)) ![0, off k] A h₂) h₃ = cut A k := by
  funext i
  have hn := number_lt k i
  rw [shapeCast_apply _ h₃ i (ix2 (0 : Fin 1) (⟨((shp k).rowMajor i).val, hn⟩ : Fin (len k)))
    (by rw [Shape.rowMajor_val_two]; show 0 * len k + ((shp k).rowMajor i).val = _; omega)]
  exact extractStridedSlice_apply _ _ h₂ _ _
    (fun a => by match a with
      | ⟨0, _⟩ => rfl
      | ⟨1, _⟩ => rfl)

/-- Cut out and brought to its shape by way of another. -/
theorem cut_twice (A : Vec Ideal (grid 1 45824) .f32) (k : Fin 12) {u : Shape}
    (h₂ : Shape.Slices (grid 1 45824) ![0, off k] (grid 1 (len k))) (h₃ : Shape.ShapeCasts (grid 1 (len k)) u)
    (h₄ : u.ShapeCasts (shp k)) :
    shapeCast (shp k) (shapeCast u (extractStridedSlice (grid 1 (len k)) ![0, off k] A h₂) h₃) h₄ = cut A k := by
  rw [shapeCast_comp]
  exact cut_once A k h₂ _

/-- What is cut out of the added rows is the sum of the eight parts. -/
theorem cut_tot (xs : (k : Fin 12) → Vec Ideal (sh8 k) .f32) (h₁ : (grid 8 45704).Pads ![0, 0] ![0, 120] ![0, 0] (grid 8 45824))
    (h₂ : (grid 8 45824).BroadcastsInDim ⟨3, ![8, 1, 45824]⟩ ![0, 2]) (h₃ : Shape.ShapeCasts ⟨3, ![8, 1, 45824]⟩ (grid 8 45824))
    (z : Vec Ideal ⟨0, ![]⟩ .f32) (hz : 0 < Shape.numel ⟨0, ![]⟩) (k : Fin 12) (i : (shp k).Idx) (j : Fin 8 → (sh8 k).Idx)
    (hj : ∀ s : Fin 8, ((sh8 k).rowMajor (j s)).val = s.val * len k + ((shp k).rowMajor i).val) :
    cut (tot (laid (rows xs) h₁ h₂ h₃ z hz)) k i = ∑ s : Fin 8, xs k (j s) := by
  unfold cut tot
  refine Finset.sum_congr rfl fun s _ => ?_
  exact (laid_at (rows xs) h₁ h₂ h₃ z hz s _ (place_lt k i)).trans (rows_at xs k i s (j s) (hj s))

end Cert.SumSmallLayout

end
-- ==== Proof.SumSmallRegion.lean ====
/-
  The sum of the eight devices' small parts: what the kernel's region leaves, and how the host lines lay its operand out.

  The kernel loads its operand's eight rows one by one and adds them.
-/
module

public import proofs.«01_k».proof.Proof.SumSmallLayout
public import proofs.«01_k».proof.Proof.Gen.SumSmallKernelIdeal.Frame
public import Idealize.ShloMosaic.Lib.Pipeline.ValueKit.Geometry
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.SumSmallKernelIdeal.Total

open Cert.SumSmallKernelIdeal Cert.SumSmallKernelIdeal.Gen Cert.SumSmallLayout Cert.SumRows

theorem off0 : (![0, 0] : Fin 2 → Nat) = fun _ => 0 := funext fun a => by fin_cases a <;> rfl

/-! ## What the kernel computes -/

/-- Eight rows added one after the other, read at an index. -/
theorem add_apply (a b c d e f g h : Vec Ideal S1x45824 .f32) (y : S1x45824.Idx) :
    k0_pay1 (F := Ideal) a b c d e f g h y = a y + b y + c y + d y + e y + f y + g y + h y := by
  unfold k0_pay1
  simp only [shapeCast_id]
  rfl

theorem out_apply (x : Vec Ideal S8x45824 .f32) (y : S1x45824.Idx) : out0_1 (F := Ideal) x y = tot x y := by
  unfold out0_1
  rw [View.canon_unit_zero (S := S1x45824) off0]
  exact (add_apply _ _ _ _ _ _ _ _ y).trans (rows_added x _ _ _ _ _ _ _ _ y)

/-! ## The row it leaves -/

variable (m : (ℓ : Loc nD τ sig) → Buf (Elt Ideal) ℓ) (ρ : Dev nD → PrngReg)

/-- The eight rows as the region finds them. -/
abbrev opnd (c : Dev nD) : Vec Ideal S8x45824 .f32 := V m c main_v8

theorem ix_in : ∀ t : Fin cfg0.N, win0_0.index t (0 : Fin 2) = 0 ∧ win0_0.index t (1 : Fin 2) = 0 :=
  (by decide +kernel : ∀ t : Fin grid0.N, _)
theorem ix_out : ∀ t : Fin cfg0.N, win0_1.index t (0 : Fin 2) = 0 ∧ win0_1.index t (1 : Fin 2) = 0 :=
  (by decide +kernel : ∀ t : Fin grid0.N, _)

/-- The block that the one grid point is given is the whole operand, -/
theorem block_in (c : Dev nD) (t : Fin cfg0.N) : iblk m c 0 t = opnd m c := by
  funext i
  unfold iblk
  rw [View.read_apply]
  show opnd m c _ = opnd m c _
  generalize opnd m c = f
  congr 1
  obtain ⟨e0, e1⟩ := ix_in t
  funext d
  apply Fin.ext
  match d with
  | ⟨0, _⟩ => show win0_0.index t (0 : Fin 2) * 8 + 1 * (i 0).val = (i 0).val; rw [e0]; omega
  | ⟨1, _⟩ => show win0_0.index t (1 : Fin 2) * 45824 + 1 * (i 1).val = (i 1).val; rw [e1]; omega

/-- and the block it leaves is the whole row. -/
theorem block_out (R : Vec Ideal S1x45824 .f32) (t : Fin cfg0.N) (y : S1x45824.Idx) :
    ((cfg0.win 1).blk t).view.read (Elt Ideal) R y = R y := by
  rw [View.read_apply]
  show R _ = R _
  congr 1
  obtain ⟨e0, e1⟩ := ix_out t
  funext d
  apply Fin.ext
  match d with
  | ⟨0, _⟩ => show win0_1.index t (0 : Fin 2) * 1 + 1 * (y 0).val = (y 0).val; rw [e0]; omega
  | ⟨1, _⟩ => show win0_1.index t (1 : Fin 2) * 45824 + 1 * (y 1).val = (y 1).val; rw [e1]; omega

theorem flushed_eq (c : Dev nD) (t : Fin cfg0.N) :
    (dats m 0 c).flushed 1 t = ((cfg0.win 1).blk t).view.read (Elt Ideal) (tot (opnd m c)) := by
  show (cfg0.win 1).cut (grid0.coords t) ((dats m 0 c).after 1 t) = _
  rw [after0_1]
  funext y
  show out0_1 (F := Ideal) (iblk m c 0 t) y = _
  rw [out_apply, block_in]
  exact (block_out (tot (opnd m c)) t y).symm

/-- The one grid point's block is the whole row. -/
theorem onto : ∃ t : Fin cfg0.N, (cfg0.win 1).flush t = true ∧ win0_1.index t = ![0, 0] :=
  (by decide +kernel : ∃ t : Fin grid0.N, win0_1.flush t = true ∧ win0_1.index t = ![0, 0])

theorem within (i : S1x45824.Idx) (n : Fin 2 → ℕ) (h : n = ![0, 0]) :
    ∀ a : Fin 2, n a * S1x45824.size a ≤ (i a).val ∧ (i a).val < n a * S1x45824.size a + S1x45824.size a := by
  subst h
  have h0 : (i 0).val < 1 := (i 0).isLt
  have h1 : (i 1).val < 45824 := (i 1).isLt
  intro a
  match a with
  | ⟨0, _⟩ => show 0 * 1 ≤ (i 0).val ∧ (i 0).val < 0 * 1 + 1; omega
  | ⟨1, _⟩ => show 0 * 45824 ≤ (i 1).val ∧ (i 1).val < 0 * 45824 + 45824; omega

theorem covered (i : S1x45824.Idx) : ∃ t : Fin cfg0.N, (cfg0.win 1).flush t = true ∧ i ∈ ((cfg0.win 1).blk t).view.set := by
  obtain ⟨t, hf, ht⟩ := onto
  refine ⟨t, hf, ?_⟩
  show i ∈ ((View.whole main_v9).slice (win0_1.rect t)).set
  rw [View.set_slice_whole, Rect.mem_set_unit]
  exact within i _ ht

theorem final (c : Dev nD) : (dats m 0 c).arrAt 1 cfg0.N = tot (opnd m c) :=
  (dats m 0 c).arrAt_eq_of_cover 1 _ (fun t _ => flushed_eq m c t) covered

/-! ## The host lines before it -/

/-- The twelve arguments: the eight devices' parts of each array. -/
def parts (c : Dev nD) : (k : Fin 12) → Vec Ideal (sh8 k) .f32
  | 0 => m ((c : Thread nD τ).loc main_arg0) | 1 => m ((c : Thread nD τ).loc main_arg1)
  | 2 => m ((c : Thread nD τ).loc main_arg2) | 3 => m ((c : Thread nD τ).loc main_arg3)
  | 4 => m ((c : Thread nD τ).loc main_arg4) | 5 => m ((c : Thread nD τ).loc main_arg5)
  | 6 => m ((c : Thread nD τ).loc main_arg6) | 7 => m ((c : Thread nD τ).loc main_arg7)
  | 8 => m ((c : Thread nD τ).loc main_arg8) | 9 => m ((c : Thread nD τ).loc main_arg9)
  | 10 => m ((c : Thread nD τ).loc main_arg10) | 11 => m ((c : Thread nD τ).loc main_arg11)

/-- Twelve arrays' parts as the host lays them out. -/
def packed (xs : (k : Fin 12) → Vec Ideal (sh8 k) .f32) : Vec Ideal S8x45824 .f32 :=
  laid (rows xs) pads_S8x45704_S8x45824_000_01200 bcast_S8x45824_S8x1x45824_0_2 shapeCasts_S8x1x45824_S8x45824
    (sitofp .f32 (constantI S_ 32 0#32) : FVec Ideal S_ .f32) h_S_

/-- The joined rows, from the twelve arrays one by one. -/
theorem rows_eq (xs : (k : Fin 12) → Vec Ideal (sh8 k) .f32) :
    rows xs = concatenate S8x45704 1 [⟨S8x18432, shapeCast S8x18432 (xs 0) shapeCasts_S8x2x9216_S8x18432⟩, ⟨S8x9216, xs 1⟩,
      ⟨S8x6144, shapeCast S8x6144 (xs 2) shapeCasts_S8x2x3x1024_S8x6144⟩, ⟨S8x1024, xs 3⟩, ⟨S8x1024, xs 4⟩, ⟨S8x256, xs 5⟩,
      ⟨S8x256, xs 6⟩, ⟨S8x8, xs 7⟩, ⟨S8x128, xs 8⟩, ⟨S8x4096, shapeCast S8x4096 (xs 9) shapeCasts_S8x16x256_S8x4096⟩,
      ⟨S8x4096, shapeCast S8x4096 (xs 10) shapeCasts_S8x16x256_S8x4096⟩,
      ⟨S8x1024, shapeCast S8x1024 (xs 11) shapeCasts_S8x1x1024_S8x1024⟩]
      concatenates_S8x18432_S8x9216_S8x6144_S8x1024_S8x1024_S8x256_S8x256_S8x8_S8x128_S8x4096_S8x4096_S8x1024_S8x45704_d1 := by
  have h1 : piece xs 1 = ⟨S8x9216, xs 1⟩ := congrArg (Sigma.mk S8x9216) (shapeCast_id (s := S8x9216) (xs 1) (casts 1))
  have h3 : piece xs 3 = ⟨S8x1024, xs 3⟩ := congrArg (Sigma.mk S8x1024) (shapeCast_id (s := S8x1024) (xs 3) (casts 3))
  have h4 : piece xs 4 = ⟨S8x1024, xs 4⟩ := congrArg (Sigma.mk S8x1024) (shapeCast_id (s := S8x1024) (xs 4) (casts 4))
  have h5 : piece xs 5 = ⟨S8x256, xs 5⟩ := congrArg (Sigma.mk S8x256) (shapeCast_id (s := S8x256) (xs 5) (casts 5))
  have h6 : piece xs 6 = ⟨S8x256, xs 6⟩ := congrArg (Sigma.mk S8x256) (shapeCast_id (s := S8x256) (xs 6) (casts 6))
  have h7 : piece xs 7 = ⟨S8x8, xs 7⟩ := congrArg (Sigma.mk S8x8) (shapeCast_id (s := S8x8) (xs 7) (casts 7))
  have h8 : piece xs 8 = ⟨S8x128, xs 8⟩ := congrArg (Sigma.mk S8x128) (shapeCast_id (s := S8x128) (xs 8) (casts 8))
  unfold rows
  congr 1
  show [_, piece xs 1, _, piece xs 3, piece xs 4, piece xs 5, piece xs 6, piece xs 7, piece xs 8, _, _, _] = _
  rw [h1, h3, h4, h5, h6, h7, h8]
  rfl

end Cert.SumSmallKernelIdeal.Total

end
-- ==== Proof.SumSmallHost.lean ====
/-
  The sum of the eight devices' small parts: the host lines round the kernel.

  The lines before it lay each device's twelve parts in one row; the lines after it cut the added row into the twelve
  sums, add up the last of them to the loss, and add the second to the first layer of the first.
-/
module

public import proofs.«01_k».proof.Proof.SumSmallRegion
public import Idealize.ShloMosaic.Lib.StableHlo.RunRead
public import Idealize.ShloMosaic.Lib.Tactic

@[expose] public section

noncomputable section

open Idealize.ShloMosaic Idealize.ShloMosaic.TcCoe Idealize.SL.Sem

namespace Cert.SumSmallKernelIdeal.Total

open Cert.SumSmallKernelIdeal Cert.SumSmallKernelIdeal.Gen Cert.SumSmallLayout Cert.SumRows

variable (m : (ℓ : Loc nD τ sig) → Buf (Elt Ideal) ℓ) (ρ : Dev nD → PrngReg)

/-! ## Before the kernel: its operand is the parts, laid out -/

set_option maxHeartbeats 4000000 in
theorem V_in (c : Dev nD) : opnd m c = packed (parts m c) := by
  unfold packed
  rw [rows_eq]
  show V m c main_v8 = _
  unfold V V0
  simp only [List.flatten_cons, List.flatten_nil, List.append_nil, List.cons_append, List.nil_append, hostOps0, hostOps0_1,
    hostOps0_2, StableHlo.TRef.unary, StableHlo.TRef.binary, StableHlo.TRef.toBuf, StableHlo.TRef.ofBuf, cast_eq]
  after_reads_simp
  rfl

/-! ## After it: the twelve sums are stretches of the added row -/

/-- The bias's gradient from the first two sums: the second is added to the first's first layer. -/
def biasOf (a : FVec Ideal S2x9216 .f32) (b : FVec Ideal S9216 .f32) : FVec Ideal S2x9216 .f32 :=
  addf a (concatenate S2x9216 0 [⟨S1x9216, broadcastInDim S1x9216 ![1] bcast_S9216_S1x9216_1 b⟩,
    ⟨S1x9216, broadcastInDim S1x9216 ![1] bcast_S9216_S1x9216_1 (broadcastInDim S9216 ![] bcast_S_S9216 (constant S_ .f32 0x00000000#32))⟩]
    concatenates_S1x9216_S1x9216_S2x9216_d0)

/-- The loss from the last sum. -/
def lossOf (a : FVec Ideal S1x1024 .f32) : FVec Ideal S_ .f32 :=
  Host.reduceAdd a (constant S_ .f32 0x00000000#32) reducesTo_S1x1024_S_d0_1 h_S_

/-- Host lines in two stretches. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => exact ih _

/-- The last six lines make the bias's gradient from the first two sums. -/
theorem bias_lines (W : Valuation τ sig (Elt Ideal)) :
    StableHlo.after (List.drop 31 hostOps1) W (Proc.devRef .tc main_v44)
      = biasOf (W (Proc.devRef .tc main_v27)) (W (Proc.devRef .tc main_v28)) := by
  simp only [hostOps1, List.drop_succ_cons, List.drop_zero]
  after_reads_simp
  rfl

theorem cut_first (U : Valuation τ sig (Elt Ideal)) :
    StableHlo.after (List.take 31 hostOps1) U (Proc.devRef .tc main_v27) = cut (U (Proc.devRef .tc main_v9) : Vec Ideal S1x45824 .f32) 0 := by
  simp only [hostOps1, List.take_succ_cons, List.take_zero]
  after_reads_simp
  exact cut_twice _ 0 _ _ _

theorem cut_second (U : Valuation τ sig (Elt Ideal)) :
    StableHlo.after (List.take 31 hostOps1) U (Proc.devRef .tc main_v28) = cut (U (Proc.devRef .tc main_v9) : Vec Ideal S1x45824 .f32) 1 := by
  simp only [hostOps1, List.take_succ_cons, List.take_zero]
  after_reads_simp
  exact cut_once _ 1 _ _

theorem cut_bias (U : Valuation τ sig (Elt Ideal)) :
    StableHlo.after hostOps1 U (Proc.devRef .tc main_v44) = biasOf (cut (U (Proc.devRef .tc main_v9) : Vec Ideal S1x45824 .f32) 0) (cut (U (Proc.devRef .tc main_v9) : Vec Ideal S1x45824 .f32) 1) := by
  rw [← List.take_append_drop 31 (hostOps1 (F := Ideal)), after_two, bias_lines]
  exact congrArg₂ biasOf (cut_first U) (cut_second U)

/-- What the last lines leave, from the row that the kernel left. -/
theorem cuts (U : Valuation τ sig (Elt Ideal)) :
    StableHlo.after hostOps1 U (Proc.devRef .tc main_v39) = lossOf (cut (U (Proc.devRef .tc main_v9) : Vec Ideal S1x45824 .f32) 11)
      ∧ StableHlo.after hostOps1 U (Proc.devRef .tc main_v44) = biasOf (cut (U (Proc.devRef .tc main_v9) : Vec Ideal S1x45824 .f32) 0) (cut (U (Proc.devRef .tc main_v9) : Vec Ideal S1x45824 .f32) 1)
      ∧ StableHlo.after hostOps1 U (Proc.devRef .tc main_v29) = cut (U (Proc.devRef .tc main_v9) : Vec Ideal S1x45824 .f32) 2
      ∧ StableHlo.after hostOps1 U (Proc.devRef .tc main_v30) = cut (U (Proc.devRef .tc main_v9) : Vec Ideal S1x45824 .f32) 3
      ∧ StableHlo.after hostOps1 U (Proc.devRef .tc main_v31) = cut (U (Proc.devRef .tc main_v9) : Vec Ideal S1x45824 .f32) 4
      ∧ StableHlo.after hostOps1 U (Proc.devRef .tc main_v32) = cut (U (Proc.devRef .tc main_v9) : Vec Ideal S1x45824 .f32) 5
      ∧ StableHlo.after hostOps1 U (Proc.devRef .tc main_v33) = cut (U (Proc.devRef .tc main_v9) : Vec Ideal S1x45824 .f32) 6
      ∧ StableHlo.after hostOps1 U (Proc.devRef .tc main_v34) = cut (U (Proc.devRef .tc main_v9) : Vec Ideal S1x45824 .f32) 7
      ∧ StableHlo.after hostOps1 U (Proc.devRef .tc main_v35) = cut (U (Proc.devRef .tc main_v9) : Vec Ideal S1x45824 .f32) 8
      ∧ StableHlo.after hostOps1 U (Proc.devRef .tc main_v36) = cut (U (Proc.devRef .tc main_v9) : Vec Ideal S1x45824 .f32) 9
      ∧ StableHlo.after hostOps1 U (Proc.devRef .tc main_v37) = cut (U (Proc.devRef .tc main_v9) : Vec Ideal S1x45824 .f32) 10 := by
  simp only [hostOps1]
  refine ⟨?_, cut_bias U, ?_, ?_, ?_, ?_, ?_, ?_, ?_, ?_, ?_⟩ <;> after_reads_simp
  · exact congrArg lossOf (cut_twice (U (Proc.devRef .tc main_v9) : Vec Ideal S1x45824 .f32) 11 slices_S1x45824_S1x1024_0_44680 shapeCasts_S1x1024_S1x1x1024
      shapeCasts_S1x1x1024_S1x1024)
  · exact cut_twice _ 2 _ _ _
  · exact cut_once _ 3 _ _
  · exact cut_once _ 4 _ _
  · exact cut_once _ 5 _ _
  · exact cut_once _ 6 _ _
  · exact cut_once _ 7 _ _
  · exact cut_once _ 8 _ _
  · exact cut_twice _ 9 _ _ _
  · exact cut_twice _ 10 _ _ _

/-! ## So each result is a sum over the devices -/

/-- The sum of the eight parts of array `k`, as it is cut out. -/
def summed (c : Dev nD) (k : Fin 12) : Vec Ideal (shp k) .f32 := cut (tot (packed (parts m c))) k

/-- It is that sum; `j s` is the index among the eight parts of device `s`'s element. -/
theorem summed_apply (c : Dev nD) (k : Fin 12) (i : (shp k).Idx) (j : Fin 8 → (sh8 k).Idx)
    (hj : ∀ s : Fin 8, ((sh8 k).rowMajor (j s)).val = s.val * len k + ((shp k).rowMajor i).val) :
    summed m c k i = ∑ s : Fin 8, parts m c k (j s) :=
  cut_tot (parts m c) _ _ _ _ _ k i j hj

/-- What the last lines are given. -/
def left (c : Dev nD) : Valuation τ sig (Elt Ideal) :=
  Pipeline.withArrays (cfgs 0).spec c (V0 m c) fun w => (dats m 0 c).arrAt w (cfgs 0).N

theorem left_eq (c : Dev nD) (b : Ref sig .tc) :
    Pipeline.afterTail₀ cfgs (dats m) 0 (V0 m) [hostOps1] c b = StableHlo.after hostOps1 (left m c) (Proc.devRef .tc b) := by
  unfold Pipeline.afterTail₀ left
  rw [List.flatten_cons, List.flatten_nil, List.append_nil]

theorem left_row (c : Dev nD) : left m c (Proc.devRef .tc main_v9) = tot (packed (parts m c)) :=
  (Pipeline.withArrays_arr spec0 launch0.win.arr_inj c _ _ 1).trans ((final m c).trans (congrArg tot (V_in m c)))

theorem stretch (c : Dev nD) (k : Fin 12) : cut (left m c (Proc.devRef .tc main_v9) : Vec Ideal S1x45824 .f32) k = summed m c k :=
  congrArg (fun A => cut A k) (left_row m c)

theorem results (c : Dev nD) :
    Pipeline.afterTail₀ cfgs (dats m) 0 (V0 m) [hostOps1] c main_v39 = lossOf (summed m c 11)
      ∧ Pipeline.afterTail₀ cfgs (dats m) 0 (V0 m) [hostOps1] c main_v44 = biasOf (summed m c 0) (summed m c 1)
      ∧ Pipeline.afterTail₀ cfgs (dats m) 0 (V0 m) [hostOps1] c main_v29 = summed m c 2
      ∧ Pipeline.afterTail₀ cfgs (dats m) 0 (V0 m) [hostOps1] c main_v30 = summed m c 3
      ∧ Pipeline.afterTail₀ cfgs (dats m) 0 (V0 m) [hostOps1] c main_v31 = summed m c 4
      ∧ Pipeline.afterTail₀ cfgs (dats m) 0 (V0 m) [hostOps1] c main_v32 = summed m c 5
      ∧ Pipeline.afterTail₀ cfgs (dats m) 0 (V0 m) [hostOps1] c main_v33 = summed m c 6
      ∧ Pipeline.afterTail₀ cfgs (dats m) 0 (V0 m) [hostOps1] c main_v34 = summed m c 7
      ∧ Pipeline.afterTail₀ cfgs (dats m) 0 (V0 m) [hostOps1] c main_v35 = summed m c 8
      ∧ Pipeline.afterTail₀ cfgs (dats m) 0 (V0 m) [hostOps1] c main_v36 = summed m c 9
      ∧ Pipeline.afterTail₀ cfgs (dats m) 0 (V0 m) [hostOps1] c main_v37 = summed m c 10 := by
  obtain ⟨l, b, h2, h3, h4, h5, h6, h7, h8, h9, h10⟩ := cuts (left m c)
  exact ⟨(left_eq m c _).trans (l.trans (congrArg lossOf (stretch m c 11))),
    (left_eq m c _).trans (b.trans (congrArg₂ biasOf (stretch m c 0) (stretch m c 1))),
    (left_eq m c _).trans (h2.trans (stretch m c 2)),
    (left_eq m c _).trans (h3.trans (stretch m c 3)),
    (left_eq m c _).trans (h4.trans (stretch m c 4)),
    (left_eq m c _).trans (h5.trans (stretch m c 5)),
    (left_eq m c _).trans (h6.trans (stretch m c 6)),
    (left_eq m c _).trans (h7.trans (stretch m c 7)),
    (left_eq m c _).trans (h8.trans (stretch m c 8)),
    (left_eq m c _).trans (h9.trans (stretch m c 9)),
    (left_eq m c _).trans (h10.trans (stretch m c 10))⟩

end Cert.SumSmallKernelIdeal.Total

end
-- ==== Proof.SumSmallValue.lean ====
/-
  The sum of the eight devices' small parts: the kernel's eleven results are the reference's.

  The reference adds each array's eight parts by itself; the kernel adds them all at once, laid out in eight rows. The bias's
  gradient is put together from two of the sums: the reference adds the second to the first layer of the first, the kernel
  adds the second over zeros to the whole of it.
-/
module

public import proofs.«01_k».proof.Defs
public import proofs.«01_k».proof.Proof.SumSmallHost
public import proofs.«01_k».proof.Proof.Gen.SumSmallReferenceIdeal.Run
public import proofs.«01_k».proof.Proof.Gen.SumSmallReferenceIdeal.Read
public import Idealize.ShloMosaic.Lib.Claim

@[expose] public section

noncomputable section

open Idealize.ShloMosaic Idealize.ShloMosaic.TcCoe Idealize.SL.Sem

namespace Cert.SumSmallKernelIdeal.Total

open Cert.SumSmallKernelIdeal Cert.SumSmallKernelIdeal.Gen Cert.SumSmallLayout Cert.SumRows
open Cert.SumSmallReferenceIdeal.Read

theorem preserves : Cert.preserves_SumSmallKernel_SumSmallKernelIdeal := trivial

/-! ## The number of an element among the eight parts -/

theorem number_one {n : ℕ} (i : (⟨1, ![n]⟩ : Shape).Idx) (s : Fin 8) (j : (⟨2, ![8, n]⟩ : Shape).Idx) (h0 : (j 0).val = s.val)
    (h1 : (j 1).val = (i 0).val) : ((⟨2, ![8, n]⟩ : Shape).rowMajor j).val = s.val * n + ((⟨1, ![n]⟩ : Shape).rowMajor i).val := by
  rw [Shape.rowMajor_val_two, Shape.rowMajor_val_one, h0, h1]
  rfl

theorem number_two {a b : ℕ} (i : (⟨2, ![a, b]⟩ : Shape).Idx) (s : Fin 8) (j : (⟨3, ![8, a, b]⟩ : Shape).Idx) (h0 : (j 0).val = s.val)
    (h1 : (j 1).val = (i 0).val) (h2 : (j 2).val = (i 1).val) :
    ((⟨3, ![8, a, b]⟩ : Shape).rowMajor j).val = s.val * (a * b) + ((⟨2, ![a, b]⟩ : Shape).rowMajor i).val := by
  rw [Shape.rowMajor_val_three, Shape.rowMajor_val_two, h0, h1, h2]
  show (s.val * a + (i 0).val) * b + (i 1).val = s.val * (a * b) + ((i 0).val * b + (i 1).val)
  ring

theorem number_three {a b d : ℕ} (i : (⟨3, ![a, b, d]⟩ : Shape).Idx) (s : Fin 8) (j : (⟨4, ![8, a, b, d]⟩ : Shape).Idx)
    (h0 : (j 0).val = s.val) (h1 : (j 1).val = (i 0).val) (h2 : (j 2).val = (i 1).val) (h3 : (j 3).val = (i 2).val) :
    ((⟨4, ![8, a, b, d]⟩ : Shape).rowMajor j).val = s.val * (a * b * d) + ((⟨3, ![a, b, d]⟩ : Shape).rowMajor i).val := by
  rw [Shape.rowMajor_val_four, Shape.rowMajor_val_three, h0, h1, h2, h3]
  show ((s.val * a + (i 0).val) * b + (i 1).val) * d + (i 2).val = s.val * (a * b * d) + (((i 0).val * b + (i 1).val) * d + (i 2).val)
  ring

/-! ## Each of the reference's sums -/

theorem bits_zero : Ideal.ofBits .f32 0x00000000#32 = (0 : EReal) := by
  simp [Ideal.ofBits, Ideal.ieee]

variable (m : (ℓ : Loc nD τ sig) → Buf (Elt Ideal) ℓ) (c : Dev nD)

/-- An array that is, from zero, the sum of the eight parts of array `k`, is what the kernel's program cuts out. -/
theorem same (k : Fin 12) (r : (shp k).Idx → EReal) (j : (shp k).Idx → Fin 8 → (sh8 k).Idx)
    (hr : ∀ i, r i = Ideal.ofBits .f32 0x00000000#32 + ∑ s : Fin 8, (parts m c k : (sh8 k).Idx → EReal) (j i s))
    (hj : ∀ i s, ((sh8 k).rowMajor (j i s)).val = s.val * len k + ((shp k).rowMajor i).val) : r = summed m c k := by
  funext i
  rw [hr, bits_zero, zero_add]
  exact (summed_apply m c k i (j i) (hj i)).symm

theorem sum2 : val_main_v0 (F := Ideal) (parts m c 2) = summed m c 2 :=
  same m c 2 _ idx_main_v0 (fun i => val_main_v0_apply _ i) fun i s => number_three i s _ rfl rfl rfl rfl

theorem sum3 : val_main_v1 (F := Ideal) (parts m c 3) = summed m c 3 :=
  same m c 3 _ idx_main_v1 (fun i => val_main_v1_apply _ i) fun i s => number_one i s _ rfl rfl

theorem sum4 : val_main_v2 (F := Ideal) (parts m c 4) = summed m c 4 :=
  same m c 4 _ idx_main_v2 (fun i => val_main_v2_apply _ i) fun i s => number_one i s _ rfl rfl

theorem sum5 : val_main_v3 (F := Ideal) (parts m c 5) = summed m c 5 :=
  same m c 5 _ idx_main_v3 (fun i => val_main_v3_apply _ i) fun i s => number_one i s _ rfl rfl

theorem sum6 : val_main_v4 (F := Ideal) (parts m c 6) = summed m c 6 :=
  same m c 6 _ idx_main_v4 (fun i => val_main_v4_apply _ i) fun i s => number_one i s _ rfl rfl

theorem sum7 : val_main_v5 (F := Ideal) (parts m c 7) = summed m c 7 :=
  same m c 7 _ idx_main_v5 (fun i => val_main_v5_apply _ i) fun i s => number_one i s _ rfl rfl

theorem sum8 : val_main_v6 (F := Ideal) (parts m c 8) = summed m c 8 :=
  same m c 8 _ idx_main_v6 (fun i => val_main_v6_apply _ i) fun i s => number_one i s _ rfl rfl

theorem sum9 : val_main_v7 (F := Ideal) (parts m c 9) = summed m c 9 :=
  same m c 9 _ idx_main_v7 (fun i => val_main_v7_apply _ i) fun i s => number_two i s _ rfl rfl rfl

theorem sum10 : val_main_v8 (F := Ideal) (parts m c 10) = summed m c 10 :=
  same m c 10 _ idx_main_v8 (fun i => val_main_v8_apply _ i) fun i s => number_two i s _ rfl rfl rfl

/-- The loss is the sum of the last array's sums on both sides. -/
theorem sum11 : val_main_v9 (F := Ideal) (parts m c 11) = summed m c 11 :=
  same m c 11 _ idx_main_v9 (fun i => val_main_v9_apply _ i) fun i s => number_two i s _ rfl rfl rfl

theorem loss : val_main_v18 (F := Ideal) (parts m c 11) = lossOf (summed m c 11) :=
  congrArg lossOf (sum11 m c)

/-! ## The bias's gradient -/

/-- The sum over the devices of the second array. -/
theorem sum1 : val_main_v13 (F := Ideal) (parts m c 1) = summed m c 1 :=
  same m c 1 _ idx_main_v13 (fun i => val_main_v13_apply _ i) fun i s => number_one i s _ rfl rfl

/-- The index of the first array whose layer is `l`. -/
abbrev inLayer (l : Fin 2) (i : S9216.Idx) : S2x9216.Idx := ix2 l (i 0)

theorem sum0_first (i : S9216.Idx) : val_main_v12 (F := Ideal) (parts m c 0) i = summed m c 0 (inLayer 0 i) := by
  refine (val_main_v12_apply (parts m c 0) i).trans ?_
  refine (congrArg (· + _) bits_zero).trans ((zero_add _).trans ?_)
  refine (Finset.sum_congr rfl fun s _ => (val_main_v11_apply (parts m c 0) _).trans (val_main_v10_apply (parts m c 0) _)).trans ?_
  refine (summed_apply m c 0 (inLayer 0 i) (fun s => idx_main_v10 (idx_main_v11 (idx_main_v12 i s))) fun s => ?_).symm
  have hs : s.val < 8 := s.isLt
  have hi : (i 0).val < 9216 := (i 0).isLt
  refine number_two (inLayer 0 i) s _ ?_ ?_ ?_
  · show (s.val * 9216 + (i 0).val) / 9216 = s.val; omega
  · rfl
  · show (s.val * 9216 + (i 0).val) % 9216 = (i 0).val; omega

theorem sum0_second (i : S9216.Idx) : val_main_v17 (F := Ideal) (parts m c 0) i = summed m c 0 (inLayer 1 i) := by
  refine (val_main_v17_apply (parts m c 0) i).trans ?_
  refine (congrArg (· + _) bits_zero).trans ((zero_add _).trans ?_)
  refine (Finset.sum_congr rfl fun s _ => (val_main_v16_apply (parts m c 0) _).trans (val_main_v15_apply (parts m c 0) _)).trans ?_
  refine (summed_apply m c 0 (inLayer 1 i) (fun s => idx_main_v15 (idx_main_v16 (idx_main_v17 i s))) fun s => ?_).symm
  have hs : s.val < 8 := s.isLt
  have hi : (i 0).val < 9216 := (i 0).isLt
  refine number_two (inLayer 1 i) s _ ?_ ?_ ?_
  · show (s.val * 9216 + (i 0).val) / 9216 = s.val; omega
  · rfl
  · show (s.val * 9216 + (i 0).val) % 9216 = (i 0).val; omega

/-- Two rows, one over the other, read in the first and in the second. -/
theorem upper (p q : FVec Ideal S1x9216 .f32) (e : Fin 9216) :
    concatenate S2x9216 0 [⟨S1x9216, p⟩, ⟨S1x9216, q⟩] concatenates_S1x9216_S1x9216_S2x9216_d0 (ix2 (0 : Fin 2) e) = p (ix2 (0 : Fin 1) e) :=
  concatenate_pair_apply_left (t := S2x9216) (s₁ := S1x9216) (s₂ := S1x9216) 0 p q concatenates_S1x9216_S1x9216_S2x9216_d0 _ rfl _
    fun b => by match b with
      | ⟨0, _⟩ => rfl
      | ⟨1, _⟩ => rfl

theorem lower (p q : FVec Ideal S1x9216 .f32) (e : Fin 9216) :
    concatenate S2x9216 0 [⟨S1x9216, p⟩, ⟨S1x9216, q⟩] concatenates_S1x9216_S1x9216_S2x9216_d0 (ix2 (1 : Fin 2) e) = q (ix2 (0 : Fin 1) e) :=
  concatenate_pair_apply_right (t := S2x9216) (s₁ := S1x9216) (s₂ := S1x9216) 0 p q concatenates_S1x9216_S1x9216_S2x9216_d0 _ rfl rfl _
    (fun b hb => by match b, hb with
      | ⟨0, _⟩, hb => exact absurd rfl hb
      | ⟨1, _⟩, _ => rfl) rfl

/-- A line laid as one row. -/
theorem as_row (x : FVec Ideal S9216 .f32) (e : Fin 9216) :
    broadcastInDim S1x9216 ![1] bcast_S9216_S1x9216_1 x (ix2 (0 : Fin 1) e) = x (ix1 e) :=
  broadcastInDim_apply _ bcast_S9216_S1x9216_1 x _ _ fun a => by match a with
    | ⟨0, _⟩ => show e.val = if (9216 : ℕ) = 1 then 0 else e.val; rw [if_neg (by norm_num)]

theorem bias : val_main_v21 (F := Ideal) (parts m c 0) (parts m c 1) = biasOf (summed m c 0) (summed m c 1) := by
  funext i
  obtain ⟨l, e, rfl⟩ : ∃ (l : Fin 2) (e : Fin 9216), i = ix2 l e := ⟨i 0, i 1, by funext a; match a with | ⟨0, _⟩ => rfl | ⟨1, _⟩ => rfl⟩
  unfold val_main_v21 biasOf
  match l with
  | 0 =>
    refine (upper _ _ e).trans ((as_row _ e).trans ?_)
    refine Eq.trans ?_ (congrArg (fun q => summed m c 0 (ix2 (0 : Fin 2) e) + q) ((upper _ _ e).trans (as_row (summed m c 1) e))).symm
    show val_main_v12 (F := Ideal) (parts m c 0) (ix1 e) + val_main_v13 (F := Ideal) (parts m c 1) (ix1 e) = _
    rw [sum0_first, sum1]
    rfl
  | 1 =>
    refine (lower _ _ e).trans ((as_row _ e).trans ?_)
    refine (sum0_second m c (ix1 e)).trans ?_
    refine Eq.trans ?_ (congrArg (fun q => summed m c 0 (ix2 (1 : Fin 2) e) + q) ((lower _ _ e).trans ((as_row _ e).trans bits_zero))).symm
    exact (add_zero _).symm

/-! ## The claim -/

theorem algebraic : Cert.algebraic_SumSmallKernelIdeal_SumSmallReferenceIdeal := by
  intro m g m' g' _ hargs
  refine ⟨fun c => lossOf (summed m c 11), fun c => biasOf (summed m c 0) (summed m c 1), fun c => summed m c 2, fun c => summed m c 3, fun c => summed m c 4, fun c => summed m c 5, fun c => summed m c 6, fun c => summed m c 7, fun c => summed m c 8, fun c => summed m c 9, fun c => summed m c 10, ?_, ?_⟩
  · refine (θ_run _ _ _).mono (fun r h c => ?_) (θ_run_and (run_main m g) (unchanged m g))
    obtain ⟨a0, a1, a2, a3, a4, a5, a6, a7, a8, a9, a10⟩ := results m c
    exact ⟨((h.1 c).2 main_v39 (Pipeline.mem_restRefs_of main_v39 (by decide) (by decide))).trans a0,
      ((h.1 c).2 main_v44 (Pipeline.mem_restRefs_of main_v44 (by decide) (by decide))).trans a1,
      ((h.1 c).2 main_v29 (Pipeline.mem_restRefs_of main_v29 (by decide) (by decide))).trans a2,
      ((h.1 c).2 main_v30 (Pipeline.mem_restRefs_of main_v30 (by decide) (by decide))).trans a3,
      ((h.1 c).2 main_v31 (Pipeline.mem_restRefs_of main_v31 (by decide) (by decide))).trans a4,
      ((h.1 c).2 main_v32 (Pipeline.mem_restRefs_of main_v32 (by decide) (by decide))).trans a5,
      ((h.1 c).2 main_v33 (Pipeline.mem_restRefs_of main_v33 (by decide) (by decide))).trans a6,
      ((h.1 c).2 main_v34 (Pipeline.mem_restRefs_of main_v34 (by decide) (by decide))).trans a7,
      ((h.1 c).2 main_v35 (Pipeline.mem_restRefs_of main_v35 (by decide) (by decide))).trans a8,
      ((h.1 c).2 main_v36 (Pipeline.mem_restRefs_of main_v36 (by decide) (by decide))).trans a9,
      ((h.1 c).2 main_v37 (Pipeline.mem_restRefs_of main_v37 (by decide) (by decide))).trans a10,
      h.2 c⟩
  · refine (θ_run _ _ _).mono (fun r h c => ?_) (Cert.SumSmallReferenceIdeal.Value.run m' g')
    obtain ⟨h0, h1, h2, h3, h4, h5, h6, h7, h8, h9, h10, hr⟩ := h c
    obtain ⟨e0, e1, e2, e3, e4, e5, e6, e7, e8, e9, e10, e11⟩ := hargs c
    exact ⟨h0.trans ((congrArg (val_main_v18 (F := Ideal)) e11).trans (loss m c)),
      h1.trans ((congrArg₂ (val_main_v21 (F := Ideal)) e0 e1).trans (bias m c)),
      h2.trans ((congrArg (val_main_v0 (F := Ideal)) e2).trans (sum2 m c)),
      h3.trans ((congrArg (val_main_v1 (F := Ideal)) e3).trans (sum3 m c)),
      h4.trans ((congrArg (val_main_v2 (F := Ideal)) e4).trans (sum4 m c)),
      h5.trans ((congrArg (val_main_v3 (F := Ideal)) e5).trans (sum5 m c)),
      h6.trans ((congrArg (val_main_v4 (F := Ideal)) e6).trans (sum6 m c)),
      h7.trans ((congrArg (val_main_v5 (F := Ideal)) e7).trans (sum7 m c)),
      h8.trans ((congrArg (val_main_v6 (F := Ideal)) e8).trans (sum8 m c)),
      h9.trans ((congrArg (val_main_v7 (F := Ideal)) e9).trans (sum9 m c)),
      h10.trans ((congrArg (val_main_v8 (F := Ideal)) e10).trans (sum10 m c)),
      hr⟩

end Cert.SumSmallKernelIdeal.Total

end
-- ==== Proof.SumCtxValue.lean ====
/-
  The gradient of the context's embedding, summed over the eight devices: the kernel loads its operand's eight rows one by one
  and adds them, the reference adds its argument along the first axis.
-/
module

public import proofs.«01_k».proof.Defs
public import proofs.«01_k».proof.Proof.SumRows
public import proofs.«01_k».proof.Proof.Gen.SumCtxKernelIdeal.Frame
public import proofs.«01_k».proof.Proof.Gen.SumCtxReferenceIdeal.Run
public import proofs.«01_k».proof.Proof.Gen.SumCtxReferenceIdeal.Read
public import Idealize.ShloMosaic.Lib.Claim
public import Idealize.ShloMosaic.Lib.Tactic
public import Idealize.ShloMosaic.Lib.StableHlo.RunRead

@[expose] public section

noncomputable section

open Idealize.ShloMosaic Idealize.ShloMosaic.TcCoe Idealize.SL.Sem

namespace Cert.SumCtxKernelIdeal.Total

open Cert.SumCtxKernelIdeal Cert.SumCtxKernelIdeal.Gen Cert.SumRows
open Cert.SumCtxReferenceIdeal.Read

theorem preserves : Cert.preserves_SumCtxKernel_SumCtxKernelIdeal := trivial

theorem off0 : (![0, 0] : Fin 2 → Nat) = fun _ => 0 := funext fun a => by fin_cases a <;> rfl

/-! ## What the kernel computes -/

/-- Eight rows added one after the other, read at an index. -/
theorem add_apply (a b c d e f g h : Vec Ideal S1x1024 .f32) (y : S1x1024.Idx) :
    k0_pay1 (F := Ideal) a b c d e f g h y = a y + b y + c y + d y + e y + f y + g y + h y := rfl

theorem out_apply (x : Vec Ideal S8x1024 .f32) (y : S1x1024.Idx) : out0_1 (F := Ideal) x y = tot x y := by
  unfold out0_1
  rw [View.canon_unit_zero (S := S1x1024) off0]
  exact (add_apply _ _ _ _ _ _ _ _ y).trans (rows_added x _ _ _ _ _ _ _ _ y)

/-! ## The row it leaves -/

variable (m : (ℓ : Loc nD τ sig) → Buf (Elt Ideal) ℓ) (c : Dev nD)

/-- The eight devices' parts. -/
abbrev parts : Vec Ideal S8x1024 .f32 := m ((c : Thread nD τ).loc main_arg0)

theorem ix_in : ∀ t : Fin cfg0.N, win0_0.index t (0 : Fin 2) = 0 ∧ win0_0.index t (1 : Fin 2) = 0 :=
  (by decide +kernel : ∀ t : Fin grid0.N, _)
theorem ix_out : ∀ t : Fin cfg0.N, win0_1.index t (0 : Fin 2) = 0 ∧ win0_1.index t (1 : Fin 2) = 0 :=
  (by decide +kernel : ∀ t : Fin grid0.N, _)

/-- The block that the one grid point is given is the whole operand, -/
theorem block_in (t : Fin cfg0.N) : iblk m c 0 t = parts m c := by
  funext i
  unfold iblk
  rw [View.read_apply]
  show parts m c _ = parts m c _
  generalize parts m c = f
  congr 1
  obtain ⟨e0, e1⟩ := ix_in t
  funext d
  apply Fin.ext
  match d with
  | ⟨0, _⟩ => show win0_0.index t (0 : Fin 2) * 8 + 1 * (i 0).val = (i 0).val; rw [e0]; omega
  | ⟨1, _⟩ => show win0_0.index t (1 : Fin 2) * 1024 + 1 * (i 1).val = (i 1).val; rw [e1]; omega

/-- and the block it leaves is the whole row. -/
theorem block_out (R : Vec Ideal S1x1024 .f32) (t : Fin cfg0.N) (y : S1x1024.Idx) :
    ((cfg0.win 1).blk t).view.read (Elt Ideal) R y = R y := by
  rw [View.read_apply]
  show R _ = R _
  congr 1
  obtain ⟨e0, e1⟩ := ix_out t
  funext d
  apply Fin.ext
  match d with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem flushed_eq (t : Fin cfg0.N) :
    (dats m 0 c).flushed 1 t = ((cfg0.win 1).blk t).view.read (Elt Ideal) (tot (parts m c)) := by
  show (cfg0.win 1).cut (grid0.coords t) ((dats m 0 c).after 1 t) = _
  rw [after0_1]
  funext y
  show out0_1 (F := Ideal) (iblk m c 0 t) y = _
  rw [out_apply, block_in]
  exact (block_out (tot (parts m c)) t y).symm

/-- The one grid point's block is the whole row. -/
theorem onto : ∃ t : Fin cfg0.N, (cfg0.win 1).flush t = true ∧ win0_1.index t = ![0, 0] :=
  (by decide +kernel : ∃ t : Fin grid0.N, win0_1.flush t = true ∧ win0_1.index t = ![0, 0])

theorem within (i : S1x1024.Idx) (n : Fin 2 → ℕ) (h : n = ![0, 0]) :
    ∀ a : Fin 2, n a * S1x1024.size a ≤ (i a).val ∧ (i a).val < n a * S1x1024.size a + S1x1024.size a := by
  subst h
  have h0 : (i 0).val < 1 := (i 0).isLt
  have h1 : (i 1).val < 1024 := (i 1).isLt
  intro a
  match a with
  | ⟨0, _⟩ => show 0 * 1 ≤ (i 0).val ∧ (i 0).val < 0 * 1 + 1; omega
  | ⟨1, _⟩ => show 0 * 1024 ≤ (i 1).val ∧ (i 1).val < 0 * 1024 + 1024; omega

theorem covered (i : S1x1024.Idx) : ∃ t : Fin cfg0.N, (cfg0.win 1).flush t = true ∧ i ∈ ((cfg0.win 1).blk t).view.set := by
  obtain ⟨t, hf, ht⟩ := onto
  refine ⟨t, hf, ?_⟩
  show i ∈ ((View.whole main_v0).slice (win0_1.rect t)).set
  rw [View.set_slice_whole, Rect.mem_set_unit]
  exact within i _ ht

theorem final : (dats m 0 c).arrAt 1 cfg0.N = tot (parts m c) :=
  (dats m 0 c).arrAt_eq_of_cover 1 _ (fun t _ => flushed_eq m c t) covered

/-! ## The result -/

/-- The row as a vector. -/
def flat (A : Vec Ideal S1x1024 .f32) : Vec Ideal S1024 .f32 := shapeCast S1024 A shapeCasts_S1x1024_S1024

theorem flat_apply (A : Vec Ideal S1x1024 .f32) (e : Fin 1024) : flat A (ix1 e) = A (ix2 (0 : Fin 1) e) :=
  shapeCast_apply _ _ _ _ (by rw [Shape.rowMajor_val_two, Shape.rowMajor_val_one]; show 0 * 1024 + e.val = e.val; omega)

/-- What the line after the region leaves. -/
theorem result : Pipeline.afterTail₀ cfgs (dats m) 0 (V0 m) [hostOps1] c main_v1 = flat (tot (parts m c)) := by
  have h : Pipeline.withArrays (cfgs 0).spec c (V0 m c) (fun w => (dats m 0 c).arrAt w (cfgs 0).N) (Proc.devRef .tc main_v0)
      = tot (parts m c) :=
    (Pipeline.withArrays_arr spec0 launch0.win.arr_inj c _ _ 1).trans (final m c)
  unfold Pipeline.afterTail₀
  generalize Pipeline.withArrays (cfgs 0).spec c (V0 m c) (fun w => (dats m 0 c).arrAt w (cfgs 0).N) = U at h ⊢
  rw [List.flatten_cons, List.flatten_nil, List.append_nil]
  refine Eq.trans ?_ (congrArg flat h)
  after_reads_simp
  rfl

theorem bits_zero : Ideal.ofBits .f32 0x00000000#32 = (0 : EReal) := by
  simp [Ideal.ofBits, Ideal.ieee]

/-- The reference's sum is the row's. -/
theorem same (x : Vec Ideal S8x1024 .f32) : val_main_v0 (F := Ideal) x = flat (tot x) := by
  funext i
  obtain ⟨e, rfl⟩ : ∃ e : Fin 1024, i = ix1 e := ⟨i 0, by funext a; match a with | ⟨0, _⟩ => rfl⟩
  rw [flat_apply]
  refine (val_main_v0_apply x (ix1 e)).trans ?_
  refine (congrArg (· + _) bits_zero).trans ((zero_add _).trans ?_)
  exact Finset.sum_congr rfl fun s _ => congrArg x (by funext a; match a with | ⟨0, _⟩ => rfl | ⟨1, _⟩ => rfl)

theorem algebraic : Cert.algebraic_SumCtxKernelIdeal_SumCtxReferenceIdeal := by
  intro m g m' g' _ hargs
  refine ⟨fun c => flat (tot (parts m c)), ?_, ?_⟩
  · refine (θ_run _ _ _).mono (fun r h c => ?_) (θ_run_and (run_main m g) (unchanged m g))
    exact ⟨((h.1 c).2 main_v1 (Pipeline.mem_restRefs_of main_v1 (by decide) (by decide))).trans (result m c), h.2 c⟩
  · refine (θ_run _ _ _).mono (fun r h c => ?_) (Cert.SumCtxReferenceIdeal.Value.run m' g')
    obtain ⟨h0, hr⟩ := h c
    exact ⟨h0.trans ((congrArg (val_main_v0 (F := Ideal)) (hargs c)).trans (same (parts m c))), hr⟩

end Cert.SumCtxKernelIdeal.Total

end
-- ==== Proof.AdalnValue.lean ====
/-
  The gradient of the modulation, of both layers: of its weights, and of the conditions it takes.

  A grid point is a layer. The weights' gradient is the transposed activation of the conditions times the layer's
  cotangent; the conditions' gradient is the cotangent times the transposed weights, times the activation's derivative,
  which the kernel writes as σ(c) · (1 + c · (1 − σ(c))).
-/
module

public import proofs.«01_k».proof.Defs
public import proofs.«01_k».proof.Proof.SwigluMath
public import proofs.«01_k».proof.Proof.Gen.AdalnKernelIdeal.Value
public import proofs.«01_k».proof.Proof.Gen.AdalnReferenceIdeal.Read
public import Idealize.ShloMosaic.Lib.Pipeline.ValueKit.Geometry
public import Idealize.ShloMosaic.Lib.Pointwise
public import Idealize.ShloMosaic.Lib.Tactic

@[expose] public section

noncomputable section

open Idealize.ShloMosaic Idealize.ShloMosaic.TcCoe Idealize.SL.Sem

/-! ## The reference at an element -/

namespace Cert.AdalnReferenceIdeal.Grad

open Cert.AdalnReferenceIdeal Cert.AdalnReferenceIdeal.Gen Cert.SwigluMath

variable (x : Vec Ideal S16x1024 .f32) (g : Vec Ideal S2x16x1152 .f32) (w : Vec Ideal S2x1024x1152 .f32)

/-- The cotangent times the transposed weights, of layer `l`. -/
def pre (l : Fin 2) (r : Fin 16) (k : Fin 1024) : EReal := ∑ n : Fin 1152, g (ix3 l r n) * w (ix3 l k n)

theorem sig_apply (r : Fin 16) (k : Fin 1024) :
    (Read.val_main_v2_2 (F := Ideal) x : Vec Ideal S16x1024 .f32) (ix2 r k) = Ideal.logistic (x (ix2 r k)) := by
  unfold Ideal.logistic Read.val_main_v2_2 Read.val_main_call0_v3 Read.val_main_call0_v4 Read.val_main_call0_v2 Read.val_main_call0_cst
    Read.val_main_call0_cst_0 Read.val_main_call0_v1 Read.val_main_call0_v0
  pointwise

theorem sig_apply' (r : Fin 16) (k : Fin 1024) :
    (Read.val_main_v12_2 (F := Ideal) x : Vec Ideal S16x1024 .f32) (ix2 r k) = Ideal.logistic (x (ix2 r k)) :=
  sig_apply x r k

theorem silu_apply (r : Fin 16) (k : Fin 1024) :
    (Read.val_main_v2_0 (F := Ideal) x : Vec Ideal S16x1024 .f32) (ix2 r k) = facU (x (ix2 r k)) := by
  unfold facU
  rw [← sig_apply]
  rfl

theorem silu_apply' (r : Fin 16) (k : Fin 1024) :
    (Read.val_main_v12_0 (F := Ideal) x : Vec Ideal S16x1024 .f32) (ix2 r k) = facU (x (ix2 r k)) :=
  silu_apply x r k

/-- The weights' gradient, layer by layer. -/
theorem dw0 (k : Fin 1024) (n : Fin 1152) :
    (Read.val_main_v7 (F := Ideal) x g : Vec Ideal S1024x1152 .f32) (ix2 k n)
      = ∑ r : Fin 16, facU (x (ix2 r k)) * g (ix3 0 r n) := by
  simp only [← silu_apply]
  unfold Read.val_main_v7 Read.val_main_v6 Read.val_main_v5 Read.val_main_v4
  generalize (Read.val_main_v2_0 (F := Ideal) x : Vec Ideal S16x1024 .f32) = a
  simp only [mul_comm (a _)]
  pointwise

theorem dw1 (k : Fin 1024) (n : Fin 1152) :
    (Read.val_main_v17 (F := Ideal) x g : Vec Ideal S1024x1152 .f32) (ix2 k n)
      = ∑ r : Fin 16, facU (x (ix2 r k)) * g (ix3 1 r n) := by
  simp only [← silu_apply']
  unfold Read.val_main_v17 Read.val_main_v16 Read.val_main_v15 Read.val_main_v14
  generalize (Read.val_main_v12_0 (F := Ideal) x : Vec Ideal S16x1024 .f32) = a
  simp only [mul_comm (a _)]
  pointwise

theorem dw_apply (l : Fin 2) (k : Fin 1024) (n : Fin 1152) :
    (Read.val_main_v22 (F := Ideal) x g : Vec Ideal S2x1024x1152 .f32) (ix3 l k n)
      = ∑ r : Fin 16, facU (x (ix2 r k)) * g (ix3 l r n) := by
  unfold Read.val_main_v22 Read.val_main_v20 Read.val_main_v21
  match l with
  | 0 =>
    refine Eq.trans ?_ (dw0 x g k n)
    generalize (Read.val_main_v7 (F := Ideal) x g : Vec Ideal S1024x1152 .f32) = a
    generalize (Read.val_main_v17 (F := Ideal) x g : Vec Ideal S1024x1152 .f32) = b
    pointwise
  | 1 =>
    refine Eq.trans ?_ (dw1 x g k n)
    generalize (Read.val_main_v7 (F := Ideal) x g : Vec Ideal S1024x1152 .f32) = a
    generalize (Read.val_main_v17 (F := Ideal) x g : Vec Ideal S1024x1152 .f32) = b
    pointwise

/-- The cotangent of the activation, layer by layer. -/
theorem ds0 (r : Fin 16) (k : Fin 1024) :
    (Read.val_main_v8 (F := Ideal) g w : Vec Ideal S16x1024 .f32) (ix2 r k) = pre g w 0 r k := by
  unfold pre Read.val_main_v8 Read.val_main_v5 Read.val_main_v4 Read.val_main_v1 Read.val_main_v0
  pointwise

theorem ds1 (r : Fin 16) (k : Fin 1024) :
    (Read.val_main_v18 (F := Ideal) g w : Vec Ideal S16x1024 .f32) (ix2 r k) = pre g w 1 r k := by
  unfold pre Read.val_main_v18 Read.val_main_v15 Read.val_main_v14 Read.val_main_v11 Read.val_main_v10
  pointwise

theorem dc0 (r : Fin 16) (k : Fin 1024) :
    (Read.val_main_v9 (F := Ideal) x g w : Vec Ideal S16x1024 .f32) (ix2 r k) = gradG (pre g w 0 r k) (x (ix2 r k)) 1 := by
  unfold gradG
  rw [← sig_apply, ← ds0, mul_one]
  unfold Read.val_main_v9 Read.val_main_call1_v2 Read.val_main_call1_v1 Read.val_main_call1_v0 Read.val_main_v2_1
    Read.val_main_call0_v7 Read.val_main_call0_v6 Read.val_main_call0_cst_1
  generalize (Read.val_main_v2_2 (F := Ideal) x : Vec Ideal S16x1024 .f32) = s
  generalize (Read.val_main_v8 (F := Ideal) g w : Vec Ideal S16x1024 .f32) = d
  pointwise

theorem dc1 (r : Fin 16) (k : Fin 1024) :
    (Read.val_main_v19 (F := Ideal) x g w : Vec Ideal S16x1024 .f32) (ix2 r k) = gradG (pre g w 1 r k) (x (ix2 r k)) 1 := by
  unfold gradG
  rw [← sig_apply', ← ds1, mul_one]
  unfold Read.val_main_v19 Read.val_main_call3_v2 Read.val_main_call3_v1 Read.val_main_call3_v0 Read.val_main_v12_1
    Read.val_main_call2_v7 Read.val_main_call2_v6 Read.val_main_call2_cst_1
  generalize (Read.val_main_v12_2 (F := Ideal) x : Vec Ideal S16x1024 .f32) = s
  generalize (Read.val_main_v18 (F := Ideal) g w : Vec Ideal S16x1024 .f32) = d
  pointwise

theorem dc_apply (l : Fin 2) (r : Fin 16) (k : Fin 1024) :
    (Read.val_main_v25 (F := Ideal) x g w : Vec Ideal S2x16x1024 .f32) (ix3 l r k) = gradG (pre g w l r k) (x (ix2 r k)) 1 := by
  unfold Read.val_main_v25 Read.val_main_v23 Read.val_main_v24
  match l with
  | 0 =>
    refine Eq.trans ?_ (dc0 x g w r k)
    generalize (Read.val_main_v9 (F := Ideal) x g w : Vec Ideal S16x1024 .f32) = a
    generalize (Read.val_main_v19 (F := Ideal) x g w : Vec Ideal S16x1024 .f32) = b
    pointwise
  | 1 =>
    refine Eq.trans ?_ (dc1 x g w r k)
    generalize (Read.val_main_v9 (F := Ideal) x g w : Vec Ideal S16x1024 .f32) = a
    generalize (Read.val_main_v19 (F := Ideal) x g w : Vec Ideal S16x1024 .f32) = b
    pointwise

end Cert.AdalnReferenceIdeal.Grad

namespace Cert.AdalnKernelIdeal.Result

open Cert.AdalnKernelIdeal Cert.AdalnKernelIdeal.Gen Cert.SwigluMath

/-! ## What one grid point computes -/

theorem off2 : (![0, 0] : Fin 2 → Nat) = fun _ => 0 := funext fun a => by fin_cases a <;> rfl
theorem off3 : (![0, 0, 0] : Fin 3 → Nat) = fun _ => 0 := funext fun a => by fin_cases a <;> rfl

theorem out4_apply (x : Vec Ideal S16x1024 .f32) (s : Vec Ideal S1024x16 .bf16) (g : Vec Ideal S1x16x1152 .f32) (w : Vec Ideal S1x1024x1152 .f32)
    (z : Fin 1) (k : Fin 1024) (n : Fin 1152) :
    out0_4 (F := Ideal) x s g w (ix3 z k n) = ∑ r : Fin 16, s (ix2 k r) * g (ix3 z r n) := by
  unfold out0_4
  rw [View.canon_unit_zero (S := S1x1024x1152) off3, View.ld_unit_zero (S := S1x16x1152) off3, View.ld_unit_zero (S := S1024x16) off2]
  obtain rfl : z = 0 := Subsingleton.elim _ _
  unfold k0_pay2 k0_pay1
  pointwise

theorem out5_apply (x : Vec Ideal S16x1024 .f32) (s : Vec Ideal S1024x16 .bf16) (g : Vec Ideal S1x16x1152 .f32) (w : Vec Ideal S1x1024x1152 .f32)
    (z : Fin 1) (r : Fin 16) (k : Fin 1024) :
    out0_5 (F := Ideal) x s g w (ix3 z r k) = (∑ n : Fin 1152, g (ix3 z r n) * w (ix3 z k n)) * facG (x (ix2 r k)) 1 := by
  unfold out0_5
  rw [View.canon_unit_zero (S := S1x16x1024) off3, View.ld_unit_zero (S := S1x16x1152) off3, View.ld_unit_zero (S := S16x1024) off2,
    View.ld_unit_zero (S := S1x1024x1152) off3]
  obtain rfl : z = 0 := Subsingleton.elim _ _
  unfold facG k0_pay3 k0_pay1
  rw [one_mul]
  pointwise

/-! ## The result arrays -/

variable (m : (ℓ : Loc nD τ sig) → Buf (Elt Ideal) ℓ) (ρ : Dev nD → PrngReg)

/-- The arrays the region finds: the conditions, their transposed activation, the cotangent, the weights. -/
abbrev arrC (c : Dev nD) : Vec Ideal S16x1024 .f32 := V m c main_arg0
abbrev arrS (c : Dev nD) : Vec Ideal S1024x16 .bf16 := V m c main_v8
abbrev arrG (c : Dev nD) : Vec Ideal S2x16x1152 .f32 := V m c main_arg1
abbrev arrW (c : Dev nD) : Vec Ideal S2x1024x1152 .f32 := V m c main_arg2

abbrev b0 (c : Dev nD) (t : Fin cfg0.N) : Vec Ideal S16x1024 .f32 := iblk m c 0 t
abbrev b1 (c : Dev nD) (t : Fin cfg0.N) : Vec Ideal S1024x16 .bf16 := iblk m c 1 t
abbrev b2 (c : Dev nD) (t : Fin cfg0.N) : Vec Ideal S1x16x1152 .f32 := iblk m c 2 t
abbrev b3 (c : Dev nD) (t : Fin cfg0.N) : Vec Ideal S1x1024x1152 .f32 := iblk m c 3 t

theorem ix0 : ∀ t : Fin cfg0.N, win0_0.index t (0 : Fin 2) = 0 ∧ win0_0.index t (1 : Fin 2) = 0 :=
  (by decide +kernel : ∀ t : Fin grid0.N, _)
theorem ix1 : ∀ t : Fin cfg0.N, win0_1.index t (0 : Fin 2) = 0 ∧ win0_1.index t (1 : Fin 2) = 0 :=
  (by decide +kernel : ∀ t : Fin grid0.N, _)
theorem ix2' : ∀ t : Fin cfg0.N, win0_2.index t (0 : Fin 3) = t.val ∧ win0_2.index t (1 : Fin 3) = 0 ∧ win0_2.index t (2 : Fin 3) = 0 :=
  (by decide +kernel : ∀ t : Fin grid0.N, _)
theorem ix3' : ∀ t : Fin cfg0.N, win0_3.index t (0 : Fin 3) = t.val ∧ win0_3.index t (1 : Fin 3) = 0 ∧ win0_3.index t (2 : Fin 3) = 0 :=
  (by decide +kernel : ∀ t : Fin grid0.N, _)
theorem ix4 : ∀ t : Fin cfg0.N, win0_4.index t (0 : Fin 3) = t.val ∧ win0_4.index t (1 : Fin 3) = 0 ∧ win0_4.index t (2 : Fin 3) = 0 :=
  (by decide +kernel : ∀ t : Fin grid0.N, _)
theorem ix5 : ∀ t : Fin cfg0.N, win0_5.index t (0 : Fin 3) = t.val ∧ win0_5.index t (1 : Fin 3) = 0 ∧ win0_5.index t (2 : Fin 3) = 0 :=
  (by decide +kernel : ∀ t : Fin grid0.N, _)

theorem b0_apply (c : Dev nD) (t : Fin cfg0.N) (r : Fin 16) (k : Fin 1024) : b0 m c t (ix2 r k) = arrC m c (ix2 r k) := by
  unfold b0 iblk
  rw [View.read_apply]
  show arrC m c _ = arrC m c _
  generalize arrC m c = f
  congr 1
  obtain ⟨e0, e1⟩ := ix0 t
  funext d
  apply Fin.ext
  match d with
  | ⟨0, _⟩ => show win0_0.index t (0 : Fin 2) * 16 + 1 * r.val = r.val; rw [e0]; omega
  | ⟨1, _⟩ => show win0_0.index t (1 : Fin 2) * 1024 + 1 * k.val = k.val; rw [e1]; omega

theorem b1_apply (c : Dev nD) (t : Fin cfg0.N) (k : Fin 1024) (r : Fin 16) : b1 m c t (ix2 k r) = arrS m c (ix2 k r) := by
  unfold b1 iblk
  rw [View.read_apply]
  show arrS m c _ = arrS m c _
  generalize arrS m c = f
  congr 1
  obtain ⟨e0, e1⟩ := ix1 t
  funext d
  apply Fin.ext
  match d with
  | ⟨0, _⟩ => show win0_1.index t (0 : Fin 2) * 1024 + 1 * k.val = k.val; rw [e0]; omega
  | ⟨1, _⟩ => show win0_1.index t (1 : Fin 2) * 16 + 1 * r.val = r.val; rw [e1]; omega

theorem b2_apply (c : Dev nD) (t : Fin cfg0.N) (z : Fin 1) (r : Fin 16) (n : Fin 1152) (l : Fin 2) (hl : l.val = t.val) :
    b2 m c t (ix3 z r n) = arrG m c (ix3 l r n) := by
  unfold b2 iblk
  rw [View.read_apply]
  show arrG m c _ = arrG m c _
  generalize arrG m c = f
  congr 1
  obtain ⟨e0, e1, e2⟩ := ix2' t
  funext d
  apply Fin.ext
  match d with
  | ⟨0, _⟩ => show win0_2.index t (0 : Fin 3) * 1 + 1 * z.val = l.val; rw [e0]; omega
  | ⟨1, _⟩ => show win0_2.index t (1 : Fin 3) * 16 + 1 * r.val = r.val; rw [e1]; omega
  | ⟨2, _⟩ => show win0_2.index t (2 : Fin 3) * 1152 + 1 * n.val = n.val; rw [e2]; omega

theorem b3_apply (c : Dev nD) (t : Fin cfg0.N) (z : Fin 1) (k : Fin 1024) (n : Fin 1152) (l : Fin 2) (hl : l.val = t.val) :
    b3 m c t (ix3 z k n) = arrW m c (ix3 l k n) := by
  unfold b3 iblk
  rw [View.read_apply]
  show arrW m c _ = arrW m c _
  generalize arrW m c = f
  congr 1
  obtain ⟨e0, e1, e2⟩ := ix3' t
  funext d
  apply Fin.ext
  match d with
  | ⟨0, _⟩ => show win0_3.index t (0 : Fin 3) * 1 + 1 * z.val = l.val; rw [e0]; omega
  | ⟨1, _⟩ => show win0_3.index t (1 : Fin 3) * 1024 + 1 * k.val = k.val; rw [e1]; omega
  | ⟨2, _⟩ => show win0_3.index t (2 : Fin 3) * 1152 + 1 * n.val = n.val; rw [e2]; omega

/-- The weights' gradient and the conditions', of both layers. -/
def resW (c : Dev nD) : Vec Ideal S2x1024x1152 .f32 := fun i => ∑ r : Fin 16, arrS m c (ix2 (i 1) r) * arrG m c (ix3 (i 0) r (i 2))
def resC (c : Dev nD) : Vec Ideal S2x16x1024 .f32 := fun i =>
  (∑ n : Fin 1152, arrG m c (ix3 (i 0) (i 1) n) * arrW m c (ix3 (i 0) (i 2) n)) * facG (arrC m c (ix2 (i 1) (i 2))) 1

theorem finalW (c : Dev nD) : (dats m 0 c).arrAt 4 cfg0.N = resW m c := by
  refine (dats m 0 c).arrAt_eq_of_covers 4 _ (by decide +kernel) fun t _ y => ?_
  refine (?_ : (dats m 0 c).after 4 t ((cfg0.win 4).xinj (grid0.coords t) y) = resW m c (((cfg0.win 4).blk t).view.emb y))
  rw [after0_4]
  obtain ⟨e0, e1, e2⟩ := ix4 t
  have hN : cfg0.N = 2 := N_0
  have ht : t.val < 2 := hN ▸ t.isLt
  have h0 : (y 0).val < 1 := (y 0).isLt
  have h1 : (y 1).val < 1024 := (y 1).isLt
  have h2 : (y 2).val < 1152 := (y 2).isLt
  have hx : (cfg0.win 4).xinj (grid0.coords t) y = ix3 (⟨(y 0).val, h0⟩ : Fin 1) (⟨(y 1).val, h1⟩ : Fin 1024) (⟨(y 2).val, h2⟩ : Fin 1152) := by
    funext d; apply Fin.ext
    match d with
    | ⟨0, _⟩ => rfl
    | ⟨1, _⟩ => rfl
    | ⟨2, _⟩ => rfl
  have he : ((cfg0.win 4).blk t).view.emb y = ix3 (⟨t.val, ht⟩ : Fin 2) (⟨(y 1).val, h1⟩ : Fin 1024) (⟨(y 2).val, h2⟩ : Fin 1152) := by
    funext d; apply Fin.ext
    match d with
    | ⟨0, _⟩ => show win0_4.index t (0 : Fin 3) * 1 + 1 * (y 0).val = t.val; rw [e0]; omega
    | ⟨1, _⟩ => show win0_4.index t (1 : Fin 3) * 1024 + 1 * (y 1).val = (y 1).val; rw [e1]; omega
    | ⟨2, _⟩ => show win0_4.index t (2 : Fin 3) * 1152 + 1 * (y 2).val = (y 2).val; rw [e2]; omega
  rw [hx, he]
  show out0_4 (b0 m c t) (b1 m c t) (b2 m c t) (b3 m c t) _ = _
  rw [out4_apply]
  show _ = ∑ r : Fin 16, arrS m c (ix2 (⟨(y 1).val, h1⟩ : Fin 1024) r) * arrG m c (ix3 (⟨t.val, ht⟩ : Fin 2) r (⟨(y 2).val, h2⟩ : Fin 1152))
  exact Finset.sum_congr rfl fun r _ => by rw [b1_apply, b2_apply m c t _ _ _ ⟨t.val, ht⟩ rfl]

theorem finalC (c : Dev nD) : (dats m 0 c).arrAt 5 cfg0.N = resC m c := by
  refine (dats m 0 c).arrAt_eq_of_covers 5 _ (by decide +kernel) fun t _ y => ?_
  refine (?_ : (dats m 0 c).after 5 t ((cfg0.win 5).xinj (grid0.coords t) y) = resC m c (((cfg0.win 5).blk t).view.emb y))
  rw [after0_5]
  obtain ⟨e0, e1, e2⟩ := ix5 t
  have hN : cfg0.N = 2 := N_0
  have ht : t.val < 2 := hN ▸ t.isLt
  have h0 : (y 0).val < 1 := (y 0).isLt
  have h1 : (y 1).val < 16 := (y 1).isLt
  have h2 : (y 2).val < 1024 := (y 2).isLt
  have hx : (cfg0.win 5).xinj (grid0.coords t) y = ix3 (⟨(y 0).val, h0⟩ : Fin 1) (⟨(y 1).val, h1⟩ : Fin 16) (⟨(y 2).val, h2⟩ : Fin 1024) := by
    funext d; apply Fin.ext
    match d with
    | ⟨0, _⟩ => rfl
    | ⟨1, _⟩ => rfl
    | ⟨2, _⟩ => rfl
  have he : ((cfg0.win 5).blk t).view.emb y = ix3 (⟨t.val, ht⟩ : Fin 2) (⟨(y 1).val, h1⟩ : Fin 16) (⟨(y 2).val, h2⟩ : Fin 1024) := by
    funext d; apply Fin.ext
    match d with
    | ⟨0, _⟩ => show win0_5.index t (0 : Fin 3) * 1 + 1 * (y 0).val = t.val; rw [e0]; omega
    | ⟨1, _⟩ => show win0_5.index t (1 : Fin 3) * 16 + 1 * (y 1).val = (y 1).val; rw [e1]; omega
    | ⟨2, _⟩ => show win0_5.index t (2 : Fin 3) * 1024 + 1 * (y 2).val = (y 2).val; rw [e2]; omega
  rw [hx, he]
  show out0_5 (b0 m c t) (b1 m c t) (b2 m c t) (b3 m c t) _ = _
  rw [out5_apply, b0_apply]
  show _ = (∑ n : Fin 1152, arrG m c (ix3 (⟨t.val, ht⟩ : Fin 2) (⟨(y 1).val, h1⟩ : Fin 16) n) * arrW m c (ix3 (⟨t.val, ht⟩ : Fin 2) (⟨(y 2).val, h2⟩ : Fin 1024) n))
    * facG (arrC m c (ix2 (⟨(y 1).val, h1⟩ : Fin 16) (⟨(y 2).val, h2⟩ : Fin 1024))) 1
  congr 1
  exact Finset.sum_congr rfl fun r _ => by rw [b2_apply m c t _ _ _ ⟨t.val, ht⟩ rfl, b3_apply m c t _ _ _ ⟨t.val, ht⟩ rfl]

/-! ## What the host prepares -/

abbrev argC (c : Dev nD) : Vec Ideal S16x1024 .f32 := m ((c : Thread nD τ).loc main_arg0)
abbrev argG (c : Dev nD) : Vec Ideal S2x16x1152 .f32 := m ((c : Thread nD τ).loc main_arg1)
abbrev argW (c : Dev nD) : Vec Ideal S2x1024x1152 .f32 := m ((c : Thread nD τ).loc main_arg2)

theorem V_s (c : Dev nD) (k : Fin 1024) (r : Fin 16) : arrS m c (ix2 k r) = facU (argC m c (ix2 r k)) := by
  have e : arrS m c = truncf (F := Ideal) .bf16 (transpose S1024x16 [1, 0]
      (Cert.AdalnReferenceIdeal.Read.val_main_v2_0 (F := Ideal) (argC m c) : Vec Ideal S16x1024 .f32) transposes_S16x1024_S1024x16_1_0) bitsLt_bf16_f32 := by
    show V m c main_v8 = _
    unfold V
    simp only [hostOps0, StableHlo.TRef.binary, StableHlo.TRef.nullary, StableHlo.TRef.unary, StableHlo.TRef.toBuf, StableHlo.TRef.ofBuf, cast_eq]
    after_results
    rfl
  rw [e, ← Cert.AdalnReferenceIdeal.Grad.silu_apply]
  generalize (Cert.AdalnReferenceIdeal.Read.val_main_v2_0 (F := Ideal) (argC m c) : Vec Ideal S16x1024 .f32) = a
  pointwise

theorem resW_eq (c : Dev nD) : resW m c
    = (Cert.AdalnReferenceIdeal.Read.val_main_v22 (F := Ideal) (argC m c) (argG m c) : Vec Ideal S2x1024x1152 .f32) := by
  funext i
  idx_vars i
  refine Eq.trans ?_ (Cert.AdalnReferenceIdeal.Grad.dw_apply _ _ i0 i1 i2).symm
  show ∑ r : Fin 16, arrS m c (ix2 i1 r) * arrG m c (ix3 i0 r i2) = _
  exact Finset.sum_congr rfl fun r _ => by
    rw [V_s, show arrG m c = argG m c from V_main_arg1 m c]

theorem resC_eq (c : Dev nD) (hg : ∀ i, Real' (argG m c i)) (hw : ∀ i, Real' (argW m c i)) : resC m c
    = (Cert.AdalnReferenceIdeal.Read.val_main_v25 (F := Ideal) (argC m c) (argG m c) (argW m c) : Vec Ideal S2x16x1024 .f32) := by
  funext i
  idx_vars i
  refine Eq.trans ?_ (Cert.AdalnReferenceIdeal.Grad.dc_apply _ _ _ i0 i1 i2).symm
  refine Eq.trans ?_ (gradG_one (Real'.sum _ _ fun n => (hg _).mul (hw _)) _)
  show (∑ n : Fin 1152, arrG m c (ix3 i0 i1 n) * arrW m c (ix3 i0 i2 n)) * facG (arrC m c (ix2 i1 i2)) 1 = _
  rw [show arrG m c = argG m c from V_main_arg1 m c, show arrW m c = argW m c from V_main_arg2 m c,
    show arrC m c = argC m c from V_main_arg0 m c]

/-! ## The claim -/

/-- The precondition's function takes its shape relations from here. -/
theorem preFacts : Cert.Pre_finite_adaln.Facts where
  bcast_S_S2x16x1152 := by decide
  bcast_S_S2x1024x1152 := by decide

theorem run : θ_run defs (onTc (τ := τ) (main (F := Ideal))) ⟨m, fun _ => 0, ρ⟩ fun r => ∀ c : Dev nD,
      r.2.mem ((c : Thread nD τ).loc main_v9_0) = resW m c
      ∧ r.2.mem ((c : Thread nD τ).loc main_v9_1) = resC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalW m c), (h c).2.1.trans (finalC m c), (h c).2.2⟩)
    (Value.run_blocks m ρ)

theorem algebraic : Cert.algebraic_AdalnKernelIdeal_AdalnReferenceIdeal_pre_finite_adaln (hPre_finite_adaln := preFacts) := by
  intro m g m' g' hpre hargs
  refine ⟨fun c => resW m c, fun c => resC m c, run m g, ?_⟩
  refine (θ_run _ _ _).mono (fun r h c => ?_) (Cert.AdalnReferenceIdeal.Value.run m' g')
  obtain ⟨h0, h1, hr⟩ := h c
  obtain ⟨e0, e1, e2⟩ := hargs c
  obtain ⟨p1, p2⟩ := hpre c
  refine ⟨h0.trans ?_, h1.trans ?_, hr⟩
  · rw [Cert.AdalnReferenceIdeal.Read.val_main_v22_eq, e0, e1]
    exact (resW_eq m c).symm
  · rw [Cert.AdalnReferenceIdeal.Read.val_main_v25_eq, e0, e1, e2]
    exact (resC_eq m c (real_of_test _ _ p1) (real_of_test _ _ p2)).symm

end Cert.AdalnKernelIdeal.Result

end
-- ==== Proof.SlotSum.lean ====
/-
  The sum over the eight devices of one large array's gradient, the device's own part taken from its whole array.

  Eight parts have arrived, one from each device; the part in the device's own place is not read, and its rows of the whole array
  are taken instead. What both programs' steps leave, at any sizes.
-/
module

public import proofs.«01_k».proof.Defs
public import Idealize.ShloMosaic.Lib.Pipeline.ValueKit.Geometry
public import Idealize.ShloMosaic.Lib.Pipeline.ValueKit.Tiles
public import Idealize.ShloMosaic.Lib.Pipeline.Value
public import Idealize.ShloMosaic.Lib.KernelVsHost
public import Idealize.ShloMosaic.Lib.Pointwise.Index

@[expose] public section

noncomputable section

namespace Cert.SlotSum

open Idealize.ShloMosaic

/-- Eight parts of `a` arrays of `R` rows of `c` numbers, `a` such arrays, and one of them by itself. -/
abbrev Parts (a R c : ℕ) : Shape := ⟨4, ![8, a, R, c]⟩
abbrev Arrays (a R c : ℕ) : Shape := ⟨3, ![a, R, c]⟩
abbrev Plane (R c : ℕ) : Shape := ⟨2, ![R, c]⟩
abbrev Part (R c : ℕ) : Shape := ⟨4, ![1, 1, R, c]⟩

variable {a R N c : ℕ}

/-- Row `i` of part `s` in the whole array. -/
def row (hN : N = 8 * R) (s : Fin 8) (i : Fin R) : Fin N :=
  ⟨s.val * R + i.val, by
    have h := Nat.mul_le_mul_right R (Nat.le_of_lt_succ s.isLt)
    have hi := i.isLt
    omega⟩

/-- The eight parts added, the one whose number is `w` taken from the whole arrays. -/
def summed (hN : N = 8 * R) (w : BitVec 32) (land : Vec Ideal (Parts a R c) .bf16) (whole : Vec Ideal (Arrays a N c) .bf16) :
    Vec Ideal (Arrays a R c) .f32 :=
  fun i => (∑ s : Fin 8, if w = BitVec.ofNat 32 s.val then whole (ix3 (i 0) (row hN s (i 1)) (i 2)) else land (ix4 s (i 0) (i 1) (i 2)) : EReal)

/-- A choice by a comparison of two words. -/
theorem chosen {α : Type} (x y : BitVec 32) (p q : α) : Scalar.select (Scalar.cmpi .eq x y) p q = if x = y then p else q := by
  by_cases h : x = y
  · subst h; simp [Scalar.select, Scalar.cmpi, IntOp.cmpi]
  · have e : (x == y) = false := by simpa using h
    simp only [Scalar.select, Scalar.cmpi, IntOp.cmpi, e]
    rw [if_neg h]
    exact if_neg (by decide)

/-- One step of the sum: the part of number `k`, or the own part when that is the device's number. -/
abbrev step (w k : BitVec 32) (own : Vec Ideal (Arrays 1 R c) .bf16) (l : Vec Ideal (Part R c) .bf16)
    (h1 : (Arrays 1 R c).ShapeCasts (Plane R c)) (h2 : (Part R c).ShapeCasts (Plane R c)) (hb : FTy.bits .bf16 < FTy.bits .f32) :
    FVec Ideal (Plane R c) .f32 :=
  extf .f32 (Scalar.select (Scalar.cmpi .eq w k) (shapeCast (Plane R c) own h1) (shapeCast (Plane R c) l h2) : FVec Ideal (Plane R c) .bf16) hb

theorem step_apply (w k : BitVec 32) (own : Vec Ideal (Arrays 1 R c) .bf16) (l : Vec Ideal (Part R c) .bf16)
    (h1 : (Arrays 1 R c).ShapeCasts (Plane R c)) (h2 : (Part R c).ShapeCasts (Plane R c)) (hb : FTy.bits .bf16 < FTy.bits .f32)
    (p : (Plane R c).Idx) :
    step w k own l h1 h2 hb p = (if w = k then own (ix3 0 (p 0) (p 1)) else l (ix4 0 0 (p 0) (p 1)) : EReal) := by
  show (Scalar.select (Scalar.cmpi .eq w k) (shapeCast (Plane R c) own h1) (shapeCast (Plane R c) l h2) : FVec Ideal (Plane R c) .bf16) p = _
  rw [chosen]
  have e1 : shapeCast (Plane R c) own h1 p = own (ix3 0 (p 0) (p 1)) := by
    refine shapeCast_apply own h1 p _ ?_
    rw [Shape.rowMajor_val_three, Shape.rowMajor_val_two]
    show (0 * R + (p 0).val) * c + (p 1).val = (p 0).val * c + (p 1).val
    rw [Nat.zero_mul, Nat.zero_add]
  have e2 : shapeCast (Plane R c) l h2 p = l (ix4 0 0 (p 0) (p 1)) := by
    refine shapeCast_apply l h2 p _ ?_
    rw [Shape.rowMajor_val_four, Shape.rowMajor_val_two]
    show ((0 * 1 + 0) * R + (p 0).val) * c + (p 1).val = (p 0).val * c + (p 1).val
    simp only [Nat.zero_mul, Nat.zero_add, Nat.add_zero]
  by_cases h : w = k
  · rw [if_pos h, if_pos h]; exact e1
  · rw [if_neg h, if_neg h]; exact e2

/-- The eight steps added one after the other, read at an index. -/
theorem added (w : BitVec 32) (own : Vec Ideal (Arrays 1 R c) .bf16) (land : Vec Ideal (Parts 1 R c) .bf16)
    (l : Fin 8 → Vec Ideal (Part R c) .bf16) (hl : ∀ s (i : Fin R) (j : Fin c), l s (ix4 0 0 i j) = land (ix4 s 0 i j))
    (h1 : (Arrays 1 R c).ShapeCasts (Plane R c)) (h2 : (Part R c).ShapeCasts (Plane R c)) (h3 : (Plane R c).ShapeCasts (Arrays 1 R c))
    (hb : FTy.bits .bf16 < FTy.bits .f32) (y : (Arrays 1 R c).Idx) :
    shapeCast (Arrays 1 R c)
      (addf (addf (addf (addf (addf (addf (addf (step w 0#32 own (l 0) h1 h2 hb) (step w 1#32 own (l 1) h1 h2 hb))
        (step w 2#32 own (l 2) h1 h2 hb)) (step w 3#32 own (l 3) h1 h2 hb)) (step w 4#32 own (l 4) h1 h2 hb))
        (step w 5#32 own (l 5) h1 h2 hb)) (step w 6#32 own (l 6) h1 h2 hb)) (step w 7#32 own (l 7) h1 h2 hb)) h3 y
      = (∑ s : Fin 8, if w = BitVec.ofNat 32 s.val then own y else land (ix4 s 0 (y 1) (y 2)) : EReal) := by
  have e : y = ix3 0 (y 1) (y 2) := funext fun d => by
    match d with
    | ⟨0, _⟩ => exact Subsingleton.elim (α := Fin 1) _ _
    | ⟨1, _⟩ => rfl
    | ⟨2, _⟩ => rfl
  have one : ∀ s : Fin 8, step w (BitVec.ofNat 32 s.val) own (l s) h1 h2 hb (ix2 (y 1) (y 2))
      = (if w = BitVec.ofNat 32 s.val then own y else land (ix4 s 0 (y 1) (y 2)) : EReal) := fun s => by
    refine (step_apply w _ own (l s) h1 h2 hb _).trans ?_
    by_cases h : w = BitVec.ofNat 32 s.val
    · rw [if_pos h, if_pos h]; exact (congrArg own e).symm
    · rw [if_neg h, if_neg h]; exact hl s (y 1) (y 2)
  refine (shapeCast_apply _ h3 y (ix2 (y 1) (y 2)) ?_).trans ?_
  · rw [Shape.rowMajor_val_three, Shape.rowMajor_val_two]
    have h0 : (y 0).val = 0 := Nat.lt_one_iff.1 (y 0).isLt
    show (y 1).val * c + (y 2).val = ((y 0).val * R + (y 1).val) * c + (y 2).val
    rw [h0, Nat.zero_mul, Nat.zero_add]
  · rw [Fin.sum_univ_eight, ← one 0, ← one 1, ← one 2, ← one 3, ← one 4, ← one 5, ← one 6, ← one 7]
    rfl

/-- A device's number, read signed, is below eight. -/
theorem number_lt (w : BitVec 32) (h0 : IntOp.cmpi .sge w 0#32 = 1#1) (h8 : IntOp.cmpi .slt w 8#32 = 1#1) : w.toNat < 8 := by
  have a0 : (0#32).sle w = true := by
    revert h0; show BitVec.ofBool ((0#32).sle w) = 1#1 → _; cases (0#32).sle w <;> decide
  have a8 : w.slt 8#32 = true := by
    revert h8; show BitVec.ofBool (w.slt 8#32) = 1#1 → _; cases w.slt 8#32 <;> decide
  have hu : w.ult 8#32 = true := by
    simp only [BitVec.sle, BitVec.slt, BitVec.ult, decide_eq_true_eq, BitVec.toInt_eq_toNat_cond] at *
    have := w.isLt
    simp at *
    split at a0 <;> split at a8 <;> omega
  simpa [BitVec.ult] using hu

/-- So it is one of the eight. -/
theorem number_of (w : BitVec 32) (h0 : IntOp.cmpi .sge w 0#32 = 1#1) (h8 : IntOp.cmpi .slt w 8#32 = 1#1) :
    ∃ s : Fin 8, w = BitVec.ofNat 32 s.val :=
  ⟨⟨w.toNat, number_lt w h0 h8⟩, (by simp)⟩

theorem bits_zero : Idealize.ShloMosaic.Ideal.ofBits .f32 0x00000000#32 = (0 : EReal) := by
  simp [Ideal.ofBits, Ideal.ieee]

/-- The device's number, from a one-word table, -/
abbrev word {F : FTy → Type} (x : Vec F ⟨1, ![1]⟩ .i32) : BitVec 32 := x (ix1 (0 : Fin 1))

/-- which has one entry. -/
theorem word_eq {F : FTy → Type} (x : Vec F ⟨1, ![1]⟩ .i32) (i : Shape.Idx ⟨1, ![1]⟩) : x i = word x :=
  congrArg x (funext fun a => by match a with | ⟨0, _⟩ => exact Subsingleton.elim (α := Fin 1) _ _)

end Cert.SlotSum

end
-- ==== Proof.SumWoValue.lean ====
/-
  The sum over the devices of the gradient of one array of output projections of the feed-forward layers: the kernel's result is the reference's.
-/
module

public import proofs.«01_k».proof.Defs
public import proofs.«01_k».proof.Proof.SlotSum
public import proofs.«01_k».proof.Proof.Gen.SumWoKernel.Frame
public import proofs.«01_k».proof.Proof.Gen.SumWoKernelIdeal.Frame
public import proofs.«01_k».proof.Proof.Gen.SumWoReferenceIdeal.Run
public import proofs.«01_k».proof.Proof.Gen.SumWoReferenceIdeal.Read
public import Idealize.ShloMosaic.Lib.Pipeline.ValueKit.Geometry
public import Idealize.ShloMosaic.Lib.Affine
public import Idealize.ShloMosaic.Lib.WholeRead
public import Idealize.ShloMosaic.Lib.VecWindow
public import Idealize.ShloMosaic.Lib.Tactic
public import Idealize.ShloMosaic.Lib.Claim

@[expose] public section

noncomputable section

open Idealize.ShloMosaic Idealize.ShloMosaic.TcCoe Idealize.SL.Sem

namespace Cert.SumWoKernelIdeal.Total

open Cert.SumWoKernelIdeal Cert.SumWoKernelIdeal.Gen Cert.SlotSum

theorem preFacts : Cert.Pre_device_number_wo.Facts where
  bcast_S_S1 := by decide

theorem preserves : Cert.preserves_SumWoKernel_SumWoKernelIdeal := trivial

/-! ## What the kernel's body leaves -/

/-- Where each of the eight parts lies. -/
theorem lies : ∀ (s : Fin 8) a, (![s.val, 0, 0, 0] : Fin 4 → Nat) a + S1x1x352x1024.size a ≤ S8x1x352x1024.size a := by decide

/-- What the body leaves at an index of the block. -/
theorem out_apply (c : Dev nD) (i : grid0.Coords) (a3 : Memref sig .tc .vmem S8x1x352x1024 .bf16) (h3 : a3.IsWhole)
    (a4 : Memref sig .tc .vmem S1x352x1024 .bf16) (h4 : a4.IsWhole) (a5 : Memref sig .tc .vmem S1x352x1024 .f32) (h5 : a5.IsWhole)
    (x0 : Vec Ideal S8x1x352x1024 .bf16) (x1 : Vec Ideal S1x352x1024 .bf16) (xt : TbBuf0 (F := Ideal) c tbM0_0) (y : S1x352x1024.Idx) :
    out0_A_2 (F := Ideal) c i a3 h3 a4 h4 a5 h5 x0 x1 xt y
      = (∑ s : Fin 8, if word xt = BitVec.ofNat 32 s.val then x1 y else x0 (ix4 s 0 (y 1) (y 2)) : EReal) := by
  unfold out0_A_2 kernelRun0_A
  dsimp only
  erw [View.read_writes_full]
  have own : View.readAt (Elt Ideal) a4.view (Rect.unit ![0, 0, 0] S1x352x1024.size inb_S1x352x1024_S1x352x1024_0_0_0).toLoadRect
      (h4.unread x1) = x1 := (View.readAt_full _ _ _).trans (h4.read_unread x1)
  have num : View.readAt (Elt Ideal) tbM0_0.view (Rect.unit (s := S1) ![0] S1.size inb_S1_S1_0).toLoadRect xt
      (Shape.Idx.first (numel1_S1.symm ▸ Nat.one_pos)) = word xt := word_eq xt _
  have part : ∀ (s : Fin 8) (h : ∀ a, (![s.val, 0, 0, 0] : Fin 4 → Nat) a + S1x1x352x1024.size a ≤ S8x1x352x1024.size a) (p : Fin 352) (q : Fin 1024),
      View.readAt (Elt Ideal) a3.view (Rect.unit (s := S8x1x352x1024) ![s.val, 0, 0, 0] S1x1x352x1024.size h).toLoadRect (h3.unread x0)
        (ix4 (0 : Fin 1) (0 : Fin 1) p q) = x0 (ix4 s 0 p q) := fun s h p q =>
    (h3.readAt_unread x0 _ _).trans (View.ld_unit_apply_of x0 _ _ h _ (ix4 s 0 p q) fun a => by
      match a with
      | ⟨0, _⟩ => rfl
      | ⟨1, _⟩ => rfl
      | ⟨2, _⟩ => exact (Nat.zero_add _).symm
      | ⟨3, _⟩ => exact (Nat.zero_add _).symm)
  unfold kernelRun0_A.sl.r_2 kernelRun0_A.sl.v54 kernelRun0_A.sl.r_3 kernelRun0_A.sl.v57 kernelRun0_A.sl.r_4 kernelRun0_A.sl.v66
  unfold kernelRun0_A.sl.r_1 kernelRun0_A.sl.v27 kernelRun0_A.sl.r
  unfold k0_pay1 k0_pay2 k0_pay3 k0_pay4
  refine Eq.trans ?_ ((added (View.readAt (Elt Ideal) tbM0_0.view (Rect.unit (s := S1) ![0] S1.size inb_S1_S1_0).toLoadRect xt
      (Shape.Idx.first (numel1_S1.symm ▸ Nat.one_pos)))
    (View.readAt (Elt Ideal) a4.view (Rect.unit ![0, 0, 0] S1x352x1024.size inb_S1x352x1024_S1x352x1024_0_0_0).toLoadRect (h4.unread x1))
    x0 (fun s => View.readAt (Elt Ideal) a3.view (Rect.unit (s := S8x1x352x1024) ![s.val, 0, 0, 0] S1x1x352x1024.size (lies s)).toLoadRect
      (h3.unread x0)) (fun s p q => part s (lies s) p q) shapeCasts_S1x352x1024_S352x1024 shapeCasts_S1x1x352x1024_S352x1024
    shapeCasts_S352x1024_S1x352x1024 bitsLt_bf16_f32 y).trans ?_)
  · rfl
  · rw [own, num]

/-! ## The blocks lie inside their arrays -/

variable {F : FTy → Type} [FloatOps F]

/-- The device's number, as both kernels' memories hold it. -/
abbrev device (m : (ℓ : Loc nD τ sig) → Buf (Elt F) ℓ) : BitVec 32 := (m (((0 : Dev nD) : Thread nD τ).loc main_arg2) : Vec F S1 .i32) (ix1 (0 : Fin 1))

/-- Which block of the whole array a grid point is given, -/
theorem own_block (m : (ℓ : Loc nD τ sig) → Buf (Elt F) ℓ) (i : grid0.Coords) :
    cc0_transform_1 inb_S1_S1_0 numel1_S1 (tbl m) i
      = ![(BitVec.ofNat 32 (i 0).val).toNat, (Scalar.addi (Scalar.muli (device m) 1#32) (BitVec.ofNat 32 (i 1).val)).toNat, 0] := by
  have e : (tbl m).at 0 (Rect.unit (s := S1) ![0] S1.size inb_S1_S1_0) numel1_S1 = device m := word_eq _ _
  unfold cc0_transform_1
  dsimp only
  rw [e]
  rfl

/-- by number, at each of the eight devices. -/
theorem own_index : ∀ (s : Fin 8) (i : grid0.Coords),
    (![(BitVec.ofNat 32 (i 0).val).toNat, (Scalar.addi (Scalar.muli (BitVec.ofNat 32 s.val) 1#32) (BitVec.ofNat 32 (i 1).val)).toNat, 0] : Fin 3 → ℕ)
      = ![(i 0).val, s.val * 1 + (i 1).val, 0] := by decide +kernel

theorem own_inside : ∀ (s : Fin 8) (i : grid0.Coords) (a : Fin 3),
    ((![(i 0).val, s.val * 1 + (i 1).val, 0] : Fin 3 → ℕ) a + 1) * S1x352x1024.size a ≤ S1x2816x1024.size a := by decide +kernel

theorem ok (m : (ℓ : Loc nD τ sig) → Buf (Elt F) ℓ) (h : ∃ s : Fin 8, device m = BitVec.ofNat 32 s.val) : Ok m := by
  obtain ⟨s, hs⟩ := h
  intro i
  refine ⟨?_, .inr (Affine.block_words_dvd (of_decide_eq_true rfl) (by decide))⟩
  rw [own_block, hs, own_index]
  exact own_inside s i

/-- The kernel as printed reads its blocks at the same places. -/
theorem ok_printed (m : (ℓ : Loc Cert.SumWoKernel.nD Cert.SumWoKernel.τ Cert.SumWoKernel.sig) → Buf (Elt Bits) ℓ)
    (hm : Cert.Pre_SumWoKernel (hPre_device_number_wo := preFacts) m) : Cert.SumWoKernel.Gen.Ok m :=
  ok (F := Bits) m (number_of _ (congrFun (hm 0).1 (ix1 (0 : Fin 1))) (congrFun (hm 0).2 (ix1 (0 : Fin 1))))

/-! ## The array the kernel leaves -/

variable (m : (ℓ : Loc nD τ sig) → Buf (Elt Ideal) ℓ) (ρ : Dev nD → PrngReg) (hO : Ok m)

/-- The arrived parts and the whole array. -/
abbrev land (c : Dev nD) : Vec Ideal S8x1x352x1024 .bf16 := m ((c : Thread nD τ).loc main_arg0)
abbrev whole (c : Dev nD) : Vec Ideal S1x2816x1024 .bf16 := m ((c : Thread nD τ).loc main_arg1)

/-- The sum. -/
abbrev goal (c : Dev nD) : Vec Ideal S1x352x1024 .f32 :=
  summed (a := 1) (R := 352) (N := 2816) (c := 1024) rfl (device m) (land m c) (whole m c)

theorem ix_land : ∀ i : grid0.Coords, cc0_transform_0 i = ![0, (i 0).val, (i 1).val, 0] := by decide +kernel
theorem ix_out : ∀ i : grid0.Coords, cc0_transform_2 i = ![(i 0).val, (i 1).val, 0] := by decide +kernel

/-- The index of the result that a block's index is at. -/
def at_ (i : grid0.Coords) (y : S1x352x1024.Idx) : S1x352x1024.Idx :=
  ix3 (n0 := 1) (n1 := 352) (n2 := 1024) ⟨(i 0).val, (i 0).isLt⟩ ⟨(i 1).val * 352 + (y 1).val, by
    have h1 : (i 1).val < 1 := (i 1).isLt
    have h2 : (y 1).val < 352 := (y 1).isLt
    omega⟩ (y 2)

theorem block_out (c : Dev nD) (R : Vec Ideal S1x352x1024 .f32) (t : Fin (cfgM m hO).N) (y : S1x352x1024.Idx) :
    (((cfgM m hO).win 2).blk t).view.read (Elt Ideal) R y = R (at_ (grid0.coords t) y) := by
  erw [View.read_apply]
  show R _ = R _
  congr 1
  have e := ix_out (grid0.coords t)
  funext d
  apply Fin.ext
  have h0 : (y 0).val < 1 := (y 0).isLt
  match d with
  | ⟨0, _⟩ => show cc0_transform_2 (grid0.coords t) (0 : Fin 3) * 1 + 1 * (y 0).val = (grid0.coords t 0).val; rw [e]; show (grid0.coords t 0).val * 1 + 1 * (y 0).val = _; omega
  | ⟨1, _⟩ => show cc0_transform_2 (grid0.coords t) (1 : Fin 3) * 352 + 1 * (y 1).val = (grid0.coords t 1).val * 352 + (y 1).val; rw [e]; show (grid0.coords t 1).val * 352 + 1 * (y 1).val = _; omega
  | ⟨2, _⟩ => show cc0_transform_2 (grid0.coords t) (2 : Fin 3) * 1024 + 1 * (y 2).val = (y 2).val; rw [e]; show 0 * 1024 + 1 * (y 2).val = _; omega

theorem block_land (c : Dev nD) (t : Fin (cfgM m hO).N) (s : Fin 8) (y : S1x352x1024.Idx) :
    (iblk m hO c 0 t : Vec Ideal S8x1x352x1024 .bf16) (ix4 s 0 (y 1) (y 2))
      = land m c (ix4 s (at_ (grid0.coords t) y 0) (at_ (grid0.coords t) y 1) (at_ (grid0.coords t) y 2)) := by
  unfold iblk
  erw [View.read_apply]
  show land m c _ = land m c _
  congr 1
  have e := ix_land (grid0.coords t)
  funext d
  apply Fin.ext
  match d with
  | ⟨0, _⟩ => show cc0_transform_0 (grid0.coords t) (0 : Fin 4) * 8 + 1 * s.val = s.val; rw [e]; show 0 * 8 + 1 * s.val = _; omega
  | ⟨1, _⟩ => show cc0_transform_0 (grid0.coords t) (1 : Fin 4) * 1 + 1 * 0 = (grid0.coords t 0).val; rw [e]; show (grid0.coords t 0).val * 1 + 1 * 0 = _; omega
  | ⟨2, _⟩ => show cc0_transform_0 (grid0.coords t) (2 : Fin 4) * 352 + 1 * (y 1).val = (grid0.coords t 1).val * 352 + (y 1).val; rw [e]; show (grid0.coords t 1).val * 352 + 1 * (y 1).val = _; omega
  | ⟨3, _⟩ => show cc0_transform_0 (grid0.coords t) (3 : Fin 4) * 1024 + 1 * (y 2).val = (y 2).val; rw [e]; show 0 * 1024 + 1 * (y 2).val = _; omega

theorem block_own (c : Dev nD) (t : Fin (cfgM m hO).N) (s : Fin 8) (hs : device m = BitVec.ofNat 32 s.val) (y : S1x352x1024.Idx) :
    (iblk m hO c 1 t : Vec Ideal S1x352x1024 .bf16) y
      = whole m c (ix3 (at_ (grid0.coords t) y 0) (row (R := 352) (N := 2816) rfl s (at_ (grid0.coords t) y 1)) (at_ (grid0.coords t) y 2)) := by
  unfold iblk
  erw [View.read_apply]
  show whole m c _ = whole m c _
  congr 1
  have e := (own_block m (grid0.coords t)).trans ((congrArg (fun w => ![(BitVec.ofNat 32 (grid0.coords t 0).val).toNat, (Scalar.addi (Scalar.muli w 1#32) (BitVec.ofNat 32 (grid0.coords t 1).val)).toNat, 0]) hs).trans (own_index s (grid0.coords t)))
  funext d
  apply Fin.ext
  have h0 : (y 0).val < 1 := (y 0).isLt
  match d with
  | ⟨0, _⟩ => show cc0_transform_1 inb_S1_S1_0 numel1_S1 (tbl m) (grid0.coords t) (0 : Fin 3) * 1 + 1 * (y 0).val = (grid0.coords t 0).val; rw [e]; show (grid0.coords t 0).val * 1 + 1 * (y 0).val = _; omega
  | ⟨1, _⟩ => show cc0_transform_1 inb_S1_S1_0 numel1_S1 (tbl m) (grid0.coords t) (1 : Fin 3) * 352 + 1 * (y 1).val = s.val * 352 + ((grid0.coords t 1).val * 352 + (y 1).val); rw [e]; show (s.val * 1 + (grid0.coords t 1).val) * 352 + 1 * (y 1).val = _; omega
  | ⟨2, _⟩ => show cc0_transform_1 inb_S1_S1_0 numel1_S1 (tbl m) (grid0.coords t) (2 : Fin 3) * 1024 + 1 * (y 2).val = (y 2).val; rw [e]; show 0 * 1024 + 1 * (y 2).val = _; omega

theorem flushed_eq (c : Dev nD) (t : Fin (cfgM m hO).N) :
    (dats m hO 0 c).flushed 2 t = (((cfgM m hO).win 2).blk t).view.read (Elt Ideal) (goal m c) := by
  show ((cfgM m hO).win 2).cut (grid0.coords t) ((dats m hO 0 c).after 2 t) = _
  rw [after0_2]
  funext y
  show outsAt0 m hO c t y = _
  unfold outsAt0
  refine (out_apply c _ _ _ _ _ _ _ (iblk m hO c 0 t) (iblk m hO c 1 t) (tbl m 0) y).trans ?_
  refine Eq.trans ?_ (block_out m hO c (goal m c) t y).symm
  refine Finset.sum_congr rfl fun s _ => ?_
  by_cases h : device m = BitVec.ofNat 32 s.val
  · exact (if_pos h).trans ((block_own m hO c t s h y).trans (if_pos h).symm)
  · exact (if_neg h).trans ((block_land m hO c t s y).trans (if_neg h).symm)

/-- Every index of the result is in some grid point's block. -/
theorem onto : ∀ (p : Fin 1) (q : Fin 1), ∃ t : Fin grid0.N, cc0_transform_2 (grid0.coords t) = ![p.val, q.val, 0] := by decide +kernel

theorem covered (i : S1x352x1024.Idx) : ∃ t : Fin (cfgM m hO).N, ((cfgM m hO).win 2).flush t = true ∧ i ∈ (((cfgM m hO).win 2).blk t).view.set := by
  have h0 : (i 0).val < 1 := (i 0).isLt
  have h1 : (i 1).val < 352 := (i 1).isLt
  have h2 : (i 2).val < 1024 := (i 2).isLt
  obtain ⟨t, ht⟩ := onto ⟨(i 0).val, h0⟩ ⟨(i 1).val / 352, by omega⟩
  refine ⟨t, flush0_2 (adm m hO) t, ?_⟩
  show i ∈ ((View.whole main_v0).slice (((cfgM m hO).win 2).rect t)).set
  erw [View.set_slice_whole, Rect.mem_set_unit]
  have key : ∀ (n : Fin 3 → ℕ), n = ![(i 0).val, (i 1).val / 352, 0] →
      ∀ a : Fin 3, n a * S1x352x1024.size a ≤ (i a).val ∧ (i a).val < n a * S1x352x1024.size a + S1x352x1024.size a := by
    intro n hn
    subst hn
    intro a
    match a with
    | ⟨0, _⟩ => show (i 0).val * 1 ≤ (i 0).val ∧ (i 0).val < (i 0).val * 1 + 1; omega
    | ⟨1, _⟩ => show (i 1).val / 352 * 352 ≤ (i 1).val ∧ (i 1).val < (i 1).val / 352 * 352 + 352; omega
    | ⟨2, _⟩ => show 0 * 1024 ≤ (i 2).val ∧ (i 2).val < 0 * 1024 + 1024; omega
  exact key _ ht

theorem final (c : Dev nD) : (dats m hO 0 c).arrAt 2 (cfgM m hO).N = goal m c :=
  (dats m hO 0 c).arrAt_eq_of_cover 2 _ (fun t _ => flushed_eq m hO c t) (covered m hO)

/-! ## The precondition says the number is one of the eight -/

theorem exists_number (hm : Cert.Pre_SumWoKernelIdeal (hPre_device_number_wo := preFacts) m) : ∃ s : Fin 8, device m = BitVec.ofNat 32 s.val :=
  number_of (device m) (congrFun (hm 0).1 (ix1 (0 : Fin 1))) (congrFun (hm 0).2 (ix1 (0 : Fin 1)))

/-! ## The reference's sum -/

open Cert.SumWoReferenceIdeal.Read

theorem reference (x0 : Vec Ideal S8x1x352x1024 .bf16) (x1 : Vec Ideal S1x2816x1024 .bf16) (x2 : Vec Ideal S1 .i32) :
    val_main_v8 (F := Ideal) x0 x1 x2 = summed (a := 1) (R := 352) (N := 2816) (c := 1024) rfl (word x2) x0 x1 := by
  funext i
  have h0 : (i 0).val < 1 := (i 0).isLt
  have h1 : (i 1).val < 352 := (i 1).isLt
  have h2 : (i 2).val < 1024 := (i 2).isLt
  refine (val_main_v8_apply x0 x1 x2 i).trans ((congrArg₂ (· + ·) bits_zero (Finset.sum_congr rfl fun s _ => ?_)).trans (zero_add _))
  show Scalar.select (val_main_call0_v0 (F := Ideal) x2 (idx_main_v8 i s)) (val_main_v5 (F := Ideal) x1 (idx_main_v8 i s)) (x0 (idx_main_v8 i s)) = _
  have hm : val_main_call0_v0 (F := Ideal) x2 (idx_main_v8 i s) = Scalar.cmpi .eq (BitVec.ofNat 32 s.val) (word x2) := by
    rw [val_main_call0_v0_apply, val_main_v3_apply, val_main_v2_apply, val_main_v1_apply, val_main_v0_apply]
    exact congrArg (IntOp.cmpi .eq (BitVec.ofNat 32 s.val)) (word_eq x2 _)
  have hw : val_main_v5 (F := Ideal) x1 (idx_main_v8 i s) = x1 (ix3 (i 0) (row (R := 352) (N := 2816) rfl s (i 1)) (i 2)) := by
    rw [val_main_v5_apply, val_main_v4_apply]
    congr 1
    funext d
    apply Fin.ext
    have hs : s.val < 8 := s.isLt
    match d with
    | ⟨0, _⟩ => show 0 = (i 0).val; omega
    | ⟨1, _⟩ => show ((((i 0).val * 8 + s.val) * 352 + (i 1).val) * 1024 + (i 2).val) / 1024 % 2816 = s.val * 352 + (i 1).val; omega
    | ⟨2, _⟩ => show ((((i 0).val * 8 + s.val) * 352 + (i 1).val) * 1024 + (i 2).val) % 1024 = (i 2).val; omega
  have hl : idx_main_v8 i s = ix4 s (i 0) (i 1) (i 2) := funext fun d => by
    match d with
    | ⟨0, _⟩ => rfl
    | ⟨1, _⟩ => rfl
    | ⟨2, _⟩ => rfl
    | ⟨3, _⟩ => rfl
  refine (congrArg (fun q => Scalar.select q (val_main_v5 (F := Ideal) x1 (idx_main_v8 i s)) (x0 (idx_main_v8 i s))) hm).trans ((chosen _ _ _ _).trans ?_)
  by_cases h : word x2 = BitVec.ofNat 32 s.val
  · exact (if_pos h.symm).trans (hw.trans (if_pos h).symm)
  · exact (if_neg (Ne.symm h)).trans ((congrArg x0 hl).trans (if_neg h).symm)

/-! ## The claim -/

theorem algebraic : Cert.algebraic_SumWoKernelIdeal_SumWoReferenceIdeal (hPre_device_number_wo := preFacts) := by
  intro m g m' g' hpre hargs
  have hO : Ok m := ok m (exists_number m hpre)
  refine ⟨fun c => goal m c, ?_, ?_⟩
  · refine (θ_run _ _ _).mono (fun r h c => ?_) (θ_run_and (run_main m g hO) (unchanged m g hO))
    exact ⟨((h.1 c).1 2).trans (final m hO c), h.2 c⟩
  · refine (θ_run _ _ _).mono (fun r h c => ?_) (Cert.SumWoReferenceIdeal.Value.run m' g')
    obtain ⟨h0, hr⟩ := h c
    obtain ⟨e0, e1, e2⟩ := hargs c
    obtain rfl : c = 0 := Subsingleton.elim (α := Fin 1) _ _
    refine ⟨h0.trans ?_, hr⟩
    refine (reference _ _ _).trans ?_
    rw [e0, e1, e2]

end Cert.SumWoKernelIdeal.Total

end
-- ==== Proof.SumOutValue.lean ====
/-
  The sum over the devices of the gradient of the attention's output projection: the kernel's result is the reference's.
-/
module

public import proofs.«01_k».proof.Defs
public import proofs.«01_k».proof.Proof.SlotSum
public import proofs.«01_k».proof.Proof.Gen.SumOutKernel.Frame
public import proofs.«01_k».proof.Proof.Gen.SumOutKernelIdeal.Frame
public import proofs.«01_k».proof.Proof.Gen.SumOutReferenceIdeal.Run
public import proofs.«01_k».proof.Proof.Gen.SumOutReferenceIdeal.Read
public import Idealize.ShloMosaic.Lib.Pipeline.ValueKit.Geometry
public import Idealize.ShloMosaic.Lib.Affine
public import Idealize.ShloMosaic.Lib.WholeRead
public import Idealize.ShloMosaic.Lib.VecWindow
public import Idealize.ShloMosaic.Lib.Tactic
public import Idealize.ShloMosaic.Lib.Claim

@[expose] public section

noncomputable section

open Idealize.ShloMosaic Idealize.ShloMosaic.TcCoe Idealize.SL.Sem

namespace Cert.SumOutKernelIdeal.Total

open Cert.SumOutKernelIdeal Cert.SumOutKernelIdeal.Gen Cert.SlotSum

theorem preFacts : Cert.Pre_device_number_out.Facts where
  bcast_S_S1 := by decide

theorem preserves : Cert.preserves_SumOutKernel_SumOutKernelIdeal := trivial

/-! ## What the kernel's body leaves -/

/-- Where each of the eight parts lies. -/
theorem lies : ∀ (s : Fin 8) a, (![s.val, 0, 0, 0] : Fin 4 → Nat) a + S1x1x128x1024.size a ≤ S8x1x128x1024.size a := by decide

/-- What the body leaves at an index of the block. -/
theorem out_apply (c : Dev nD) (i : grid0.Coords) (a3 : Memref sig .tc .vmem S8x1x128x1024 .bf16) (h3 : a3.IsWhole)
    (a4 : Memref sig .tc .vmem S1x128x1024 .bf16) (h4 : a4.IsWhole) (a5 : Memref sig .tc .vmem S1x128x1024 .f32) (h5 : a5.IsWhole)
    (x0 : Vec Ideal S8x1x128x1024 .bf16) (x1 : Vec Ideal S1x128x1024 .bf16) (xt : TbBuf0 (F := Ideal) c tbM0_0) (y : S1x128x1024.Idx) :
    out0_A_2 (F := Ideal) c i a3 h3 a4 h4 a5 h5 x0 x1 xt y
      = (∑ s : Fin 8, if word xt = BitVec.ofNat 32 s.val then x1 y else x0 (ix4 s 0 (y 1) (y 2)) : EReal) := by
  unfold out0_A_2 kernelRun0_A
  dsimp only
  erw [View.read_writes_full]
  have own : View.readAt (Elt Ideal) a4.view (Rect.unit ![0, 0, 0] S1x128x1024.size inb_S1x128x1024_S1x128x1024_0_0_0).toLoadRect
      (h4.unread x1) = x1 := (View.readAt_full _ _ _).trans (h4.read_unread x1)
  have num : View.readAt (Elt Ideal) tbM0_0.view (Rect.unit (s := S1) ![0] S1.size inb_S1_S1_0).toLoadRect xt
      (Shape.Idx.first (numel1_S1.symm ▸ Nat.one_pos)) = word xt := word_eq xt _
  have part : ∀ (s : Fin 8) (h : ∀ a, (![s.val, 0, 0, 0] : Fin 4 → Nat) a + S1x1x128x1024.size a ≤ S8x1x128x1024.size a) (p : Fin 128) (q : Fin 1024),
      View.readAt (Elt Ideal) a3.view (Rect.unit (s := S8x1x128x1024) ![s.val, 0, 0, 0] S1x1x128x1024.size h).toLoadRect (h3.unread x0)
        (ix4 (0 : Fin 1) (0 : Fin 1) p q) = x0 (ix4 s 0 p q) := fun s h p q =>
    (h3.readAt_unread x0 _ _).trans (View.ld_unit_apply_of x0 _ _ h _ (ix4 s 0 p q) fun a => by
      match a with
      | ⟨0, _⟩ => rfl
      | ⟨1, _⟩ => rfl
      | ⟨2, _⟩ => exact (Nat.zero_add _).symm
      | ⟨3, _⟩ => exact (Nat.zero_add _).symm)
  unfold kernelRun0_A.sl.r_2 kernelRun0_A.sl.v54 kernelRun0_A.sl.r_3 kernelRun0_A.sl.v57 kernelRun0_A.sl.r_4 kernelRun0_A.sl.v66
  unfold kernelRun0_A.sl.r_1 kernelRun0_A.sl.v27 kernelRun0_A.sl.r
  unfold k0_pay1 k0_pay2 k0_pay3 k0_pay4
  refine Eq.trans ?_ ((added (View.readAt (Elt Ideal) tbM0_0.view (Rect.unit (s := S1) ![0] S1.size inb_S1_S1_0).toLoadRect xt
      (Shape.Idx.first (numel1_S1.symm ▸ Nat.one_pos)))
    (View.readAt (Elt Ideal) a4.view (Rect.unit ![0, 0, 0] S1x128x1024.size inb_S1x128x1024_S1x128x1024_0_0_0).toLoadRect (h4.unread x1))
    x0 (fun s => View.readAt (Elt Ideal) a3.view (Rect.unit (s := S8x1x128x1024) ![s.val, 0, 0, 0] S1x1x128x1024.size (lies s)).toLoadRect
      (h3.unread x0)) (fun s p q => part s (lies s) p q) shapeCasts_S1x128x1024_S128x1024 shapeCasts_S1x1x128x1024_S128x1024
    shapeCasts_S128x1024_S1x128x1024 bitsLt_bf16_f32 y).trans ?_)
  · rfl
  · rw [own, num]

/-! ## The blocks lie inside their arrays -/

variable {F : FTy → Type} [FloatOps F]

/-- The device's number, as both kernels' memories hold it. -/
abbrev device (m : (ℓ : Loc nD τ sig) → Buf (Elt F) ℓ) : BitVec 32 := (m (((0 : Dev nD) : Thread nD τ).loc main_arg2) : Vec F S1 .i32) (ix1 (0 : Fin 1))

/-- Which block of the whole array a grid point is given, -/
theorem own_block (m : (ℓ : Loc nD τ sig) → Buf (Elt F) ℓ) (i : grid0.Coords) :
    cc0_transform_1 inb_S1_S1_0 numel1_S1 (tbl m) i
      = ![(BitVec.ofNat 32 (i 0).val).toNat, (Scalar.addi (Scalar.muli (device m) 1#32) (BitVec.ofNat 32 (i 1).val)).toNat, 0] := by
  have e : (tbl m).at 0 (Rect.unit (s := S1) ![0] S1.size inb_S1_S1_0) numel1_S1 = device m := word_eq _ _
  unfold cc0_transform_1
  dsimp only
  rw [e]
  rfl

/-- by number, at each of the eight devices. -/
theorem own_index : ∀ (s : Fin 8) (i : grid0.Coords),
    (![(BitVec.ofNat 32 (i 0).val).toNat, (Scalar.addi (Scalar.muli (BitVec.ofNat 32 s.val) 1#32) (BitVec.ofNat 32 (i 1).val)).toNat, 0] : Fin 3 → ℕ)
      = ![(i 0).val, s.val * 1 + (i 1).val, 0] := by decide +kernel

theorem own_inside : ∀ (s : Fin 8) (i : grid0.Coords) (a : Fin 3),
    ((![(i 0).val, s.val * 1 + (i 1).val, 0] : Fin 3 → ℕ) a + 1) * S1x128x1024.size a ≤ S1x1024x1024.size a := by decide +kernel

theorem ok (m : (ℓ : Loc nD τ sig) → Buf (Elt F) ℓ) (h : ∃ s : Fin 8, device m = BitVec.ofNat 32 s.val) : Ok m := by
  obtain ⟨s, hs⟩ := h
  intro i
  refine ⟨?_, .inr (Affine.block_words_dvd (of_decide_eq_true rfl) (by decide))⟩
  rw [own_block, hs, own_index]
  exact own_inside s i

/-- The kernel as printed reads its blocks at the same places. -/
theorem ok_printed (m : (ℓ : Loc Cert.SumOutKernel.nD Cert.SumOutKernel.τ Cert.SumOutKernel.sig) → Buf (Elt Bits) ℓ)
    (hm : Cert.Pre_SumOutKernel (hPre_device_number_out := preFacts) m) : Cert.SumOutKernel.Gen.Ok m :=
  ok (F := Bits) m (number_of _ (congrFun (hm 0).1 (ix1 (0 : Fin 1))) (congrFun (hm 0).2 (ix1 (0 : Fin 1))))

/-! ## The array the kernel leaves -/

variable (m : (ℓ : Loc nD τ sig) → Buf (Elt Ideal) ℓ) (ρ : Dev nD → PrngReg) (hO : Ok m)

/-- The arrived parts and the whole array. -/
abbrev land (c : Dev nD) : Vec Ideal S8x1x128x1024 .bf16 := m ((c : Thread nD τ).loc main_arg0)
abbrev whole (c : Dev nD) : Vec Ideal S1x1024x1024 .bf16 := m ((c : Thread nD τ).loc main_arg1)

/-- The sum. -/
abbrev goal (c : Dev nD) : Vec Ideal S1x128x1024 .f32 :=
  summed (a := 1) (R := 128) (N := 1024) (c := 1024) rfl (device m) (land m c) (whole m c)

theorem ix_land : ∀ i : grid0.Coords, cc0_transform_0 i = ![0, (i 0).val, (i 1).val, 0] := by decide +kernel
theorem ix_out : ∀ i : grid0.Coords, cc0_transform_2 i = ![(i 0).val, (i 1).val, 0] := by decide +kernel

/-- The index of the result that a block's index is at. -/
def at_ (i : grid0.Coords) (y : S1x128x1024.Idx) : S1x128x1024.Idx :=
  ix3 (n0 := 1) (n1 := 128) (n2 := 1024) ⟨(i 0).val, (i 0).isLt⟩ ⟨(i 1).val * 128 + (y 1).val, by
    have h1 : (i 1).val < 1 := (i 1).isLt
    have h2 : (y 1).val < 128 := (y 1).isLt
    omega⟩ (y 2)

theorem block_out (c : Dev nD) (R : Vec Ideal S1x128x1024 .f32) (t : Fin (cfgM m hO).N) (y : S1x128x1024.Idx) :
    (((cfgM m hO).win 2).blk t).view.read (Elt Ideal) R y = R (at_ (grid0.coords t) y) := by
  erw [View.read_apply]
  show R _ = R _
  congr 1
  have e := ix_out (grid0.coords t)
  funext d
  apply Fin.ext
  have h0 : (y 0).val < 1 := (y 0).isLt
  match d with
  | ⟨0, _⟩ => show cc0_transform_2 (grid0.coords t) (0 : Fin 3) * 1 + 1 * (y 0).val = (grid0.coords t 0).val; rw [e]; show (grid0.coords t 0).val * 1 + 1 * (y 0).val = _; omega
  | ⟨1, _⟩ => show cc0_transform_2 (grid0.coords t) (1 : Fin 3) * 128 + 1 * (y 1).val = (grid0.coords t 1).val * 128 + (y 1).val; rw [e]; show (grid0.coords t 1).val * 128 + 1 * (y 1).val = _; omega
  | ⟨2, _⟩ => show cc0_transform_2 (grid0.coords t) (2 : Fin 3) * 1024 + 1 * (y 2).val = (y 2).val; rw [e]; show 0 * 1024 + 1 * (y 2).val = _; omega

theorem block_land (c : Dev nD) (t : Fin (cfgM m hO).N) (s : Fin 8) (y : S1x128x1024.Idx) :
    (iblk m hO c 0 t : Vec Ideal S8x1x128x1024 .bf16) (ix4 s 0 (y 1) (y 2))
      = land m c (ix4 s (at_ (grid0.coords t) y 0) (at_ (grid0.coords t) y 1) (at_ (grid0.coords t) y 2)) := by
  unfold iblk
  erw [View.read_apply]
  show land m c _ = land m c _
  congr 1
  have e := ix_land (grid0.coords t)
  funext d
  apply Fin.ext
  match d with
  | ⟨0, _⟩ => show cc0_transform_0 (grid0.coords t) (0 : Fin 4) * 8 + 1 * s.val = s.val; rw [e]; show 0 * 8 + 1 * s.val = _; omega
  | ⟨1, _⟩ => show cc0_transform_0 (grid0.coords t) (1 : Fin 4) * 1 + 1 * 0 = (grid0.coords t 0).val; rw [e]; show (grid0.coords t 0).val * 1 + 1 * 0 = _; omega
  | ⟨2, _⟩ => show cc0_transform_0 (grid0.coords t) (2 : Fin 4) * 128 + 1 * (y 1).val = (grid0.coords t 1).val * 128 + (y 1).val; rw [e]; show (grid0.coords t 1).val * 128 + 1 * (y 1).val = _; omega
  | ⟨3, _⟩ => show cc0_transform_0 (grid0.coords t) (3 : Fin 4) * 1024 + 1 * (y 2).val = (y 2).val; rw [e]; show 0 * 1024 + 1 * (y 2).val = _; omega

theorem block_own (c : Dev nD) (t : Fin (cfgM m hO).N) (s : Fin 8) (hs : device m = BitVec.ofNat 32 s.val) (y : S1x128x1024.Idx) :
    (iblk m hO c 1 t : Vec Ideal S1x128x1024 .bf16) y
      = whole m c (ix3 (at_ (grid0.coords t) y 0) (row (R := 128) (N := 1024) rfl s (at_ (grid0.coords t) y 1)) (at_ (grid0.coords t) y 2)) := by
  unfold iblk
  erw [View.read_apply]
  show whole m c _ = whole m c _
  congr 1
  have e := (own_block m (grid0.coords t)).trans ((congrArg (fun w => ![(BitVec.ofNat 32 (grid0.coords t 0).val).toNat, (Scalar.addi (Scalar.muli w 1#32) (BitVec.ofNat 32 (grid0.coords t 1).val)).toNat, 0]) hs).trans (own_index s (grid0.coords t)))
  funext d
  apply Fin.ext
  have h0 : (y 0).val < 1 := (y 0).isLt
  match d with
  | ⟨0, _⟩ => show cc0_transform_1 inb_S1_S1_0 numel1_S1 (tbl m) (grid0.coords t) (0 : Fin 3) * 1 + 1 * (y 0).val = (grid0.coords t 0).val; rw [e]; show (grid0.coords t 0).val * 1 + 1 * (y 0).val = _; omega
  | ⟨1, _⟩ => show cc0_transform_1 inb_S1_S1_0 numel1_S1 (tbl m) (grid0.coords t) (1 : Fin 3) * 128 + 1 * (y 1).val = s.val * 128 + ((grid0.coords t 1).val * 128 + (y 1).val); rw [e]; show (s.val * 1 + (grid0.coords t 1).val) * 128 + 1 * (y 1).val = _; omega
  | ⟨2, _⟩ => show cc0_transform_1 inb_S1_S1_0 numel1_S1 (tbl m) (grid0.coords t) (2 : Fin 3) * 1024 + 1 * (y 2).val = (y 2).val; rw [e]; show 0 * 1024 + 1 * (y 2).val = _; omega

theorem flushed_eq (c : Dev nD) (t : Fin (cfgM m hO).N) :
    (dats m hO 0 c).flushed 2 t = (((cfgM m hO).win 2).blk t).view.read (Elt Ideal) (goal m c) := by
  show ((cfgM m hO).win 2).cut (grid0.coords t) ((dats m hO 0 c).after 2 t) = _
  rw [after0_2]
  funext y
  show outsAt0 m hO c t y = _
  unfold outsAt0
  refine (out_apply c _ _ _ _ _ _ _ (iblk m hO c 0 t) (iblk m hO c 1 t) (tbl m 0) y).trans ?_
  refine Eq.trans ?_ (block_out m hO c (goal m c) t y).symm
  refine Finset.sum_congr rfl fun s _ => ?_
  by_cases h : device m = BitVec.ofNat 32 s.val
  · exact (if_pos h).trans ((block_own m hO c t s h y).trans (if_pos h).symm)
  · exact (if_neg h).trans ((block_land m hO c t s y).trans (if_neg h).symm)

/-- Every index of the result is in some grid point's block. -/
theorem onto : ∀ (p : Fin 1) (q : Fin 1), ∃ t : Fin grid0.N, cc0_transform_2 (grid0.coords t) = ![p.val, q.val, 0] := by decide +kernel

theorem covered (i : S1x128x1024.Idx) : ∃ t : Fin (cfgM m hO).N, ((cfgM m hO).win 2).flush t = true ∧ i ∈ (((cfgM m hO).win 2).blk t).view.set := by
  have h0 : (i 0).val < 1 := (i 0).isLt
  have h1 : (i 1).val < 128 := (i 1).isLt
  have h2 : (i 2).val < 1024 := (i 2).isLt
  obtain ⟨t, ht⟩ := onto ⟨(i 0).val, h0⟩ ⟨(i 1).val / 128, by omega⟩
  refine ⟨t, flush0_2 (adm m hO) t, ?_⟩
  show i ∈ ((View.whole main_v0).slice (((cfgM m hO).win 2).rect t)).set
  erw [View.set_slice_whole, Rect.mem_set_unit]
  have key : ∀ (n : Fin 3 → ℕ), n = ![(i 0).val, (i 1).val / 128, 0] →
      ∀ a : Fin 3, n a * S1x128x1024.size a ≤ (i a).val ∧ (i a).val < n a * S1x128x1024.size a + S1x128x1024.size a := by
    intro n hn
    subst hn
    intro a
    match a with
    | ⟨0, _⟩ => show (i 0).val * 1 ≤ (i 0).val ∧ (i 0).val < (i 0).val * 1 + 1; omega
    | ⟨1, _⟩ => show (i 1).val / 128 * 128 ≤ (i 1).val ∧ (i 1).val < (i 1).val / 128 * 128 + 128; omega
    | ⟨2, _⟩ => show 0 * 1024 ≤ (i 2).val ∧ (i 2).val < 0 * 1024 + 1024; omega
  exact key _ ht

theorem final (c : Dev nD) : (dats m hO 0 c).arrAt 2 (cfgM m hO).N = goal m c :=
  (dats m hO 0 c).arrAt_eq_of_cover 2 _ (fun t _ => flushed_eq m hO c t) (covered m hO)

/-! ## The precondition says the number is one of the eight -/

theorem exists_number (hm : Cert.Pre_SumOutKernelIdeal (hPre_device_number_out := preFacts) m) : ∃ s : Fin 8, device m = BitVec.ofNat 32 s.val :=
  number_of (device m) (congrFun (hm 0).1 (ix1 (0 : Fin 1))) (congrFun (hm 0).2 (ix1 (0 : Fin 1)))

/-! ## The reference's sum -/

open Cert.SumOutReferenceIdeal.Read

theorem reference (x0 : Vec Ideal S8x1x128x1024 .bf16) (x1 : Vec Ideal S1x1024x1024 .bf16) (x2 : Vec Ideal S1 .i32) :
    val_main_v8 (F := Ideal) x0 x1 x2 = summed (a := 1) (R := 128) (N := 1024) (c := 1024) rfl (word x2) x0 x1 := by
  funext i
  have h0 : (i 0).val < 1 := (i 0).isLt
  have h1 : (i 1).val < 128 := (i 1).isLt
  have h2 : (i 2).val < 1024 := (i 2).isLt
  refine (val_main_v8_apply x0 x1 x2 i).trans ((congrArg₂ (· + ·) bits_zero (Finset.sum_congr rfl fun s _ => ?_)).trans (zero_add _))
  show Scalar.select (val_main_call0_v0 (F := Ideal) x2 (idx_main_v8 i s)) (val_main_v5 (F := Ideal) x1 (idx_main_v8 i s)) (x0 (idx_main_v8 i s)) = _
  have hm : val_main_call0_v0 (F := Ideal) x2 (idx_main_v8 i s) = Scalar.cmpi .eq (BitVec.ofNat 32 s.val) (word x2) := by
    rw [val_main_call0_v0_apply, val_main_v3_apply, val_main_v2_apply, val_main_v1_apply, val_main_v0_apply]
    exact congrArg (IntOp.cmpi .eq (BitVec.ofNat 32 s.val)) (word_eq x2 _)
  have hw : val_main_v5 (F := Ideal) x1 (idx_main_v8 i s) = x1 (ix3 (i 0) (row (R := 128) (N := 1024) rfl s (i 1)) (i 2)) := by
    rw [val_main_v5_apply, val_main_v4_apply]
    congr 1
    funext d
    apply Fin.ext
    have hs : s.val < 8 := s.isLt
    match d with
    | ⟨0, _⟩ => show 0 = (i 0).val; omega
    | ⟨1, _⟩ => show ((((i 0).val * 8 + s.val) * 128 + (i 1).val) * 1024 + (i 2).val) / 1024 % 1024 = s.val * 128 + (i 1).val; omega
    | ⟨2, _⟩ => show ((((i 0).val * 8 + s.val) * 128 + (i 1).val) * 1024 + (i 2).val) % 1024 = (i 2).val; omega
  have hl : idx_main_v8 i s = ix4 s (i 0) (i 1) (i 2) := funext fun d => by
    match d with
    | ⟨0, _⟩ => rfl
    | ⟨1, _⟩ => rfl
    | ⟨2, _⟩ => rfl
    | ⟨3, _⟩ => rfl
  refine (congrArg (fun q => Scalar.select q (val_main_v5 (F := Ideal) x1 (idx_main_v8 i s)) (x0 (idx_main_v8 i s))) hm).trans ((chosen _ _ _ _).trans ?_)
  by_cases h : word x2 = BitVec.ofNat 32 s.val
  · exact (if_pos h.symm).trans (hw.trans (if_pos h).symm)
  · exact (if_neg (Ne.symm h)).trans ((congrArg x0 hl).trans (if_neg h).symm)

/-! ## The claim -/

theorem algebraic : Cert.algebraic_SumOutKernelIdeal_SumOutReferenceIdeal (hPre_device_number_out := preFacts) := by
  intro m g m' g' hpre hargs
  have hO : Ok m := ok m (exists_number m hpre)
  refine ⟨fun c => goal m c, ?_, ?_⟩
  · refine (θ_run _ _ _).mono (fun r h c => ?_) (θ_run_and (run_main m g hO) (unchanged m g hO))
    exact ⟨((h.1 c).1 2).trans (final m hO c), h.2 c⟩
  · refine (θ_run _ _ _).mono (fun r h c => ?_) (Cert.SumOutReferenceIdeal.Value.run m' g')
    obtain ⟨h0, hr⟩ := h c
    obtain ⟨e0, e1, e2⟩ := hargs c
    obtain rfl : c = 0 := Subsingleton.elim (α := Fin 1) _ _
    refine ⟨h0.trans ?_, hr⟩
    refine (reference _ _ _).trans ?_
    rw [e0, e1, e2]

end Cert.SumOutKernelIdeal.Total

end
-- ==== Proof.SumWiValue.lean ====
/-
  The sum over the devices of the gradient of one array of input projections of the feed-forward layers: the kernel's result is the reference's.
-/
module

public import proofs.«01_k».proof.Defs
public import proofs.«01_k».proof.Proof.SlotSum
public import proofs.«01_k».proof.Proof.Gen.SumWiKernel.Frame
public import proofs.«01_k».proof.Proof.Gen.SumWiKernelIdeal.Frame
public import proofs.«01_k».proof.Proof.Gen.SumWiReferenceIdeal.Run
public import proofs.«01_k».proof.Proof.Gen.SumWiReferenceIdeal.Read
public import Idealize.ShloMosaic.Lib.Pipeline.ValueKit.Geometry
public import Idealize.ShloMosaic.Lib.Affine
public import Idealize.ShloMosaic.Lib.WholeRead
public import Idealize.ShloMosaic.Lib.VecWindow
public import Idealize.ShloMosaic.Lib.Tactic
public import Idealize.ShloMosaic.Lib.Claim

@[expose] public section

noncomputable section

open Idealize.ShloMosaic Idealize.ShloMosaic.TcCoe Idealize.SL.Sem

namespace Cert.SumWiKernelIdeal.Total

open Cert.SumWiKernelIdeal Cert.SumWiKernelIdeal.Gen Cert.SlotSum

theorem preFacts : Cert.Pre_device_number_wi.Facts where
  bcast_S_S1 := by decide

theorem preserves : Cert.preserves_SumWiKernel_SumWiKernelIdeal := trivial

/-! ## What the kernel's body leaves -/

/-- Where each of the eight parts lies. -/
theorem lies : ∀ (s : Fin 8) a, (![s.val, 0, 0, 0] : Fin 4 → Nat) a + S1x1x352x1024.size a ≤ S8x1x352x1024.size a := by decide

/-- What the body leaves at an index of the block. -/
theorem out_apply (c : Dev nD) (i : grid0.Coords) (a3 : Memref sig .tc .vmem S8x1x352x1024 .bf16) (h3 : a3.IsWhole)
    (a4 : Memref sig .tc .vmem S1x352x1024 .bf16) (h4 : a4.IsWhole) (a5 : Memref sig .tc .vmem S1x352x1024 .f32) (h5 : a5.IsWhole)
    (x0 : Vec Ideal S8x1x352x1024 .bf16) (x1 : Vec Ideal S1x352x1024 .bf16) (xt : TbBuf0 (F := Ideal) c tbM0_0) (y : S1x352x1024.Idx) :
    out0_A_2 (F := Ideal) c i a3 h3 a4 h4 a5 h5 x0 x1 xt y
      = (∑ s : Fin 8, if word xt = BitVec.ofNat 32 s.val then x1 y else x0 (ix4 s 0 (y 1) (y 2)) : EReal) := by
  unfold out0_A_2 kernelRun0_A
  dsimp only
  erw [View.read_writes_full]
  have own : View.readAt (Elt Ideal) a4.view (Rect.unit ![0, 0, 0] S1x352x1024.size inb_S1x352x1024_S1x352x1024_0_0_0).toLoadRect
      (h4.unread x1) = x1 := (View.readAt_full _ _ _).trans (h4.read_unread x1)
  have num : View.readAt (Elt Ideal) tbM0_0.view (Rect.unit (s := S1) ![0] S1.size inb_S1_S1_0).toLoadRect xt
      (Shape.Idx.first (numel1_S1.symm ▸ Nat.one_pos)) = word xt := word_eq xt _
  have part : ∀ (s : Fin 8) (h : ∀ a, (![s.val, 0, 0, 0] : Fin 4 → Nat) a + S1x1x352x1024.size a ≤ S8x1x352x1024.size a) (p : Fin 352) (q : Fin 1024),
      View.readAt (Elt Ideal) a3.view (Rect.unit (s := S8x1x352x1024) ![s.val, 0, 0, 0] S1x1x352x1024.size h).toLoadRect (h3.unread x0)
        (ix4 (0 : Fin 1) (0 : Fin 1) p q) = x0 (ix4 s 0 p q) := fun s h p q =>
    (h3.readAt_unread x0 _ _).trans (View.ld_unit_apply_of x0 _ _ h _ (ix4 s 0 p q) fun a => by
      match a with
      | ⟨0, _⟩ => rfl
      | ⟨1, _⟩ => rfl
      | ⟨2, _⟩ => exact (Nat.zero_add _).symm
      | ⟨3, _⟩ => exact (Nat.zero_add _).symm)
  unfold kernelRun0_A.sl.r_2 kernelRun0_A.sl.v54 kernelRun0_A.sl.r_3 kernelRun0_A.sl.v57 kernelRun0_A.sl.r_4 kernelRun0_A.sl.v66
  unfold kernelRun0_A.sl.r_1 kernelRun0_A.sl.v27 kernelRun0_A.sl.r
  unfold k0_pay1 k0_pay2 k0_pay3 k0_pay4
  refine Eq.trans ?_ ((added (View.readAt (Elt Ideal) tbM0_0.view (Rect.unit (s := S1) ![0] S1.size inb_S1_S1_0).toLoadRect xt
      (Shape.Idx.first (numel1_S1.symm ▸ Nat.one_pos)))
    (View.readAt (Elt Ideal) a4.view (Rect.unit ![0, 0, 0] S1x352x1024.size inb_S1x352x1024_S1x352x1024_0_0_0).toLoadRect (h4.unread x1))
    x0 (fun s => View.readAt (Elt Ideal) a3.view (Rect.unit (s := S8x1x352x1024) ![s.val, 0, 0, 0] S1x1x352x1024.size (lies s)).toLoadRect
      (h3.unread x0)) (fun s p q => part s (lies s) p q) shapeCasts_S1x352x1024_S352x1024 shapeCasts_S1x1x352x1024_S352x1024
    shapeCasts_S352x1024_S1x352x1024 bitsLt_bf16_f32 y).trans ?_)
  · rfl
  · rw [own, num]

/-! ## The blocks lie inside their arrays -/

variable {F : FTy → Type} [FloatOps F]

/-- The device's number, as both kernels' memories hold it. -/
abbrev device (m : (ℓ : Loc nD τ sig) → Buf (Elt F) ℓ) : BitVec 32 := (m (((0 : Dev nD) : Thread nD τ).loc main_arg2) : Vec F S1 .i32) (ix1 (0 : Fin 1))

/-- Which block of the whole array a grid point is given, -/
theorem own_block (m : (ℓ : Loc nD τ sig) → Buf (Elt F) ℓ) (i : grid0.Coords) :
    cc0_transform_1 inb_S1_S1_0 numel1_S1 (tbl m) i
      = ![(BitVec.ofNat 32 (i 0).val).toNat, (Scalar.addi (Scalar.muli (device m) 2#32) (BitVec.ofNat 32 (i 1).val)).toNat, 0] := by
  have e : (tbl m).at 0 (Rect.unit (s := S1) ![0] S1.size inb_S1_S1_0) numel1_S1 = device m := word_eq _ _
  unfold cc0_transform_1
  dsimp only
  rw [e]
  rfl

/-- by number, at each of the eight devices. -/
theorem own_index : ∀ (s : Fin 8) (i : grid0.Coords),
    (![(BitVec.ofNat 32 (i 0).val).toNat, (Scalar.addi (Scalar.muli (BitVec.ofNat 32 s.val) 2#32) (BitVec.ofNat 32 (i 1).val)).toNat, 0] : Fin 3 → ℕ)
      = ![(i 0).val, s.val * 2 + (i 1).val, 0] := by decide +kernel

theorem own_inside : ∀ (s : Fin 8) (i : grid0.Coords) (a : Fin 3),
    ((![(i 0).val, s.val * 2 + (i 1).val, 0] : Fin 3 → ℕ) a + 1) * S1x352x1024.size a ≤ S1x5632x1024.size a := by decide +kernel

theorem ok (m : (ℓ : Loc nD τ sig) → Buf (Elt F) ℓ) (h : ∃ s : Fin 8, device m = BitVec.ofNat 32 s.val) : Ok m := by
  obtain ⟨s, hs⟩ := h
  intro i
  refine ⟨?_, .inr (Affine.block_words_dvd (of_decide_eq_true rfl) (by decide))⟩
  rw [own_block, hs, own_index]
  exact own_inside s i

/-- The kernel as printed reads its blocks at the same places. -/
theorem ok_printed (m : (ℓ : Loc Cert.SumWiKernel.nD Cert.SumWiKernel.τ Cert.SumWiKernel.sig) → Buf (Elt Bits) ℓ)
    (hm : Cert.Pre_SumWiKernel (hPre_device_number_wi := preFacts) m) : Cert.SumWiKernel.Gen.Ok m :=
  ok (F := Bits) m (number_of _ (congrFun (hm 0).1 (ix1 (0 : Fin 1))) (congrFun (hm 0).2 (ix1 (0 : Fin 1))))

/-! ## The array the kernel leaves -/

variable (m : (ℓ : Loc nD τ sig) → Buf (Elt Ideal) ℓ) (ρ : Dev nD → PrngReg) (hO : Ok m)

/-- The arrived parts and the whole array. -/
abbrev land (c : Dev nD) : Vec Ideal S8x1x704x1024 .bf16 := m ((c : Thread nD τ).loc main_arg0)
abbrev whole (c : Dev nD) : Vec Ideal S1x5632x1024 .bf16 := m ((c : Thread nD τ).loc main_arg1)

/-- The sum. -/
abbrev goal (c : Dev nD) : Vec Ideal S1x704x1024 .f32 :=
  summed (a := 1) (R := 704) (N := 5632) (c := 1024) rfl (device m) (land m c) (whole m c)

theorem ix_land : ∀ i : grid0.Coords, cc0_transform_0 i = ![0, (i 0).val, (i 1).val, 0] := by decide +kernel
theorem ix_out : ∀ i : grid0.Coords, cc0_transform_2 i = ![(i 0).val, (i 1).val, 0] := by decide +kernel

/-- The index of the result that a block's index is at. -/
def at_ (i : grid0.Coords) (y : S1x352x1024.Idx) : S1x704x1024.Idx :=
  ix3 (n0 := 1) (n1 := 704) (n2 := 1024) ⟨(i 0).val, (i 0).isLt⟩ ⟨(i 1).val * 352 + (y 1).val, by
    have h1 : (i 1).val < 2 := (i 1).isLt
    have h2 : (y 1).val < 352 := (y 1).isLt
    omega⟩ (y 2)

theorem block_out (c : Dev nD) (R : Vec Ideal S1x704x1024 .f32) (t : Fin (cfgM m hO).N) (y : S1x352x1024.Idx) :
    (((cfgM m hO).win 2).blk t).view.read (Elt Ideal) R y = R (at_ (grid0.coords t) y) := by
  erw [View.read_apply]
  show R _ = R _
  congr 1
  have e := ix_out (grid0.coords t)
  funext d
  apply Fin.ext
  have h0 : (y 0).val < 1 := (y 0).isLt
  match d with
  | ⟨0, _⟩ => show cc0_transform_2 (grid0.coords t) (0 : Fin 3) * 1 + 1 * (y 0).val = (grid0.coords t 0).val; rw [e]; show (grid0.coords t 0).val * 1 + 1 * (y 0).val = _; omega
  | ⟨1, _⟩ => show cc0_transform_2 (grid0.coords t) (1 : Fin 3) * 352 + 1 * (y 1).val = (grid0.coords t 1).val * 352 + (y 1).val; rw [e]; show (grid0.coords t 1).val * 352 + 1 * (y 1).val = _; omega
  | ⟨2, _⟩ => show cc0_transform_2 (grid0.coords t) (2 : Fin 3) * 1024 + 1 * (y 2).val = (y 2).val; rw [e]; show 0 * 1024 + 1 * (y 2).val = _; omega

theorem block_land (c : Dev nD) (t : Fin (cfgM m hO).N) (s : Fin 8) (y : S1x352x1024.Idx) :
    (iblk m hO c 0 t : Vec Ideal S8x1x352x1024 .bf16) (ix4 s 0 (y 1) (y 2))
      = land m c (ix4 s (at_ (grid0.coords t) y 0) (at_ (grid0.coords t) y 1) (at_ (grid0.coords t) y 2)) := by
  unfold iblk
  erw [View.read_apply]
  show land m c _ = land m c _
  congr 1
  have e := ix_land (grid0.coords t)
  funext d
  apply Fin.ext
  match d with
  | ⟨0, _⟩ => show cc0_transform_0 (grid0.coords t) (0 : Fin 4) * 8 + 1 * s.val = s.val; rw [e]; show 0 * 8 + 1 * s.val = _; omega
  | ⟨1, _⟩ => show cc0_transform_0 (grid0.coords t) (1 : Fin 4) * 1 + 1 * 0 = (grid0.coords t 0).val; rw [e]; show (grid0.coords t 0).val * 1 + 1 * 0 = _; omega
  | ⟨2, _⟩ => show cc0_transform_0 (grid0.coords t) (2 : Fin 4) * 352 + 1 * (y 1).val = (grid0.coords t 1).val * 352 + (y 1).val; rw [e]; show (grid0.coords t 1).val * 352 + 1 * (y 1).val = _; omega
  | ⟨3, _⟩ => show cc0_transform_0 (grid0.coords t) (3 : Fin 4) * 1024 + 1 * (y 2).val = (y 2).val; rw [e]; show 0 * 1024 + 1 * (y 2).val = _; omega

theorem block_own (c : Dev nD) (t : Fin (cfgM m hO).N) (s : Fin 8) (hs : device m = BitVec.ofNat 32 s.val) (y : S1x352x1024.Idx) :
    (iblk m hO c 1 t : Vec Ideal S1x352x1024 .bf16) y
      = whole m c (ix3 (at_ (grid0.coords t) y 0) (row (R := 704) (N := 5632) rfl s (at_ (grid0.coords t) y 1)) (at_ (grid0.coords t) y 2)) := by
  unfold iblk
  erw [View.read_apply]
  show whole m c _ = whole m c _
  congr 1
  have e := (own_block m (grid0.coords t)).trans ((congrArg (fun w => ![(BitVec.ofNat 32 (grid0.coords t 0).val).toNat, (Scalar.addi (Scalar.muli w 2#32) (BitVec.ofNat 32 (grid0.coords t 1).val)).toNat, 0]) hs).trans (own_index s (grid0.coords t)))
  funext d
  apply Fin.ext
  have h0 : (y 0).val < 1 := (y 0).isLt
  match d with
  | ⟨0, _⟩ => show cc0_transform_1 inb_S1_S1_0 numel1_S1 (tbl m) (grid0.coords t) (0 : Fin 3) * 1 + 1 * (y 0).val = (grid0.coords t 0).val; rw [e]; show (grid0.coords t 0).val * 1 + 1 * (y 0).val = _; omega
  | ⟨1, _⟩ => show cc0_transform_1 inb_S1_S1_0 numel1_S1 (tbl m) (grid0.coords t) (1 : Fin 3) * 352 + 1 * (y 1).val = s.val * 704 + ((grid0.coords t 1).val * 352 + (y 1).val); rw [e]; show (s.val * 2 + (grid0.coords t 1).val) * 352 + 1 * (y 1).val = _; omega
  | ⟨2, _⟩ => show cc0_transform_1 inb_S1_S1_0 numel1_S1 (tbl m) (grid0.coords t) (2 : Fin 3) * 1024 + 1 * (y 2).val = (y 2).val; rw [e]; show 0 * 1024 + 1 * (y 2).val = _; omega

theorem flushed_eq (c : Dev nD) (t : Fin (cfgM m hO).N) :
    (dats m hO 0 c).flushed 2 t = (((cfgM m hO).win 2).blk t).view.read (Elt Ideal) (goal m c) := by
  show ((cfgM m hO).win 2).cut (grid0.coords t) ((dats m hO 0 c).after 2 t) = _
  rw [after0_2]
  funext y
  show outsAt0 m hO c t y = _
  unfold outsAt0
  refine (out_apply c _ _ _ _ _ _ _ (iblk m hO c 0 t) (iblk m hO c 1 t) (tbl m 0) y).trans ?_
  refine Eq.trans ?_ (block_out m hO c (goal m c) t y).symm
  refine Finset.sum_congr rfl fun s _ => ?_
  by_cases h : device m = BitVec.ofNat 32 s.val
  · exact (if_pos h).trans ((block_own m hO c t s h y).trans (if_pos h).symm)
  · exact (if_neg h).trans ((block_land m hO c t s y).trans (if_neg h).symm)

/-- Every index of the result is in some grid point's block. -/
theorem onto : ∀ (p : Fin 1) (q : Fin 2), ∃ t : Fin grid0.N, cc0_transform_2 (grid0.coords t) = ![p.val, q.val, 0] := by decide +kernel

theorem covered (i : S1x704x1024.Idx) : ∃ t : Fin (cfgM m hO).N, ((cfgM m hO).win 2).flush t = true ∧ i ∈ (((cfgM m hO).win 2).blk t).view.set := by
  have h0 : (i 0).val < 1 := (i 0).isLt
  have h1 : (i 1).val < 704 := (i 1).isLt
  have h2 : (i 2).val < 1024 := (i 2).isLt
  obtain ⟨t, ht⟩ := onto ⟨(i 0).val, h0⟩ ⟨(i 1).val / 352, by omega⟩
  refine ⟨t, flush0_2 (adm m hO) t, ?_⟩
  show i ∈ ((View.whole main_v0).slice (((cfgM m hO).win 2).rect t)).set
  erw [View.set_slice_whole, Rect.mem_set_unit]
  have key : ∀ (n : Fin 3 → ℕ), n = ![(i 0).val, (i 1).val / 352, 0] →
      ∀ a : Fin 3, n a * S1x352x1024.size a ≤ (i a).val ∧ (i a).val < n a * S1x352x1024.size a + S1x352x1024.size a := by
    intro n hn
    subst hn
    intro a
    match a with
    | ⟨0, _⟩ => show (i 0).val * 1 ≤ (i 0).val ∧ (i 0).val < (i 0).val * 1 + 1; omega
    | ⟨1, _⟩ => show (i 1).val / 352 * 352 ≤ (i 1).val ∧ (i 1).val < (i 1).val / 352 * 352 + 352; omega
    | ⟨2, _⟩ => show 0 * 1024 ≤ (i 2).val ∧ (i 2).val < 0 * 1024 + 1024; omega
  exact key _ ht

theorem final (c : Dev nD) : (dats m hO 0 c).arrAt 2 (cfgM m hO).N = goal m c :=
  (dats m hO 0 c).arrAt_eq_of_cover 2 _ (fun t _ => flushed_eq m hO c t) (covered m hO)

/-! ## The precondition says the number is one of the eight -/

theorem exists_number (hm : Cert.Pre_SumWiKernelIdeal (hPre_device_number_wi := preFacts) m) : ∃ s : Fin 8, device m = BitVec.ofNat 32 s.val :=
  number_of (device m) (congrFun (hm 0).1 (ix1 (0 : Fin 1))) (congrFun (hm 0).2 (ix1 (0 : Fin 1)))

/-! ## The reference's sum -/

open Cert.SumWiReferenceIdeal.Read

theorem reference (x0 : Vec Ideal S8x1x704x1024 .bf16) (x1 : Vec Ideal S1x5632x1024 .bf16) (x2 : Vec Ideal S1 .i32) :
    val_main_v8 (F := Ideal) x0 x1 x2 = summed (a := 1) (R := 704) (N := 5632) (c := 1024) rfl (word x2) x0 x1 := by
  funext i
  have h0 : (i 0).val < 1 := (i 0).isLt
  have h1 : (i 1).val < 704 := (i 1).isLt
  have h2 : (i 2).val < 1024 := (i 2).isLt
  refine (val_main_v8_apply x0 x1 x2 i).trans ((congrArg₂ (· + ·) bits_zero (Finset.sum_congr rfl fun s _ => ?_)).trans (zero_add _))
  show Scalar.select (val_main_call0_v0 (F := Ideal) x2 (idx_main_v8 i s)) (val_main_v5 (F := Ideal) x1 (idx_main_v8 i s)) (x0 (idx_main_v8 i s)) = _
  have hm : val_main_call0_v0 (F := Ideal) x2 (idx_main_v8 i s) = Scalar.cmpi .eq (BitVec.ofNat 32 s.val) (word x2) := by
    rw [val_main_call0_v0_apply, val_main_v3_apply, val_main_v2_apply, val_main_v1_apply, val_main_v0_apply]
    exact congrArg (IntOp.cmpi .eq (BitVec.ofNat 32 s.val)) (word_eq x2 _)
  have hw : val_main_v5 (F := Ideal) x1 (idx_main_v8 i s) = x1 (ix3 (i 0) (row (R := 704) (N := 5632) rfl s (i 1)) (i 2)) := by
    rw [val_main_v5_apply, val_main_v4_apply]
    congr 1
    funext d
    apply Fin.ext
    have hs : s.val < 8 := s.isLt
    match d with
    | ⟨0, _⟩ => show 0 = (i 0).val; omega
    | ⟨1, _⟩ => show ((((i 0).val * 8 + s.val) * 704 + (i 1).val) * 1024 + (i 2).val) / 1024 % 5632 = s.val * 704 + (i 1).val; omega
    | ⟨2, _⟩ => show ((((i 0).val * 8 + s.val) * 704 + (i 1).val) * 1024 + (i 2).val) % 1024 = (i 2).val; omega
  have hl : idx_main_v8 i s = ix4 s (i 0) (i 1) (i 2) := funext fun d => by
    match d with
    | ⟨0, _⟩ => rfl
    | ⟨1, _⟩ => rfl
    | ⟨2, _⟩ => rfl
    | ⟨3, _⟩ => rfl
  refine (congrArg (fun q => Scalar.select q (val_main_v5 (F := Ideal) x1 (idx_main_v8 i s)) (x0 (idx_main_v8 i s))) hm).trans ((chosen _ _ _ _).trans ?_)
  by_cases h : word x2 = BitVec.ofNat 32 s.val
  · exact (if_pos h.symm).trans (hw.trans (if_pos h).symm)
  · exact (if_neg (Ne.symm h)).trans ((congrArg x0 hl).trans (if_neg h).symm)

/-! ## The claim -/

theorem algebraic : Cert.algebraic_SumWiKernelIdeal_SumWiReferenceIdeal (hPre_device_number_wi := preFacts) := by
  intro m g m' g' hpre hargs
  have hO : Ok m := ok m (exists_number m hpre)
  refine ⟨fun c => goal m c, ?_, ?_⟩
  · refine (θ_run _ _ _).mono (fun r h c => ?_) (θ_run_and (run_main m g hO) (unchanged m g hO))
    exact ⟨((h.1 c).1 2).trans (final m hO c), h.2 c⟩
  · refine (θ_run _ _ _).mono (fun r h c => ?_) (Cert.SumWiReferenceIdeal.Value.run m' g')
    obtain ⟨h0, hr⟩ := h c
    obtain ⟨e0, e1, e2⟩ := hargs c
    obtain rfl : c = 0 := Subsingleton.elim (α := Fin 1) _ _
    refine ⟨h0.trans ?_, hr⟩
    refine (reference _ _ _).trans ?_
    rw [e0, e1, e2]

end Cert.SumWiKernelIdeal.Total

end
-- ==== Proof.SumPoolValue.lean ====
/-
  The sum over the devices of the gradient of the pooling layer's weights: the kernel's result is the reference's.
-/
module

public import proofs.«01_k».proof.Defs
public import proofs.«01_k».proof.Proof.SlotSum
public import proofs.«01_k».proof.Proof.Gen.SumPoolKernel.Frame
public import proofs.«01_k».proof.Proof.Gen.SumPoolKernelIdeal.Frame
public import proofs.«01_k».proof.Proof.Gen.SumPoolReferenceIdeal.Run
public import proofs.«01_k».proof.Proof.Gen.SumPoolReferenceIdeal.Read
public import Idealize.ShloMosaic.Lib.Pipeline.ValueKit.Geometry
public import Idealize.ShloMosaic.Lib.Affine
public import Idealize.ShloMosaic.Lib.WholeRead
public import Idealize.ShloMosaic.Lib.VecWindow
public import Idealize.ShloMosaic.Lib.Tactic
public import Idealize.ShloMosaic.Lib.Claim

@[expose] public section

noncomputable section

open Idealize.ShloMosaic Idealize.ShloMosaic.TcCoe Idealize.SL.Sem

namespace Cert.SumPoolKernelIdeal.Total

open Cert.SumPoolKernelIdeal Cert.SumPoolKernelIdeal.Gen Cert.SlotSum

theorem preFacts : Cert.Pre_device_number_pool.Facts where
  bcast_S_S1 := by decide

theorem preserves : Cert.preserves_SumPoolKernel_SumPoolKernelIdeal := trivial

/-! ## What the kernel's body leaves -/

/-- Where each of the eight parts lies. -/
theorem lies : ∀ (s : Fin 8) a, (![s.val, 0, 0, 0] : Fin 4 → Nat) a + S1x1x32x256.size a ≤ S8x1x32x256.size a := by decide

/-- What the body leaves at an index of the block. -/
theorem out_apply (c : Dev nD) (i : grid0.Coords) (a3 : Memref sig .tc .vmem S8x1x32x256 .bf16) (h3 : a3.IsWhole)
    (a4 : Memref sig .tc .vmem S1x32x256 .bf16) (h4 : a4.IsWhole) (a5 : Memref sig .tc .vmem S1x32x256 .f32) (h5 : a5.IsWhole)
    (x0 : Vec Ideal S8x1x32x256 .bf16) (x1 : Vec Ideal S1x32x256 .bf16) (xt : TbBuf0 (F := Ideal) c tbM0_0) (y : S1x32x256.Idx) :
    out0_A_2 (F := Ideal) c i a3 h3 a4 h4 a5 h5 x0 x1 xt y
      = (∑ s : Fin 8, if word xt = BitVec.ofNat 32 s.val then x1 y else x0 (ix4 s 0 (y 1) (y 2)) : EReal) := by
  unfold out0_A_2 kernelRun0_A
  dsimp only
  erw [View.read_writes_full]
  have own : View.readAt (Elt Ideal) a4.view (Rect.unit ![0, 0, 0] S1x32x256.size inb_S1x32x256_S1x32x256_0_0_0).toLoadRect
      (h4.unread x1) = x1 := (View.readAt_full _ _ _).trans (h4.read_unread x1)
  have num : View.readAt (Elt Ideal) tbM0_0.view (Rect.unit (s := S1) ![0] S1.size inb_S1_S1_0).toLoadRect xt
      (Shape.Idx.first (numel1_S1.symm ▸ Nat.one_pos)) = word xt := word_eq xt _
  have part : ∀ (s : Fin 8) (h : ∀ a, (![s.val, 0, 0, 0] : Fin 4 → Nat) a + S1x1x32x256.size a ≤ S8x1x32x256.size a) (p : Fin 32) (q : Fin 256),
      View.readAt (Elt Ideal) a3.view (Rect.unit (s := S8x1x32x256) ![s.val, 0, 0, 0] S1x1x32x256.size h).toLoadRect (h3.unread x0)
        (ix4 (0 : Fin 1) (0 : Fin 1) p q) = x0 (ix4 s 0 p q) := fun s h p q =>
    (h3.readAt_unread x0 _ _).trans (View.ld_unit_apply_of x0 _ _ h _ (ix4 s 0 p q) fun a => by
      match a with
      | ⟨0, _⟩ => rfl
      | ⟨1, _⟩ => rfl
      | ⟨2, _⟩ => exact (Nat.zero_add _).symm
      | ⟨3, _⟩ => exact (Nat.zero_add _).symm)
  unfold kernelRun0_A.sl.r_2 kernelRun0_A.sl.v54 kernelRun0_A.sl.r_3 kernelRun0_A.sl.v57 kernelRun0_A.sl.r_4 kernelRun0_A.sl.v66
  unfold kernelRun0_A.sl.r_1 kernelRun0_A.sl.v27 kernelRun0_A.sl.r
  unfold k0_pay1 k0_pay2 k0_pay3 k0_pay4
  refine Eq.trans ?_ ((added (View.readAt (Elt Ideal) tbM0_0.view (Rect.unit (s := S1) ![0] S1.size inb_S1_S1_0).toLoadRect xt
      (Shape.Idx.first (numel1_S1.symm ▸ Nat.one_pos)))
    (View.readAt (Elt Ideal) a4.view (Rect.unit ![0, 0, 0] S1x32x256.size inb_S1x32x256_S1x32x256_0_0_0).toLoadRect (h4.unread x1))
    x0 (fun s => View.readAt (Elt Ideal) a3.view (Rect.unit (s := S8x1x32x256) ![s.val, 0, 0, 0] S1x1x32x256.size (lies s)).toLoadRect
      (h3.unread x0)) (fun s p q => part s (lies s) p q) shapeCasts_S1x32x256_S32x256 shapeCasts_S1x1x32x256_S32x256
    shapeCasts_S32x256_S1x32x256 bitsLt_bf16_f32 y).trans ?_)
  · rfl
  · rw [own, num]

/-! ## The blocks lie inside their arrays -/

variable {F : FTy → Type} [FloatOps F]

/-- The device's number, as both kernels' memories hold it. -/
abbrev device (m : (ℓ : Loc nD τ sig) → Buf (Elt F) ℓ) : BitVec 32 := (m (((0 : Dev nD) : Thread nD τ).loc main_arg2) : Vec F S1 .i32) (ix1 (0 : Fin 1))

/-- Which block of the whole array a grid point is given, -/
theorem own_block (m : (ℓ : Loc nD τ sig) → Buf (Elt F) ℓ) (i : grid0.Coords) :
    cc0_transform_1 inb_S1_S1_0 numel1_S1 (tbl m) i
      = ![(BitVec.ofNat 32 (i 0).val).toNat, (Scalar.addi (Scalar.muli (device m) 1#32) (BitVec.ofNat 32 (i 1).val)).toNat, 0] := by
  have e : (tbl m).at 0 (Rect.unit (s := S1) ![0] S1.size inb_S1_S1_0) numel1_S1 = device m := word_eq _ _
  unfold cc0_transform_1
  dsimp only
  rw [e]
  rfl

/-- by number, at each of the eight devices. -/
theorem own_index : ∀ (s : Fin 8) (i : grid0.Coords),
    (![(BitVec.ofNat 32 (i 0).val).toNat, (Scalar.addi (Scalar.muli (BitVec.ofNat 32 s.val) 1#32) (BitVec.ofNat 32 (i 1).val)).toNat, 0] : Fin 3 → ℕ)
      = ![(i 0).val, s.val * 1 + (i 1).val, 0] := by decide +kernel

theorem own_inside : ∀ (s : Fin 8) (i : grid0.Coords) (a : Fin 3),
    ((![(i 0).val, s.val * 1 + (i 1).val, 0] : Fin 3 → ℕ) a + 1) * S1x32x256.size a ≤ S4x256x256.size a := by decide +kernel

theorem ok (m : (ℓ : Loc nD τ sig) → Buf (Elt F) ℓ) (h : ∃ s : Fin 8, device m = BitVec.ofNat 32 s.val) : Ok m := by
  obtain ⟨s, hs⟩ := h
  intro i
  refine ⟨?_, .inr (Affine.block_words_dvd (of_decide_eq_true rfl) (by decide))⟩
  rw [own_block, hs, own_index]
  exact own_inside s i

/-- The kernel as printed reads its blocks at the same places. -/
theorem ok_printed (m : (ℓ : Loc Cert.SumPoolKernel.nD Cert.SumPoolKernel.τ Cert.SumPoolKernel.sig) → Buf (Elt Bits) ℓ)
    (hm : Cert.Pre_SumPoolKernel (hPre_device_number_pool := preFacts) m) : Cert.SumPoolKernel.Gen.Ok m :=
  ok (F := Bits) m (number_of _ (congrFun (hm 0).1 (ix1 (0 : Fin 1))) (congrFun (hm 0).2 (ix1 (0 : Fin 1))))

/-! ## The array the kernel leaves -/

variable (m : (ℓ : Loc nD τ sig) → Buf (Elt Ideal) ℓ) (ρ : Dev nD → PrngReg) (hO : Ok m)

/-- The arrived parts and the whole array. -/
abbrev land (c : Dev nD) : Vec Ideal S8x4x32x256 .bf16 := m ((c : Thread nD τ).loc main_arg0)
abbrev whole (c : Dev nD) : Vec Ideal S4x256x256 .bf16 := m ((c : Thread nD τ).loc main_arg1)

/-- The sum. -/
abbrev goal (c : Dev nD) : Vec Ideal S4x32x256 .f32 :=
  summed (a := 4) (R := 32) (N := 256) (c := 256) rfl (device m) (land m c) (whole m c)

theorem ix_land : ∀ i : grid0.Coords, cc0_transform_0 i = ![0, (i 0).val, (i 1).val, 0] := by decide +kernel
theorem ix_out : ∀ i : grid0.Coords, cc0_transform_2 i = ![(i 0).val, (i 1).val, 0] := by decide +kernel

/-- The index of the result that a block's index is at. -/
def at_ (i : grid0.Coords) (y : S1x32x256.Idx) : S4x32x256.Idx :=
  ix3 (n0 := 4) (n1 := 32) (n2 := 256) ⟨(i 0).val, (i 0).isLt⟩ ⟨(i 1).val * 32 + (y 1).val, by
    have h1 : (i 1).val < 1 := (i 1).isLt
    have h2 : (y 1).val < 32 := (y 1).isLt
    omega⟩ (y 2)

theorem block_out (c : Dev nD) (R : Vec Ideal S4x32x256 .f32) (t : Fin (cfgM m hO).N) (y : S1x32x256.Idx) :
    (((cfgM m hO).win 2).blk t).view.read (Elt Ideal) R y = R (at_ (grid0.coords t) y) := by
  erw [View.read_apply]
  show R _ = R _
  congr 1
  have e := ix_out (grid0.coords t)
  funext d
  apply Fin.ext
  have h0 : (y 0).val < 1 := (y 0).isLt
  match d with
  | ⟨0, _⟩ => show cc0_transform_2 (grid0.coords t) (0 : Fin 3) * 1 + 1 * (y 0).val = (grid0.coords t 0).val; rw [e]; show (grid0.coords t 0).val * 1 + 1 * (y 0).val = _; omega
  | ⟨1, _⟩ => show cc0_transform_2 (grid0.coords t) (1 : Fin 3) * 32 + 1 * (y 1).val = (grid0.coords t 1).val * 32 + (y 1).val; rw [e]; show (grid0.coords t 1).val * 32 + 1 * (y 1).val = _; omega
  | ⟨2, _⟩ => show cc0_transform_2 (grid0.coords t) (2 : Fin 3) * 256 + 1 * (y 2).val = (y 2).val; rw [e]; show 0 * 256 + 1 * (y 2).val = _; omega

theorem block_land (c : Dev nD) (t : Fin (cfgM m hO).N) (s : Fin 8) (y : S1x32x256.Idx) :
    (iblk m hO c 0 t : Vec Ideal S8x1x32x256 .bf16) (ix4 s 0 (y 1) (y 2))
      = land m c (ix4 s (at_ (grid0.coords t) y 0) (at_ (grid0.coords t) y 1) (at_ (grid0.coords t) y 2)) := by
  unfold iblk
  erw [View.read_apply]
  show land m c _ = land m c _
  congr 1
  have e := ix_land (grid0.coords t)
  funext d
  apply Fin.ext
  match d with
  | ⟨0, _⟩ => show cc0_transform_0 (grid0.coords t) (0 : Fin 4) * 8 + 1 * s.val = s.val; rw [e]; show 0 * 8 + 1 * s.val = _; omega
  | ⟨1, _⟩ => show cc0_transform_0 (grid0.coords t) (1 : Fin 4) * 1 + 1 * 0 = (grid0.coords t 0).val; rw [e]; show (grid0.coords t 0).val * 1 + 1 * 0 = _; omega
  | ⟨2, _⟩ => show cc0_transform_0 (grid0.coords t) (2 : Fin 4) * 32 + 1 * (y 1).val = (grid0.coords t 1).val * 32 + (y 1).val; rw [e]; show (grid0.coords t 1).val * 32 + 1 * (y 1).val = _; omega
  | ⟨3, _⟩ => show cc0_transform_0 (grid0.coords t) (3 : Fin 4) * 256 + 1 * (y 2).val = (y 2).val; rw [e]; show 0 * 256 + 1 * (y 2).val = _; omega

theorem block_own (c : Dev nD) (t : Fin (cfgM m hO).N) (s : Fin 8) (hs : device m = BitVec.ofNat 32 s.val) (y : S1x32x256.Idx) :
    (iblk m hO c 1 t : Vec Ideal S1x32x256 .bf16) y
      = whole m c (ix3 (at_ (grid0.coords t) y 0) (row (R := 32) (N := 256) rfl s (at_ (grid0.coords t) y 1)) (at_ (grid0.coords t) y 2)) := by
  unfold iblk
  erw [View.read_apply]
  show whole m c _ = whole m c _
  congr 1
  have e := (own_block m (grid0.coords t)).trans ((congrArg (fun w => ![(BitVec.ofNat 32 (grid0.coords t 0).val).toNat, (Scalar.addi (Scalar.muli w 1#32) (BitVec.ofNat 32 (grid0.coords t 1).val)).toNat, 0]) hs).trans (own_index s (grid0.coords t)))
  funext d
  apply Fin.ext
  have h0 : (y 0).val < 1 := (y 0).isLt
  match d with
  | ⟨0, _⟩ => show cc0_transform_1 inb_S1_S1_0 numel1_S1 (tbl m) (grid0.coords t) (0 : Fin 3) * 1 + 1 * (y 0).val = (grid0.coords t 0).val; rw [e]; show (grid0.coords t 0).val * 1 + 1 * (y 0).val = _; omega
  | ⟨1, _⟩ => show cc0_transform_1 inb_S1_S1_0 numel1_S1 (tbl m) (grid0.coords t) (1 : Fin 3) * 32 + 1 * (y 1).val = s.val * 32 + ((grid0.coords t 1).val * 32 + (y 1).val); rw [e]; show (s.val * 1 + (grid0.coords t 1).val) * 32 + 1 * (y 1).val = _; omega
  | ⟨2, _⟩ => show cc0_transform_1 inb_S1_S1_0 numel1_S1 (tbl m) (grid0.coords t) (2 : Fin 3) * 256 + 1 * (y 2).val = (y 2).val; rw [e]; show 0 * 256 + 1 * (y 2).val = _; omega

theorem flushed_eq (c : Dev nD) (t : Fin (cfgM m hO).N) :
    (dats m hO 0 c).flushed 2 t = (((cfgM m hO).win 2).blk t).view.read (Elt Ideal) (goal m c) := by
  show ((cfgM m hO).win 2).cut (grid0.coords t) ((dats m hO 0 c).after 2 t) = _
  rw [after0_2]
  funext y
  show outsAt0 m hO c t y = _
  unfold outsAt0
  refine (out_apply c _ _ _ _ _ _ _ (iblk m hO c 0 t) (iblk m hO c 1 t) (tbl m 0) y).trans ?_
  refine Eq.trans ?_ (block_out m hO c (goal m c) t y).symm
  refine Finset.sum_congr rfl fun s _ => ?_
  by_cases h : device m = BitVec.ofNat 32 s.val
  · exact (if_pos h).trans ((block_own m hO c t s h y).trans (if_pos h).symm)
  · exact (if_neg h).trans ((block_land m hO c t s y).trans (if_neg h).symm)

/-- Every index of the result is in some grid point's block. -/
theorem onto : ∀ (p : Fin 4) (q : Fin 1), ∃ t : Fin grid0.N, cc0_transform_2 (grid0.coords t) = ![p.val, q.val, 0] := by decide +kernel

theorem covered (i : S4x32x256.Idx) : ∃ t : Fin (cfgM m hO).N, ((cfgM m hO).win 2).flush t = true ∧ i ∈ (((cfgM m hO).win 2).blk t).view.set := by
  have h0 : (i 0).val < 4 := (i 0).isLt
  have h1 : (i 1).val < 32 := (i 1).isLt
  have h2 : (i 2).val < 256 := (i 2).isLt
  obtain ⟨t, ht⟩ := onto ⟨(i 0).val, h0⟩ ⟨(i 1).val / 32, by omega⟩
  refine ⟨t, flush0_2 (adm m hO) t, ?_⟩
  show i ∈ ((View.whole main_v0).slice (((cfgM m hO).win 2).rect t)).set
  erw [View.set_slice_whole, Rect.mem_set_unit]
  have key : ∀ (n : Fin 3 → ℕ), n = ![(i 0).val, (i 1).val / 32, 0] →
      ∀ a : Fin 3, n a * S1x32x256.size a ≤ (i a).val ∧ (i a).val < n a * S1x32x256.size a + S1x32x256.size a := by
    intro n hn
    subst hn
    intro a
    match a with
    | ⟨0, _⟩ => show (i 0).val * 1 ≤ (i 0).val ∧ (i 0).val < (i 0).val * 1 + 1; omega
    | ⟨1, _⟩ => show (i 1).val / 32 * 32 ≤ (i 1).val ∧ (i 1).val < (i 1).val / 32 * 32 + 32; omega
    | ⟨2, _⟩ => show 0 * 256 ≤ (i 2).val ∧ (i 2).val < 0 * 256 + 256; omega
  exact key _ ht

theorem final (c : Dev nD) : (dats m hO 0 c).arrAt 2 (cfgM m hO).N = goal m c :=
  (dats m hO 0 c).arrAt_eq_of_cover 2 _ (fun t _ => flushed_eq m hO c t) (covered m hO)

/-! ## The precondition says the number is one of the eight -/

theorem exists_number (hm : Cert.Pre_SumPoolKernelIdeal (hPre_device_number_pool := preFacts) m) : ∃ s : Fin 8, device m = BitVec.ofNat 32 s.val :=
  number_of (device m) (congrFun (hm 0).1 (ix1 (0 : Fin 1))) (congrFun (hm 0).2 (ix1 (0 : Fin 1)))

/-! ## The reference's sum -/

open Cert.SumPoolReferenceIdeal.Read

theorem reference (x0 : Vec Ideal S8x4x32x256 .bf16) (x1 : Vec Ideal S4x256x256 .bf16) (x2 : Vec Ideal S1 .i32) :
    val_main_v8 (F := Ideal) x0 x1 x2 = summed (a := 4) (R := 32) (N := 256) (c := 256) rfl (word x2) x0 x1 := by
  funext i
  have h0 : (i 0).val < 4 := (i 0).isLt
  have h1 : (i 1).val < 32 := (i 1).isLt
  have h2 : (i 2).val < 256 := (i 2).isLt
  refine (val_main_v8_apply x0 x1 x2 i).trans ((congrArg₂ (· + ·) bits_zero (Finset.sum_congr rfl fun s _ => ?_)).trans (zero_add _))
  show Scalar.select (val_main_call0_v0 (F := Ideal) x2 (idx_main_v8 i s)) (val_main_v5 (F := Ideal) x1 (idx_main_v8 i s)) (x0 (idx_main_v8 i s)) = _
  have hm : val_main_call0_v0 (F := Ideal) x2 (idx_main_v8 i s) = Scalar.cmpi .eq (BitVec.ofNat 32 s.val) (word x2) := by
    rw [val_main_call0_v0_apply, val_main_v3_apply, val_main_v2_apply, val_main_v1_apply, val_main_v0_apply]
    exact congrArg (IntOp.cmpi .eq (BitVec.ofNat 32 s.val)) (word_eq x2 _)
  have hw : val_main_v5 (F := Ideal) x1 (idx_main_v8 i s) = x1 (ix3 (i 0) (row (R := 32) (N := 256) rfl s (i 1)) (i 2)) := by
    rw [val_main_v5_apply, val_main_v4_apply]
    congr 1
    funext d
    apply Fin.ext
    have hs : s.val < 8 := s.isLt
    match d with
    | ⟨0, _⟩ => show ((((i 0).val * 8 + s.val) * 32 + (i 1).val) * 256 + (i 2).val) / 65536 = (i 0).val; omega
    | ⟨1, _⟩ => show ((((i 0).val * 8 + s.val) * 32 + (i 1).val) * 256 + (i 2).val) / 256 % 256 = s.val * 32 + (i 1).val; omega
    | ⟨2, _⟩ => show ((((i 0).val * 8 + s.val) * 32 + (i 1).val) * 256 + (i 2).val) % 256 = (i 2).val; omega
  have hl : idx_main_v8 i s = ix4 s (i 0) (i 1) (i 2) := funext fun d => by
    match d with
    | ⟨0, _⟩ => rfl
    | ⟨1, _⟩ => rfl
    | ⟨2, _⟩ => rfl
    | ⟨3, _⟩ => rfl
  refine (congrArg (fun q => Scalar.select q (val_main_v5 (F := Ideal) x1 (idx_main_v8 i s)) (x0 (idx_main_v8 i s))) hm).trans ((chosen _ _ _ _).trans ?_)
  by_cases h : word x2 = BitVec.ofNat 32 s.val
  · exact (if_pos h.symm).trans (hw.trans (if_pos h).symm)
  · exact (if_neg (Ne.symm h)).trans ((congrArg x0 hl).trans (if_neg h).symm)

/-! ## The claim -/

theorem algebraic : Cert.algebraic_SumPoolKernelIdeal_SumPoolReferenceIdeal (hPre_device_number_pool := preFacts) := by
  intro m g m' g' hpre hargs
  have hO : Ok m := ok m (exists_number m hpre)
  refine ⟨fun c => goal m c, ?_, ?_⟩
  · refine (θ_run _ _ _).mono (fun r h c => ?_) (θ_run_and (run_main m g hO) (unchanged m g hO))
    exact ⟨((h.1 c).1 2).trans (final m hO c), h.2 c⟩
  · refine (θ_run _ _ _).mono (fun r h c => ?_) (Cert.SumPoolReferenceIdeal.Value.run m' g')
    obtain ⟨h0, hr⟩ := h c
    obtain ⟨e0, e1, e2⟩ := hargs c
    obtain rfl : c = 0 := Subsingleton.elim (α := Fin 1) _ _
    refine ⟨h0.trans ?_, hr⟩
    refine (reference _ _ _).trans ?_
    rw [e0, e1, e2]

end Cert.SumPoolKernelIdeal.Total

end
-- ==== Proof.SumInValue.lean ====
/-
  The sum over the devices of the gradient of the attention's input projection: the kernel's result is the reference's.
-/
module

public import proofs.«01_k».proof.Defs
public import proofs.«01_k».proof.Proof.SlotSum
public import proofs.«01_k».proof.Proof.Gen.SumInKernel.Frame
public import proofs.«01_k».proof.Proof.Gen.SumInKernelIdeal.Frame
public import proofs.«01_k».proof.Proof.Gen.SumInReferenceIdeal.Run
public import proofs.«01_k».proof.Proof.Gen.SumInReferenceIdeal.Read
public import Idealize.ShloMosaic.Lib.Pipeline.ValueKit.Geometry
public import Idealize.ShloMosaic.Lib.Affine
public import Idealize.ShloMosaic.Lib.WholeRead
public import Idealize.ShloMosaic.Lib.VecWindow
public import Idealize.ShloMosaic.Lib.Tactic
public import Idealize.ShloMosaic.Lib.Claim

@[expose] public section

noncomputable section

open Idealize.ShloMosaic Idealize.ShloMosaic.TcCoe Idealize.SL.Sem

namespace Cert.SumInKernelIdeal.Total

open Cert.SumInKernelIdeal Cert.SumInKernelIdeal.Gen Cert.SlotSum

theorem preFacts : Cert.Pre_device_number_in.Facts where
  bcast_S_S1 := by decide

theorem preserves : Cert.preserves_SumInKernel_SumInKernelIdeal := trivial

/-! ## What the kernel's body leaves -/

/-- Where each of the eight parts lies. -/
theorem lies : ∀ (s : Fin 8) a, (![s.val, 0, 0, 0] : Fin 4 → Nat) a + S1x1x16x1024.size a ≤ S8x1x16x1024.size a := by decide

/-- What the body leaves at an index of the block. -/
theorem out_apply (c : Dev nD) (i : grid0.Coords) (a3 : Memref sig .tc .vmem S8x1x16x1024 .bf16) (h3 : a3.IsWhole)
    (a4 : Memref sig .tc .vmem S1x16x1024 .bf16) (h4 : a4.IsWhole) (a5 : Memref sig .tc .vmem S1x16x1024 .f32) (h5 : a5.IsWhole)
    (x0 : Vec Ideal S8x1x16x1024 .bf16) (x1 : Vec Ideal S1x16x1024 .bf16) (xt : TbBuf0 (F := Ideal) c tbM0_0) (y : S1x16x1024.Idx) :
    out0_A_2 (F := Ideal) c i a3 h3 a4 h4 a5 h5 x0 x1 xt y
      = (∑ s : Fin 8, if word xt = BitVec.ofNat 32 s.val then x1 y else x0 (ix4 s 0 (y 1) (y 2)) : EReal) := by
  unfold out0_A_2 kernelRun0_A
  dsimp only
  erw [View.read_writes_full]
  have own : View.readAt (Elt Ideal) a4.view (Rect.unit ![0, 0, 0] S1x16x1024.size inb_S1x16x1024_S1x16x1024_0_0_0).toLoadRect
      (h4.unread x1) = x1 := (View.readAt_full _ _ _).trans (h4.read_unread x1)
  have num : View.readAt (Elt Ideal) tbM0_0.view (Rect.unit (s := S1) ![0] S1.size inb_S1_S1_0).toLoadRect xt
      (Shape.Idx.first (numel1_S1.symm ▸ Nat.one_pos)) = word xt := word_eq xt _
  have part : ∀ (s : Fin 8) (h : ∀ a, (![s.val, 0, 0, 0] : Fin 4 → Nat) a + S1x1x16x1024.size a ≤ S8x1x16x1024.size a) (p : Fin 16) (q : Fin 1024),
      View.readAt (Elt Ideal) a3.view (Rect.unit (s := S8x1x16x1024) ![s.val, 0, 0, 0] S1x1x16x1024.size h).toLoadRect (h3.unread x0)
        (ix4 (0 : Fin 1) (0 : Fin 1) p q) = x0 (ix4 s 0 p q) := fun s h p q =>
    (h3.readAt_unread x0 _ _).trans (View.ld_unit_apply_of x0 _ _ h _ (ix4 s 0 p q) fun a => by
      match a with
      | ⟨0, _⟩ => rfl
      | ⟨1, _⟩ => rfl
      | ⟨2, _⟩ => exact (Nat.zero_add _).symm
      | ⟨3, _⟩ => exact (Nat.zero_add _).symm)
  unfold kernelRun0_A.sl.r_2 kernelRun0_A.sl.v54 kernelRun0_A.sl.r_3 kernelRun0_A.sl.v57 kernelRun0_A.sl.r_4 kernelRun0_A.sl.v66
  unfold kernelRun0_A.sl.r_1 kernelRun0_A.sl.v27 kernelRun0_A.sl.r
  unfold k0_pay1 k0_pay2 k0_pay3 k0_pay4
  refine Eq.trans ?_ ((added (View.readAt (Elt Ideal) tbM0_0.view (Rect.unit (s := S1) ![0] S1.size inb_S1_S1_0).toLoadRect xt
      (Shape.Idx.first (numel1_S1.symm ▸ Nat.one_pos)))
    (View.readAt (Elt Ideal) a4.view (Rect.unit ![0, 0, 0] S1x16x1024.size inb_S1x16x1024_S1x16x1024_0_0_0).toLoadRect (h4.unread x1))
    x0 (fun s => View.readAt (Elt Ideal) a3.view (Rect.unit (s := S8x1x16x1024) ![s.val, 0, 0, 0] S1x1x16x1024.size (lies s)).toLoadRect
      (h3.unread x0)) (fun s p q => part s (lies s) p q) shapeCasts_S1x16x1024_S16x1024 shapeCasts_S1x1x16x1024_S16x1024
    shapeCasts_S16x1024_S1x16x1024 bitsLt_bf16_f32 y).trans ?_)
  · rfl
  · rw [own, num]

/-! ## The blocks lie inside their arrays -/

variable {F : FTy → Type} [FloatOps F]

/-- The device's number, as both kernels' memories hold it. -/
abbrev device (m : (ℓ : Loc nD τ sig) → Buf (Elt F) ℓ) : BitVec 32 := (m (((0 : Dev nD) : Thread nD τ).loc main_arg2) : Vec F S1 .i32) (ix1 (0 : Fin 1))

/-- Which block of the whole array a grid point is given, -/
theorem own_block (m : (ℓ : Loc nD τ sig) → Buf (Elt F) ℓ) (i : grid0.Coords) :
    cc0_transform_1 inb_S1_S1_0 numel1_S1 (tbl m) i
      = ![(BitVec.ofNat 32 (i 0).val).toNat, (Scalar.addi (Scalar.muli (device m) 19#32) (BitVec.ofNat 32 (i 1).val)).toNat, 0] := by
  have e : (tbl m).at 0 (Rect.unit (s := S1) ![0] S1.size inb_S1_S1_0) numel1_S1 = device m := word_eq _ _
  unfold cc0_transform_1
  dsimp only
  rw [e]
  rfl

/-- by number, at each of the eight devices. -/
theorem own_index : ∀ (s : Fin 8) (i : grid0.Coords),
    (![(BitVec.ofNat 32 (i 0).val).toNat, (Scalar.addi (Scalar.muli (BitVec.ofNat 32 s.val) 19#32) (BitVec.ofNat 32 (i 1).val)).toNat, 0] : Fin 3 → ℕ)
      = ![(i 0).val, s.val * 19 + (i 1).val, 0] := by decide +kernel

theorem own_inside : ∀ (s : Fin 8) (i : grid0.Coords) (a : Fin 3),
    ((![(i 0).val, s.val * 19 + (i 1).val, 0] : Fin 3 → ℕ) a + 1) * S1x16x1024.size a ≤ S1x2432x1024.size a := by decide +kernel

theorem ok (m : (ℓ : Loc nD τ sig) → Buf (Elt F) ℓ) (h : ∃ s : Fin 8, device m = BitVec.ofNat 32 s.val) : Ok m := by
  obtain ⟨s, hs⟩ := h
  intro i
  refine ⟨?_, .inr (Affine.block_words_dvd (of_decide_eq_true rfl) (by decide))⟩
  rw [own_block, hs, own_index]
  exact own_inside s i

/-- The kernel as printed reads its blocks at the same places. -/
theorem ok_printed (m : (ℓ : Loc Cert.SumInKernel.nD Cert.SumInKernel.τ Cert.SumInKernel.sig) → Buf (Elt Bits) ℓ)
    (hm : Cert.Pre_SumInKernel (hPre_device_number_in := preFacts) m) : Cert.SumInKernel.Gen.Ok m :=
  ok (F := Bits) m (number_of _ (congrFun (hm 0).1 (ix1 (0 : Fin 1))) (congrFun (hm 0).2 (ix1 (0 : Fin 1))))

/-! ## The array the kernel leaves -/

variable (m : (ℓ : Loc nD τ sig) → Buf (Elt Ideal) ℓ) (ρ : Dev nD → PrngReg) (hO : Ok m)

/-- The arrived parts and the whole array. -/
abbrev land (c : Dev nD) : Vec Ideal S8x1x304x1024 .bf16 := m ((c : Thread nD τ).loc main_arg0)
abbrev whole (c : Dev nD) : Vec Ideal S1x2432x1024 .bf16 := m ((c : Thread nD τ).loc main_arg1)

/-- The sum. -/
abbrev goal (c : Dev nD) : Vec Ideal S1x304x1024 .f32 :=
  summed (a := 1) (R := 304) (N := 2432) (c := 1024) rfl (device m) (land m c) (whole m c)

theorem ix_land : ∀ i : grid0.Coords, cc0_transform_0 i = ![0, (i 0).val, (i 1).val, 0] := by decide +kernel
theorem ix_out : ∀ i : grid0.Coords, cc0_transform_2 i = ![(i 0).val, (i 1).val, 0] := by decide +kernel

/-- The index of the result that a block's index is at. -/
def at_ (i : grid0.Coords) (y : S1x16x1024.Idx) : S1x304x1024.Idx :=
  ix3 (n0 := 1) (n1 := 304) (n2 := 1024) ⟨(i 0).val, (i 0).isLt⟩ ⟨(i 1).val * 16 + (y 1).val, by
    have h1 : (i 1).val < 19 := (i 1).isLt
    have h2 : (y 1).val < 16 := (y 1).isLt
    omega⟩ (y 2)

theorem block_out (c : Dev nD) (R : Vec Ideal S1x304x1024 .f32) (t : Fin (cfgM m hO).N) (y : S1x16x1024.Idx) :
    (((cfgM m hO).win 2).blk t).view.read (Elt Ideal) R y = R (at_ (grid0.coords t) y) := by
  erw [View.read_apply]
  show R _ = R _
  congr 1
  have e := ix_out (grid0.coords t)
  funext d
  apply Fin.ext
  have h0 : (y 0).val < 1 := (y 0).isLt
  match d with
  | ⟨0, _⟩ => show cc0_transform_2 (grid0.coords t) (0 : Fin 3) * 1 + 1 * (y 0).val = (grid0.coords t 0).val; rw [e]; show (grid0.coords t 0).val * 1 + 1 * (y 0).val = _; omega
  | ⟨1, _⟩ => show cc0_transform_2 (grid0.coords t) (1 : Fin 3) * 16 + 1 * (y 1).val = (grid0.coords t 1).val * 16 + (y 1).val; rw [e]; show (grid0.coords t 1).val * 16 + 1 * (y 1).val = _; omega
  | ⟨2, _⟩ => show cc0_transform_2 (grid0.coords t) (2 : Fin 3) * 1024 + 1 * (y 2).val = (y 2).val; rw [e]; show 0 * 1024 + 1 * (y 2).val = _; omega

theorem block_land (c : Dev nD) (t : Fin (cfgM m hO).N) (s : Fin 8) (y : S1x16x1024.Idx) :
    (iblk m hO c 0 t : Vec Ideal S8x1x16x1024 .bf16) (ix4 s 0 (y 1) (y 2))
      = land m c (ix4 s (at_ (grid0.coords t) y 0) (at_ (grid0.coords t) y 1) (at_ (grid0.coords t) y 2)) := by
  unfold iblk
  erw [View.read_apply]
  show land m c _ = land m c _
  congr 1
  have e := ix_land (grid0.coords t)
  funext d
  apply Fin.ext
  match d with
  | ⟨0, _⟩ => show cc0_transform_0 (grid0.coords t) (0 : Fin 4) * 8 + 1 * s.val = s.val; rw [e]; show 0 * 8 + 1 * s.val = _; omega
  | ⟨1, _⟩ => show cc0_transform_0 (grid0.coords t) (1 : Fin 4) * 1 + 1 * 0 = (grid0.coords t 0).val; rw [e]; show (grid0.coords t 0).val * 1 + 1 * 0 = _; omega
  | ⟨2, _⟩ => show cc0_transform_0 (grid0.coords t) (2 : Fin 4) * 16 + 1 * (y 1).val = (grid0.coords t 1).val * 16 + (y 1).val; rw [e]; show (grid0.coords t 1).val * 16 + 1 * (y 1).val = _; omega
  | ⟨3, _⟩ => show cc0_transform_0 (grid0.coords t) (3 : Fin 4) * 1024 + 1 * (y 2).val = (y 2).val; rw [e]; show 0 * 1024 + 1 * (y 2).val = _; omega

theorem block_own (c : Dev nD) (t : Fin (cfgM m hO).N) (s : Fin 8) (hs : device m = BitVec.ofNat 32 s.val) (y : S1x16x1024.Idx) :
    (iblk m hO c 1 t : Vec Ideal S1x16x1024 .bf16) y
      = whole m c (ix3 (at_ (grid0.coords t) y 0) (row (R := 304) (N := 2432) rfl s (at_ (grid0.coords t) y 1)) (at_ (grid0.coords t) y 2)) := by
  unfold iblk
  erw [View.read_apply]
  show whole m c _ = whole m c _
  congr 1
  have e := (own_block m (grid0.coords t)).trans ((congrArg (fun w => ![(BitVec.ofNat 32 (grid0.coords t 0).val).toNat, (Scalar.addi (Scalar.muli w 19#32) (BitVec.ofNat 32 (grid0.coords t 1).val)).toNat, 0]) hs).trans (own_index s (grid0.coords t)))
  funext d
  apply Fin.ext
  have h0 : (y 0).val < 1 := (y 0).isLt
  match d with
  | ⟨0, _⟩ => show cc0_transform_1 inb_S1_S1_0 numel1_S1 (tbl m) (grid0.coords t) (0 : Fin 3) * 1 + 1 * (y 0).val = (grid0.coords t 0).val; rw [e]; show (grid0.coords t 0).val * 1 + 1 * (y 0).val = _; omega
  | ⟨1, _⟩ => show cc0_transform_1 inb_S1_S1_0 numel1_S1 (tbl m) (grid0.coords t) (1 : Fin 3) * 16 + 1 * (y 1).val = s.val * 304 + ((grid0.coords t 1).val * 16 + (y 1).val); rw [e]; show (s.val * 19 + (grid0.coords t 1).val) * 16 + 1 * (y 1).val = _; omega
  | ⟨2, _⟩ => show cc0_transform_1 inb_S1_S1_0 numel1_S1 (tbl m) (grid0.coords t) (2 : Fin 3) * 1024 + 1 * (y 2).val = (y 2).val; rw [e]; show 0 * 1024 + 1 * (y 2).val = _; omega

theorem flushed_eq (c : Dev nD) (t : Fin (cfgM m hO).N) :
    (dats m hO 0 c).flushed 2 t = (((cfgM m hO).win 2).blk t).view.read (Elt Ideal) (goal m c) := by
  show ((cfgM m hO).win 2).cut (grid0.coords t) ((dats m hO 0 c).after 2 t) = _
  rw [after0_2]
  funext y
  show outsAt0 m hO c t y = _
  unfold outsAt0
  refine (out_apply c _ _ _ _ _ _ _ (iblk m hO c 0 t) (iblk m hO c 1 t) (tbl m 0) y).trans ?_
  refine Eq.trans ?_ (block_out m hO c (goal m c) t y).symm
  refine Finset.sum_congr rfl fun s _ => ?_
  by_cases h : device m = BitVec.ofNat 32 s.val
  · exact (if_pos h).trans ((block_own m hO c t s h y).trans (if_pos h).symm)
  · exact (if_neg h).trans ((block_land m hO c t s y).trans (if_neg h).symm)

/-- Every index of the result is in some grid point's block. -/
theorem onto : ∀ (p : Fin 1) (q : Fin 19), ∃ t : Fin grid0.N, cc0_transform_2 (grid0.coords t) = ![p.val, q.val, 0] := by decide +kernel

theorem covered (i : S1x304x1024.Idx) : ∃ t : Fin (cfgM m hO).N, ((cfgM m hO).win 2).flush t = true ∧ i ∈ (((cfgM m hO).win 2).blk t).view.set := by
  have h0 : (i 0).val < 1 := (i 0).isLt
  have h1 : (i 1).val < 304 := (i 1).isLt
  have h2 : (i 2).val < 1024 := (i 2).isLt
  obtain ⟨t, ht⟩ := onto ⟨(i 0).val, h0⟩ ⟨(i 1).val / 16, by omega⟩
  refine ⟨t, flush0_2 (adm m hO) t, ?_⟩
  show i ∈ ((View.whole main_v0).slice (((cfgM m hO).win 2).rect t)).set
  erw [View.set_slice_whole, Rect.mem_set_unit]
  have key : ∀ (n : Fin 3 → ℕ), n = ![(i 0).val, (i 1).val / 16, 0] →
      ∀ a : Fin 3, n a * S1x16x1024.size a ≤ (i a).val ∧ (i a).val < n a * S1x16x1024.size a + S1x16x1024.size a := by
    intro n hn
    subst hn
    intro a
    match a with
    | ⟨0, _⟩ => show (i 0).val * 1 ≤ (i 0).val ∧ (i 0).val < (i 0).val * 1 + 1; omega
    | ⟨1, _⟩ => show (i 1).val / 16 * 16 ≤ (i 1).val ∧ (i 1).val < (i 1).val / 16 * 16 + 16; omega
    | ⟨2, _⟩ => show 0 * 1024 ≤ (i 2).val ∧ (i 2).val < 0 * 1024 + 1024; omega
  exact key _ ht

theorem final (c : Dev nD) : (dats m hO 0 c).arrAt 2 (cfgM m hO).N = goal m c :=
  (dats m hO 0 c).arrAt_eq_of_cover 2 _ (fun t _ => flushed_eq m hO c t) (covered m hO)

/-! ## The precondition says the number is one of the eight -/

theorem exists_number (hm : Cert.Pre_SumInKernelIdeal (hPre_device_number_in := preFacts) m) : ∃ s : Fin 8, device m = BitVec.ofNat 32 s.val :=
  number_of (device m) (congrFun (hm 0).1 (ix1 (0 : Fin 1))) (congrFun (hm 0).2 (ix1 (0 : Fin 1)))

/-! ## The reference's sum -/

open Cert.SumInReferenceIdeal.Read

theorem reference (x0 : Vec Ideal S8x1x304x1024 .bf16) (x1 : Vec Ideal S1x2432x1024 .bf16) (x2 : Vec Ideal S1 .i32) :
    val_main_v8 (F := Ideal) x0 x1 x2 = summed (a := 1) (R := 304) (N := 2432) (c := 1024) rfl (word x2) x0 x1 := by
  funext i
  have h0 : (i 0).val < 1 := (i 0).isLt
  have h1 : (i 1).val < 304 := (i 1).isLt
  have h2 : (i 2).val < 1024 := (i 2).isLt
  refine (val_main_v8_apply x0 x1 x2 i).trans ((congrArg₂ (· + ·) bits_zero (Finset.sum_congr rfl fun s _ => ?_)).trans (zero_add _))
  show Scalar.select (val_main_call0_v0 (F := Ideal) x2 (idx_main_v8 i s)) (val_main_v5 (F := Ideal) x1 (idx_main_v8 i s)) (x0 (idx_main_v8 i s)) = _
  have hm : val_main_call0_v0 (F := Ideal) x2 (idx_main_v8 i s) = Scalar.cmpi .eq (BitVec.ofNat 32 s.val) (word x2) := by
    rw [val_main_call0_v0_apply, val_main_v3_apply, val_main_v2_apply, val_main_v1_apply, val_main_v0_apply]
    exact congrArg (IntOp.cmpi .eq (BitVec.ofNat 32 s.val)) (word_eq x2 _)
  have hw : val_main_v5 (F := Ideal) x1 (idx_main_v8 i s) = x1 (ix3 (i 0) (row (R := 304) (N := 2432) rfl s (i 1)) (i 2)) := by
    rw [val_main_v5_apply, val_main_v4_apply]
    congr 1
    funext d
    apply Fin.ext
    have hs : s.val < 8 := s.isLt
    match d with
    | ⟨0, _⟩ => show 0 = (i 0).val; omega
    | ⟨1, _⟩ => show ((((i 0).val * 8 + s.val) * 304 + (i 1).val) * 1024 + (i 2).val) / 1024 % 2432 = s.val * 304 + (i 1).val; omega
    | ⟨2, _⟩ => show ((((i 0).val * 8 + s.val) * 304 + (i 1).val) * 1024 + (i 2).val) % 1024 = (i 2).val; omega
  have hl : idx_main_v8 i s = ix4 s (i 0) (i 1) (i 2) := funext fun d => by
    match d with
    | ⟨0, _⟩ => rfl
    | ⟨1, _⟩ => rfl
    | ⟨2, _⟩ => rfl
    | ⟨3, _⟩ => rfl
  refine (congrArg (fun q => Scalar.select q (val_main_v5 (F := Ideal) x1 (idx_main_v8 i s)) (x0 (idx_main_v8 i s))) hm).trans ((chosen _ _ _ _).trans ?_)
  by_cases h : word x2 = BitVec.ofNat 32 s.val
  · exact (if_pos h.symm).trans (hw.trans (if_pos h).symm)
  · exact (if_neg (Ne.symm h)).trans ((congrArg x0 hl).trans (if_neg h).symm)

/-! ## The claim -/

theorem algebraic : Cert.algebraic_SumInKernelIdeal_SumInReferenceIdeal (hPre_device_number_in := preFacts) := by
  intro m g m' g' hpre hargs
  have hO : Ok m := ok m (exists_number m hpre)
  refine ⟨fun c => goal m c, ?_, ?_⟩
  · refine (θ_run _ _ _).mono (fun r h c => ?_) (θ_run_and (run_main m g hO) (unchanged m g hO))
    exact ⟨((h.1 c).1 2).trans (final m hO c), h.2 c⟩
  · refine (θ_run _ _ _).mono (fun r h c => ?_) (Cert.SumInReferenceIdeal.Value.run m' g')
    obtain ⟨h0, hr⟩ := h c
    obtain ⟨e0, e1, e2⟩ := hargs c
    obtain rfl : c = 0 := Subsingleton.elim (α := Fin 1) _ _
    refine ⟨h0.trans ?_, hr⟩
    refine (reference _ _ _).trans ?_
    rw [e0, e1, e2]

end Cert.SumInKernelIdeal.Total

end
-- ==== Proof.AdalnFwdValue.lean ====
/-
  The modulation of both layers: the activation of the conditions times the layer's weights, and its bias.

  A grid point is a layer. Kernel and reference have the same sum over the conditions' elements.
-/
module

public import proofs.«01_k».proof.Defs
public import proofs.«01_k».proof.Proof.SwigluMath
public import proofs.«01_k».proof.Proof.Gen.AdalnFwdKernelIdeal.Value
public import proofs.«01_k».proof.Proof.Gen.AdalnFwdReferenceIdeal.Read
public import Idealize.ShloMosaic.Lib.Pipeline.ValueKit.Geometry
public import Idealize.ShloMosaic.Lib.Pointwise
public import Idealize.ShloMosaic.Lib.Tactic

@[expose] public section

noncomputable section

open Idealize.ShloMosaic Idealize.ShloMosaic.TcCoe Idealize.SL.Sem

/-! ## The reference at an element -/

namespace Cert.AdalnFwdReferenceIdeal.Modulation

open Cert.AdalnFwdReferenceIdeal Cert.AdalnFwdReferenceIdeal.Gen Cert.SwigluMath

variable (x : Vec Ideal S16x1024 .f32) (w : Vec Ideal S2x1024x1152 .f32) (b : Vec Ideal S2x1152 .f32)

theorem silu_apply (r : Fin 16) (k : Fin 1024) :
    (Read.val_main_v2 (F := Ideal) x : Vec Ideal S16x1024 .f32) (ix2 r k) = facU (x (ix2 r k)) := by
  unfold facU Ideal.logistic Read.val_main_v2 Read.val_main_call0_v5 Read.val_main_call0_v3 Read.val_main_call0_v4 Read.val_main_call0_v2
    Read.val_main_call0_cst Read.val_main_call0_cst_0 Read.val_main_call0_v1 Read.val_main_call0_v0
  pointwise

/-- The second layer's activation is the first's. -/
theorem silu_apply' (r : Fin 16) (k : Fin 1024) :
    (Read.val_main_v11 (F := Ideal) x : Vec Ideal S16x1024 .f32) (ix2 r k) = facU (x (ix2 r k)) :=
  silu_apply x r k

/-- A layer's modulation at an element. -/
def row (l : Fin 2) (r : Fin 16) (n : Fin 1152) : EReal := (∑ k : Fin 1024, facU (x (ix2 r k)) * w (ix3 l k n)) + b (ix2 l n)

theorem layer0 (r : Fin 16) (n : Fin 1152) : (Read.val_main_v8 (F := Ideal) x w b : Vec Ideal S16x1152 .f32) (ix2 r n) = row x w b 0 r n := by
  unfold row
  simp only [← silu_apply]
  unfold Read.val_main_v8 Read.val_main_v7 Read.val_main_v6 Read.val_main_v5 Read.val_main_v4 Read.val_main_v3 Read.val_main_v1 Read.val_main_v0
  generalize (Read.val_main_v2 (F := Ideal) x : Vec Ideal S16x1024 .f32) = a
  pointwise

theorem layer1 (r : Fin 16) (n : Fin 1152) : (Read.val_main_v17 (F := Ideal) x w b : Vec Ideal S16x1152 .f32) (ix2 r n) = row x w b 1 r n := by
  unfold row
  simp only [← silu_apply']
  unfold Read.val_main_v17 Read.val_main_v16 Read.val_main_v15 Read.val_main_v14 Read.val_main_v13 Read.val_main_v12 Read.val_main_v10 Read.val_main_v9
  generalize (Read.val_main_v11 (F := Ideal) x : Vec Ideal S16x1024 .f32) = a
  pointwise

theorem both (l : Fin 2) (r : Fin 16) (n : Fin 1152) :
    (Read.val_main_v20 (F := Ideal) x w b : Vec Ideal S2x16x1152 .f32) (ix3 l r n) = row x w b l r n := by
  unfold Read.val_main_v20 Read.val_main_v18 Read.val_main_v19
  match l with
  | 0 =>
    refine Eq.trans ?_ (layer0 x w b r n)
    generalize (Read.val_main_v8 (F := Ideal) x w b : Vec Ideal S16x1152 .f32) = p
    generalize (Read.val_main_v17 (F := Ideal) x w b : Vec Ideal S16x1152 .f32) = q
    pointwise
  | 1 =>
    refine Eq.trans ?_ (layer1 x w b r n)
    generalize (Read.val_main_v8 (F := Ideal) x w b : Vec Ideal S16x1152 .f32) = p
    generalize (Read.val_main_v17 (F := Ideal) x w b : Vec Ideal S16x1152 .f32) = q
    pointwise

end Cert.AdalnFwdReferenceIdeal.Modulation

namespace Cert.AdalnFwdKernelIdeal.Result

open Cert.AdalnFwdKernelIdeal Cert.AdalnFwdKernelIdeal.Gen Cert.SwigluMath

/-! ## What one grid point computes -/

theorem off2 : (![0, 0] : Fin 2 → Nat) = fun _ => 0 := funext fun a => by fin_cases a <;> rfl
theorem off3 : (![0, 0, 0] : Fin 3 → Nat) = fun _ => 0 := funext fun a => by fin_cases a <;> rfl

theorem out_apply (x : Vec Ideal S16x1024 .f32) (w : Vec Ideal S1x1024x1152 .f32) (b : Vec Ideal S1x1x1152 .f32)
    (z : Fin 1) (r : Fin 16) (n : Fin 1152) :
    out0_3 (F := Ideal) x w b (ix3 z r n) = (∑ k : Fin 1024, facU (x (ix2 r k)) * w (ix3 z k n)) + b (ix3 z 0 n) := by
  unfold out0_3
  rw [View.canon_unit_zero (S := S1x16x1152) off3, View.ld_unit_zero (S := S16x1024) off2, View.ld_unit_zero (S := S1x1024x1152) off3,
    View.ld_unit_zero (S := S1x1x1152) off3]
  obtain rfl : z = 0 := Subsingleton.elim _ _
  unfold facU k0_pay1
  pointwise

/-! ## The result array -/

variable (m : (ℓ : Loc nD τ sig) → Buf (Elt Ideal) ℓ) (ρ : Dev nD → PrngReg)

/-- The arrays the region finds: the conditions, the weights, the bias with a middle axis. -/
abbrev arrC (c : Dev nD) : Vec Ideal S16x1024 .f32 := V m c main_arg0
abbrev arrW (c : Dev nD) : Vec Ideal S2x1024x1152 .f32 := V m c main_arg1
abbrev arrB (c : Dev nD) : Vec Ideal S2x1x1152 .f32 := V m c main_v0

abbrev b0 (c : Dev nD) (t : Fin cfg0.N) : Vec Ideal S16x1024 .f32 := iblk m c 0 t
abbrev b1 (c : Dev nD) (t : Fin cfg0.N) : Vec Ideal S1x1024x1152 .f32 := iblk m c 1 t
abbrev b2 (c : Dev nD) (t : Fin cfg0.N) : Vec Ideal S1x1x1152 .f32 := iblk m c 2 t

theorem at0 : ∀ t : Fin cfg0.N, win0_0.index t (0 : Fin 2) = 0 ∧ win0_0.index t (1 : Fin 2) = 0 :=
  (by decide +kernel : ∀ t : Fin grid0.N, _)
theorem at1 : ∀ t : Fin cfg0.N, win0_1.index t (0 : Fin 3) = t.val ∧ win0_1.index t (1 : Fin 3) = 0 ∧ win0_1.index t (2 : Fin 3) = 0 :=
  (by decide +kernel : ∀ t : Fin grid0.N, _)
theorem at2 : ∀ t : Fin cfg0.N, win0_2.index t (0 : Fin 3) = t.val ∧ win0_2.index t (1 : Fin 3) = 0 ∧ win0_2.index t (2 : Fin 3) = 0 :=
  (by decide +kernel : ∀ t : Fin grid0.N, _)
theorem at3 : ∀ t : Fin cfg0.N, win0_3.index t (0 : Fin 3) = t.val ∧ win0_3.index t (1 : Fin 3) = 0 ∧ win0_3.index t (2 : Fin 3) = 0 :=
  (by decide +kernel : ∀ t : Fin grid0.N, _)

theorem b0_apply (c : Dev nD) (t : Fin cfg0.N) (r : Fin 16) (k : Fin 1024) : b0 m c t (ix2 r k) = arrC m c (ix2 r k) := by
  unfold b0 iblk
  rw [View.read_apply]
  show arrC m c _ = arrC m c _
  generalize arrC m c = f
  congr 1
  obtain ⟨e0, e1⟩ := at0 t
  funext d
  apply Fin.ext
  match d with
  | ⟨0, _⟩ => show win0_0.index t (0 : Fin 2) * 16 + 1 * r.val = r.val; rw [e0]; omega
  | ⟨1, _⟩ => show win0_0.index t (1 : Fin 2) * 1024 + 1 * k.val = k.val; rw [e1]; omega

theorem b1_apply (c : Dev nD) (t : Fin cfg0.N) (z : Fin 1) (k : Fin 1024) (n : Fin 1152) (l : Fin 2) (hl : l.val = t.val) :
    b1 m c t (ix3 z k n) = arrW m c (ix3 l k n) := by
  unfold b1 iblk
  rw [View.read_apply]
  show arrW m c _ = arrW m c _
  generalize arrW m c = f
  congr 1
  obtain ⟨e0, e1, e2⟩ := at1 t
  funext d
  apply Fin.ext
  match d with
  | ⟨0, _⟩ => show win0_1.index t (0 : Fin 3) * 1 + 1 * z.val = l.val; rw [e0]; omega
  | ⟨1, _⟩ => show win0_1.index t (1 : Fin 3) * 1024 + 1 * k.val = k.val; rw [e1]; omega
  | ⟨2, _⟩ => show win0_1.index t (2 : Fin 3) * 1152 + 1 * n.val = n.val; rw [e2]; omega

theorem b2_apply (c : Dev nD) (t : Fin cfg0.N) (z : Fin 1) (n : Fin 1152) (l : Fin 2) (hl : l.val = t.val) :
    b2 m c t (ix3 z 0 n) = arrB m c (ix3 l 0 n) := by
  unfold b2 iblk
  rw [View.read_apply]
  show arrB m c _ = arrB m c _
  generalize arrB m c = f
  congr 1
  obtain ⟨e0, e1, e2⟩ := at2 t
  funext d
  apply Fin.ext
  match d with
  | ⟨0, _⟩ => show win0_2.index t (0 : Fin 3) * 1 + 1 * z.val = l.val; rw [e0]; omega
  | ⟨1, _⟩ => show win0_2.index t (1 : Fin 3) * 1 + 1 * 0 = 0; rw [e1]
  | ⟨2, _⟩ => show win0_2.index t (2 : Fin 3) * 1152 + 1 * n.val = n.val; rw [e2]; omega

/-- The modulation of both layers. -/
def res (c : Dev nD) : Vec Ideal S2x16x1152 .f32 := fun i =>
  (∑ k : Fin 1024, facU (arrC m c (ix2 (i 1) k)) * arrW m c (ix3 (i 0) k (i 2))) + arrB m c (ix3 (i 0) 0 (i 2))

theorem final (c : Dev nD) : (dats m 0 c).arrAt 3 cfg0.N = res m c := by
  refine (dats m 0 c).arrAt_eq_of_covers 3 _ (by decide +kernel) fun t _ y => ?_
  refine (?_ : (dats m 0 c).after 3 t ((cfg0.win 3).xinj (grid0.coords t) y) = res m c (((cfg0.win 3).blk t).view.emb y))
  rw [after0_3]
  obtain ⟨e0, e1, e2⟩ := at3 t
  have hN : cfg0.N = 2 := N_0
  have ht : t.val < 2 := hN ▸ t.isLt
  have h0 : (y 0).val < 1 := (y 0).isLt
  have h1 : (y 1).val < 16 := (y 1).isLt
  have h2 : (y 2).val < 1152 := (y 2).isLt
  have hx : (cfg0.win 3).xinj (grid0.coords t) y = ix3 (⟨(y 0).val, h0⟩ : Fin 1) (⟨(y 1).val, h1⟩ : Fin 16) (⟨(y 2).val, h2⟩ : Fin 1152) := by
    funext d; apply Fin.ext
    match d with
    | ⟨0, _⟩ => rfl
    | ⟨1, _⟩ => rfl
    | ⟨2, _⟩ => rfl
  have he : ((cfg0.win 3).blk t).view.emb y = ix3 (⟨t.val, ht⟩ : Fin 2) (⟨(y 1).val, h1⟩ : Fin 16) (⟨(y 2).val, h2⟩ : Fin 1152) := by
    funext d; apply Fin.ext
    match d with
    | ⟨0, _⟩ => show win0_3.index t (0 : Fin 3) * 1 + 1 * (y 0).val = t.val; rw [e0]; omega
    | ⟨1, _⟩ => show win0_3.index t (1 : Fin 3) * 16 + 1 * (y 1).val = (y 1).val; rw [e1]; omega
    | ⟨2, _⟩ => show win0_3.index t (2 : Fin 3) * 1152 + 1 * (y 2).val = (y 2).val; rw [e2]; omega
  rw [hx, he]
  show out0_3 (b0 m c t) (b1 m c t) (b2 m c t) _ = _
  rw [out_apply, b2_apply m c t _ _ ⟨t.val, ht⟩ rfl]
  refine congrArg (· + _) (Finset.sum_congr rfl fun k _ => ?_)
  rw [b0_apply, b1_apply m c t _ _ _ ⟨t.val, ht⟩ rfl]
  rfl

/-! ## What the host prepares -/

abbrev argC (c : Dev nD) : Vec Ideal S16x1024 .f32 := m ((c : Thread nD τ).loc main_arg0)
abbrev argW (c : Dev nD) : Vec Ideal S2x1024x1152 .f32 := m ((c : Thread nD τ).loc main_arg1)
abbrev argB (c : Dev nD) : Vec Ideal S2x1152 .f32 := m ((c : Thread nD τ).loc main_arg2)

theorem V_b (c : Dev nD) (l : Fin 2) (n : Fin 1152) : arrB m c (ix3 l 0 n) = argB m c (ix2 l n) := by
  have e : arrB m c = broadcastInDim S2x1x1152 ![0, 2] bcast_S2x1152_S2x1x1152_0_2 (argB m c) := by
    show V m c main_v0 = _
    unfold V
    simp only [hostOps0, StableHlo.TRef.binary, StableHlo.TRef.nullary, StableHlo.TRef.unary, StableHlo.TRef.toBuf, StableHlo.TRef.ofBuf, cast_eq]
    after_results
  rw [e]
  generalize argB m c = a
  pointwise

theorem res_eq (c : Dev nD) : res m c
    = (Cert.AdalnFwdReferenceIdeal.Read.val_main_v20 (F := Ideal) (argC m c) (argW m c) (argB m c) : Vec Ideal S2x16x1152 .f32) := by
  funext i
  idx_vars i
  refine Eq.trans ?_ (Cert.AdalnFwdReferenceIdeal.Modulation.both _ _ _ i0 i1 i2).symm
  show (∑ k : Fin 1024, facU (arrC m c (ix2 i1 k)) * arrW m c (ix3 i0 k i2)) + arrB m c (ix3 i0 0 i2) = _
  rw [V_b, show arrC m c = argC m c from V_main_arg0 m c, show arrW m c = argW m c from V_main_arg1 m c]
  rfl

/-! ## The claim -/

theorem algebraic : Cert.algebraic_AdalnFwdKernelIdeal_AdalnFwdReferenceIdeal := by
  intro m g m' g' _ hargs
  refine ⟨fun c => res m c, (θ_run defs _ _).mono (fun r h c => ⟨(h c).1.trans (final m c), (h c).2⟩) (Value.run_blocks m g), ?_⟩
  refine (θ_run _ _ _).mono (fun r h c => ?_) (Cert.AdalnFwdReferenceIdeal.Value.run m' g')
  obtain ⟨h0, hr⟩ := h c
  obtain ⟨e0, e1, e2⟩ := hargs c
  refine ⟨h0.trans ?_, hr⟩
  rw [Cert.AdalnFwdReferenceIdeal.Read.val_main_v20_eq, e0, e1, e2]
  exact (res_eq m c).symm

end Cert.AdalnFwdKernelIdeal.Result

end
-- ==== Proof.lean ====
/-
  The claim: for each program, the kernel and its reference run to the end and leave
  their arguments as they were, and over the extended reals the kernel's result is the reference's.
-/
module

public import proofs.«01_k».proof.Defs
public import proofs.«01_k».proof.Proof.Gen.DhKernel
public import proofs.«01_k».proof.Proof.Gen.DhKernel.Frame
public import proofs.«01_k».proof.Proof.Gen.DhKernelIdeal
public import proofs.«01_k».proof.Proof.Gen.DhKernelIdeal.Frame
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.DwoKernel
public import proofs.«01_k».proof.Proof.Gen.DwoKernel.Frame
public import proofs.«01_k».proof.Proof.Gen.DwoKernelIdeal
public import proofs.«01_k».proof.Proof.Gen.DwoKernelIdeal.Frame
public import proofs.«01_k».proof.Proof.Gen.DwoReferenceIdeal
public import proofs.«01_k».proof.Proof.Gen.DwoReferenceIdeal.Run
public import proofs.«01_k».proof.Proof.Gen.DwoReferenceIdeal.Read
public import proofs.«01_k».proof.Proof.Gen.DwoKernelIdeal.Value
public import proofs.«01_k».proof.Proof.Gen.DwiKernel
public import proofs.«01_k».proof.Proof.Gen.DwiKernel.Frame
public import proofs.«01_k».proof.Proof.Gen.DwiKernelIdeal
public import proofs.«01_k».proof.Proof.Gen.DwiKernelIdeal.Frame
public import proofs.«01_k».proof.Proof.Gen.DwiReferenceIdeal
public import proofs.«01_k».proof.Proof.Gen.DwiReferenceIdeal.Run
public import proofs.«01_k».proof.Proof.Gen.DwiReferenceIdeal.Read
public import proofs.«01_k».proof.Proof.Gen.DwiKernelIdeal.Value
public import proofs.«01_k».proof.Proof.Gen.DhCtxKernel
public import proofs.«01_k».proof.Proof.Gen.DhCtxKernel.Frame
public import proofs.«01_k».proof.Proof.Gen.DhCtxKernelIdeal
public import proofs.«01_k».proof.Proof.Gen.DhCtxKernelIdeal.Frame
public import proofs.«01_k».proof.Proof.Gen.DhCtxReferenceIdeal
public import proofs.«01_k».proof.Proof.Gen.DhCtxReferenceIdeal.Run
public import proofs.«01_k».proof.Proof.Gen.DhCtxReferenceIdeal.Read
public import proofs.«01_k».proof.Proof.Gen.DwoCtxKernel
public import proofs.«01_k».proof.Proof.Gen.DwoCtxKernel.Frame
public import proofs.«01_k».proof.Proof.Gen.DwoCtxKernelIdeal
public import proofs.«01_k».proof.Proof.Gen.DwoCtxKernelIdeal.Frame
public import proofs.«01_k».proof.Proof.Gen.DwoCtxReferenceIdeal
public import proofs.«01_k».proof.Proof.Gen.DwoCtxReferenceIdeal.Run
public import proofs.«01_k».proof.Proof.Gen.DwoCtxReferenceIdeal.Read
public import proofs.«01_k».proof.Proof.Gen.DwoCtxKernelIdeal.Value
public import proofs.«01_k».proof.Proof.Gen.DwiCtxKernel
public import proofs.«01_k».proof.Proof.Gen.DwiCtxKernel.Frame
public import proofs.«01_k».proof.Proof.Gen.DwiCtxKernelIdeal
public import proofs.«01_k».proof.Proof.Gen.DwiCtxKernelIdeal.Frame
public import proofs.«01_k».proof.Proof.Gen.DwiCtxReferenceIdeal
public import proofs.«01_k».proof.Proof.Gen.DwiCtxReferenceIdeal.Run
public import proofs.«01_k».proof.Proof.Gen.DwiCtxReferenceIdeal.Read
public import proofs.«01_k».proof.Proof.Gen.DwiCtxKernelIdeal.Value
public import proofs.«01_k».proof.Proof.Gen.AdamWiKernel
public import proofs.«01_k».proof.Proof.Gen.AdamWiKernel.Frame
public import proofs.«01_k».proof.Proof.Gen.AdamWiKernelIdeal
public import proofs.«01_k».proof.Proof.Gen.AdamWiKernelIdeal.Frame
public import proofs.«01_k».proof.Proof.Gen.AdamWiReferenceIdeal
public import proofs.«01_k».proof.Proof.Gen.AdamWiReferenceIdeal.Run
public import proofs.«01_k».proof.Proof.Gen.AdamWiReferenceIdeal.Read
public import proofs.«01_k».proof.Proof.Gen.AdamWiKernelIdeal.Value
public import proofs.«01_k».proof.Proof.Gen.AdamWoKernel
public import proofs.«01_k».proof.Proof.Gen.AdamWoKernel.Frame
public import proofs.«01_k».proof.Proof.Gen.AdamWoKernelIdeal
public import proofs.«01_k».proof.Proof.Gen.AdamWoKernelIdeal.Frame
public import proofs.«01_k».proof.Proof.Gen.AdamWoReferenceIdeal
public import proofs.«01_k».proof.Proof.Gen.AdamWoReferenceIdeal.Run
public import proofs.«01_k».proof.Proof.Gen.AdamWoReferenceIdeal.Read
public import proofs.«01_k».proof.Proof.Gen.AdamWoKernelIdeal.Value
public import proofs.«01_k».proof.Proof.Gen.AdamInKernel
public import proofs.«01_k».proof.Proof.Gen.AdamInKernel.Frame
public import proofs.«01_k».proof.Proof.Gen.AdamInKernelIdeal
public import proofs.«01_k».proof.Proof.Gen.AdamInKernelIdeal.Frame
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamInKernelIdeal.Value
public import proofs.«01_k».proof.Proof.Gen.AdamOutKernel
public import proofs.«01_k».proof.Proof.Gen.AdamOutKernel.Frame
public import proofs.«01_k».proof.Proof.Gen.AdamOutKernelIdeal
public import proofs.«01_k».proof.Proof.Gen.AdamOutKernelIdeal.Frame
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamOutKernelIdeal.Value
public import proofs.«01_k».proof.Proof.Gen.AdamPoolKernel
public import proofs.«01_k».proof.Proof.Gen.AdamPoolKernel.Frame
public import proofs.«01_k».proof.Proof.Gen.AdamPoolKernelIdeal
public import proofs.«01_k».proof.Proof.Gen.AdamPoolKernelIdeal.Frame
public import proofs.«01_k».proof.Proof.Gen.AdamPoolReferenceIdeal
public import proofs.«01_k».proof.Proof.Gen.AdamPoolReferenceIdeal.Run
public import proofs.«01_k».proof.Proof.Gen.AdamPoolReferenceIdeal.Read
public import proofs.«01_k».proof.Proof.Gen.AdamPoolKernelIdeal.Value
public import proofs.«01_k».proof.Proof.Gen.AdamModKernel
public import proofs.«01_k».proof.Proof.Gen.AdamModKernel.Frame
public import proofs.«01_k».proof.Proof.Gen.AdamModKernelIdeal
public import proofs.«01_k».proof.Proof.Gen.AdamModKernelIdeal.Frame
public import proofs.«01_k».proof.Proof.Gen.AdamModReferenceIdeal
public import proofs.«01_k».proof.Proof.Gen.AdamModReferenceIdeal.Run
public import proofs.«01_k».proof.Proof.Gen.AdamModReferenceIdeal.Read
public import proofs.«01_k».proof.Proof.Gen.AdamModKernelIdeal.Value
public import proofs.«01_k».proof.Proof.Gen.AdamSmallKernel
public import proofs.«01_k».proof.Proof.Gen.AdamSmallKernel.Frame
public import proofs.«01_k».proof.Proof.Gen.AdamSmallKernelIdeal
public import proofs.«01_k».proof.Proof.Gen.AdamSmallKernelIdeal.Frame
public import proofs.«01_k».proof.Proof.Gen.AdamSmallReferenceIdeal
public import proofs.«01_k».proof.Proof.Gen.AdamSmallReferenceIdeal.Run
public import proofs.«01_k».proof.Proof.Gen.SumSmallKernel
public import proofs.«01_k».proof.Proof.Gen.SumSmallKernel.Frame
public import proofs.«01_k».proof.Proof.Gen.SumSmallKernelIdeal
public import proofs.«01_k».proof.Proof.Gen.SumSmallKernelIdeal.Frame
public import proofs.«01_k».proof.Proof.Gen.SumSmallReferenceIdeal
public import proofs.«01_k».proof.Proof.Gen.SumSmallReferenceIdeal.Run
public import proofs.«01_k».proof.Proof.Gen.SumSmallReferenceIdeal.Read
public import proofs.«01_k».proof.Proof.Gen.SumCtxKernel
public import proofs.«01_k».proof.Proof.Gen.SumCtxKernel.Frame
public import proofs.«01_k».proof.Proof.Gen.SumCtxKernelIdeal
public import proofs.«01_k».proof.Proof.Gen.SumCtxKernelIdeal.Frame
public import proofs.«01_k».proof.Proof.Gen.SumCtxReferenceIdeal
public import proofs.«01_k».proof.Proof.Gen.SumCtxReferenceIdeal.Run
public import proofs.«01_k».proof.Proof.Gen.SumCtxReferenceIdeal.Read
public import proofs.«01_k».proof.Proof.Gen.AdalnKernel
public import proofs.«01_k».proof.Proof.Gen.AdalnKernel.Frame
public import proofs.«01_k».proof.Proof.Gen.AdalnKernelIdeal
public import proofs.«01_k».proof.Proof.Gen.AdalnKernelIdeal.Frame
public import proofs.«01_k».proof.Proof.Gen.AdalnReferenceIdeal
public import proofs.«01_k».proof.Proof.Gen.AdalnReferenceIdeal.Run
public import proofs.«01_k».proof.Proof.Gen.AdalnReferenceIdeal.Read
public import proofs.«01_k».proof.Proof.Gen.AdalnKernelIdeal.Value
public import proofs.«01_k».proof.Proof.DhValue
public import proofs.«01_k».proof.Proof.DwoValue
public import proofs.«01_k».proof.Proof.DwiValue
public import proofs.«01_k».proof.Proof.DhCtxValue
public import proofs.«01_k».proof.Proof.DwoCtxValue
public import proofs.«01_k».proof.Proof.DwiCtxValue
public import proofs.«01_k».proof.Proof.AdamWiValue
public import proofs.«01_k».proof.Proof.AdamWoValue
public import proofs.«01_k».proof.Proof.AdamInValue
public import proofs.«01_k».proof.Proof.AdamOutValue
public import proofs.«01_k».proof.Proof.AdamPoolValue
public import proofs.«01_k».proof.Proof.AdamModValue
public import proofs.«01_k».proof.Proof.AdamSmallValue
public import proofs.«01_k».proof.Proof.SumSmallValue
public import proofs.«01_k».proof.Proof.SumCtxValue
public import proofs.«01_k».proof.Proof.AdalnValue
public import proofs.«01_k».proof.Proof.Gen.SumWoKernel
public import proofs.«01_k».proof.Proof.Gen.SumWoKernel.Frame
public import proofs.«01_k».proof.Proof.Gen.SumWoKernelIdeal
public import proofs.«01_k».proof.Proof.Gen.SumWoKernelIdeal.Frame
public import proofs.«01_k».proof.Proof.Gen.SumWoReferenceIdeal
public import proofs.«01_k».proof.Proof.Gen.SumWoReferenceIdeal.Run
public import proofs.«01_k».proof.Proof.Gen.SumWoReferenceIdeal.Read
public import proofs.«01_k».proof.Proof.Gen.SumOutKernel
public import proofs.«01_k».proof.Proof.Gen.SumOutKernel.Frame
public import proofs.«01_k».proof.Proof.Gen.SumOutKernelIdeal
public import proofs.«01_k».proof.Proof.Gen.SumOutKernelIdeal.Frame
public import proofs.«01_k».proof.Proof.Gen.SumOutReferenceIdeal
public import proofs.«01_k».proof.Proof.Gen.SumOutReferenceIdeal.Run
public import proofs.«01_k».proof.Proof.Gen.SumOutReferenceIdeal.Read
public import proofs.«01_k».proof.Proof.Gen.SumWiKernel
public import proofs.«01_k».proof.Proof.Gen.SumWiKernel.Frame
public import proofs.«01_k».proof.Proof.Gen.SumWiKernelIdeal
public import proofs.«01_k».proof.Proof.Gen.SumWiKernelIdeal.Frame
public import proofs.«01_k».proof.Proof.Gen.SumWiReferenceIdeal
public import proofs.«01_k».proof.Proof.Gen.SumWiReferenceIdeal.Run
public import proofs.«01_k».proof.Proof.Gen.SumWiReferenceIdeal.Read
public import proofs.«01_k».proof.Proof.Gen.SumPoolKernel
public import proofs.«01_k».proof.Proof.Gen.SumPoolKernel.Frame
public import proofs.«01_k».proof.Proof.Gen.SumPoolKernelIdeal
public import proofs.«01_k».proof.Proof.Gen.SumPoolKernelIdeal.Frame
public import proofs.«01_k».proof.Proof.Gen.SumPoolReferenceIdeal
public import proofs.«01_k».proof.Proof.Gen.SumPoolReferenceIdeal.Run
public import proofs.«01_k».proof.Proof.Gen.SumPoolReferenceIdeal.Read
public import proofs.«01_k».proof.Proof.Gen.SumInKernel
public import proofs.«01_k».proof.Proof.Gen.SumInKernel.Frame
public import proofs.«01_k».proof.Proof.Gen.SumInKernelIdeal
public import proofs.«01_k».proof.Proof.Gen.SumInKernelIdeal.Frame
public import proofs.«01_k».proof.Proof.Gen.SumInReferenceIdeal
public import proofs.«01_k».proof.Proof.Gen.SumInReferenceIdeal.Run
public import proofs.«01_k».proof.Proof.Gen.SumInReferenceIdeal.Read
public import proofs.«01_k».proof.Proof.SumWoValue
public import proofs.«01_k».proof.Proof.SumOutValue
public import proofs.«01_k».proof.Proof.SumWiValue
public import proofs.«01_k».proof.Proof.SumPoolValue
public import proofs.«01_k».proof.Proof.SumInValue
public import proofs.«01_k».proof.Proof.Gen.AdalnFwdKernel
public import proofs.«01_k».proof.Proof.Gen.AdalnFwdKernel.Frame
public import proofs.«01_k».proof.Proof.Gen.AdalnFwdKernelIdeal
public import proofs.«01_k».proof.Proof.Gen.AdalnFwdKernelIdeal.Frame
public import proofs.«01_k».proof.Proof.Gen.AdalnFwdReferenceIdeal
public import proofs.«01_k».proof.Proof.Gen.AdalnFwdReferenceIdeal.Run
public import proofs.«01_k».proof.Proof.Gen.AdalnFwdReferenceIdeal.Read
public import proofs.«01_k».proof.Proof.Gen.AdalnFwdKernelIdeal.Value
public import proofs.«01_k».proof.Proof.AdalnFwdValue
public import Idealize.ShloMosaic.Lib.Quiescent

@[expose] public section

noncomputable section

namespace Cert.Proof

open Idealize.ShloMosaic Idealize.SL.Sem

theorem claim : Cert.Claim := ⟨Cert.DhKernel.Gen.facts,
  Cert.DhKernelIdeal.Gen.facts,
  Cert.DhReferenceIdeal.Gen.facts,
  Cert.DwoKernel.Gen.facts,
  Cert.DwoKernelIdeal.Gen.facts,
  Cert.DwoReferenceIdeal.Gen.facts,
  Cert.DwiKernel.Gen.facts,
  Cert.DwiKernelIdeal.Gen.facts,
  Cert.DwiReferenceIdeal.Gen.facts,
  Cert.DhCtxKernel.Gen.facts,
  Cert.DhCtxKernelIdeal.Gen.facts,
  Cert.DhCtxReferenceIdeal.Gen.facts,
  Cert.DwoCtxKernel.Gen.facts,
  Cert.DwoCtxKernelIdeal.Gen.facts,
  Cert.DwoCtxReferenceIdeal.Gen.facts,
  Cert.DwiCtxKernel.Gen.facts,
  Cert.DwiCtxKernelIdeal.Gen.facts,
  Cert.DwiCtxReferenceIdeal.Gen.facts,
  Cert.AdamWiKernel.Gen.facts,
  Cert.AdamWiKernelIdeal.Gen.facts,
  Cert.AdamWiReferenceIdeal.Gen.facts,
  Cert.AdamWoKernel.Gen.facts,
  Cert.AdamWoKernelIdeal.Gen.facts,
  Cert.AdamWoReferenceIdeal.Gen.facts,
  Cert.AdamInKernel.Gen.facts,
  Cert.AdamInKernelIdeal.Gen.facts,
  Cert.AdamInReferenceIdeal.Gen.facts,
  Cert.AdamOutKernel.Gen.facts,
  Cert.AdamOutKernelIdeal.Gen.facts,
  Cert.AdamOutReferenceIdeal.Gen.facts,
  Cert.AdamPoolKernel.Gen.facts,
  Cert.AdamPoolKernelIdeal.Gen.facts,
  Cert.AdamPoolReferenceIdeal.Gen.facts,
  Cert.AdamModKernel.Gen.facts,
  Cert.AdamModKernelIdeal.Gen.facts,
  Cert.AdamModReferenceIdeal.Gen.facts,
  Cert.AdamSmallKernel.Gen.facts,
  Cert.AdamSmallKernelIdeal.Gen.facts,
  Cert.AdamSmallReferenceIdeal.Gen.facts,
  Cert.SumSmallKernel.Gen.facts,
  Cert.SumSmallKernelIdeal.Gen.facts,
  Cert.SumSmallReferenceIdeal.Gen.facts,
  Cert.SumCtxKernel.Gen.facts,
  Cert.SumCtxKernelIdeal.Gen.facts,
  Cert.SumCtxReferenceIdeal.Gen.facts,
  Cert.AdalnKernel.Gen.facts,
  Cert.AdalnKernelIdeal.Gen.facts,
  Cert.AdalnReferenceIdeal.Gen.facts,
  Cert.SumWoKernel.Gen.facts,
  Cert.SumWoKernelIdeal.Gen.facts,
  Cert.SumWoReferenceIdeal.Gen.facts,
  Cert.SumOutKernel.Gen.facts,
  Cert.SumOutKernelIdeal.Gen.facts,
  Cert.SumOutReferenceIdeal.Gen.facts,
  Cert.SumWiKernel.Gen.facts,
  Cert.SumWiKernelIdeal.Gen.facts,
  Cert.SumWiReferenceIdeal.Gen.facts,
  Cert.SumPoolKernel.Gen.facts,
  Cert.SumPoolKernelIdeal.Gen.facts,
  Cert.SumPoolReferenceIdeal.Gen.facts,
  Cert.SumInKernel.Gen.facts,
  Cert.SumInKernelIdeal.Gen.facts,
  Cert.SumInReferenceIdeal.Gen.facts,
  Cert.AdalnFwdKernel.Gen.facts,
  Cert.AdalnFwdKernelIdeal.Gen.facts,
  Cert.AdalnFwdReferenceIdeal.Gen.facts,
  Cert.DhKernelIdeal.Result.preFacts,
  Cert.DhCtxKernelIdeal.Result.preFacts,
  Cert.AdalnKernelIdeal.Result.preFacts,
  Cert.SumWoKernelIdeal.Total.preFacts,
  Cert.SumOutKernelIdeal.Total.preFacts,
  Cert.SumWiKernelIdeal.Total.preFacts,
  Cert.SumPoolKernelIdeal.Total.preFacts,
  Cert.SumInKernelIdeal.Total.preFacts,
  fun m ρ _ => Cert.DhKernel.Gen.frame m ρ,
  fun m ρ _ => Cert.DhKernelIdeal.Gen.frame m ρ,
  fun m ρ _ => Cert.DhKernelIdeal.Gen.frame m ρ,
  fun m ρ _ => (θ_run _ _ _).mono (fun r h => ⟨fun c => (h c).2, sem_eq_zero_of_no_sems (by decide) r.2⟩) (Cert.DhReferenceIdeal.Value.run m ρ),
  fun m ρ _ => (θ_run _ _ _).mono (fun r h => ⟨fun c => (h c).2, sem_eq_zero_of_no_sems (by decide) r.2⟩) (Cert.DhReferenceIdeal.Value.run m ρ),
  fun m ρ _ => Cert.DwoKernel.Gen.frame m ρ,
  fun m ρ _ => Cert.DwoKernelIdeal.Gen.frame m ρ,
  fun m ρ _ => (θ_run _ _ _).mono (fun r h => ⟨fun c => (h c).2, sem_eq_zero_of_no_sems (by decide) r.2⟩) (Cert.DwoReferenceIdeal.Value.run m ρ),
  fun m ρ _ => Cert.DwiKernel.Gen.frame m ρ,
  fun m ρ _ => Cert.DwiKernelIdeal.Gen.frame m ρ,
  fun m ρ _ => (θ_run _ _ _).mono (fun r h => ⟨fun c => (h c).2, sem_eq_zero_of_no_sems (by decide) r.2⟩) (Cert.DwiReferenceIdeal.Value.run m ρ),
  fun m ρ _ => Cert.DhCtxKernel.Gen.frame m ρ,
  fun m ρ _ => Cert.DhCtxKernelIdeal.Gen.frame m ρ,
  fun m ρ _ => Cert.DhCtxKernelIdeal.Gen.frame m ρ,
  fun m ρ _ => (θ_run _ _ _).mono (fun r h => ⟨fun c => (h c).2, sem_eq_zero_of_no_sems (by decide) r.2⟩) (Cert.DhCtxReferenceIdeal.Value.run m ρ),
  fun m ρ _ => (θ_run _ _ _).mono (fun r h => ⟨fun c => (h c).2, sem_eq_zero_of_no_sems (by decide) r.2⟩) (Cert.DhCtxReferenceIdeal.Value.run m ρ),
  fun m ρ _ => Cert.DwoCtxKernel.Gen.frame m ρ,
  fun m ρ _ => Cert.DwoCtxKernelIdeal.Gen.frame m ρ,
  fun m ρ _ => (θ_run _ _ _).mono (fun r h => ⟨fun c => (h c).2, sem_eq_zero_of_no_sems (by decide) r.2⟩) (Cert.DwoCtxReferenceIdeal.Value.run m ρ),
  fun m ρ _ => Cert.DwiCtxKernel.Gen.frame m ρ,
  fun m ρ _ => Cert.DwiCtxKernelIdeal.Gen.frame m ρ,
  fun m ρ _ => (θ_run _ _ _).mono (fun r h => ⟨fun c => (h c).2, sem_eq_zero_of_no_sems (by decide) r.2⟩) (Cert.DwiCtxReferenceIdeal.Value.run m ρ),
  fun m ρ _ => Cert.AdamWiKernel.Gen.frame m ρ,
  fun m ρ _ => Cert.AdamWiKernelIdeal.Gen.frame m ρ,
  fun m ρ _ => (θ_run _ _ _).mono (fun r h => ⟨fun c => (h c).2.2.2, sem_eq_zero_of_no_sems (by decide) r.2⟩) (Cert.AdamWiReferenceIdeal.Value.run m ρ),
  fun m ρ _ => Cert.AdamWoKernel.Gen.frame m ρ,
  fun m ρ _ => Cert.AdamWoKernelIdeal.Gen.frame m ρ,
  fun m ρ _ => (θ_run _ _ _).mono (fun r h => ⟨fun c => (h c).2.2.2, sem_eq_zero_of_no_sems (by decide) r.2⟩) (Cert.AdamWoReferenceIdeal.Value.run m ρ),
  fun m ρ _ => Cert.AdamInKernel.Gen.frame m ρ,
  fun m ρ _ => Cert.AdamInKernelIdeal.Gen.frame m ρ,
  fun m ρ _ => (θ_run _ _ _).mono (fun r h => ⟨fun c => (h c).2.2.2, sem_eq_zero_of_no_sems (by decide) r.2⟩) (Cert.AdamInReferenceIdeal.Value.run m ρ),
  fun m ρ _ => Cert.AdamOutKernel.Gen.frame m ρ,
  fun m ρ _ => Cert.AdamOutKernelIdeal.Gen.frame m ρ,
  fun m ρ _ => (θ_run _ _ _).mono (fun r h => ⟨fun c => (h c).2.2.2, sem_eq_zero_of_no_sems (by decide) r.2⟩) (Cert.AdamOutReferenceIdeal.Value.run m ρ),
  fun m ρ _ => Cert.AdamPoolKernel.Gen.frame m ρ,
  fun m ρ _ => Cert.AdamPoolKernelIdeal.Gen.frame m ρ,
  fun m ρ _ => (θ_run _ _ _).mono (fun r h => ⟨fun c => (h c).2.2.2, sem_eq_zero_of_no_sems (by decide) r.2⟩) (Cert.AdamPoolReferenceIdeal.Value.run m ρ),
  fun m ρ _ => Cert.AdamModKernel.Gen.frame m ρ,
  fun m ρ _ => Cert.AdamModKernelIdeal.Gen.frame m ρ,
  fun m ρ _ => (θ_run _ _ _).mono (fun r h => ⟨fun c => (h c).2.2.2, sem_eq_zero_of_no_sems (by decide) r.2⟩) (Cert.AdamModReferenceIdeal.Value.run m ρ),
  fun m ρ _ => Cert.AdamSmallKernel.Gen.frame m ρ,
  fun m ρ _ => Cert.AdamSmallKernelIdeal.Gen.frame m ρ,
  fun m ρ _ => (θ_run _ _ _).mono (fun r h => ⟨fun c => (h c).2.2.2.2.2.2.2.2.2.2.2.2.2.2.2.2.2.2.2.2.2.2.2.2.2.2.2.2.2.2.2.2.2, sem_eq_zero_of_no_sems (by decide) r.2⟩) (Cert.AdamSmallReferenceIdeal.Value.run m ρ),
  fun m ρ _ => Cert.SumSmallKernel.Gen.frame m ρ,
  fun m ρ _ => Cert.SumSmallKernelIdeal.Gen.frame m ρ,
  fun m ρ _ => (θ_run _ _ _).mono (fun r h => ⟨fun c => (h c).2.2.2.2.2.2.2.2.2.2.2, sem_eq_zero_of_no_sems (by decide) r.2⟩) (Cert.SumSmallReferenceIdeal.Value.run m ρ),
  fun m ρ _ => Cert.SumCtxKernel.Gen.frame m ρ,
  fun m ρ _ => Cert.SumCtxKernelIdeal.Gen.frame m ρ,
  fun m ρ _ => (θ_run _ _ _).mono (fun r h => ⟨fun c => (h c).2, sem_eq_zero_of_no_sems (by decide) r.2⟩) (Cert.SumCtxReferenceIdeal.Value.run m ρ),
  fun m ρ _ => Cert.AdalnKernel.Gen.frame m ρ,
  fun m ρ _ => Cert.AdalnKernelIdeal.Gen.frame m ρ,
  fun m ρ _ => Cert.AdalnKernelIdeal.Gen.frame m ρ,
  fun m ρ _ => (θ_run _ _ _).mono (fun r h => ⟨fun c => (h c).2.2, sem_eq_zero_of_no_sems (by decide) r.2⟩) (Cert.AdalnReferenceIdeal.Value.run m ρ),
  fun m ρ _ => (θ_run _ _ _).mono (fun r h => ⟨fun c => (h c).2.2, sem_eq_zero_of_no_sems (by decide) r.2⟩) (Cert.AdalnReferenceIdeal.Value.run m ρ),
  fun m ρ h => Cert.SumWoKernel.Gen.frame m ρ (Cert.SumWoKernelIdeal.Total.ok_printed m h),
  fun m ρ h => Cert.SumWoKernelIdeal.Gen.frame m ρ (Cert.SumWoKernelIdeal.Total.ok m (Cert.SumWoKernelIdeal.Total.exists_number m h)),
  fun m ρ _ => (θ_run _ _ _).mono (fun r h => ⟨fun c => (h c).2, sem_eq_zero_of_no_sems (by decide) r.2⟩) (Cert.SumWoReferenceIdeal.Value.run m ρ),
  fun m ρ _ => (θ_run _ _ _).mono (fun r h => ⟨fun c => (h c).2, sem_eq_zero_of_no_sems (by decide) r.2⟩) (Cert.SumWoReferenceIdeal.Value.run m ρ),
  fun m ρ h => Cert.SumOutKernel.Gen.frame m ρ (Cert.SumOutKernelIdeal.Total.ok_printed m h),
  fun m ρ h => Cert.SumOutKernelIdeal.Gen.frame m ρ (Cert.SumOutKernelIdeal.Total.ok m (Cert.SumOutKernelIdeal.Total.exists_number m h)),
  fun m ρ _ => (θ_run _ _ _).mono (fun r h => ⟨fun c => (h c).2, sem_eq_zero_of_no_sems (by decide) r.2⟩) (Cert.SumOutReferenceIdeal.Value.run m ρ),
  fun m ρ _ => (θ_run _ _ _).mono (fun r h => ⟨fun c => (h c).2, sem_eq_zero_of_no_sems (by decide) r.2⟩) (Cert.SumOutReferenceIdeal.Value.run m ρ),
  fun m ρ h => Cert.SumWiKernel.Gen.frame m ρ (Cert.SumWiKernelIdeal.Total.ok_printed m h),
  fun m ρ h => Cert.SumWiKernelIdeal.Gen.frame m ρ (Cert.SumWiKernelIdeal.Total.ok m (Cert.SumWiKernelIdeal.Total.exists_number m h)),
  fun m ρ _ => (θ_run _ _ _).mono (fun r h => ⟨fun c => (h c).2, sem_eq_zero_of_no_sems (by decide) r.2⟩) (Cert.SumWiReferenceIdeal.Value.run m ρ),
  fun m ρ _ => (θ_run _ _ _).mono (fun r h => ⟨fun c => (h c).2, sem_eq_zero_of_no_sems (by decide) r.2⟩) (Cert.SumWiReferenceIdeal.Value.run m ρ),
  fun m ρ h => Cert.SumPoolKernel.Gen.frame m ρ (Cert.SumPoolKernelIdeal.Total.ok_printed m h),
  fun m ρ h => Cert.SumPoolKernelIdeal.Gen.frame m ρ (Cert.SumPoolKernelIdeal.Total.ok m (Cert.SumPoolKernelIdeal.Total.exists_number m h)),
  fun m ρ _ => (θ_run _ _ _).mono (fun r h => ⟨fun c => (h c).2, sem_eq_zero_of_no_sems (by decide) r.2⟩) (Cert.SumPoolReferenceIdeal.Value.run m ρ),
  fun m ρ _ => (θ_run _ _ _).mono (fun r h => ⟨fun c => (h c).2, sem_eq_zero_of_no_sems (by decide) r.2⟩) (Cert.SumPoolReferenceIdeal.Value.run m ρ),
  fun m ρ h => Cert.SumInKernel.Gen.frame m ρ (Cert.SumInKernelIdeal.Total.ok_printed m h),
  fun m ρ h => Cert.SumInKernelIdeal.Gen.frame m ρ (Cert.SumInKernelIdeal.Total.ok m (Cert.SumInKernelIdeal.Total.exists_number m h)),
  fun m ρ _ => (θ_run _ _ _).mono (fun r h => ⟨fun c => (h c).2, sem_eq_zero_of_no_sems (by decide) r.2⟩) (Cert.SumInReferenceIdeal.Value.run m ρ),
  fun m ρ _ => (θ_run _ _ _).mono (fun r h => ⟨fun c => (h c).2, sem_eq_zero_of_no_sems (by decide) r.2⟩) (Cert.SumInReferenceIdeal.Value.run m ρ),
  fun m ρ _ => Cert.AdalnFwdKernel.Gen.frame m ρ,
  fun m ρ _ => Cert.AdalnFwdKernelIdeal.Gen.frame m ρ,
  fun m ρ _ => (θ_run _ _ _).mono (fun r h => ⟨fun c => (h c).2, sem_eq_zero_of_no_sems (by decide) r.2⟩) (Cert.AdalnFwdReferenceIdeal.Value.run m ρ),
  trivial,
  Cert.DhKernelIdeal.Result.algebraic,
  trivial,
  Cert.DwoKernelIdeal.Acc.algebraic,
  trivial,
  Cert.DwiKernelIdeal.Acc.algebraic,
  trivial,
  Cert.DhCtxKernelIdeal.Result.algebraic,
  trivial,
  Cert.DwoCtxKernelIdeal.Acc.algebraic,
  trivial,
  Cert.DwiCtxKernelIdeal.Acc.algebraic,
  Cert.AdamWiKernelIdeal.Step.preserves,
  Cert.AdamWiKernelIdeal.Step.algebraic,
  Cert.AdamWoKernelIdeal.Step.preserves,
  Cert.AdamWoKernelIdeal.Step.algebraic,
  Cert.AdamInKernelIdeal.Step.preserves,
  Cert.AdamInKernelIdeal.Step.algebraic,
  Cert.AdamOutKernelIdeal.Step.preserves,
  Cert.AdamOutKernelIdeal.Step.algebraic,
  Cert.AdamPoolKernelIdeal.Step.preserves,
  Cert.AdamPoolKernelIdeal.Step.algebraic,
  Cert.AdamModKernelIdeal.Step.preserves,
  Cert.AdamModKernelIdeal.Step.algebraic,
  Cert.AdamSmallKernelIdeal.Step.preserves,
  Cert.AdamSmallKernelIdeal.Step.algebraic,
  Cert.SumSmallKernelIdeal.Total.preserves,
  Cert.SumSmallKernelIdeal.Total.algebraic,
  Cert.SumCtxKernelIdeal.Total.preserves,
  Cert.SumCtxKernelIdeal.Total.algebraic,
  trivial,
  Cert.AdalnKernelIdeal.Result.algebraic,
  Cert.SumWoKernelIdeal.Total.preserves,
  Cert.SumWoKernelIdeal.Total.algebraic,
  Cert.SumOutKernelIdeal.Total.preserves,
  Cert.SumOutKernelIdeal.Total.algebraic,
  Cert.SumWiKernelIdeal.Total.preserves,
  Cert.SumWiKernelIdeal.Total.algebraic,
  Cert.SumPoolKernelIdeal.Total.preserves,
  Cert.SumPoolKernelIdeal.Total.algebraic,
  Cert.SumInKernelIdeal.Total.preserves,
  Cert.SumInKernelIdeal.Total.algebraic,
  trivial,
  Cert.AdalnFwdKernelIdeal.Result.algebraic⟩

end Cert.Proof

end
